-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v65_0)) (v1 : (c : Dev Cert.KernelIdeal.nD) → Buf (Elt Ideal) ((c.tc : Thread Cert.KernelIdeal.nD Cert.KernelIdeal.τ).loc Cert.KernelIdeal.main_v65_1)) (v2 : (c : Dev Cert.KernelIdeal.nD) → Buf (Elt Ideal) ((c.tc : Thread Cert.KernelIdeal.nD Cert.KernelIdeal.τ).loc Cert.KernelIdeal.main_v65_2)) (v3 : (c : Dev Cert.KernelIdeal.nD) → Buf (Elt Ideal) ((c.tc : Thread Cert.KernelIdeal.nD Cert.KernelIdeal.τ).loc Cert.KernelIdeal.main_v65_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65_0) = v0 c
          ∧ r.2.mem ((c.tc : Thread Cert.KernelIdeal.nD Cert.KernelIdeal.τ).loc Cert.KernelIdeal.main_v65_1) = v1 c
          ∧ r.2.mem ((c.tc : Thread Cert.KernelIdeal.nD Cert.KernelIdeal.τ).loc Cert.KernelIdeal.main_v65_2) = v2 c
          ∧ r.2.mem ((c.tc : Thread Cert.KernelIdeal.nD Cert.KernelIdeal.τ).loc Cert.KernelIdeal.main_v65_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_v129) = v1 c
          ∧ r.2.mem ((c.tc : Thread Cert.ReferenceIdeal.nD Cert.ReferenceIdeal.τ).loc Cert.ReferenceIdeal.main_v127) = v2 c
          ∧ r.2.mem ((c.tc : Thread Cert.ReferenceIdeal.nD Cert.ReferenceIdeal.τ).loc Cert.ReferenceIdeal.main_v70) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v1) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v0) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v0) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v6)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v6) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v4)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_all_finite : Cert.Pre_all_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_all_finite.lean ====
abbrev S4096x1024 : Shape := ⟨2, ![4096, 1024]⟩
abbrev S4096x3088 : Shape := ⟨2, ![4096, 3088]⟩
abbrev S16x512 : Shape := ⟨2, ![16, 512]⟩
abbrev S1x512 : Shape := ⟨2, ![1, 512]⟩
abbrev S1x256 : Shape := ⟨2, ![1, 256]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x3088 : S_.BroadcastsInDim S4096x3088 (![] : Fin 0 → Fin S4096x3088.rank)
  reducesTo_S4096x3088_S_d0_1 : S4096x3088.ReducesTo [0, 1] S_
  bcast_S_S16x512 : S_.BroadcastsInDim S16x512 (![] : Fin 0 → Fin S16x512.rank)
  reducesTo_S16x512_S_d0_1 : S16x512.ReducesTo [0, 1] S_
  bcast_S_S1x512 : S_.BroadcastsInDim S1x512 (![] : Fin 0 → Fin S1x512.rank)
  reducesTo_S1x512_S_d0_1 : S1x512.ReducesTo [0, 1] S_
  bcast_S_S1x256 : S_.BroadcastsInDim S1x256 (![] : Fin 0 → Fin S1x256.rank)
  reducesTo_S1x256_S_d0_1 : S1x256.ReducesTo [0, 1] S_

variable [Facts]

def fn_part1 {F : FTy → Type} [FloatOps F] (main_arg4 : FVec F S1x256 .f32) (main_v3 : IVec S_ 1) (main_v7 : IVec S_ 1) (main_v11 : IVec S_ 1) (main_v15 : IVec S_ 1) : IVec S_ 1 :=
  let main_v16 : FVec F S1x256 .f32 := Host.absf main_arg4
  let main_cst_6 : FVec F S_ .f32 := constant S_ .f32 0x7F800000#32
  let main_v17 : FVec F S1x256 .f32 := broadcastInDim S1x256 ![] bcast_S_S1x256 main_cst_6
  let main_v18 : IVec S1x256 1 := cmpf .olt main_v16 main_v17
  let main_c_7 : IVec S_ 1 := constantI S_ 1 1#1
  let main_v19 : IVec S_ 1 := (fun x v => Host.reduce IntOp.andi x v reducesTo_S1x256_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S4096x1024 .f32) (main_arg1 : FVec F S4096x3088 .f32) (main_arg2 : FVec F S16x512 .f32) (main_arg3 : FVec F S1x512 .f32) (main_arg4 : FVec F S1x256 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x3088 .f32 := Host.absf main_arg1
  let main_cst_0 : FVec F S_ .f32 := constant S_ .f32 0x7F800000#32
  let main_v5 : FVec F S4096x3088 .f32 := broadcastInDim S4096x3088 ![] bcast_S_S4096x3088 main_cst_0
  let main_v6 : IVec S4096x3088 1 := cmpf .olt main_v4 main_v5
  let main_c_1 : IVec S_ 1 := constantI S_ 1 1#1
  let main_v7 : IVec S_ 1 := (fun x v => Host.reduce IntOp.andi x v reducesTo_S4096x3088_S_d0_1 h_S_) main_v6 main_c_1
  let main_v8 : FVec F S16x512 .f32 := Host.absf main_arg2
  let main_cst_2 : FVec F S_ .f32 := constant S_ .f32 0x7F800000#32
  let main_v9 : FVec F S16x512 .f32 := broadcastInDim S16x512 ![] bcast_S_S16x512 main_cst_2
  let main_v10 : IVec S16x512 1 := cmpf .olt main_v8 main_v9
  let main_c_3 : IVec S_ 1 := constantI S_ 1 1#1
  let main_v11 : IVec S_ 1 := (fun x v => Host.reduce IntOp.andi x v reducesTo_S16x512_S_d0_1 h_S_) main_v10 main_c_3
  let main_v12 : FVec F S1x512 .f32 := Host.absf main_arg3
  let main_cst_4 : FVec F S_ .f32 := constant S_ .f32 0x7F800000#32
  let main_v13 : FVec F S1x512 .f32 := broadcastInDim S1x512 ![] bcast_S_S1x512 main_cst_4
  let main_v14 : IVec S1x512 1 := cmpf .olt main_v12 main_v13
  let main_c_5 : IVec S_ 1 := constantI S_ 1 1#1
  let main_v15 : IVec S_ 1 := (fun x v => Host.reduce IntOp.andi x v reducesTo_S1x512_S_d0_1 h_S_) main_v14 main_c_5
  fn_part1 (F := F) main_arg4 main_v3 main_v7 main_v11 main_v15
-- ==== Kernel.lean ====
abbrev S4096x1024 : Shape := ⟨2, ![4096, 1024]⟩
abbrev S4096x3088 : Shape := ⟨2, ![4096, 3088]⟩
abbrev S16x512 : Shape := ⟨2, ![16, 512]⟩
abbrev S1x512 : Shape := ⟨2, ![1, 512]⟩
abbrev S1x256 : Shape := ⟨2, ![1, 256]⟩
abbrev S4096x512 : Shape := ⟨2, ![4096, 512]⟩
abbrev S4096x16 : Shape := ⟨2, ![4096, 16]⟩
abbrev S_ : Shape := ⟨0, ![]⟩
abbrev S4096x4x128 : Shape := ⟨3, ![4096, 4, 128]⟩
abbrev S4x4096x128 : Shape := ⟨3, ![4, 4096, 128]⟩
abbrev S4096x4x256 : Shape := ⟨3, ![4096, 4, 256]⟩
abbrev S4x4096x256 : Shape := ⟨3, ![4, 4096, 256]⟩
abbrev S4096x4096 : Shape := ⟨2, ![4096, 4096]⟩
abbrev S4096x4096x1 : Shape := ⟨3, ![4096, 4096, 1]⟩
abbrev S4x4096x1x128 : Shape := ⟨4, ![4, 4096, 1, 128]⟩
abbrev S4x1x4096x128 : Shape := ⟨4, ![4, 1, 4096, 128]⟩
abbrev S4x4096x4096x128 : Shape := ⟨4, ![4, 4096, 4096, 128]⟩
abbrev S4x4096x4096 : Shape := ⟨3, ![4, 4096, 4096]⟩
abbrev S4x63x128 : Shape := ⟨3, ![4, 63, 128]⟩
abbrev S63x4096 : Shape := ⟨2, ![63, 4096]⟩
abbrev S63x4096x1 : Shape := ⟨3, ![63, 4096, 1]⟩
abbrev S4x63x1x128 : Shape := ⟨4, ![4, 63, 1, 128]⟩
abbrev S4x63x4096x128 : Shape := ⟨4, ![4, 63, 4096, 128]⟩
abbrev S4x256x63x128 : Shape := ⟨4, ![4, 256, 63, 128]⟩
abbrev S63x4x256x128 : Shape := ⟨4, ![63, 4, 256, 128]⟩
abbrev S1x4x256x128 : Shape := ⟨4, ![1, 4, 256, 128]⟩
abbrev S64x4x256x128 : Shape := ⟨4, ![64, 4, 256, 128]⟩
abbrev S256x1024 : Shape := ⟨2, ![256, 1024]⟩
abbrev S256x3088 : Shape := ⟨2, ![256, 3088]⟩
abbrev S4x4x256x128 : Shape := ⟨4, ![4, 4, 256, 128]⟩
abbrev S4x256x128 : Shape := ⟨3, ![4, 256, 128]⟩
abbrev S256x16 : Shape := ⟨2, ![256, 16]⟩
abbrev S256x128 : Shape := ⟨2, ![256, 128]⟩
abbrev S256x256 : Shape := ⟨2, ![256, 256]⟩
abbrev S16x128 : Shape := ⟨2, ![16, 128]⟩
abbrev S1x128 : Shape := ⟨2, ![1, 128]⟩
abbrev S256 : Shape := ⟨1, ![256]⟩
abbrev S256x1 : Shape := ⟨2, ![256, 1]⟩
abbrev S64x64 : Shape := ⟨2, ![64, 64]⟩
abbrev S64x128 : Shape := ⟨2, ![64, 128]⟩
abbrev S64x256 : Shape := ⟨2, ![64, 256]⟩
abbrev S1x1x256x128 : Shape := ⟨4, ![1, 1, 256, 128]⟩
abbrev S1x256x128 : Shape := ⟨3, ![1, 256, 128]⟩
abbrev S128 : Shape := ⟨1, ![128]⟩
abbrev S1x64x128 : Shape := ⟨3, ![1, 64, 128]⟩

abbrev nBuf : Space → Nat
  | .hbm => 114
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x3088, .f32⟩
  | .hbm, ⟨2, _⟩ => ⟨S16x512, .f32⟩
  | .hbm, ⟨3, _⟩ => ⟨S1x512, .f32⟩
  | .hbm, ⟨4, _⟩ => ⟨S1x256, .f32⟩
  | .hbm, ⟨5, _⟩ => ⟨S4096x512, .f32⟩
  | .hbm, ⟨6, _⟩ => ⟨S4096x512, .f32⟩
  | .hbm, ⟨7, _⟩ => ⟨S4096x1024, .f32⟩
  | .hbm, ⟨8, _⟩ => ⟨S4096x1024, .f32⟩
  | .hbm, ⟨9, _⟩ => ⟨S4096x16, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S4096x512, .i1⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S_, .f32⟩
  | .hbm, ⟨30, _⟩ => ⟨S4096x512, .f32⟩
  | .hbm, ⟨31, _⟩ => ⟨S4096x512, .f32⟩
  | .hbm, ⟨32, _⟩ => ⟨S_, .f32⟩
  | .hbm, ⟨33, _⟩ => ⟨S4096x512, .f32⟩
  | .hbm, ⟨34, _⟩ => ⟨S4096x512, .f32⟩
  | .hbm, ⟨35, _⟩ => ⟨S4096x4x128, .f32⟩
  | .hbm, ⟨36, _⟩ => ⟨S4x4096x128, .f32⟩
  | .hbm, ⟨37, _⟩ => ⟨S4096x4x128, .f32⟩
  | .hbm, ⟨38, _⟩ => ⟨S4x4096x128, .f32⟩
  | .hbm, ⟨39, _⟩ => ⟨S4096x4x256, .f32⟩
  | .hbm, ⟨40, _⟩ => ⟨S4x4096x256, .f32⟩
  | .hbm, ⟨41, _⟩ => ⟨S4096x4x128, .f32⟩
  | .hbm, ⟨42, _⟩ => ⟨S4x4096x128, .f32⟩
  | .hbm, ⟨43, _⟩ => ⟨S_, .f32⟩
  | .hbm, ⟨44, _⟩ => ⟨S_, .f32⟩
  | .hbm, ⟨45, _⟩ => ⟨S4x4096x128, .f32⟩
  | .hbm, ⟨46, _⟩ => ⟨S_, .i1⟩
  | .hbm, ⟨47, _⟩ => ⟨S4096x4096, .i1⟩
  | .hbm, ⟨48, _⟩ => ⟨S4096x4096, .i32⟩
  | .hbm, ⟨49, _⟩ => ⟨S_, .i32⟩
  | .hbm, ⟨50, _⟩ => ⟨S4096x4096, .i32⟩
  | .hbm, ⟨51, _⟩ => ⟨S4096x4096, .i32⟩
  | .hbm, ⟨52, _⟩ => ⟨S4096x4096, .i32⟩
  | .hbm, ⟨53, _⟩ => ⟨S4096x4096, .i1⟩
  | .hbm, ⟨54, _⟩ => ⟨S_, .i1⟩
  | .hbm, ⟨55, _⟩ => ⟨S4096x4096, .i1⟩
  | .hbm, ⟨56, _⟩ => ⟨S4096x4096, .i1⟩
  | .hbm, ⟨57, _⟩ => ⟨S4096x4096x1, .i1⟩
  | .hbm, ⟨58, _⟩ => ⟨S4x4096x1x128, .f32⟩
  | .hbm, ⟨59, _⟩ => ⟨S4x1x4096x128, .f32⟩
  | .hbm, ⟨60, _⟩ => ⟨S4x4096x4096x128, .f32⟩
  | .hbm, ⟨61, _⟩ => ⟨S4x4096x4096x128, .f32⟩
  | .hbm, ⟨62, _⟩ => ⟨S4x4096x4096x128, .f32⟩
  | .hbm, ⟨63, _⟩ => ⟨S_, .f32⟩
  | .hbm, ⟨64, _⟩ => ⟨S_, .f32⟩
  | .hbm, ⟨65, _⟩ => ⟨S4x4096x4096x128, .i1⟩
  | .hbm, ⟨66, _⟩ => ⟨S4x4096x4096x128, .f32⟩
  | .hbm, ⟨67, _⟩ => ⟨S4x4096x4096x128, .f32⟩
  | .hbm, ⟨68, _⟩ => ⟨S4x4096x4096x128, .f32⟩
  | .hbm, ⟨69, _⟩ => ⟨S4x4096x1x128, .f32⟩
  | .hbm, ⟨70, _⟩ => ⟨S4x1x4096x128, .f32⟩
  | .hbm, ⟨71, _⟩ => ⟨S4x4096x4096x128, .f32⟩
  | .hbm, ⟨72, _⟩ => ⟨S4x4096x4096x128, .f32⟩
  | .hbm, ⟨73, _⟩ => ⟨S4x4096x4096x128, .f32⟩
  | .hbm, ⟨74, _⟩ => ⟨S4x4096x4096x128, .f32⟩
  | .hbm, ⟨75, _⟩ => ⟨S_, .f32⟩
  | .hbm, ⟨76, _⟩ => ⟨S4x4096x4096, .f32⟩
  | .hbm, ⟨77, _⟩ => ⟨S4x4096x256, .f32⟩
  | .hbm, ⟨78, _⟩ => ⟨S4096x4x256, .f32⟩
  | .hbm, ⟨79, _⟩ => ⟨S4096x1024, .f32⟩
  | .hbm, ⟨80, _⟩ => ⟨S4x63x128, .f32⟩
  | .hbm, ⟨81, _⟩ => ⟨S63x4096, .i32⟩
  | .hbm, ⟨82, _⟩ => ⟨S63x4096, .i32⟩
  | .hbm, ⟨83, _⟩ => ⟨S_, .i32⟩
  | .hbm, ⟨84, _⟩ => ⟨S63x4096, .i32⟩
  | .hbm, ⟨85, _⟩ => ⟨S63x4096, .i32⟩
  | .hbm, ⟨86, _⟩ => ⟨S_, .i32⟩
  | .hbm, ⟨87, _⟩ => ⟨S63x4096, .i32⟩
  | .hbm, ⟨88, _⟩ => ⟨S63x4096, .i32⟩
  | .hbm, ⟨89, _⟩ => ⟨S63x4096, .i1⟩
  | .hbm, ⟨90, _⟩ => ⟨S63x4096x1, .i1⟩
  | .hbm, ⟨91, _⟩ => ⟨S4x63x1x128, .f32⟩
  | .hbm, ⟨92, _⟩ => ⟨S4x1x4096x128, .f32⟩
  | .hbm, ⟨93, _⟩ => ⟨S4x63x4096x128, .f32⟩
  | .hbm, ⟨94, _⟩ => ⟨S4x63x4096x128, .f32⟩
  | .hbm, ⟨95, _⟩ => ⟨S4x63x4096x128, .f32⟩
  | .hbm, ⟨96, _⟩ => ⟨S_, .f32⟩
  | .hbm, ⟨97, _⟩ => ⟨S_, .f32⟩
  | .hbm, ⟨98, _⟩ => ⟨S4x63x4096x128, .i1⟩
  | .hbm, ⟨99, _⟩ => ⟨S4x63x4096x128, .f32⟩
  | .hbm, ⟨100, _⟩ => ⟨S4x63x4096x128, .f32⟩
  | .hbm, ⟨101, _⟩ => ⟨S4x63x4096x128, .f32⟩
  | .hbm, ⟨102, _⟩ => ⟨S4x1x4096x128, .f32⟩
  | .hbm, ⟨103, _⟩ => ⟨S4x63x4096x128, .f32⟩
  | .hbm, ⟨104, _⟩ => ⟨S4x63x4096x128, .f32⟩
  | .hbm, ⟨105, _⟩ => ⟨S4x256x63x128, .f32⟩
  | .hbm, ⟨106, _⟩ => ⟨S63x4x256x128, .f32⟩
  | .hbm, ⟨107, _⟩ => ⟨S_, .f32⟩
  | .hbm, ⟨108, _⟩ => ⟨S1x4x256x128, .f32⟩
  | .hbm, ⟨109, _⟩ => ⟨S64x4x256x128, .f32⟩
  | .hbm, ⟨110, _⟩ => ⟨S4096x3088, .bf16⟩
  | .hbm, ⟨111, _⟩ => ⟨S16x512, .f32⟩
  | .hbm, ⟨112, _⟩ => ⟨S1x512, .f32⟩
  | .hbm, ⟨113, _⟩ => ⟨S1x256, .f32⟩
  | .local _ .vmem, ⟨0, _⟩ => ⟨S256x1024, .f32⟩
  | .local _ .vmem, ⟨1, _⟩ => ⟨S256x1024, .f32⟩
  | .local _ .vmem, ⟨2, _⟩ => ⟨S256x3088, .f32⟩
  | .local _ .vmem, ⟨3, _⟩ => ⟨S256x3088, .f32⟩
  | .local _ .vmem, ⟨4, _⟩ => ⟨S256x1024, .f32⟩
  | .local _ .vmem, ⟨5, _⟩ => ⟨S256x1024, .f32⟩
  | .local _ .vmem, ⟨6, _⟩ => ⟨S4x4x256x128, .f32⟩
  | .local _ .vmem, ⟨7, _⟩ => ⟨S4x4x256x128, .f32⟩
  | .local _ .vmem, ⟨8, _⟩ => ⟨S16x512, .f32⟩
  | .local _ .vmem, ⟨9, _⟩ => ⟨S1x512, .f32⟩
  | .local _ .vmem, ⟨10, _⟩ => ⟨S1x256, .f32⟩
  | .local _ .vmem, ⟨11, _⟩ => ⟨S256x3088, .bf16⟩
  | .local _ .vmem, ⟨12, _⟩ => ⟨S256x3088, .bf16⟩
  | .local _ .vmem, ⟨13, _⟩ => ⟨S16x512, .f32⟩
  | .local _ .vmem, ⟨14, _⟩ => ⟨S1x512, .f32⟩
  | .local _ .vmem, ⟨15, _⟩ => ⟨S1x256, .f32⟩
  | .local _ .vmem, ⟨16, _⟩ => ⟨S4x256x128, .f32⟩
  | .local _ .vmem, ⟨17, _⟩ => ⟨S4x256x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_call0_cst : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_v1 : Ref sig .tc := ⟨.hbm, 27, rfl⟩
abbrev main_v8 : Ref sig .tc := ⟨.hbm, 28, rfl⟩
abbrev main_cst : Ref sig .tc := ⟨.hbm, 29, rfl⟩
abbrev main_v9 : Ref sig .tc := ⟨.hbm, 30, rfl⟩
abbrev main_v10 : Ref sig .tc := ⟨.hbm, 31, rfl⟩
abbrev main_cst_0 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_call1_call0_cst : Ref sig .tc := ⟨.hbm, 43, rfl⟩
abbrev main_call1_call0_v0 : Ref sig .tc := ⟨.hbm, 44, rfl⟩
abbrev main_v21 : Ref sig .tc := ⟨.hbm, 45, rfl⟩
abbrev main_c : Ref sig .tc := ⟨.hbm, 46, rfl⟩
abbrev main_v22 : Ref sig .tc := ⟨.hbm, 47, rfl⟩
abbrev main_call2_v0 : Ref sig .tc := ⟨.hbm, 48, rfl⟩
abbrev main_call2_c : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_c_0 : Ref sig .tc := ⟨.hbm, 54, rfl⟩
abbrev main_call2_v5 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_cst_1 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_2 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_c_3 : Ref sig .tc := ⟨.hbm, 83, rfl⟩
abbrev main_v45 : Ref sig .tc := ⟨.hbm, 84, rfl⟩
abbrev main_v46 : Ref sig .tc := ⟨.hbm, 85, rfl⟩
abbrev main_c_4 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_cst_5 : Ref sig .tc := ⟨.hbm, 96, rfl⟩
abbrev main_call4_v0 : Ref sig .tc := ⟨.hbm, 97, rfl⟩
abbrev main_call4_v1 : Ref sig .tc := ⟨.hbm, 98, rfl⟩
abbrev main_call4_v2 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_cst_6 : Ref sig .tc := ⟨.hbm, 107, rfl⟩
abbrev main_v63 : Ref sig .tc := ⟨.hbm, 108, rfl⟩
abbrev main_v64 : Ref sig .tc := ⟨.hbm, 109, rfl⟩
abbrev main_v65_0 : Ref sig .tc := ⟨.hbm, 110, rfl⟩
abbrev main_v65_1 : Ref sig .tc := ⟨.hbm, 111, rfl⟩
abbrev main_v65_2 : Ref sig .tc := ⟨.hbm, 112, rfl⟩
abbrev main_v65_3 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3088 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x4x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x3088 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S16x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S4096x1024 : Shape := ⟨2, ![4096, 1024]⟩
abbrev S4096x3088 : Shape := ⟨2, ![4096, 3088]⟩
abbrev S16x512 : Shape := ⟨2, ![16, 512]⟩
abbrev S1x512 : Shape := ⟨2, ![1, 512]⟩
abbrev S1x256 : Shape := ⟨2, ![1, 256]⟩
abbrev S4096x512 : Shape := ⟨2, ![4096, 512]⟩
abbrev S4096x16 : Shape := ⟨2, ![4096, 16]⟩
abbrev S_ : Shape := ⟨0, ![]⟩
abbrev S4096x4x128 : Shape := ⟨3, ![4096, 4, 128]⟩
abbrev S4x4096x128 : Shape := ⟨3, ![4, 4096, 128]⟩
abbrev S4096x4x256 : Shape := ⟨3, ![4096, 4, 256]⟩
abbrev S4x4096x256 : Shape := ⟨3, ![4, 4096, 256]⟩
abbrev S4096x4096 : Shape := ⟨2, ![4096, 4096]⟩
abbrev S4096x4096x1 : Shape := ⟨3, ![4096, 4096, 1]⟩
abbrev S4x4096x1x128 : Shape := ⟨4, ![4, 4096, 1, 128]⟩
abbrev S4x1x4096x128 : Shape := ⟨4, ![4, 1, 4096, 128]⟩
abbrev S4x4096x4096x128 : Shape := ⟨4, ![4, 4096, 4096, 128]⟩
abbrev S4x4096x4096 : Shape := ⟨3, ![4, 4096, 4096]⟩
abbrev S4096x4 : Shape := ⟨2, ![4096, 4]⟩
abbrev S4096x4x1 : Shape := ⟨3, ![4096, 4, 1]⟩
abbrev S1x1x256 : Shape := ⟨3, ![1, 1, 256]⟩
abbrev S256 : Shape := ⟨1, ![256]⟩
abbrev S4x256x4096 : Shape := ⟨3, ![4, 256, 4096]⟩
abbrev S512 : Shape := ⟨1, ![512]⟩
abbrev S512x16 : Shape := ⟨2, ![512, 16]⟩

abbrev nBuf : Space → Nat
  | .hbm => 246
  | .vmem => 0
  | .smem => 0
  | _ => 0

abbrev hbmTy0_0 (i : Nat) : BufTy := match i % 128 with
  | 0 => ⟨S4096x1024, .f32⟩
  | 1 => ⟨S4096x3088, .f32⟩
  | 2 => ⟨S16x512, .f32⟩
  | 3 => ⟨S1x512, .f32⟩
  | 4 => ⟨S1x256, .f32⟩
  | 5 => ⟨S4096x512, .f32⟩
  | 6 => ⟨S4096x512, .f32⟩
  | 7 => ⟨S4096x1024, .f32⟩
  | 8 => ⟨S4096x1024, .f32⟩
  | 9 => ⟨S4096x16, .f32⟩
  | 10 => ⟨S4096x512, .f32⟩
  | 11 => ⟨S4096x512, .f32⟩
  | 12 => ⟨S4096x512, .f32⟩
  | 13 => ⟨S4096x512, .f32⟩
  | 14 => ⟨S_, .f32⟩
  | 15 => ⟨S4096x512, .f32⟩
  | 16 => ⟨S4096x512, .f32⟩
  | 17 => ⟨S4096x512, .f32⟩
  | 18 => ⟨S4096x512, .f32⟩
  | 19 => ⟨S4096x512, .i1⟩
  | 20 => ⟨S4096x512, .f32⟩
  | 21 => ⟨S4096x512, .f32⟩
  | 22 => ⟨S4096x512, .f32⟩
  | 23 => ⟨S4096x512, .f32⟩
  | 24 => ⟨S4096x512, .f32⟩
  | 25 => ⟨S4096x512, .f32⟩
  | 26 => ⟨S4096x512, .f32⟩
  | 27 => ⟨S4096x512, .f32⟩
  | 28 => ⟨S_, .f32⟩
  | 29 => ⟨S4096x512, .f32⟩
  | 30 => ⟨S4096x512, .i1⟩
  | 31 => ⟨S_, .f32⟩
  | 32 => ⟨S4096x512, .f32⟩
  | 33 => ⟨S4096x512, .f32⟩
  | 34 => ⟨S_, .f32⟩
  | 35 => ⟨S4096x512, .f32⟩
  | 36 => ⟨S4096x512, .i1⟩
  | 37 => ⟨S_, .f32⟩
  | 38 => ⟨S4096x512, .f32⟩
  | 39 => ⟨S4096x512, .f32⟩
  | 40 => ⟨S4096x512, .f32⟩
  | 41 => ⟨S4096x512, .f32⟩
  | 42 => ⟨S_, .f32⟩
  | 43 => ⟨S_, .f32⟩
  | 44 => ⟨S_, .i1⟩
  | 45 => ⟨S_, .f32⟩
  | 46 => ⟨S_, .f32⟩
  | 47 => ⟨S_, .f32⟩
  | 48 => ⟨S_, .f32⟩
  | 49 => ⟨S4096x512, .f32⟩
  | 50 => ⟨S4096x512, .i1⟩
  | 51 => ⟨S_, .f32⟩
  | 52 => ⟨S4096x512, .f32⟩
  | 53 => ⟨S4096x512, .f32⟩
  | 54 => ⟨S4096x512, .f32⟩
  | 55 => ⟨S4096x512, .f32⟩
  | 56 => ⟨S4096x512, .f32⟩
  | 57 => ⟨S_, .f32⟩
  | 58 => ⟨S4096x512, .f32⟩
  | 59 => ⟨S4096x512, .f32⟩
  | 60 => ⟨S4096x512, .f32⟩
  | 61 => ⟨S_, .f32⟩
  | 62 => ⟨S4096x512, .f32⟩
  | 63 => ⟨S4096x512, .f32⟩
  | 64 => ⟨S_, .f32⟩
  | 65 => ⟨S4096x512, .f32⟩
  | 66 => ⟨S4096x512, .f32⟩
  | 67 => ⟨S4096x4x128, .f32⟩
  | 68 => ⟨S4x4096x128, .f32⟩
  | 69 => ⟨S4096x4x128, .f32⟩
  | 70 => ⟨S4x4096x128, .f32⟩
  | 71 => ⟨S4096x4x256, .f32⟩
  | 72 => ⟨S4x4096x256, .f32⟩
  | 73 => ⟨S4096x4x128, .f32⟩
  | 74 => ⟨S4x4096x128, .f32⟩
  | 75 => ⟨S_, .f32⟩
  | 76 => ⟨S_, .f32⟩
  | 77 => ⟨S4x4096x128, .f32⟩
  | 78 => ⟨S_, .i1⟩
  | 79 => ⟨S4096x4096, .i1⟩
  | 80 => ⟨S4096x4096, .i32⟩
  | 81 => ⟨S_, .i32⟩
  | 82 => ⟨S4096x4096, .i32⟩
  | 83 => ⟨S4096x4096, .i32⟩
  | 84 => ⟨S4096x4096, .i32⟩
  | 85 => ⟨S4096x4096, .i1⟩
  | 86 => ⟨S_, .i1⟩
  | 87 => ⟨S4096x4096, .i1⟩
  | 88 => ⟨S4096x4096, .i1⟩
  | 89 => ⟨S4096x4096x1, .i1⟩
  | 90 => ⟨S4x4096x1x128, .f32⟩
  | 91 => ⟨S4x1x4096x128, .f32⟩
  | 92 => ⟨S4x4096x4096x128, .f32⟩
  | 93 => ⟨S4x4096x4096x128, .f32⟩
  | 94 => ⟨S4x4096x4096x128, .f32⟩
  | 95 => ⟨S_, .f32⟩
  | 96 => ⟨S_, .f32⟩
  | 97 => ⟨S4x4096x4096x128, .i1⟩
  | 98 => ⟨S4x4096x4096x128, .f32⟩
  | 99 => ⟨S4x4096x4096x128, .f32⟩
  | 100 => ⟨S_, .f32⟩
  | 101 => ⟨S4x4096x4096x128, .f32⟩
  | 102 => ⟨S4x4096x4096x128, .f32⟩
  | 103 => ⟨S4x4096x1x128, .f32⟩
  | 104 => ⟨S4x1x4096x128, .f32⟩
  | 105 => ⟨S4x4096x4096x128, .f32⟩
  | 106 => ⟨S4x4096x4096x128, .f32⟩
  | 107 => ⟨S4x4096x4096x128, .f32⟩
  | 108 => ⟨S4x4096x4096x128, .f32⟩
  | 109 => ⟨S_, .f32⟩
  | 110 => ⟨S4x4096x4096, .f32⟩
  | 111 => ⟨S4x4096x256, .f32⟩
  | 112 => ⟨S4096x4x256, .f32⟩
  | 113 => ⟨S4096x4x256, .f32⟩
  | 114 => ⟨S_, .f32⟩
  | 115 => ⟨S4096x4, .f32⟩
  | 116 => ⟨S4096x4x1, .f32⟩
  | 117 => ⟨S_, .f32⟩
  | 118 => ⟨S4096x4x1, .f32⟩
  | 119 => ⟨S4096x4x1, .f32⟩
  | 120 => ⟨S_, .f32⟩
  | 121 => ⟨S4096x4x1, .f32⟩
  | 122 => ⟨S4096x4x1, .f32⟩
  | 123 => ⟨S4096x4x1, .f32⟩
  | 124 => ⟨S4096x4x1, .f32⟩
  | 125 => ⟨S_, .f32⟩
  | 126 => ⟨S4096x4x1, .f32⟩
  | 127 => ⟨S4096x4x1, .f32⟩
  | _ => ⟨S4096x1024, .f32⟩

abbrev hbmTy0_1 (i : Nat) : BufTy := match i % 128 with
  | 0 => ⟨S4096x4x256, .f32⟩
  | 1 => ⟨S4096x4x256, .f32⟩
  | 2 => ⟨S1x1x256, .f32⟩
  | 3 => ⟨S4096x4x256, .f32⟩
  | 4 => ⟨S4096x4x256, .f32⟩
  | 5 => ⟨S4096x1024, .f32⟩
  | 6 => ⟨S4096x1024, .f32⟩
  | 7 => ⟨S4096x1024, .f32⟩
  | 8 => ⟨S_, .f32⟩
  | 9 => ⟨S4096x1024, .f32⟩
  | 10 => ⟨S4096x1024, .f32⟩
  | 11 => ⟨S_, .f32⟩
  | 12 => ⟨S4096x1024, .f32⟩
  | 13 => ⟨S4096x1024, .f32⟩
  | 14 => ⟨S_, .f32⟩
  | 15 => ⟨S4096x1024, .f32⟩
  | 16 => ⟨S4096x1024, .f32⟩
  | 17 => ⟨S4096x1024, .f32⟩
  | 18 => ⟨S4096x1024, .f32⟩
  | 19 => ⟨S4096x1024, .f32⟩
  | 20 => ⟨S4096x1024, .f32⟩
  | 21 => ⟨S4096x1024, .f32⟩
  | 22 => ⟨S4096x1024, .f32⟩
  | 23 => ⟨S4096x1024, .f32⟩
  | 24 => ⟨S4096x1024, .f32⟩
  | 25 => ⟨S4096x1024, .f32⟩
  | 26 => ⟨S4096x4x256, .f32⟩
  | 27 => ⟨S4096x4x256, .f32⟩
  | 28 => ⟨S_, .f32⟩
  | 29 => ⟨S256, .f32⟩
  | 30 => ⟨S1x1x256, .f32⟩
  | 31 => ⟨S4096x4x256, .f32⟩
  | 32 => ⟨S4096x4x256, .f32⟩
  | 33 => ⟨S_, .f32⟩
  | 34 => ⟨S256, .f32⟩
  | 35 => ⟨S1x256, .f32⟩
  | 36 => ⟨S4096x4x256, .f32⟩
  | 37 => ⟨S_, .f32⟩
  | 38 => ⟨S4096x4, .f32⟩
  | 39 => ⟨S4096x4x1, .f32⟩
  | 40 => ⟨S4096x4x256, .f32⟩
  | 41 => ⟨S4096x4x256, .f32⟩
  | 42 => ⟨S4096x4x1, .f32⟩
  | 43 => ⟨S_, .f32⟩
  | 44 => ⟨S4096x4x1, .f32⟩
  | 45 => ⟨S4096x4x1, .f32⟩
  | 46 => ⟨S_, .f32⟩
  | 47 => ⟨S4096x4, .f32⟩
  | 48 => ⟨S4096x4x256, .f32⟩
  | 49 => ⟨S4096x4x256, .f32⟩
  | 50 => ⟨S4096x4x256, .f32⟩
  | 51 => ⟨S4096x4x256, .f32⟩
  | 52 => ⟨S4096x4x256, .f32⟩
  | 53 => ⟨S4x4096x256, .f32⟩
  | 54 => ⟨S4x256x4096, .f32⟩
  | 55 => ⟨S4x4096x256, .f32⟩
  | 56 => ⟨S4x4096x4096, .f32⟩
  | 57 => ⟨S4x4096x4096x128, .f32⟩
  | 58 => ⟨S4x4096x4096x128, .f32⟩
  | 59 => ⟨S4x4096x4096x128, .f32⟩
  | 60 => ⟨S4x4096x4096x128, .f32⟩
  | 61 => ⟨S4x4096x4096x128, .f32⟩
  | 62 => ⟨S_, .f32⟩
  | 63 => ⟨S4x4096x128, .f32⟩
  | 64 => ⟨S4x1x4096x128, .f32⟩
  | 65 => ⟨S4x4096x4096x128, .f32⟩
  | 66 => ⟨S4x4096x4096x128, .f32⟩
  | 67 => ⟨S_, .f32⟩
  | 68 => ⟨S4x4096x128, .f32⟩
  | 69 => ⟨S4x4096x1x128, .f32⟩
  | 70 => ⟨S_, .f32⟩
  | 71 => ⟨S4x4096x128, .f32⟩
  | 72 => ⟨S_, .f32⟩
  | 73 => ⟨S4x4096x128, .f32⟩
  | 74 => ⟨S4x4096x4096x128, .f32⟩
  | 75 => ⟨S_, .f32⟩
  | 76 => ⟨S4x4096x4096x128, .f32⟩
  | 77 => ⟨S4x4096x4096x128, .f32⟩
  | 78 => ⟨S_, .f32⟩
  | 79 => ⟨S4x4096x128, .f32⟩
  | 80 => ⟨S4x4096x1x128, .f32⟩
  | 81 => ⟨S4x4096x4096x128, .f32⟩
  | 82 => ⟨S_, .f32⟩
  | 83 => ⟨S4x4096x128, .f32⟩
  | 84 => ⟨S4x1x4096x128, .f32⟩
  | 85 => ⟨S_, .f32⟩
  | 86 => ⟨S4x4096x128, .f32⟩
  | 87 => ⟨S_, .f32⟩
  | 88 => ⟨S4x4096x128, .f32⟩
  | 89 => ⟨S4x4096x128, .f32⟩
  | 90 => ⟨S_, .f32⟩
  | 91 => ⟨S_, .f32⟩
  | 92 => ⟨S4x4096x128, .f32⟩
  | 93 => ⟨S4096x4x128, .f32⟩
  | 94 => ⟨S4096x512, .f32⟩
  | 95 => ⟨S4096x4x256, .f32⟩
  | 96 => ⟨S4096x1024, .f32⟩
  | 97 => ⟨S4096x4x128, .f32⟩
  | 98 => ⟨S4096x512, .f32⟩
  | 99 => ⟨S4096x4x128, .f32⟩
  | 100 => ⟨S4096x512, .f32⟩
  | 101 => ⟨S_, .f32⟩
  | 102 => ⟨S4096x512, .f32⟩
  | 103 => ⟨S4096x512, .f32⟩
  | 104 => ⟨S_, .f32⟩
  | 105 => ⟨S4096x512, .f32⟩
  | 106 => ⟨S4096x512, .f32⟩
  | 107 => ⟨S4096x512, .f32⟩
  | 108 => ⟨S4096x512, .f32⟩
  | 109 => ⟨S4096x512, .f32⟩
  | 110 => ⟨S_, .f32⟩
  | 111 => ⟨S512, .f32⟩
  | 112 => ⟨S1x512, .f32⟩
  | 113 => ⟨S512x16, .f32⟩
  | 114 => ⟨S16x512, .f32⟩
  | 115 => ⟨S4096x16, .f32⟩
  | 116 => ⟨S4096x3088, .f32⟩
  | 117 => ⟨S4096x3088, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_call0_cst : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_v1_0 : Ref sig .tc := ⟨.hbm, 27, rfl⟩
abbrev main_call0_call0_cst_0 : Ref sig .tc := ⟨.hbm, 28, rfl⟩
abbrev main_call0_call0_v13 : Ref sig .tc := ⟨.hbm, 29, rfl⟩
abbrev main_call0_call0_v14 : Ref sig .tc := ⟨.hbm, 30, rfl⟩
abbrev main_call0_call0_cst_1 : Ref sig .tc := ⟨.hbm, 31, rfl⟩
abbrev main_call0_call0_v15 : Ref sig .tc := ⟨.hbm, 32, rfl⟩
abbrev main_call0_call0_v16 : Ref sig .tc := ⟨.hbm, 33, rfl⟩
abbrev main_call0_call0_cst_2 : Ref sig .tc := ⟨.hbm, 34, rfl⟩
abbrev main_call0_call0_v17 : Ref sig .tc := ⟨.hbm, 35, rfl⟩
abbrev main_call0_call0_v18 : Ref sig .tc := ⟨.hbm, 36, rfl⟩
abbrev main_call0_call0_cst_3 : Ref sig .tc := ⟨.hbm, 37, rfl⟩
abbrev main_call0_call0_v19 : Ref sig .tc := ⟨.hbm, 38, rfl⟩
abbrev main_call0_call0_v20 : Ref sig .tc := ⟨.hbm, 39, rfl⟩
abbrev main_call0_call0_v21 : Ref sig .tc := ⟨.hbm, 40, rfl⟩
abbrev main_v8_1 : Ref sig .tc := ⟨.hbm, 41, rfl⟩
abbrev main_call0_call0_cst_4 : Ref sig .tc := ⟨.hbm, 42, rfl⟩
abbrev main_call0_call0_cst_5 : Ref sig .tc := ⟨.hbm, 43, rfl⟩
abbrev main_call0_call0_v23 : Ref sig .tc := ⟨.hbm, 44, rfl⟩
abbrev main_call0_call0_cst_6 : Ref sig .tc := ⟨.hbm, 45, rfl⟩
abbrev main_call0_call0_cst_7 : Ref sig .tc := ⟨.hbm, 46, rfl⟩
abbrev main_call0_call0_v24 : Ref sig .tc := ⟨.hbm, 47, rfl⟩
abbrev main_call0_call0_cst_8 : Ref sig .tc := ⟨.hbm, 48, rfl⟩
abbrev main_call0_call0_v25 : Ref sig .tc := ⟨.hbm, 49, rfl⟩
abbrev main_call0_call0_v26 : Ref sig .tc := ⟨.hbm, 50, rfl⟩
abbrev main_call0_call0_cst_9 : Ref sig .tc := ⟨.hbm, 51, rfl⟩
abbrev main_call0_call0_v27 : Ref sig .tc := ⟨.hbm, 52, rfl⟩
abbrev main_call0_call0_v28 : Ref sig .tc := ⟨.hbm, 53, rfl⟩
abbrev main_call0_call0_v29 : Ref sig .tc := ⟨.hbm, 54, rfl⟩
abbrev main_call0_call0_v30 : Ref sig .tc := ⟨.hbm, 55, rfl⟩
abbrev main_call0_call0_v31 : Ref sig .tc := ⟨.hbm, 56, rfl⟩
abbrev main_call0_call0_cst_10 : Ref sig .tc := ⟨.hbm, 57, rfl⟩
abbrev main_call0_call0_v32 : Ref sig .tc := ⟨.hbm, 58, rfl⟩
abbrev main_v8_2 : Ref sig .tc := ⟨.hbm, 59, rfl⟩
abbrev main_v8_0 : Ref sig .tc := ⟨.hbm, 60, rfl⟩
abbrev main_cst : Ref sig .tc := ⟨.hbm, 61, rfl⟩
abbrev main_v9 : Ref sig .tc := ⟨.hbm, 62, rfl⟩
abbrev main_v10 : Ref sig .tc := ⟨.hbm, 63, rfl⟩
abbrev main_cst_0 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_call1_call0_cst : Ref sig .tc := ⟨.hbm, 75, rfl⟩
abbrev main_call1_call0_v0 : Ref sig .tc := ⟨.hbm, 76, rfl⟩
abbrev main_v21 : Ref sig .tc := ⟨.hbm, 77, rfl⟩
abbrev main_c : Ref sig .tc := ⟨.hbm, 78, rfl⟩
abbrev main_v22 : Ref sig .tc := ⟨.hbm, 79, rfl⟩
abbrev main_call2_v0 : Ref sig .tc := ⟨.hbm, 80, rfl⟩
abbrev main_call2_c : Ref sig .tc := ⟨.hbm, 81, rfl⟩
abbrev main_call2_v1 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_c_0 : Ref sig .tc := ⟨.hbm, 86, rfl⟩
abbrev main_call2_v5 : Ref sig .tc := ⟨.hbm, 87, rfl⟩
abbrev main_v23 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_v27 : Ref sig .tc := ⟨.hbm, 92, rfl⟩
abbrev main_v28 : Ref sig .tc := ⟨.hbm, 93, rfl⟩
abbrev main_v29 : Ref sig .tc := ⟨.hbm, 94, rfl⟩
abbrev main_cst_1 : Ref sig .tc := ⟨.hbm, 95, rfl⟩
abbrev main_call3_v0 : Ref sig .tc := ⟨.hbm, 96, rfl⟩
abbrev main_v30_1 : Ref sig .tc := ⟨.hbm, 97, rfl⟩
abbrev main_call3_v2 : Ref sig .tc := ⟨.hbm, 98, rfl⟩
abbrev main_v30_0 : Ref sig .tc := ⟨.hbm, 99, rfl⟩
abbrev main_call3_cst : Ref sig .tc := ⟨.hbm, 100, rfl⟩
abbrev main_v30_2 : Ref sig .tc := ⟨.hbm, 101, rfl⟩
abbrev main_v31 : Ref sig .tc := ⟨.hbm, 102, rfl⟩
abbrev main_v32 : Ref sig .tc := ⟨.hbm, 103, rfl⟩
abbrev main_v33 : Ref sig .tc := ⟨.hbm, 104, rfl⟩
abbrev main_v34 : Ref sig .tc := ⟨.hbm, 105, rfl⟩
abbrev main_v35 : Ref sig .tc := ⟨.hbm, 106, rfl⟩
abbrev main_v36 : Ref sig .tc := ⟨.hbm, 107, rfl⟩
abbrev main_v37 : Ref sig .tc := ⟨.hbm, 108, rfl⟩
abbrev main_cst_2 : Ref sig .tc := ⟨.hbm, 109, rfl⟩
abbrev main_v38 : Ref sig .tc := ⟨.hbm, 110, rfl⟩
abbrev main_v39 : Ref sig .tc := ⟨.hbm, 111, rfl⟩
abbrev main_v40 : Ref sig .tc := ⟨.hbm, 112, rfl⟩
abbrev main_v41 : Ref sig .tc := ⟨.hbm, 113, rfl⟩
abbrev main_cst_3 : Ref sig .tc := ⟨.hbm, 114, rfl⟩
abbrev main_v42 : Ref sig .tc := ⟨.hbm, 115, rfl⟩
abbrev main_v43 : Ref sig .tc := ⟨.hbm, 116, rfl⟩
abbrev main_cst_4 : Ref sig .tc := ⟨.hbm, 117, rfl⟩
abbrev main_v44 : Ref sig .tc := ⟨.hbm, 118, rfl⟩
abbrev main_v45 : Ref sig .tc := ⟨.hbm, 119, rfl⟩
abbrev main_cst_5 : Ref sig .tc := ⟨.hbm, 120, rfl⟩
abbrev main_v46 : Ref sig .tc := ⟨.hbm, 121, rfl⟩
abbrev main_v47 : Ref sig .tc := ⟨.hbm, 122, rfl⟩
abbrev main_v48 : Ref sig .tc := ⟨.hbm, 123, rfl⟩
abbrev main_v49 : Ref sig .tc := ⟨.hbm, 124, rfl⟩
abbrev main_cst_6 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_v53 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩
abbrev main_v57 : Ref sig .tc := ⟨.hbm, 133, rfl⟩
abbrev main_call4_v0 : Ref sig .tc := ⟨.hbm, 134, rfl⟩
abbrev main_call4_v1 : Ref sig .tc := ⟨.hbm, 135, rfl⟩
abbrev main_call4_cst : Ref sig .tc := ⟨.hbm, 136, rfl⟩
abbrev main_call4_v2 : Ref sig .tc := ⟨.hbm, 137, rfl⟩
abbrev main_call4_v3 : Ref sig .tc := ⟨.hbm, 138, rfl⟩
abbrev main_call4_cst_0 : Ref sig .tc := ⟨.hbm, 139, rfl⟩
abbrev main_call4_v4 : Ref sig .tc := ⟨.hbm, 140, rfl⟩
abbrev main_v58_2 : Ref sig .tc := ⟨.hbm, 141, rfl⟩
abbrev main_call4_cst_1 : Ref sig .tc := ⟨.hbm, 142, rfl⟩
abbrev main_call4_v6 : Ref sig .tc := ⟨.hbm, 143, rfl⟩
abbrev main_call4_v7 : Ref sig .tc := ⟨.hbm, 144, rfl⟩
abbrev main_v58_1 : Ref sig .tc := ⟨.hbm, 145, rfl⟩
abbrev main_v58_0 : Ref sig .tc := ⟨.hbm, 146, rfl⟩
abbrev main_v59 : Ref sig .tc := ⟨.hbm, 147, rfl⟩
abbrev main_v60 : Ref sig .tc := ⟨.hbm, 148, rfl⟩
abbrev main_v61 : Ref sig .tc := ⟨.hbm, 149, rfl⟩
abbrev main_call5_v0 : Ref sig .tc := ⟨.hbm, 150, rfl⟩
abbrev main_call5_v1 : Ref sig .tc := ⟨.hbm, 151, rfl⟩
abbrev main_call5_v2 : Ref sig .tc := ⟨.hbm, 152, rfl⟩
abbrev main_v62 : Ref sig .tc := ⟨.hbm, 153, rfl⟩
abbrev main_v63 : Ref sig .tc := ⟨.hbm, 154, rfl⟩
abbrev main_v64 : Ref sig .tc := ⟨.hbm, 155, rfl⟩
abbrev main_cst_7 : Ref sig .tc := ⟨.hbm, 156, rfl⟩
abbrev main_v65 : Ref sig .tc := ⟨.hbm, 157, rfl⟩
abbrev main_v66 : Ref sig .tc := ⟨.hbm, 158, rfl⟩
abbrev main_v67 : Ref sig .tc := ⟨.hbm, 159, rfl⟩
abbrev main_v68 : Ref sig .tc := ⟨.hbm, 160, rfl⟩
abbrev main_cst_8 : Ref sig .tc := ⟨.hbm, 161, rfl⟩
abbrev main_v69 : Ref sig .tc := ⟨.hbm, 162, rfl⟩
abbrev main_v70 : Ref sig .tc := ⟨.hbm, 163, rfl⟩
abbrev main_v71 : Ref sig .tc := ⟨.hbm, 164, rfl⟩
abbrev main_cst_9 : Ref sig .tc := ⟨.hbm, 165, rfl⟩
abbrev main_v72 : Ref sig .tc := ⟨.hbm, 166, rfl⟩
abbrev main_v73 : Ref sig .tc := ⟨.hbm, 167, rfl⟩
abbrev main_v74 : Ref sig .tc := ⟨.hbm, 168, rfl⟩
abbrev main_v75 : Ref sig .tc := ⟨.hbm, 169, rfl⟩
abbrev main_v76 : Ref sig .tc := ⟨.hbm, 170, rfl⟩
abbrev main_cst_10 : Ref sig .tc := ⟨.hbm, 171, rfl⟩
abbrev main_v77 : Ref sig .tc := ⟨.hbm, 172, rfl⟩
abbrev main_v78 : Ref sig .tc := ⟨.hbm, 173, rfl⟩
abbrev main_cst_11 : Ref sig .tc := ⟨.hbm, 174, rfl⟩
abbrev main_v79 : Ref sig .tc := ⟨.hbm, 175, rfl⟩
abbrev main_v80 : Ref sig .tc := ⟨.hbm, 176, rfl⟩
abbrev main_v81 : Ref sig .tc := ⟨.hbm, 177, rfl⟩
abbrev main_v82 : Ref sig .tc := ⟨.hbm, 178, rfl⟩
abbrev main_v83 : Ref sig .tc := ⟨.hbm, 179, rfl⟩
abbrev main_v84 : Ref sig .tc := ⟨.hbm, 180, rfl⟩
abbrev main_v85 : Ref sig .tc := ⟨.hbm, 181, rfl⟩
abbrev main_v86 : Ref sig .tc := ⟨.hbm, 182, rfl⟩
abbrev main_v87 : Ref sig .tc := ⟨.hbm, 183, rfl⟩
abbrev main_v88 : Ref sig .tc := ⟨.hbm, 184, rfl⟩
abbrev main_v89 : Ref sig .tc := ⟨.hbm, 185, rfl⟩
abbrev main_v90 : Ref sig .tc := ⟨.hbm, 186, rfl⟩
abbrev main_v91 : Ref sig .tc := ⟨.hbm, 187, rfl⟩
abbrev main_v92 : Ref sig .tc := ⟨.hbm, 188, rfl⟩
abbrev main_v93 : Ref sig .tc := ⟨.hbm, 189, rfl⟩
abbrev main_cst_12 : Ref sig .tc := ⟨.hbm, 190, rfl⟩
abbrev main_v94 : Ref sig .tc := ⟨.hbm, 191, rfl⟩
abbrev main_v95 : Ref sig .tc := ⟨.hbm, 192, rfl⟩
abbrev main_v96 : Ref sig .tc := ⟨.hbm, 193, rfl⟩
abbrev main_v97 : Ref sig .tc := ⟨.hbm, 194, rfl⟩
abbrev main_cst_13 : Ref sig .tc := ⟨.hbm, 195, rfl⟩
abbrev main_v98 : Ref sig .tc := ⟨.hbm, 196, rfl⟩
abbrev main_v99 : Ref sig .tc := ⟨.hbm, 197, rfl⟩
abbrev main_cst_14 : Ref sig .tc := ⟨.hbm, 198, rfl⟩
abbrev main_v100 : Ref sig .tc := ⟨.hbm, 199, rfl⟩
abbrev main_cst_15 : Ref sig .tc := ⟨.hbm, 200, rfl⟩
abbrev main_v101 : Ref sig .tc := ⟨.hbm, 201, rfl⟩
abbrev main_v102 : Ref sig .tc := ⟨.hbm, 202, rfl⟩
abbrev main_call6_cst : Ref sig .tc := ⟨.hbm, 203, rfl⟩
abbrev main_call6_v0 : Ref sig .tc := ⟨.hbm, 204, rfl⟩
abbrev main_v103 : Ref sig .tc := ⟨.hbm, 205, rfl⟩
abbrev main_cst_16 : Ref sig .tc := ⟨.hbm, 206, rfl⟩
abbrev main_v104 : Ref sig .tc := ⟨.hbm, 207, rfl⟩
abbrev main_v105 : Ref sig .tc := ⟨.hbm, 208, rfl⟩
abbrev main_v106 : Ref sig .tc := ⟨.hbm, 209, rfl⟩
abbrev main_cst_17 : Ref sig .tc := ⟨.hbm, 210, rfl⟩
abbrev main_v107 : Ref sig .tc := ⟨.hbm, 211, rfl⟩
abbrev main_v108 : Ref sig .tc := ⟨.hbm, 212, rfl⟩
abbrev main_cst_18 : Ref sig .tc := ⟨.hbm, 213, rfl⟩
abbrev main_v109 : Ref sig .tc := ⟨.hbm, 214, rfl⟩
abbrev main_cst_19 : Ref sig .tc := ⟨.hbm, 215, rfl⟩
abbrev main_v110 : Ref sig .tc := ⟨.hbm, 216, rfl⟩
abbrev main_v111 : Ref sig .tc := ⟨.hbm, 217, rfl⟩
abbrev main_call7_call0_cst : Ref sig .tc := ⟨.hbm, 218, rfl⟩
abbrev main_call7_call0_v0 : Ref sig .tc := ⟨.hbm, 219, rfl⟩
abbrev main_v112 : Ref sig .tc := ⟨.hbm, 220, rfl⟩
abbrev main_v113 : Ref sig .tc := ⟨.hbm, 221, rfl⟩
abbrev main_v114 : Ref sig .tc := ⟨.hbm, 222, rfl⟩
abbrev main_v115 : Ref sig .tc := ⟨.hbm, 223, rfl⟩
abbrev main_v116 : Ref sig .tc := ⟨.hbm, 224, rfl⟩
abbrev main_v117 : Ref sig .tc := ⟨.hbm, 225, rfl⟩
abbrev main_v118 : Ref sig .tc := ⟨.hbm, 226, rfl⟩
abbrev main_v119 : Ref sig .tc := ⟨.hbm, 227, rfl⟩
abbrev main_v120 : Ref sig .tc := ⟨.hbm, 228, rfl⟩
abbrev main_cst_20 : Ref sig .tc := ⟨.hbm, 229, rfl⟩
abbrev main_v121 : Ref sig .tc := ⟨.hbm, 230, rfl⟩
abbrev main_v122 : Ref sig .tc := ⟨.hbm, 231, rfl⟩
abbrev main_cst_21 : Ref sig .tc := ⟨.hbm, 232, rfl⟩
abbrev main_v123 : Ref sig .tc := ⟨.hbm, 233, rfl⟩
abbrev main_v124 : Ref sig .tc := ⟨.hbm, 234, rfl⟩
abbrev main_call8_v0 : Ref sig .tc := ⟨.hbm, 235, rfl⟩
abbrev main_call8_v1 : Ref sig .tc := ⟨.hbm, 236, rfl⟩
abbrev main_v125 : Ref sig .tc := ⟨.hbm, 237, rfl⟩
abbrev main_cst_22 : Ref sig .tc := ⟨.hbm, 238, rfl⟩
abbrev main_v126 : Ref sig .tc := ⟨.hbm, 239, rfl⟩
abbrev main_v127 : Ref sig .tc := ⟨.hbm, 240, rfl⟩
abbrev main_v128 : Ref sig .tc := ⟨.hbm, 241, rfl⟩
abbrev main_v129 : Ref sig .tc := ⟨.hbm, 242, rfl⟩
abbrev main_v130 : Ref sig .tc := ⟨.hbm, 243, rfl⟩
abbrev main_v131 : Ref sig .tc := ⟨.hbm, 244, rfl⟩
abbrev main_v132 : Ref sig .tc := ⟨.hbm, 245, rfl⟩

abbrev nD : Nat := 1
abbrev τ : Topo := Topo.v7x

variable {F : FTy → Type} [FloatOps F]
-- ==== Kernel2.lean ====
abbrev S4096x1024 : Shape := ⟨2, ![4096, 1024]⟩
abbrev S4096x2816 : Shape := ⟨2, ![4096, 2816]⟩
abbrev S2816x1024 : Shape := ⟨2, ![2816, 1024]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S4096x1024, .bf16⟩
  | .hbm, ⟨4, _⟩ => ⟨S2816x1024, .bf16⟩
  | .hbm, ⟨5, _⟩ => ⟨S4096x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x1024 : Shape := ⟨2, ![4096, 1024]⟩
abbrev S4096x2816 : Shape := ⟨2, ![4096, 2816]⟩
abbrev S2816x1024 : Shape := ⟨2, ![2816, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S4096x2816, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel3.lean ====
abbrev S4096x1024 : Shape := ⟨2, ![4096, 1024]⟩
abbrev S4096x2816 : Shape := ⟨2, ![4096, 2816]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S4096x2816, .bf16⟩
  | .hbm, ⟨4, _⟩ => ⟨S4096x1024, .bf16⟩
  | .hbm, ⟨5, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S4096x2816 : Shape := ⟨2, ![4096, 2816]⟩
abbrev S2816x1024 : Shape := ⟨2, ![2816, 1024]⟩
abbrev S1024x2816 : Shape := ⟨2, ![1024, 2816]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S1024x2816, .f32⟩
  | .hbm, ⟨5, _⟩ => ⟨S2816x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S4096x5632 : Shape := ⟨2, ![4096, 5632]⟩
abbrev S4096x1024 : Shape := ⟨2, ![4096, 1024]⟩
abbrev S1024x5632 : Shape := ⟨2, ![1024, 5632]⟩
abbrev S4096x2x2816 : Shape := ⟨3, ![4096, 2, 2816]⟩
abbrev S2x4096x2816 : Shape := ⟨3, ![2, 4096, 2816]⟩
abbrev S1024x4x1408 : Shape := ⟨3, ![1024, 4, 1408]⟩
abbrev S4x1024x1408 : Shape := ⟨3, ![4, 1024, 1408]⟩
abbrev S1x1024x1408 : Shape := ⟨3, ![1, 1024, 1408]⟩
abbrev S1024x1024 : Shape := ⟨2, ![1024, 1024]⟩
abbrev S1024x1408 : Shape := ⟨2, ![1024, 1408]⟩

abbrev nBuf : Space → Nat
  | .hbm => 10
  | .vmem => 7
  | .smem => 0
  | _ => 0

abbrev bufTy : (tb : Table) → Fin (tcTables nBuf tb) → BufTy
  | .hbm, ⟨0, _⟩ => ⟨S4096x5632, .f32⟩
  | .hbm, ⟨1, _⟩ => ⟨S4096x1024, .f32⟩
  | .hbm, ⟨2, _⟩ => ⟨S1024x5632, .f32⟩
  | .hbm, ⟨3, _⟩ => ⟨S4096x2x2816, .f32⟩
  | .hbm, ⟨4, _⟩ => ⟨S2x4096x2816, .f32⟩
  | .hbm, ⟨5, _⟩ => ⟨S2x4096x2816, .bf16⟩
  | .hbm, ⟨6, _⟩ => ⟨S1024x4x1408, .f32⟩
  | .hbm, ⟨7, _⟩ => ⟨S4x1024x1408, .f32⟩
  | .hbm, ⟨8, _⟩ => ⟨S4x1024x1408, .bf16⟩
  | .hbm, ⟨9, _⟩ => ⟨S4096x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x5632 : Shape := ⟨2, ![4096, 5632]⟩
abbrev S4096x1024 : Shape := ⟨2, ![4096, 1024]⟩
abbrev S1024x5632 : Shape := ⟨2, ![1024, 5632]⟩

abbrev nBuf : Space → Nat
  | .hbm => 5
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x1024, .f32⟩
  | .hbm, ⟨2, _⟩ => ⟨S1024x5632, .f32⟩
  | .hbm, ⟨3, _⟩ => ⟨S4096x5632, .f32⟩
  | .hbm, ⟨4, _⟩ => ⟨S4096x1024, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel5.lean ====
abbrev S4096x5632 : Shape := ⟨2, ![4096, 5632]⟩
abbrev S4096x1024 : Shape := ⟨2, ![4096, 1024]⟩
abbrev S1024x5632 : Shape := ⟨2, ![1024, 5632]⟩
abbrev S4096x2x2816 : Shape := ⟨3, ![4096, 2, 2816]⟩
abbrev S2x4096x2816 : Shape := ⟨3, ![2, 4096, 2816]⟩
abbrev S4x1024x1408 : Shape := ⟨3, ![4, 1024, 1408]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 8
  | .vmem => 7
  | .smem => 0
  | _ => 0

abbrev bufTy : (tb : Table) → Fin (tcTables nBuf tb) → BufTy
  | .hbm, ⟨0, _⟩ => ⟨S4096x5632, .f32⟩
  | .hbm, ⟨1, _⟩ => ⟨S4096x1024, .f32⟩
  | .hbm, ⟨2, _⟩ => ⟨S1024x5632, .f32⟩
  | .hbm, ⟨3, _⟩ => ⟨S4096x1024, .bf16⟩
  | .hbm, ⟨4, _⟩ => ⟨S4096x2x2816, .f32⟩
  | .hbm, ⟨5, _⟩ => ⟨S2x4096x2816, .f32⟩
  | .hbm, ⟨6, _⟩ => ⟨S2x4096x2816, .bf16⟩
  | .hbm, ⟨7, _⟩ => ⟨S4x1024x1408, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x5632 : Shape := ⟨2, ![4096, 5632]⟩
abbrev S4096x1024 : Shape := ⟨2, ![4096, 1024]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x1024, .f32⟩
  | .hbm, ⟨2, _⟩ => ⟨S1024x5632, .f32⟩
  | .hbm, ⟨3, _⟩ => ⟨S4096x5632, .f32⟩
  | .hbm, ⟨4, _⟩ => ⟨S5632x1024, .f32⟩
  | .hbm, ⟨5, _⟩ => ⟨S1024x5632, .f32⟩
  | .hbm, ⟨6, _⟩ => ⟨S1024x4x1408, .f32⟩
  | .hbm, ⟨7, _⟩ => ⟨S4x1024x1408, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S4096x1024 : Shape := ⟨2, ![4096, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S4096x5632 : Shape := ⟨2, ![4096, 5632]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x1024, .bf16⟩
  | .hbm, ⟨3, _⟩ => ⟨S1024x4x1408, .f32⟩
  | .hbm, ⟨4, _⟩ => ⟨S4x1024x1408, .f32⟩
  | .hbm, ⟨5, _⟩ => ⟨S4x1024x1408, .bf16⟩
  | .hbm, ⟨6, _⟩ => ⟨S4096x5632, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .f32⟩
  | .local _ .vmem, ⟨5, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel7.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x2816, .bf16⟩
  | .hbm, ⟨3, _⟩ => ⟨S2816x1024, .bf16⟩
  | .hbm, ⟨4, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x1024, .bf16⟩
  | .hbm, ⟨4, _⟩ => ⟨S4096x1024, .bf16⟩
  | .hbm, ⟨5, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x1024, .f32⟩
  | .hbm, ⟨4, _⟩ => ⟨S1024x1024, .f32⟩
  | .hbm, ⟨5, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel11.lean ====
abbrev S4096x2048 : Shape := ⟨2, ![4096, 2048]⟩
abbrev S4096x1024 : Shape := ⟨2, ![4096, 1024]⟩
abbrev S1024x2048 : Shape := ⟨2, ![1024, 2048]⟩
abbrev S4096x2x1024 : Shape := ⟨3, ![4096, 2, 1024]⟩
abbrev S2x4096x1024 : Shape := ⟨3, ![2, 4096, 1024]⟩
abbrev S1024x4x512 : Shape := ⟨3, ![1024, 4, 512]⟩
abbrev S4x1024x512 : Shape := ⟨3, ![4, 1024, 512]⟩
abbrev S1x1024x512 : Shape := ⟨3, ![1, 1024, 512]⟩
abbrev S1024x1024 : Shape := ⟨2, ![1024, 1024]⟩
abbrev S1024x512 : Shape := ⟨2, ![1024, 512]⟩

abbrev nBuf : Space → Nat
  | .hbm => 10
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S1024x2048, .f32⟩
  | .hbm, ⟨3, _⟩ => ⟨S4096x2x1024, .f32⟩
  | .hbm, ⟨4, _⟩ => ⟨S2x4096x1024, .f32⟩
  | .hbm, ⟨5, _⟩ => ⟨S2x4096x1024, .bf16⟩
  | .hbm, ⟨6, _⟩ => ⟨S1024x4x512, .f32⟩
  | .hbm, ⟨7, _⟩ => ⟨S4x1024x512, .f32⟩
  | .hbm, ⟨8, _⟩ => ⟨S4x1024x512, .bf16⟩
  | .hbm, ⟨9, _⟩ => ⟨S4096x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S4096x1024 : Shape := ⟨2, ![4096, 1024]⟩
abbrev S1024x2048 : Shape := ⟨2, ![1024, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S1024x2048, .f32⟩
  | .hbm, ⟨3, _⟩ => ⟨S4096x2048, .f32⟩
  | .hbm, ⟨4, _⟩ => ⟨S4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel12.lean ====
abbrev S4096x2048 : Shape := ⟨2, ![4096, 2048]⟩
abbrev S4096x1024 : Shape := ⟨2, ![4096, 1024]⟩
abbrev S1024x2048 : Shape := ⟨2, ![1024, 2048]⟩
abbrev S4096x2x1024 : Shape := ⟨3, ![4096, 2, 1024]⟩
abbrev S2x4096x1024 : Shape := ⟨3, ![2, 4096, 1024]⟩
abbrev S4x1024x512 : Shape := ⟨3, ![4, 1024, 512]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 8
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S1024x2048, .f32⟩
  | .hbm, ⟨3, _⟩ => ⟨S4096x1024, .bf16⟩
  | .hbm, ⟨4, _⟩ => ⟨S4096x2x1024, .f32⟩
  | .hbm, ⟨5, _⟩ => ⟨S2x4096x1024, .f32⟩
  | .hbm, ⟨6, _⟩ => ⟨S2x4096x1024, .bf16⟩
  | .hbm, ⟨7, _⟩ => ⟨S4x1024x512, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .f32⟩
  | .local _ .vmem, ⟨5, _⟩ => ⟨S1x1024x512, .f32⟩
  | .local _ .vmem, ⟨6, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2048 : Shape := ⟨2, ![4096, 2048]⟩
abbrev S4096x1024 : Shape := ⟨2, ![4096, 1024]⟩
abbrev S1024x2048 : Shape := ⟨2, ![1024, 2048]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S1024x2048, .f32⟩
  | .hbm, ⟨3, _⟩ => ⟨S4096x2048, .f32⟩
  | .hbm, ⟨4, _⟩ => ⟨S2048x1024, .f32⟩
  | .hbm, ⟨5, _⟩ => ⟨S1024x2048, .f32⟩
  | .hbm, ⟨6, _⟩ => ⟨S1024x4x512, .f32⟩
  | .hbm, ⟨7, _⟩ => ⟨S4x1024x512, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S4096x1024 : Shape := ⟨2, ![4096, 1024]⟩
abbrev S1024x2048 : Shape := ⟨2, ![1024, 2048]⟩
abbrev S1024x4x512 : Shape := ⟨3, ![1024, 4, 512]⟩
abbrev S4x1024x512 : Shape := ⟨3, ![4, 1024, 512]⟩
abbrev S4096x2048 : Shape := ⟨2, ![4096, 2048]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x1024, .bf16⟩
  | .hbm, ⟨3, _⟩ => ⟨S1024x4x512, .f32⟩
  | .hbm, ⟨4, _⟩ => ⟨S4x1024x512, .f32⟩
  | .hbm, ⟨5, _⟩ => ⟨S4x1024x512, .bf16⟩
  | .hbm, ⟨6, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x512, .f32⟩
  | .local _ .vmem, ⟨5, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel14.lean ====
abbrev S4096x3088 : Shape := ⟨2, ![4096, 3088]⟩
abbrev S4096x1024 : Shape := ⟨2, ![4096, 1024]⟩
abbrev S1024x3088 : Shape := ⟨2, ![1024, 3088]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x3088, .f32⟩
  | .hbm, ⟨1, _⟩ => ⟨S4096x1024, .f32⟩
  | .hbm, ⟨2, _⟩ => ⟨S1024x3088, .f32⟩
  | .hbm, ⟨3, _⟩ => ⟨S4096x3088, .bf16⟩
  | .hbm, ⟨4, _⟩ => ⟨S1024x3088, .bf16⟩
  | .hbm, ⟨5, _⟩ => ⟨S4096x1024, .f32⟩
  | .local _ .vmem, ⟨0, _⟩ => ⟨S1024x3088, .bf16⟩
  | .local _ .vmem, ⟨1, _⟩ => ⟨S1024x3088, .bf16⟩
  | .local _ .vmem, ⟨2, _⟩ => ⟨S1024x3088, .bf16⟩
  | .local _ .vmem, ⟨3, _⟩ => ⟨S1024x1024, .f32⟩
  | .local _ .vmem, ⟨4, _⟩ => ⟨S1024x1024, .f32⟩
  | _, _ => ⟨S4096x3088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3088 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3088 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x3088 : Shape := ⟨2, ![4096, 3088]⟩
abbrev S4096x1024 : Shape := ⟨2, ![4096, 1024]⟩
abbrev S1024x3088 : Shape := ⟨2, ![1024, 3088]⟩

abbrev nBuf : Space → Nat
  | .hbm => 5
  | .vmem => 0
  | .smem => 0
  | _ => 0

abbrev bufTy : (tb : Table) → Fin (tcTables nBuf tb) → BufTy
  | .hbm, ⟨0, _⟩ => ⟨S4096x3088, .f32⟩
  | .hbm, ⟨1, _⟩ => ⟨S4096x1024, .f32⟩
  | .hbm, ⟨2, _⟩ => ⟨S1024x3088, .f32⟩
  | .hbm, ⟨3, _⟩ => ⟨S4096x3088, .f32⟩
  | .hbm, ⟨4, _⟩ => ⟨S4096x1024, .f32⟩
  | _, _ => ⟨S4096x3088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel15.lean ====
abbrev S4096x3088 : Shape := ⟨2, ![4096, 3088]⟩
abbrev S4096x1024 : Shape := ⟨2, ![4096, 1024]⟩
abbrev S1024x3088 : Shape := ⟨2, ![1024, 3088]⟩
abbrev S1024x512 : Shape := ⟨2, ![1024, 512]⟩
abbrev S512x3088 : Shape := ⟨2, ![512, 3088]⟩

abbrev nBuf : Space → Nat
  | .hbm => 6
  | .vmem => 7
  | .smem => 0
  | _ => 0

abbrev bufTy : (tb : Table) → Fin (tcTables nBuf tb) → BufTy
  | .hbm, ⟨0, _⟩ => ⟨S4096x3088, .f32⟩
  | .hbm, ⟨1, _⟩ => ⟨S4096x1024, .f32⟩
  | .hbm, ⟨2, _⟩ => ⟨S1024x3088, .f32⟩
  | .hbm, ⟨3, _⟩ => ⟨S4096x1024, .bf16⟩
  | .hbm, ⟨4, _⟩ => ⟨S4096x3088, .bf16⟩
  | .hbm, ⟨5, _⟩ => ⟨S1024x3088, .f32⟩
  | .local _ .vmem, ⟨0, _⟩ => ⟨S1024x512, .bf16⟩
  | .local _ .vmem, ⟨1, _⟩ => ⟨S1024x512, .bf16⟩
  | .local _ .vmem, ⟨2, _⟩ => ⟨S1024x3088, .bf16⟩
  | .local _ .vmem, ⟨3, _⟩ => ⟨S1024x3088, .bf16⟩
  | .local _ .vmem, ⟨4, _⟩ => ⟨S512x3088, .f32⟩
  | .local _ .vmem, ⟨5, _⟩ => ⟨S512x3088, .f32⟩
  | .local _ .vmem, ⟨6, _⟩ => ⟨S512x3088, .f32⟩
  | _, _ => ⟨S4096x3088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3088 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x3088 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x3088 : Shape := ⟨2, ![4096, 3088]⟩
abbrev S4096x1024 : Shape := ⟨2, ![4096, 1024]⟩
abbrev S1024x3088 : Shape := ⟨2, ![1024, 3088]⟩
abbrev S3088x1024 : Shape := ⟨2, ![3088, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x3088, .f32⟩
  | .hbm, ⟨1, _⟩ => ⟨S4096x1024, .f32⟩
  | .hbm, ⟨2, _⟩ => ⟨S1024x3088, .f32⟩
  | .hbm, ⟨3, _⟩ => ⟨S4096x3088, .f32⟩
  | .hbm, ⟨4, _⟩ => ⟨S3088x1024, .f32⟩
  | .hbm, ⟨5, _⟩ => ⟨S1024x3088, .f32⟩
  | _, _ => ⟨S4096x3088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel16.lean ====
abbrev S4096x1024 : Shape := ⟨2, ![4096, 1024]⟩
abbrev S1024x3088 : Shape := ⟨2, ![1024, 3088]⟩
abbrev S4096x3088 : Shape := ⟨2, ![4096, 3088]⟩
abbrev S512x1024 : Shape := ⟨2, ![512, 1024]⟩
abbrev S512x3088 : Shape := ⟨2, ![512, 3088]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x3088, .f32⟩
  | .hbm, ⟨2, _⟩ => ⟨S4096x1024, .bf16⟩
  | .hbm, ⟨3, _⟩ => ⟨S1024x3088, .bf16⟩
  | .hbm, ⟨4, _⟩ => ⟨S4096x3088, .f32⟩
  | .local _ .vmem, ⟨0, _⟩ => ⟨S512x1024, .bf16⟩
  | .local _ .vmem, ⟨1, _⟩ => ⟨S512x1024, .bf16⟩
  | .local _ .vmem, ⟨2, _⟩ => ⟨S1024x3088, .bf16⟩
  | .local _ .vmem, ⟨3, _⟩ => ⟨S512x3088, .f32⟩
  | .local _ .vmem, ⟨4, _⟩ => ⟨S512x3088, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3088 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x3088 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x1024 : Shape := ⟨2, ![4096, 1024]⟩
abbrev S1024x3088 : Shape := ⟨2, ![1024, 3088]⟩
abbrev S4096x3088 : Shape := ⟨2, ![4096, 3088]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3088, .f32⟩
  | .hbm, ⟨2, _⟩ => ⟨S4096x3088, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Body.lean ====
/- The vector functions that one step of the kernel's grid is made of, written once over ideal numbers: what a head
   computes from its tile (logits, gated cumulative sums, the normalised output's gradient), what a chunk computes from
   its 64 rows, and what the step's end computes from the gradient of the cumulative sums. -/
module

public import proofs.«01_k».proof.Proof.Gen.KernelIdeal.Skeleton
public import Idealize.ShloMosaic.Lib.Pointwise

@[expose] public section

set_option maxRecDepth 16384

noncomputable section

namespace Cert.Gla

open Idealize.ShloMosaic Idealize.ShloMosaic.TcCoe Idealize.SL.Sem
open Cert.KernelIdeal Cert.KernelIdeal.Gen

/-- A vector of ideal numbers. -/
abbrev V (S : Shape) := FVec Ideal S .f32
/-- A vector of ideal numbers that the program holds at the narrow float type. -/
abbrev VB (S : Shape) := FVec Ideal S .bf16

/-- The constant vector of the float word `w`. -/
def vC (S : Shape) (w : BitVec 32) : V S := broadcast S (Scalar.ofBits .f32 w : Ideal .f32)

/-- Narrow a vector's float type. -/
def vT {S : Shape} (x : V S) : VB S := truncf .bf16 x bitsLt_bf16_f32

/-- The decay gate's logits of one head. -/
def vLogit (z : V S256x16) (w : V S16x128) (b : V S1x128) : V S256x128 :=
  addf (matmul dot_S256x16_S16x128_S256x128_1_0_0_1_n_n none (vT z) (vT w) (constant S256x128 .f32 0x00000000#32))
    (broadcastTo S256x128 b broadcasts_S1x128_S256x128)

/-- One plus the exponential of minus the absolute value. -/
def vU (x : V S256x128) : V S256x128 :=
  addf (vC S256x128 0x3F800000#32) (exp (subf (vC S256x128 0x00000000#32) (absf x)))

/-- The logarithm of the decay: the logarithm of the logit's sigmoid, divided by sixteen. -/
def vLa (x : V S256x128) : V S256x128 :=
  mulf (subf (minimumf x (vC S256x128 0x00000000#32))
    (select (cmpf .oeq (vU x) (vC S256x128 0x3F800000#32)) (exp (subf (vC S256x128 0x00000000#32) (absf x)))
      (mulf (log (vU x)) (divf (exp (subf (vC S256x128 0x00000000#32) (absf x)))
        (select (cmpf .oeq (vU x) (vC S256x128 0x3F800000#32)) (vC S256x128 0x3F800000#32)
          (subf (vU x) (vC S256x128 0x3F800000#32)))))))
    (vC S256x128 0x3D800000#32)

/-- The number of the chunk that an index lies in (division by 64 rounding down). -/
def vCid (x : IVec S256x256 32) : IVec S256x256 32 :=
  select (andi (cmpi .ne (subi (extui 32 (cmpi .sgt x (broadcast S256x256 0#32)) natLt_1_32)
      (extui 32 (cmpi .slt x (broadcast S256x256 0#32)) natLt_1_32))
      (broadcast S256x256 (Scalar.subi (Scalar.extui (Scalar.cmpi .sgt 64#32 0#32)) (Scalar.extui (Scalar.cmpi .slt 64#32 0#32)))))
      (cmpi .ne (remsi x (broadcast S256x256 64#32)) (broadcast S256x256 0#32)))
    (subi (divsi x (broadcast S256x256 64#32)) (broadcast S256x256 1#32))
    (divsi x (broadcast S256x256 64#32))

/-- The row numbers. -/
def vI0 : IVec S256x256 32 := iota .tc S256x256 32 [0] iota_S256x256_d0_w32
/-- The column numbers. -/
def vI1 : IVec S256x256 32 := iota .tc S256x256 32 [1] iota_S256x256_d1_w32

/-- One where the column is in the row's chunk and not after the row. -/
def vTriF : VB S256x256 :=
  vT (select (andi (cmpi .eq (vCid vI0) (vCid vI1)) (cmpi .sle vI1 vI0)) (vC S256x256 0x3F800000#32) (vC S256x256 0x00000000#32))
/-- One where the column is in the row's chunk and not before the row. -/
def vTriB : VB S256x256 :=
  vT (select (andi (cmpi .eq (vCid vI0) (vCid vI1)) (cmpi .sge vI1 vI0)) (vC S256x256 0x3F800000#32) (vC S256x256 0x00000000#32))

/-- The product of a 0/1 matrix with a vector's leading part and two remainders, added up. -/
def vCum (t : VB S256x256) (x : V S256x128) : V S256x128 :=
  addf (addf (addf (vC S256x128 0x00000000#32)
    (matmul dot_S256x256_S256x128_S256x128_1_0_0_1_n_n none t (vT x) (constant S256x128 .f32 0x00000000#32)))
    (matmul dot_S256x256_S256x128_S256x128_1_0_0_1_n_n none t (vT (subf x (extf .f32 (vT x) bitsLt_bf16_f32)))
      (constant S256x128 .f32 0x00000000#32)))
    (matmul dot_S256x256_S256x128_S256x128_1_0_0_1_n_n none t
      (vT (subf (subf x (extf .f32 (vT x) bitsLt_bf16_f32))
        (extf .f32 (vT (subf x (extf .f32 (vT x) bitsLt_bf16_f32))) bitsLt_bf16_f32)))
      (constant S256x128 .f32 0x00000000#32))

/-- The decays' logarithms added up within each chunk. -/
def vGcum (z : V S256x16) (w : V S16x128) (b : V S1x128) : V S256x128 := vCum vTriF (vLa (vLogit z w b))

/-- The reciprocal root mean square of a head's output rows. -/
def vRo (o : V S256x256) : V S256x1 :=
  rsqrt (addf (divf (shapeCast S256x1 (multiReduction .add [1] S256
    (mulf (shapeCast S256x256 o shapeCasts_S256x256_S256x256) (shapeCast S256x256 o shapeCasts_S256x256_S256x256))
    0x00000000#32 reduces_S256x256_S256 (.inl rfl) rfl) shapeCasts_S256_S256x1) (vC S256x1 0x43800000#32)) (vC S256x1 0x358637BD#32))

/-- The normalised output. -/
def vOn (o : V S256x256) : V S256x256 :=
  mulf (shapeCast S256x256 o shapeCasts_S256x256_S256x256) (broadcastTo S256x256 (vRo o) broadcasts_S256x1_S256x256)

/-- The sigmoid of the output gate. -/
def vSg (r : V S256x256) : V S256x256 :=
  divf (vC S256x256 0x3F800000#32) (addf (vC S256x256 0x3F800000#32) (exp (subf (vC S256x256 0x00000000#32) r)))

/-- The output gate times its sigmoid. -/
def vSil (r : V S256x256) : V S256x256 := mulf r (vSg r)

/-- The output gate's gradient. -/
def vDr (da o r : V S256x256) (ng : V S1x256) : VB S256x256 :=
  vT (mulf (mulf da (mulf (vOn o) (broadcastTo S256x256 ng broadcasts_S1x256_S256x256)))
    (addf (vSg r) (mulf (vSil r) (subf (vC S256x256 0x3F800000#32) (vSg r)))))

/-- What a head adds to the norm gain's gradient. -/
def vDng (acc : V S1x256) (da o r : V S256x256) : V S1x256 :=
  addf (shapeCast S1x256 acc shapeCasts_S1x256_S1x256)
    (shapeCast S1x256 (multiReduction .add [0] S256 (mulf (mulf da (vSil r)) (vOn o)) 0x00000000#32
      reduces_S256x256_S256_2 (.inl rfl) rfl) shapeCasts_S256_S1x256)

/-- The gradient after the norm's gain. -/
def vDn (da r : V S256x256) (ng : V S1x256) : V S256x256 :=
  mulf (mulf da (vSil r)) (broadcastTo S256x256 ng broadcasts_S1x256_S256x256)

/-- The attention output's gradient. -/
def vDo (da o r : V S256x256) (ng : V S1x256) : V S256x256 :=
  mulf (broadcastTo S256x256 (vRo o) broadcasts_S256x1_S256x256)
    (subf (vDn da r ng) (mulf (vOn o) (broadcastTo S256x256
      (divf (shapeCast S256x1 (multiReduction .add [1] S256 (mulf (vDn da r ng) (vOn o)) 0x00000000#32
        reduces_S256x256_S256 (.inl rfl) rfl) shapeCasts_S256_S256x1) (vC S256x1 0x43800000#32)) broadcasts_S256x1_S256x256)))

/-- The scaled queries. -/
def vQ (q : V S256x128) : V S256x128 := mulf q (vC S256x128 0x3DB504F3#32)

/-- A chunk's row at the middle. -/
def vMid (g : V S64x128) : V S1x128 := extractStridedSlice S1x128 ![32, 0] g slices_S64x128_o32_0_S1x128
/-- A chunk's last row. -/
def vLast (g : V S64x128) : V S1x128 := extractStridedSlice S1x128 ![63, 0] g slices_S64x128_o63_0_S1x128
/-- The exponentials of the chunk's sums against its middle row. -/
def vEq (g : V S64x128) : V S64x128 := exp (subf g (broadcastTo S64x128 (vMid g) broadcasts_S1x128_S64x128))
/-- The exponentials of the middle row against the chunk's sums. -/
def vEk (g : V S64x128) : V S64x128 := exp (subf (broadcastTo S64x128 (vMid g) broadcasts_S1x128_S64x128) g)
/-- The exponentials of the last row against the chunk's sums. -/
def vEkd (g : V S64x128) : V S64x128 := exp (subf (broadcastTo S64x128 (vLast g) broadcasts_S1x128_S64x128) g)
/-- The exponential of the last row. -/
def vEgl (g : V S64x128) : V S1x128 := exp (vLast g)

/-- Where the column is not after the row. -/
def vMask : IVec S64x64 1 := cmpi .sle (iota .tc S64x64 32 [1] iota_S64x64_d1_w32) (iota .tc S64x64 32 [0] iota_S64x64_d0_w32)
/-- The chunk's last row. -/
def vIsLast : IVec S64x128 1 := cmpi .eq (iota .tc S64x128 32 [0] iota_S64x128_d0_w32) (broadcast S64x128 63#32)

/-- The chunk's attention weights. -/
def vAttn (g q k : V S64x128) : V S64x64 :=
  select vMask (matmul dot_S64x128_S64x128_S64x64_1_1_0_0_n_n none (vT (mulf q (vEq g))) (vT (mulf k (vEk g)))
    (constant S64x64 .f32 0x00000000#32)) (vC S64x64 0x00000000#32)
/-- The weights' gradients. -/
def vDattn (d v : V S64x256) : V S64x64 :=
  select vMask (matmul dot_S64x256_S64x256_S64x64_1_1_0_0_n_n none (vT d) (vT v)
    (constant S64x64 .f32 0x00000000#32)) (vC S64x64 0x00000000#32)

/-- The state before the chunk as a matrix. -/
def vSp (sp : V S1x1x256x128) : V S256x128 := shapeCast S256x128 sp shapeCasts_S1x1x256x128_S256x128
/-- The state's gradient after the chunk as a matrix. -/
def vDs (ds : V S1x256x128) : V S256x128 := shapeCast S256x128 ds shapeCasts_S1x256x128_S256x128

/-- The queries' gradients through the state. -/
def vDqg (d : V S64x256) (sp : V S1x1x256x128) : V S64x128 :=
  matmul dot_S64x256_S256x128_S64x128_1_0_0_1_n_n none (vT d) (vT (vSp sp)) (constant S64x128 .f32 0x00000000#32)
/-- The queries' gradients within the chunk. -/
def vDqt (g k : V S64x128) (d v : V S64x256) : V S64x128 :=
  matmul dot_S64x64_S64x128_S64x128_1_0_0_1_n_n none (vT (vDattn d v)) (vT (mulf k (vEk g))) (constant S64x128 .f32 0x00000000#32)
/-- The keys' gradients within the chunk. -/
def vDkt (g q : V S64x128) (d v : V S64x256) : V S64x128 :=
  matmul dot_S64x64_S64x128_S64x128_0_0_1_1_n_n none (vT (vDattn d v)) (vT (mulf q (vEq g))) (constant S64x128 .f32 0x00000000#32)
/-- The keys' gradients through the state. -/
def vDkd (v : V S64x256) (ds : V S1x256x128) : V S64x128 :=
  matmul dot_S64x256_S256x128_S64x128_1_0_0_1_n_n none (vT v) (vT (vDs ds)) (constant S64x128 .f32 0x00000000#32)

/-- The values' gradients. -/
def vDv (g q k : V S64x128) (d : V S64x256) (ds : V S1x256x128) : VB S64x256 :=
  vT (addf (matmul dot_S64x64_S64x256_S64x256_0_0_1_1_n_n none (vT (vAttn g q k)) (vT d) (constant S64x256 .f32 0x00000000#32))
    (matmul dot_S64x128_S256x128_S64x256_1_1_0_0_n_n none (vT (mulf k (vEkd g))) (vT (vDs ds)) (constant S64x256 .f32 0x00000000#32)))
/-- The queries' gradients. -/
def vDq (g k : V S64x128) (d v : V S64x256) (sp : V S1x1x256x128) : VB S64x128 :=
  vT (mulf (vC S64x128 0x3DB504F3#32) (addf (mulf (vDqg d sp) (exp g)) (mulf (vDqt g k d v) (vEq g))))
/-- The keys' gradients. -/
def vDk (g q : V S64x128) (d v : V S64x256) (ds : V S1x256x128) : VB S64x128 :=
  vT (addf (mulf (vDkt g q d v) (vEk g)) (mulf (vDkd v ds) (vEkd g)))

/-- The gradient of the chunk's last sum that the state carries. -/
def vDgl (g k : V S64x128) (v : V S64x256) (sp : V S1x1x256x128) (ds : V S1x256x128) : V S1x128 :=
  addf (shapeCast S1x128 (multiReduction .add [0] S128 (mulf (vDkd v ds) (mulf k (vEkd g))) 0x00000000#32
      reduces_S64x128_S128 (.inl rfl) rfl) shapeCasts_S128_S1x128)
    (mulf (shapeCast S1x128 (multiReduction .add [0] S128 (mulf (vDs ds) (vSp sp)) 0x00000000#32
      reduces_S256x128_S128 (.inl rfl) rfl) shapeCasts_S128_S1x128) (vEgl g))

/-- The gradients of the chunk's sums. -/
def vDg (g q k : V S64x128) (d v : V S64x256) (sp : V S1x1x256x128) (ds : V S1x256x128) : V S1x64x128 :=
  shapeCast S1x64x128 (addf (subf (subf (addf (mulf (vDqg d sp) (mulf q (exp g))) (mulf (vDqt g k d v) (mulf q (vEq g))))
      (mulf (vDkt g q d v) (mulf k (vEk g)))) (mulf (vDkd v ds) (mulf k (vEkd g))))
    (select vIsLast (broadcastTo S64x128 (shapeCast S1x128 (vDgl g k v sp ds) shapeCasts_S1x128_S1x128) broadcasts_S1x128_S64x128)
      (vC S64x128 0x00000000#32))) shapeCasts_S64x128_S1x64x128

/-- The state's gradient before the chunk. -/
def vDsN (g q : V S64x128) (d : V S64x256) (ds : V S1x256x128) : V S1x256x128 :=
  shapeCast S1x256x128 (addf (mulf (vDs ds) (broadcastTo S256x128 (vEgl g) broadcasts_S1x128_S256x128))
    (matmul dot_S64x256_S64x128_S256x128_0_0_1_1_n_n none (vT d) (vT (mulf q (exp g))) (constant S256x128 .f32 0x00000000#32)))
    shapeCasts_S256x128_S1x256x128

/-- The logits' gradients, from the gradients of the sums. -/
def vDl (x : V S256x128) (dg : V S1x256x128) : V S256x128 :=
  mulf (mulf (vCum vTriB (shapeCast S256x128 dg shapeCasts_S1x256x128_S256x128)) (vC S256x128 0x3D800000#32))
    (divf (vC S256x128 0x3F800000#32) (addf (vC S256x128 0x3F800000#32)
      (exp (subf (vC S256x128 0x00000000#32) (subf (vC S256x128 0x00000000#32) x)))))

/-- What a head adds to the gate input's gradient. -/
def vDz (acc : V S256x16) (dl : V S256x128) (w : V S16x128) : V S256x16 :=
  addf acc (matmul dot_S256x128_S16x128_S256x16_1_1_0_0_n_n none (vT dl) (vT w) (constant S256x16 .f32 0x00000000#32))

/-- What a step adds to the gate weight's gradient. -/
def vDwal (acc : V S16x128) (z : V S256x16) (dl : V S256x128) : V S16x128 :=
  addf (shapeCast S16x128 acc shapeCasts_S16x128_S16x128)
    (matmul dot_S256x16_S256x128_S16x128_0_0_1_1_n_n none (vT z) (vT dl) (constant S16x128 .f32 0x00000000#32))

/-- What a step adds to the gate bias's gradient. -/
def vDbal (acc : V S1x128) (dl : V S256x128) : V S1x128 :=
  addf (shapeCast S1x128 acc shapeCasts_S1x128_S1x128)
    (shapeCast S1x128 (multiReduction .add [0] S128 dl 0x00000000#32 reduces_S256x128_S128 (.inl rfl) rfl) shapeCasts_S128_S1x128)

end Cert.Gla

end
-- ==== Proof.Is.lean ====
/- Vectors of ideal numbers that hold real numbers: `R2 v X` says that the entry of `v` at row `i` and column `j` is the
   real number `X i j`. One lemma for each operation of the kernel's body, so that a composition of operations is read by
   composing the lemmas. -/
module

public import proofs.«01_k».proof.Proof.Body
public import Idealize.ShloMosaic.Lib.Pointwise
public import Idealize.ShloMosaic.Lib.WordCmp

@[expose] public section

set_option maxRecDepth 16384

noncomputable section

namespace Cert.Gla

open Idealize.ShloMosaic Idealize.ShloMosaic.TcCoe Idealize.SL.Sem
open Cert.KernelIdeal Cert.KernelIdeal.Gen
open Finset (range)

/-- Every entry of the matrix is the real number that `X` gives. -/
def R2 {a b : ℕ} {φ : FTy} (v : FVec Ideal ⟨2, ![a, b]⟩ φ) (X : ℕ → ℕ → ℝ) : Prop :=
  ∀ (i : Fin a) (j : Fin b), v (ix2 i j) = ((X i j : ℝ) : EReal)
/-- Every entry of the rank 3 array is the real number that `X` gives. -/
def R3 {a b c : ℕ} {φ : FTy} (v : FVec Ideal ⟨3, ![a, b, c]⟩ φ) (X : ℕ → ℕ → ℕ → ℝ) : Prop :=
  ∀ (i : Fin a) (j : Fin b) (k : Fin c), v (ix3 i j k) = ((X i j k : ℝ) : EReal)
/-- Every entry of the rank 4 array is the real number that `X` gives. -/
def R4 {a b c d : ℕ} {φ : FTy} (v : FVec Ideal ⟨4, ![a, b, c, d]⟩ φ) (X : ℕ → ℕ → ℕ → ℕ → ℝ) : Prop :=
  ∀ (i : Fin a) (j : Fin b) (k : Fin c) (l : Fin d), v (ix4 i j k l) = ((X i j k l : ℝ) : EReal)

/-- A finite sum of real numbers, read among the extended reals. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A sum over all of `Fin n` of real numbers is the sum over the first `n` naturals. -/
theorem coe_sum_fin (n : ℕ) (f : ℕ → ℝ) : (∑ i : Fin n, ((f i : ℝ) : EReal)) = ((∑ i ∈ range n, f i : ℝ) : EReal) := by
  rw [coe_sum, Finset.sum_range]

/-- The float words of the program's constants. -/
theorem bits_zero : (Scalar.ofBits .f32 0x00000000#32 : Ideal .f32) = ((0 : ℝ) : EReal) := by
  simp [Scalar.ofBits, FloatOps.ofBits, Ideal.ofBits, Ideal.ieee]
theorem bits_one : (Scalar.ofBits .f32 0x3F800000#32 : Ideal .f32) = ((1 : ℝ) : EReal) := by
  simp [Scalar.ofBits, FloatOps.ofBits, Ideal.ofBits, Ideal.ieee, -EReal.coe_mul]; norm_num
theorem bits_16th : (Scalar.ofBits .f32 0x3D800000#32 : Ideal .f32) = ((1 / 16 : ℝ) : EReal) := by
  simp [Scalar.ofBits, FloatOps.ofBits, Ideal.ofBits, Ideal.ieee, -EReal.coe_mul]; norm_num
theorem bits_256 : (Scalar.ofBits .f32 0x43800000#32 : Ideal .f32) = ((256 : ℝ) : EReal) := by
  simp [Scalar.ofBits, FloatOps.ofBits, Ideal.ofBits, Ideal.ieee, -EReal.coe_mul]; norm_num

/-- The scale of the queries, as its float word reads. -/
def sc : ℝ := 11863283 / 2 ^ 27
/-- The norm's small addend, as its float word reads. -/
def eps : ℝ := 8796093 / 2 ^ 43
theorem bits_sc : (Scalar.ofBits .f32 0x3DB504F3#32 : Ideal .f32) = ((sc : ℝ) : EReal) := by
  unfold sc
  simp [Scalar.ofBits, FloatOps.ofBits, Ideal.ofBits, Ideal.ieee, -EReal.coe_mul]; norm_num
theorem bits_eps : (Scalar.ofBits .f32 0x358637BD#32 : Ideal .f32) = ((eps : ℝ) : EReal) := by
  unfold eps
  simp [Scalar.ofBits, FloatOps.ofBits, Ideal.ofBits, Ideal.ieee, -EReal.coe_mul]; norm_num
theorem eps_pos : 0 < eps := by unfold eps; norm_num

section Ops
variable {a b : ℕ} {φ ψ : FTy} {u v : FVec Ideal ⟨2, ![a, b]⟩ φ} {X Y : ℕ → ℕ → ℝ}

theorem R2.congr (hu : R2 u X) (h : ∀ i < a, ∀ j < b, X i j = Y i j) : R2 u Y :=
  fun i j => (hu i j).trans (congrArg _ (h i i.isLt j j.isLt))
theorem R2.add (hu : R2 u X) (hv : R2 v Y) : R2 (addf u v) (fun i j => X i j + Y i j) := fun i j =>
  (congrArg₂ (· + ·) (hu i j) (hv i j)).trans (EReal.coe_add _ _).symm
theorem R2.sub (hu : R2 u X) (hv : R2 v Y) : R2 (subf u v) (fun i j => X i j - Y i j) := fun i j =>
  (congrArg₂ (· - ·) (hu i j) (hv i j)).trans (EReal.coe_sub _ _).symm
theorem R2.mul (hu : R2 u X) (hv : R2 v Y) : R2 (mulf u v) (fun i j => X i j * Y i j) := fun i j =>
  (congrArg₂ (· * ·) (hu i j) (hv i j)).trans (EReal.coe_mul _ _).symm
theorem R2.exp (hu : R2 u X) : R2 (Idealize.ShloMosaic.exp u) (fun i j => Real.exp (X i j)) := fun i j =>
  (congrArg Ideal.exp (hu i j)).trans (Ideal.exp_coe _)
theorem R2.div (hu : R2 u X) (hv : R2 v Y) (h : ∀ i < a, ∀ j < b, Y i j ≠ 0) : R2 (divf u v) (fun i j => X i j / Y i j) := fun i j =>
  (congrArg₂ Ideal.div (hu i j) (hv i j)).trans (by
    rw [Ideal.div_coe (h i i.isLt j j.isLt), ← EReal.coe_mul, mul_one_div])
theorem R2.rsqrt (hu : R2 u X) (h : ∀ i < a, ∀ j < b, 0 < X i j) : R2 (Idealize.ShloMosaic.rsqrt u) (fun i j => (√(X i j))⁻¹) := fun i j =>
  (congrArg Ideal.rsqrt (hu i j)).trans (by
    rw [Ideal.rsqrt_coe, if_neg (not_lt.mpr (h i i.isLt j j.isLt).le), if_neg (h i i.isLt j j.isLt).ne'])
theorem R2.trunc {u : V ⟨2, ![a, b]⟩} (hu : R2 u X) : R2 (vT u) X := hu
theorem R2.const (S : Shape) (w : BitVec 32) (r : ℝ) (h : (Scalar.ofBits .f32 w : Ideal .f32) = (r : EReal)) :
    R2 (vC ⟨2, ![a, b]⟩ w) (fun _ _ => r) := fun i j => h
end Ops

section Shapes
variable {X Y : ℕ → ℕ → ℝ}

/-- A row repeated for every row of the matrix. -/
theorem R2.row_256_128 {u : V S1x128} (hu : R2 u X) : R2 (broadcastTo S256x128 u broadcasts_S1x128_S256x128) (fun _ j => X 0 j) := fun i j => by
  refine Eq.trans ?_ (hu 0 j); pointwise
theorem R2.row_64_128 {u : V S1x128} (hu : R2 u X) : R2 (broadcastTo S64x128 u broadcasts_S1x128_S64x128) (fun _ j => X 0 j) := fun i j => by
  refine Eq.trans ?_ (hu 0 j); pointwise
theorem R2.row_256_256 {u : V S1x256} (hu : R2 u X) : R2 (broadcastTo S256x256 u broadcasts_S1x256_S256x256) (fun _ j => X 0 j) := fun i j => by
  refine Eq.trans ?_ (hu 0 j); pointwise
/-- A column repeated for every column of the matrix. -/
theorem R2.col_256_256 {u : V S256x1} (hu : R2 u X) : R2 (broadcastTo S256x256 u broadcasts_S256x1_S256x256) (fun i _ => X i 0) := fun i j => by
  refine Eq.trans ?_ (hu i 0); pointwise

/-- A chunk's rows of a tile, and a row of a chunk. -/
theorem R2.slice_256_128 {o : ℕ} {u : V S256x128} (hu : R2 u X) (h : S256x128.Slices ![o, 0] S64x128) :
    R2 (extractStridedSlice S64x128 ![o, 0] u h) (fun i j => X (o + i) j) := fun i j => by
  have h0 : o + 64 ≤ 256 := h.2 0
  refine Eq.trans ?_ (hu ⟨o + i, by omega⟩ j); pointwise
theorem R2.slice_256_256 {o : ℕ} {u : V S256x256} (hu : R2 u X) (h : S256x256.Slices ![o, 0] S64x256) :
    R2 (extractStridedSlice S64x256 ![o, 0] u h) (fun i j => X (o + i) j) := fun i j => by
  have h0 : o + 64 ≤ 256 := h.2 0
  refine Eq.trans ?_ (hu ⟨o + i, by omega⟩ j); pointwise
theorem R2.mid {u : V S64x128} (hu : R2 u X) : R2 (vMid u) (fun _ j => X 32 j) := fun i j => by
  refine Eq.trans ?_ (hu 32 j); unfold vMid; pointwise
theorem R2.last {u : V S64x128} (hu : R2 u X) : R2 (vLast u) (fun _ j => X 63 j) := fun i j => by
  refine Eq.trans ?_ (hu 63 j); unfold vLast; pointwise

/-- Recasts of the body. -/
theorem R2.cast_256_256 {u : V S256x256} (hu : R2 u X) : R2 (shapeCast S256x256 u shapeCasts_S256x256_S256x256) X := fun i j => by
  refine Eq.trans ?_ (hu i j); pointwise
theorem R2.cast_1_256 {u : V S1x256} (hu : R2 u X) : R2 (shapeCast S1x256 u shapeCasts_S1x256_S1x256) X := fun i j => by
  refine Eq.trans ?_ (hu i j); pointwise
theorem R2.cast_1_128 {u : V S1x128} (hu : R2 u X) : R2 (shapeCast S1x128 u shapeCasts_S1x128_S1x128) X := fun i j => by
  refine Eq.trans ?_ (hu i j); pointwise
theorem R2.cast_16_128 {u : V S16x128} (hu : R2 u X) : R2 (shapeCast S16x128 u shapeCasts_S16x128_S16x128) X := fun i j => by
  refine Eq.trans ?_ (hu i j); pointwise
theorem R4.sp {X : ℕ → ℕ → ℕ → ℕ → ℝ} {u : V S1x1x256x128} (hu : R4 u X) : R2 (vSp u) (X 0 0) := fun i j => by
  refine Eq.trans ?_ (hu 0 0 i j); unfold vSp; pointwise
theorem R3.ds {X : ℕ → ℕ → ℕ → ℝ} {u : V S1x256x128} (hu : R3 u X) : R2 (vDs u) (X 0) := fun i j => by
  refine Eq.trans ?_ (hu 0 i j); unfold vDs; pointwise
theorem R2.up_64 {u : V S64x128} (hu : R2 u X) : R3 (shapeCast S1x64x128 u shapeCasts_S64x128_S1x64x128) (fun _ => X) := fun k i j => by
  refine Eq.trans ?_ (hu i j); pointwise
theorem R2.up_256 {u : V S256x128} (hu : R2 u X) : R3 (shapeCast S1x256x128 u shapeCasts_S256x128_S1x256x128) (fun _ => X) := fun k i j => by
  refine Eq.trans ?_ (hu i j); pointwise

/-- The causal mask. -/
theorem vMask_apply : ∀ i j : Fin 64, vMask (ix2 i j) = if j.val ≤ i.val then 1#1 else 0#1 := by
  have h : ∀ i j : Fin 64, (Scalar.cmpi .sle (BitVec.ofNat 32 j.val) (BitVec.ofNat 32 i.val)) = if j.val ≤ i.val then 1#1 else 0#1 := by decide +kernel
  intro i j
  refine Eq.trans ?_ (h i j)
  unfold vMask
  pointwise
  rfl
theorem vIsLast_apply (i : Fin 64) (j : Fin 128) : vIsLast (ix2 i j) = if i.val = 63 then 1#1 else 0#1 := by
  have h : ∀ i : Fin 64, (Scalar.cmpi .eq (BitVec.ofNat 32 i.val) 63#32) = if i.val = 63 then 1#1 else 0#1 := by decide +kernel
  refine Eq.trans ?_ (h i)
  unfold vIsLast
  pointwise
  rfl

/-- Keep the entries not after the row. -/
theorem R2.masked {u : V S64x64} (hu : R2 u X) : R2 (select vMask u (vC S64x64 0x00000000#32)) (fun i j => if j ≤ i then X i j else 0) := fun i j => by
  show (if vMask (ix2 i j) = 1#1 then u (ix2 i j) else (Scalar.ofBits .f32 0x00000000#32 : Ideal .f32)) = ((if j.val ≤ i.val then X i j else 0 : ℝ) : EReal)
  rw [vMask_apply, bits_zero]
  by_cases h : j.val ≤ i.val
  · rw [if_pos h, if_pos rfl, if_pos h]; exact hu i j
  · rw [if_neg h, if_neg (by decide), if_neg h]
theorem R2.atLast {u : V S64x128} (hu : R2 u X) : R2 (select vIsLast u (vC S64x128 0x00000000#32)) (fun i j => if i = 63 then X i j else 0) := fun i j => by
  show (if vIsLast (ix2 i j) = 1#1 then u (ix2 i j) else (Scalar.ofBits .f32 0x00000000#32 : Ideal .f32)) = ((if i.val = 63 then X i j else 0 : ℝ) : EReal)
  rw [vIsLast_apply, bits_zero]
  by_cases h : i.val = 63
  · rw [if_pos h, if_pos rfl, if_pos h]; exact hu i j
  · rw [if_neg h, if_neg (by decide), if_neg h]

/-- The chunk number of an index. -/
theorem cid_apply (x : IVec S256x256 32) (k : Fin 256) (y : S256x256.Idx) (h : x y = BitVec.ofNat 32 k.val) :
    vCid x y = BitVec.ofNat 32 (k.val / 64) := by
  have hh : ∀ k : Fin 256, vCid (fun _ => BitVec.ofNat 32 k.val) (ix2 0 0) = BitVec.ofNat 32 (k.val / 64) := by decide +kernel
  have := hh k
  rw [← this]
  show _ = _
  have e : ∀ w : BitVec 32, x y = w → vCid x y = vCid (fun _ => w) (ix2 0 0) := fun w hw => by subst hw; rfl
  exact e _ h

theorem vI0_apply (i j : Fin 256) : vI0 (ix2 i j) = BitVec.ofNat 32 i.val := by unfold vI0; pointwise
theorem vI1_apply (i j : Fin 256) : vI1 (ix2 i j) = BitVec.ofNat 32 j.val := by unfold vI1; pointwise
theorem tri_cond (i j : Fin 256) : (cmpi .eq (vCid vI0) (vCid vI1)) (ix2 i j) = if j.val / 64 = i.val / 64 then 1#1 else 0#1 := by
  have h : ∀ i j : Fin 4, (Scalar.cmpi .eq (BitVec.ofNat 32 i.val) (BitVec.ofNat 32 j.val)) = if j.val = i.val then 1#1 else 0#1 := by decide +kernel
  show Scalar.cmpi .eq (vCid vI0 (ix2 i j)) (vCid vI1 (ix2 i j)) = _
  rw [cid_apply vI0 i _ (vI0_apply i j), cid_apply vI1 j _ (vI1_apply i j)]
  exact h ⟨i.val / 64, by omega⟩ ⟨j.val / 64, by omega⟩
theorem le_cond : ∀ i j : Fin 256, (cmpi .sle vI1 vI0) (ix2 i j) = if j.val ≤ i.val then 1#1 else 0#1 := by
  have h : ∀ i j : Fin 256, (Scalar.cmpi .sle (BitVec.ofNat 32 j.val) (BitVec.ofNat 32 i.val)) = if j.val ≤ i.val then 1#1 else 0#1 := fun i j => by
    refine (Idealize.ShloMosaic.WordCmp.cmpi_sle_ofNat (by have := j.isLt; norm_num; omega) (by have := i.isLt; norm_num; omega)).trans ?_
    by_cases h : j.val ≤ i.val <;> simp [h]
  intro i j
  show Scalar.cmpi .sle (vI1 (ix2 i j)) (vI0 (ix2 i j)) = _
  rw [vI0_apply, vI1_apply]; exact h i j
theorem ge_cond : ∀ i j : Fin 256, (cmpi .sge vI1 vI0) (ix2 i j) = if i.val ≤ j.val then 1#1 else 0#1 := by
  have h : ∀ i j : Fin 256, (Scalar.cmpi .sge (BitVec.ofNat 32 j.val) (BitVec.ofNat 32 i.val)) = if i.val ≤ j.val then 1#1 else 0#1 := fun i j => by
    refine (Idealize.ShloMosaic.WordCmp.cmpi_sge_ofNat (by have := j.isLt; norm_num; omega) (by have := i.isLt; norm_num; omega)).trans ?_
    by_cases h : i.val ≤ j.val <;> simp [h]
  intro i j
  show Scalar.cmpi .sge (vI1 (ix2 i j)) (vI0 (ix2 i j)) = _
  rw [vI0_apply, vI1_apply]; exact h i j

/-- The triangles within the chunks. -/
theorem R2.triF : R2 vTriF (fun i j => if j / 64 = i / 64 ∧ j ≤ i then 1 else 0) := fun i j => by
  show (if IntOp.andi ((cmpi .eq (vCid vI0) (vCid vI1)) (ix2 i j)) ((cmpi .sle vI1 vI0) (ix2 i j)) = 1#1 then (Scalar.ofBits .f32 0x3F800000#32 : Ideal .f32)
    else (Scalar.ofBits .f32 0x00000000#32 : Ideal .f32)) = ((if j.val / 64 = i.val / 64 ∧ j.val ≤ i.val then 1 else 0 : ℝ) : EReal)
  rw [tri_cond, le_cond, bits_zero, bits_one]
  by_cases h : j.val / 64 = i.val / 64 <;> by_cases h' : j.val ≤ i.val <;> simp [h, h', IntOp.andi]
theorem R2.triB : R2 vTriB (fun i j => if j / 64 = i / 64 ∧ i ≤ j then 1 else 0) := fun i j => by
  show (if IntOp.andi ((cmpi .eq (vCid vI0) (vCid vI1)) (ix2 i j)) ((cmpi .sge vI1 vI0) (ix2 i j)) = 1#1 then (Scalar.ofBits .f32 0x3F800000#32 : Ideal .f32)
    else (Scalar.ofBits .f32 0x00000000#32 : Ideal .f32)) = ((if j.val / 64 = i.val / 64 ∧ i.val ≤ j.val then 1 else 0 : ℝ) : EReal)
  rw [tri_cond, ge_cond, bits_zero, bits_one]
  by_cases h : j.val / 64 = i.val / 64 <;> by_cases h' : i.val ≤ j.val <;> simp [h, h', IntOp.andi]

/-- Sums of a matrix's columns, as a row. -/
theorem R2.sumRows_256_128 {u : V S256x128} (hu : R2 u X) : R2 (shapeCast S1x128 (multiReduction .add [0] S128 u 0x00000000#32
    reduces_S256x128_S128 (.inl rfl) rfl) shapeCasts_S128_S1x128) (fun _ j => ∑ i ∈ range 256, X i j) := fun i j => by
  rw [← coe_sum_fin 256 (fun i => X i j)]
  refine Eq.trans ?_ (Finset.sum_congr rfl fun k _ => hu k j)
  pointwise
theorem R2.sumRows_64_128 {u : V S64x128} (hu : R2 u X) : R2 (shapeCast S1x128 (multiReduction .add [0] S128 u 0x00000000#32
    reduces_S64x128_S128 (.inl rfl) rfl) shapeCasts_S128_S1x128) (fun _ j => ∑ i ∈ range 64, X i j) := fun i j => by
  rw [← coe_sum_fin 64 (fun i => X i j)]
  refine Eq.trans ?_ (Finset.sum_congr rfl fun k _ => hu k j)
  pointwise
theorem R2.sumRows_256_256 {u : V S256x256} (hu : R2 u X) : R2 (shapeCast S1x256 (multiReduction .add [0] S256 u 0x00000000#32
    reduces_S256x256_S256_2 (.inl rfl) rfl) shapeCasts_S256_S1x256) (fun _ j => ∑ i ∈ range 256, X i j) := fun i j => by
  rw [← coe_sum_fin 256 (fun i => X i j)]
  refine Eq.trans ?_ (Finset.sum_congr rfl fun k _ => hu k j)
  pointwise
/-- Sums of a matrix's rows, as a column. -/
theorem R2.sumCols_256_256 {u : V S256x256} (hu : R2 u X) : R2 (shapeCast S256x1 (multiReduction .add [1] S256 u 0x00000000#32
    reduces_S256x256_S256 (.inl rfl) rfl) shapeCasts_S256_S256x1) (fun i _ => ∑ j ∈ range 256, X i j) := fun i j => by
  rw [← coe_sum_fin 256 (fun j => X i j)]
  refine Eq.trans ?_ (Finset.sum_congr rfl fun k _ => hu i k)
  pointwise
end Shapes

section Products
variable {φ ψ : FTy} {X Y : ℕ → ℕ → ℝ}

theorem R2.nn_S256x16_S16x128 {u : VB S256x16} {v : VB S16x128} (hu : R2 u X) (hv : R2 v Y) :
    R2 (matmul dot_S256x16_S16x128_S256x128_1_0_0_1_n_n none u v (constant (F := Ideal) S256x128 .f32 0x00000000#32)) (fun i j => ∑ k ∈ range 16, X i k * Y k j) := fun i j => by
  rw [← coe_sum_fin 16 (fun k => X i k * Y k j)]
  refine Eq.trans ?_ (Finset.sum_congr rfl fun k _ => (congrArg₂ (· * ·) (hu i k) (hv k j)).trans (EReal.coe_mul _ _).symm)
  pointwise

theorem R2.nn_S256x256_S256x128 {u : VB S256x256} {v : VB S256x128} (hu : R2 u X) (hv : R2 v Y) :
    R2 (matmul dot_S256x256_S256x128_S256x128_1_0_0_1_n_n none u v (constant (F := Ideal) S256x128 .f32 0x00000000#32)) (fun i j => ∑ k ∈ range 256, X i k * Y k j) := fun i j => by
  rw [← coe_sum_fin 256 (fun k => X i k * Y k j)]
  refine Eq.trans ?_ (Finset.sum_congr rfl fun k _ => (congrArg₂ (· * ·) (hu i k) (hv k j)).trans (EReal.coe_mul _ _).symm)
  pointwise

theorem R2.nn_S64x256_S256x128 {u : VB S64x256} {v : VB S256x128} (hu : R2 u X) (hv : R2 v Y) :
    R2 (matmul dot_S64x256_S256x128_S64x128_1_0_0_1_n_n none u v (constant (F := Ideal) S64x128 .f32 0x00000000#32)) (fun i j => ∑ k ∈ range 256, X i k * Y k j) := fun i j => by
  rw [← coe_sum_fin 256 (fun k => X i k * Y k j)]
  refine Eq.trans ?_ (Finset.sum_congr rfl fun k _ => (congrArg₂ (· * ·) (hu i k) (hv k j)).trans (EReal.coe_mul _ _).symm)
  pointwise

theorem R2.nn_S64x64_S64x128 {u : VB S64x64} {v : VB S64x128} (hu : R2 u X) (hv : R2 v Y) :
    R2 (matmul dot_S64x64_S64x128_S64x128_1_0_0_1_n_n none u v (constant (F := Ideal) S64x128 .f32 0x00000000#32)) (fun i j => ∑ k ∈ range 64, X i k * Y k j) := fun i j => by
  rw [← coe_sum_fin 64 (fun k => X i k * Y k j)]
  refine Eq.trans ?_ (Finset.sum_congr rfl fun k _ => (congrArg₂ (· * ·) (hu i k) (hv k j)).trans (EReal.coe_mul _ _).symm)
  pointwise

theorem R2.tn_S64x64_S64x128 {u : VB S64x64} {v : VB S64x128} (hu : R2 u X) (hv : R2 v Y) :
    R2 (matmul dot_S64x64_S64x128_S64x128_0_0_1_1_n_n none u v (constant (F := Ideal) S64x128 .f32 0x00000000#32)) (fun i j => ∑ k ∈ range 64, X k i * Y k j) := fun i j => by
  rw [← coe_sum_fin 64 (fun k => X k i * Y k j)]
  refine Eq.trans ?_ (Finset.sum_congr rfl fun k _ => (congrArg₂ (· * ·) (hu k i) (hv k j)).trans (EReal.coe_mul _ _).symm)
  pointwise

theorem R2.tn_S64x64_S64x256 {u : VB S64x64} {v : VB S64x256} (hu : R2 u X) (hv : R2 v Y) :
    R2 (matmul dot_S64x64_S64x256_S64x256_0_0_1_1_n_n none u v (constant (F := Ideal) S64x256 .f32 0x00000000#32)) (fun i j => ∑ k ∈ range 64, X k i * Y k j) := fun i j => by
  rw [← coe_sum_fin 64 (fun k => X k i * Y k j)]
  refine Eq.trans ?_ (Finset.sum_congr rfl fun k _ => (congrArg₂ (· * ·) (hu k i) (hv k j)).trans (EReal.coe_mul _ _).symm)
  pointwise

theorem R2.tn_S64x256_S64x128 {u : VB S64x256} {v : VB S64x128} (hu : R2 u X) (hv : R2 v Y) :
    R2 (matmul dot_S64x256_S64x128_S256x128_0_0_1_1_n_n none u v (constant (F := Ideal) S256x128 .f32 0x00000000#32)) (fun i j => ∑ k ∈ range 64, X k i * Y k j) := fun i j => by
  rw [← coe_sum_fin 64 (fun k => X k i * Y k j)]
  refine Eq.trans ?_ (Finset.sum_congr rfl fun k _ => (congrArg₂ (· * ·) (hu k i) (hv k j)).trans (EReal.coe_mul _ _).symm)
  pointwise

theorem R2.tn_S256x16_S256x128 {u : VB S256x16} {v : VB S256x128} (hu : R2 u X) (hv : R2 v Y) :
    R2 (matmul dot_S256x16_S256x128_S16x128_0_0_1_1_n_n none u v (constant (F := Ideal) S16x128 .f32 0x00000000#32)) (fun i j => ∑ k ∈ range 256, X k i * Y k j) := fun i j => by
  rw [← coe_sum_fin 256 (fun k => X k i * Y k j)]
  refine Eq.trans ?_ (Finset.sum_congr rfl fun k _ => (congrArg₂ (· * ·) (hu k i) (hv k j)).trans (EReal.coe_mul _ _).symm)
  pointwise

theorem R2.nt_S64x128_S64x128 {u : VB S64x128} {v : VB S64x128} (hu : R2 u X) (hv : R2 v Y) :
    R2 (matmul dot_S64x128_S64x128_S64x64_1_1_0_0_n_n none u v (constant (F := Ideal) S64x64 .f32 0x00000000#32)) (fun i j => ∑ k ∈ range 128, X i k * Y j k) := fun i j => by
  rw [← coe_sum_fin 128 (fun k => X i k * Y j k)]
  refine Eq.trans ?_ (Finset.sum_congr rfl fun k _ => (congrArg₂ (· * ·) (hu i k) (hv j k)).trans (EReal.coe_mul _ _).symm)
  pointwise

theorem R2.nt_S64x256_S64x256 {u : VB S64x256} {v : VB S64x256} (hu : R2 u X) (hv : R2 v Y) :
    R2 (matmul dot_S64x256_S64x256_S64x64_1_1_0_0_n_n none u v (constant (F := Ideal) S64x64 .f32 0x00000000#32)) (fun i j => ∑ k ∈ range 256, X i k * Y j k) := fun i j => by
  rw [← coe_sum_fin 256 (fun k => X i k * Y j k)]
  refine Eq.trans ?_ (Finset.sum_congr rfl fun k _ => (congrArg₂ (· * ·) (hu i k) (hv j k)).trans (EReal.coe_mul _ _).symm)
  pointwise

theorem R2.nt_S64x128_S256x128 {u : VB S64x128} {v : VB S256x128} (hu : R2 u X) (hv : R2 v Y) :
    R2 (matmul dot_S64x128_S256x128_S64x256_1_1_0_0_n_n none u v (constant (F := Ideal) S64x256 .f32 0x00000000#32)) (fun i j => ∑ k ∈ range 128, X i k * Y j k) := fun i j => by
  rw [← coe_sum_fin 128 (fun k => X i k * Y j k)]
  refine Eq.trans ?_ (Finset.sum_congr rfl fun k _ => (congrArg₂ (· * ·) (hu i k) (hv j k)).trans (EReal.coe_mul _ _).symm)
  pointwise

theorem R2.nt_S256x128_S16x128 {u : VB S256x128} {v : VB S16x128} (hu : R2 u X) (hv : R2 v Y) :
    R2 (matmul dot_S256x128_S16x128_S256x16_1_1_0_0_n_n none u v (constant (F := Ideal) S256x16 .f32 0x00000000#32)) (fun i j => ∑ k ∈ range 128, X i k * Y j k) := fun i j => by
  rw [← coe_sum_fin 128 (fun k => X i k * Y j k)]
  refine Eq.trans ?_ (Finset.sum_congr rfl fun k _ => (congrArg₂ (· * ·) (hu i k) (hv j k)).trans (EReal.coe_mul _ _).symm)
  pointwise

end Products

end Cert.Gla

end
-- ==== Proof.Real.lean ====
/- The gradient of gated linear attention over real numbers, one head at a time. Tokens, feature columns and value columns
   are natural numbers; `q`, `k`, `a` (the logarithm of the decay) have 128 columns, `v` and `d` (the gradient of the
   output) 256. The whole gradient is written over the sequence of 4096 tokens as one chunk; the theorems say that what the
   kernel adds up over 64 chunks of 64 tokens, with a state between them, is the same. -/
module

public import Mathlib.Algebra.BigOperators.Intervals
public import Mathlib.Analysis.SpecialFunctions.Exponential
public import Mathlib.Tactic.Ring
public import Mathlib.Tactic.Linarith

@[expose] public section

noncomputable section

namespace Cert.Gla

open Finset (range Ico)

/-- The sum of the decays' logarithms of the first `n` tokens. -/
def pre (a : ℕ → ℕ → ℝ) (n x : ℕ) : ℝ := ∑ j ∈ range n, a j x

section
variable (q k v d a : ℕ → ℕ → ℝ)

/-- The factor that token `j`'s key has decayed by at token `i`. -/
def dec (i j x : ℕ) : ℝ := Real.exp (pre a (i + 1) x - pre a (j + 1) x)
/-- The attention weight of token `j` at token `i`. -/
def att (i j : ℕ) : ℝ := ∑ x ∈ range 128, q i x * (k j x * dec a i j x)
/-- The weight's gradient. -/
def bt (i j : ℕ) : ℝ := ∑ e ∈ range 256, d i e * v j e
/-- One column's share of the weight times its gradient. -/
def wt (i j x : ℕ) : ℝ := bt v d i j * (q i x * (k j x * dec a i j x))
/-- The values' gradient. -/
def gV (j e : ℕ) : ℝ := ∑ i ∈ Ico j 4096, att q k a i j * d i e
/-- The (scaled) queries' gradient. -/
def gQ (i x : ℕ) : ℝ := ∑ j ∈ range (i + 1), bt v d i j * (k j x * dec a i j x)
/-- The keys' gradient. -/
def gK (j x : ℕ) : ℝ := ∑ i ∈ Ico j 4096, bt v d i j * (q i x * dec a i j x)
/-- The gradient of the sums of the decays' logarithms. -/
def gG (i x : ℕ) : ℝ := ∑ j ∈ range (i + 1), wt q k v d a i j x - ∑ n ∈ Ico i 4096, wt q k v d a n i x
/-- The gradient of the decays' logarithms. -/
def gA (i x : ℕ) : ℝ := ∑ n ∈ Ico i 4096, gG q k v d a n x
/-- The state before token `m`. -/
def st (m e x : ℕ) : ℝ := ∑ j ∈ range m, k j x * Real.exp (pre a m x - pre a (j + 1) x) * v j e
/-- The state's gradient at token `m`, from the tokens after. -/
def dst (m e x : ℕ) : ℝ := ∑ i ∈ Ico m 4096, d i e * (q i x * Real.exp (pre a (i + 1) x - pre a m x))
/-- The sums' gradient as the kernel holds it: a chunk's last token takes all that comes after. -/
def gC (i x : ℕ) : ℝ := gG q k v d a i x + if i % 64 = 63 then gA q k v d a (i + 1) x else 0
end

/-- A sum from `m` on, split after `l` terms. -/
theorem split {m l n : ℕ} (h : m + l ≤ n) (f : ℕ → ℝ) :
    ∑ i ∈ Ico m n, f i = ∑ i ∈ range l, f (m + i) + ∑ i ∈ Ico (m + l) n, f i := by
  rw [← Finset.sum_Ico_consecutive f (Nat.le_add_right m l) h, Finset.sum_Ico_eq_sum_range]
  simp

/-- A sum of the rows from `j` on of a chunk, as a masked sum over the chunk. -/
theorem mask_ge (j : ℕ) (hj : j < 64) (f : ℕ → ℝ) :
    ∑ i ∈ range 64, (if j ≤ i then f i else 0) = ∑ i ∈ Ico j 64, f i := by
  rw [← Finset.sum_filter]
  congr 1
  ext i; simp [and_comm]
/-- A sum of the rows up to `i` of a chunk, as a masked sum over the chunk. -/
theorem mask_le (i : ℕ) (hi : i < 64) (f : ℕ → ℝ) :
    ∑ j ∈ range 64, (if j ≤ i then f j else 0) = ∑ j ∈ range (i + 1), f j := by
  rw [← Finset.sum_filter]
  congr 1
  ext j; simp; omega

/-- From row `j` of chunk `L` on: the chunk's rows, then the rest. -/
theorem split_ge {L j : ℕ} (hj : j < 64) (hL : L + 64 ≤ 4096) (f : ℕ → ℝ) :
    ∑ i ∈ Ico (L + j) 4096, f i = ∑ i ∈ range 64, (if j ≤ i then f (L + i) else 0) + ∑ i ∈ Ico (L + 64) 4096, f i := by
  rw [mask_ge j hj, ← Finset.sum_Ico_consecutive f (show L + j ≤ L + 64 by omega) hL]
  congr 1
  have e := Finset.sum_Ico_add' f j 64 L
  rw [add_comm L j, add_comm L 64, ← e]
  exact Finset.sum_congr rfl fun i _ => by rw [add_comm]
/-- Up to row `i` of chunk `L`: the rows before the chunk, then the chunk's. -/
theorem split_le {L i : ℕ} (hi : i < 64) (f : ℕ → ℝ) :
    ∑ j ∈ range (L + i + 1), f j = ∑ j ∈ range L, f j + ∑ j ∈ range 64, (if j ≤ i then f (L + j) else 0) := by
  rw [mask_le i hi, add_assoc, Finset.sum_range_add]

section
variable (q k v d a : ℕ → ℕ → ℝ)

theorem pre_add (L i x : ℕ) : pre a (L + i) x = pre a L x + ∑ j ∈ range i, a (L + j) x := Finset.sum_range_add _ _ _

/-- The chunk's own sums, as the kernel's triangle adds them up. -/
theorem gcum_eq (T i x : ℕ) (hi : i < 256) :
    ∑ j ∈ range 256, (if j / 64 = i / 64 ∧ j ≤ i then (1 : ℝ) else 0) * a (256 * T + j) x
      = pre a (256 * T + i + 1) x - pre a (256 * T + i / 64 * 64) x := by
  have h : 256 * T + i + 1 = (256 * T + i / 64 * 64) + (i % 64 + 1) := by omega
  rw [h, pre_add, add_sub_cancel_left]
  simp only [ite_mul, one_mul, zero_mul]
  rw [← Finset.sum_filter]
  refine (Finset.sum_nbij (fun j => i / 64 * 64 + j) ?_ ?_ ?_ ?_).symm
  · intro j hj
    simp only [Finset.mem_range, Finset.mem_filter] at hj ⊢
    omega
  · intro j _ j' _ h
    simpa using h
  · intro j hj
    simp only [Finset.coe_filter, Finset.mem_range, Set.mem_setOf_eq, Finset.coe_range, Set.mem_image, Set.mem_Iio] at hj ⊢
    exact ⟨j - i / 64 * 64, by omega, by omega⟩
  · intro j _
    rw [add_assoc]

/-- The gradient of the decays' logarithms, as the kernel's reversed triangle adds it up. -/
theorem rcum_eq (T i x : ℕ) (hi : i < 256) (hT : 256 * T + 256 ≤ 4096) :
    ∑ j ∈ range 256, (if j / 64 = i / 64 ∧ i ≤ j then (1 : ℝ) else 0) * gC q k v d a (256 * T + j) x
      = gA q k v d a (256 * T + i) x := by
  have hs : (256 * T + i) + (64 - i % 64) ≤ 4096 := by omega
  rw [gA, split hs]
  simp only [ite_mul, one_mul, zero_mul]
  rw [← Finset.sum_filter]
  have e : ∑ j ∈ (range 256).filter (fun j => j / 64 = i / 64 ∧ i ≤ j), gC q k v d a (256 * T + j) x
      = ∑ j ∈ range (64 - i % 64), gC q k v d a (256 * T + i + j) x := by
    refine (Finset.sum_nbij (fun j => i + j) ?_ ?_ ?_ ?_).symm
    · intro j hj
      simp only [Finset.mem_range, Finset.mem_filter] at hj ⊢
      omega
    · intro j _ j' _ h
      simpa using h
    · intro j hj
      simp only [Finset.coe_filter, Finset.mem_range, Set.mem_setOf_eq, Finset.coe_range, Set.mem_image, Set.mem_Iio] at hj ⊢
      exact ⟨j - i, by omega, by omega⟩
    · intro j _
      rw [add_assoc]
  rw [e]
  simp only [gC]
  rw [Finset.sum_add_distrib]
  congr 1
  rw [Finset.sum_eq_single (63 - i % 64)]
  · rw [if_pos (by omega), gA]
    congr 2; omega
  · intro j hj hne
    rw [if_neg]
    simp only [Finset.mem_range] at hj
    omega
  · intro h
    exact absurd (Finset.mem_range.mpr (by omega)) h

/-- The sums of chunk `L`, from the chunk's start. -/
def cg (L i x : ℕ) : ℝ := pre a (L + i + 1) x - pre a L x

variable (L : ℕ) (hL : L + 64 ≤ 4096)

theorem cg63 (x : ℕ) : cg a L 63 x = pre a (L + 64) x - pre a L x := rfl

/-- The attention weights, through the middle row. -/
theorem attn_eq (i j : ℕ) : ∑ x ∈ range 128, (q (L + i) x * Real.exp (cg a L i x - cg a L 32 x)) *
    (k (L + j) x * Real.exp (cg a L 32 x - cg a L j x)) = att q k a (L + i) (L + j) := by
  refine Finset.sum_congr rfl fun x _ => ?_
  have e : Real.exp (cg a L i x - cg a L 32 x) * Real.exp (cg a L 32 x - cg a L j x) = dec a (L + i) (L + j) x := by
    rw [dec, ← Real.exp_add]; congr 1; unfold cg; ring
  linear_combination (q (L + i) x * k (L + j) x) * e

include hL in
/-- The values' gradients: the chunk's part and the state's. -/
theorem dv_eq (j e : ℕ) (hj : j < 64) :
    ∑ i ∈ range 64, (if j ≤ i then att q k a (L + i) (L + j) else 0) * d (L + i) e +
      ∑ x ∈ range 128, (k (L + j) x * Real.exp (cg a L 63 x - cg a L j x)) * dst q d a (L + 64) e x = gV q k d a (L + j) e := by
  rw [gV, split_ge hj hL]
  congr 1
  · exact Finset.sum_congr rfl fun i _ => by rw [ite_mul, zero_mul]
  · simp only [dst, att, Finset.mul_sum, Finset.sum_mul]
    rw [Finset.sum_comm]
    refine Finset.sum_congr rfl fun i _ => Finset.sum_congr rfl fun x _ => ?_
    have h : Real.exp (cg a L 63 x - cg a L j x) * Real.exp (pre a (i + 1) x - pre a (L + 64) x) = dec a i (L + j) x := by
      rw [dec, ← Real.exp_add]; congr 1; rw [cg63]; unfold cg; ring
    linear_combination (k (L + j) x * d i e * q i x) * h

/-- The queries' gradients through the state. -/
theorem q1_eq (i x : ℕ) : (∑ e ∈ range 256, d (L + i) e * st k v a L e x) * Real.exp (cg a L i x)
    = ∑ j ∈ range L, bt v d (L + i) j * (k j x * dec a (L + i) j x) := by
  simp only [st, bt, Finset.mul_sum, Finset.sum_mul]
  rw [Finset.sum_comm]
  refine Finset.sum_congr rfl fun j _ => Finset.sum_congr rfl fun e _ => ?_
  have h : Real.exp (pre a L x - pre a (j + 1) x) * Real.exp (cg a L i x) = dec a (L + i) j x := by
    rw [dec, ← Real.exp_add]; congr 1; unfold cg; ring
  linear_combination (d (L + i) e * k j x * v j e) * h
/-- The queries' gradients within the chunk. -/
theorem q2_eq (i x : ℕ) : (∑ j ∈ range 64, (if j ≤ i then bt v d (L + i) (L + j) else 0) *
      (k (L + j) x * Real.exp (cg a L 32 x - cg a L j x))) * Real.exp (cg a L i x - cg a L 32 x)
    = ∑ j ∈ range 64, if j ≤ i then bt v d (L + i) (L + j) * (k (L + j) x * dec a (L + i) (L + j) x) else 0 := by
  rw [Finset.sum_mul]
  refine Finset.sum_congr rfl fun j _ => ?_
  have h : Real.exp (cg a L 32 x - cg a L j x) * Real.exp (cg a L i x - cg a L 32 x) = dec a (L + i) (L + j) x := by
    rw [dec, ← Real.exp_add]; congr 1; unfold cg; ring
  split_ifs
  · linear_combination (bt v d (L + i) (L + j) * k (L + j) x) * h
  · ring
theorem dq_eq (i x : ℕ) (hi : i < 64) : (∑ e ∈ range 256, d (L + i) e * st k v a L e x) * Real.exp (cg a L i x) +
      (∑ j ∈ range 64, (if j ≤ i then bt v d (L + i) (L + j) else 0) *
      (k (L + j) x * Real.exp (cg a L 32 x - cg a L j x))) * Real.exp (cg a L i x - cg a L 32 x) = gQ k v d a (L + i) x := by
  rw [q1_eq, q2_eq, gQ, split_le hi]

/-- The keys' gradients within the chunk. -/
theorem k1_eq (j x : ℕ) : (∑ i ∈ range 64, (if j ≤ i then bt v d (L + i) (L + j) else 0) *
      (q (L + i) x * Real.exp (cg a L i x - cg a L 32 x))) * Real.exp (cg a L 32 x - cg a L j x)
    = ∑ i ∈ range 64, if j ≤ i then bt v d (L + i) (L + j) * (q (L + i) x * dec a (L + i) (L + j) x) else 0 := by
  rw [Finset.sum_mul]
  refine Finset.sum_congr rfl fun i _ => ?_
  have h : Real.exp (cg a L 32 x - cg a L j x) * Real.exp (cg a L i x - cg a L 32 x) = dec a (L + i) (L + j) x := by
    rw [dec, ← Real.exp_add]; congr 1; unfold cg; ring
  split_ifs
  · linear_combination (bt v d (L + i) (L + j) * q (L + i) x) * h
  · ring
/-- The keys' gradients through the state. -/
theorem k2_eq (j x : ℕ) : (∑ e ∈ range 256, v (L + j) e * dst q d a (L + 64) e x) * Real.exp (cg a L 63 x - cg a L j x)
    = ∑ i ∈ Ico (L + 64) 4096, bt v d i (L + j) * (q i x * dec a i (L + j) x) := by
  simp only [dst, bt, Finset.mul_sum, Finset.sum_mul]
  rw [Finset.sum_comm]
  refine Finset.sum_congr rfl fun i _ => Finset.sum_congr rfl fun e _ => ?_
  have h : Real.exp (cg a L 63 x - cg a L j x) * Real.exp (pre a (i + 1) x - pre a (L + 64) x) = dec a i (L + j) x := by
    rw [dec, ← Real.exp_add]; congr 1; rw [cg63]; unfold cg; ring
  linear_combination (v (L + j) e * d i e * q i x) * h
include hL in
theorem dk_eq (j x : ℕ) (hj : j < 64) : (∑ i ∈ range 64, (if j ≤ i then bt v d (L + i) (L + j) else 0) *
      (q (L + i) x * Real.exp (cg a L i x - cg a L 32 x))) * Real.exp (cg a L 32 x - cg a L j x) +
      (∑ e ∈ range 256, v (L + j) e * dst q d a (L + 64) e x) * Real.exp (cg a L 63 x - cg a L j x) = gK q v d a (L + j) x := by
  rw [k1_eq, k2_eq, gK, split_ge hj hL]

/-- The sums' gradient from the queries' and the keys'. -/
theorem gG_eq (i x : ℕ) : gG q k v d a i x = q i x * gQ k v d a i x - k i x * gK q v d a i x := by
  simp only [gG, gQ, gK, wt, Finset.mul_sum]
  congr 1
  · exact Finset.sum_congr rfl fun j _ => by ring
  · exact Finset.sum_congr rfl fun j _ => by ring

/-- What comes after token `m` depends on what lies before it. -/
theorem gA_eq (m x : ℕ) : gA q k v d a m x = ∑ n ∈ Ico m 4096, ∑ j ∈ range m, wt q k v d a n j x := by
  simp only [gA, gG, Finset.sum_sub_distrib]
  have h1 : ∀ n ∈ Ico m 4096, ∑ j ∈ range (n + 1), wt q k v d a n j x
      = ∑ j ∈ range m, wt q k v d a n j x + ∑ j ∈ Ico m (n + 1), wt q k v d a n j x := fun n hn =>
    (Finset.sum_range_add_sum_Ico _ (by have := (Finset.mem_Ico.mp hn).1; omega)).symm
  rw [Finset.sum_congr rfl h1, Finset.sum_add_distrib, add_sub_assoc]
  have h2 : ∑ n ∈ Ico m 4096, ∑ j ∈ Ico m (n + 1), wt q k v d a n j x = ∑ j ∈ Ico m 4096, ∑ n ∈ Ico j 4096, wt q k v d a n j x :=
    Finset.sum_comm' (by intro n j; simp only [Finset.mem_Ico]; omega)
  rw [h2, sub_self, add_zero]

/-- The gradient of the chunk's last sum that comes from the tokens after. -/
theorem dgl_eq (x : ℕ) : ∑ j ∈ range 64, (∑ e ∈ range 256, v (L + j) e * dst q d a (L + 64) e x) *
      (k (L + j) x * Real.exp (cg a L 63 x - cg a L j x)) +
      (∑ e ∈ range 256, dst q d a (L + 64) e x * st k v a L e x) * Real.exp (cg a L 63 x) = gA q k v d a (L + 64) x := by
  rw [gA_eq]
  simp only [Finset.sum_range_add, Finset.sum_add_distrib]
  rw [add_comm]
  congr 1
  · simp only [st, dst, wt, bt, Finset.mul_sum, Finset.sum_mul]
    rw [Finset.sum_comm]
    rw [Finset.sum_comm (s := Ico (L + 64) 4096)]
    refine Finset.sum_congr rfl fun j _ => ?_
    rw [Finset.sum_comm]
    refine Finset.sum_congr rfl fun i _ => Finset.sum_congr rfl fun e _ => ?_
    have h : Real.exp (pre a (i + 1) x - pre a (L + 64) x) * Real.exp (pre a L x - pre a (j + 1) x) * Real.exp (cg a L 63 x)
        = dec a i j x := by
      rw [dec, ← Real.exp_add, ← Real.exp_add]; congr 1; rw [cg63]; ring
    linear_combination (d i e * q i x * k j x * v j e) * h
  · rw [Finset.sum_comm (s := Ico (L + 64) 4096)]
    refine Finset.sum_congr rfl fun j _ => ?_
    have h := k2_eq q v d a L j x
    rw [show ∀ A B C : ℝ, A * (B * C) = B * (A * C) by intros; ring, h, Finset.mul_sum]
    exact Finset.sum_congr rfl fun i _ => by rw [wt]; ring

include hL in
/-- The sums' gradients, with the last row's extra. -/
theorem dg_eq (hd : L % 64 = 0) (i x : ℕ) (hi : i < 64) :
    (∑ e ∈ range 256, d (L + i) e * st k v a L e x) * (q (L + i) x * Real.exp (cg a L i x)) +
      (∑ j ∈ range 64, (if j ≤ i then bt v d (L + i) (L + j) else 0) * (k (L + j) x * Real.exp (cg a L 32 x - cg a L j x))) *
        (q (L + i) x * Real.exp (cg a L i x - cg a L 32 x)) -
      (∑ n ∈ range 64, (if i ≤ n then bt v d (L + n) (L + i) else 0) * (q (L + n) x * Real.exp (cg a L n x - cg a L 32 x))) *
        (k (L + i) x * Real.exp (cg a L 32 x - cg a L i x)) -
      (∑ e ∈ range 256, v (L + i) e * dst q d a (L + 64) e x) * (k (L + i) x * Real.exp (cg a L 63 x - cg a L i x)) +
      (if i = 63 then gA q k v d a (L + 64) x else 0) = gC q k v d a (L + i) x := by
  rw [gC, gG_eq, ← dq_eq k v d a L i x hi, ← dk_eq q v d a L hL i x hi]
  have h : (if i = 63 then gA q k v d a (L + 64) x else 0) = if (L + i) % 64 = 63 then gA q k v d a (L + i + 1) x else 0 := by
    by_cases h : i = 63
    · subst h; rw [if_pos rfl, if_pos (by omega)]
    · rw [if_neg h, if_neg (by omega)]
  rw [h]; ring

include hL in
/-- The state's gradient at the chunk's start from that at its end. -/
theorem ds_eq (e x : ℕ) : dst q d a (L + 64) e x * Real.exp (cg a L 63 x) +
      ∑ i ∈ range 64, d (L + i) e * (q (L + i) x * Real.exp (cg a L i x)) = dst q d a L e x := by
  rw [add_comm]
  conv_rhs => rw [dst, split hL]
  congr 1
  rw [dst, Finset.sum_mul]
  refine Finset.sum_congr rfl fun i _ => ?_
  have h : Real.exp (pre a (i + 1) x - pre a (L + 64) x) * Real.exp (cg a L 63 x) = Real.exp (pre a (i + 1) x - pre a L x) := by
    rw [← Real.exp_add]; congr 1; rw [cg63]; ring
  linear_combination (d i e * q i x) * h

end

end Cert.Gla

end
-- ==== Proof.Chunk.lean ====
/- What one chunk of one head computes, as real numbers: given that the chunk's vectors hold the head's queries, keys,
   values, output gradients and sums at offset `L`, the state before it and the state's gradient after it, every vector
   function of the chunk holds the gradient of the whole sequence at that offset. -/
module

public import proofs.«01_k».proof.Proof.Is
public import proofs.«01_k».proof.Proof.Real

@[expose] public section

set_option maxRecDepth 16384

noncomputable section

namespace Cert.Gla

open Idealize.ShloMosaic Idealize.ShloMosaic.TcCoe Idealize.SL.Sem
open Cert.KernelIdeal Cert.KernelIdeal.Gen
open Finset (range)

section
variable {q k v d a : ℕ → ℕ → ℝ} {L : ℕ}
variable {gv qv kv : V S64x128} {dv vv : V S64x256} {sp : V S1x1x256x128} {ds : V S1x256x128}

/-- The chunk's vectors hold the head's numbers. -/
structure Chunk (q k v d a : ℕ → ℕ → ℝ) (L : ℕ) (gv qv kv : V S64x128) (dv vv : V S64x256) (sp : V S1x1x256x128)
    (ds : V S1x256x128) : Prop where
  hL : L + 64 ≤ 4096
  hm : L % 64 = 0
  hg : R2 gv (cg a L)
  hq : R2 qv (fun i x => q (L + i) x)
  hk : R2 kv (fun i x => k (L + i) x)
  hd : R2 dv (fun i e => d (L + i) e)
  hv : R2 vv (fun i e => v (L + i) e)
  hsp : R4 sp (fun _ _ e x => st k v a L e x)
  hds : R3 ds (fun _ e x => dst q d a (L + 64) e x)

theorem R2.eq (h : R2 gv (cg a L)) : R2 (vEq gv) (fun i x => Real.exp (cg a L i x - cg a L 32 x)) := (h.sub h.mid.row_64_128).exp
theorem R2.ek (h : R2 gv (cg a L)) : R2 (vEk gv) (fun i x => Real.exp (cg a L 32 x - cg a L i x)) := (h.mid.row_64_128.sub h).exp
theorem R2.ekd (h : R2 gv (cg a L)) : R2 (vEkd gv) (fun i x => Real.exp (cg a L 63 x - cg a L i x)) := (h.last.row_64_128.sub h).exp
theorem R2.egl (h : R2 gv (cg a L)) : R2 (vEgl gv) (fun _ x => Real.exp (cg a L 63 x)) := h.last.exp

namespace Chunk
variable (C : Chunk q k v d a L gv qv kv dv vv sp ds)
include C

theorem attn : R2 (vAttn gv qv kv) (fun i j => if j ≤ i then att q k a (L + i) (L + j) else 0) :=
  (R2.nt_S64x128_S64x128 (C.hq.mul C.hg.eq).trunc (C.hk.mul C.hg.ek).trunc).masked.congr fun i _ j _ => by
    rw [attn_eq]
theorem dattn : R2 (vDattn dv vv) (fun i j => if j ≤ i then bt v d (L + i) (L + j) else 0) :=
  (R2.nt_S64x256_S64x256 C.hd.trunc C.hv.trunc).masked
theorem dqg : R2 (vDqg dv sp) (fun i x => ∑ e ∈ range 256, d (L + i) e * st k v a L e x) :=
  R2.nn_S64x256_S256x128 C.hd.trunc C.hsp.sp.trunc
theorem dqt : R2 (vDqt gv kv dv vv) (fun i x => ∑ j ∈ range 64, (if j ≤ i then bt v d (L + i) (L + j) else 0) *
      (k (L + j) x * Real.exp (cg a L 32 x - cg a L j x))) :=
  R2.nn_S64x64_S64x128 C.dattn.trunc (C.hk.mul C.hg.ek).trunc
theorem dkt : R2 (vDkt gv qv dv vv) (fun j x => ∑ i ∈ range 64, (if j ≤ i then bt v d (L + i) (L + j) else 0) *
      (q (L + i) x * Real.exp (cg a L i x - cg a L 32 x))) :=
  R2.tn_S64x64_S64x128 C.dattn.trunc (C.hq.mul C.hg.eq).trunc
theorem dkd : R2 (vDkd vv ds) (fun j x => ∑ e ∈ range 256, v (L + j) e * dst q d a (L + 64) e x) :=
  R2.nn_S64x256_S256x128 C.hv.trunc C.hds.ds.trunc

/-- The values' gradients. -/
theorem rdv : R2 (vDv gv qv kv dv ds) (fun j e => gV q k d a (L + j) e) :=
  R2.trunc (((R2.tn_S64x64_S64x256 C.attn.trunc C.hd.trunc).add
    (R2.nt_S64x128_S256x128 (C.hk.mul C.hg.ekd).trunc C.hds.ds.trunc)).congr fun j hj e _ => dv_eq q k d a L C.hL j e hj)
/-- The queries' gradients. -/
theorem rdq : R2 (vDq gv kv dv vv sp) (fun i x => sc * gQ k v d a (L + i) x) :=
  R2.trunc (((R2.const S64x128 _ sc bits_sc).mul ((C.dqg.mul C.hg.exp).add (C.dqt.mul C.hg.eq))).congr fun i hi x _ => by
    rw [dq_eq k v d a L i x hi])
/-- The keys' gradients. -/
theorem rdk : R2 (vDk gv qv dv vv ds) (fun j x => gK q v d a (L + j) x) :=
  R2.trunc (((C.dkt.mul C.hg.ek).add (C.dkd.mul C.hg.ekd)).congr fun j hj x _ => dk_eq q v d a L C.hL j x hj)
/-- The gradient of the chunk's last sum that the state carries. -/
theorem dgl : R2 (vDgl gv kv vv sp ds) (fun _ x => gA q k v d a (L + 64) x) :=
  (((C.dkd.mul (C.hk.mul C.hg.ekd)).sumRows_64_128.add ((C.hds.ds.mul C.hsp.sp).sumRows_256_128.mul C.hg.egl))).congr
    fun i _ x _ => dgl_eq q k v d a L x
/-- The gradients of the chunk's sums. -/
theorem rdg : R3 (vDg gv qv kv dv vv sp ds) (fun _ i x => gC q k v d a (L + i) x) :=
  ((((((C.dqg.mul (C.hq.mul C.hg.exp)).add (C.dqt.mul (C.hq.mul C.hg.eq))).sub (C.dkt.mul (C.hk.mul C.hg.ek))).sub
    (C.dkd.mul (C.hk.mul C.hg.ekd))).add C.dgl.cast_1_128.row_64_128.atLast).congr
    fun i hi x _ => dg_eq q k v d a L C.hL C.hm i x hi).up_64
/-- The state's gradient before the chunk. -/
theorem dsN : R3 (vDsN gv qv dv ds) (fun _ e x => dst q d a L e x) :=
  (((C.hds.ds.mul C.hg.egl.row_256_128).add (R2.tn_S64x256_S64x128 C.hd.trunc (C.hq.mul C.hg.exp).trunc)).congr
    fun e _ x _ => ds_eq q d a L C.hL e x).up_256

end Chunk
end

end Cert.Gla

end
-- ==== Proof.Head.lean ====
/- What one head of a tile computes before and after its chunks, as real numbers: the gate's logits and the decays, the
   output's norm and gate with their gradients, and the gate's gradient from the gradient of the decays. `t` is the tile's
   first token. -/
module

public import proofs.«01_k».proof.Proof.Chunk

@[expose] public section

set_option maxRecDepth 16384

noncomputable section

namespace Cert.Gla

open Idealize.ShloMosaic Idealize.ShloMosaic.TcCoe Idealize.SL.Sem
open Cert.KernelIdeal Cert.KernelIdeal.Gen
open Finset (range)

/-- The sigmoid. -/
def sig (x : ℝ) : ℝ := 1 / (1 + Real.exp (0 - x))
/-- The logarithm of the sigmoid. -/
def lsg (x : ℝ) : ℝ := min x 0 - Real.log (1 + Real.exp (0 - |x|))
/-- The sigmoid-weighted linear unit. -/
def sil (x : ℝ) : ℝ := x * sig x
/-- The gate's logits. -/
def lgt (z w : ℕ → ℕ → ℝ) (b : ℕ → ℝ) (i x : ℕ) : ℝ := ∑ r ∈ range 16, z i r * w r x + b x
/-- The decays' logarithms. -/
def lgd (z w : ℕ → ℕ → ℝ) (b : ℕ → ℝ) (i x : ℕ) : ℝ := lsg (lgt z w b i x) * (1 / 16)
/-- The reciprocal root mean square of a row. -/
def rms (o : ℕ → ℕ → ℝ) (i : ℕ) : ℝ := (√((∑ e ∈ range 256, o i e * o i e) / 256 + eps))⁻¹
/-- The normalised row. -/
def nrm (o : ℕ → ℕ → ℝ) (i e : ℕ) : ℝ := o i e * rms o i
/-- The output gate's gradient. -/
def gR (da o r : ℕ → ℕ → ℝ) (ng : ℕ → ℝ) (i e : ℕ) : ℝ :=
  da i e * (nrm o i e * ng e) * (sig (r i e) + sil (r i e) * (1 - sig (r i e)))
/-- The gradient behind the norm's gain. -/
def gN (da r : ℕ → ℕ → ℝ) (ng : ℕ → ℝ) (i e : ℕ) : ℝ := da i e * sil (r i e) * ng e
/-- The attention output's gradient. -/
def gO (da o r : ℕ → ℕ → ℝ) (ng : ℕ → ℝ) (i e : ℕ) : ℝ :=
  rms o i * (gN da r ng i e - nrm o i e * ((∑ j ∈ range 256, gN da r ng i j * nrm o i j) / 256))
/-- The logits' gradient, from that of the decays' logarithms. -/
def gL (z w : ℕ → ℕ → ℝ) (b : ℕ → ℝ) (ga : ℕ → ℕ → ℝ) (i x : ℕ) : ℝ := ga i x * (1 / 16) * sig (0 - lgt z w b i x)

theorem sig_den_pos (x : ℝ) : (1 + Real.exp (0 - x)) ≠ 0 := by positivity
theorem rms_arg_pos (o : ℕ → ℕ → ℝ) (i : ℕ) : 0 < (∑ e ∈ range 256, o i e * o i e) / 256 + eps :=
  add_pos_of_nonneg_of_pos (div_nonneg (Finset.sum_nonneg fun e _ => mul_self_nonneg _) (by norm_num)) eps_pos

section
variable {X : ℕ → ℕ → ℝ}

/-- The logarithm of the sigmoid, through the guarded `log(1 + y)`. -/
theorem R2.la {x : V S256x128} (hx : R2 x X) : R2 (vLa x) (fun i j => lsg (X i j) * (1 / 16)) := by
  have ha : R2 (absf x) (fun i j => |X i j|) := fun i j => by
    show max (x (ix2 i j)) (-(x (ix2 i j))) = _
    rw [hx i j, ← EReal.coe_neg]
    exact (EReal.coe_strictMono.monotone.map_max).symm
  have he : R2 (Idealize.ShloMosaic.exp (subf (vC S256x128 0x00000000#32) (absf x))) (fun i j => Real.exp (0 - |X i j|)) :=
    ((R2.const S256x128 _ 0 bits_zero).sub ha).exp
  have hu : R2 (vU x) (fun i j => 1 + Real.exp (0 - |X i j|)) := (R2.const S256x128 _ 1 bits_one).add he
  have hm : R2 (minimumf x (vC S256x128 0x00000000#32)) (fun i j => min (X i j) 0) := fun i j => by
    show min (x (ix2 i j)) (Scalar.ofBits .f32 0x00000000#32 : Ideal .f32) = _
    rw [hx i j, bits_zero]
    exact (EReal.coe_strictMono.monotone.map_min).symm
  have hc : ∀ i j, (cmpf .oeq (vU x) (vC S256x128 0x3F800000#32)) (ix2 i j) = 0#1 := fun i j => by
    show Ideal.cmp .oeq (vU x (ix2 i j)) (Scalar.ofBits .f32 0x3F800000#32 : Ideal .f32) = _
    rw [hu i j, bits_one]
    have h : ((1 + Real.exp (0 - |X i j|) : ℝ) : EReal) ≠ ((1 : ℝ) : EReal) := fun h => by
      have := EReal.coe_eq_coe_iff.mp h
      have := Real.exp_pos (0 - |X i j|)
      linarith
    simp only [Ideal.cmp, h]
    simp
  have hs : ∀ (p q : V S256x128) (Y : ℕ → ℕ → ℝ), R2 q Y → R2 (select (cmpf .oeq (vU x) (vC S256x128 0x3F800000#32)) p q) Y :=
    fun p q Y hq i j => by
      show (if (cmpf .oeq (vU x) (vC S256x128 0x3F800000#32)) (ix2 i j) = 1#1 then p (ix2 i j) else q (ix2 i j)) = _
      rw [hc, if_neg (by decide)]
      exact hq i j
  have hl : R2 (log (vU x)) (fun i j => Real.log (1 + Real.exp (0 - |X i j|))) := fun i j =>
    (congrArg Ideal.log (hu i j)).trans (by rw [Ideal.log_coe, if_neg (not_le.mpr (by positivity))])
  have hd := he.div (hs (vC S256x128 0x3F800000#32) _ _ (hu.sub (R2.const S256x128 _ 1 bits_one)))
    (fun i _ j _ => by have := Real.exp_pos (0 - |X i j|); exact ne_of_gt (by linarith))
  have h := (hm.sub (hs (Idealize.ShloMosaic.exp (subf (vC S256x128 0x00000000#32) (absf x))) _ _ (hl.mul hd))).mul
    (R2.const S256x128 _ (1 / 16) bits_16th)
  refine R2.congr h fun i _ j _ => ?_
  have := Real.exp_pos (0 - |X i j|)
  rw [lsg, add_sub_cancel_left, div_self (ne_of_gt this), mul_one]

theorem R2.sg {r : V S256x256} (hr : R2 r X) : R2 (vSg r) (fun i j => sig (X i j)) :=
  (R2.const S256x256 _ 1 bits_one).div ((R2.const S256x256 _ 1 bits_one).add
    ((R2.const S256x256 _ 0 bits_zero).sub hr).exp) fun i _ j _ => sig_den_pos _
theorem R2.silu {r : V S256x256} (hr : R2 r X) : R2 (vSil r) (fun i j => sil (X i j)) := hr.mul hr.sg

/-- A product of a vector's three parts with a matrix, added up, is the product with the vector. -/
theorem R2.cum {t : VB S256x256} {Tm : ℕ → ℕ → ℝ} {x : V S256x128} (ht : R2 t Tm) (hx : R2 x X) :
    R2 (vCum t x) (fun i j => ∑ n ∈ range 256, Tm i n * X n j) := by
  have h1 : R2 (extf .f32 (vT x) bitsLt_bf16_f32 : V S256x128) X := hx
  have h2 := hx.sub h1
  have h3 : R2 (extf .f32 (vT (subf x (extf .f32 (vT x) bitsLt_bf16_f32))) bitsLt_bf16_f32 : V S256x128) _ := h2
  refine R2.congr ((((R2.const S256x128 _ 0 bits_zero).add (R2.nn_S256x256_S256x128 ht hx.trunc)).add
    (R2.nn_S256x256_S256x128 ht h2.trunc)).add (R2.nn_S256x256_S256x128 ht (h2.sub h3).trunc)) fun i _ j _ => ?_
  simp
end

section
variable {z w da o r : ℕ → ℕ → ℝ} {b ng : ℕ → ℝ} {t : ℕ}
variable {zv : V S256x16} {wv : V S16x128} {bv : V S1x128} {dav ov rv : V S256x256} {ngv : V S1x256}

theorem R2.logit (hz : R2 zv fun i x => z (t + i) x) (hw : R2 wv w) (hb : R2 bv fun _ x => b x) :
    R2 (vLogit zv wv bv) (fun i x => lgt z w b (t + i) x) := (R2.nn_S256x16_S16x128 hz.trunc hw.trunc).add hb.row_256_128

theorem R2.gcum {T : ℕ} (hz : R2 zv fun i x => z (256 * T + i) x) (hw : R2 wv w) (hb : R2 bv fun _ x => b x) :
    R2 (vGcum zv wv bv) (fun i x => pre (lgd z w b) (256 * T + i + 1) x - pre (lgd z w b) (256 * T + i / 64 * 64) x) :=
  (R2.cum R2.triF (R2.logit hz hw hb).la).congr fun i hi x _ => gcum_eq (lgd z w b) T i x hi

theorem R2.ro (ho : R2 ov fun i x => o (t + i) x) : R2 (vRo ov) (fun i _ => rms o (t + i)) :=
  (((ho.cast_256_256.mul ho.cast_256_256).sumCols_256_256.div (R2.const S256x1 _ 256 bits_256) fun _ _ _ _ => by norm_num).add
    (R2.const S256x1 _ eps bits_eps)).rsqrt fun i _ _ _ => rms_arg_pos o (t + i)
theorem R2.on (ho : R2 ov fun i x => o (t + i) x) : R2 (vOn ov) (fun i x => nrm o (t + i) x) := ho.cast_256_256.mul (R2.ro ho).col_256_256
theorem R2.dr (hd : R2 dav fun i x => da (t + i) x) (ho : R2 ov fun i x => o (t + i) x) (hr : R2 rv fun i x => r (t + i) x)
    (hg : R2 ngv fun _ x => ng x) : R2 (vDr dav ov rv ngv) (fun i x => gR da o r ng (t + i) x) :=
  R2.trunc ((hd.mul ((R2.on ho).mul hg.row_256_256)).mul (hr.sg.add (hr.silu.mul ((R2.const S256x256 _ 1 bits_one).sub hr.sg))))
theorem R2.dng {acc : V S1x256} {A : ℕ → ℝ} (ha : R2 acc fun _ x => A x) (hd : R2 dav fun i x => da (t + i) x)
    (ho : R2 ov fun i x => o (t + i) x) (hr : R2 rv fun i x => r (t + i) x) :
    R2 (vDng acc dav ov rv) (fun _ x => A x + ∑ i ∈ range 256, da (t + i) x * sil (r (t + i) x) * nrm o (t + i) x) :=
  ha.cast_1_256.add ((hd.mul hr.silu).mul (R2.on ho)).sumRows_256_256
theorem R2.dn (hd : R2 dav fun i x => da (t + i) x) (hr : R2 rv fun i x => r (t + i) x)
    (hg : R2 ngv fun _ x => ng x) : R2 (vDn dav rv ngv) (fun i x => gN da r ng (t + i) x) := (hd.mul hr.silu).mul hg.row_256_256
theorem R2.dov (hd : R2 dav fun i x => da (t + i) x) (ho : R2 ov fun i x => o (t + i) x) (hr : R2 rv fun i x => r (t + i) x)
    (hg : R2 ngv fun _ x => ng x) : R2 (vDo dav ov rv ngv) (fun i x => gO da o r ng (t + i) x) :=
  (R2.ro ho).col_256_256.mul ((R2.dn hd hr hg).sub ((R2.on ho).mul
    (((R2.dn hd hr hg).mul (R2.on ho)).sumCols_256_256.div (R2.const S256x1 _ 256 bits_256) fun _ _ _ _ => by norm_num).col_256_256))
theorem R2.qs {qv : V S256x128} {q : ℕ → ℕ → ℝ} (hq : R2 qv fun i x => q (t + i) x) : R2 (vQ qv) (fun i x => q (t + i) x * sc) :=
  hq.mul (R2.const S256x128 _ sc bits_sc)

theorem R3.down {u : V S1x256x128} {X : ℕ → ℕ → ℕ → ℝ} (hu : R3 u X) :
    R2 (shapeCast S256x128 u shapeCasts_S1x256x128_S256x128) (X 0) := hu.ds

theorem R2.dl {q k v d : ℕ → ℕ → ℝ} {T : ℕ} (hT : 256 * T + 256 ≤ 4096) {xv : V S256x128} {dgv : V S1x256x128}
    (hx : R2 xv fun i x => lgt z w b (256 * T + i) x)
    (hg : R3 dgv fun _ i x => gC q k v d (lgd z w b) (256 * T + i) x) :
    R2 (vDl xv dgv) (fun i x => gL z w b (gA q k v d (lgd z w b)) (256 * T + i) x) :=
  (((R2.cum R2.triB hg.down).congr fun i hi x _ => rcum_eq q k v d (lgd z w b) T i x hi hT).mul
    (R2.const S256x128 _ (1 / 16) bits_16th)).mul
    ((R2.const S256x128 _ 1 bits_one).div ((R2.const S256x128 _ 1 bits_one).add
      ((R2.const S256x128 _ 0 bits_zero).sub ((R2.const S256x128 _ 0 bits_zero).sub hx)).exp) fun i _ j _ => sig_den_pos _)

theorem R2.dz {acc : V S256x16} {dlv : V S256x128} {A D : ℕ → ℕ → ℝ} (ha : R2 acc A) (hd : R2 dlv D) (hw : R2 wv w) :
    R2 (vDz acc dlv wv) (fun i r => A i r + ∑ x ∈ range 128, D i x * w r x) := ha.add (R2.nt_S256x128_S16x128 hd.trunc hw.trunc)
theorem R2.dwal {acc : V S16x128} {dlv : V S256x128} {A D Z : ℕ → ℕ → ℝ} (ha : R2 acc A) (hz : R2 zv Z) (hd : R2 dlv D) :
    R2 (vDwal acc zv dlv) (fun r x => A r x + ∑ i ∈ range 256, Z i r * D i x) := ha.cast_16_128.add (R2.tn_S256x16_S256x128 hz.trunc hd.trunc)
theorem R2.dbal {acc : V S1x128} {dlv : V S256x128} {A : ℕ → ℝ} {D : ℕ → ℕ → ℝ} (ha : R2 acc fun _ x => A x) (hd : R2 dlv D) :
    R2 (vDbal acc dlv) (fun _ x => A x + ∑ i ∈ range 256, D i x) := ha.cast_1_128.add hd.sumRows_256_128
end

end Cert.Gla

end
-- ==== Proof.Tile.lean ====
/- One tile of the kernel: its blocks as real numbers, the loads of its heads' columns, and what a head's vectors hold. The
   numbers of the whole call are a `Data`; `T` is the tile's number, `256 * T` its first token. -/
module

public import proofs.«01_k».proof.Proof.Head
public import proofs.«01_k».proof.Proof.Gen.KernelIdeal.Frame
public import Idealize.ShloMosaic.Lib.Pipeline.ValueKit
public import Idealize.ShloMosaic.Lib.Pipeline.ReadBack
public import Idealize.ShloMosaic.Lib.WholeRead
public import Idealize.ShloMosaic.Lib.Writes

@[expose] public section

set_option maxRecDepth 16384

noncomputable section

namespace Cert.Gla

open Idealize.ShloMosaic Idealize.ShloMosaic.TcCoe Idealize.SL.Sem
open Cert.KernelIdeal Cert.KernelIdeal.Gen
open Finset (range Ico)

/-- The real numbers that the call's arguments hold: the incoming gradient, the projections, the attention's output, the gate's
   weight and bias, and the norm's gain. -/
structure Data where
  da : ℕ → ℕ → ℝ
  pj : ℕ → ℕ → ℝ
  o : ℕ → ℕ → ℝ
  wal : ℕ → ℕ → ℝ
  bal : ℕ → ℝ
  ng : ℕ → ℝ

namespace Data
variable (D : Data) (h : ℕ)
/-- A head's scaled queries. -/
def q (i x : ℕ) : ℝ := D.pj i (128 * h + x) * sc
/-- A head's keys. -/
def k (i x : ℕ) : ℝ := D.pj i (512 + 128 * h + x)
/-- A head's values. -/
def v (i x : ℕ) : ℝ := D.pj i (1024 + 256 * h + x)
/-- A head's output gate. -/
def r (i x : ℕ) : ℝ := D.pj i (2048 + 256 * h + x)
/-- The decay gate's input. -/
def z (i x : ℕ) : ℝ := D.pj i (3072 + x)
/-- A head's incoming gradient. -/
def dah (i x : ℕ) : ℝ := D.da i (256 * h + x)
/-- A head's attention output. -/
def oh (i x : ℕ) : ℝ := D.o i (256 * h + x)
/-- A head's columns of the decay gate's weight. -/
def w (r x : ℕ) : ℝ := D.wal r (128 * h + x)
/-- A head's columns of the decay gate's bias. -/
def b (x : ℕ) : ℝ := D.bal (128 * h + x)
/-- A head's decays' logarithms. -/
def a (i x : ℕ) : ℝ := lgd D.z (D.w h) (D.b h) i x
/-- A head's attention output's gradient. -/
def d (i x : ℕ) : ℝ := gO (D.dah h) (D.oh h) (D.r h) D.ng i x
/-- A head's logits' gradient. -/
def l (i x : ℕ) : ℝ := gL D.z (D.w h) (D.b h) (gA (D.q h) (D.k h) (D.v h) (D.d h) (D.a h)) i x
/-- What a row and a head give the gain's gradient. -/
def n (i x : ℕ) : ℝ := D.dah h i x * sil (D.r h i x) * nrm (D.oh h) i x
/-- The gradient of the projections. -/
def gPj (i c : ℕ) : ℝ :=
  if c < 512 then sc * gQ (D.k (c / 128)) (D.v (c / 128)) (D.d (c / 128)) (D.a (c / 128)) i (c % 128)
  else if c < 1024 then gK (D.q ((c - 512) / 128)) (D.v ((c - 512) / 128)) (D.d ((c - 512) / 128)) (D.a ((c - 512) / 128)) i ((c - 512) % 128)
  else if c < 2048 then gV (D.q ((c - 1024) / 256)) (D.k ((c - 1024) / 256)) (D.d ((c - 1024) / 256)) (D.a ((c - 1024) / 256)) i ((c - 1024) % 256)
  else if c < 3072 then gR (D.dah ((c - 2048) / 256)) (D.oh ((c - 2048) / 256)) (D.r ((c - 2048) / 256)) D.ng i ((c - 2048) % 256)
  else ∑ h ∈ range 4, ∑ x ∈ range 128, D.l h i x * D.w h (c - 3072) x
/-- The gradient of the decay gate's weight, from token `m` on. -/
def gWal (m r c : ℕ) : ℝ := ∑ i ∈ Ico m 4096, D.z i r * D.l (c / 128) i (c % 128)
/-- The gradient of the decay gate's bias, from token `m` on. -/
def gBal (m c : ℕ) : ℝ := ∑ i ∈ Ico m 4096, D.l (c / 128) i (c % 128)
/-- The gradient of the norm's gain, from token `m` on. -/
def gNg (m c : ℕ) : ℝ := ∑ i ∈ Ico m 4096, ∑ h ∈ range 4, D.n h i c

theorem gPj_q (hh : h < 4) (i x : ℕ) (hx : x < 128) : D.gPj i (128 * h + x) = sc * gQ (D.k h) (D.v h) (D.d h) (D.a h) i x := by
  rw [gPj, if_pos (by omega), show (128 * h + x) / 128 = h by omega, show (128 * h + x) % 128 = x by omega]
theorem gPj_k (hh : h < 4) (i x : ℕ) (hx : x < 128) : D.gPj i (512 + 128 * h + x) = gK (D.q h) (D.v h) (D.d h) (D.a h) i x := by
  rw [gPj, if_neg (by omega), if_pos (by omega), show (512 + 128 * h + x - 512) / 128 = h by omega,
    show (512 + 128 * h + x - 512) % 128 = x by omega]
theorem gPj_v (hh : h < 4) (i x : ℕ) (hx : x < 256) : D.gPj i (1024 + 256 * h + x) = gV (D.q h) (D.k h) (D.d h) (D.a h) i x := by
  rw [gPj, if_neg (by omega), if_neg (by omega), if_pos (by omega), show (1024 + 256 * h + x - 1024) / 256 = h by omega,
    show (1024 + 256 * h + x - 1024) % 256 = x by omega]
theorem gPj_r (hh : h < 4) (i x : ℕ) (hx : x < 256) : D.gPj i (2048 + 256 * h + x) = gR (D.dah h) (D.oh h) (D.r h) D.ng i x := by
  rw [gPj, if_neg (by omega), if_neg (by omega), if_neg (by omega), if_pos (by omega), show (2048 + 256 * h + x - 2048) / 256 = h by omega,
    show (2048 + 256 * h + x - 2048) % 256 = x by omega]
theorem gPj_z (i x : ℕ) : D.gPj i (3072 + x) = ∑ h ∈ range 4, ∑ y ∈ range 128, D.l h i y * D.w h x y := by
  rw [gPj, if_neg (by omega), if_neg (by omega), if_neg (by omega), if_neg (by omega), Nat.add_sub_cancel_left]
end Data

section Loads
variable {sig : RefSig}

/-- A load of a rectangle of a whole block. -/
theorem R2.load {A B a b o p : ℕ} {m : Memref sig .tc .vmem ⟨2, ![A, B]⟩ .f32} (hm : m.IsWhole) {X : Vec Ideal ⟨2, ![A, B]⟩ .f32}
    {Y : ℕ → ℕ → ℝ} (hX : R2 (φ := .f32) X Y) (inb : ∀ i, (![o, p] : Fin 2 → ℕ) i + (![a, b] : Fin 2 → ℕ) i ≤ (⟨2, ![A, B]⟩ : Shape).size i) :
    R2 (a := a) (b := b) (φ := .f32) (View.readAt (Elt Ideal) m.view (Rect.unit (s := ⟨2, ![A, B]⟩) ![o, p] ![a, b] inb).toLoadRect (hm.unread X))
      (fun i j => Y (o + i) (p + j)) := fun i j => by
  refine (hm.readAt_unread X _ _).trans ?_
  have h0 : o + a ≤ A := inb 0
  have h1 : p + b ≤ B := inb 1
  refine Eq.trans (congrArg X ?_) (hX ⟨o + i, by omega⟩ ⟨p + j, by omega⟩)
  funext k
  refine Fin.ext ?_
  match k with
  | 0 => exact congrArg (o + ·) (Nat.one_mul _)
  | 1 => exact congrArg (p + ·) (Nat.one_mul _)
theorem R3.load {A B C a b c o p q : ℕ} {m : Memref sig .tc .vmem ⟨3, ![A, B, C]⟩ .f32} (hm : m.IsWhole) {X : Vec Ideal ⟨3, ![A, B, C]⟩ .f32}
    {Y : ℕ → ℕ → ℕ → ℝ} (hX : R3 (φ := .f32) X Y) (inb : ∀ i, (![o, p, q] : Fin 3 → ℕ) i + (![a, b, c] : Fin 3 → ℕ) i ≤ (⟨3, ![A, B, C]⟩ : Shape).size i) :
    R3 (a := a) (b := b) (c := c) (φ := .f32) (View.readAt (Elt Ideal) m.view (Rect.unit (s := ⟨3, ![A, B, C]⟩) ![o, p, q] ![a, b, c] inb).toLoadRect (hm.unread X))
      (fun i j k => Y (o + i) (p + j) (q + k)) := fun i j k => by
  refine (hm.readAt_unread X _ _).trans ?_
  have h0 : o + a ≤ A := inb 0
  have h1 : p + b ≤ B := inb 1
  have h2 : q + c ≤ C := inb 2
  refine Eq.trans (congrArg X ?_) (hX ⟨o + i, by omega⟩ ⟨p + j, by omega⟩ ⟨q + k, by omega⟩)
  funext k
  refine Fin.ext ?_
  match k with
  | 0 => exact congrArg (o + ·) (Nat.one_mul _)
  | 1 => exact congrArg (p + ·) (Nat.one_mul _)
  | 2 => exact congrArg (q + ·) (Nat.one_mul _)
theorem R4.load {A B C E a b c e o p q s : ℕ} {m : Memref sig .tc .vmem ⟨4, ![A, B, C, E]⟩ .f32} (hm : m.IsWhole) {X : Vec Ideal ⟨4, ![A, B, C, E]⟩ .f32}
    {Y : ℕ → ℕ → ℕ → ℕ → ℝ} (hX : R4 (φ := .f32) X Y)
    (inb : ∀ i, (![o, p, q, s] : Fin 4 → ℕ) i + (![a, b, c, e] : Fin 4 → ℕ) i ≤ (⟨4, ![A, B, C, E]⟩ : Shape).size i) :
    R4 (a := a) (b := b) (c := c) (d := e) (φ := .f32) (View.readAt (Elt Ideal) m.view (Rect.unit (s := ⟨4, ![A, B, C, E]⟩) ![o, p, q, s] ![a, b, c, e] inb).toLoadRect (hm.unread X))
      (fun i j k l => Y (o + i) (p + j) (q + k) (s + l)) := fun i j k l => by
  refine (hm.readAt_unread X _ _).trans ?_
  have h0 : o + a ≤ A := inb 0
  have h1 : p + b ≤ B := inb 1
  have h2 : q + c ≤ C := inb 2
  have h3 : s + e ≤ E := inb 3
  refine Eq.trans (congrArg X ?_) (hX ⟨o + i, by omega⟩ ⟨p + j, by omega⟩ ⟨q + k, by omega⟩ ⟨s + l, by omega⟩)
  funext k
  refine Fin.ext ?_
  match k with
  | 0 => exact congrArg (o + ·) (Nat.one_mul _)
  | 1 => exact congrArg (p + ·) (Nat.one_mul _)
  | 2 => exact congrArg (q + ·) (Nat.one_mul _)
  | 3 => exact congrArg (s + ·) (Nat.one_mul _)

theorem R3.congr {a b c : ℕ} {φ : FTy} {u : FVec Ideal ⟨3, ![a, b, c]⟩ φ} {X Y : ℕ → ℕ → ℕ → ℝ} (hu : R3 u X)
    (h : ∀ i < a, ∀ j < b, ∀ k < c, X i j k = Y i j k) : R3 u Y :=
  fun i j k => (hu i j k).trans (congrArg _ (h i i.isLt j j.isLt k k.isLt))
theorem R4.congr {a b c d : ℕ} {φ : FTy} {u : FVec Ideal ⟨4, ![a, b, c, d]⟩ φ} {X Y : ℕ → ℕ → ℕ → ℕ → ℝ} (hu : R4 u X)
    (h : ∀ i < a, ∀ j < b, ∀ k < c, ∀ l < d, X i j k l = Y i j k l) : R4 u Y :=
  fun i j k l => (hu i j k l).trans (congrArg _ (h i i.isLt j j.isLt k k.isLt l l.isLt))

/-- The block that holds the numbers of `X`. -/
def coe2 {A B : ℕ} (X : ℕ → ℕ → ℝ) (y : (⟨2, ![A, B]⟩ : Shape).Idx) : EReal := ((X (y 0).val (y 1).val : ℝ) : EReal)
def coe3 {A B C : ℕ} (X : ℕ → ℕ → ℕ → ℝ) (y : (⟨3, ![A, B, C]⟩ : Shape).Idx) : EReal := ((X (y 0).val (y 1).val (y 2).val : ℝ) : EReal)

/-- A store of numbers is a rectangle of the block that holds them. -/
theorem piece2 {A B a b o p : ℕ} {φ : FTy} {inb : ∀ i, (![o, p] : Fin 2 → ℕ) i + (![a, b] : Fin 2 → ℕ) i ≤ (⟨2, ![A, B]⟩ : Shape).size i}
    {w : FVec Ideal ⟨2, ![a, b]⟩ φ} {Y X : ℕ → ℕ → ℝ} (hw : R2 w Y) (h : ∀ i < a, ∀ j < b, Y i j = X (o + i) (p + j)) :
    ∀ x : (Rect.unit (s := ⟨2, ![A, B]⟩) ![o, p] ![a, b] inb).shape.Idx, w x = coe2 X ((Rect.unit (s := ⟨2, ![A, B]⟩) ![o, p] ![a, b] inb).emb x) := by
  intro x
  have e : x = ix2 (n0 := a) (n1 := b) (x 0) (x 1) := by
    funext k
    match k with
    | 0 => rfl
    | 1 => rfl
  have hx0 : (x 0).val < a := (x 0).isLt
  have hx1 : (x 1).val < b := (x 1).isLt
  refine Eq.trans (congrArg w e) ((hw (x 0) (x 1)).trans ?_)
  show ((Y (x 0).val (x 1).val : ℝ) : EReal) = ((X (o + 1 * (x 0).val) (p + 1 * (x 1).val) : ℝ) : EReal)
  rw [Nat.one_mul, Nat.one_mul, h _ hx0 _ hx1]
theorem piece3 {A B C b c o p q : ℕ} {φ : FTy} {inb : ∀ i, (![o, p, q] : Fin 3 → ℕ) i + (![1, b, c] : Fin 3 → ℕ) i ≤ (⟨3, ![A, B, C]⟩ : Shape).size i}
    {w : FVec Ideal ⟨3, ![1, b, c]⟩ φ} {Y X : ℕ → ℕ → ℕ → ℝ} (hw : R3 w Y) (h : ∀ j < b, ∀ k < c, Y 0 j k = X o (p + j) (q + k)) :
    ∀ x : (Rect.unit (s := ⟨3, ![A, B, C]⟩) ![o, p, q] ![1, b, c] inb).shape.Idx, w x = coe3 X ((Rect.unit (s := ⟨3, ![A, B, C]⟩) ![o, p, q] ![1, b, c] inb).emb x) := by
  intro x
  have e : x = ix3 (n0 := 1) (n1 := b) (n2 := c) (x 0) (x 1) (x 2) := by
    funext k
    match k with
    | 0 => rfl
    | 1 => rfl
    | 2 => rfl
  have hx0 : (x 0).val < 1 := (x 0).isLt
  have hx1 : (x 1).val < b := (x 1).isLt
  have hx2 : (x 2).val < c := (x 2).isLt
  refine Eq.trans (congrArg w e) ((hw (x 0) (x 1) (x 2)).trans ?_)
  show ((Y (x 0).val (x 1).val (x 2).val : ℝ) : EReal) = ((X (o + 1 * (x 0).val) (p + 1 * (x 1).val) (q + 1 * (x 2).val) : ℝ) : EReal)
  rw [show (x 0).val = 0 by omega, Nat.one_mul, Nat.one_mul, h _ hx1 _ hx2]; simp only [Nat.one_mul, Nat.mul_zero, Nat.add_zero]

/-- A load of a head's slab after stores that put three other slabs since it was stored. -/
theorem R3.hit {m : Memref sig .tc .vmem S4x256x128 .f32} {r1 r2 r3 r : Rect S4x256x128} {w1 : r1.shape.Idx → EReal} {w2 : r2.shape.Idx → EReal}
    {w3 : r3.shape.Idx → EReal} {w : r.shape.Idx → EReal} {L : List (View.Piece (Elt Ideal) S4x256x128 .f32)}
    (h1 : LoadRect.disj r1 r.toLoadRect = true) (h2 : LoadRect.disj r2 r.toLoadRect = true) (h3 : LoadRect.disj r3 r.toLoadRect = true) :
    m.view.readCov (Val := Elt Ideal) (⟨r1, w1⟩ :: ⟨r2, w2⟩ :: ⟨r3, w3⟩ :: ⟨r, w⟩ :: L) r.toLoadRect = w := by
  rw [View.readCov_skip _ _ _ _ _ h1, View.readCov_skip _ _ _ _ _ h2, View.readCov_skip _ _ _ _ _ h3, View.readCov_cons_toLoadRect]

/-- A load after stores that are rectangles of one block reads the block. -/
theorem readCov_of_pieces {m : Memref sig .tc .vmem S4x256x128 .f32} (X : ℕ → ℕ → ℕ → ℝ) {L : List (View.Piece (Elt Ideal) S4x256x128 .f32)}
    (hp : View.PiecesOf (Val := Elt Ideal) (coe3 X) L) (hc : ∀ y, ∃ p ∈ L, y ∈ p.1.set) {o : ℕ}
    (inb : ∀ i, (![o, 0, 0] : Fin 3 → ℕ) i + (![1, 256, 128] : Fin 3 → ℕ) i ≤ S4x256x128.size i) :
    R3 (a := 1) (b := 256) (c := 128) (φ := .f32) (m.view.readCov (Val := Elt Ideal) L (Rect.unit (s := S4x256x128) ![o, 0, 0] ![1, 256, 128] inb).toLoadRect)
      (fun _ i j => X o i j) := fun i j k => by
  have hi : i.val = 0 := by omega
  refine (View.read_writes_apply_of_pieces _ _ (coe3 X) L hp.mem _ (hc _)).trans ?_
  show ((X (o + 1 * i.val) (0 + 1 * j.val) (0 + 1 * k.val) : ℝ) : EReal) = _
  rw [hi]; simp
end Loads

/-- The blocks of tile `T`. -/
structure Tile (D : Data) (T : ℕ) (x0 : V S256x1024) (x1 : V S256x3088) (x2 : V S256x1024) (x3 : V S4x4x256x128) (x4 : V S16x512)
    (x5 : V S1x512) (x6 : V S1x256) : Prop where
  hT : 256 * T + 256 ≤ 4096
  h0 : R2 x0 (fun i j => D.da (256 * T + i) j)
  h1 : R2 x1 (fun i j => D.pj (256 * T + i) j)
  h2 : R2 x2 (fun i j => D.o (256 * T + i) j)
  h3 : R4 x3 (fun c h e x => st (D.k h) (D.v h) (D.a h) (256 * T + 64 * c) e x)
  h4 : R2 x4 D.wal
  h5 : R2 x5 (fun _ x => D.bal x)
  h6 : R2 x6 (fun _ x => D.ng x)

/-- A head's vectors over a tile. -/
structure HeadV (D : Data) (h T : ℕ) (gc q k : V S256x128) (v d : V S256x256) : Prop where
  hg : R2 gc (fun i x => pre (D.a h) (256 * T + i + 1) x - pre (D.a h) (256 * T + i / 64 * 64) x)
  hq : R2 q (fun i x => D.q h (256 * T + i) x)
  hk : R2 k (fun i x => D.k h (256 * T + i) x)
  hv : R2 v (fun i x => D.v h (256 * T + i) x)
  hd : R2 d (fun i x => D.d h (256 * T + i) x)

/-- A head's chunk at row `o` of the tile. -/
theorem HeadV.chunk {D : Data} {h T o o' c : ℕ} {gc q k : V S256x128} {v d : V S256x256} (H : HeadV D h T gc q k v d) (hT : 256 * T + 256 ≤ 4096)
    (hs : S256x128.Slices ![o, 0] S64x128) (hs' : S256x256.Slices ![o, 0] S64x256) {sp : V S1x1x256x128} {ds : V S1x256x128}
    (ho : o = 64 * c) (ho' : o' = o + 64)
    (hsp : R4 sp (fun _ _ e x => st (D.k h) (D.v h) (D.a h) (256 * T + o) e x))
    (hds : R3 ds (fun _ e x => dst (D.q h) (D.d h) (D.a h) (256 * T + o') e x)) :
    Chunk (D.q h) (D.k h) (D.v h) (D.d h) (D.a h) (256 * T + o) (extractStridedSlice S64x128 ![o, 0] gc hs) (extractStridedSlice S64x128 ![o, 0] q hs)
      (extractStridedSlice S64x128 ![o, 0] k hs) (extractStridedSlice S64x256 ![o, 0] d hs') (extractStridedSlice S64x256 ![o, 0] v hs') sp ds where
  hL := by have h0 : o + 64 ≤ 256 := hs.2 0; omega
  hm := by omega
  hg := (H.hg.slice_256_128 hs).congr fun i hi x _ => by
    rw [cg, show 256 * T + (o + i) + 1 = 256 * T + o + i + 1 by omega, show 256 * T + (o + i) / 64 * 64 = 256 * T + o by omega]
  hq := (H.hq.slice_256_128 hs).congr fun i hi x _ => by rw [Nat.add_assoc]
  hk := (H.hk.slice_256_128 hs).congr fun i hi x _ => by rw [Nat.add_assoc]
  hd := (H.hd.slice_256_256 hs').congr fun i hi x _ => by rw [Nat.add_assoc]
  hv := (H.hv.slice_256_256 hs').congr fun i hi x _ => by rw [Nat.add_assoc]
  hsp := hsp
  hds := by subst ho'; exact hds

section
variable {arg1 : Memref Cert.KernelIdeal.sig .tc .vmem S256x1024 .f32} (harg1 : arg1.IsWhole) {arg2 : Memref Cert.KernelIdeal.sig .tc .vmem S256x3088 .f32} (harg2 : arg2.IsWhole)
  {arg3 : Memref Cert.KernelIdeal.sig .tc .vmem S256x1024 .f32} (harg3 : arg3.IsWhole) {arg4 : Memref Cert.KernelIdeal.sig .tc .vmem S4x4x256x128 .f32} (harg4 : arg4.IsWhole)
  {arg5 : Memref Cert.KernelIdeal.sig .tc .vmem S16x512 .f32} (harg5 : arg5.IsWhole) {arg6 : Memref Cert.KernelIdeal.sig .tc .vmem S1x512 .f32} (harg6 : arg6.IsWhole)
  {arg7 : Memref Cert.KernelIdeal.sig .tc .vmem S1x256 .f32} (harg7 : arg7.IsWhole)
variable (x0 : V S256x1024) (x1 : V S256x3088) (x2 : V S256x1024) (x3 : V S4x4x256x128) (x4 : V S16x512) (x5 : V S1x512) (x6 : V S1x256)
variable {D : Data} {T : ℕ}

/-- The decay gate's input. -/
def tZ : V S256x16 := View.readAt (Elt Ideal) arg2.view (Rect.unit (s := S256x3088) ![0, 3072] S256x16.size inb_S256x3088_S256x16_0_3072).toLoadRect (harg2.unread x1)

theorem Tile.z (t : Tile D T x0 x1 x2 x3 x4 x5 x6) : R2 (tZ harg2 x1) (fun i x => D.z (256 * T + i) x) := (t.h1.load harg2 inb_S256x3088_S256x16_0_3072).congr fun i _ j _ => by rw [Nat.zero_add]; rfl

theorem Tile.g (t : Tile D T x0 x1 x2 x3 x4 x5 x6) : R2 (φ := .f32) (View.readAt (Elt Ideal) arg7.view (Rect.unit (s := S1x256) ![0, 0] S1x256.size inb_S1x256_S1x256_0_0).toLoadRect (harg7.unread x6) : V S1x256) (fun _ x => D.ng x) := (t.h6.load harg7 inb_S1x256_S1x256_0_0).congr fun i _ j _ => by rw [Nat.zero_add]

/-- Head 0's queries. -/
def tQ0 : V S256x128 := View.readAt (Elt Ideal) arg2.view (Rect.unit (s := S256x3088) ![0, 0] S256x128.size inb_S256x3088_S256x128_0_0).toLoadRect (harg2.unread x1)

theorem Tile.q0 (t : Tile D T x0 x1 x2 x3 x4 x5 x6) : R2 (tQ0 harg2 x1) (fun i j => D.pj (256 * T + i) (128 * 0 + j)) := (t.h1.load harg2 inb_S256x3088_S256x128_0_0).congr fun i _ j _ => by simp only [Nat.zero_add, Nat.reduceMul]

/-- Head 0's keys. -/
def tK0 : V S256x128 := View.readAt (Elt Ideal) arg2.view (Rect.unit (s := S256x3088) ![0, 512] S256x128.size inb_S256x3088_S256x128_0_512).toLoadRect (harg2.unread x1)

theorem Tile.k0 (t : Tile D T x0 x1 x2 x3 x4 x5 x6) : R2 (tK0 harg2 x1) (fun i j => D.k 0 (256 * T + i) j) := (t.h1.load harg2 inb_S256x3088_S256x128_0_512).congr fun i _ j _ => by rw [Nat.zero_add]; rfl

/-- Head 0's values. -/
def tV0 : V S256x256 := View.readAt (Elt Ideal) arg2.view (Rect.unit (s := S256x3088) ![0, 1024] S256x256.size inb_S256x3088_S256x256_0_1024).toLoadRect (harg2.unread x1)

theorem Tile.v0 (t : Tile D T x0 x1 x2 x3 x4 x5 x6) : R2 (tV0 harg2 x1) (fun i j => D.v 0 (256 * T + i) j) := (t.h1.load harg2 inb_S256x3088_S256x256_0_1024).congr fun i _ j _ => by rw [Nat.zero_add]; rfl

/-- Head 0's output gate. -/
def tR0 : V S256x256 := View.readAt (Elt Ideal) arg2.view (Rect.unit (s := S256x3088) ![0, 2048] S256x256.size inb_S256x3088_S256x256_0_2048).toLoadRect (harg2.unread x1)

theorem Tile.r0 (t : Tile D T x0 x1 x2 x3 x4 x5 x6) : R2 (tR0 harg2 x1) (fun i j => D.r 0 (256 * T + i) j) := (t.h1.load harg2 inb_S256x3088_S256x256_0_2048).congr fun i _ j _ => by rw [Nat.zero_add]; rfl

/-- Head 0's incoming gradient. -/
def tA0 : V S256x256 := View.readAt (Elt Ideal) arg1.view (Rect.unit (s := S256x1024) ![0, 0] S256x256.size inb_S256x1024_S256x256_0_0).toLoadRect (harg1.unread x0)

theorem Tile.a0 (t : Tile D T x0 x1 x2 x3 x4 x5 x6) : R2 (tA0 harg1 x0) (fun i j => D.dah 0 (256 * T + i) j) := (t.h0.load harg1 inb_S256x1024_S256x256_0_0).congr fun i _ j _ => by rw [Nat.zero_add]; rfl

/-- Head 0's attention output. -/
def tO0 : V S256x256 := View.readAt (Elt Ideal) arg3.view (Rect.unit (s := S256x1024) ![0, 0] S256x256.size inb_S256x1024_S256x256_0_0).toLoadRect (harg3.unread x2)

theorem Tile.o0 (t : Tile D T x0 x1 x2 x3 x4 x5 x6) : R2 (tO0 harg3 x2) (fun i j => D.oh 0 (256 * T + i) j) := (t.h2.load harg3 inb_S256x1024_S256x256_0_0).congr fun i _ j _ => by rw [Nat.zero_add]; rfl

/-- Head 0's gate weight. -/
def tW0 : V S16x128 := View.readAt (Elt Ideal) arg5.view (Rect.unit (s := S16x512) ![0, 0] S16x128.size inb_S16x512_S16x128_0_0).toLoadRect (harg5.unread x4)

theorem Tile.w0 (t : Tile D T x0 x1 x2 x3 x4 x5 x6) : R2 (tW0 harg5 x4) (fun i j => D.w 0 i j) := (t.h4.load harg5 inb_S16x512_S16x128_0_0).congr fun i _ j _ => by rw [Nat.zero_add]; rfl

/-- Head 0's gate bias. -/
def tB0 : V S1x128 := View.readAt (Elt Ideal) arg6.view (Rect.unit (s := S1x512) ![0, 0] S1x128.size inb_S1x512_S1x128_0_0).toLoadRect (harg6.unread x5)

theorem Tile.b0 (t : Tile D T x0 x1 x2 x3 x4 x5 x6) : R2 (tB0 harg6 x5) (fun i j => D.b 0 j) := (t.h5.load harg6 inb_S1x512_S1x128_0_0).congr fun i _ j _ => by rfl

/-- Head 0's logits. -/
def tL0 : V S256x128 := vLogit (tZ harg2 x1) (tW0 harg5 x4) (tB0 harg6 x5)
/-- Head 0's sums. -/
def tG0 : V S256x128 := vGcum (tZ harg2 x1) (tW0 harg5 x4) (tB0 harg6 x5)
/-- Head 0's attention output's gradient. -/
def tD0 : V S256x256 := vDo (tA0 harg1 x0) (tO0 harg3 x2) (tR0 harg2 x1) (View.readAt (Elt Ideal) arg7.view (Rect.unit (s := S1x256) ![0, 0] S1x256.size inb_S1x256_S1x256_0_0).toLoadRect (harg7.unread x6))
theorem Tile.l0 (t : Tile D T x0 x1 x2 x3 x4 x5 x6) : R2 (tL0 harg2 harg5 harg6 x1 x4 x5) (fun i x => lgt D.z (D.w 0) (D.b 0) (256 * T + i) x) :=
  R2.logit (t.z harg2) (t.w0 harg5) (t.b0 harg6)
theorem Tile.head0 (t : Tile D T x0 x1 x2 x3 x4 x5 x6) : HeadV D 0 T (tG0 harg2 harg5 harg6 x1 x4 x5) (vQ (tQ0 harg2 x1)) (tK0 harg2 x1)
    (tV0 harg2 x1) (tD0 harg1 harg2 harg3 harg7 x0 x1 x2 x6) where
  hg := R2.gcum (t.z harg2) (t.w0 harg5) (t.b0 harg6)
  hq := R2.qs (q := fun i x => D.pj i (128 * 0 + x)) (t.q0 harg2)
  hk := t.k0 harg2
  hv := t.v0 harg2
  hd := R2.dov (t.a0 harg1) (t.o0 harg3) (t.r0 harg2) (t.g harg7)

theorem Tile.sp00 (t : Tile D T x0 x1 x2 x3 x4 x5 x6) : R4 (φ := .f32) (View.readAt (Elt Ideal) arg4.view (Rect.unit (s := S4x4x256x128) ![0, 0, 0, 0] S1x1x256x128.size inb_S4x4x256x128_S1x1x256x128_0_0_0_0).toLoadRect (harg4.unread x3) : V S1x1x256x128) (fun _ _ e x => st (D.k 0) (D.v 0) (D.a 0) (256 * T + 0) e x) :=
  (t.h3.load harg4 inb_S4x4x256x128_S1x1x256x128_0_0_0_0).congr fun i hi j hj k _ l _ => by
    obtain rfl : i = 0 := by omega
    obtain rfl : j = 0 := by omega
    simp only [Nat.zero_add, Nat.add_zero, Nat.mul_zero, Nat.reduceMul]

theorem Tile.sp10 (t : Tile D T x0 x1 x2 x3 x4 x5 x6) : R4 (φ := .f32) (View.readAt (Elt Ideal) arg4.view (Rect.unit (s := S4x4x256x128) ![1, 0, 0, 0] S1x1x256x128.size inb_S4x4x256x128_S1x1x256x128_1_0_0_0).toLoadRect (harg4.unread x3) : V S1x1x256x128) (fun _ _ e x => st (D.k 0) (D.v 0) (D.a 0) (256 * T + 64) e x) :=
  (t.h3.load harg4 inb_S4x4x256x128_S1x1x256x128_1_0_0_0).congr fun i hi j hj k _ l _ => by
    obtain rfl : i = 0 := by omega
    obtain rfl : j = 0 := by omega
    simp only [Nat.zero_add, Nat.add_zero, Nat.mul_zero, Nat.reduceMul]

theorem Tile.sp20 (t : Tile D T x0 x1 x2 x3 x4 x5 x6) : R4 (φ := .f32) (View.readAt (Elt Ideal) arg4.view (Rect.unit (s := S4x4x256x128) ![2, 0, 0, 0] S1x1x256x128.size inb_S4x4x256x128_S1x1x256x128_2_0_0_0).toLoadRect (harg4.unread x3) : V S1x1x256x128) (fun _ _ e x => st (D.k 0) (D.v 0) (D.a 0) (256 * T + 128) e x) :=
  (t.h3.load harg4 inb_S4x4x256x128_S1x1x256x128_2_0_0_0).congr fun i hi j hj k _ l _ => by
    obtain rfl : i = 0 := by omega
    obtain rfl : j = 0 := by omega
    simp only [Nat.zero_add, Nat.add_zero, Nat.mul_zero, Nat.reduceMul]

theorem Tile.sp30 (t : Tile D T x0 x1 x2 x3 x4 x5 x6) : R4 (φ := .f32) (View.readAt (Elt Ideal) arg4.view (Rect.unit (s := S4x4x256x128) ![3, 0, 0, 0] S1x1x256x128.size inb_S4x4x256x128_S1x1x256x128_3_0_0_0).toLoadRect (harg4.unread x3) : V S1x1x256x128) (fun _ _ e x => st (D.k 0) (D.v 0) (D.a 0) (256 * T + 192) e x) :=
  (t.h3.load harg4 inb_S4x4x256x128_S1x1x256x128_3_0_0_0).congr fun i hi j hj k _ l _ => by
    obtain rfl : i = 0 := by omega
    obtain rfl : j = 0 := by omega
    simp only [Nat.zero_add, Nat.add_zero, Nat.mul_zero, Nat.reduceMul]

/-- Head 1's queries. -/
def tQ1 : V S256x128 := View.readAt (Elt Ideal) arg2.view (Rect.unit (s := S256x3088) ![0, 128] S256x128.size inb_S256x3088_S256x128_0_128).toLoadRect (harg2.unread x1)

theorem Tile.q1 (t : Tile D T x0 x1 x2 x3 x4 x5 x6) : R2 (tQ1 harg2 x1) (fun i j => D.pj (256 * T + i) (128 * 1 + j)) := (t.h1.load harg2 inb_S256x3088_S256x128_0_128).congr fun i _ j _ => by simp only [Nat.zero_add, Nat.reduceMul]

/-- Head 1's keys. -/
def tK1 : V S256x128 := View.readAt (Elt Ideal) arg2.view (Rect.unit (s := S256x3088) ![0, 640] S256x128.size inb_S256x3088_S256x128_0_640).toLoadRect (harg2.unread x1)

theorem Tile.k1 (t : Tile D T x0 x1 x2 x3 x4 x5 x6) : R2 (tK1 harg2 x1) (fun i j => D.k 1 (256 * T + i) j) := (t.h1.load harg2 inb_S256x3088_S256x128_0_640).congr fun i _ j _ => by rw [Nat.zero_add]; rfl

/-- Head 1's values. -/
def tV1 : V S256x256 := View.readAt (Elt Ideal) arg2.view (Rect.unit (s := S256x3088) ![0, 1280] S256x256.size inb_S256x3088_S256x256_0_1280).toLoadRect (harg2.unread x1)

theorem Tile.v1 (t : Tile D T x0 x1 x2 x3 x4 x5 x6) : R2 (tV1 harg2 x1) (fun i j => D.v 1 (256 * T + i) j) := (t.h1.load harg2 inb_S256x3088_S256x256_0_1280).congr fun i _ j _ => by rw [Nat.zero_add]; rfl

/-- Head 1's output gate. -/
def tR1 : V S256x256 := View.readAt (Elt Ideal) arg2.view (Rect.unit (s := S256x3088) ![0, 2304] S256x256.size inb_S256x3088_S256x256_0_2304).toLoadRect (harg2.unread x1)

theorem Tile.r1 (t : Tile D T x0 x1 x2 x3 x4 x5 x6) : R2 (tR1 harg2 x1) (fun i j => D.r 1 (256 * T + i) j) := (t.h1.load harg2 inb_S256x3088_S256x256_0_2304).congr fun i _ j _ => by rw [Nat.zero_add]; rfl

/-- Head 1's incoming gradient. -/
def tA1 : V S256x256 := View.readAt (Elt Ideal) arg1.view (Rect.unit (s := S256x1024) ![0, 256] S256x256.size inb_S256x1024_S256x256_0_256).toLoadRect (harg1.unread x0)

theorem Tile.a1 (t : Tile D T x0 x1 x2 x3 x4 x5 x6) : R2 (tA1 harg1 x0) (fun i j => D.dah 1 (256 * T + i) j) := (t.h0.load harg1 inb_S256x1024_S256x256_0_256).congr fun i _ j _ => by rw [Nat.zero_add]; rfl

/-- Head 1's attention output. -/
def tO1 : V S256x256 := View.readAt (Elt Ideal) arg3.view (Rect.unit (s := S256x1024) ![0, 256] S256x256.size inb_S256x1024_S256x256_0_256).toLoadRect (harg3.unread x2)

theorem Tile.o1 (t : Tile D T x0 x1 x2 x3 x4 x5 x6) : R2 (tO1 harg3 x2) (fun i j => D.oh 1 (256 * T + i) j) := (t.h2.load harg3 inb_S256x1024_S256x256_0_256).congr fun i _ j _ => by rw [Nat.zero_add]; rfl

/-- Head 1's gate weight. -/
def tW1 : V S16x128 := View.readAt (Elt Ideal) arg5.view (Rect.unit (s := S16x512) ![0, 128] S16x128.size inb_S16x512_S16x128_0_128).toLoadRect (harg5.unread x4)

theorem Tile.w1 (t : Tile D T x0 x1 x2 x3 x4 x5 x6) : R2 (tW1 harg5 x4) (fun i j => D.w 1 i j) := (t.h4.load harg5 inb_S16x512_S16x128_0_128).congr fun i _ j _ => by rw [Nat.zero_add]; rfl

/-- Head 1's gate bias. -/
def tB1 : V S1x128 := View.readAt (Elt Ideal) arg6.view (Rect.unit (s := S1x512) ![0, 128] S1x128.size inb_S1x512_S1x128_0_128).toLoadRect (harg6.unread x5)

theorem Tile.b1 (t : Tile D T x0 x1 x2 x3 x4 x5 x6) : R2 (tB1 harg6 x5) (fun i j => D.b 1 j) := (t.h5.load harg6 inb_S1x512_S1x128_0_128).congr fun i _ j _ => by rfl

/-- Head 1's logits. -/
def tL1 : V S256x128 := vLogit (tZ harg2 x1) (tW1 harg5 x4) (tB1 harg6 x5)
/-- Head 1's sums. -/
def tG1 : V S256x128 := vGcum (tZ harg2 x1) (tW1 harg5 x4) (tB1 harg6 x5)
/-- Head 1's attention output's gradient. -/
def tD1 : V S256x256 := vDo (tA1 harg1 x0) (tO1 harg3 x2) (tR1 harg2 x1) (View.readAt (Elt Ideal) arg7.view (Rect.unit (s := S1x256) ![0, 0] S1x256.size inb_S1x256_S1x256_0_0).toLoadRect (harg7.unread x6))
theorem Tile.l1 (t : Tile D T x0 x1 x2 x3 x4 x5 x6) : R2 (tL1 harg2 harg5 harg6 x1 x4 x5) (fun i x => lgt D.z (D.w 1) (D.b 1) (256 * T + i) x) :=
  R2.logit (t.z harg2) (t.w1 harg5) (t.b1 harg6)
theorem Tile.head1 (t : Tile D T x0 x1 x2 x3 x4 x5 x6) : HeadV D 1 T (tG1 harg2 harg5 harg6 x1 x4 x5) (vQ (tQ1 harg2 x1)) (tK1 harg2 x1)
    (tV1 harg2 x1) (tD1 harg1 harg2 harg3 harg7 x0 x1 x2 x6) where
  hg := R2.gcum (t.z harg2) (t.w1 harg5) (t.b1 harg6)
  hq := R2.qs (q := fun i x => D.pj i (128 * 1 + x)) (t.q1 harg2)
  hk := t.k1 harg2
  hv := t.v1 harg2
  hd := R2.dov (t.a1 harg1) (t.o1 harg3) (t.r1 harg2) (t.g harg7)

theorem Tile.sp01 (t : Tile D T x0 x1 x2 x3 x4 x5 x6) : R4 (φ := .f32) (View.readAt (Elt Ideal) arg4.view (Rect.unit (s := S4x4x256x128) ![0, 1, 0, 0] S1x1x256x128.size inb_S4x4x256x128_S1x1x256x128_0_1_0_0).toLoadRect (harg4.unread x3) : V S1x1x256x128) (fun _ _ e x => st (D.k 1) (D.v 1) (D.a 1) (256 * T + 0) e x) :=
  (t.h3.load harg4 inb_S4x4x256x128_S1x1x256x128_0_1_0_0).congr fun i hi j hj k _ l _ => by
    obtain rfl : i = 0 := by omega
    obtain rfl : j = 0 := by omega
    simp only [Nat.zero_add, Nat.add_zero, Nat.mul_zero, Nat.reduceMul]

theorem Tile.sp11 (t : Tile D T x0 x1 x2 x3 x4 x5 x6) : R4 (φ := .f32) (View.readAt (Elt Ideal) arg4.view (Rect.unit (s := S4x4x256x128) ![1, 1, 0, 0] S1x1x256x128.size inb_S4x4x256x128_S1x1x256x128_1_1_0_0).toLoadRect (harg4.unread x3) : V S1x1x256x128) (fun _ _ e x => st (D.k 1) (D.v 1) (D.a 1) (256 * T + 64) e x) :=
  (t.h3.load harg4 inb_S4x4x256x128_S1x1x256x128_1_1_0_0).congr fun i hi j hj k _ l _ => by
    obtain rfl : i = 0 := by omega
    obtain rfl : j = 0 := by omega
    simp only [Nat.zero_add, Nat.add_zero, Nat.mul_zero, Nat.reduceMul]

theorem Tile.sp21 (t : Tile D T x0 x1 x2 x3 x4 x5 x6) : R4 (φ := .f32) (View.readAt (Elt Ideal) arg4.view (Rect.unit (s := S4x4x256x128) ![2, 1, 0, 0] S1x1x256x128.size inb_S4x4x256x128_S1x1x256x128_2_1_0_0).toLoadRect (harg4.unread x3) : V S1x1x256x128) (fun _ _ e x => st (D.k 1) (D.v 1) (D.a 1) (256 * T + 128) e x) :=
  (t.h3.load harg4 inb_S4x4x256x128_S1x1x256x128_2_1_0_0).congr fun i hi j hj k _ l _ => by
    obtain rfl : i = 0 := by omega
    obtain rfl : j = 0 := by omega
    simp only [Nat.zero_add, Nat.add_zero, Nat.mul_zero, Nat.reduceMul]

theorem Tile.sp31 (t : Tile D T x0 x1 x2 x3 x4 x5 x6) : R4 (φ := .f32) (View.readAt (Elt Ideal) arg4.view (Rect.unit (s := S4x4x256x128) ![3, 1, 0, 0] S1x1x256x128.size inb_S4x4x256x128_S1x1x256x128_3_1_0_0).toLoadRect (harg4.unread x3) : V S1x1x256x128) (fun _ _ e x => st (D.k 1) (D.v 1) (D.a 1) (256 * T + 192) e x) :=
  (t.h3.load harg4 inb_S4x4x256x128_S1x1x256x128_3_1_0_0).congr fun i hi j hj k _ l _ => by
    obtain rfl : i = 0 := by omega
    obtain rfl : j = 0 := by omega
    simp only [Nat.zero_add, Nat.add_zero, Nat.mul_zero, Nat.reduceMul]

/-- Head 2's queries. -/
def tQ2 : V S256x128 := View.readAt (Elt Ideal) arg2.view (Rect.unit (s := S256x3088) ![0, 256] S256x128.size inb_S256x3088_S256x128_0_256).toLoadRect (harg2.unread x1)

theorem Tile.q2 (t : Tile D T x0 x1 x2 x3 x4 x5 x6) : R2 (tQ2 harg2 x1) (fun i j => D.pj (256 * T + i) (128 * 2 + j)) := (t.h1.load harg2 inb_S256x3088_S256x128_0_256).congr fun i _ j _ => by simp only [Nat.zero_add, Nat.reduceMul]

/-- Head 2's keys. -/
def tK2 : V S256x128 := View.readAt (Elt Ideal) arg2.view (Rect.unit (s := S256x3088) ![0, 768] S256x128.size inb_S256x3088_S256x128_0_768).toLoadRect (harg2.unread x1)

theorem Tile.k2 (t : Tile D T x0 x1 x2 x3 x4 x5 x6) : R2 (tK2 harg2 x1) (fun i j => D.k 2 (256 * T + i) j) := (t.h1.load harg2 inb_S256x3088_S256x128_0_768).congr fun i _ j _ => by rw [Nat.zero_add]; rfl

/-- Head 2's values. -/
def tV2 : V S256x256 := View.readAt (Elt Ideal) arg2.view (Rect.unit (s := S256x3088) ![0, 1536] S256x256.size inb_S256x3088_S256x256_0_1536).toLoadRect (harg2.unread x1)

theorem Tile.v2 (t : Tile D T x0 x1 x2 x3 x4 x5 x6) : R2 (tV2 harg2 x1) (fun i j => D.v 2 (256 * T + i) j) := (t.h1.load harg2 inb_S256x3088_S256x256_0_1536).congr fun i _ j _ => by rw [Nat.zero_add]; rfl

/-- Head 2's output gate. -/
def tR2 : V S256x256 := View.readAt (Elt Ideal) arg2.view (Rect.unit (s := S256x3088) ![0, 2560] S256x256.size inb_S256x3088_S256x256_0_2560).toLoadRect (harg2.unread x1)

theorem Tile.r2 (t : Tile D T x0 x1 x2 x3 x4 x5 x6) : R2 (tR2 harg2 x1) (fun i j => D.r 2 (256 * T + i) j) := (t.h1.load harg2 inb_S256x3088_S256x256_0_2560).congr fun i _ j _ => by rw [Nat.zero_add]; rfl

/-- Head 2's incoming gradient. -/
def tA2 : V S256x256 := View.readAt (Elt Ideal) arg1.view (Rect.unit (s := S256x1024) ![0, 512] S256x256.size inb_S256x1024_S256x256_0_512).toLoadRect (harg1.unread x0)

theorem Tile.a2 (t : Tile D T x0 x1 x2 x3 x4 x5 x6) : R2 (tA2 harg1 x0) (fun i j => D.dah 2 (256 * T + i) j) := (t.h0.load harg1 inb_S256x1024_S256x256_0_512).congr fun i _ j _ => by rw [Nat.zero_add]; rfl

/-- Head 2's attention output. -/
def tO2 : V S256x256 := View.readAt (Elt Ideal) arg3.view (Rect.unit (s := S256x1024) ![0, 512] S256x256.size inb_S256x1024_S256x256_0_512).toLoadRect (harg3.unread x2)

theorem Tile.o2 (t : Tile D T x0 x1 x2 x3 x4 x5 x6) : R2 (tO2 harg3 x2) (fun i j => D.oh 2 (256 * T + i) j) := (t.h2.load harg3 inb_S256x1024_S256x256_0_512).congr fun i _ j _ => by rw [Nat.zero_add]; rfl

/-- Head 2's gate weight. -/
def tW2 : V S16x128 := View.readAt (Elt Ideal) arg5.view (Rect.unit (s := S16x512) ![0, 256] S16x128.size inb_S16x512_S16x128_0_256).toLoadRect (harg5.unread x4)

theorem Tile.w2 (t : Tile D T x0 x1 x2 x3 x4 x5 x6) : R2 (tW2 harg5 x4) (fun i j => D.w 2 i j) := (t.h4.load harg5 inb_S16x512_S16x128_0_256).congr fun i _ j _ => by rw [Nat.zero_add]; rfl

/-- Head 2's gate bias. -/
def tB2 : V S1x128 := View.readAt (Elt Ideal) arg6.view (Rect.unit (s := S1x512) ![0, 256] S1x128.size inb_S1x512_S1x128_0_256).toLoadRect (harg6.unread x5)

theorem Tile.b2 (t : Tile D T x0 x1 x2 x3 x4 x5 x6) : R2 (tB2 harg6 x5) (fun i j => D.b 2 j) := (t.h5.load harg6 inb_S1x512_S1x128_0_256).congr fun i _ j _ => by rfl

/-- Head 2's logits. -/
def tL2 : V S256x128 := vLogit (tZ harg2 x1) (tW2 harg5 x4) (tB2 harg6 x5)
/-- Head 2's sums. -/
def tG2 : V S256x128 := vGcum (tZ harg2 x1) (tW2 harg5 x4) (tB2 harg6 x5)
/-- Head 2's attention output's gradient. -/
def tD2 : V S256x256 := vDo (tA2 harg1 x0) (tO2 harg3 x2) (tR2 harg2 x1) (View.readAt (Elt Ideal) arg7.view (Rect.unit (s := S1x256) ![0, 0] S1x256.size inb_S1x256_S1x256_0_0).toLoadRect (harg7.unread x6))
theorem Tile.l2 (t : Tile D T x0 x1 x2 x3 x4 x5 x6) : R2 (tL2 harg2 harg5 harg6 x1 x4 x5) (fun i x => lgt D.z (D.w 2) (D.b 2) (256 * T + i) x) :=
  R2.logit (t.z harg2) (t.w2 harg5) (t.b2 harg6)
theorem Tile.head2 (t : Tile D T x0 x1 x2 x3 x4 x5 x6) : HeadV D 2 T (tG2 harg2 harg5 harg6 x1 x4 x5) (vQ (tQ2 harg2 x1)) (tK2 harg2 x1)
    (tV2 harg2 x1) (tD2 harg1 harg2 harg3 harg7 x0 x1 x2 x6) where
  hg := R2.gcum (t.z harg2) (t.w2 harg5) (t.b2 harg6)
  hq := R2.qs (q := fun i x => D.pj i (128 * 2 + x)) (t.q2 harg2)
  hk := t.k2 harg2
  hv := t.v2 harg2
  hd := R2.dov (t.a2 harg1) (t.o2 harg3) (t.r2 harg2) (t.g harg7)

theorem Tile.sp02 (t : Tile D T x0 x1 x2 x3 x4 x5 x6) : R4 (φ := .f32) (View.readAt (Elt Ideal) arg4.view (Rect.unit (s := S4x4x256x128) ![0, 2, 0, 0] S1x1x256x128.size inb_S4x4x256x128_S1x1x256x128_0_2_0_0).toLoadRect (harg4.unread x3) : V S1x1x256x128) (fun _ _ e x => st (D.k 2) (D.v 2) (D.a 2) (256 * T + 0) e x) :=
  (t.h3.load harg4 inb_S4x4x256x128_S1x1x256x128_0_2_0_0).congr fun i hi j hj k _ l _ => by
    obtain rfl : i = 0 := by omega
    obtain rfl : j = 0 := by omega
    simp only [Nat.zero_add, Nat.add_zero, Nat.mul_zero, Nat.reduceMul]

theorem Tile.sp12 (t : Tile D T x0 x1 x2 x3 x4 x5 x6) : R4 (φ := .f32) (View.readAt (Elt Ideal) arg4.view (Rect.unit (s := S4x4x256x128) ![1, 2, 0, 0] S1x1x256x128.size inb_S4x4x256x128_S1x1x256x128_1_2_0_0).toLoadRect (harg4.unread x3) : V S1x1x256x128) (fun _ _ e x => st (D.k 2) (D.v 2) (D.a 2) (256 * T + 64) e x) :=
  (t.h3.load harg4 inb_S4x4x256x128_S1x1x256x128_1_2_0_0).congr fun i hi j hj k _ l _ => by
    obtain rfl : i = 0 := by omega
    obtain rfl : j = 0 := by omega
    simp only [Nat.zero_add, Nat.add_zero, Nat.mul_zero, Nat.reduceMul]

theorem Tile.sp22 (t : Tile D T x0 x1 x2 x3 x4 x5 x6) : R4 (φ := .f32) (View.readAt (Elt Ideal) arg4.view (Rect.unit (s := S4x4x256x128) ![2, 2, 0, 0] S1x1x256x128.size inb_S4x4x256x128_S1x1x256x128_2_2_0_0).toLoadRect (harg4.unread x3) : V S1x1x256x128) (fun _ _ e x => st (D.k 2) (D.v 2) (D.a 2) (256 * T + 128) e x) :=
  (t.h3.load harg4 inb_S4x4x256x128_S1x1x256x128_2_2_0_0).congr fun i hi j hj k _ l _ => by
    obtain rfl : i = 0 := by omega
    obtain rfl : j = 0 := by omega
    simp only [Nat.zero_add, Nat.add_zero, Nat.mul_zero, Nat.reduceMul]

theorem Tile.sp32 (t : Tile D T x0 x1 x2 x3 x4 x5 x6) : R4 (φ := .f32) (View.readAt (Elt Ideal) arg4.view (Rect.unit (s := S4x4x256x128) ![3, 2, 0, 0] S1x1x256x128.size inb_S4x4x256x128_S1x1x256x128_3_2_0_0).toLoadRect (harg4.unread x3) : V S1x1x256x128) (fun _ _ e x => st (D.k 2) (D.v 2) (D.a 2) (256 * T + 192) e x) :=
  (t.h3.load harg4 inb_S4x4x256x128_S1x1x256x128_3_2_0_0).congr fun i hi j hj k _ l _ => by
    obtain rfl : i = 0 := by omega
    obtain rfl : j = 0 := by omega
    simp only [Nat.zero_add, Nat.add_zero, Nat.mul_zero, Nat.reduceMul]

/-- Head 3's queries. -/
def tQ3 : V S256x128 := View.readAt (Elt Ideal) arg2.view (Rect.unit (s := S256x3088) ![0, 384] S256x128.size inb_S256x3088_S256x128_0_384).toLoadRect (harg2.unread x1)

theorem Tile.q3 (t : Tile D T x0 x1 x2 x3 x4 x5 x6) : R2 (tQ3 harg2 x1) (fun i j => D.pj (256 * T + i) (128 * 3 + j)) := (t.h1.load harg2 inb_S256x3088_S256x128_0_384).congr fun i _ j _ => by simp only [Nat.zero_add, Nat.reduceMul]

/-- Head 3's keys. -/
def tK3 : V S256x128 := View.readAt (Elt Ideal) arg2.view (Rect.unit (s := S256x3088) ![0, 896] S256x128.size inb_S256x3088_S256x128_0_896).toLoadRect (harg2.unread x1)

theorem Tile.k3 (t : Tile D T x0 x1 x2 x3 x4 x5 x6) : R2 (tK3 harg2 x1) (fun i j => D.k 3 (256 * T + i) j) := (t.h1.load harg2 inb_S256x3088_S256x128_0_896).congr fun i _ j _ => by rw [Nat.zero_add]; rfl

/-- Head 3's values. -/
def tV3 : V S256x256 := View.readAt (Elt Ideal) arg2.view (Rect.unit (s := S256x3088) ![0, 1792] S256x256.size inb_S256x3088_S256x256_0_1792).toLoadRect (harg2.unread x1)

theorem Tile.v3 (t : Tile D T x0 x1 x2 x3 x4 x5 x6) : R2 (tV3 harg2 x1) (fun i j => D.v 3 (256 * T + i) j) := (t.h1.load harg2 inb_S256x3088_S256x256_0_1792).congr fun i _ j _ => by rw [Nat.zero_add]; rfl

/-- Head 3's output gate. -/
def tR3 : V S256x256 := View.readAt (Elt Ideal) arg2.view (Rect.unit (s := S256x3088) ![0, 2816] S256x256.size inb_S256x3088_S256x256_0_2816).toLoadRect (harg2.unread x1)

theorem Tile.r3 (t : Tile D T x0 x1 x2 x3 x4 x5 x6) : R2 (tR3 harg2 x1) (fun i j => D.r 3 (256 * T + i) j) := (t.h1.load harg2 inb_S256x3088_S256x256_0_2816).congr fun i _ j _ => by rw [Nat.zero_add]; rfl

/-- Head 3's incoming gradient. -/
def tA3 : V S256x256 := View.readAt (Elt Ideal) arg1.view (Rect.unit (s := S256x1024) ![0, 768] S256x256.size inb_S256x1024_S256x256_0_768).toLoadRect (harg1.unread x0)

theorem Tile.a3 (t : Tile D T x0 x1 x2 x3 x4 x5 x6) : R2 (tA3 harg1 x0) (fun i j => D.dah 3 (256 * T + i) j) := (t.h0.load harg1 inb_S256x1024_S256x256_0_768).congr fun i _ j _ => by rw [Nat.zero_add]; rfl

/-- Head 3's attention output. -/
def tO3 : V S256x256 := View.readAt (Elt Ideal) arg3.view (Rect.unit (s := S256x1024) ![0, 768] S256x256.size inb_S256x1024_S256x256_0_768).toLoadRect (harg3.unread x2)

theorem Tile.o3 (t : Tile D T x0 x1 x2 x3 x4 x5 x6) : R2 (tO3 harg3 x2) (fun i j => D.oh 3 (256 * T + i) j) := (t.h2.load harg3 inb_S256x1024_S256x256_0_768).congr fun i _ j _ => by rw [Nat.zero_add]; rfl

/-- Head 3's gate weight. -/
def tW3 : V S16x128 := View.readAt (Elt Ideal) arg5.view (Rect.unit (s := S16x512) ![0, 384] S16x128.size inb_S16x512_S16x128_0_384).toLoadRect (harg5.unread x4)

theorem Tile.w3 (t : Tile D T x0 x1 x2 x3 x4 x5 x6) : R2 (tW3 harg5 x4) (fun i j => D.w 3 i j) := (t.h4.load harg5 inb_S16x512_S16x128_0_384).congr fun i _ j _ => by rw [Nat.zero_add]; rfl

/-- Head 3's gate bias. -/
def tB3 : V S1x128 := View.readAt (Elt Ideal) arg6.view (Rect.unit (s := S1x512) ![0, 384] S1x128.size inb_S1x512_S1x128_0_384).toLoadRect (harg6.unread x5)

theorem Tile.b3 (t : Tile D T x0 x1 x2 x3 x4 x5 x6) : R2 (tB3 harg6 x5) (fun i j => D.b 3 j) := (t.h5.load harg6 inb_S1x512_S1x128_0_384).congr fun i _ j _ => by rfl

/-- Head 3's logits. -/
def tL3 : V S256x128 := vLogit (tZ harg2 x1) (tW3 harg5 x4) (tB3 harg6 x5)
/-- Head 3's sums. -/
def tG3 : V S256x128 := vGcum (tZ harg2 x1) (tW3 harg5 x4) (tB3 harg6 x5)
/-- Head 3's attention output's gradient. -/
def tD3 : V S256x256 := vDo (tA3 harg1 x0) (tO3 harg3 x2) (tR3 harg2 x1) (View.readAt (Elt Ideal) arg7.view (Rect.unit (s := S1x256) ![0, 0] S1x256.size inb_S1x256_S1x256_0_0).toLoadRect (harg7.unread x6))
theorem Tile.l3 (t : Tile D T x0 x1 x2 x3 x4 x5 x6) : R2 (tL3 harg2 harg5 harg6 x1 x4 x5) (fun i x => lgt D.z (D.w 3) (D.b 3) (256 * T + i) x) :=
  R2.logit (t.z harg2) (t.w3 harg5) (t.b3 harg6)
theorem Tile.head3 (t : Tile D T x0 x1 x2 x3 x4 x5 x6) : HeadV D 3 T (tG3 harg2 harg5 harg6 x1 x4 x5) (vQ (tQ3 harg2 x1)) (tK3 harg2 x1)
    (tV3 harg2 x1) (tD3 harg1 harg2 harg3 harg7 x0 x1 x2 x6) where
  hg := R2.gcum (t.z harg2) (t.w3 harg5) (t.b3 harg6)
  hq := R2.qs (q := fun i x => D.pj i (128 * 3 + x)) (t.q3 harg2)
  hk := t.k3 harg2
  hv := t.v3 harg2
  hd := R2.dov (t.a3 harg1) (t.o3 harg3) (t.r3 harg2) (t.g harg7)

theorem Tile.sp03 (t : Tile D T x0 x1 x2 x3 x4 x5 x6) : R4 (φ := .f32) (View.readAt (Elt Ideal) arg4.view (Rect.unit (s := S4x4x256x128) ![0, 3, 0, 0] S1x1x256x128.size inb_S4x4x256x128_S1x1x256x128_0_3_0_0).toLoadRect (harg4.unread x3) : V S1x1x256x128) (fun _ _ e x => st (D.k 3) (D.v 3) (D.a 3) (256 * T + 0) e x) :=
  (t.h3.load harg4 inb_S4x4x256x128_S1x1x256x128_0_3_0_0).congr fun i hi j hj k _ l _ => by
    obtain rfl : i = 0 := by omega
    obtain rfl : j = 0 := by omega
    simp only [Nat.zero_add, Nat.add_zero, Nat.mul_zero, Nat.reduceMul]

theorem Tile.sp13 (t : Tile D T x0 x1 x2 x3 x4 x5 x6) : R4 (φ := .f32) (View.readAt (Elt Ideal) arg4.view (Rect.unit (s := S4x4x256x128) ![1, 3, 0, 0] S1x1x256x128.size inb_S4x4x256x128_S1x1x256x128_1_3_0_0).toLoadRect (harg4.unread x3) : V S1x1x256x128) (fun _ _ e x => st (D.k 3) (D.v 3) (D.a 3) (256 * T + 64) e x) :=
  (t.h3.load harg4 inb_S4x4x256x128_S1x1x256x128_1_3_0_0).congr fun i hi j hj k _ l _ => by
    obtain rfl : i = 0 := by omega
    obtain rfl : j = 0 := by omega
    simp only [Nat.zero_add, Nat.add_zero, Nat.mul_zero, Nat.reduceMul]

theorem Tile.sp23 (t : Tile D T x0 x1 x2 x3 x4 x5 x6) : R4 (φ := .f32) (View.readAt (Elt Ideal) arg4.view (Rect.unit (s := S4x4x256x128) ![2, 3, 0, 0] S1x1x256x128.size inb_S4x4x256x128_S1x1x256x128_2_3_0_0).toLoadRect (harg4.unread x3) : V S1x1x256x128) (fun _ _ e x => st (D.k 3) (D.v 3) (D.a 3) (256 * T + 128) e x) :=
  (t.h3.load harg4 inb_S4x4x256x128_S1x1x256x128_2_3_0_0).congr fun i hi j hj k _ l _ => by
    obtain rfl : i = 0 := by omega
    obtain rfl : j = 0 := by omega
    simp only [Nat.zero_add, Nat.add_zero, Nat.mul_zero, Nat.reduceMul]

theorem Tile.sp33 (t : Tile D T x0 x1 x2 x3 x4 x5 x6) : R4 (φ := .f32) (View.readAt (Elt Ideal) arg4.view (Rect.unit (s := S4x4x256x128) ![3, 3, 0, 0] S1x1x256x128.size inb_S4x4x256x128_S1x1x256x128_3_3_0_0).toLoadRect (harg4.unread x3) : V S1x1x256x128) (fun _ _ e x => st (D.k 3) (D.v 3) (D.a 3) (256 * T + 192) e x) :=
  (t.h3.load harg4 inb_S4x4x256x128_S1x1x256x128_3_3_0_0).congr fun i hi j hj k _ l _ => by
    obtain rfl : i = 0 := by omega
    obtain rfl : j = 0 := by omega
    simp only [Nat.zero_add, Nat.add_zero, Nat.mul_zero, Nat.reduceMul]

end

end Cert.Gla

end
-- ==== Proof.Step.lean ====
/- What the words of a tile's run read back, and how a tile's results lie in the results of the whole call. -/
module

public import proofs.«01_k».proof.Proof.Tile

@[expose] public section

set_option maxRecDepth 16384

noncomputable section

namespace Cert.Gla

open Idealize.ShloMosaic Idealize.ShloMosaic.TcCoe Idealize.SL.Sem
open Cert.KernelIdeal Cert.KernelIdeal.Gen
open Finset (range Ico)

section Fill
variable {s : Shape} {m : Memref Cert.KernelIdeal.sig .tc .vmem s .f32} {off : Fin s.rank → ℕ} {inb : ∀ a, off a + s.size a ≤ s.size a} {Z : s.Idx → EReal}
  {L : List (View.Piece (Elt Ideal) s .f32)} {r1 r2 r3 r : Rect s} {w1 : r1.shape.Idx → EReal} {w2 : r2.shape.Idx → EReal} {w3 : r3.shape.Idx → EReal}
  {w : r.shape.Idx → EReal}
/-- A load after the block's fill and up to three stores elsewhere reads the fill. -/
theorem fill0 (h : ∀ a, off a = 0) : m.view.readCov (Val := Elt Ideal) (⟨Rect.unit off s.size inb, Z⟩ :: L) r.toLoadRect = fun x => Z (r.idx x) :=
  View.readCov_fill m.view inb Z L r h
theorem fill1 (h : ∀ a, off a = 0) (h1 : LoadRect.disj r1 r.toLoadRect = true) :
    m.view.readCov (Val := Elt Ideal) (⟨r1, w1⟩ :: ⟨Rect.unit off s.size inb, Z⟩ :: L) r.toLoadRect = fun x => Z (r.idx x) := by
  rw [View.readCov_skip _ _ _ _ _ h1]; exact fill0 h
theorem fill2 (h : ∀ a, off a = 0) (h1 : LoadRect.disj r1 r.toLoadRect = true) (h2 : LoadRect.disj r2 r.toLoadRect = true) :
    m.view.readCov (Val := Elt Ideal) (⟨r1, w1⟩ :: ⟨r2, w2⟩ :: ⟨Rect.unit off s.size inb, Z⟩ :: L) r.toLoadRect = fun x => Z (r.idx x) := by
  rw [View.readCov_skip _ _ _ _ _ h1]; exact fill1 h h2
theorem fill3 (h : ∀ a, off a = 0) (h1 : LoadRect.disj r1 r.toLoadRect = true) (h2 : LoadRect.disj r2 r.toLoadRect = true)
    (h3 : LoadRect.disj r3 r.toLoadRect = true) :
    m.view.readCov (Val := Elt Ideal) (⟨r1, w1⟩ :: ⟨r2, w2⟩ :: ⟨r3, w3⟩ :: ⟨Rect.unit off s.size inb, Z⟩ :: L) r.toLoadRect = fun x => Z (r.idx x) := by
  rw [View.readCov_skip _ _ _ _ _ h1]; exact fill2 h h2 h3
/-- A load of exactly what was stored last. -/
theorem hit0 : m.view.readCov (Val := Elt Ideal) (⟨r, w⟩ :: L) r.toLoadRect = w := View.readCov_cons_toLoadRect ..
end Fill

/-- The last `n` stores, covering the block, are what it holds. -/
theorem canon_take {s : Shape} {e : EltTy} (n : ℕ) (G : s.Idx → Elt Ideal e) (L : List (View.Piece (Elt Ideal) s e))
    (h : View.PiecesOf (Val := Elt Ideal) G (L.take n)) (hc : ∀ y, ∃ p ∈ L.take n, y ∈ p.1.set) : View.canon L = G := by
  funext y
  rw [← List.take_append_drop n L]
  exact View.canon_append_of_piecesOf G _ _ h y (hc y)
/-- All the stores, covering the block, are what it holds. -/
theorem canon_all {s : Shape} {e : EltTy} (G : s.Idx → Elt Ideal e) (L : List (View.Piece (Elt Ideal) s e))
    (h : View.PiecesOf (Val := Elt Ideal) G L) (hc : ∀ y, ∃ p ∈ L, y ∈ p.1.set) : View.canon L = G := by
  funext y
  have := View.canon_append_of_piecesOf G [] L h y (hc y)
  rwa [List.append_nil] at this

/-- The last tile: no row comes after it. -/
structure Last (T : ℕ) : Prop where
  hT : 256 * T + 256 = 4096

theorem dst_top (q d a : ℕ → ℕ → ℝ) (e x : ℕ) : dst q d a 4096 e x = 0 := by simp [dst]

/-- The sum over a tile's rows, put before the sum over the rows after it. -/
theorem sum_tile (f : ℕ → ℝ) (T : ℕ) (hT : 256 * T + 256 ≤ 4096) :
    ∑ i ∈ Ico (256 * T + 256) 4096, f i + ∑ i ∈ range 256, f (256 * T + i) = ∑ i ∈ Ico (256 * T) 4096, f i := by
  rw [← Finset.sum_Ico_consecutive f (by omega : 256 * T ≤ 256 * T + 256) hT, add_comm]
  congr 1
  rw [Finset.sum_Ico_eq_sum_range, Nat.add_sub_cancel_left]

namespace Data
variable (D : Data) (T : ℕ)
theorem gWal_top (r c : ℕ) : D.gWal 4096 r c = 0 := by simp [gWal]
theorem gBal_top (c : ℕ) : D.gBal 4096 c = 0 := by simp [gBal]
theorem gNg_top (c : ℕ) : D.gNg 4096 c = 0 := by simp [gNg]
theorem gWal_step (hT : 256 * T + 256 ≤ 4096) (h : ℕ) {n : ℕ} (hn : n = 128 * h) (r x : ℕ) (hx : x < 128) :
    D.gWal (256 * T + 256) r (n + x) + ∑ i ∈ range 256, D.z (256 * T + i) r * D.l h (256 * T + i) x = D.gWal (256 * T) r (n + x) := by
  subst hn
  rw [gWal, gWal, show (128 * h + x) / 128 = h by omega, show (128 * h + x) % 128 = x by omega]
  exact sum_tile (fun i => D.z i r * D.l h i x) T hT
theorem gBal_step (hT : 256 * T + 256 ≤ 4096) (h : ℕ) {n : ℕ} (hn : n = 128 * h) (x : ℕ) (hx : x < 128) :
    D.gBal (256 * T + 256) (n + x) + ∑ i ∈ range 256, D.l h (256 * T + i) x = D.gBal (256 * T) (n + x) := by
  subst hn
  rw [gBal, gBal, show (128 * h + x) / 128 = h by omega, show (128 * h + x) % 128 = x by omega]
  exact sum_tile (fun i => D.l h i x) T hT
theorem gNg_step (hT : 256 * T + 256 ≤ 4096) (x : ℕ) :
    D.gNg (256 * T + 256) x + ∑ i ∈ range 256, D.n 0 (256 * T + i) x + ∑ i ∈ range 256, D.n 1 (256 * T + i) x
      + ∑ i ∈ range 256, D.n 2 (256 * T + i) x + ∑ i ∈ range 256, D.n 3 (256 * T + i) x = D.gNg (256 * T) x := by
  rw [gNg, gNg, ← sum_tile (fun i => ∑ h ∈ range 4, D.n h i x) T hT]
  simp only [Finset.sum_range_succ _ 3, Finset.sum_range_succ _ 2, Finset.sum_range_succ _ 1, Finset.sum_range_one, Finset.sum_add_distrib]
  ring
variable (o h i j : ℕ) {n : ℕ}
theorem pq (hh : h < 4) (hj : j < 128) (hn : n = 128 * h) :
    sc * gQ (D.k h) (D.v h) (D.d h) (D.a h) (256 * T + o + i) j = D.gPj (256 * T + (o + i)) (n + j) := by
  subst hn; rw [gPj_q D h hh _ j hj, Nat.add_assoc]
theorem pk (hh : h < 4) (hj : j < 128) (hn : n = 512 + 128 * h) :
    gK (D.q h) (D.v h) (D.d h) (D.a h) (256 * T + o + i) j = D.gPj (256 * T + (o + i)) (n + j) := by
  subst hn; rw [gPj_k D h hh _ j hj, Nat.add_assoc]
theorem pv (hh : h < 4) (hj : j < 256) (hn : n = 1024 + 256 * h) :
    gV (D.q h) (D.k h) (D.d h) (D.a h) (256 * T + o + i) j = D.gPj (256 * T + (o + i)) (n + j) := by
  subst hn; rw [gPj_v D h hh _ j hj, Nat.add_assoc]
theorem pr (hh : h < 4) (hj : j < 256) (hn : n = 2048 + 256 * h) :
    gR (D.dah h) (D.oh h) (D.r h) D.ng (256 * T + i) j = D.gPj (256 * T + (0 + i)) (n + j) := by
  subst hn; rw [gPj_r D h hh _ j hj, Nat.zero_add]
theorem pz :
    0 + ∑ x ∈ range 128, D.l 0 (256 * T + i) x * D.w 0 j x + ∑ x ∈ range 128, D.l 1 (256 * T + i) x * D.w 1 j x
      + ∑ x ∈ range 128, D.l 2 (256 * T + i) x * D.w 2 j x + ∑ x ∈ range 128, D.l 3 (256 * T + i) x * D.w 3 j x
      = D.gPj (256 * T + (0 + i)) (3072 + j) := by
  rw [gPj_z, Nat.zero_add]
  simp only [Finset.sum_range_succ _ 3, Finset.sum_range_succ _ 2, Finset.sum_range_succ _ 1, Finset.sum_range_one]
  ring
end Data

/-- What a tile leaves behind: the gradients of the decay gate's weight and bias and of the gain so far, and the state. -/
structure State (D : Data) (m : ℕ) (y8 : V S16x512) (y9 : V S1x512) (y10 : V S1x256) (ys : V S4x256x128) : Prop where
  h8 : R2 y8 (fun r x => D.gWal m r x)
  h9 : R2 y9 (fun _ x => D.gBal m x)
  h10 : R2 y10 (fun _ x => D.gNg m x)
  hs : R3 ys (fun h e x => dst (D.q h) (D.d h) (D.a h) m e x)

/-- A list of stores that are rectangles of the block `G`, store by store. -/
theorem pcons {s : Shape} {e : EltTy} {G : s.Idx → Elt Ideal e} {r : Rect s} {w : r.shape.Idx → Elt Ideal e} {L : List (View.Piece (Elt Ideal) s e)}
    (h : ∀ x, w x = G (r.emb x)) (hL : View.PiecesOf (Val := Elt Ideal) G L) : View.PiecesOf (Val := Elt Ideal) G (⟨r, w⟩ :: L) := ⟨h, hL⟩

theorem R2.ofCoe {a b : ℕ} {φ : FTy} {u : FVec Ideal ⟨2, ![a, b]⟩ φ} {X : ℕ → ℕ → ℝ} (h : u = coe2 X) : R2 u X := fun i j => by rw [h]; rfl
theorem R3.ofCoe {a b c : ℕ} {φ : FTy} {u : FVec Ideal ⟨3, ![a, b, c]⟩ φ} {X : ℕ → ℕ → ℕ → ℝ} (h : u = coe3 X) : R3 u X := fun i j k => by rw [h]; rfl

end Cert.Gla

end
-- ==== Proof.DsA.lean ====
/- The state that each chunk of a first tile hands over to the chunk before it, head by head. -/
module

public import proofs.«01_k».proof.Proof.Step

@[expose] public section

set_option maxRecDepth 16384

noncomputable section

namespace Cert.Gla

open Idealize.ShloMosaic Idealize.ShloMosaic.TcCoe Idealize.SL.Sem
open Cert.KernelIdeal Cert.KernelIdeal.Gen
open Finset (range Ico)

variable (c : Dev nD) {arg1 : Memref Cert.KernelIdeal.sig .tc .vmem S256x1024 .f32} (harg1 : arg1.IsWhole) {arg2 : Memref Cert.KernelIdeal.sig .tc .vmem S256x3088 .f32} (harg2 : arg2.IsWhole)
  {arg3 : Memref Cert.KernelIdeal.sig .tc .vmem S256x1024 .f32} (harg3 : arg3.IsWhole) {arg4 : Memref Cert.KernelIdeal.sig .tc .vmem S4x4x256x128 .f32} (harg4 : arg4.IsWhole)
  {arg5 : Memref Cert.KernelIdeal.sig .tc .vmem S16x512 .f32} (harg5 : arg5.IsWhole) {arg6 : Memref Cert.KernelIdeal.sig .tc .vmem S1x512 .f32} (harg6 : arg6.IsWhole)
  {arg7 : Memref Cert.KernelIdeal.sig .tc .vmem S1x256 .f32} (harg7 : arg7.IsWhole) {arg9 : Memref Cert.KernelIdeal.sig .tc .vmem S16x512 .f32} (harg9 : arg9.IsWhole)
  {arg10 : Memref Cert.KernelIdeal.sig .tc .vmem S1x512 .f32} (harg10 : arg10.IsWhole) {arg11 : Memref Cert.KernelIdeal.sig .tc .vmem S1x256 .f32} (harg11 : arg11.IsWhole)
  {arg12 : Memref Cert.KernelIdeal.sig .tc .vmem S4x256x128 .f32} (harg12 : arg12.IsWhole) {arg13 : Memref Cert.KernelIdeal.sig .tc .vmem S4x256x128 .f32} (harg13 : arg13.IsWhole)
variable {x0 : V S256x1024} {x1 : V S256x3088} {x2 : V S256x1024} {x3 : V S4x4x256x128} {x4 : V S16x512} {x5 : V S1x512} {x6 : V S1x256}
  {xo8 : V S16x512} {xo9 : V S1x512} {xo10 : V S1x256} {xs0 : V S4x256x128}
variable {D : Data} {T : ℕ}
include c harg1 harg2 harg3 harg4 harg5 harg6 harg7 harg9 harg10 harg11 harg12 harg13

theorem dsA_30 (t : Tile D T x0 x1 x2 x3 x4 x5 x6) (hS : Last T) : R3 (φ := .f32) ((kernelRun0_A.sl.v674 (F := Ideal) c arg12) : V S1x256x128)
    (fun _ e x => dst (D.q 0) (D.d 0) (D.a 0) (256 * T + 256) e x) :=
  fun i j k => (congrFun (fill0 (m := arg12) (by decide)) _).trans (bits_zero.trans (by simp only [show 256 * T + 256 = 4096 from hS.hT, dst_top]))

theorem dsA_31 (t : Tile D T x0 x1 x2 x3 x4 x5 x6) (hS : Last T) : R3 (φ := .f32) ((kernelRun0_A.sl.v774 (F := Ideal) c arg1 harg1 arg2 harg2 arg3 harg3 arg5 harg5 arg6 harg6 arg7 harg7 arg12 x0 x1 x2 x4 x5 x6) : V S1x256x128)
    (fun _ e x => dst (D.q 1) (D.d 1) (D.a 1) (256 * T + 256) e x) :=
  fun i j k => (congrFun (fill1 (m := arg12) (by decide) (by decide)) _).trans (bits_zero.trans (by simp only [show 256 * T + 256 = 4096 from hS.hT, dst_top]))

theorem dsA_32 (t : Tile D T x0 x1 x2 x3 x4 x5 x6) (hS : Last T) : R3 (φ := .f32) ((kernelRun0_A.sl.v874 (F := Ideal) c arg1 harg1 arg2 harg2 arg3 harg3 arg5 harg5 arg6 harg6 arg7 harg7 arg12 x0 x1 x2 x4 x5 x6) : V S1x256x128)
    (fun _ e x => dst (D.q 2) (D.d 2) (D.a 2) (256 * T + 256) e x) :=
  fun i j k => (congrFun (fill2 (m := arg12) (by decide) (by decide) (by decide)) _).trans (bits_zero.trans (by simp only [show 256 * T + 256 = 4096 from hS.hT, dst_top]))

theorem dsA_33 (t : Tile D T x0 x1 x2 x3 x4 x5 x6) (hS : Last T) : R3 (φ := .f32) ((kernelRun0_A.sl.v974 (F := Ideal) c arg1 harg1 arg2 harg2 arg3 harg3 arg5 harg5 arg6 harg6 arg7 harg7 arg12 x0 x1 x2 x4 x5 x6) : V S1x256x128)
    (fun _ e x => dst (D.q 3) (D.d 3) (D.a 3) (256 * T + 256) e x) :=
  fun i j k => (congrFun (fill3 (m := arg12) (by decide) (by decide) (by decide) (by decide)) _).trans (bits_zero.trans (by simp only [show 256 * T + 256 = 4096 from hS.hT, dst_top]))

theorem dsA_20 (t : Tile D T x0 x1 x2 x3 x4 x5 x6) (hS : Last T) : R3 (φ := .f32) ((kernelRun0_A.sl.v1074 (F := Ideal) c arg1 harg1 arg2 harg2 arg3 harg3 arg5 harg5 arg6 harg6 arg7 harg7 arg12 x0 x1 x2 x4 x5 x6) : V S1x256x128)
    (fun _ e x => dst (D.q 0) (D.d 0) (D.a 0) (256 * T + 192) e x) :=
  fun i j k => (congrFun (R3.hit (m := arg12) (by decide) (by decide) (by decide)) _).trans (((t.head0 harg1 harg2 harg3 harg5 harg6 harg7).chunk (c := 3) (o' := 256) t.hT slices_S256x128_o192_0_S64x128 slices_S256x256_o192_0_S64x256 rfl rfl (t.sp30 harg4) (dsA_30 c harg1 harg2 harg3 harg4 harg5 harg6 harg7 harg9 harg10 harg11 harg12 harg13 t hS)).dsN i j k)

theorem dsA_21 (t : Tile D T x0 x1 x2 x3 x4 x5 x6) (hS : Last T) : R3 (φ := .f32) ((kernelRun0_A.sl.v1174 (F := Ideal) c arg1 harg1 arg2 harg2 arg3 harg3 arg5 harg5 arg6 harg6 arg7 harg7 arg12 x0 x1 x2 x4 x5 x6) : V S1x256x128)
    (fun _ e x => dst (D.q 1) (D.d 1) (D.a 1) (256 * T + 192) e x) :=
  fun i j k => (congrFun (R3.hit (m := arg12) (by decide) (by decide) (by decide)) _).trans (((t.head1 harg1 harg2 harg3 harg5 harg6 harg7).chunk (c := 3) (o' := 256) t.hT slices_S256x128_o192_0_S64x128 slices_S256x256_o192_0_S64x256 rfl rfl (t.sp31 harg4) (dsA_31 c harg1 harg2 harg3 harg4 harg5 harg6 harg7 harg9 harg10 harg11 harg12 harg13 t hS)).dsN i j k)

theorem dsA_22 (t : Tile D T x0 x1 x2 x3 x4 x5 x6) (hS : Last T) : R3 (φ := .f32) ((kernelRun0_A.sl.v1274 (F := Ideal) c arg1 harg1 arg2 harg2 arg3 harg3 arg5 harg5 arg6 harg6 arg7 harg7 arg12 x0 x1 x2 x4 x5 x6) : V S1x256x128)
    (fun _ e x => dst (D.q 2) (D.d 2) (D.a 2) (256 * T + 192) e x) :=
  fun i j k => (congrFun (R3.hit (m := arg12) (by decide) (by decide) (by decide)) _).trans (((t.head2 harg1 harg2 harg3 harg5 harg6 harg7).chunk (c := 3) (o' := 256) t.hT slices_S256x128_o192_0_S64x128 slices_S256x256_o192_0_S64x256 rfl rfl (t.sp32 harg4) (dsA_32 c harg1 harg2 harg3 harg4 harg5 harg6 harg7 harg9 harg10 harg11 harg12 harg13 t hS)).dsN i j k)

theorem dsA_23 (t : Tile D T x0 x1 x2 x3 x4 x5 x6) (hS : Last T) : R3 (φ := .f32) ((kernelRun0_A.sl.v1374 (F := Ideal) c arg1 harg1 arg2 harg2 arg3 harg3 arg5 harg5 arg6 harg6 arg7 harg7 arg12 x0 x1 x2 x4 x5 x6) : V S1x256x128)
    (fun _ e x => dst (D.q 3) (D.d 3) (D.a 3) (256 * T + 192) e x) :=
  fun i j k => (congrFun (R3.hit (m := arg12) (by decide) (by decide) (by decide)) _).trans (((t.head3 harg1 harg2 harg3 harg5 harg6 harg7).chunk (c := 3) (o' := 256) t.hT slices_S256x128_o192_0_S64x128 slices_S256x256_o192_0_S64x256 rfl rfl (t.sp33 harg4) (dsA_33 c harg1 harg2 harg3 harg4 harg5 harg6 harg7 harg9 harg10 harg11 harg12 harg13 t hS)).dsN i j k)

theorem dsA_10 (t : Tile D T x0 x1 x2 x3 x4 x5 x6) (hS : Last T) : R3 (φ := .f32) ((kernelRun0_A.sl.v1474 (F := Ideal) c arg1 harg1 arg2 harg2 arg3 harg3 arg5 harg5 arg6 harg6 arg7 harg7 arg12 x0 x1 x2 x4 x5 x6) : V S1x256x128)
    (fun _ e x => dst (D.q 0) (D.d 0) (D.a 0) (256 * T + 128) e x) :=
  fun i j k => (congrFun (R3.hit (m := arg12) (by decide) (by decide) (by decide)) _).trans (((t.head0 harg1 harg2 harg3 harg5 harg6 harg7).chunk (c := 2) (o' := 192) t.hT slices_S256x128_o128_0_S64x128 slices_S256x256_o128_0_S64x256 rfl rfl (t.sp20 harg4) (dsA_20 c harg1 harg2 harg3 harg4 harg5 harg6 harg7 harg9 harg10 harg11 harg12 harg13 t hS)).dsN i j k)

theorem dsA_11 (t : Tile D T x0 x1 x2 x3 x4 x5 x6) (hS : Last T) : R3 (φ := .f32) ((kernelRun0_A.sl.v1574 (F := Ideal) c arg1 harg1 arg2 harg2 arg3 harg3 arg5 harg5 arg6 harg6 arg7 harg7 arg12 x0 x1 x2 x4 x5 x6) : V S1x256x128)
    (fun _ e x => dst (D.q 1) (D.d 1) (D.a 1) (256 * T + 128) e x) :=
  fun i j k => (congrFun (R3.hit (m := arg12) (by decide) (by decide) (by decide)) _).trans (((t.head1 harg1 harg2 harg3 harg5 harg6 harg7).chunk (c := 2) (o' := 192) t.hT slices_S256x128_o128_0_S64x128 slices_S256x256_o128_0_S64x256 rfl rfl (t.sp21 harg4) (dsA_21 c harg1 harg2 harg3 harg4 harg5 harg6 harg7 harg9 harg10 harg11 harg12 harg13 t hS)).dsN i j k)

theorem dsA_12 (t : Tile D T x0 x1 x2 x3 x4 x5 x6) (hS : Last T) : R3 (φ := .f32) ((kernelRun0_A.sl.v1674 (F := Ideal) c arg1 harg1 arg2 harg2 arg3 harg3 arg5 harg5 arg6 harg6 arg7 harg7 arg12 x0 x1 x2 x4 x5 x6) : V S1x256x128)
    (fun _ e x => dst (D.q 2) (D.d 2) (D.a 2) (256 * T + 128) e x) :=
  fun i j k => (congrFun (R3.hit (m := arg12) (by decide) (by decide) (by decide)) _).trans (((t.head2 harg1 harg2 harg3 harg5 harg6 harg7).chunk (c := 2) (o' := 192) t.hT slices_S256x128_o128_0_S64x128 slices_S256x256_o128_0_S64x256 rfl rfl (t.sp22 harg4) (dsA_22 c harg1 harg2 harg3 harg4 harg5 harg6 harg7 harg9 harg10 harg11 harg12 harg13 t hS)).dsN i j k)

theorem dsA_13 (t : Tile D T x0 x1 x2 x3 x4 x5 x6) (hS : Last T) : R3 (φ := .f32) ((kernelRun0_A.sl.v1774 (F := Ideal) c arg1 harg1 arg2 harg2 arg3 harg3 arg5 harg5 arg6 harg6 arg7 harg7 arg12 x0 x1 x2 x4 x5 x6) : V S1x256x128)
    (fun _ e x => dst (D.q 3) (D.d 3) (D.a 3) (256 * T + 128) e x) :=
  fun i j k => (congrFun (R3.hit (m := arg12) (by decide) (by decide) (by decide)) _).trans (((t.head3 harg1 harg2 harg3 harg5 harg6 harg7).chunk (c := 2) (o' := 192) t.hT slices_S256x128_o128_0_S64x128 slices_S256x256_o128_0_S64x256 rfl rfl (t.sp23 harg4) (dsA_23 c harg1 harg2 harg3 harg4 harg5 harg6 harg7 harg9 harg10 harg11 harg12 harg13 t hS)).dsN i j k)

theorem dsA_00 (t : Tile D T x0 x1 x2 x3 x4 x5 x6) (hS : Last T) : R3 (φ := .f32) ((kernelRun0_A.sl.v1874 (F := Ideal) c arg1 harg1 arg2 harg2 arg3 harg3 arg5 harg5 arg6 harg6 arg7 harg7 arg12 x0 x1 x2 x4 x5 x6) : V S1x256x128)
    (fun _ e x => dst (D.q 0) (D.d 0) (D.a 0) (256 * T + 64) e x) :=
  fun i j k => (congrFun (R3.hit (m := arg12) (by decide) (by decide) (by decide)) _).trans (((t.head0 harg1 harg2 harg3 harg5 harg6 harg7).chunk (c := 1) (o' := 128) t.hT slices_S256x128_o64_0_S64x128 slices_S256x256_o64_0_S64x256 rfl rfl (t.sp10 harg4) (dsA_10 c harg1 harg2 harg3 harg4 harg5 harg6 harg7 harg9 harg10 harg11 harg12 harg13 t hS)).dsN i j k)

theorem dsA_01 (t : Tile D T x0 x1 x2 x3 x4 x5 x6) (hS : Last T) : R3 (φ := .f32) ((kernelRun0_A.sl.v1974 (F := Ideal) c arg1 harg1 arg2 harg2 arg3 harg3 arg5 harg5 arg6 harg6 arg7 harg7 arg12 x0 x1 x2 x4 x5 x6) : V S1x256x128)
    (fun _ e x => dst (D.q 1) (D.d 1) (D.a 1) (256 * T + 64) e x) :=
  fun i j k => (congrFun (R3.hit (m := arg12) (by decide) (by decide) (by decide)) _).trans (((t.head1 harg1 harg2 harg3 harg5 harg6 harg7).chunk (c := 1) (o' := 128) t.hT slices_S256x128_o64_0_S64x128 slices_S256x256_o64_0_S64x256 rfl rfl (t.sp11 harg4) (dsA_11 c harg1 harg2 harg3 harg4 harg5 harg6 harg7 harg9 harg10 harg11 harg12 harg13 t hS)).dsN i j k)

theorem dsA_02 (t : Tile D T x0 x1 x2 x3 x4 x5 x6) (hS : Last T) : R3 (φ := .f32) ((kernelRun0_A.sl.v2074 (F := Ideal) c arg1 harg1 arg2 harg2 arg3 harg3 arg5 harg5 arg6 harg6 arg7 harg7 arg12 x0 x1 x2 x4 x5 x6) : V S1x256x128)
    (fun _ e x => dst (D.q 2) (D.d 2) (D.a 2) (256 * T + 64) e x) :=
  fun i j k => (congrFun (R3.hit (m := arg12) (by decide) (by decide) (by decide)) _).trans (((t.head2 harg1 harg2 harg3 harg5 harg6 harg7).chunk (c := 1) (o' := 128) t.hT slices_S256x128_o64_0_S64x128 slices_S256x256_o64_0_S64x256 rfl rfl (t.sp12 harg4) (dsA_12 c harg1 harg2 harg3 harg4 harg5 harg6 harg7 harg9 harg10 harg11 harg12 harg13 t hS)).dsN i j k)

theorem dsA_03 (t : Tile D T x0 x1 x2 x3 x4 x5 x6) (hS : Last T) : R3 (φ := .f32) ((kernelRun0_A.sl.v2174 (F := Ideal) c arg1 harg1 arg2 harg2 arg3 harg3 arg5 harg5 arg6 harg6 arg7 harg7 arg12 x0 x1 x2 x4 x5 x6) : V S1x256x128)
    (fun _ e x => dst (D.q 3) (D.d 3) (D.a 3) (256 * T + 64) e x) :=
  fun i j k => (congrFun (R3.hit (m := arg12) (by decide) (by decide) (by decide)) _).trans (((t.head3 harg1 harg2 harg3 harg5 harg6 harg7).chunk (c := 1) (o' := 128) t.hT slices_S256x128_o64_0_S64x128 slices_S256x256_o64_0_S64x256 rfl rfl (t.sp13 harg4) (dsA_13 c harg1 harg2 harg3 harg4 harg5 harg6 harg7 harg9 harg10 harg11 harg12 harg13 t hS)).dsN i j k)

end Cert.Gla

end
-- ==== Proof.RunA.lean ====
/- What a first tile leaves: the blocks of the gradients and the state. -/
module

public import proofs.«01_k».proof.Proof.DsA

@[expose] public section

set_option maxRecDepth 16384

noncomputable section

namespace Cert.Gla

open Idealize.ShloMosaic Idealize.ShloMosaic.TcCoe Idealize.SL.Sem
open Cert.KernelIdeal Cert.KernelIdeal.Gen
open Finset (range Ico)

variable (c : Dev nD) {arg1 : Memref Cert.KernelIdeal.sig .tc .vmem S256x1024 .f32} (harg1 : arg1.IsWhole) {arg2 : Memref Cert.KernelIdeal.sig .tc .vmem S256x3088 .f32} (harg2 : arg2.IsWhole)
  {arg3 : Memref Cert.KernelIdeal.sig .tc .vmem S256x1024 .f32} (harg3 : arg3.IsWhole) {arg4 : Memref Cert.KernelIdeal.sig .tc .vmem S4x4x256x128 .f32} (harg4 : arg4.IsWhole)
  {arg5 : Memref Cert.KernelIdeal.sig .tc .vmem S16x512 .f32} (harg5 : arg5.IsWhole) {arg6 : Memref Cert.KernelIdeal.sig .tc .vmem S1x512 .f32} (harg6 : arg6.IsWhole)
  {arg7 : Memref Cert.KernelIdeal.sig .tc .vmem S1x256 .f32} (harg7 : arg7.IsWhole) {arg9 : Memref Cert.KernelIdeal.sig .tc .vmem S16x512 .f32} (harg9 : arg9.IsWhole)
  {arg10 : Memref Cert.KernelIdeal.sig .tc .vmem S1x512 .f32} (harg10 : arg10.IsWhole) {arg11 : Memref Cert.KernelIdeal.sig .tc .vmem S1x256 .f32} (harg11 : arg11.IsWhole)
  {arg12 : Memref Cert.KernelIdeal.sig .tc .vmem S4x256x128 .f32} (harg12 : arg12.IsWhole) {arg13 : Memref Cert.KernelIdeal.sig .tc .vmem S4x256x128 .f32} (harg13 : arg13.IsWhole)
variable {x0 : V S256x1024} {x1 : V S256x3088} {x2 : V S256x1024} {x3 : V S4x4x256x128} {x4 : V S16x512} {x5 : V S1x512} {x6 : V S1x256}
  {xo8 : V S16x512} {xo9 : V S1x512} {xo10 : V S1x256} {xs0 : V S4x256x128}
variable {D : Data} {T : ℕ}
include c harg1 harg2 harg3 harg4 harg5 harg6 harg7 harg9 harg10 harg11 harg12 harg13

set_option maxHeartbeats 400000

theorem dgsA (t : Tile D T x0 x1 x2 x3 x4 x5 x6) (hS : Last T) : View.PiecesOf (Val := Elt Ideal) (coe3 (fun h i x => gC (D.q h) (D.k h) (D.v h) (D.d h) (D.a h) (256 * T + i) x)) (kernelRun0_A.sl.HS1_16 (F := Ideal) c arg1 harg1 arg2 harg2 arg3 harg3 arg4 harg4 arg5 harg5 arg6 harg6 arg7 harg7 arg12 x0 x1 x2 x3 x4 x5 x6) :=
  ⟨piece3 (inb := inb_S4x256x128_S1x64x128_3_0_0) ((t.head3 harg1 harg2 harg3 harg5 harg6 harg7).chunk (c := 0) (o' := 64) t.hT slices_S256x128_o0_0_S64x128 slices_S256x256_o0_0_S64x256 rfl rfl (t.sp03 harg4) (dsA_03 c harg1 harg2 harg3 harg4 harg5 harg6 harg7 harg9 harg10 harg11 harg12 harg13 t hS)).rdg (fun j _ k _ => by simp only [Nat.add_assoc, Nat.zero_add]),
  piece3 (inb := inb_S4x256x128_S1x64x128_2_0_0) ((t.head2 harg1 harg2 harg3 harg5 harg6 harg7).chunk (c := 0) (o' := 64) t.hT slices_S256x128_o0_0_S64x128 slices_S256x256_o0_0_S64x256 rfl rfl (t.sp02 harg4) (dsA_02 c harg1 harg2 harg3 harg4 harg5 harg6 harg7 harg9 harg10 harg11 harg12 harg13 t hS)).rdg (fun j _ k _ => by simp only [Nat.add_assoc, Nat.zero_add]),
  piece3 (inb := inb_S4x256x128_S1x64x128_1_0_0) ((t.head1 harg1 harg2 harg3 harg5 harg6 harg7).chunk (c := 0) (o' := 64) t.hT slices_S256x128_o0_0_S64x128 slices_S256x256_o0_0_S64x256 rfl rfl (t.sp01 harg4) (dsA_01 c harg1 harg2 harg3 harg4 harg5 harg6 harg7 harg9 harg10 harg11 harg12 harg13 t hS)).rdg (fun j _ k _ => by simp only [Nat.add_assoc, Nat.zero_add]),
  piece3 (inb := inb_S4x256x128_S1x64x128_0_0_0) ((t.head0 harg1 harg2 harg3 harg5 harg6 harg7).chunk (c := 0) (o' := 64) t.hT slices_S256x128_o0_0_S64x128 slices_S256x256_o0_0_S64x256 rfl rfl (t.sp00 harg4) (dsA_00 c harg1 harg2 harg3 harg4 harg5 harg6 harg7 harg9 harg10 harg11 harg12 harg13 t hS)).rdg (fun j _ k _ => by simp only [Nat.add_assoc, Nat.zero_add]),
  piece3 (inb := inb_S4x256x128_S1x64x128_3_64_0) ((t.head3 harg1 harg2 harg3 harg5 harg6 harg7).chunk (c := 1) (o' := 128) t.hT slices_S256x128_o64_0_S64x128 slices_S256x256_o64_0_S64x256 rfl rfl (t.sp13 harg4) (dsA_13 c harg1 harg2 harg3 harg4 harg5 harg6 harg7 harg9 harg10 harg11 harg12 harg13 t hS)).rdg (fun j _ k _ => by simp only [Nat.add_assoc, Nat.zero_add]),
  piece3 (inb := inb_S4x256x128_S1x64x128_2_64_0) ((t.head2 harg1 harg2 harg3 harg5 harg6 harg7).chunk (c := 1) (o' := 128) t.hT slices_S256x128_o64_0_S64x128 slices_S256x256_o64_0_S64x256 rfl rfl (t.sp12 harg4) (dsA_12 c harg1 harg2 harg3 harg4 harg5 harg6 harg7 harg9 harg10 harg11 harg12 harg13 t hS)).rdg (fun j _ k _ => by simp only [Nat.add_assoc, Nat.zero_add]),
  piece3 (inb := inb_S4x256x128_S1x64x128_1_64_0) ((t.head1 harg1 harg2 harg3 harg5 harg6 harg7).chunk (c := 1) (o' := 128) t.hT slices_S256x128_o64_0_S64x128 slices_S256x256_o64_0_S64x256 rfl rfl (t.sp11 harg4) (dsA_11 c harg1 harg2 harg3 harg4 harg5 harg6 harg7 harg9 harg10 harg11 harg12 harg13 t hS)).rdg (fun j _ k _ => by simp only [Nat.add_assoc, Nat.zero_add]),
  piece3 (inb := inb_S4x256x128_S1x64x128_0_64_0) ((t.head0 harg1 harg2 harg3 harg5 harg6 harg7).chunk (c := 1) (o' := 128) t.hT slices_S256x128_o64_0_S64x128 slices_S256x256_o64_0_S64x256 rfl rfl (t.sp10 harg4) (dsA_10 c harg1 harg2 harg3 harg4 harg5 harg6 harg7 harg9 harg10 harg11 harg12 harg13 t hS)).rdg (fun j _ k _ => by simp only [Nat.add_assoc, Nat.zero_add]),
  piece3 (inb := inb_S4x256x128_S1x64x128_3_128_0) ((t.head3 harg1 harg2 harg3 harg5 harg6 harg7).chunk (c := 2) (o' := 192) t.hT slices_S256x128_o128_0_S64x128 slices_S256x256_o128_0_S64x256 rfl rfl (t.sp23 harg4) (dsA_23 c harg1 harg2 harg3 harg4 harg5 harg6 harg7 harg9 harg10 harg11 harg12 harg13 t hS)).rdg (fun j _ k _ => by simp only [Nat.add_assoc, Nat.zero_add]),
  piece3 (inb := inb_S4x256x128_S1x64x128_2_128_0) ((t.head2 harg1 harg2 harg3 harg5 harg6 harg7).chunk (c := 2) (o' := 192) t.hT slices_S256x128_o128_0_S64x128 slices_S256x256_o128_0_S64x256 rfl rfl (t.sp22 harg4) (dsA_22 c harg1 harg2 harg3 harg4 harg5 harg6 harg7 harg9 harg10 harg11 harg12 harg13 t hS)).rdg (fun j _ k _ => by simp only [Nat.add_assoc, Nat.zero_add]),
  piece3 (inb := inb_S4x256x128_S1x64x128_1_128_0) ((t.head1 harg1 harg2 harg3 harg5 harg6 harg7).chunk (c := 2) (o' := 192) t.hT slices_S256x128_o128_0_S64x128 slices_S256x256_o128_0_S64x256 rfl rfl (t.sp21 harg4) (dsA_21 c harg1 harg2 harg3 harg4 harg5 harg6 harg7 harg9 harg10 harg11 harg12 harg13 t hS)).rdg (fun j _ k _ => by simp only [Nat.add_assoc, Nat.zero_add]),
  piece3 (inb := inb_S4x256x128_S1x64x128_0_128_0) ((t.head0 harg1 harg2 harg3 harg5 harg6 harg7).chunk (c := 2) (o' := 192) t.hT slices_S256x128_o128_0_S64x128 slices_S256x256_o128_0_S64x256 rfl rfl (t.sp20 harg4) (dsA_20 c harg1 harg2 harg3 harg4 harg5 harg6 harg7 harg9 harg10 harg11 harg12 harg13 t hS)).rdg (fun j _ k _ => by simp only [Nat.add_assoc, Nat.zero_add]),
  piece3 (inb := inb_S4x256x128_S1x64x128_3_192_0) ((t.head3 harg1 harg2 harg3 harg5 harg6 harg7).chunk (c := 3) (o' := 256) t.hT slices_S256x128_o192_0_S64x128 slices_S256x256_o192_0_S64x256 rfl rfl (t.sp33 harg4) (dsA_33 c harg1 harg2 harg3 harg4 harg5 harg6 harg7 harg9 harg10 harg11 harg12 harg13 t hS)).rdg (fun j _ k _ => by simp only [Nat.add_assoc, Nat.zero_add]),
  piece3 (inb := inb_S4x256x128_S1x64x128_2_192_0) ((t.head2 harg1 harg2 harg3 harg5 harg6 harg7).chunk (c := 3) (o' := 256) t.hT slices_S256x128_o192_0_S64x128 slices_S256x256_o192_0_S64x256 rfl rfl (t.sp32 harg4) (dsA_32 c harg1 harg2 harg3 harg4 harg5 harg6 harg7 harg9 harg10 harg11 harg12 harg13 t hS)).rdg (fun j _ k _ => by simp only [Nat.add_assoc, Nat.zero_add]),
  piece3 (inb := inb_S4x256x128_S1x64x128_1_192_0) ((t.head1 harg1 harg2 harg3 harg5 harg6 harg7).chunk (c := 3) (o' := 256) t.hT slices_S256x128_o192_0_S64x128 slices_S256x256_o192_0_S64x256 rfl rfl (t.sp31 harg4) (dsA_31 c harg1 harg2 harg3 harg4 harg5 harg6 harg7 harg9 harg10 harg11 harg12 harg13 t hS)).rdg (fun j _ k _ => by simp only [Nat.add_assoc, Nat.zero_add]),
  piece3 (inb := inb_S4x256x128_S1x64x128_0_192_0) ((t.head0 harg1 harg2 harg3 harg5 harg6 harg7).chunk (c := 3) (o' := 256) t.hT slices_S256x128_o192_0_S64x128 slices_S256x256_o192_0_S64x256 rfl rfl (t.sp30 harg4) (dsA_30 c harg1 harg2 harg3 harg4 harg5 harg6 harg7 harg9 harg10 harg11 harg12 harg13 t hS)).rdg (fun j _ k _ => by simp only [Nat.add_assoc, Nat.zero_add]),
  trivial⟩

theorem dg0A (t : Tile D T x0 x1 x2 x3 x4 x5 x6) (hS : Last T) : R3 (φ := .f32) ((kernelRun0_A.sl.v2251 (F := Ideal) c arg1 harg1 arg2 harg2 arg3 harg3 arg4 harg4 arg5 harg5 arg6 harg6 arg7 harg7 arg12 arg13 x0 x1 x2 x3 x4 x5 x6) : V S1x256x128) (fun _ i x => gC (D.q 0) (D.k 0) (D.v 0) (D.d 0) (D.a 0) (256 * T + i) x) :=
  readCov_of_pieces (m := arg13) _ (dgsA c harg1 harg2 harg3 harg4 harg5 harg6 harg7 harg9 harg10 harg11 harg12 harg13 t hS) (View.cover_of_tiledL _ S1x64x128.size (by sl_kernel_rfl)) inb_S4x256x128_S1x256x128_0_0_0

theorem dg1A (t : Tile D T x0 x1 x2 x3 x4 x5 x6) (hS : Last T) : R3 (φ := .f32) ((kernelRun0_A.sl.v2354 (F := Ideal) c arg1 harg1 arg2 harg2 arg3 harg3 arg4 harg4 arg5 harg5 arg6 harg6 arg7 harg7 arg12 arg13 x0 x1 x2 x3 x4 x5 x6) : V S1x256x128) (fun _ i x => gC (D.q 1) (D.k 1) (D.v 1) (D.d 1) (D.a 1) (256 * T + i) x) :=
  readCov_of_pieces (m := arg13) _ (dgsA c harg1 harg2 harg3 harg4 harg5 harg6 harg7 harg9 harg10 harg11 harg12 harg13 t hS) (View.cover_of_tiledL _ S1x64x128.size (by sl_kernel_rfl)) inb_S4x256x128_S1x256x128_1_0_0

theorem dg2A (t : Tile D T x0 x1 x2 x3 x4 x5 x6) (hS : Last T) : R3 (φ := .f32) ((kernelRun0_A.sl.v2457 (F := Ideal) c arg1 harg1 arg2 harg2 arg3 harg3 arg4 harg4 arg5 harg5 arg6 harg6 arg7 harg7 arg12 arg13 x0 x1 x2 x3 x4 x5 x6) : V S1x256x128) (fun _ i x => gC (D.q 2) (D.k 2) (D.v 2) (D.d 2) (D.a 2) (256 * T + i) x) :=
  readCov_of_pieces (m := arg13) _ (dgsA c harg1 harg2 harg3 harg4 harg5 harg6 harg7 harg9 harg10 harg11 harg12 harg13 t hS) (View.cover_of_tiledL _ S1x64x128.size (by sl_kernel_rfl)) inb_S4x256x128_S1x256x128_2_0_0

theorem dg3A (t : Tile D T x0 x1 x2 x3 x4 x5 x6) (hS : Last T) : R3 (φ := .f32) ((kernelRun0_A.sl.v2560 (F := Ideal) c arg1 harg1 arg2 harg2 arg3 harg3 arg4 harg4 arg5 harg5 arg6 harg6 arg7 harg7 arg12 arg13 x0 x1 x2 x3 x4 x5 x6) : V S1x256x128) (fun _ i x => gC (D.q 3) (D.k 3) (D.v 3) (D.d 3) (D.a 3) (256 * T + i) x) :=
  readCov_of_pieces (m := arg13) _ (dgsA c harg1 harg2 harg3 harg4 harg5 harg6 harg7 harg9 harg10 harg11 harg12 harg13 t hS) (View.cover_of_tiledL _ S1x64x128.size (by sl_kernel_rfl)) inb_S4x256x128_S1x256x128_3_0_0

theorem dl0A (t : Tile D T x0 x1 x2 x3 x4 x5 x6) (hS : Last T) : R2 (φ := .f32) (vDl (tL0 harg2 harg5 harg6 x1 x4 x5) (kernelRun0_A.sl.v2251 (F := Ideal) c arg1 harg1 arg2 harg2 arg3 harg3 arg4 harg4 arg5 harg5 arg6 harg6 arg7 harg7 arg12 arg13 x0 x1 x2 x3 x4 x5 x6)) (fun i x => D.l 0 (256 * T + i) x) :=
  R2.dl t.hT (t.l0 harg2 harg5 harg6) (dg0A c harg1 harg2 harg3 harg4 harg5 harg6 harg7 harg9 harg10 harg11 harg12 harg13 t hS)

theorem dl1A (t : Tile D T x0 x1 x2 x3 x4 x5 x6) (hS : Last T) : R2 (φ := .f32) (vDl (tL1 harg2 harg5 harg6 x1 x4 x5) (kernelRun0_A.sl.v2354 (F := Ideal) c arg1 harg1 arg2 harg2 arg3 harg3 arg4 harg4 arg5 harg5 arg6 harg6 arg7 harg7 arg12 arg13 x0 x1 x2 x3 x4 x5 x6)) (fun i x => D.l 1 (256 * T + i) x) :=
  R2.dl t.hT (t.l1 harg2 harg5 harg6) (dg1A c harg1 harg2 harg3 harg4 harg5 harg6 harg7 harg9 harg10 harg11 harg12 harg13 t hS)

theorem dl2A (t : Tile D T x0 x1 x2 x3 x4 x5 x6) (hS : Last T) : R2 (φ := .f32) (vDl (tL2 harg2 harg5 harg6 x1 x4 x5) (kernelRun0_A.sl.v2457 (F := Ideal) c arg1 harg1 arg2 harg2 arg3 harg3 arg4 harg4 arg5 harg5 arg6 harg6 arg7 harg7 arg12 arg13 x0 x1 x2 x3 x4 x5 x6)) (fun i x => D.l 2 (256 * T + i) x) :=
  R2.dl t.hT (t.l2 harg2 harg5 harg6) (dg2A c harg1 harg2 harg3 harg4 harg5 harg6 harg7 harg9 harg10 harg11 harg12 harg13 t hS)

theorem dl3A (t : Tile D T x0 x1 x2 x3 x4 x5 x6) (hS : Last T) : R2 (φ := .f32) (vDl (tL3 harg2 harg5 harg6 x1 x4 x5) (kernelRun0_A.sl.v2560 (F := Ideal) c arg1 harg1 arg2 harg2 arg3 harg3 arg4 harg4 arg5 harg5 arg6 harg6 arg7 harg7 arg12 arg13 x0 x1 x2 x3 x4 x5 x6)) (fun i x => D.l 3 (256 * T + i) x) :=
  R2.dl t.hT (t.l3 harg2 harg5 harg6) (dg3A c harg1 harg2 harg3 harg4 harg5 harg6 harg7 harg9 harg10 harg11 harg12 harg13 t hS)

theorem wal0A (t : Tile D T x0 x1 x2 x3 x4 x5 x6) (hS : Last T) : R2 (φ := .f32) ((kernelRun0_A.sl.v2341 (F := Ideal) c arg9) : V S16x128) (fun r x => D.gWal (256 * T + 256) (0 + r) (0 + x)) :=
  fun i j => (congrFun (fill0 (m := arg9) (by decide)) _).trans (bits_zero.trans (by simp only [show 256 * T + 256 = 4096 from hS.hT, Data.gWal_top]))

theorem bal0A (t : Tile D T x0 x1 x2 x3 x4 x5 x6) (hS : Last T) : R2 (φ := .f32) ((kernelRun0_A.sl.v2348 (F := Ideal) c arg10) : V S1x128) (fun _ x => D.gBal (256 * T + 256) (0 + x)) :=
  fun i j => (congrFun (fill0 (m := arg10) (by decide)) _).trans (bits_zero.trans (by simp only [show 256 * T + 256 = 4096 from hS.hT, Data.gBal_top]))

theorem wal1A (t : Tile D T x0 x1 x2 x3 x4 x5 x6) (hS : Last T) : R2 (φ := .f32) ((kernelRun0_A.sl.v2444 (F := Ideal) c arg1 harg1 arg2 harg2 arg3 harg3 arg4 harg4 arg5 harg5 arg6 harg6 arg7 harg7 arg9 arg12 arg13 x0 x1 x2 x3 x4 x5 x6) : V S16x128) (fun r x => D.gWal (256 * T + 256) (0 + r) (128 + x)) :=
  fun i j => (congrFun (fill1 (m := arg9) (by decide) (by decide)) _).trans (bits_zero.trans (by simp only [show 256 * T + 256 = 4096 from hS.hT, Data.gWal_top]))

theorem bal1A (t : Tile D T x0 x1 x2 x3 x4 x5 x6) (hS : Last T) : R2 (φ := .f32) ((kernelRun0_A.sl.v2451 (F := Ideal) c arg1 harg1 arg2 harg2 arg3 harg3 arg4 harg4 arg5 harg5 arg6 harg6 arg7 harg7 arg10 arg12 arg13 x0 x1 x2 x3 x4 x5 x6) : V S1x128) (fun _ x => D.gBal (256 * T + 256) (128 + x)) :=
  fun i j => (congrFun (fill1 (m := arg10) (by decide) (by decide)) _).trans (bits_zero.trans (by simp only [show 256 * T + 256 = 4096 from hS.hT, Data.gBal_top]))

theorem wal2A (t : Tile D T x0 x1 x2 x3 x4 x5 x6) (hS : Last T) : R2 (φ := .f32) ((kernelRun0_A.sl.v2547 (F := Ideal) c arg1 harg1 arg2 harg2 arg3 harg3 arg4 harg4 arg5 harg5 arg6 harg6 arg7 harg7 arg9 arg12 arg13 x0 x1 x2 x3 x4 x5 x6) : V S16x128) (fun r x => D.gWal (256 * T + 256) (0 + r) (256 + x)) :=
  fun i j => (congrFun (fill2 (m := arg9) (by decide) (by decide) (by decide)) _).trans (bits_zero.trans (by simp only [show 256 * T + 256 = 4096 from hS.hT, Data.gWal_top]))

theorem bal2A (t : Tile D T x0 x1 x2 x3 x4 x5 x6) (hS : Last T) : R2 (φ := .f32) ((kernelRun0_A.sl.v2554 (F := Ideal) c arg1 harg1 arg2 harg2 arg3 harg3 arg4 harg4 arg5 harg5 arg6 harg6 arg7 harg7 arg10 arg12 arg13 x0 x1 x2 x3 x4 x5 x6) : V S1x128) (fun _ x => D.gBal (256 * T + 256) (256 + x)) :=
  fun i j => (congrFun (fill2 (m := arg10) (by decide) (by decide) (by decide)) _).trans (bits_zero.trans (by simp only [show 256 * T + 256 = 4096 from hS.hT, Data.gBal_top]))

theorem wal3A (t : Tile D T x0 x1 x2 x3 x4 x5 x6) (hS : Last T) : R2 (φ := .f32) ((kernelRun0_A.sl.v2650 (F := Ideal) c arg1 harg1 arg2 harg2 arg3 harg3 arg4 harg4 arg5 harg5 arg6 harg6 arg7 harg7 arg9 arg12 arg13 x0 x1 x2 x3 x4 x5 x6) : V S16x128) (fun r x => D.gWal (256 * T + 256) (0 + r) (384 + x)) :=
  fun i j => (congrFun (fill3 (m := arg9) (by decide) (by decide) (by decide) (by decide)) _).trans (bits_zero.trans (by simp only [show 256 * T + 256 = 4096 from hS.hT, Data.gWal_top]))

theorem bal3A (t : Tile D T x0 x1 x2 x3 x4 x5 x6) (hS : Last T) : R2 (φ := .f32) ((kernelRun0_A.sl.v2657 (F := Ideal) c arg1 harg1 arg2 harg2 arg3 harg3 arg4 harg4 arg5 harg5 arg6 harg6 arg7 harg7 arg10 arg12 arg13 x0 x1 x2 x3 x4 x5 x6) : V S1x128) (fun _ x => D.gBal (256 * T + 256) (384 + x)) :=
  fun i j => (congrFun (fill3 (m := arg10) (by decide) (by decide) (by decide) (by decide)) _).trans (bits_zero.trans (by simp only [show 256 * T + 256 = 4096 from hS.hT, Data.gBal_top]))

theorem ng0A (t : Tile D T x0 x1 x2 x3 x4 x5 x6) (hS : Last T) : R2 (φ := .f32) ((kernelRun0_A.sl.v144 (F := Ideal) c arg11) : V S1x256) (fun _ x => D.gNg (256 * T + 256) x) :=
  fun i j => (congrFun (fill0 (m := arg11) (by decide)) _).trans (bits_zero.trans (by simp only [show 256 * T + 256 = 4096 from hS.hT, Data.gNg_top]))

theorem ng1A (t : Tile D T x0 x1 x2 x3 x4 x5 x6) (hS : Last T) : R2 (φ := .f32) ((kernelRun0_A.sl.v304 (F := Ideal) c arg1 harg1 arg2 harg2 arg3 harg3 arg11 x0 x1 x2) : V S1x256) (fun _ x => D.gNg (256 * T + 256) x + ∑ i ∈ range 256, D.n 0 (256 * T + i) x) :=
  fun i j => (congrFun (hit0 (m := arg11)) _).trans ((R2.dng (ng0A c harg1 harg2 harg3 harg4 harg5 harg6 harg7 harg9 harg10 harg11 harg12 harg13 t hS) (t.a0 harg1) (t.o0 harg3) (t.r0 harg2)) i j)

theorem ng2A (t : Tile D T x0 x1 x2 x3 x4 x5 x6) (hS : Last T) : R2 (φ := .f32) ((kernelRun0_A.sl.v464 (F := Ideal) c arg1 harg1 arg2 harg2 arg3 harg3 arg11 x0 x1 x2) : V S1x256) (fun _ x => D.gNg (256 * T + 256) x + ∑ i ∈ range 256, D.n 0 (256 * T + i) x + ∑ i ∈ range 256, D.n 1 (256 * T + i) x) :=
  fun i j => (congrFun (hit0 (m := arg11)) _).trans ((R2.dng (ng1A c harg1 harg2 harg3 harg4 harg5 harg6 harg7 harg9 harg10 harg11 harg12 harg13 t hS) (t.a1 harg1) (t.o1 harg3) (t.r1 harg2)) i j)

theorem ng3A (t : Tile D T x0 x1 x2 x3 x4 x5 x6) (hS : Last T) : R2 (φ := .f32) ((kernelRun0_A.sl.v624 (F := Ideal) c arg1 harg1 arg2 harg2 arg3 harg3 arg11 x0 x1 x2) : V S1x256) (fun _ x => D.gNg (256 * T + 256) x + ∑ i ∈ range 256, D.n 0 (256 * T + i) x + ∑ i ∈ range 256, D.n 1 (256 * T + i) x + ∑ i ∈ range 256, D.n 2 (256 * T + i) x) :=
  fun i j => (congrFun (hit0 (m := arg11)) _).trans ((R2.dng (ng2A c harg1 harg2 harg3 harg4 harg5 harg6 harg7 harg9 harg10 harg11 harg12 harg13 t hS) (t.a2 harg1) (t.o2 harg3) (t.r2 harg2)) i j)

theorem dzA (t : Tile D T x0 x1 x2 x3 x4 x5 x6) (hS : Last T) : R2 (φ := .f32) (vDz (vDz (vDz (vDz (vC S256x16 0x00000000#32) (vDl (tL0 harg2 harg5 harg6 x1 x4 x5) (kernelRun0_A.sl.v2251 (F := Ideal) c arg1 harg1 arg2 harg2 arg3 harg3 arg4 harg4 arg5 harg5 arg6 harg6 arg7 harg7 arg12 arg13 x0 x1 x2 x3 x4 x5 x6)) (tW0 harg5 x4)) (vDl (tL1 harg2 harg5 harg6 x1 x4 x5) (kernelRun0_A.sl.v2354 (F := Ideal) c arg1 harg1 arg2 harg2 arg3 harg3 arg4 harg4 arg5 harg5 arg6 harg6 arg7 harg7 arg12 arg13 x0 x1 x2 x3 x4 x5 x6)) (tW1 harg5 x4)) (vDl (tL2 harg2 harg5 harg6 x1 x4 x5) (kernelRun0_A.sl.v2457 (F := Ideal) c arg1 harg1 arg2 harg2 arg3 harg3 arg4 harg4 arg5 harg5 arg6 harg6 arg7 harg7 arg12 arg13 x0 x1 x2 x3 x4 x5 x6)) (tW2 harg5 x4)) (vDl (tL3 harg2 harg5 harg6 x1 x4 x5) (kernelRun0_A.sl.v2560 (F := Ideal) c arg1 harg1 arg2 harg2 arg3 harg3 arg4 harg4 arg5 harg5 arg6 harg6 arg7 harg7 arg12 arg13 x0 x1 x2 x3 x4 x5 x6)) (tW3 harg5 x4)) (fun i j => 0 + ∑ x ∈ range 128, D.l 0 (256 * T + i) x * D.w 0 j x + ∑ x ∈ range 128, D.l 1 (256 * T + i) x * D.w 1 j x + ∑ x ∈ range 128, D.l 2 (256 * T + i) x * D.w 2 j x + ∑ x ∈ range 128, D.l 3 (256 * T + i) x * D.w 3 j x) :=
  (R2.dz (R2.dz (R2.dz (R2.dz (A := fun _ _ => 0) (R2.const S256x16 _ 0 bits_zero) (dl0A c harg1 harg2 harg3 harg4 harg5 harg6 harg7 harg9 harg10 harg11 harg12 harg13 t hS) (t.w0 harg5)) (dl1A c harg1 harg2 harg3 harg4 harg5 harg6 harg7 harg9 harg10 harg11 harg12 harg13 t hS) (t.w1 harg5)) (dl2A c harg1 harg2 harg3 harg4 harg5 harg6 harg7 harg9 harg10 harg11 harg12 harg13 t hS) (t.w2 harg5)) (dl3A c harg1 harg2 harg3 harg4 harg5 harg6 harg7 harg9 harg10 harg11 harg12 harg13 t hS) (t.w3 harg5))

theorem dr0A (t : Tile D T x0 x1 x2 x3 x4 x5 x6) (hS : Last T) : R2 (φ := .bf16) (vDr (tA0 harg1 x0) (tO0 harg3 x2) (tR0 harg2 x1) (View.readAt (Elt Ideal) arg7.view (Rect.unit (s := S1x256) ![0, 0] S1x256.size inb_S1x256_S1x256_0_0).toLoadRect (harg7.unread x6))) (fun i j => gR (D.dah 0) (D.oh 0) (D.r 0) D.ng (256 * T + i) j) :=
  R2.dr (t.a0 harg1) (t.o0 harg3) (t.r0 harg2) (t.g harg7)

theorem dr1A (t : Tile D T x0 x1 x2 x3 x4 x5 x6) (hS : Last T) : R2 (φ := .bf16) (vDr (tA1 harg1 x0) (tO1 harg3 x2) (tR1 harg2 x1) (View.readAt (Elt Ideal) arg7.view (Rect.unit (s := S1x256) ![0, 0] S1x256.size inb_S1x256_S1x256_0_0).toLoadRect (harg7.unread x6))) (fun i j => gR (D.dah 1) (D.oh 1) (D.r 1) D.ng (256 * T + i) j) :=
  R2.dr (t.a1 harg1) (t.o1 harg3) (t.r1 harg2) (t.g harg7)

theorem dr2A (t : Tile D T x0 x1 x2 x3 x4 x5 x6) (hS : Last T) : R2 (φ := .bf16) (vDr (tA2 harg1 x0) (tO2 harg3 x2) (tR2 harg2 x1) (View.readAt (Elt Ideal) arg7.view (Rect.unit (s := S1x256) ![0, 0] S1x256.size inb_S1x256_S1x256_0_0).toLoadRect (harg7.unread x6))) (fun i j => gR (D.dah 2) (D.oh 2) (D.r 2) D.ng (256 * T + i) j) :=
  R2.dr (t.a2 harg1) (t.o2 harg3) (t.r2 harg2) (t.g harg7)

theorem dr3A (t : Tile D T x0 x1 x2 x3 x4 x5 x6) (hS : Last T) : R2 (φ := .bf16) (vDr (tA3 harg1 x0) (tO3 harg3 x2) (tR3 harg2 x1) (View.readAt (Elt Ideal) arg7.view (Rect.unit (s := S1x256) ![0, 0] S1x256.size inb_S1x256_S1x256_0_0).toLoadRect (harg7.unread x6))) (fun i j => gR (D.dah 3) (D.oh 3) (D.r 3) D.ng (256 * T + i) j) :=
  R2.dr (t.a3 harg1) (t.o3 harg3) (t.r3 harg2) (t.g harg7)

theorem p7A_z00 (t : Tile D T x0 x1 x2 x3 x4 x5 x6) (hS : Last T) : ∀ x, (k0_pay3 (F := Ideal) (kernelRun0_A.sl.r_394 (F := Ideal) c arg1 harg1 arg2 harg2 arg3 harg3 arg4 harg4 arg5 harg5 arg6 harg6 arg7 harg7 arg12 arg13 x0 x1 x2 x3 x4 x5 x6) : VB S256x16) x = coe2 (A := 256) (B := 3088) (fun i j => D.gPj (256 * T + i) j) ((Rect.unit (s := S256x3088) ![0, 3072] S256x16.size inb_S256x3088_S256x16_0_3072).emb x) :=
  piece2 (inb := inb_S256x3088_S256x16_0_3072) (dzA c harg1 harg2 harg3 harg4 harg5 harg6 harg7 harg9 harg10 harg11 harg12 harg13 t hS).trunc (fun i _ j _ => D.pz T i j)

theorem p7A_k03 (t : Tile D T x0 x1 x2 x3 x4 x5 x6) (hS : Last T) : ∀ x, (k0_pay583 (F := Ideal) k0_pay93 (kernelRun0_A.sl.r_358 (F := Ideal) c arg2 harg2 arg5 harg5 arg6 harg6 x1 x4 x5) (kernelRun0_A.sl.r_359 (F := Ideal) c arg2 harg2 arg5 harg5 arg6 harg6 x1 x4 x5) (kernelRun0_A.sl.r_361 (F := Ideal) c arg2 harg2 x1) (kernelRun0_A.sl.r_364 (F := Ideal) c arg2 harg2 arg5 harg5 arg6 harg6 x1 x4 x5) (kernelRun0_A.sl.r_368 (F := Ideal) c arg1 harg1 arg2 harg2 arg3 harg3 arg5 harg5 arg6 harg6 arg7 harg7 arg12 x0 x1 x2 x4 x5 x6) (kernelRun0_A.sl.r_370 (F := Ideal) c arg1 harg1 arg2 harg2 arg3 harg3 arg7 harg7 x0 x1 x2 x6) (k0_pay575 (F := Ideal)) : VB S64x128) x = coe2 (A := 256) (B := 3088) (fun i j => D.gPj (256 * T + i) j) ((Rect.unit (s := S256x3088) ![0, 896] S64x128.size inb_S256x3088_S64x128_0_896).emb x) :=
  piece2 (inb := inb_S256x3088_S64x128_0_896) ((t.head3 harg1 harg2 harg3 harg5 harg6 harg7).chunk (c := 0) (o' := 64) t.hT slices_S256x128_o0_0_S64x128 slices_S256x256_o0_0_S64x256 rfl rfl (t.sp03 harg4) (dsA_03 c harg1 harg2 harg3 harg4 harg5 harg6 harg7 harg9 harg10 harg11 harg12 harg13 t hS)).rdk (fun i _ j hj => D.pk T 0 3 i j (by decide) hj rfl)

theorem p7A_q03 (t : Tile D T x0 x1 x2 x3 x4 x5 x6) (hS : Last T) : ∀ x, (k0_pay582 (F := Ideal) k0_pay93 (kernelRun0_A.sl.r_356 (F := Ideal) c arg2 harg2 arg5 harg5 arg6 harg6 x1 x4 x5) (kernelRun0_A.sl.r_357 (F := Ideal) c arg2 harg2 arg5 harg5 arg6 harg6 x1 x4 x5) (kernelRun0_A.sl.r_362 (F := Ideal) c arg1 harg1 arg2 harg2 arg3 harg3 arg7 harg7 x0 x1 x2 x6) (kernelRun0_A.sl.r_365 (F := Ideal) c arg2 harg2 arg5 harg5 arg6 harg6 x1 x4 x5) (kernelRun0_A.sl.r_367 (F := Ideal) c arg4 harg4 x3) (kernelRun0_A.sl.r_370 (F := Ideal) c arg1 harg1 arg2 harg2 arg3 harg3 arg7 harg7 x0 x1 x2 x6) (k0_pay575 (F := Ideal)) : VB S64x128) x = coe2 (A := 256) (B := 3088) (fun i j => D.gPj (256 * T + i) j) ((Rect.unit (s := S256x3088) ![0, 384] S64x128.size inb_S256x3088_S64x128_0_384).emb x) :=
  piece2 (inb := inb_S256x3088_S64x128_0_384) ((t.head3 harg1 harg2 harg3 harg5 harg6 harg7).chunk (c := 0) (o' := 64) t.hT slices_S256x128_o0_0_S64x128 slices_S256x256_o0_0_S64x256 rfl rfl (t.sp03 harg4) (dsA_03 c harg1 harg2 harg3 harg4 harg5 harg6 harg7 harg9 harg10 harg11 harg12 harg13 t hS)).rdq (fun i _ j hj => D.pq T 0 3 i j (by decide) hj rfl)

theorem p7A_v03 (t : Tile D T x0 x1 x2 x3 x4 x5 x6) (hS : Last T) : ∀ x, (k0_pay581 (F := Ideal) (kernelRun0_A.sl.r_362 (F := Ideal) c arg1 harg1 arg2 harg2 arg3 harg3 arg7 harg7 x0 x1 x2 x6) (kernelRun0_A.sl.r_366 (F := Ideal) c arg2 harg2 arg5 harg5 arg6 harg6 x1 x4 x5) (kernelRun0_A.sl.r_368 (F := Ideal) c arg1 harg1 arg2 harg2 arg3 harg3 arg5 harg5 arg6 harg6 arg7 harg7 arg12 x0 x1 x2 x4 x5 x6) (kernelRun0_A.sl.r_369 (F := Ideal) c arg2 harg2 arg5 harg5 arg6 harg6 x1 x4 x5) : VB S64x256) x = coe2 (A := 256) (B := 3088) (fun i j => D.gPj (256 * T + i) j) ((Rect.unit (s := S256x3088) ![0, 1792] S64x256.size inb_S256x3088_S64x256_0_1792).emb x) :=
  piece2 (inb := inb_S256x3088_S64x256_0_1792) ((t.head3 harg1 harg2 harg3 harg5 harg6 harg7).chunk (c := 0) (o' := 64) t.hT slices_S256x128_o0_0_S64x128 slices_S256x256_o0_0_S64x256 rfl rfl (t.sp03 harg4) (dsA_03 c harg1 harg2 harg3 harg4 harg5 harg6 harg7 harg9 harg10 harg11 harg12 harg13 t hS)).rdv (fun i _ j hj => D.pv T 0 3 i j (by decide) hj rfl)

theorem p7A_k02 (t : Tile D T x0 x1 x2 x3 x4 x5 x6) (hS : Last T) : ∀ x, (k0_pay552 (F := Ideal) (kernelRun0_A.sl.r_340 (F := Ideal) c arg2 harg2 arg5 harg5 arg6 harg6 x1 x4 x5) (kernelRun0_A.sl.r_341 (F := Ideal) c arg2 harg2 arg5 harg5 arg6 harg6 x1 x4 x5) (kernelRun0_A.sl.r_352 (F := Ideal) c arg1 harg1 arg2 harg2 arg3 harg3 arg5 harg5 arg6 harg6 arg7 harg7 x0 x1 x2 x4 x5 x6) (kernelRun0_A.sl.r_353 (F := Ideal) c arg1 harg1 arg2 harg2 arg3 harg3 arg5 harg5 arg6 harg6 arg7 harg7 arg12 x0 x1 x2 x4 x5 x6) : VB S64x128) x = coe2 (A := 256) (B := 3088) (fun i j => D.gPj (256 * T + i) j) ((Rect.unit (s := S256x3088) ![0, 768] S64x128.size inb_S256x3088_S64x128_0_768).emb x) :=
  piece2 (inb := inb_S256x3088_S64x128_0_768) ((t.head2 harg1 harg2 harg3 harg5 harg6 harg7).chunk (c := 0) (o' := 64) t.hT slices_S256x128_o0_0_S64x128 slices_S256x256_o0_0_S64x256 rfl rfl (t.sp02 harg4) (dsA_02 c harg1 harg2 harg3 harg4 harg5 harg6 harg7 harg9 harg10 harg11 harg12 harg13 t hS)).rdk (fun i _ j hj => D.pk T 0 2 i j (by decide) hj rfl)

theorem p7A_q02 (t : Tile D T x0 x1 x2 x3 x4 x5 x6) (hS : Last T) : ∀ x, (k0_pay551 (F := Ideal) (kernelRun0_A.sl.r_337 (F := Ideal) c arg2 harg2 arg5 harg5 arg6 harg6 x1 x4 x5) (kernelRun0_A.sl.r_339 (F := Ideal) c arg2 harg2 arg5 harg5 arg6 harg6 x1 x4 x5) (kernelRun0_A.sl.r_350 (F := Ideal) c arg1 harg1 arg2 harg2 arg3 harg3 arg4 harg4 arg7 harg7 x0 x1 x2 x3 x6) (kernelRun0_A.sl.r_351 (F := Ideal) c arg1 harg1 arg2 harg2 arg3 harg3 arg5 harg5 arg6 harg6 arg7 harg7 x0 x1 x2 x4 x5 x6) : VB S64x128) x = coe2 (A := 256) (B := 3088) (fun i j => D.gPj (256 * T + i) j) ((Rect.unit (s := S256x3088) ![0, 256] S64x128.size inb_S256x3088_S64x128_0_256).emb x) :=
  piece2 (inb := inb_S256x3088_S64x128_0_256) ((t.head2 harg1 harg2 harg3 harg5 harg6 harg7).chunk (c := 0) (o' := 64) t.hT slices_S256x128_o0_0_S64x128 slices_S256x256_o0_0_S64x256 rfl rfl (t.sp02 harg4) (dsA_02 c harg1 harg2 harg3 harg4 harg5 harg6 harg7 harg9 harg10 harg11 harg12 harg13 t hS)).rdq (fun i _ j hj => D.pq T 0 2 i j (by decide) hj rfl)

theorem p7A_v02 (t : Tile D T x0 x1 x2 x3 x4 x5 x6) (hS : Last T) : ∀ x, (k0_pay550 (F := Ideal) (kernelRun0_A.sl.r_347 (F := Ideal) c arg2 harg2 arg5 harg5 arg6 harg6 x1 x4 x5) (kernelRun0_A.sl.r_349 (F := Ideal) c arg1 harg1 arg2 harg2 arg3 harg3 arg5 harg5 arg6 harg6 arg7 harg7 arg12 x0 x1 x2 x4 x5 x6) (kernelRun0_A.sl.r_354 (F := Ideal) c arg2 harg2 arg5 harg5 arg6 harg6 x1 x4 x5) (kernelRun0_A.sl.r_355 (F := Ideal) c arg1 harg1 arg2 harg2 arg3 harg3 arg7 harg7 x0 x1 x2 x6) : VB S64x256) x = coe2 (A := 256) (B := 3088) (fun i j => D.gPj (256 * T + i) j) ((Rect.unit (s := S256x3088) ![0, 1536] S64x256.size inb_S256x3088_S64x256_0_1536).emb x) :=
  piece2 (inb := inb_S256x3088_S64x256_0_1536) ((t.head2 harg1 harg2 harg3 harg5 harg6 harg7).chunk (c := 0) (o' := 64) t.hT slices_S256x128_o0_0_S64x128 slices_S256x256_o0_0_S64x256 rfl rfl (t.sp02 harg4) (dsA_02 c harg1 harg2 harg3 harg4 harg5 harg6 harg7 harg9 harg10 harg11 harg12 harg13 t hS)).rdv (fun i _ j hj => D.pv T 0 2 i j (by decide) hj rfl)

theorem p7A_k01 (t : Tile D T x0 x1 x2 x3 x4 x5 x6) (hS : Last T) : ∀ x, (k0_pay521 (F := Ideal) (kernelRun0_A.sl.r_318 (F := Ideal) c arg2 harg2 arg5 harg5 arg6 harg6 x1 x4 x5) (kernelRun0_A.sl.r_319 (F := Ideal) c arg2 harg2 arg5 harg5 arg6 harg6 x1 x4 x5) (kernelRun0_A.sl.r_331 (F := Ideal) c arg1 harg1 arg2 harg2 arg3 harg3 arg5 harg5 arg6 harg6 arg7 harg7 x0 x1 x2 x4 x5 x6) (kernelRun0_A.sl.r_332 (F := Ideal) c arg1 harg1 arg2 harg2 arg3 harg3 arg5 harg5 arg6 harg6 arg7 harg7 arg12 x0 x1 x2 x4 x5 x6) : VB S64x128) x = coe2 (A := 256) (B := 3088) (fun i j => D.gPj (256 * T + i) j) ((Rect.unit (s := S256x3088) ![0, 640] S64x128.size inb_S256x3088_S64x128_0_640).emb x) :=
  piece2 (inb := inb_S256x3088_S64x128_0_640) ((t.head1 harg1 harg2 harg3 harg5 harg6 harg7).chunk (c := 0) (o' := 64) t.hT slices_S256x128_o0_0_S64x128 slices_S256x256_o0_0_S64x256 rfl rfl (t.sp01 harg4) (dsA_01 c harg1 harg2 harg3 harg4 harg5 harg6 harg7 harg9 harg10 harg11 harg12 harg13 t hS)).rdk (fun i _ j hj => D.pk T 0 1 i j (by decide) hj rfl)

theorem p7A_q01 (t : Tile D T x0 x1 x2 x3 x4 x5 x6) (hS : Last T) : ∀ x, (kernelRun0_A.sl.r_333 (F := Ideal) c arg1 harg1 arg2 harg2 arg3 harg3 arg4 harg4 arg5 harg5 arg6 harg6 arg7 harg7 x0 x1 x2 x3 x4 x5 x6 : VB S64x128) x = coe2 (A := 256) (B := 3088) (fun i j => D.gPj (256 * T + i) j) ((Rect.unit (s := S256x3088) ![0, 128] S64x128.size inb_S256x3088_S64x128_0_128).emb x) :=
  piece2 (inb := inb_S256x3088_S64x128_0_128) ((t.head1 harg1 harg2 harg3 harg5 harg6 harg7).chunk (c := 0) (o' := 64) t.hT slices_S256x128_o0_0_S64x128 slices_S256x256_o0_0_S64x256 rfl rfl (t.sp01 harg4) (dsA_01 c harg1 harg2 harg3 harg4 harg5 harg6 harg7 harg9 harg10 harg11 harg12 harg13 t hS)).rdq (fun i _ j hj => D.pq T 0 1 i j (by decide) hj rfl)

theorem p7A_v01 (t : Tile D T x0 x1 x2 x3 x4 x5 x6) (hS : Last T) : ∀ x, (k0_pay519 (F := Ideal) k0_pay93 (kernelRun0_A.sl.r_322 (F := Ideal) c arg1 harg1 arg2 harg2 arg3 harg3 arg7 harg7 x0 x1 x2 x6) (kernelRun0_A.sl.r_324 (F := Ideal) c arg2 harg2 arg5 harg5 arg6 harg6 x1 x4 x5) (kernelRun0_A.sl.r_325 (F := Ideal) c arg2 harg2 arg5 harg5 arg6 harg6 x1 x4 x5) (kernelRun0_A.sl.r_326 (F := Ideal) c arg2 harg2 arg5 harg5 arg6 harg6 x1 x4 x5) (kernelRun0_A.sl.v1974 (F := Ideal) c arg1 harg1 arg2 harg2 arg3 harg3 arg5 harg5 arg6 harg6 arg7 harg7 arg12 x0 x1 x2 x4 x5 x6) : VB S64x256) x = coe2 (A := 256) (B := 3088) (fun i j => D.gPj (256 * T + i) j) ((Rect.unit (s := S256x3088) ![0, 1280] S64x256.size inb_S256x3088_S64x256_0_1280).emb x) :=
  piece2 (inb := inb_S256x3088_S64x256_0_1280) ((t.head1 harg1 harg2 harg3 harg5 harg6 harg7).chunk (c := 0) (o' := 64) t.hT slices_S256x128_o0_0_S64x128 slices_S256x256_o0_0_S64x256 rfl rfl (t.sp01 harg4) (dsA_01 c harg1 harg2 harg3 harg4 harg5 harg6 harg7 harg9 harg10 harg11 harg12 harg13 t hS)).rdv (fun i _ j hj => D.pv T 0 1 i j (by decide) hj rfl)

theorem p7A_k00 (t : Tile D T x0 x1 x2 x3 x4 x5 x6) (hS : Last T) : ∀ x, (k0_pay490 (F := Ideal) k0_pay93 (kernelRun0_A.sl.r_296 (F := Ideal) c arg2 harg2 arg5 harg5 arg6 harg6 x1 x4 x5) (kernelRun0_A.sl.r_297 (F := Ideal) c arg2 harg2 arg5 harg5 arg6 harg6 x1 x4 x5) (kernelRun0_A.sl.r_299 (F := Ideal) c arg2 harg2 x1) (kernelRun0_A.sl.r_302 (F := Ideal) c arg2 harg2 arg5 harg5 arg6 harg6 x1 x4 x5) (kernelRun0_A.sl.r_306 (F := Ideal) c arg1 harg1 arg2 harg2 arg3 harg3 arg5 harg5 arg6 harg6 arg7 harg7 arg12 x0 x1 x2 x4 x5 x6) (kernelRun0_A.sl.r_308 (F := Ideal) c arg1 harg1 arg2 harg2 arg3 harg3 arg7 harg7 x0 x1 x2 x6) (kernelRun0_A.sl.r_309 (F := Ideal) c arg2 harg2 x1) (kernelRun0_A.sl.cst_659 (F := Ideal)) : VB S64x128) x = coe2 (A := 256) (B := 3088) (fun i j => D.gPj (256 * T + i) j) ((Rect.unit (s := S256x3088) ![0, 512] S64x128.size inb_S256x3088_S64x128_0_512).emb x) :=
  piece2 (inb := inb_S256x3088_S64x128_0_512) ((t.head0 harg1 harg2 harg3 harg5 harg6 harg7).chunk (c := 0) (o' := 64) t.hT slices_S256x128_o0_0_S64x128 slices_S256x256_o0_0_S64x256 rfl rfl (t.sp00 harg4) (dsA_00 c harg1 harg2 harg3 harg4 harg5 harg6 harg7 harg9 harg10 harg11 harg12 harg13 t hS)).rdk (fun i _ j hj => D.pk T 0 0 i j (by decide) hj rfl)

theorem p7A_q00 (t : Tile D T x0 x1 x2 x3 x4 x5 x6) (hS : Last T) : ∀ x, (k0_pay489 (F := Ideal) k0_pay93 (kernelRun0_A.sl.r_294 (F := Ideal) c arg2 harg2 arg5 harg5 arg6 harg6 x1 x4 x5) (kernelRun0_A.sl.r_295 (F := Ideal) c arg2 harg2 arg5 harg5 arg6 harg6 x1 x4 x5) (kernelRun0_A.sl.r_300 (F := Ideal) c arg1 harg1 arg2 harg2 arg3 harg3 arg7 harg7 x0 x1 x2 x6) (kernelRun0_A.sl.r_303 (F := Ideal) c arg2 harg2 arg5 harg5 arg6 harg6 x1 x4 x5) (kernelRun0_A.sl.r_305 (F := Ideal) c arg4 harg4 x3) (kernelRun0_A.sl.r_308 (F := Ideal) c arg1 harg1 arg2 harg2 arg3 harg3 arg7 harg7 x0 x1 x2 x6) (kernelRun0_A.sl.r_309 (F := Ideal) c arg2 harg2 x1) (kernelRun0_A.sl.cst_659 (F := Ideal)) : VB S64x128) x = coe2 (A := 256) (B := 3088) (fun i j => D.gPj (256 * T + i) j) ((Rect.unit (s := S256x3088) ![0, 0] S64x128.size inb_S256x3088_S64x128_0_0).emb x) :=
  piece2 (inb := inb_S256x3088_S64x128_0_0) ((t.head0 harg1 harg2 harg3 harg5 harg6 harg7).chunk (c := 0) (o' := 64) t.hT slices_S256x128_o0_0_S64x128 slices_S256x256_o0_0_S64x256 rfl rfl (t.sp00 harg4) (dsA_00 c harg1 harg2 harg3 harg4 harg5 harg6 harg7 harg9 harg10 harg11 harg12 harg13 t hS)).rdq (fun i _ j hj => D.pq T 0 0 i j (by decide) hj rfl)

theorem p7A_v00 (t : Tile D T x0 x1 x2 x3 x4 x5 x6) (hS : Last T) : ∀ x, (k0_pay488 (F := Ideal) (kernelRun0_A.sl.r_300 (F := Ideal) c arg1 harg1 arg2 harg2 arg3 harg3 arg7 harg7 x0 x1 x2 x6) (kernelRun0_A.sl.r_304 (F := Ideal) c arg2 harg2 arg5 harg5 arg6 harg6 x1 x4 x5) (kernelRun0_A.sl.r_306 (F := Ideal) c arg1 harg1 arg2 harg2 arg3 harg3 arg5 harg5 arg6 harg6 arg7 harg7 arg12 x0 x1 x2 x4 x5 x6) (kernelRun0_A.sl.r_307 (F := Ideal) c arg2 harg2 arg5 harg5 arg6 harg6 x1 x4 x5) : VB S64x256) x = coe2 (A := 256) (B := 3088) (fun i j => D.gPj (256 * T + i) j) ((Rect.unit (s := S256x3088) ![0, 1024] S64x256.size inb_S256x3088_S64x256_0_1024).emb x) :=
  piece2 (inb := inb_S256x3088_S64x256_0_1024) ((t.head0 harg1 harg2 harg3 harg5 harg6 harg7).chunk (c := 0) (o' := 64) t.hT slices_S256x128_o0_0_S64x128 slices_S256x256_o0_0_S64x256 rfl rfl (t.sp00 harg4) (dsA_00 c harg1 harg2 harg3 harg4 harg5 harg6 harg7 harg9 harg10 harg11 harg12 harg13 t hS)).rdv (fun i _ j hj => D.pv T 0 0 i j (by decide) hj rfl)

theorem p7A_k13 (t : Tile D T x0 x1 x2 x3 x4 x5 x6) (hS : Last T) : ∀ x, (k0_pay458 (F := Ideal) (kernelRun0_A.sl.r_277 (F := Ideal) c arg2 harg2 arg5 harg5 arg6 harg6 x1 x4 x5) (kernelRun0_A.sl.r_278 (F := Ideal) c arg2 harg2 arg5 harg5 arg6 harg6 x1 x4 x5) (kernelRun0_A.sl.r_290 (F := Ideal) c arg1 harg1 arg2 harg2 arg3 harg3 arg5 harg5 arg6 harg6 arg7 harg7 x0 x1 x2 x4 x5 x6) (kernelRun0_A.sl.r_291 (F := Ideal) c arg2 harg2 x1) (kernelRun0_A.sl.r_292 (F := Ideal) c arg1 harg1 arg2 harg2 arg3 harg3 arg5 harg5 arg6 harg6 arg7 harg7 arg12 x0 x1 x2 x4 x5 x6) (kernelRun0_A.sl.cst_630 (F := Ideal)) : VB S64x128) x = coe2 (A := 256) (B := 3088) (fun i j => D.gPj (256 * T + i) j) ((Rect.unit (s := S256x3088) ![64, 896] S64x128.size inb_S256x3088_S64x128_64_896).emb x) :=
  piece2 (inb := inb_S256x3088_S64x128_64_896) ((t.head3 harg1 harg2 harg3 harg5 harg6 harg7).chunk (c := 1) (o' := 128) t.hT slices_S256x128_o64_0_S64x128 slices_S256x256_o64_0_S64x256 rfl rfl (t.sp13 harg4) (dsA_13 c harg1 harg2 harg3 harg4 harg5 harg6 harg7 harg9 harg10 harg11 harg12 harg13 t hS)).rdk (fun i _ j hj => D.pk T 64 3 i j (by decide) hj rfl)

theorem p7A_q13 (t : Tile D T x0 x1 x2 x3 x4 x5 x6) (hS : Last T) : ∀ x, (k0_pay457 (F := Ideal) (kernelRun0_A.sl.r_275 (F := Ideal) c arg2 harg2 arg5 harg5 arg6 harg6 x1 x4 x5) (kernelRun0_A.sl.r_276 (F := Ideal) c arg2 harg2 arg5 harg5 arg6 harg6 x1 x4 x5) (kernelRun0_A.sl.r_288 (F := Ideal) c arg1 harg1 arg2 harg2 arg3 harg3 arg4 harg4 arg7 harg7 x0 x1 x2 x3 x6) (kernelRun0_A.sl.r_289 (F := Ideal) c arg1 harg1 arg2 harg2 arg3 harg3 arg5 harg5 arg6 harg6 arg7 harg7 x0 x1 x2 x4 x5 x6) : VB S64x128) x = coe2 (A := 256) (B := 3088) (fun i j => D.gPj (256 * T + i) j) ((Rect.unit (s := S256x3088) ![64, 384] S64x128.size inb_S256x3088_S64x128_64_384).emb x) :=
  piece2 (inb := inb_S256x3088_S64x128_64_384) ((t.head3 harg1 harg2 harg3 harg5 harg6 harg7).chunk (c := 1) (o' := 128) t.hT slices_S256x128_o64_0_S64x128 slices_S256x256_o64_0_S64x256 rfl rfl (t.sp13 harg4) (dsA_13 c harg1 harg2 harg3 harg4 harg5 harg6 harg7 harg9 harg10 harg11 harg12 harg13 t hS)).rdq (fun i _ j hj => D.pq T 64 3 i j (by decide) hj rfl)

theorem p7A_v13 (t : Tile D T x0 x1 x2 x3 x4 x5 x6) (hS : Last T) : ∀ x, (k0_pay456 (F := Ideal) (kernelRun0_A.sl.r_280 (F := Ideal) c arg1 harg1 arg2 harg2 arg3 harg3 arg7 harg7 x0 x1 x2 x6) (kernelRun0_A.sl.r_284 (F := Ideal) c arg2 harg2 arg5 harg5 arg6 harg6 x1 x4 x5) (kernelRun0_A.sl.r_286 (F := Ideal) c arg1 harg1 arg2 harg2 arg3 harg3 arg5 harg5 arg6 harg6 arg7 harg7 arg12 x0 x1 x2 x4 x5 x6) (kernelRun0_A.sl.r_287 (F := Ideal) c arg2 harg2 arg5 harg5 arg6 harg6 x1 x4 x5) : VB S64x256) x = coe2 (A := 256) (B := 3088) (fun i j => D.gPj (256 * T + i) j) ((Rect.unit (s := S256x3088) ![64, 1792] S64x256.size inb_S256x3088_S64x256_64_1792).emb x) :=
  piece2 (inb := inb_S256x3088_S64x256_64_1792) ((t.head3 harg1 harg2 harg3 harg5 harg6 harg7).chunk (c := 1) (o' := 128) t.hT slices_S256x128_o64_0_S64x128 slices_S256x256_o64_0_S64x256 rfl rfl (t.sp13 harg4) (dsA_13 c harg1 harg2 harg3 harg4 harg5 harg6 harg7 harg9 harg10 harg11 harg12 harg13 t hS)).rdv (fun i _ j hj => D.pv T 64 3 i j (by decide) hj rfl)

theorem p7A_k12 (t : Tile D T x0 x1 x2 x3 x4 x5 x6) (hS : Last T) : ∀ x, (k0_pay427 (F := Ideal) (kernelRun0_A.sl.r_256 (F := Ideal) c arg2 harg2 arg5 harg5 arg6 harg6 x1 x4 x5) (kernelRun0_A.sl.r_257 (F := Ideal) c arg2 harg2 arg5 harg5 arg6 harg6 x1 x4 x5) (kernelRun0_A.sl.r_270 (F := Ideal) c arg1 harg1 arg2 harg2 arg3 harg3 arg5 harg5 arg6 harg6 arg7 harg7 x0 x1 x2 x4 x5 x6) (kernelRun0_A.sl.r_271 (F := Ideal) c arg1 harg1 arg2 harg2 arg3 harg3 arg5 harg5 arg6 harg6 arg7 harg7 arg12 x0 x1 x2 x4 x5 x6) : VB S64x128) x = coe2 (A := 256) (B := 3088) (fun i j => D.gPj (256 * T + i) j) ((Rect.unit (s := S256x3088) ![64, 768] S64x128.size inb_S256x3088_S64x128_64_768).emb x) :=
  piece2 (inb := inb_S256x3088_S64x128_64_768) ((t.head2 harg1 harg2 harg3 harg5 harg6 harg7).chunk (c := 1) (o' := 128) t.hT slices_S256x128_o64_0_S64x128 slices_S256x256_o64_0_S64x256 rfl rfl (t.sp12 harg4) (dsA_12 c harg1 harg2 harg3 harg4 harg5 harg6 harg7 harg9 harg10 harg11 harg12 harg13 t hS)).rdk (fun i _ j hj => D.pk T 64 2 i j (by decide) hj rfl)

theorem p7A_q12 (t : Tile D T x0 x1 x2 x3 x4 x5 x6) (hS : Last T) : ∀ x, (k0_pay426 (F := Ideal) (kernelRun0_A.sl.r_272 (F := Ideal) c arg1 harg1 arg2 harg2 arg3 harg3 arg4 harg4 arg5 harg5 arg6 harg6 arg7 harg7 x0 x1 x2 x3 x4 x5 x6) (kernelRun0_A.sl.cst_601 (F := Ideal)) : VB S64x128) x = coe2 (A := 256) (B := 3088) (fun i j => D.gPj (256 * T + i) j) ((Rect.unit (s := S256x3088) ![64, 256] S64x128.size inb_S256x3088_S64x128_64_256).emb x) :=
  piece2 (inb := inb_S256x3088_S64x128_64_256) ((t.head2 harg1 harg2 harg3 harg5 harg6 harg7).chunk (c := 1) (o' := 128) t.hT slices_S256x128_o64_0_S64x128 slices_S256x256_o64_0_S64x256 rfl rfl (t.sp12 harg4) (dsA_12 c harg1 harg2 harg3 harg4 harg5 harg6 harg7 harg9 harg10 harg11 harg12 harg13 t hS)).rdq (fun i _ j hj => D.pq T 64 2 i j (by decide) hj rfl)

theorem p7A_v12 (t : Tile D T x0 x1 x2 x3 x4 x5 x6) (hS : Last T) : ∀ x, (k0_pay424 (F := Ideal) k0_pay93 (kernelRun0_A.sl.r_257 (F := Ideal) c arg2 harg2 arg5 harg5 arg6 harg6 x1 x4 x5) (kernelRun0_A.sl.r_259 (F := Ideal) c arg2 harg2 x1) (kernelRun0_A.sl.r_261 (F := Ideal) c arg1 harg1 arg2 harg2 arg3 harg3 arg7 harg7 x0 x1 x2 x6) (kernelRun0_A.sl.r_263 (F := Ideal) c arg2 harg2 arg5 harg5 arg6 harg6 x1 x4 x5) (kernelRun0_A.sl.r_264 (F := Ideal) c arg2 harg2 arg5 harg5 arg6 harg6 x1 x4 x5) (kernelRun0_A.sl.v1674 (F := Ideal) c arg1 harg1 arg2 harg2 arg3 harg3 arg5 harg5 arg6 harg6 arg7 harg7 arg12 x0 x1 x2 x4 x5 x6) : VB S64x256) x = coe2 (A := 256) (B := 3088) (fun i j => D.gPj (256 * T + i) j) ((Rect.unit (s := S256x3088) ![64, 1536] S64x256.size inb_S256x3088_S64x256_64_1536).emb x) :=
  piece2 (inb := inb_S256x3088_S64x256_64_1536) ((t.head2 harg1 harg2 harg3 harg5 harg6 harg7).chunk (c := 1) (o' := 128) t.hT slices_S256x128_o64_0_S64x128 slices_S256x256_o64_0_S64x256 rfl rfl (t.sp12 harg4) (dsA_12 c harg1 harg2 harg3 harg4 harg5 harg6 harg7 harg9 harg10 harg11 harg12 harg13 t hS)).rdv (fun i _ j hj => D.pv T 64 2 i j (by decide) hj rfl)

theorem p7A_k11 (t : Tile D T x0 x1 x2 x3 x4 x5 x6) (hS : Last T) : ∀ x, (k0_pay396 (F := Ideal) k0_pay93 (kernelRun0_A.sl.r_237 (F := Ideal) c arg2 harg2 arg5 harg5 arg6 harg6 x1 x4 x5) (kernelRun0_A.sl.r_238 (F := Ideal) c arg2 harg2 arg5 harg5 arg6 harg6 x1 x4 x5) (kernelRun0_A.sl.r_240 (F := Ideal) c arg2 harg2 x1) (kernelRun0_A.sl.r_241 (F := Ideal) c arg1 harg1 arg2 harg2 arg3 harg3 arg7 harg7 x0 x1 x2 x6) (kernelRun0_A.sl.r_243 (F := Ideal) c arg2 harg2 arg5 harg5 arg6 harg6 x1 x4 x5) (kernelRun0_A.sl.r_247 (F := Ideal) c arg1 harg1 arg2 harg2 arg3 harg3 arg5 harg5 arg6 harg6 arg7 harg7 arg12 x0 x1 x2 x4 x5 x6) : VB S64x128) x = coe2 (A := 256) (B := 3088) (fun i j => D.gPj (256 * T + i) j) ((Rect.unit (s := S256x3088) ![64, 640] S64x128.size inb_S256x3088_S64x128_64_640).emb x) :=
  piece2 (inb := inb_S256x3088_S64x128_64_640) ((t.head1 harg1 harg2 harg3 harg5 harg6 harg7).chunk (c := 1) (o' := 128) t.hT slices_S256x128_o64_0_S64x128 slices_S256x256_o64_0_S64x256 rfl rfl (t.sp11 harg4) (dsA_11 c harg1 harg2 harg3 harg4 harg5 harg6 harg7 harg9 harg10 harg11 harg12 harg13 t hS)).rdk (fun i _ j hj => D.pk T 64 1 i j (by decide) hj rfl)

theorem p7A_q11 (t : Tile D T x0 x1 x2 x3 x4 x5 x6) (hS : Last T) : ∀ x, (k0_pay395 (F := Ideal) k0_pay93 (kernelRun0_A.sl.r_235 (F := Ideal) c arg2 harg2 arg5 harg5 arg6 harg6 x1 x4 x5) (kernelRun0_A.sl.r_236 (F := Ideal) c arg2 harg2 arg5 harg5 arg6 harg6 x1 x4 x5) (kernelRun0_A.sl.r_240 (F := Ideal) c arg2 harg2 x1) (kernelRun0_A.sl.r_241 (F := Ideal) c arg1 harg1 arg2 harg2 arg3 harg3 arg7 harg7 x0 x1 x2 x6) (kernelRun0_A.sl.r_244 (F := Ideal) c arg2 harg2 arg5 harg5 arg6 harg6 x1 x4 x5) (kernelRun0_A.sl.r_246 (F := Ideal) c arg4 harg4 x3) : VB S64x128) x = coe2 (A := 256) (B := 3088) (fun i j => D.gPj (256 * T + i) j) ((Rect.unit (s := S256x3088) ![64, 128] S64x128.size inb_S256x3088_S64x128_64_128).emb x) :=
  piece2 (inb := inb_S256x3088_S64x128_64_128) ((t.head1 harg1 harg2 harg3 harg5 harg6 harg7).chunk (c := 1) (o' := 128) t.hT slices_S256x128_o64_0_S64x128 slices_S256x256_o64_0_S64x256 rfl rfl (t.sp11 harg4) (dsA_11 c harg1 harg2 harg3 harg4 harg5 harg6 harg7 harg9 harg10 harg11 harg12 harg13 t hS)).rdq (fun i _ j hj => D.pq T 64 1 i j (by decide) hj rfl)

theorem p7A_v11 (t : Tile D T x0 x1 x2 x3 x4 x5 x6) (hS : Last T) : ∀ x, (k0_pay394 (F := Ideal) (kernelRun0_A.sl.r_241 (F := Ideal) c arg1 harg1 arg2 harg2 arg3 harg3 arg7 harg7 x0 x1 x2 x6) (kernelRun0_A.sl.r_245 (F := Ideal) c arg2 harg2 arg5 harg5 arg6 harg6 x1 x4 x5) (kernelRun0_A.sl.r_247 (F := Ideal) c arg1 harg1 arg2 harg2 arg3 harg3 arg5 harg5 arg6 harg6 arg7 harg7 arg12 x0 x1 x2 x4 x5 x6) (kernelRun0_A.sl.r_248 (F := Ideal) c arg2 harg2 arg5 harg5 arg6 harg6 x1 x4 x5) : VB S64x256) x = coe2 (A := 256) (B := 3088) (fun i j => D.gPj (256 * T + i) j) ((Rect.unit (s := S256x3088) ![64, 1280] S64x256.size inb_S256x3088_S64x256_64_1280).emb x) :=
  piece2 (inb := inb_S256x3088_S64x256_64_1280) ((t.head1 harg1 harg2 harg3 harg5 harg6 harg7).chunk (c := 1) (o' := 128) t.hT slices_S256x128_o64_0_S64x128 slices_S256x256_o64_0_S64x256 rfl rfl (t.sp11 harg4) (dsA_11 c harg1 harg2 harg3 harg4 harg5 harg6 harg7 harg9 harg10 harg11 harg12 harg13 t hS)).rdv (fun i _ j hj => D.pv T 64 1 i j (by decide) hj rfl)

theorem p7A_k10 (t : Tile D T x0 x1 x2 x3 x4 x5 x6) (hS : Last T) : ∀ x, (k0_pay366 (F := Ideal) (kernelRun0_A.sl.r_219 (F := Ideal) c arg2 harg2 arg5 harg5 arg6 harg6 x1 x4 x5) (kernelRun0_A.sl.r_220 (F := Ideal) c arg2 harg2 arg5 harg5 arg6 harg6 x1 x4 x5) (kernelRun0_A.sl.r_222 (F := Ideal) c arg2 harg2 x1) (kernelRun0_A.sl.r_229 (F := Ideal) c arg1 harg1 arg2 harg2 arg3 harg3 arg5 harg5 arg6 harg6 arg7 harg7 arg12 x0 x1 x2 x4 x5 x6) (kernelRun0_A.sl.r_233 (F := Ideal) c arg1 harg1 arg2 harg2 arg3 harg3 arg5 harg5 arg6 harg6 arg7 harg7 x0 x1 x2 x4 x5 x6) : VB S64x128) x = coe2 (A := 256) (B := 3088) (fun i j => D.gPj (256 * T + i) j) ((Rect.unit (s := S256x3088) ![64, 512] S64x128.size inb_S256x3088_S64x128_64_512).emb x) :=
  piece2 (inb := inb_S256x3088_S64x128_64_512) ((t.head0 harg1 harg2 harg3 harg5 harg6 harg7).chunk (c := 1) (o' := 128) t.hT slices_S256x128_o64_0_S64x128 slices_S256x256_o64_0_S64x256 rfl rfl (t.sp10 harg4) (dsA_10 c harg1 harg2 harg3 harg4 harg5 harg6 harg7 harg9 harg10 harg11 harg12 harg13 t hS)).rdk (fun i _ j hj => D.pk T 64 0 i j (by decide) hj rfl)

theorem p7A_q10 (t : Tile D T x0 x1 x2 x3 x4 x5 x6) (hS : Last T) : ∀ x, (k0_pay365 (F := Ideal) (kernelRun0_A.sl.r_217 (F := Ideal) c arg2 harg2 arg5 harg5 arg6 harg6 x1 x4 x5) (kernelRun0_A.sl.r_218 (F := Ideal) c arg2 harg2 arg5 harg5 arg6 harg6 x1 x4 x5) (kernelRun0_A.sl.r_231 (F := Ideal) c arg1 harg1 arg2 harg2 arg3 harg3 arg4 harg4 arg7 harg7 x0 x1 x2 x3 x6) (kernelRun0_A.sl.r_232 (F := Ideal) c arg1 harg1 arg2 harg2 arg3 harg3 arg5 harg5 arg6 harg6 arg7 harg7 x0 x1 x2 x4 x5 x6) : VB S64x128) x = coe2 (A := 256) (B := 3088) (fun i j => D.gPj (256 * T + i) j) ((Rect.unit (s := S256x3088) ![64, 0] S64x128.size inb_S256x3088_S64x128_64_0).emb x) :=
  piece2 (inb := inb_S256x3088_S64x128_64_0) ((t.head0 harg1 harg2 harg3 harg5 harg6 harg7).chunk (c := 1) (o' := 128) t.hT slices_S256x128_o64_0_S64x128 slices_S256x256_o64_0_S64x256 rfl rfl (t.sp10 harg4) (dsA_10 c harg1 harg2 harg3 harg4 harg5 harg6 harg7 harg9 harg10 harg11 harg12 harg13 t hS)).rdq (fun i _ j hj => D.pq T 64 0 i j (by decide) hj rfl)

theorem p7A_v10 (t : Tile D T x0 x1 x2 x3 x4 x5 x6) (hS : Last T) : ∀ x, (k0_pay364 (F := Ideal) (kernelRun0_A.sl.r_223 (F := Ideal) c arg1 harg1 arg2 harg2 arg3 harg3 arg7 harg7 x0 x1 x2 x6) (kernelRun0_A.sl.r_227 (F := Ideal) c arg2 harg2 arg5 harg5 arg6 harg6 x1 x4 x5) (kernelRun0_A.sl.r_229 (F := Ideal) c arg1 harg1 arg2 harg2 arg3 harg3 arg5 harg5 arg6 harg6 arg7 harg7 arg12 x0 x1 x2 x4 x5 x6) (kernelRun0_A.sl.r_230 (F := Ideal) c arg2 harg2 arg5 harg5 arg6 harg6 x1 x4 x5) : VB S64x256) x = coe2 (A := 256) (B := 3088) (fun i j => D.gPj (256 * T + i) j) ((Rect.unit (s := S256x3088) ![64, 1024] S64x256.size inb_S256x3088_S64x256_64_1024).emb x) :=
  piece2 (inb := inb_S256x3088_S64x256_64_1024) ((t.head0 harg1 harg2 harg3 harg5 harg6 harg7).chunk (c := 1) (o' := 128) t.hT slices_S256x128_o64_0_S64x128 slices_S256x256_o64_0_S64x256 rfl rfl (t.sp10 harg4) (dsA_10 c harg1 harg2 harg3 harg4 harg5 harg6 harg7 harg9 harg10 harg11 harg12 harg13 t hS)).rdv (fun i _ j hj => D.pv T 64 0 i j (by decide) hj rfl)

theorem p7A_k23 (t : Tile D T x0 x1 x2 x3 x4 x5 x6) (hS : Last T) : ∀ x, (k0_pay337 (F := Ideal) (kernelRun0_A.sl.r_198 (F := Ideal) c arg2 harg2 arg5 harg5 arg6 harg6 x1 x4 x5) (kernelRun0_A.sl.r_199 (F := Ideal) c arg2 harg2 arg5 harg5 arg6 harg6 x1 x4 x5) (kernelRun0_A.sl.r_213 (F := Ideal) c arg1 harg1 arg2 harg2 arg3 harg3 arg5 harg5 arg6 harg6 arg7 harg7 x0 x1 x2 x4 x5 x6) (kernelRun0_A.sl.r_214 (F := Ideal) c arg1 harg1 arg2 harg2 arg3 harg3 arg5 harg5 arg6 harg6 arg7 harg7 arg12 x0 x1 x2 x4 x5 x6) : VB S64x128) x = coe2 (A := 256) (B := 3088) (fun i j => D.gPj (256 * T + i) j) ((Rect.unit (s := S256x3088) ![128, 896] S64x128.size inb_S256x3088_S64x128_128_896).emb x) :=
  piece2 (inb := inb_S256x3088_S64x128_128_896) ((t.head3 harg1 harg2 harg3 harg5 harg6 harg7).chunk (c := 2) (o' := 192) t.hT slices_S256x128_o128_0_S64x128 slices_S256x256_o128_0_S64x256 rfl rfl (t.sp23 harg4) (dsA_23 c harg1 harg2 harg3 harg4 harg5 harg6 harg7 harg9 harg10 harg11 harg12 harg13 t hS)).rdk (fun i _ j hj => D.pk T 128 3 i j (by decide) hj rfl)

theorem p7A_q23 (t : Tile D T x0 x1 x2 x3 x4 x5 x6) (hS : Last T) : ∀ x, (k0_pay336 (F := Ideal) (kernelRun0_A.sl.r_197 (F := Ideal) c arg2 harg2 arg5 harg5 arg6 harg6 x1 x4 x5) (kernelRun0_A.sl.r_212 (F := Ideal) c arg1 harg1 arg2 harg2 arg3 harg3 arg5 harg5 arg6 harg6 arg7 harg7 x0 x1 x2 x4 x5 x6) (kernelRun0_A.sl.r_215 (F := Ideal) c arg1 harg1 arg2 harg2 arg3 harg3 arg4 harg4 arg5 harg5 arg6 harg6 arg7 harg7 x0 x1 x2 x3 x4 x5 x6) : VB S64x128) x = coe2 (A := 256) (B := 3088) (fun i j => D.gPj (256 * T + i) j) ((Rect.unit (s := S256x3088) ![128, 384] S64x128.size inb_S256x3088_S64x128_128_384).emb x) :=
  piece2 (inb := inb_S256x3088_S64x128_128_384) ((t.head3 harg1 harg2 harg3 harg5 harg6 harg7).chunk (c := 2) (o' := 192) t.hT slices_S256x128_o128_0_S64x128 slices_S256x256_o128_0_S64x256 rfl rfl (t.sp23 harg4) (dsA_23 c harg1 harg2 harg3 harg4 harg5 harg6 harg7 harg9 harg10 harg11 harg12 harg13 t hS)).rdq (fun i _ j hj => D.pq T 128 3 i j (by decide) hj rfl)

theorem p7A_v23 (t : Tile D T x0 x1 x2 x3 x4 x5 x6) (hS : Last T) : ∀ x, (k0_pay334 (F := Ideal) k0_pay93 (kernelRun0_A.sl.r_197 (F := Ideal) c arg2 harg2 arg5 harg5 arg6 harg6 x1 x4 x5) (kernelRun0_A.sl.r_198 (F := Ideal) c arg2 harg2 arg5 harg5 arg6 harg6 x1 x4 x5) (kernelRun0_A.sl.r_199 (F := Ideal) c arg2 harg2 arg5 harg5 arg6 harg6 x1 x4 x5) (kernelRun0_A.sl.r_201 (F := Ideal) c arg2 harg2 x1) (kernelRun0_A.sl.r_202 (F := Ideal) c arg2 harg2 x1) (kernelRun0_A.sl.r_204 (F := Ideal) c arg1 harg1 arg2 harg2 arg3 harg3 arg7 harg7 x0 x1 x2 x6) (kernelRun0_A.sl.v1374 (F := Ideal) c arg1 harg1 arg2 harg2 arg3 harg3 arg5 harg5 arg6 harg6 arg7 harg7 arg12 x0 x1 x2 x4 x5 x6) : VB S64x256) x = coe2 (A := 256) (B := 3088) (fun i j => D.gPj (256 * T + i) j) ((Rect.unit (s := S256x3088) ![128, 1792] S64x256.size inb_S256x3088_S64x256_128_1792).emb x) :=
  piece2 (inb := inb_S256x3088_S64x256_128_1792) ((t.head3 harg1 harg2 harg3 harg5 harg6 harg7).chunk (c := 2) (o' := 192) t.hT slices_S256x128_o128_0_S64x128 slices_S256x256_o128_0_S64x256 rfl rfl (t.sp23 harg4) (dsA_23 c harg1 harg2 harg3 harg4 harg5 harg6 harg7 harg9 harg10 harg11 harg12 harg13 t hS)).rdv (fun i _ j hj => D.pv T 128 3 i j (by decide) hj rfl)

theorem p7A_k22 (t : Tile D T x0 x1 x2 x3 x4 x5 x6) (hS : Last T) : ∀ x, (k0_pay307 (F := Ideal) k0_pay93 (kernelRun0_A.sl.r_180 (F := Ideal) c arg2 harg2 arg5 harg5 arg6 harg6 x1 x4 x5) (kernelRun0_A.sl.r_181 (F := Ideal) c arg2 harg2 arg5 harg5 arg6 harg6 x1 x4 x5) (kernelRun0_A.sl.r_183 (F := Ideal) c arg2 harg2 x1) (kernelRun0_A.sl.r_184 (F := Ideal) c arg1 harg1 arg2 harg2 arg3 harg3 arg7 harg7 x0 x1 x2 x6) (kernelRun0_A.sl.r_186 (F := Ideal) c arg2 harg2 arg5 harg5 arg6 harg6 x1 x4 x5) (kernelRun0_A.sl.r_190 (F := Ideal) c arg1 harg1 arg2 harg2 arg3 harg3 arg5 harg5 arg6 harg6 arg7 harg7 arg12 x0 x1 x2 x4 x5 x6) : VB S64x128) x = coe2 (A := 256) (B := 3088) (fun i j => D.gPj (256 * T + i) j) ((Rect.unit (s := S256x3088) ![128, 768] S64x128.size inb_S256x3088_S64x128_128_768).emb x) :=
  piece2 (inb := inb_S256x3088_S64x128_128_768) ((t.head2 harg1 harg2 harg3 harg5 harg6 harg7).chunk (c := 2) (o' := 192) t.hT slices_S256x128_o128_0_S64x128 slices_S256x256_o128_0_S64x256 rfl rfl (t.sp22 harg4) (dsA_22 c harg1 harg2 harg3 harg4 harg5 harg6 harg7 harg9 harg10 harg11 harg12 harg13 t hS)).rdk (fun i _ j hj => D.pk T 128 2 i j (by decide) hj rfl)

theorem p7A_q22 (t : Tile D T x0 x1 x2 x3 x4 x5 x6) (hS : Last T) : ∀ x, (k0_pay306 (F := Ideal) k0_pay93 (kernelRun0_A.sl.r_178 (F := Ideal) c arg2 harg2 arg5 harg5 arg6 harg6 x1 x4 x5) (kernelRun0_A.sl.r_179 (F := Ideal) c arg2 harg2 arg5 harg5 arg6 harg6 x1 x4 x5) (kernelRun0_A.sl.r_183 (F := Ideal) c arg2 harg2 x1) (kernelRun0_A.sl.r_184 (F := Ideal) c arg1 harg1 arg2 harg2 arg3 harg3 arg7 harg7 x0 x1 x2 x6) (kernelRun0_A.sl.r_187 (F := Ideal) c arg2 harg2 arg5 harg5 arg6 harg6 x1 x4 x5) (kernelRun0_A.sl.r_189 (F := Ideal) c arg4 harg4 x3) : VB S64x128) x = coe2 (A := 256) (B := 3088) (fun i j => D.gPj (256 * T + i) j) ((Rect.unit (s := S256x3088) ![128, 256] S64x128.size inb_S256x3088_S64x128_128_256).emb x) :=
  piece2 (inb := inb_S256x3088_S64x128_128_256) ((t.head2 harg1 harg2 harg3 harg5 harg6 harg7).chunk (c := 2) (o' := 192) t.hT slices_S256x128_o128_0_S64x128 slices_S256x256_o128_0_S64x256 rfl rfl (t.sp22 harg4) (dsA_22 c harg1 harg2 harg3 harg4 harg5 harg6 harg7 harg9 harg10 harg11 harg12 harg13 t hS)).rdq (fun i _ j hj => D.pq T 128 2 i j (by decide) hj rfl)

theorem p7A_v22 (t : Tile D T x0 x1 x2 x3 x4 x5 x6) (hS : Last T) : ∀ x, (k0_pay305 (F := Ideal) k0_pay93 (kernelRun0_A.sl.r_184 (F := Ideal) c arg1 harg1 arg2 harg2 arg3 harg3 arg7 harg7 x0 x1 x2 x6) (kernelRun0_A.sl.r_188 (F := Ideal) c arg2 harg2 arg5 harg5 arg6 harg6 x1 x4 x5) (kernelRun0_A.sl.r_190 (F := Ideal) c arg1 harg1 arg2 harg2 arg3 harg3 arg5 harg5 arg6 harg6 arg7 harg7 arg12 x0 x1 x2 x4 x5 x6) (kernelRun0_A.sl.r_191 (F := Ideal) c arg2 harg2 arg5 harg5 arg6 harg6 x1 x4 x5) : VB S64x256) x = coe2 (A := 256) (B := 3088) (fun i j => D.gPj (256 * T + i) j) ((Rect.unit (s := S256x3088) ![128, 1536] S64x256.size inb_S256x3088_S64x256_128_1536).emb x) :=
  piece2 (inb := inb_S256x3088_S64x256_128_1536) ((t.head2 harg1 harg2 harg3 harg5 harg6 harg7).chunk (c := 2) (o' := 192) t.hT slices_S256x128_o128_0_S64x128 slices_S256x256_o128_0_S64x256 rfl rfl (t.sp22 harg4) (dsA_22 c harg1 harg2 harg3 harg4 harg5 harg6 harg7 harg9 harg10 harg11 harg12 harg13 t hS)).rdv (fun i _ j hj => D.pv T 128 2 i j (by decide) hj rfl)

theorem p7A_k21 (t : Tile D T x0 x1 x2 x3 x4 x5 x6) (hS : Last T) : ∀ x, (k0_pay274 (F := Ideal) (kernelRun0_A.sl.r_161 (F := Ideal) c arg2 harg2 arg5 harg5 arg6 harg6 x1 x4 x5) (kernelRun0_A.sl.r_162 (F := Ideal) c arg2 harg2 arg5 harg5 arg6 harg6 x1 x4 x5) (kernelRun0_A.sl.r_164 (F := Ideal) c arg2 harg2 x1) (kernelRun0_A.sl.r_167 (F := Ideal) c arg2 harg2 arg5 harg5 arg6 harg6 x1 x4 x5) (kernelRun0_A.sl.r_171 (F := Ideal) c arg1 harg1 arg2 harg2 arg3 harg3 arg5 harg5 arg6 harg6 arg7 harg7 arg12 x0 x1 x2 x4 x5 x6) (kernelRun0_A.sl.r_175 (F := Ideal) c arg1 harg1 arg2 harg2 arg3 harg3 arg7 harg7 x0 x1 x2 x6) : VB S64x128) x = coe2 (A := 256) (B := 3088) (fun i j => D.gPj (256 * T + i) j) ((Rect.unit (s := S256x3088) ![128, 640] S64x128.size inb_S256x3088_S64x128_128_640).emb x) :=
  piece2 (inb := inb_S256x3088_S64x128_128_640) ((t.head1 harg1 harg2 harg3 harg5 harg6 harg7).chunk (c := 2) (o' := 192) t.hT slices_S256x128_o128_0_S64x128 slices_S256x256_o128_0_S64x256 rfl rfl (t.sp21 harg4) (dsA_21 c harg1 harg2 harg3 harg4 harg5 harg6 harg7 harg9 harg10 harg11 harg12 harg13 t hS)).rdk (fun i _ j hj => D.pk T 128 1 i j (by decide) hj rfl)

theorem p7A_q21 (t : Tile D T x0 x1 x2 x3 x4 x5 x6) (hS : Last T) : ∀ x, (k0_pay273 (F := Ideal) (kernelRun0_A.sl.r_159 (F := Ideal) c arg2 harg2 arg5 harg5 arg6 harg6 x1 x4 x5) (kernelRun0_A.sl.r_160 (F := Ideal) c arg2 harg2 arg5 harg5 arg6 harg6 x1 x4 x5) (kernelRun0_A.sl.r_173 (F := Ideal) c arg1 harg1 arg2 harg2 arg3 harg3 arg4 harg4 arg7 harg7 x0 x1 x2 x3 x6) (kernelRun0_A.sl.r_174 (F := Ideal) c arg1 harg1 arg2 harg2 arg3 harg3 arg5 harg5 arg6 harg6 arg7 harg7 x0 x1 x2 x4 x5 x6) : VB S64x128) x = coe2 (A := 256) (B := 3088) (fun i j => D.gPj (256 * T + i) j) ((Rect.unit (s := S256x3088) ![128, 128] S64x128.size inb_S256x3088_S64x128_128_128).emb x) :=
  piece2 (inb := inb_S256x3088_S64x128_128_128) ((t.head1 harg1 harg2 harg3 harg5 harg6 harg7).chunk (c := 2) (o' := 192) t.hT slices_S256x128_o128_0_S64x128 slices_S256x256_o128_0_S64x256 rfl rfl (t.sp21 harg4) (dsA_21 c harg1 harg2 harg3 harg4 harg5 harg6 harg7 harg9 harg10 harg11 harg12 harg13 t hS)).rdq (fun i _ j hj => D.pq T 128 1 i j (by decide) hj rfl)

theorem p7A_v21 (t : Tile D T x0 x1 x2 x3 x4 x5 x6) (hS : Last T) : ∀ x, (k0_pay272 (F := Ideal) (kernelRun0_A.sl.r_165 (F := Ideal) c arg1 harg1 arg2 harg2 arg3 harg3 arg7 harg7 x0 x1 x2 x6) (kernelRun0_A.sl.r_169 (F := Ideal) c arg2 harg2 arg5 harg5 arg6 harg6 x1 x4 x5) (kernelRun0_A.sl.r_171 (F := Ideal) c arg1 harg1 arg2 harg2 arg3 harg3 arg5 harg5 arg6 harg6 arg7 harg7 arg12 x0 x1 x2 x4 x5 x6) (kernelRun0_A.sl.r_172 (F := Ideal) c arg2 harg2 arg5 harg5 arg6 harg6 x1 x4 x5) : VB S64x256) x = coe2 (A := 256) (B := 3088) (fun i j => D.gPj (256 * T + i) j) ((Rect.unit (s := S256x3088) ![128, 1280] S64x256.size inb_S256x3088_S64x256_128_1280).emb x) :=
  piece2 (inb := inb_S256x3088_S64x256_128_1280) ((t.head1 harg1 harg2 harg3 harg5 harg6 harg7).chunk (c := 2) (o' := 192) t.hT slices_S256x128_o128_0_S64x128 slices_S256x256_o128_0_S64x256 rfl rfl (t.sp21 harg4) (dsA_21 c harg1 harg2 harg3 harg4 harg5 harg6 harg7 harg9 harg10 harg11 harg12 harg13 t hS)).rdv (fun i _ j hj => D.pv T 128 1 i j (by decide) hj rfl)

theorem p7A_k20 (t : Tile D T x0 x1 x2 x3 x4 x5 x6) (hS : Last T) : ∀ x, (k0_pay243 (F := Ideal) (kernelRun0_A.sl.r_142 (F := Ideal) c arg2 harg2 arg5 harg5 arg6 harg6 x1 x4 x5) (kernelRun0_A.sl.r_143 (F := Ideal) c arg2 harg2 arg5 harg5 arg6 harg6 x1 x4 x5) (kernelRun0_A.sl.r_155 (F := Ideal) c arg1 harg1 arg2 harg2 arg3 harg3 arg5 harg5 arg6 harg6 arg7 harg7 x0 x1 x2 x4 x5 x6) (kernelRun0_A.sl.r_156 (F := Ideal) c arg1 harg1 arg2 harg2 arg3 harg3 arg5 harg5 arg6 harg6 arg7 harg7 arg12 x0 x1 x2 x4 x5 x6) : VB S64x128) x = coe2 (A := 256) (B := 3088) (fun i j => D.gPj (256 * T + i) j) ((Rect.unit (s := S256x3088) ![128, 512] S64x128.size inb_S256x3088_S64x128_128_512).emb x) :=
  piece2 (inb := inb_S256x3088_S64x128_128_512) ((t.head0 harg1 harg2 harg3 harg5 harg6 harg7).chunk (c := 2) (o' := 192) t.hT slices_S256x128_o128_0_S64x128 slices_S256x256_o128_0_S64x256 rfl rfl (t.sp20 harg4) (dsA_20 c harg1 harg2 harg3 harg4 harg5 harg6 harg7 harg9 harg10 harg11 harg12 harg13 t hS)).rdk (fun i _ j hj => D.pk T 128 0 i j (by decide) hj rfl)

theorem p7A_q20 (t : Tile D T x0 x1 x2 x3 x4 x5 x6) (hS : Last T) : ∀ x, (k0_pay242 (F := Ideal) (kernelRun0_A.sl.r_140 (F := Ideal) c arg2 harg2 arg5 harg5 arg6 harg6 x1 x4 x5) (kernelRun0_A.sl.r_141 (F := Ideal) c arg2 harg2 arg5 harg5 arg6 harg6 x1 x4 x5) (kernelRun0_A.sl.r_153 (F := Ideal) c arg1 harg1 arg2 harg2 arg3 harg3 arg4 harg4 arg7 harg7 x0 x1 x2 x3 x6) (kernelRun0_A.sl.r_154 (F := Ideal) c arg1 harg1 arg2 harg2 arg3 harg3 arg5 harg5 arg6 harg6 arg7 harg7 x0 x1 x2 x4 x5 x6) : VB S64x128) x = coe2 (A := 256) (B := 3088) (fun i j => D.gPj (256 * T + i) j) ((Rect.unit (s := S256x3088) ![128, 0] S64x128.size inb_S256x3088_S64x128_128_0).emb x) :=
  piece2 (inb := inb_S256x3088_S64x128_128_0) ((t.head0 harg1 harg2 harg3 harg5 harg6 harg7).chunk (c := 2) (o' := 192) t.hT slices_S256x128_o128_0_S64x128 slices_S256x256_o128_0_S64x256 rfl rfl (t.sp20 harg4) (dsA_20 c harg1 harg2 harg3 harg4 harg5 harg6 harg7 harg9 harg10 harg11 harg12 harg13 t hS)).rdq (fun i _ j hj => D.pq T 128 0 i j (by decide) hj rfl)

theorem p7A_v20 (t : Tile D T x0 x1 x2 x3 x4 x5 x6) (hS : Last T) : ∀ x, (kernelRun0_A.sl.r_157 (F := Ideal) c arg1 harg1 arg2 harg2 arg3 harg3 arg5 harg5 arg6 harg6 arg7 harg7 arg12 x0 x1 x2 x4 x5 x6 : VB S64x256) x = coe2 (A := 256) (B := 3088) (fun i j => D.gPj (256 * T + i) j) ((Rect.unit (s := S256x3088) ![128, 1024] S64x256.size inb_S256x3088_S64x256_128_1024).emb x) :=
  piece2 (inb := inb_S256x3088_S64x256_128_1024) ((t.head0 harg1 harg2 harg3 harg5 harg6 harg7).chunk (c := 2) (o' := 192) t.hT slices_S256x128_o128_0_S64x128 slices_S256x256_o128_0_S64x256 rfl rfl (t.sp20 harg4) (dsA_20 c harg1 harg2 harg3 harg4 harg5 harg6 harg7 harg9 harg10 harg11 harg12 harg13 t hS)).rdv (fun i _ j hj => D.pv T 128 0 i j (by decide) hj rfl)

theorem p7A_k33 (t : Tile D T x0 x1 x2 x3 x4 x5 x6) (hS : Last T) : ∀ x, (kernelRun0_A.sl.r_139 (F := Ideal) c arg1 harg1 arg2 harg2 arg3 harg3 arg5 harg5 arg6 harg6 arg7 harg7 arg12 x0 x1 x2 x4 x5 x6 : VB S64x128) x = coe2 (A := 256) (B := 3088) (fun i j => D.gPj (256 * T + i) j) ((Rect.unit (s := S256x3088) ![192, 896] S64x128.size inb_S256x3088_S64x128_192_896).emb x) :=
  piece2 (inb := inb_S256x3088_S64x128_192_896) ((t.head3 harg1 harg2 harg3 harg5 harg6 harg7).chunk (c := 3) (o' := 256) t.hT slices_S256x128_o192_0_S64x128 slices_S256x256_o192_0_S64x256 rfl rfl (t.sp33 harg4) (dsA_33 c harg1 harg2 harg3 harg4 harg5 harg6 harg7 harg9 harg10 harg11 harg12 harg13 t hS)).rdk (fun i _ j hj => D.pk T 192 3 i j (by decide) hj rfl)

theorem p7A_q33 (t : Tile D T x0 x1 x2 x3 x4 x5 x6) (hS : Last T) : ∀ x, (k0_pay214 (F := Ideal) k0_pay93 (kernelRun0_A.sl.r_121 (F := Ideal) c arg2 harg2 arg5 harg5 arg6 harg6 x1 x4 x5) (kernelRun0_A.sl.r_122 (F := Ideal) c arg2 harg2 arg5 harg5 arg6 harg6 x1 x4 x5) (kernelRun0_A.sl.r_126 (F := Ideal) c arg2 harg2 x1) (kernelRun0_A.sl.r_127 (F := Ideal) c arg1 harg1 arg2 harg2 arg3 harg3 arg7 harg7 x0 x1 x2 x6) (kernelRun0_A.sl.r_130 (F := Ideal) c arg2 harg2 arg5 harg5 arg6 harg6 x1 x4 x5) (kernelRun0_A.sl.r_132 (F := Ideal) c arg4 harg4 x3) : VB S64x128) x = coe2 (A := 256) (B := 3088) (fun i j => D.gPj (256 * T + i) j) ((Rect.unit (s := S256x3088) ![192, 384] S64x128.size inb_S256x3088_S64x128_192_384).emb x) :=
  piece2 (inb := inb_S256x3088_S64x128_192_384) ((t.head3 harg1 harg2 harg3 harg5 harg6 harg7).chunk (c := 3) (o' := 256) t.hT slices_S256x128_o192_0_S64x128 slices_S256x256_o192_0_S64x256 rfl rfl (t.sp33 harg4) (dsA_33 c harg1 harg2 harg3 harg4 harg5 harg6 harg7 harg9 harg10 harg11 harg12 harg13 t hS)).rdq (fun i _ j hj => D.pq T 192 3 i j (by decide) hj rfl)

theorem p7A_v33 (t : Tile D T x0 x1 x2 x3 x4 x5 x6) (hS : Last T) : ∀ x, (k0_pay213 (F := Ideal) k0_pay93 (kernelRun0_A.sl.r_127 (F := Ideal) c arg1 harg1 arg2 harg2 arg3 harg3 arg7 harg7 x0 x1 x2 x6) (kernelRun0_A.sl.r_130 (F := Ideal) c arg2 harg2 arg5 harg5 arg6 harg6 x1 x4 x5) (kernelRun0_A.sl.r_131 (F := Ideal) c arg2 harg2 arg5 harg5 arg6 harg6 x1 x4 x5) (kernelRun0_A.sl.r_133 (F := Ideal) c arg1 harg1 arg2 harg2 arg3 harg3 arg5 harg5 arg6 harg6 arg7 harg7 arg12 x0 x1 x2 x4 x5 x6) (kernelRun0_A.sl.r_134 (F := Ideal) c arg2 harg2 arg5 harg5 arg6 harg6 x1 x4 x5) : VB S64x256) x = coe2 (A := 256) (B := 3088) (fun i j => D.gPj (256 * T + i) j) ((Rect.unit (s := S256x3088) ![192, 1792] S64x256.size inb_S256x3088_S64x256_192_1792).emb x) :=
  piece2 (inb := inb_S256x3088_S64x256_192_1792) ((t.head3 harg1 harg2 harg3 harg5 harg6 harg7).chunk (c := 3) (o' := 256) t.hT slices_S256x128_o192_0_S64x128 slices_S256x256_o192_0_S64x256 rfl rfl (t.sp33 harg4) (dsA_33 c harg1 harg2 harg3 harg4 harg5 harg6 harg7 harg9 harg10 harg11 harg12 harg13 t hS)).rdv (fun i _ j hj => D.pv T 192 3 i j (by decide) hj rfl)

theorem p7A_k32 (t : Tile D T x0 x1 x2 x3 x4 x5 x6) (hS : Last T) : ∀ x, (k0_pay183 (F := Ideal) (kernelRun0_A.sl.r_103 (F := Ideal) c arg2 harg2 arg5 harg5 arg6 harg6 x1 x4 x5) (kernelRun0_A.sl.r_104 (F := Ideal) c arg2 harg2 arg5 harg5 arg6 harg6 x1 x4 x5) (kernelRun0_A.sl.r_106 (F := Ideal) c arg2 harg2 x1) (kernelRun0_A.sl.r_109 (F := Ideal) c arg2 harg2 arg5 harg5 arg6 harg6 x1 x4 x5) (kernelRun0_A.sl.r_113 (F := Ideal) c arg1 harg1 arg2 harg2 arg3 harg3 arg5 harg5 arg6 harg6 arg7 harg7 arg12 x0 x1 x2 x4 x5 x6) (kernelRun0_A.sl.r_115 (F := Ideal) c arg1 harg1 arg2 harg2 arg3 harg3 arg7 harg7 x0 x1 x2 x6) : VB S64x128) x = coe2 (A := 256) (B := 3088) (fun i j => D.gPj (256 * T + i) j) ((Rect.unit (s := S256x3088) ![192, 768] S64x128.size inb_S256x3088_S64x128_192_768).emb x) :=
  piece2 (inb := inb_S256x3088_S64x128_192_768) ((t.head2 harg1 harg2 harg3 harg5 harg6 harg7).chunk (c := 3) (o' := 256) t.hT slices_S256x128_o192_0_S64x128 slices_S256x256_o192_0_S64x256 rfl rfl (t.sp32 harg4) (dsA_32 c harg1 harg2 harg3 harg4 harg5 harg6 harg7 harg9 harg10 harg11 harg12 harg13 t hS)).rdk (fun i _ j hj => D.pk T 192 2 i j (by decide) hj rfl)

theorem p7A_q32 (t : Tile D T x0 x1 x2 x3 x4 x5 x6) (hS : Last T) : ∀ x, (k0_pay182 (F := Ideal) (kernelRun0_A.sl.r_101 (F := Ideal) c arg2 harg2 arg5 harg5 arg6 harg6 x1 x4 x5) (kernelRun0_A.sl.r_102 (F := Ideal) c arg2 harg2 arg5 harg5 arg6 harg6 x1 x4 x5) (kernelRun0_A.sl.r_116 (F := Ideal) c arg1 harg1 arg2 harg2 arg3 harg3 arg4 harg4 arg7 harg7 x0 x1 x2 x3 x6) (kernelRun0_A.sl.r_117 (F := Ideal) c arg1 harg1 arg2 harg2 arg3 harg3 arg7 harg7 x0 x1 x2 x6) (kernelRun0_A.sl.r_118 (F := Ideal) c arg2 harg2 arg5 harg5 arg6 harg6 x1 x4 x5) : VB S64x128) x = coe2 (A := 256) (B := 3088) (fun i j => D.gPj (256 * T + i) j) ((Rect.unit (s := S256x3088) ![192, 256] S64x128.size inb_S256x3088_S64x128_192_256).emb x) :=
  piece2 (inb := inb_S256x3088_S64x128_192_256) ((t.head2 harg1 harg2 harg3 harg5 harg6 harg7).chunk (c := 3) (o' := 256) t.hT slices_S256x128_o192_0_S64x128 slices_S256x256_o192_0_S64x256 rfl rfl (t.sp32 harg4) (dsA_32 c harg1 harg2 harg3 harg4 harg5 harg6 harg7 harg9 harg10 harg11 harg12 harg13 t hS)).rdq (fun i _ j hj => D.pq T 192 2 i j (by decide) hj rfl)

theorem p7A_v32 (t : Tile D T x0 x1 x2 x3 x4 x5 x6) (hS : Last T) : ∀ x, (k0_pay181 (F := Ideal) (kernelRun0_A.sl.r_107 (F := Ideal) c arg1 harg1 arg2 harg2 arg3 harg3 arg7 harg7 x0 x1 x2 x6) (kernelRun0_A.sl.r_111 (F := Ideal) c arg2 harg2 arg5 harg5 arg6 harg6 x1 x4 x5) (kernelRun0_A.sl.r_113 (F := Ideal) c arg1 harg1 arg2 harg2 arg3 harg3 arg5 harg5 arg6 harg6 arg7 harg7 arg12 x0 x1 x2 x4 x5 x6) (kernelRun0_A.sl.r_114 (F := Ideal) c arg2 harg2 arg5 harg5 arg6 harg6 x1 x4 x5) : VB S64x256) x = coe2 (A := 256) (B := 3088) (fun i j => D.gPj (256 * T + i) j) ((Rect.unit (s := S256x3088) ![192, 1536] S64x256.size inb_S256x3088_S64x256_192_1536).emb x) :=
  piece2 (inb := inb_S256x3088_S64x256_192_1536) ((t.head2 harg1 harg2 harg3 harg5 harg6 harg7).chunk (c := 3) (o' := 256) t.hT slices_S256x128_o192_0_S64x128 slices_S256x256_o192_0_S64x256 rfl rfl (t.sp32 harg4) (dsA_32 c harg1 harg2 harg3 harg4 harg5 harg6 harg7 harg9 harg10 harg11 harg12 harg13 t hS)).rdv (fun i _ j hj => D.pv T 192 2 i j (by decide) hj rfl)

theorem p7A_k31 (t : Tile D T x0 x1 x2 x3 x4 x5 x6) (hS : Last T) : ∀ x, (k0_pay151 (F := Ideal) (kernelRun0_A.sl.r_84 (F := Ideal) c arg2 harg2 arg5 harg5 arg6 harg6 x1 x4 x5) (kernelRun0_A.sl.r_86 (F := Ideal) c arg2 harg2 arg5 harg5 arg6 harg6 x1 x4 x5) (kernelRun0_A.sl.r_97 (F := Ideal) c arg1 harg1 arg2 harg2 arg3 harg3 arg5 harg5 arg6 harg6 arg7 harg7 x0 x1 x2 x4 x5 x6) (kernelRun0_A.sl.r_98 (F := Ideal) c arg1 harg1 arg2 harg2 arg3 harg3 arg5 harg5 arg6 harg6 arg7 harg7 arg12 x0 x1 x2 x4 x5 x6) : VB S64x128) x = coe2 (A := 256) (B := 3088) (fun i j => D.gPj (256 * T + i) j) ((Rect.unit (s := S256x3088) ![192, 640] S64x128.size inb_S256x3088_S64x128_192_640).emb x) :=
  piece2 (inb := inb_S256x3088_S64x128_192_640) ((t.head1 harg1 harg2 harg3 harg5 harg6 harg7).chunk (c := 3) (o' := 256) t.hT slices_S256x128_o192_0_S64x128 slices_S256x256_o192_0_S64x256 rfl rfl (t.sp31 harg4) (dsA_31 c harg1 harg2 harg3 harg4 harg5 harg6 harg7 harg9 harg10 harg11 harg12 harg13 t hS)).rdk (fun i _ j hj => D.pk T 192 1 i j (by decide) hj rfl)

theorem p7A_q31 (t : Tile D T x0 x1 x2 x3 x4 x5 x6) (hS : Last T) : ∀ x, (k0_pay150 (F := Ideal) (kernelRun0_A.sl.r_82 (F := Ideal) c arg2 harg2 arg5 harg5 arg6 harg6 x1 x4 x5) (kernelRun0_A.sl.r_83 (F := Ideal) c arg2 harg2 arg5 harg5 arg6 harg6 x1 x4 x5) (kernelRun0_A.sl.r_95 (F := Ideal) c arg1 harg1 arg2 harg2 arg3 harg3 arg4 harg4 arg7 harg7 x0 x1 x2 x3 x6) (kernelRun0_A.sl.r_96 (F := Ideal) c arg1 harg1 arg2 harg2 arg3 harg3 arg5 harg5 arg6 harg6 arg7 harg7 x0 x1 x2 x4 x5 x6) : VB S64x128) x = coe2 (A := 256) (B := 3088) (fun i j => D.gPj (256 * T + i) j) ((Rect.unit (s := S256x3088) ![192, 128] S64x128.size inb_S256x3088_S64x128_192_128).emb x) :=
  piece2 (inb := inb_S256x3088_S64x128_192_128) ((t.head1 harg1 harg2 harg3 harg5 harg6 harg7).chunk (c := 3) (o' := 256) t.hT slices_S256x128_o192_0_S64x128 slices_S256x256_o192_0_S64x256 rfl rfl (t.sp31 harg4) (dsA_31 c harg1 harg2 harg3 harg4 harg5 harg6 harg7 harg9 harg10 harg11 harg12 harg13 t hS)).rdq (fun i _ j hj => D.pq T 192 1 i j (by decide) hj rfl)

theorem p7A_v31 (t : Tile D T x0 x1 x2 x3 x4 x5 x6) (hS : Last T) : ∀ x, (k0_pay149 (F := Ideal) (kernelRun0_A.sl.r_99 (F := Ideal) c arg1 harg1 arg2 harg2 arg3 harg3 arg5 harg5 arg6 harg6 arg7 harg7 arg12 x0 x1 x2 x4 x5 x6) : VB S64x256) x = coe2 (A := 256) (B := 3088) (fun i j => D.gPj (256 * T + i) j) ((Rect.unit (s := S256x3088) ![192, 1280] S64x256.size inb_S256x3088_S64x256_192_1280).emb x) :=
  piece2 (inb := inb_S256x3088_S64x256_192_1280) ((t.head1 harg1 harg2 harg3 harg5 harg6 harg7).chunk (c := 3) (o' := 256) t.hT slices_S256x128_o192_0_S64x128 slices_S256x256_o192_0_S64x256 rfl rfl (t.sp31 harg4) (dsA_31 c harg1 harg2 harg3 harg4 harg5 harg6 harg7 harg9 harg10 harg11 harg12 harg13 t hS)).rdv (fun i _ j hj => D.pv T 192 1 i j (by decide) hj rfl)

theorem p7A_k30 (t : Tile D T x0 x1 x2 x3 x4 x5 x6) (hS : Last T) : ∀ x, (k0_pay121 (F := Ideal) (kernelRun0_A.sl.r_80 (F := Ideal) c arg1 harg1 arg2 harg2 arg3 harg3 arg5 harg5 arg6 harg6 arg7 harg7 arg12 x0 x1 x2 x4 x5 x6) : VB S64x128) x = coe2 (A := 256) (B := 3088) (fun i j => D.gPj (256 * T + i) j) ((Rect.unit (s := S256x3088) ![192, 512] S64x128.size inb_S256x3088_S64x128_192_512).emb x) :=
  piece2 (inb := inb_S256x3088_S64x128_192_512) ((t.head0 harg1 harg2 harg3 harg5 harg6 harg7).chunk (c := 3) (o' := 256) t.hT slices_S256x128_o192_0_S64x128 slices_S256x256_o192_0_S64x256 rfl rfl (t.sp30 harg4) (dsA_30 c harg1 harg2 harg3 harg4 harg5 harg6 harg7 harg9 harg10 harg11 harg12 harg13 t hS)).rdk (fun i _ j hj => D.pk T 192 0 i j (by decide) hj rfl)

theorem p7A_q30 (t : Tile D T x0 x1 x2 x3 x4 x5 x6) (hS : Last T) : ∀ x, (k0_pay119 (F := Ideal) k0_pay93 (kernelRun0_A.sl.r_63 (F := Ideal) c arg2 harg2 arg5 harg5 arg6 harg6 x1 x4 x5) (kernelRun0_A.sl.r_64 (F := Ideal) c arg2 harg2 arg5 harg5 arg6 harg6 x1 x4 x5) (kernelRun0_A.sl.r_68 (F := Ideal) c arg2 harg2 x1) (kernelRun0_A.sl.r_69 (F := Ideal) c arg1 harg1 arg2 harg2 arg3 harg3 arg7 harg7 x0 x1 x2 x6) (kernelRun0_A.sl.r_72 (F := Ideal) c arg2 harg2 arg5 harg5 arg6 harg6 x1 x4 x5) (kernelRun0_A.sl.r_74 (F := Ideal) c arg4 harg4 x3) : VB S64x128) x = coe2 (A := 256) (B := 3088) (fun i j => D.gPj (256 * T + i) j) ((Rect.unit (s := S256x3088) ![192, 0] S64x128.size inb_S256x3088_S64x128_192_0).emb x) :=
  piece2 (inb := inb_S256x3088_S64x128_192_0) ((t.head0 harg1 harg2 harg3 harg5 harg6 harg7).chunk (c := 3) (o' := 256) t.hT slices_S256x128_o192_0_S64x128 slices_S256x256_o192_0_S64x256 rfl rfl (t.sp30 harg4) (dsA_30 c harg1 harg2 harg3 harg4 harg5 harg6 harg7 harg9 harg10 harg11 harg12 harg13 t hS)).rdq (fun i _ j hj => D.pq T 192 0 i j (by decide) hj rfl)

theorem p7A_v30 (t : Tile D T x0 x1 x2 x3 x4 x5 x6) (hS : Last T) : ∀ x, (k0_pay118 (F := Ideal) k0_pay93 (kernelRun0_A.sl.r_69 (F := Ideal) c arg1 harg1 arg2 harg2 arg3 harg3 arg7 harg7 x0 x1 x2 x6) (kernelRun0_A.sl.r_71 (F := Ideal) c arg2 harg2 arg5 harg5 arg6 harg6 x1 x4 x5) (kernelRun0_A.sl.r_72 (F := Ideal) c arg2 harg2 arg5 harg5 arg6 harg6 x1 x4 x5) (kernelRun0_A.sl.r_73 (F := Ideal) c arg2 harg2 arg5 harg5 arg6 harg6 x1 x4 x5) (kernelRun0_A.sl.v674 (F := Ideal) c arg12) : VB S64x256) x = coe2 (A := 256) (B := 3088) (fun i j => D.gPj (256 * T + i) j) ((Rect.unit (s := S256x3088) ![192, 1024] S64x256.size inb_S256x3088_S64x256_192_1024).emb x) :=
  piece2 (inb := inb_S256x3088_S64x256_192_1024) ((t.head0 harg1 harg2 harg3 harg5 harg6 harg7).chunk (c := 3) (o' := 256) t.hT slices_S256x128_o192_0_S64x128 slices_S256x256_o192_0_S64x256 rfl rfl (t.sp30 harg4) (dsA_30 c harg1 harg2 harg3 harg4 harg5 harg6 harg7 harg9 harg10 harg11 harg12 harg13 t hS)).rdv (fun i _ j hj => D.pv T 192 0 i j (by decide) hj rfl)

theorem p7A_r03 (t : Tile D T x0 x1 x2 x3 x4 x5 x6) (hS : Last T) : ∀ x, (k0_pay87 (F := Ideal) (kernelRun0_A.sl.r_49 (F := Ideal) c arg2 harg2 x1) (View.readAt (Elt Ideal) arg3.view (Rect.unit (s := S256x1024) ![0, 768] S256x256.size inb_S256x1024_S256x256_0_768).toLoadRect (harg3.unread x2)) (View.readAt (Elt Ideal) arg1.view (Rect.unit (s := S256x1024) ![0, 768] S256x256.size inb_S256x1024_S256x256_0_768).toLoadRect (harg1.unread x0)) (View.readAt (Elt Ideal) arg7.view (Rect.unit (s := S1x256) ![0, 0] S1x256.size inb_S1x256_S1x256_0_0).toLoadRect (harg7.unread x6)) : VB S256x256) x = coe2 (A := 256) (B := 3088) (fun i j => D.gPj (256 * T + i) j) ((Rect.unit (s := S256x3088) ![0, 2816] S256x256.size inb_S256x3088_S256x256_0_2816).emb x) :=
  piece2 (inb := inb_S256x3088_S256x256_0_2816) (dr3A c harg1 harg2 harg3 harg4 harg5 harg6 harg7 harg9 harg10 harg11 harg12 harg13 t hS) (fun i _ j hj => D.pr T 3 i j (by decide) hj rfl)

theorem p7A_r02 (t : Tile D T x0 x1 x2 x3 x4 x5 x6) (hS : Last T) : ∀ x, (kernelRun0_A.sl.r_44 (F := Ideal) c arg1 harg1 arg2 harg2 arg3 harg3 arg7 harg7 x0 x1 x2 x6 : VB S256x256) x = coe2 (A := 256) (B := 3088) (fun i j => D.gPj (256 * T + i) j) ((Rect.unit (s := S256x3088) ![0, 2560] S256x256.size inb_S256x3088_S256x256_0_2560).emb x) :=
  piece2 (inb := inb_S256x3088_S256x256_0_2560) (dr2A c harg1 harg2 harg3 harg4 harg5 harg6 harg7 harg9 harg10 harg11 harg12 harg13 t hS) (fun i _ j hj => D.pr T 2 i j (by decide) hj rfl)

theorem p7A_r01 (t : Tile D T x0 x1 x2 x3 x4 x5 x6) (hS : Last T) : ∀ x, (k0_pay45 (F := Ideal) (kernelRun0_A.sl.r_26 (F := Ideal) c arg3 harg3 x2) (kernelRun0_A.sl.r_27 (F := Ideal) c arg2 harg2 x1) (kernelRun0_A.sl.r_28 (F := Ideal) c arg2 harg2 x1) (kernelRun0_A.sl.r_29 (F := Ideal) c arg1 harg1 x0) (View.readAt (Elt Ideal) arg7.view (Rect.unit (s := S1x256) ![0, 0] S1x256.size inb_S1x256_S1x256_0_0).toLoadRect (harg7.unread x6)) : VB S256x256) x = coe2 (A := 256) (B := 3088) (fun i j => D.gPj (256 * T + i) j) ((Rect.unit (s := S256x3088) ![0, 2304] S256x256.size inb_S256x3088_S256x256_0_2304).emb x) :=
  piece2 (inb := inb_S256x3088_S256x256_0_2304) (dr1A c harg1 harg2 harg3 harg4 harg5 harg6 harg7 harg9 harg10 harg11 harg12 harg13 t hS) (fun i _ j hj => D.pr T 1 i j (by decide) hj rfl)

theorem p7A_r00 (t : Tile D T x0 x1 x2 x3 x4 x5 x6) (hS : Last T) : ∀ x, (k0_pay29 (F := Ideal) (kernelRun0_A.sl.r_4 (F := Ideal) c arg2 harg2 x1) (kernelRun0_A.sl.r_15 (F := Ideal) c arg3 harg3 x2) (kernelRun0_A.sl.r_16 (F := Ideal) c arg2 harg2 x1) (View.readAt (Elt Ideal) arg1.view (Rect.unit (s := S256x1024) ![0, 0] S256x256.size inb_S256x1024_S256x256_0_0).toLoadRect (harg1.unread x0)) (View.readAt (Elt Ideal) arg7.view (Rect.unit (s := S1x256) ![0, 0] S1x256.size inb_S1x256_S1x256_0_0).toLoadRect (harg7.unread x6)) : VB S256x256) x = coe2 (A := 256) (B := 3088) (fun i j => D.gPj (256 * T + i) j) ((Rect.unit (s := S256x3088) ![0, 2048] S256x256.size inb_S256x3088_S256x256_0_2048).emb x) :=
  piece2 (inb := inb_S256x3088_S256x256_0_2048) (dr0A c harg1 harg2 harg3 harg4 harg5 harg6 harg7 harg9 harg10 harg11 harg12 harg13 t hS) (fun i _ j hj => D.pr T 0 i j (by decide) hj rfl)

variable (i : grid0.Coords) {arg8 : Memref Cert.KernelIdeal.sig .tc .vmem S256x3088 .bf16} (harg8 : arg8.IsWhole) (hc0 : cond0_0 i)

theorem dwalA (t : Tile D T x0 x1 x2 x3 x4 x5 x6) (hS : Last T) : View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6).2.1 = coe2 (fun i j => D.gWal (256 * T) i j) :=
  canon_take 4 _ _ (
  ⟨piece2 (inb := inb_S16x512_S16x128_0_384) (R2.dwal (wal3A c harg1 harg2 harg3 harg4 harg5 harg6 harg7 harg9 harg10 harg11 harg12 harg13 t hS) (t.z harg2) (dl3A c harg1 harg2 harg3 harg4 harg5 harg6 harg7 harg9 harg10 harg11 harg12 harg13 t hS)) (fun i _ j hj => by rw [Nat.zero_add]; exact D.gWal_step T t.hT 3 rfl i j hj),
  piece2 (inb := inb_S16x512_S16x128_0_256) (R2.dwal (wal2A c harg1 harg2 harg3 harg4 harg5 harg6 harg7 harg9 harg10 harg11 harg12 harg13 t hS) (t.z harg2) (dl2A c harg1 harg2 harg3 harg4 harg5 harg6 harg7 harg9 harg10 harg11 harg12 harg13 t hS)) (fun i _ j hj => by rw [Nat.zero_add]; exact D.gWal_step T t.hT 2 rfl i j hj),
  piece2 (inb := inb_S16x512_S16x128_0_128) (R2.dwal (wal1A c harg1 harg2 harg3 harg4 harg5 harg6 harg7 harg9 harg10 harg11 harg12 harg13 t hS) (t.z harg2) (dl1A c harg1 harg2 harg3 harg4 harg5 harg6 harg7 harg9 harg10 harg11 harg12 harg13 t hS)) (fun i _ j hj => by rw [Nat.zero_add]; exact D.gWal_step T t.hT 1 rfl i j hj),
  piece2 (inb := inb_S16x512_S16x128_0_0) (R2.dwal (wal0A c harg1 harg2 harg3 harg4 harg5 harg6 harg7 harg9 harg10 harg11 harg12 harg13 t hS) (t.z harg2) (dl0A c harg1 harg2 harg3 harg4 harg5 harg6 harg7 harg9 harg10 harg11 harg12 harg13 t hS)) (fun i _ j hj => by rw [Nat.zero_add]; exact D.gWal_step T t.hT 0 rfl i j hj),
  trivial⟩) (View.cover_of_tiledL _ S16x128.size (by sl_kernel_rfl))

theorem dbalA (t : Tile D T x0 x1 x2 x3 x4 x5 x6) (hS : Last T) : View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6).2.2.1 = coe2 (fun _ j => D.gBal (256 * T) j) :=
  canon_take 4 _ _ (
  ⟨piece2 (inb := inb_S1x512_S1x128_0_384) (R2.dbal (bal3A c harg1 harg2 harg3 harg4 harg5 harg6 harg7 harg9 harg10 harg11 harg12 harg13 t hS) (dl3A c harg1 harg2 harg3 harg4 harg5 harg6 harg7 harg9 harg10 harg11 harg12 harg13 t hS)) (fun i _ j hj => D.gBal_step T t.hT 3 rfl j hj),
  piece2 (inb := inb_S1x512_S1x128_0_256) (R2.dbal (bal2A c harg1 harg2 harg3 harg4 harg5 harg6 harg7 harg9 harg10 harg11 harg12 harg13 t hS) (dl2A c harg1 harg2 harg3 harg4 harg5 harg6 harg7 harg9 harg10 harg11 harg12 harg13 t hS)) (fun i _ j hj => D.gBal_step T t.hT 2 rfl j hj),
  piece2 (inb := inb_S1x512_S1x128_0_128) (R2.dbal (bal1A c harg1 harg2 harg3 harg4 harg5 harg6 harg7 harg9 harg10 harg11 harg12 harg13 t hS) (dl1A c harg1 harg2 harg3 harg4 harg5 harg6 harg7 harg9 harg10 harg11 harg12 harg13 t hS)) (fun i _ j hj => D.gBal_step T t.hT 1 rfl j hj),
  piece2 (inb := inb_S1x512_S1x128_0_0) (R2.dbal (bal0A c harg1 harg2 harg3 harg4 harg5 harg6 harg7 harg9 harg10 harg11 harg12 harg13 t hS) (dl0A c harg1 harg2 harg3 harg4 harg5 harg6 harg7 harg9 harg10 harg11 harg12 harg13 t hS)) (fun i _ j hj => D.gBal_step T t.hT 0 rfl j hj),
  trivial⟩) (View.cover_of_tiledL _ S1x128.size (by sl_kernel_rfl))

theorem dngA (t : Tile D T x0 x1 x2 x3 x4 x5 x6) (hS : Last T) : View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6).2.2.2.1 = coe2 (fun _ j => D.gNg (256 * T) j) :=
  canon_take 1 _ _ (
  ⟨piece2 (inb := inb_S1x256_S1x256_0_0) (R2.dng (ng3A c harg1 harg2 harg3 harg4 harg5 harg6 harg7 harg9 harg10 harg11 harg12 harg13 t hS) (t.a3 harg1) (t.o3 harg3) (t.r3 harg2)) (fun i _ j hj => by rw [Nat.zero_add]; exact D.gNg_step T t.hT j),
  trivial⟩) (View.cover_of_tiledL _ S1x256.size (by sl_kernel_rfl))

theorem dsA (t : Tile D T x0 x1 x2 x3 x4 x5 x6) (hS : Last T) : View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6).2.2.2.2.1 = coe3 (fun h e x => dst (D.q h) (D.d h) (D.a h) (256 * T) e x) :=
  canon_take 4 _ _ (
  ⟨piece3 (inb := inb_S4x256x128_S1x256x128_3_0_0) ((t.head3 harg1 harg2 harg3 harg5 harg6 harg7).chunk (c := 0) (o' := 64) t.hT slices_S256x128_o0_0_S64x128 slices_S256x256_o0_0_S64x256 rfl rfl (t.sp03 harg4) (dsA_03 c harg1 harg2 harg3 harg4 harg5 harg6 harg7 harg9 harg10 harg11 harg12 harg13 t hS)).dsN (fun j _ k _ => by simp only [Nat.zero_add, Nat.add_zero]),
  piece3 (inb := inb_S4x256x128_S1x256x128_2_0_0) ((t.head2 harg1 harg2 harg3 harg5 harg6 harg7).chunk (c := 0) (o' := 64) t.hT slices_S256x128_o0_0_S64x128 slices_S256x256_o0_0_S64x256 rfl rfl (t.sp02 harg4) (dsA_02 c harg1 harg2 harg3 harg4 harg5 harg6 harg7 harg9 harg10 harg11 harg12 harg13 t hS)).dsN (fun j _ k _ => by simp only [Nat.zero_add, Nat.add_zero]),
  piece3 (inb := inb_S4x256x128_S1x256x128_1_0_0) ((t.head1 harg1 harg2 harg3 harg5 harg6 harg7).chunk (c := 0) (o' := 64) t.hT slices_S256x128_o0_0_S64x128 slices_S256x256_o0_0_S64x256 rfl rfl (t.sp01 harg4) (dsA_01 c harg1 harg2 harg3 harg4 harg5 harg6 harg7 harg9 harg10 harg11 harg12 harg13 t hS)).dsN (fun j _ k _ => by simp only [Nat.zero_add, Nat.add_zero]),
  piece3 (inb := inb_S4x256x128_S1x256x128_0_0_0) ((t.head0 harg1 harg2 harg3 harg5 harg6 harg7).chunk (c := 0) (o' := 64) t.hT slices_S256x128_o0_0_S64x128 slices_S256x256_o0_0_S64x256 rfl rfl (t.sp00 harg4) (dsA_00 c harg1 harg2 harg3 harg4 harg5 harg6 harg7 harg9 harg10 harg11 harg12 harg13 t hS)).dsN (fun j _ k _ => by simp only [Nat.zero_add, Nat.add_zero]),
  trivial⟩) (View.cover_of_tiledL _ S1x256x128.size (by sl_kernel_rfl))

end Cert.Gla

end
-- ==== Proof.PjA.lean ====
/- What a first tile leaves of the projections' gradient. -/
module

public import proofs.«01_k».proof.Proof.RunA

@[expose] public section

set_option maxRecDepth 16384

noncomputable section

namespace Cert.Gla

open Idealize.ShloMosaic Idealize.ShloMosaic.TcCoe Idealize.SL.Sem
open Cert.KernelIdeal Cert.KernelIdeal.Gen
open Finset (range Ico)

variable (c : Dev nD) {arg1 : Memref Cert.KernelIdeal.sig .tc .vmem S256x1024 .f32} (harg1 : arg1.IsWhole) {arg2 : Memref Cert.KernelIdeal.sig .tc .vmem S256x3088 .f32} (harg2 : arg2.IsWhole)
  {arg3 : Memref Cert.KernelIdeal.sig .tc .vmem S256x1024 .f32} (harg3 : arg3.IsWhole) {arg4 : Memref Cert.KernelIdeal.sig .tc .vmem S4x4x256x128 .f32} (harg4 : arg4.IsWhole)
  {arg5 : Memref Cert.KernelIdeal.sig .tc .vmem S16x512 .f32} (harg5 : arg5.IsWhole) {arg6 : Memref Cert.KernelIdeal.sig .tc .vmem S1x512 .f32} (harg6 : arg6.IsWhole)
  {arg7 : Memref Cert.KernelIdeal.sig .tc .vmem S1x256 .f32} (harg7 : arg7.IsWhole) {arg9 : Memref Cert.KernelIdeal.sig .tc .vmem S16x512 .f32} (harg9 : arg9.IsWhole)
  {arg10 : Memref Cert.KernelIdeal.sig .tc .vmem S1x512 .f32} (harg10 : arg10.IsWhole) {arg11 : Memref Cert.KernelIdeal.sig .tc .vmem S1x256 .f32} (harg11 : arg11.IsWhole)
  {arg12 : Memref Cert.KernelIdeal.sig .tc .vmem S4x256x128 .f32} (harg12 : arg12.IsWhole) {arg13 : Memref Cert.KernelIdeal.sig .tc .vmem S4x256x128 .f32} (harg13 : arg13.IsWhole)
variable {x0 : V S256x1024} {x1 : V S256x3088} {x2 : V S256x1024} {x3 : V S4x4x256x128} {x4 : V S16x512} {x5 : V S1x512} {x6 : V S1x256}
  {xo8 : V S16x512} {xo9 : V S1x512} {xo10 : V S1x256} {xs0 : V S4x256x128}
variable {D : Data} {T : ℕ}
include c harg1 harg2 harg3 harg4 harg5 harg6 harg7 harg9 harg10 harg11 harg12 harg13

set_option maxHeartbeats 200000

variable (i : grid0.Coords) {arg8 : Memref Cert.KernelIdeal.sig .tc .vmem S256x3088 .bf16} (harg8 : arg8.IsWhole) (hc0 : cond0_0 i)

theorem dpjA (t : Tile D T x0 x1 x2 x3 x4 x5 x6) (hS : Last T) : View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6).1 = coe2 (fun i j => D.gPj (256 * T + i) j) := by
  have h0 : View.PiecesOf (Val := Elt Ideal) (e := .bf16) (coe2 (A := 256) (B := 3088) (fun i j => D.gPj (256 * T + i) j)) [] := trivial
  have h1 := pcons (e := .bf16) (r := (Rect.unit (s := S256x3088) ![0, 2048] S256x256.size inb_S256x3088_S256x256_0_2048)) (p7A_r00 c harg1 harg2 harg3 harg4 harg5 harg6 harg7 harg9 harg10 harg11 harg12 harg13 t hS) h0
  have h2 := pcons (e := .bf16) (r := (Rect.unit (s := S256x3088) ![0, 2304] S256x256.size inb_S256x3088_S256x256_0_2304)) (p7A_r01 c harg1 harg2 harg3 harg4 harg5 harg6 harg7 harg9 harg10 harg11 harg12 harg13 t hS) h1
  have h3 := pcons (e := .bf16) (r := (Rect.unit (s := S256x3088) ![0, 2560] S256x256.size inb_S256x3088_S256x256_0_2560)) (p7A_r02 c harg1 harg2 harg3 harg4 harg5 harg6 harg7 harg9 harg10 harg11 harg12 harg13 t hS) h2
  have h4 := pcons (e := .bf16) (r := (Rect.unit (s := S256x3088) ![0, 2816] S256x256.size inb_S256x3088_S256x256_0_2816)) (p7A_r03 c harg1 harg2 harg3 harg4 harg5 harg6 harg7 harg9 harg10 harg11 harg12 harg13 t hS) h3
  have h5 := pcons (e := .bf16) (r := (Rect.unit (s := S256x3088) ![192, 1024] S64x256.size inb_S256x3088_S64x256_192_1024)) (p7A_v30 c harg1 harg2 harg3 harg4 harg5 harg6 harg7 harg9 harg10 harg11 harg12 harg13 t hS) h4
  have h6 := pcons (e := .bf16) (r := (Rect.unit (s := S256x3088) ![192, 0] S64x128.size inb_S256x3088_S64x128_192_0)) (p7A_q30 c harg1 harg2 harg3 harg4 harg5 harg6 harg7 harg9 harg10 harg11 harg12 harg13 t hS) h5
  have h7 := pcons (e := .bf16) (r := (Rect.unit (s := S256x3088) ![192, 512] S64x128.size inb_S256x3088_S64x128_192_512)) (p7A_k30 c harg1 harg2 harg3 harg4 harg5 harg6 harg7 harg9 harg10 harg11 harg12 harg13 t hS) h6
  have h8 := pcons (e := .bf16) (r := (Rect.unit (s := S256x3088) ![192, 1280] S64x256.size inb_S256x3088_S64x256_192_1280)) (p7A_v31 c harg1 harg2 harg3 harg4 harg5 harg6 harg7 harg9 harg10 harg11 harg12 harg13 t hS) h7
  have h9 := pcons (e := .bf16) (r := (Rect.unit (s := S256x3088) ![192, 128] S64x128.size inb_S256x3088_S64x128_192_128)) (p7A_q31 c harg1 harg2 harg3 harg4 harg5 harg6 harg7 harg9 harg10 harg11 harg12 harg13 t hS) h8
  have h10 := pcons (e := .bf16) (r := (Rect.unit (s := S256x3088) ![192, 640] S64x128.size inb_S256x3088_S64x128_192_640)) (p7A_k31 c harg1 harg2 harg3 harg4 harg5 harg6 harg7 harg9 harg10 harg11 harg12 harg13 t hS) h9
  have h11 := pcons (e := .bf16) (r := (Rect.unit (s := S256x3088) ![192, 1536] S64x256.size inb_S256x3088_S64x256_192_1536)) (p7A_v32 c harg1 harg2 harg3 harg4 harg5 harg6 harg7 harg9 harg10 harg11 harg12 harg13 t hS) h10
  have h12 := pcons (e := .bf16) (r := (Rect.unit (s := S256x3088) ![192, 256] S64x128.size inb_S256x3088_S64x128_192_256)) (p7A_q32 c harg1 harg2 harg3 harg4 harg5 harg6 harg7 harg9 harg10 harg11 harg12 harg13 t hS) h11
  have h13 := pcons (e := .bf16) (r := (Rect.unit (s := S256x3088) ![192, 768] S64x128.size inb_S256x3088_S64x128_192_768)) (p7A_k32 c harg1 harg2 harg3 harg4 harg5 harg6 harg7 harg9 harg10 harg11 harg12 harg13 t hS) h12
  have h14 := pcons (e := .bf16) (r := (Rect.unit (s := S256x3088) ![192, 1792] S64x256.size inb_S256x3088_S64x256_192_1792)) (p7A_v33 c harg1 harg2 harg3 harg4 harg5 harg6 harg7 harg9 harg10 harg11 harg12 harg13 t hS) h13
  have h15 := pcons (e := .bf16) (r := (Rect.unit (s := S256x3088) ![192, 384] S64x128.size inb_S256x3088_S64x128_192_384)) (p7A_q33 c harg1 harg2 harg3 harg4 harg5 harg6 harg7 harg9 harg10 harg11 harg12 harg13 t hS) h14
  have h16 := pcons (e := .bf16) (r := (Rect.unit (s := S256x3088) ![192, 896] S64x128.size inb_S256x3088_S64x128_192_896)) (p7A_k33 c harg1 harg2 harg3 harg4 harg5 harg6 harg7 harg9 harg10 harg11 harg12 harg13 t hS) h15
  have h17 := pcons (e := .bf16) (r := (Rect.unit (s := S256x3088) ![128, 1024] S64x256.size inb_S256x3088_S64x256_128_1024)) (p7A_v20 c harg1 harg2 harg3 harg4 harg5 harg6 harg7 harg9 harg10 harg11 harg12 harg13 t hS) h16
  have h18 := pcons (e := .bf16) (r := (Rect.unit (s := S256x3088) ![128, 0] S64x128.size inb_S256x3088_S64x128_128_0)) (p7A_q20 c harg1 harg2 harg3 harg4 harg5 harg6 harg7 harg9 harg10 harg11 harg12 harg13 t hS) h17
  have h19 := pcons (e := .bf16) (r := (Rect.unit (s := S256x3088) ![128, 512] S64x128.size inb_S256x3088_S64x128_128_512)) (p7A_k20 c harg1 harg2 harg3 harg4 harg5 harg6 harg7 harg9 harg10 harg11 harg12 harg13 t hS) h18
  have h20 := pcons (e := .bf16) (r := (Rect.unit (s := S256x3088) ![128, 1280] S64x256.size inb_S256x3088_S64x256_128_1280)) (p7A_v21 c harg1 harg2 harg3 harg4 harg5 harg6 harg7 harg9 harg10 harg11 harg12 harg13 t hS) h19
  have h21 := pcons (e := .bf16) (r := (Rect.unit (s := S256x3088) ![128, 128] S64x128.size inb_S256x3088_S64x128_128_128)) (p7A_q21 c harg1 harg2 harg3 harg4 harg5 harg6 harg7 harg9 harg10 harg11 harg12 harg13 t hS) h20
  have h22 := pcons (e := .bf16) (r := (Rect.unit (s := S256x3088) ![128, 640] S64x128.size inb_S256x3088_S64x128_128_640)) (p7A_k21 c harg1 harg2 harg3 harg4 harg5 harg6 harg7 harg9 harg10 harg11 harg12 harg13 t hS) h21
  have h23 := pcons (e := .bf16) (r := (Rect.unit (s := S256x3088) ![128, 1536] S64x256.size inb_S256x3088_S64x256_128_1536)) (p7A_v22 c harg1 harg2 harg3 harg4 harg5 harg6 harg7 harg9 harg10 harg11 harg12 harg13 t hS) h22
  have h24 := pcons (e := .bf16) (r := (Rect.unit (s := S256x3088) ![128, 256] S64x128.size inb_S256x3088_S64x128_128_256)) (p7A_q22 c harg1 harg2 harg3 harg4 harg5 harg6 harg7 harg9 harg10 harg11 harg12 harg13 t hS) h23
  have h25 := pcons (e := .bf16) (r := (Rect.unit (s := S256x3088) ![128, 768] S64x128.size inb_S256x3088_S64x128_128_768)) (p7A_k22 c harg1 harg2 harg3 harg4 harg5 harg6 harg7 harg9 harg10 harg11 harg12 harg13 t hS) h24
  have h26 := pcons (e := .bf16) (r := (Rect.unit (s := S256x3088) ![128, 1792] S64x256.size inb_S256x3088_S64x256_128_1792)) (p7A_v23 c harg1 harg2 harg3 harg4 harg5 harg6 harg7 harg9 harg10 harg11 harg12 harg13 t hS) h25
  have h27 := pcons (e := .bf16) (r := (Rect.unit (s := S256x3088) ![128, 384] S64x128.size inb_S256x3088_S64x128_128_384)) (p7A_q23 c harg1 harg2 harg3 harg4 harg5 harg6 harg7 harg9 harg10 harg11 harg12 harg13 t hS) h26
  have h28 := pcons (e := .bf16) (r := (Rect.unit (s := S256x3088) ![128, 896] S64x128.size inb_S256x3088_S64x128_128_896)) (p7A_k23 c harg1 harg2 harg3 harg4 harg5 harg6 harg7 harg9 harg10 harg11 harg12 harg13 t hS) h27
  have h29 := pcons (e := .bf16) (r := (Rect.unit (s := S256x3088) ![64, 1024] S64x256.size inb_S256x3088_S64x256_64_1024)) (p7A_v10 c harg1 harg2 harg3 harg4 harg5 harg6 harg7 harg9 harg10 harg11 harg12 harg13 t hS) h28
  have h30 := pcons (e := .bf16) (r := (Rect.unit (s := S256x3088) ![64, 0] S64x128.size inb_S256x3088_S64x128_64_0)) (p7A_q10 c harg1 harg2 harg3 harg4 harg5 harg6 harg7 harg9 harg10 harg11 harg12 harg13 t hS) h29
  have h31 := pcons (e := .bf16) (r := (Rect.unit (s := S256x3088) ![64, 512] S64x128.size inb_S256x3088_S64x128_64_512)) (p7A_k10 c harg1 harg2 harg3 harg4 harg5 harg6 harg7 harg9 harg10 harg11 harg12 harg13 t hS) h30
  have h32 := pcons (e := .bf16) (r := (Rect.unit (s := S256x3088) ![64, 1280] S64x256.size inb_S256x3088_S64x256_64_1280)) (p7A_v11 c harg1 harg2 harg3 harg4 harg5 harg6 harg7 harg9 harg10 harg11 harg12 harg13 t hS) h31
  have h33 := pcons (e := .bf16) (r := (Rect.unit (s := S256x3088) ![64, 128] S64x128.size inb_S256x3088_S64x128_64_128)) (p7A_q11 c harg1 harg2 harg3 harg4 harg5 harg6 harg7 harg9 harg10 harg11 harg12 harg13 t hS) h32
  have h34 := pcons (e := .bf16) (r := (Rect.unit (s := S256x3088) ![64, 640] S64x128.size inb_S256x3088_S64x128_64_640)) (p7A_k11 c harg1 harg2 harg3 harg4 harg5 harg6 harg7 harg9 harg10 harg11 harg12 harg13 t hS) h33
  have h35 := pcons (e := .bf16) (r := (Rect.unit (s := S256x3088) ![64, 1536] S64x256.size inb_S256x3088_S64x256_64_1536)) (p7A_v12 c harg1 harg2 harg3 harg4 harg5 harg6 harg7 harg9 harg10 harg11 harg12 harg13 t hS) h34
  have h36 := pcons (e := .bf16) (r := (Rect.unit (s := S256x3088) ![64, 256] S64x128.size inb_S256x3088_S64x128_64_256)) (p7A_q12 c harg1 harg2 harg3 harg4 harg5 harg6 harg7 harg9 harg10 harg11 harg12 harg13 t hS) h35
  have h37 := pcons (e := .bf16) (r := (Rect.unit (s := S256x3088) ![64, 768] S64x128.size inb_S256x3088_S64x128_64_768)) (p7A_k12 c harg1 harg2 harg3 harg4 harg5 harg6 harg7 harg9 harg10 harg11 harg12 harg13 t hS) h36
  have h38 := pcons (e := .bf16) (r := (Rect.unit (s := S256x3088) ![64, 1792] S64x256.size inb_S256x3088_S64x256_64_1792)) (p7A_v13 c harg1 harg2 harg3 harg4 harg5 harg6 harg7 harg9 harg10 harg11 harg12 harg13 t hS) h37
  have h39 := pcons (e := .bf16) (r := (Rect.unit (s := S256x3088) ![64, 384] S64x128.size inb_S256x3088_S64x128_64_384)) (p7A_q13 c harg1 harg2 harg3 harg4 harg5 harg6 harg7 harg9 harg10 harg11 harg12 harg13 t hS) h38
  have h40 := pcons (e := .bf16) (r := (Rect.unit (s := S256x3088) ![64, 896] S64x128.size inb_S256x3088_S64x128_64_896)) (p7A_k13 c harg1 harg2 harg3 harg4 harg5 harg6 harg7 harg9 harg10 harg11 harg12 harg13 t hS) h39
  have h41 := pcons (e := .bf16) (r := (Rect.unit (s := S256x3088) ![0, 1024] S64x256.size inb_S256x3088_S64x256_0_1024)) (p7A_v00 c harg1 harg2 harg3 harg4 harg5 harg6 harg7 harg9 harg10 harg11 harg12 harg13 t hS) h40
  have h42 := pcons (e := .bf16) (r := (Rect.unit (s := S256x3088) ![0, 0] S64x128.size inb_S256x3088_S64x128_0_0)) (p7A_q00 c harg1 harg2 harg3 harg4 harg5 harg6 harg7 harg9 harg10 harg11 harg12 harg13 t hS) h41
  have h43 := pcons (e := .bf16) (r := (Rect.unit (s := S256x3088) ![0, 512] S64x128.size inb_S256x3088_S64x128_0_512)) (p7A_k00 c harg1 harg2 harg3 harg4 harg5 harg6 harg7 harg9 harg10 harg11 harg12 harg13 t hS) h42
  have h44 := pcons (e := .bf16) (r := (Rect.unit (s := S256x3088) ![0, 1280] S64x256.size inb_S256x3088_S64x256_0_1280)) (p7A_v01 c harg1 harg2 harg3 harg4 harg5 harg6 harg7 harg9 harg10 harg11 harg12 harg13 t hS) h43
  have h45 := pcons (e := .bf16) (r := (Rect.unit (s := S256x3088) ![0, 128] S64x128.size inb_S256x3088_S64x128_0_128)) (p7A_q01 c harg1 harg2 harg3 harg4 harg5 harg6 harg7 harg9 harg10 harg11 harg12 harg13 t hS) h44
  have h46 := pcons (e := .bf16) (r := (Rect.unit (s := S256x3088) ![0, 640] S64x128.size inb_S256x3088_S64x128_0_640)) (p7A_k01 c harg1 harg2 harg3 harg4 harg5 harg6 harg7 harg9 harg10 harg11 harg12 harg13 t hS) h45
  have h47 := pcons (e := .bf16) (r := (Rect.unit (s := S256x3088) ![0, 1536] S64x256.size inb_S256x3088_S64x256_0_1536)) (p7A_v02 c harg1 harg2 harg3 harg4 harg5 harg6 harg7 harg9 harg10 harg11 harg12 harg13 t hS) h46
  have h48 := pcons (e := .bf16) (r := (Rect.unit (s := S256x3088) ![0, 256] S64x128.size inb_S256x3088_S64x128_0_256)) (p7A_q02 c harg1 harg2 harg3 harg4 harg5 harg6 harg7 harg9 harg10 harg11 harg12 harg13 t hS) h47
  have h49 := pcons (e := .bf16) (r := (Rect.unit (s := S256x3088) ![0, 768] S64x128.size inb_S256x3088_S64x128_0_768)) (p7A_k02 c harg1 harg2 harg3 harg4 harg5 harg6 harg7 harg9 harg10 harg11 harg12 harg13 t hS) h48
  have h50 := pcons (e := .bf16) (r := (Rect.unit (s := S256x3088) ![0, 1792] S64x256.size inb_S256x3088_S64x256_0_1792)) (p7A_v03 c harg1 harg2 harg3 harg4 harg5 harg6 harg7 harg9 harg10 harg11 harg12 harg13 t hS) h49
  have h51 := pcons (e := .bf16) (r := (Rect.unit (s := S256x3088) ![0, 384] S64x128.size inb_S256x3088_S64x128_0_384)) (p7A_q03 c harg1 harg2 harg3 harg4 harg5 harg6 harg7 harg9 harg10 harg11 harg12 harg13 t hS) h50
  have h52 := pcons (e := .bf16) (r := (Rect.unit (s := S256x3088) ![0, 896] S64x128.size inb_S256x3088_S64x128_0_896)) (p7A_k03 c harg1 harg2 harg3 harg4 harg5 harg6 harg7 harg9 harg10 harg11 harg12 harg13 t hS) h51
  have h53 := pcons (e := .bf16) (r := (Rect.unit (s := S256x3088) ![0, 3072] S256x16.size inb_S256x3088_S256x16_0_3072)) (p7A_z00 c harg1 harg2 harg3 harg4 harg5 harg6 harg7 harg9 harg10 harg11 harg12 harg13 t hS) h52
  have key : ∀ L, (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6).1 = L → View.PiecesOf (Val := Elt Ideal) (e := .bf16) (coe2 (A := 256) (B := 3088) (fun i j => D.gPj (256 * T + i) j)) L → View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6).1 = coe2 (A := 256) (B := 3088) (fun i j => D.gPj (256 * T + i) j) := fun L e h => by subst e; exact canon_all _ _ h (cover0_A_7 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6)
  exact key _ (by sl_kernel_rfl) h53

end Cert.Gla

end
-- ==== Proof.DsB.lean ====
/- The state that each chunk of a later tile hands over to the chunk before it, head by head. -/
module

public import proofs.«01_k».proof.Proof.Step

@[expose] public section

set_option maxRecDepth 16384

noncomputable section

namespace Cert.Gla

open Idealize.ShloMosaic Idealize.ShloMosaic.TcCoe Idealize.SL.Sem
open Cert.KernelIdeal Cert.KernelIdeal.Gen
open Finset (range Ico)

variable (c : Dev nD) {arg1 : Memref Cert.KernelIdeal.sig .tc .vmem S256x1024 .f32} (harg1 : arg1.IsWhole) {arg2 : Memref Cert.KernelIdeal.sig .tc .vmem S256x3088 .f32} (harg2 : arg2.IsWhole)
  {arg3 : Memref Cert.KernelIdeal.sig .tc .vmem S256x1024 .f32} (harg3 : arg3.IsWhole) {arg4 : Memref Cert.KernelIdeal.sig .tc .vmem S4x4x256x128 .f32} (harg4 : arg4.IsWhole)
  {arg5 : Memref Cert.KernelIdeal.sig .tc .vmem S16x512 .f32} (harg5 : arg5.IsWhole) {arg6 : Memref Cert.KernelIdeal.sig .tc .vmem S1x512 .f32} (harg6 : arg6.IsWhole)
  {arg7 : Memref Cert.KernelIdeal.sig .tc .vmem S1x256 .f32} (harg7 : arg7.IsWhole) {arg9 : Memref Cert.KernelIdeal.sig .tc .vmem S16x512 .f32} (harg9 : arg9.IsWhole)
  {arg10 : Memref Cert.KernelIdeal.sig .tc .vmem S1x512 .f32} (harg10 : arg10.IsWhole) {arg11 : Memref Cert.KernelIdeal.sig .tc .vmem S1x256 .f32} (harg11 : arg11.IsWhole)
  {arg12 : Memref Cert.KernelIdeal.sig .tc .vmem S4x256x128 .f32} (harg12 : arg12.IsWhole) {arg13 : Memref Cert.KernelIdeal.sig .tc .vmem S4x256x128 .f32} (harg13 : arg13.IsWhole)
variable {x0 : V S256x1024} {x1 : V S256x3088} {x2 : V S256x1024} {x3 : V S4x4x256x128} {x4 : V S16x512} {x5 : V S1x512} {x6 : V S1x256}
  {xo8 : V S16x512} {xo9 : V S1x512} {xo10 : V S1x256} {xs0 : V S4x256x128}
variable {D : Data} {T : ℕ}
include c harg1 harg2 harg3 harg4 harg5 harg6 harg7 harg9 harg10 harg11 harg12 harg13

theorem dsB_30 (t : Tile D T x0 x1 x2 x3 x4 x5 x6) (hS : State D (256 * T + 256) xo8 xo9 xo10 xs0) : R3 (φ := .f32) ((View.readAt (Elt Ideal) arg12.view (Rect.unit (s := S4x256x128) ![0, 0, 0] S1x256x128.size inb_S4x256x128_S1x256x128_0_0_0).toLoadRect (harg12.unread xs0)) : V S1x256x128)
    (fun _ e x => dst (D.q 0) (D.d 0) (D.a 0) (256 * T + 256) e x) :=
  (hS.hs.load harg12 inb_S4x256x128_S1x256x128_0_0_0).congr fun i hi j _ k _ => by
    obtain rfl : i = 0 := by omega
    simp only [Nat.zero_add, Nat.add_zero]

theorem dsB_31 (t : Tile D T x0 x1 x2 x3 x4 x5 x6) (hS : State D (256 * T + 256) xo8 xo9 xo10 xs0) : R3 (φ := .f32) ((kernelRun0_B.sl.v774 (F := Ideal) c arg12 harg12 xs0) : V S1x256x128)
    (fun _ e x => dst (D.q 1) (D.d 1) (D.a 1) (256 * T + 256) e x) :=
  (hS.hs.load harg12 inb_S4x256x128_S1x256x128_1_0_0).congr fun i hi j _ k _ => by
    obtain rfl : i = 0 := by omega
    simp only [Nat.zero_add, Nat.add_zero]

theorem dsB_32 (t : Tile D T x0 x1 x2 x3 x4 x5 x6) (hS : State D (256 * T + 256) xo8 xo9 xo10 xs0) : R3 (φ := .f32) ((kernelRun0_B.sl.v874 (F := Ideal) c arg12 harg12 xs0) : V S1x256x128)
    (fun _ e x => dst (D.q 2) (D.d 2) (D.a 2) (256 * T + 256) e x) :=
  (hS.hs.load harg12 inb_S4x256x128_S1x256x128_2_0_0).congr fun i hi j _ k _ => by
    obtain rfl : i = 0 := by omega
    simp only [Nat.zero_add, Nat.add_zero]

theorem dsB_33 (t : Tile D T x0 x1 x2 x3 x4 x5 x6) (hS : State D (256 * T + 256) xo8 xo9 xo10 xs0) : R3 (φ := .f32) ((kernelRun0_B.sl.v974 (F := Ideal) c arg12 harg12 xs0) : V S1x256x128)
    (fun _ e x => dst (D.q 3) (D.d 3) (D.a 3) (256 * T + 256) e x) :=
  (hS.hs.load harg12 inb_S4x256x128_S1x256x128_3_0_0).congr fun i hi j _ k _ => by
    obtain rfl : i = 0 := by omega
    simp only [Nat.zero_add, Nat.add_zero]

theorem dsB_20 (t : Tile D T x0 x1 x2 x3 x4 x5 x6) (hS : State D (256 * T + 256) xo8 xo9 xo10 xs0) : R3 (φ := .f32) ((kernelRun0_B.sl.v1074 (F := Ideal) c arg1 harg1 arg2 harg2 arg3 harg3 arg5 harg5 arg6 harg6 arg7 harg7 arg12 harg12 x0 x1 x2 x4 x5 x6 xs0) : V S1x256x128)
    (fun _ e x => dst (D.q 0) (D.d 0) (D.a 0) (256 * T + 192) e x) :=
  fun i j k => (congrFun (R3.hit (m := arg12) (by decide) (by decide) (by decide)) _).trans (((t.head0 harg1 harg2 harg3 harg5 harg6 harg7).chunk (c := 3) (o' := 256) t.hT slices_S256x128_o192_0_S64x128 slices_S256x256_o192_0_S64x256 rfl rfl (t.sp30 harg4) (dsB_30 c harg1 harg2 harg3 harg4 harg5 harg6 harg7 harg9 harg10 harg11 harg12 harg13 t hS)).dsN i j k)

theorem dsB_21 (t : Tile D T x0 x1 x2 x3 x4 x5 x6) (hS : State D (256 * T + 256) xo8 xo9 xo10 xs0) : R3 (φ := .f32) ((kernelRun0_B.sl.v1174 (F := Ideal) c arg1 harg1 arg2 harg2 arg3 harg3 arg5 harg5 arg6 harg6 arg7 harg7 arg12 harg12 x0 x1 x2 x4 x5 x6 xs0) : V S1x256x128)
    (fun _ e x => dst (D.q 1) (D.d 1) (D.a 1) (256 * T + 192) e x) :=
  fun i j k => (congrFun (R3.hit (m := arg12) (by decide) (by decide) (by decide)) _).trans (((t.head1 harg1 harg2 harg3 harg5 harg6 harg7).chunk (c := 3) (o' := 256) t.hT slices_S256x128_o192_0_S64x128 slices_S256x256_o192_0_S64x256 rfl rfl (t.sp31 harg4) (dsB_31 c harg1 harg2 harg3 harg4 harg5 harg6 harg7 harg9 harg10 harg11 harg12 harg13 t hS)).dsN i j k)

theorem dsB_22 (t : Tile D T x0 x1 x2 x3 x4 x5 x6) (hS : State D (256 * T + 256) xo8 xo9 xo10 xs0) : R3 (φ := .f32) ((kernelRun0_B.sl.v1274 (F := Ideal) c arg1 harg1 arg2 harg2 arg3 harg3 arg5 harg5 arg6 harg6 arg7 harg7 arg12 harg12 x0 x1 x2 x4 x5 x6 xs0) : V S1x256x128)
    (fun _ e x => dst (D.q 2) (D.d 2) (D.a 2) (256 * T + 192) e x) :=
  fun i j k => (congrFun (R3.hit (m := arg12) (by decide) (by decide) (by decide)) _).trans (((t.head2 harg1 harg2 harg3 harg5 harg6 harg7).chunk (c := 3) (o' := 256) t.hT slices_S256x128_o192_0_S64x128 slices_S256x256_o192_0_S64x256 rfl rfl (t.sp32 harg4) (dsB_32 c harg1 harg2 harg3 harg4 harg5 harg6 harg7 harg9 harg10 harg11 harg12 harg13 t hS)).dsN i j k)

theorem dsB_23 (t : Tile D T x0 x1 x2 x3 x4 x5 x6) (hS : State D (256 * T + 256) xo8 xo9 xo10 xs0) : R3 (φ := .f32) ((kernelRun0_B.sl.v1374 (F := Ideal) c arg1 harg1 arg2 harg2 arg3 harg3 arg5 harg5 arg6 harg6 arg7 harg7 arg12 harg12 x0 x1 x2 x4 x5 x6 xs0) : V S1x256x128)
    (fun _ e x => dst (D.q 3) (D.d 3) (D.a 3) (256 * T + 192) e x) :=
  fun i j k => (congrFun (R3.hit (m := arg12) (by decide) (by decide) (by decide)) _).trans (((t.head3 harg1 harg2 harg3 harg5 harg6 harg7).chunk (c := 3) (o' := 256) t.hT slices_S256x128_o192_0_S64x128 slices_S256x256_o192_0_S64x256 rfl rfl (t.sp33 harg4) (dsB_33 c harg1 harg2 harg3 harg4 harg5 harg6 harg7 harg9 harg10 harg11 harg12 harg13 t hS)).dsN i j k)

theorem dsB_10 (t : Tile D T x0 x1 x2 x3 x4 x5 x6) (hS : State D (256 * T + 256) xo8 xo9 xo10 xs0) : R3 (φ := .f32) ((kernelRun0_B.sl.v1474 (F := Ideal) c arg1 harg1 arg2 harg2 arg3 harg3 arg5 harg5 arg6 harg6 arg7 harg7 arg12 harg12 x0 x1 x2 x4 x5 x6 xs0) : V S1x256x128)
    (fun _ e x => dst (D.q 0) (D.d 0) (D.a 0) (256 * T + 128) e x) :=
  fun i j k => (congrFun (R3.hit (m := arg12) (by decide) (by decide) (by decide)) _).trans (((t.head0 harg1 harg2 harg3 harg5 harg6 harg7).chunk (c := 2) (o' := 192) t.hT slices_S256x128_o128_0_S64x128 slices_S256x256_o128_0_S64x256 rfl rfl (t.sp20 harg4) (dsB_20 c harg1 harg2 harg3 harg4 harg5 harg6 harg7 harg9 harg10 harg11 harg12 harg13 t hS)).dsN i j k)

theorem dsB_11 (t : Tile D T x0 x1 x2 x3 x4 x5 x6) (hS : State D (256 * T + 256) xo8 xo9 xo10 xs0) : R3 (φ := .f32) ((kernelRun0_B.sl.v1574 (F := Ideal) c arg1 harg1 arg2 harg2 arg3 harg3 arg5 harg5 arg6 harg6 arg7 harg7 arg12 harg12 x0 x1 x2 x4 x5 x6 xs0) : V S1x256x128)
    (fun _ e x => dst (D.q 1) (D.d 1) (D.a 1) (256 * T + 128) e x) :=
  fun i j k => (congrFun (R3.hit (m := arg12) (by decide) (by decide) (by decide)) _).trans (((t.head1 harg1 harg2 harg3 harg5 harg6 harg7).chunk (c := 2) (o' := 192) t.hT slices_S256x128_o128_0_S64x128 slices_S256x256_o128_0_S64x256 rfl rfl (t.sp21 harg4) (dsB_21 c harg1 harg2 harg3 harg4 harg5 harg6 harg7 harg9 harg10 harg11 harg12 harg13 t hS)).dsN i j k)

theorem dsB_12 (t : Tile D T x0 x1 x2 x3 x4 x5 x6) (hS : State D (256 * T + 256) xo8 xo9 xo10 xs0) : R3 (φ := .f32) ((kernelRun0_B.sl.v1674 (F := Ideal) c arg1 harg1 arg2 harg2 arg3 harg3 arg5 harg5 arg6 harg6 arg7 harg7 arg12 harg12 x0 x1 x2 x4 x5 x6 xs0) : V S1x256x128)
    (fun _ e x => dst (D.q 2) (D.d 2) (D.a 2) (256 * T + 128) e x) :=
  fun i j k => (congrFun (R3.hit (m := arg12) (by decide) (by decide) (by decide)) _).trans (((t.head2 harg1 harg2 harg3 harg5 harg6 harg7).chunk (c := 2) (o' := 192) t.hT slices_S256x128_o128_0_S64x128 slices_S256x256_o128_0_S64x256 rfl rfl (t.sp22 harg4) (dsB_22 c harg1 harg2 harg3 harg4 harg5 harg6 harg7 harg9 harg10 harg11 harg12 harg13 t hS)).dsN i j k)

theorem dsB_13 (t : Tile D T x0 x1 x2 x3 x4 x5 x6) (hS : State D (256 * T + 256) xo8 xo9 xo10 xs0) : R3 (φ := .f32) ((kernelRun0_B.sl.v1774 (F := Ideal) c arg1 harg1 arg2 harg2 arg3 harg3 arg5 harg5 arg6 harg6 arg7 harg7 arg12 harg12 x0 x1 x2 x4 x5 x6 xs0) : V S1x256x128)
    (fun _ e x => dst (D.q 3) (D.d 3) (D.a 3) (256 * T + 128) e x) :=
  fun i j k => (congrFun (R3.hit (m := arg12) (by decide) (by decide) (by decide)) _).trans (((t.head3 harg1 harg2 harg3 harg5 harg6 harg7).chunk (c := 2) (o' := 192) t.hT slices_S256x128_o128_0_S64x128 slices_S256x256_o128_0_S64x256 rfl rfl (t.sp23 harg4) (dsB_23 c harg1 harg2 harg3 harg4 harg5 harg6 harg7 harg9 harg10 harg11 harg12 harg13 t hS)).dsN i j k)

theorem dsB_00 (t : Tile D T x0 x1 x2 x3 x4 x5 x6) (hS : State D (256 * T + 256) xo8 xo9 xo10 xs0) : R3 (φ := .f32) ((kernelRun0_B.sl.v1874 (F := Ideal) c arg1 harg1 arg2 harg2 arg3 harg3 arg5 harg5 arg6 harg6 arg7 harg7 arg12 harg12 x0 x1 x2 x4 x5 x6 xs0) : V S1x256x128)
    (fun _ e x => dst (D.q 0) (D.d 0) (D.a 0) (256 * T + 64) e x) :=
  fun i j k => (congrFun (R3.hit (m := arg12) (by decide) (by decide) (by decide)) _).trans (((t.head0 harg1 harg2 harg3 harg5 harg6 harg7).chunk (c := 1) (o' := 128) t.hT slices_S256x128_o64_0_S64x128 slices_S256x256_o64_0_S64x256 rfl rfl (t.sp10 harg4) (dsB_10 c harg1 harg2 harg3 harg4 harg5 harg6 harg7 harg9 harg10 harg11 harg12 harg13 t hS)).dsN i j k)

theorem dsB_01 (t : Tile D T x0 x1 x2 x3 x4 x5 x6) (hS : State D (256 * T + 256) xo8 xo9 xo10 xs0) : R3 (φ := .f32) ((kernelRun0_B.sl.v1974 (F := Ideal) c arg1 harg1 arg2 harg2 arg3 harg3 arg5 harg5 arg6 harg6 arg7 harg7 arg12 harg12 x0 x1 x2 x4 x5 x6 xs0) : V S1x256x128)
    (fun _ e x => dst (D.q 1) (D.d 1) (D.a 1) (256 * T + 64) e x) :=
  fun i j k => (congrFun (R3.hit (m := arg12) (by decide) (by decide) (by decide)) _).trans (((t.head1 harg1 harg2 harg3 harg5 harg6 harg7).chunk (c := 1) (o' := 128) t.hT slices_S256x128_o64_0_S64x128 slices_S256x256_o64_0_S64x256 rfl rfl (t.sp11 harg4) (dsB_11 c harg1 harg2 harg3 harg4 harg5 harg6 harg7 harg9 harg10 harg11 harg12 harg13 t hS)).dsN i j k)

theorem dsB_02 (t : Tile D T x0 x1 x2 x3 x4 x5 x6) (hS : State D (256 * T + 256) xo8 xo9 xo10 xs0) : R3 (φ := .f32) ((kernelRun0_B.sl.v2074 (F := Ideal) c arg1 harg1 arg2 harg2 arg3 harg3 arg5 harg5 arg6 harg6 arg7 harg7 arg12 harg12 x0 x1 x2 x4 x5 x6 xs0) : V S1x256x128)
    (fun _ e x => dst (D.q 2) (D.d 2) (D.a 2) (256 * T + 64) e x) :=
  fun i j k => (congrFun (R3.hit (m := arg12) (by decide) (by decide) (by decide)) _).trans (((t.head2 harg1 harg2 harg3 harg5 harg6 harg7).chunk (c := 1) (o' := 128) t.hT slices_S256x128_o64_0_S64x128 slices_S256x256_o64_0_S64x256 rfl rfl (t.sp12 harg4) (dsB_12 c harg1 harg2 harg3 harg4 harg5 harg6 harg7 harg9 harg10 harg11 harg12 harg13 t hS)).dsN i j k)

theorem dsB_03 (t : Tile D T x0 x1 x2 x3 x4 x5 x6) (hS : State D (256 * T + 256) xo8 xo9 xo10 xs0) : R3 (φ := .f32) ((kernelRun0_B.sl.v2174 (F := Ideal) c arg1 harg1 arg2 harg2 arg3 harg3 arg5 harg5 arg6 harg6 arg7 harg7 arg12 harg12 x0 x1 x2 x4 x5 x6 xs0) : V S1x256x128)
    (fun _ e x => dst (D.q 3) (D.d 3) (D.a 3) (256 * T + 64) e x) :=
  fun i j k => (congrFun (R3.hit (m := arg12) (by decide) (by decide) (by decide)) _).trans (((t.head3 harg1 harg2 harg3 harg5 harg6 harg7).chunk (c := 1) (o' := 128) t.hT slices_S256x128_o64_0_S64x128 slices_S256x256_o64_0_S64x256 rfl rfl (t.sp13 harg4) (dsB_13 c harg1 harg2 harg3 harg4 harg5 harg6 harg7 harg9 harg10 harg11 harg12 harg13 t hS)).dsN i j k)

end Cert.Gla

end
-- ==== Proof.RunB.lean ====
/- What a later tile leaves: the blocks of the gradients and the state. -/
module

public import proofs.«01_k».proof.Proof.DsB

@[expose] public section

set_option maxRecDepth 16384

noncomputable section

namespace Cert.Gla

open Idealize.ShloMosaic Idealize.ShloMosaic.TcCoe Idealize.SL.Sem
open Cert.KernelIdeal Cert.KernelIdeal.Gen
open Finset (range Ico)

variable (c : Dev nD) {arg1 : Memref Cert.KernelIdeal.sig .tc .vmem S256x1024 .f32} (harg1 : arg1.IsWhole) {arg2 : Memref Cert.KernelIdeal.sig .tc .vmem S256x3088 .f32} (harg2 : arg2.IsWhole)
  {arg3 : Memref Cert.KernelIdeal.sig .tc .vmem S256x1024 .f32} (harg3 : arg3.IsWhole) {arg4 : Memref Cert.KernelIdeal.sig .tc .vmem S4x4x256x128 .f32} (harg4 : arg4.IsWhole)
  {arg5 : Memref Cert.KernelIdeal.sig .tc .vmem S16x512 .f32} (harg5 : arg5.IsWhole) {arg6 : Memref Cert.KernelIdeal.sig .tc .vmem S1x512 .f32} (harg6 : arg6.IsWhole)
  {arg7 : Memref Cert.KernelIdeal.sig .tc .vmem S1x256 .f32} (harg7 : arg7.IsWhole) {arg9 : Memref Cert.KernelIdeal.sig .tc .vmem S16x512 .f32} (harg9 : arg9.IsWhole)
  {arg10 : Memref Cert.KernelIdeal.sig .tc .vmem S1x512 .f32} (harg10 : arg10.IsWhole) {arg11 : Memref Cert.KernelIdeal.sig .tc .vmem S1x256 .f32} (harg11 : arg11.IsWhole)
  {arg12 : Memref Cert.KernelIdeal.sig .tc .vmem S4x256x128 .f32} (harg12 : arg12.IsWhole) {arg13 : Memref Cert.KernelIdeal.sig .tc .vmem S4x256x128 .f32} (harg13 : arg13.IsWhole)
variable {x0 : V S256x1024} {x1 : V S256x3088} {x2 : V S256x1024} {x3 : V S4x4x256x128} {x4 : V S16x512} {x5 : V S1x512} {x6 : V S1x256}
  {xo8 : V S16x512} {xo9 : V S1x512} {xo10 : V S1x256} {xs0 : V S4x256x128}
variable {D : Data} {T : ℕ}
include c harg1 harg2 harg3 harg4 harg5 harg6 harg7 harg9 harg10 harg11 harg12 harg13

set_option maxHeartbeats 400000

theorem dgsB (t : Tile D T x0 x1 x2 x3 x4 x5 x6) (hS : State D (256 * T + 256) xo8 xo9 xo10 xs0) : View.PiecesOf (Val := Elt Ideal) (coe3 (fun h i x => gC (D.q h) (D.k h) (D.v h) (D.d h) (D.a h) (256 * T + i) x)) (kernelRun0_B.sl.HS1_16 (F := Ideal) c arg1 harg1 arg2 harg2 arg3 harg3 arg4 harg4 arg5 harg5 arg6 harg6 arg7 harg7 arg12 harg12 x0 x1 x2 x3 x4 x5 x6 xs0) :=
  ⟨piece3 (inb := inb_S4x256x128_S1x64x128_3_0_0) ((t.head3 harg1 harg2 harg3 harg5 harg6 harg7).chunk (c := 0) (o' := 64) t.hT slices_S256x128_o0_0_S64x128 slices_S256x256_o0_0_S64x256 rfl rfl (t.sp03 harg4) (dsB_03 c harg1 harg2 harg3 harg4 harg5 harg6 harg7 harg9 harg10 harg11 harg12 harg13 t hS)).rdg (fun j _ k _ => by simp only [Nat.add_assoc, Nat.zero_add]),
  piece3 (inb := inb_S4x256x128_S1x64x128_2_0_0) ((t.head2 harg1 harg2 harg3 harg5 harg6 harg7).chunk (c := 0) (o' := 64) t.hT slices_S256x128_o0_0_S64x128 slices_S256x256_o0_0_S64x256 rfl rfl (t.sp02 harg4) (dsB_02 c harg1 harg2 harg3 harg4 harg5 harg6 harg7 harg9 harg10 harg11 harg12 harg13 t hS)).rdg (fun j _ k _ => by simp only [Nat.add_assoc, Nat.zero_add]),
  piece3 (inb := inb_S4x256x128_S1x64x128_1_0_0) ((t.head1 harg1 harg2 harg3 harg5 harg6 harg7).chunk (c := 0) (o' := 64) t.hT slices_S256x128_o0_0_S64x128 slices_S256x256_o0_0_S64x256 rfl rfl (t.sp01 harg4) (dsB_01 c harg1 harg2 harg3 harg4 harg5 harg6 harg7 harg9 harg10 harg11 harg12 harg13 t hS)).rdg (fun j _ k _ => by simp only [Nat.add_assoc, Nat.zero_add]),
  piece3 (inb := inb_S4x256x128_S1x64x128_0_0_0) ((t.head0 harg1 harg2 harg3 harg5 harg6 harg7).chunk (c := 0) (o' := 64) t.hT slices_S256x128_o0_0_S64x128 slices_S256x256_o0_0_S64x256 rfl rfl (t.sp00 harg4) (dsB_00 c harg1 harg2 harg3 harg4 harg5 harg6 harg7 harg9 harg10 harg11 harg12 harg13 t hS)).rdg (fun j _ k _ => by simp only [Nat.add_assoc, Nat.zero_add]),
  piece3 (inb := inb_S4x256x128_S1x64x128_3_64_0) ((t.head3 harg1 harg2 harg3 harg5 harg6 harg7).chunk (c := 1) (o' := 128) t.hT slices_S256x128_o64_0_S64x128 slices_S256x256_o64_0_S64x256 rfl rfl (t.sp13 harg4) (dsB_13 c harg1 harg2 harg3 harg4 harg5 harg6 harg7 harg9 harg10 harg11 harg12 harg13 t hS)).rdg (fun j _ k _ => by simp only [Nat.add_assoc, Nat.zero_add]),
  piece3 (inb := inb_S4x256x128_S1x64x128_2_64_0) ((t.head2 harg1 harg2 harg3 harg5 harg6 harg7).chunk (c := 1) (o' := 128) t.hT slices_S256x128_o64_0_S64x128 slices_S256x256_o64_0_S64x256 rfl rfl (t.sp12 harg4) (dsB_12 c harg1 harg2 harg3 harg4 harg5 harg6 harg7 harg9 harg10 harg11 harg12 harg13 t hS)).rdg (fun j _ k _ => by simp only [Nat.add_assoc, Nat.zero_add]),
  piece3 (inb := inb_S4x256x128_S1x64x128_1_64_0) ((t.head1 harg1 harg2 harg3 harg5 harg6 harg7).chunk (c := 1) (o' := 128) t.hT slices_S256x128_o64_0_S64x128 slices_S256x256_o64_0_S64x256 rfl rfl (t.sp11 harg4) (dsB_11 c harg1 harg2 harg3 harg4 harg5 harg6 harg7 harg9 harg10 harg11 harg12 harg13 t hS)).rdg (fun j _ k _ => by simp only [Nat.add_assoc, Nat.zero_add]),
  piece3 (inb := inb_S4x256x128_S1x64x128_0_64_0) ((t.head0 harg1 harg2 harg3 harg5 harg6 harg7).chunk (c := 1) (o' := 128) t.hT slices_S256x128_o64_0_S64x128 slices_S256x256_o64_0_S64x256 rfl rfl (t.sp10 harg4) (dsB_10 c harg1 harg2 harg3 harg4 harg5 harg6 harg7 harg9 harg10 harg11 harg12 harg13 t hS)).rdg (fun j _ k _ => by simp only [Nat.add_assoc, Nat.zero_add]),
  piece3 (inb := inb_S4x256x128_S1x64x128_3_128_0) ((t.head3 harg1 harg2 harg3 harg5 harg6 harg7).chunk (c := 2) (o' := 192) t.hT slices_S256x128_o128_0_S64x128 slices_S256x256_o128_0_S64x256 rfl rfl (t.sp23 harg4) (dsB_23 c harg1 harg2 harg3 harg4 harg5 harg6 harg7 harg9 harg10 harg11 harg12 harg13 t hS)).rdg (fun j _ k _ => by simp only [Nat.add_assoc, Nat.zero_add]),
  piece3 (inb := inb_S4x256x128_S1x64x128_2_128_0) ((t.head2 harg1 harg2 harg3 harg5 harg6 harg7).chunk (c := 2) (o' := 192) t.hT slices_S256x128_o128_0_S64x128 slices_S256x256_o128_0_S64x256 rfl rfl (t.sp22 harg4) (dsB_22 c harg1 harg2 harg3 harg4 harg5 harg6 harg7 harg9 harg10 harg11 harg12 harg13 t hS)).rdg (fun j _ k _ => by simp only [Nat.add_assoc, Nat.zero_add]),
  piece3 (inb := inb_S4x256x128_S1x64x128_1_128_0) ((t.head1 harg1 harg2 harg3 harg5 harg6 harg7).chunk (c := 2) (o' := 192) t.hT slices_S256x128_o128_0_S64x128 slices_S256x256_o128_0_S64x256 rfl rfl (t.sp21 harg4) (dsB_21 c harg1 harg2 harg3 harg4 harg5 harg6 harg7 harg9 harg10 harg11 harg12 harg13 t hS)).rdg (fun j _ k _ => by simp only [Nat.add_assoc, Nat.zero_add]),
  piece3 (inb := inb_S4x256x128_S1x64x128_0_128_0) ((t.head0 harg1 harg2 harg3 harg5 harg6 harg7).chunk (c := 2) (o' := 192) t.hT slices_S256x128_o128_0_S64x128 slices_S256x256_o128_0_S64x256 rfl rfl (t.sp20 harg4) (dsB_20 c harg1 harg2 harg3 harg4 harg5 harg6 harg7 harg9 harg10 harg11 harg12 harg13 t hS)).rdg (fun j _ k _ => by simp only [Nat.add_assoc, Nat.zero_add]),
  piece3 (inb := inb_S4x256x128_S1x64x128_3_192_0) ((t.head3 harg1 harg2 harg3 harg5 harg6 harg7).chunk (c := 3) (o' := 256) t.hT slices_S256x128_o192_0_S64x128 slices_S256x256_o192_0_S64x256 rfl rfl (t.sp33 harg4) (dsB_33 c harg1 harg2 harg3 harg4 harg5 harg6 harg7 harg9 harg10 harg11 harg12 harg13 t hS)).rdg (fun j _ k _ => by simp only [Nat.add_assoc, Nat.zero_add]),
  piece3 (inb := inb_S4x256x128_S1x64x128_2_192_0) ((t.head2 harg1 harg2 harg3 harg5 harg6 harg7).chunk (c := 3) (o' := 256) t.hT slices_S256x128_o192_0_S64x128 slices_S256x256_o192_0_S64x256 rfl rfl (t.sp32 harg4) (dsB_32 c harg1 harg2 harg3 harg4 harg5 harg6 harg7 harg9 harg10 harg11 harg12 harg13 t hS)).rdg (fun j _ k _ => by simp only [Nat.add_assoc, Nat.zero_add]),
  piece3 (inb := inb_S4x256x128_S1x64x128_1_192_0) ((t.head1 harg1 harg2 harg3 harg5 harg6 harg7).chunk (c := 3) (o' := 256) t.hT slices_S256x128_o192_0_S64x128 slices_S256x256_o192_0_S64x256 rfl rfl (t.sp31 harg4) (dsB_31 c harg1 harg2 harg3 harg4 harg5 harg6 harg7 harg9 harg10 harg11 harg12 harg13 t hS)).rdg (fun j _ k _ => by simp only [Nat.add_assoc, Nat.zero_add]),
  piece3 (inb := inb_S4x256x128_S1x64x128_0_192_0) ((t.head0 harg1 harg2 harg3 harg5 harg6 harg7).chunk (c := 3) (o' := 256) t.hT slices_S256x128_o192_0_S64x128 slices_S256x256_o192_0_S64x256 rfl rfl (t.sp30 harg4) (dsB_30 c harg1 harg2 harg3 harg4 harg5 harg6 harg7 harg9 harg10 harg11 harg12 harg13 t hS)).rdg (fun j _ k _ => by simp only [Nat.add_assoc, Nat.zero_add]),
  trivial⟩

theorem dg0B (t : Tile D T x0 x1 x2 x3 x4 x5 x6) (hS : State D (256 * T + 256) xo8 xo9 xo10 xs0) : R3 (φ := .f32) ((kernelRun0_B.sl.v2251 (F := Ideal) c arg1 harg1 arg2 harg2 arg3 harg3 arg4 harg4 arg5 harg5 arg6 harg6 arg7 harg7 arg12 harg12 arg13 x0 x1 x2 x3 x4 x5 x6 xs0) : V S1x256x128) (fun _ i x => gC (D.q 0) (D.k 0) (D.v 0) (D.d 0) (D.a 0) (256 * T + i) x) :=
  readCov_of_pieces (m := arg13) _ (dgsB c harg1 harg2 harg3 harg4 harg5 harg6 harg7 harg9 harg10 harg11 harg12 harg13 t hS) (View.cover_of_tiledL _ S1x64x128.size (by sl_kernel_rfl)) inb_S4x256x128_S1x256x128_0_0_0

theorem dg1B (t : Tile D T x0 x1 x2 x3 x4 x5 x6) (hS : State D (256 * T + 256) xo8 xo9 xo10 xs0) : R3 (φ := .f32) ((kernelRun0_B.sl.v2354 (F := Ideal) c arg1 harg1 arg2 harg2 arg3 harg3 arg4 harg4 arg5 harg5 arg6 harg6 arg7 harg7 arg12 harg12 arg13 x0 x1 x2 x3 x4 x5 x6 xs0) : V S1x256x128) (fun _ i x => gC (D.q 1) (D.k 1) (D.v 1) (D.d 1) (D.a 1) (256 * T + i) x) :=
  readCov_of_pieces (m := arg13) _ (dgsB c harg1 harg2 harg3 harg4 harg5 harg6 harg7 harg9 harg10 harg11 harg12 harg13 t hS) (View.cover_of_tiledL _ S1x64x128.size (by sl_kernel_rfl)) inb_S4x256x128_S1x256x128_1_0_0

theorem dg2B (t : Tile D T x0 x1 x2 x3 x4 x5 x6) (hS : State D (256 * T + 256) xo8 xo9 xo10 xs0) : R3 (φ := .f32) ((kernelRun0_B.sl.v2457 (F := Ideal) c arg1 harg1 arg2 harg2 arg3 harg3 arg4 harg4 arg5 harg5 arg6 harg6 arg7 harg7 arg12 harg12 arg13 x0 x1 x2 x3 x4 x5 x6 xs0) : V S1x256x128) (fun _ i x => gC (D.q 2) (D.k 2) (D.v 2) (D.d 2) (D.a 2) (256 * T + i) x) :=
  readCov_of_pieces (m := arg13) _ (dgsB c harg1 harg2 harg3 harg4 harg5 harg6 harg7 harg9 harg10 harg11 harg12 harg13 t hS) (View.cover_of_tiledL _ S1x64x128.size (by sl_kernel_rfl)) inb_S4x256x128_S1x256x128_2_0_0

theorem dg3B (t : Tile D T x0 x1 x2 x3 x4 x5 x6) (hS : State D (256 * T + 256) xo8 xo9 xo10 xs0) : R3 (φ := .f32) ((kernelRun0_B.sl.v2560 (F := Ideal) c arg1 harg1 arg2 harg2 arg3 harg3 arg4 harg4 arg5 harg5 arg6 harg6 arg7 harg7 arg12 harg12 arg13 x0 x1 x2 x3 x4 x5 x6 xs0) : V S1x256x128) (fun _ i x => gC (D.q 3) (D.k 3) (D.v 3) (D.d 3) (D.a 3) (256 * T + i) x) :=
  readCov_of_pieces (m := arg13) _ (dgsB c harg1 harg2 harg3 harg4 harg5 harg6 harg7 harg9 harg10 harg11 harg12 harg13 t hS) (View.cover_of_tiledL _ S1x64x128.size (by sl_kernel_rfl)) inb_S4x256x128_S1x256x128_3_0_0

theorem dl0B (t : Tile D T x0 x1 x2 x3 x4 x5 x6) (hS : State D (256 * T + 256) xo8 xo9 xo10 xs0) : R2 (φ := .f32) (vDl (tL0 harg2 harg5 harg6 x1 x4 x5) (kernelRun0_B.sl.v2251 (F := Ideal) c arg1 harg1 arg2 harg2 arg3 harg3 arg4 harg4 arg5 harg5 arg6 harg6 arg7 harg7 arg12 harg12 arg13 x0 x1 x2 x3 x4 x5 x6 xs0)) (fun i x => D.l 0 (256 * T + i) x) :=
  R2.dl t.hT (t.l0 harg2 harg5 harg6) (dg0B c harg1 harg2 harg3 harg4 harg5 harg6 harg7 harg9 harg10 harg11 harg12 harg13 t hS)

theorem dl1B (t : Tile D T x0 x1 x2 x3 x4 x5 x6) (hS : State D (256 * T + 256) xo8 xo9 xo10 xs0) : R2 (φ := .f32) (vDl (tL1 harg2 harg5 harg6 x1 x4 x5) (kernelRun0_B.sl.v2354 (F := Ideal) c arg1 harg1 arg2 harg2 arg3 harg3 arg4 harg4 arg5 harg5 arg6 harg6 arg7 harg7 arg12 harg12 arg13 x0 x1 x2 x3 x4 x5 x6 xs0)) (fun i x => D.l 1 (256 * T + i) x) :=
  R2.dl t.hT (t.l1 harg2 harg5 harg6) (dg1B c harg1 harg2 harg3 harg4 harg5 harg6 harg7 harg9 harg10 harg11 harg12 harg13 t hS)

theorem dl2B (t : Tile D T x0 x1 x2 x3 x4 x5 x6) (hS : State D (256 * T + 256) xo8 xo9 xo10 xs0) : R2 (φ := .f32) (vDl (tL2 harg2 harg5 harg6 x1 x4 x5) (kernelRun0_B.sl.v2457 (F := Ideal) c arg1 harg1 arg2 harg2 arg3 harg3 arg4 harg4 arg5 harg5 arg6 harg6 arg7 harg7 arg12 harg12 arg13 x0 x1 x2 x3 x4 x5 x6 xs0)) (fun i x => D.l 2 (256 * T + i) x) :=
  R2.dl t.hT (t.l2 harg2 harg5 harg6) (dg2B c harg1 harg2 harg3 harg4 harg5 harg6 harg7 harg9 harg10 harg11 harg12 harg13 t hS)

theorem dl3B (t : Tile D T x0 x1 x2 x3 x4 x5 x6) (hS : State D (256 * T + 256) xo8 xo9 xo10 xs0) : R2 (φ := .f32) (vDl (tL3 harg2 harg5 harg6 x1 x4 x5) (kernelRun0_B.sl.v2560 (F := Ideal) c arg1 harg1 arg2 harg2 arg3 harg3 arg4 harg4 arg5 harg5 arg6 harg6 arg7 harg7 arg12 harg12 arg13 x0 x1 x2 x3 x4 x5 x6 xs0)) (fun i x => D.l 3 (256 * T + i) x) :=
  R2.dl t.hT (t.l3 harg2 harg5 harg6) (dg3B c harg1 harg2 harg3 harg4 harg5 harg6 harg7 harg9 harg10 harg11 harg12 harg13 t hS)

theorem wal0B (t : Tile D T x0 x1 x2 x3 x4 x5 x6) (hS : State D (256 * T + 256) xo8 xo9 xo10 xs0) : R2 (φ := .f32) ((View.readAt (Elt Ideal) arg9.view (Rect.unit (s := S16x512) ![0, 0] S16x128.size inb_S16x512_S16x128_0_0).toLoadRect (harg9.unread xo8)) : V S16x128) (fun r x => D.gWal (256 * T + 256) (0 + r) (0 + x)) :=
  hS.h8.load harg9 inb_S16x512_S16x128_0_0

theorem bal0B (t : Tile D T x0 x1 x2 x3 x4 x5 x6) (hS : State D (256 * T + 256) xo8 xo9 xo10 xs0) : R2 (φ := .f32) ((View.readAt (Elt Ideal) arg10.view (Rect.unit (s := S1x512) ![0, 0] S1x128.size inb_S1x512_S1x128_0_0).toLoadRect (harg10.unread xo9)) : V S1x128) (fun _ x => D.gBal (256 * T + 256) (0 + x)) :=
  hS.h9.load harg10 inb_S1x512_S1x128_0_0

theorem wal1B (t : Tile D T x0 x1 x2 x3 x4 x5 x6) (hS : State D (256 * T + 256) xo8 xo9 xo10 xs0) : R2 (φ := .f32) ((kernelRun0_B.sl.v2444 (F := Ideal) c arg9 harg9 xo8) : V S16x128) (fun r x => D.gWal (256 * T + 256) (0 + r) (128 + x)) :=
  hS.h8.load harg9 inb_S16x512_S16x128_0_128

theorem bal1B (t : Tile D T x0 x1 x2 x3 x4 x5 x6) (hS : State D (256 * T + 256) xo8 xo9 xo10 xs0) : R2 (φ := .f32) ((kernelRun0_B.sl.v2451 (F := Ideal) c arg10 harg10 xo9) : V S1x128) (fun _ x => D.gBal (256 * T + 256) (128 + x)) :=
  hS.h9.load harg10 inb_S1x512_S1x128_0_128

theorem wal2B (t : Tile D T x0 x1 x2 x3 x4 x5 x6) (hS : State D (256 * T + 256) xo8 xo9 xo10 xs0) : R2 (φ := .f32) ((kernelRun0_B.sl.v2547 (F := Ideal) c arg9 harg9 xo8) : V S16x128) (fun r x => D.gWal (256 * T + 256) (0 + r) (256 + x)) :=
  hS.h8.load harg9 inb_S16x512_S16x128_0_256

theorem bal2B (t : Tile D T x0 x1 x2 x3 x4 x5 x6) (hS : State D (256 * T + 256) xo8 xo9 xo10 xs0) : R2 (φ := .f32) ((kernelRun0_B.sl.v2554 (F := Ideal) c arg10 harg10 xo9) : V S1x128) (fun _ x => D.gBal (256 * T + 256) (256 + x)) :=
  hS.h9.load harg10 inb_S1x512_S1x128_0_256

theorem wal3B (t : Tile D T x0 x1 x2 x3 x4 x5 x6) (hS : State D (256 * T + 256) xo8 xo9 xo10 xs0) : R2 (φ := .f32) ((kernelRun0_B.sl.v2650 (F := Ideal) c arg9 harg9 xo8) : V S16x128) (fun r x => D.gWal (256 * T + 256) (0 + r) (384 + x)) :=
  hS.h8.load harg9 inb_S16x512_S16x128_0_384

theorem bal3B (t : Tile D T x0 x1 x2 x3 x4 x5 x6) (hS : State D (256 * T + 256) xo8 xo9 xo10 xs0) : R2 (φ := .f32) ((kernelRun0_B.sl.v2657 (F := Ideal) c arg10 harg10 xo9) : V S1x128) (fun _ x => D.gBal (256 * T + 256) (384 + x)) :=
  hS.h9.load harg10 inb_S1x512_S1x128_0_384

theorem ng0B (t : Tile D T x0 x1 x2 x3 x4 x5 x6) (hS : State D (256 * T + 256) xo8 xo9 xo10 xs0) : R2 (φ := .f32) ((View.readAt (Elt Ideal) arg11.view (Rect.unit (s := S1x256) ![0, 0] S1x256.size inb_S1x256_S1x256_0_0).toLoadRect (harg11.unread xo10)) : V S1x256) (fun _ x => D.gNg (256 * T + 256) x) :=
  (hS.h10.load harg11 inb_S1x256_S1x256_0_0).congr fun i _ j _ => by rw [Nat.zero_add]

theorem ng1B (t : Tile D T x0 x1 x2 x3 x4 x5 x6) (hS : State D (256 * T + 256) xo8 xo9 xo10 xs0) : R2 (φ := .f32) ((kernelRun0_B.sl.v304 (F := Ideal) c arg1 harg1 arg2 harg2 arg3 harg3 arg11 harg11 x0 x1 x2 xo10) : V S1x256) (fun _ x => D.gNg (256 * T + 256) x + ∑ i ∈ range 256, D.n 0 (256 * T + i) x) :=
  fun i j => (congrFun (hit0 (m := arg11)) _).trans ((R2.dng (ng0B c harg1 harg2 harg3 harg4 harg5 harg6 harg7 harg9 harg10 harg11 harg12 harg13 t hS) (t.a0 harg1) (t.o0 harg3) (t.r0 harg2)) i j)

theorem ng2B (t : Tile D T x0 x1 x2 x3 x4 x5 x6) (hS : State D (256 * T + 256) xo8 xo9 xo10 xs0) : R2 (φ := .f32) ((kernelRun0_B.sl.v464 (F := Ideal) c arg1 harg1 arg2 harg2 arg3 harg3 arg11 harg11 x0 x1 x2 xo10) : V S1x256) (fun _ x => D.gNg (256 * T + 256) x + ∑ i ∈ range 256, D.n 0 (256 * T + i) x + ∑ i ∈ range 256, D.n 1 (256 * T + i) x) :=
  fun i j => (congrFun (hit0 (m := arg11)) _).trans ((R2.dng (ng1B c harg1 harg2 harg3 harg4 harg5 harg6 harg7 harg9 harg10 harg11 harg12 harg13 t hS) (t.a1 harg1) (t.o1 harg3) (t.r1 harg2)) i j)

theorem ng3B (t : Tile D T x0 x1 x2 x3 x4 x5 x6) (hS : State D (256 * T + 256) xo8 xo9 xo10 xs0) : R2 (φ := .f32) ((kernelRun0_B.sl.v624 (F := Ideal) c arg1 harg1 arg2 harg2 arg3 harg3 arg11 harg11 x0 x1 x2 xo10) : V S1x256) (fun _ x => D.gNg (256 * T + 256) x + ∑ i ∈ range 256, D.n 0 (256 * T + i) x + ∑ i ∈ range 256, D.n 1 (256 * T + i) x + ∑ i ∈ range 256, D.n 2 (256 * T + i) x) :=
  fun i j => (congrFun (hit0 (m := arg11)) _).trans ((R2.dng (ng2B c harg1 harg2 harg3 harg4 harg5 harg6 harg7 harg9 harg10 harg11 harg12 harg13 t hS) (t.a2 harg1) (t.o2 harg3) (t.r2 harg2)) i j)

theorem dzB (t : Tile D T x0 x1 x2 x3 x4 x5 x6) (hS : State D (256 * T + 256) xo8 xo9 xo10 xs0) : R2 (φ := .f32) (vDz (vDz (vDz (vDz (vC S256x16 0x00000000#32) (vDl (tL0 harg2 harg5 harg6 x1 x4 x5) (kernelRun0_B.sl.v2251 (F := Ideal) c arg1 harg1 arg2 harg2 arg3 harg3 arg4 harg4 arg5 harg5 arg6 harg6 arg7 harg7 arg12 harg12 arg13 x0 x1 x2 x3 x4 x5 x6 xs0)) (tW0 harg5 x4)) (vDl (tL1 harg2 harg5 harg6 x1 x4 x5) (kernelRun0_B.sl.v2354 (F := Ideal) c arg1 harg1 arg2 harg2 arg3 harg3 arg4 harg4 arg5 harg5 arg6 harg6 arg7 harg7 arg12 harg12 arg13 x0 x1 x2 x3 x4 x5 x6 xs0)) (tW1 harg5 x4)) (vDl (tL2 harg2 harg5 harg6 x1 x4 x5) (kernelRun0_B.sl.v2457 (F := Ideal) c arg1 harg1 arg2 harg2 arg3 harg3 arg4 harg4 arg5 harg5 arg6 harg6 arg7 harg7 arg12 harg12 arg13 x0 x1 x2 x3 x4 x5 x6 xs0)) (tW2 harg5 x4)) (vDl (tL3 harg2 harg5 harg6 x1 x4 x5) (kernelRun0_B.sl.v2560 (F := Ideal) c arg1 harg1 arg2 harg2 arg3 harg3 arg4 harg4 arg5 harg5 arg6 harg6 arg7 harg7 arg12 harg12 arg13 x0 x1 x2 x3 x4 x5 x6 xs0)) (tW3 harg5 x4)) (fun i j => 0 + ∑ x ∈ range 128, D.l 0 (256 * T + i) x * D.w 0 j x + ∑ x ∈ range 128, D.l 1 (256 * T + i) x * D.w 1 j x + ∑ x ∈ range 128, D.l 2 (256 * T + i) x * D.w 2 j x + ∑ x ∈ range 128, D.l 3 (256 * T + i) x * D.w 3 j x) :=
  (R2.dz (R2.dz (R2.dz (R2.dz (A := fun _ _ => 0) (R2.const S256x16 _ 0 bits_zero) (dl0B c harg1 harg2 harg3 harg4 harg5 harg6 harg7 harg9 harg10 harg11 harg12 harg13 t hS) (t.w0 harg5)) (dl1B c harg1 harg2 harg3 harg4 harg5 harg6 harg7 harg9 harg10 harg11 harg12 harg13 t hS) (t.w1 harg5)) (dl2B c harg1 harg2 harg3 harg4 harg5 harg6 harg7 harg9 harg10 harg11 harg12 harg13 t hS) (t.w2 harg5)) (dl3B c harg1 harg2 harg3 harg4 harg5 harg6 harg7 harg9 harg10 harg11 harg12 harg13 t hS) (t.w3 harg5))

theorem dr0B (t : Tile D T x0 x1 x2 x3 x4 x5 x6) (hS : State D (256 * T + 256) xo8 xo9 xo10 xs0) : R2 (φ := .bf16) (vDr (tA0 harg1 x0) (tO0 harg3 x2) (tR0 harg2 x1) (View.readAt (Elt Ideal) arg7.view (Rect.unit (s := S1x256) ![0, 0] S1x256.size inb_S1x256_S1x256_0_0).toLoadRect (harg7.unread x6))) (fun i j => gR (D.dah 0) (D.oh 0) (D.r 0) D.ng (256 * T + i) j) :=
  R2.dr (t.a0 harg1) (t.o0 harg3) (t.r0 harg2) (t.g harg7)

theorem dr1B (t : Tile D T x0 x1 x2 x3 x4 x5 x6) (hS : State D (256 * T + 256) xo8 xo9 xo10 xs0) : R2 (φ := .bf16) (vDr (tA1 harg1 x0) (tO1 harg3 x2) (tR1 harg2 x1) (View.readAt (Elt Ideal) arg7.view (Rect.unit (s := S1x256) ![0, 0] S1x256.size inb_S1x256_S1x256_0_0).toLoadRect (harg7.unread x6))) (fun i j => gR (D.dah 1) (D.oh 1) (D.r 1) D.ng (256 * T + i) j) :=
  R2.dr (t.a1 harg1) (t.o1 harg3) (t.r1 harg2) (t.g harg7)

theorem dr2B (t : Tile D T x0 x1 x2 x3 x4 x5 x6) (hS : State D (256 * T + 256) xo8 xo9 xo10 xs0) : R2 (φ := .bf16) (vDr (tA2 harg1 x0) (tO2 harg3 x2) (tR2 harg2 x1) (View.readAt (Elt Ideal) arg7.view (Rect.unit (s := S1x256) ![0, 0] S1x256.size inb_S1x256_S1x256_0_0).toLoadRect (harg7.unread x6))) (fun i j => gR (D.dah 2) (D.oh 2) (D.r 2) D.ng (256 * T + i) j) :=
  R2.dr (t.a2 harg1) (t.o2 harg3) (t.r2 harg2) (t.g harg7)

theorem dr3B (t : Tile D T x0 x1 x2 x3 x4 x5 x6) (hS : State D (256 * T + 256) xo8 xo9 xo10 xs0) : R2 (φ := .bf16) (vDr (tA3 harg1 x0) (tO3 harg3 x2) (tR3 harg2 x1) (View.readAt (Elt Ideal) arg7.view (Rect.unit (s := S1x256) ![0, 0] S1x256.size inb_S1x256_S1x256_0_0).toLoadRect (harg7.unread x6))) (fun i j => gR (D.dah 3) (D.oh 3) (D.r 3) D.ng (256 * T + i) j) :=
  R2.dr (t.a3 harg1) (t.o3 harg3) (t.r3 harg2) (t.g harg7)

theorem p7B_z00 (t : Tile D T x0 x1 x2 x3 x4 x5 x6) (hS : State D (256 * T + 256) xo8 xo9 xo10 xs0) : ∀ x, (k0_pay3 (F := Ideal) (kernelRun0_B.sl.r_394 (F := Ideal) c arg1 harg1 arg2 harg2 arg3 harg3 arg4 harg4 arg5 harg5 arg6 harg6 arg7 harg7 arg12 harg12 arg13 x0 x1 x2 x3 x4 x5 x6 xs0) : VB S256x16) x = coe2 (A := 256) (B := 3088) (fun i j => D.gPj (256 * T + i) j) ((Rect.unit (s := S256x3088) ![0, 3072] S256x16.size inb_S256x3088_S256x16_0_3072).emb x) :=
  piece2 (inb := inb_S256x3088_S256x16_0_3072) (dzB c harg1 harg2 harg3 harg4 harg5 harg6 harg7 harg9 harg10 harg11 harg12 harg13 t hS).trunc (fun i _ j _ => D.pz T i j)

theorem p7B_k03 (t : Tile D T x0 x1 x2 x3 x4 x5 x6) (hS : State D (256 * T + 256) xo8 xo9 xo10 xs0) : ∀ x, (k0_pay583 (F := Ideal) k0_pay93 (kernelRun0_B.sl.r_358 (F := Ideal) c arg2 harg2 arg5 harg5 arg6 harg6 x1 x4 x5) (kernelRun0_B.sl.r_359 (F := Ideal) c arg2 harg2 arg5 harg5 arg6 harg6 x1 x4 x5) (kernelRun0_B.sl.r_361 (F := Ideal) c arg2 harg2 x1) (kernelRun0_B.sl.r_364 (F := Ideal) c arg2 harg2 arg5 harg5 arg6 harg6 x1 x4 x5) (kernelRun0_B.sl.r_368 (F := Ideal) c arg1 harg1 arg2 harg2 arg3 harg3 arg5 harg5 arg6 harg6 arg7 harg7 arg12 harg12 x0 x1 x2 x4 x5 x6 xs0) (kernelRun0_B.sl.r_370 (F := Ideal) c arg1 harg1 arg2 harg2 arg3 harg3 arg7 harg7 x0 x1 x2 x6) (k0_pay575 (F := Ideal)) : VB S64x128) x = coe2 (A := 256) (B := 3088) (fun i j => D.gPj (256 * T + i) j) ((Rect.unit (s := S256x3088) ![0, 896] S64x128.size inb_S256x3088_S64x128_0_896).emb x) :=
  piece2 (inb := inb_S256x3088_S64x128_0_896) ((t.head3 harg1 harg2 harg3 harg5 harg6 harg7).chunk (c := 0) (o' := 64) t.hT slices_S256x128_o0_0_S64x128 slices_S256x256_o0_0_S64x256 rfl rfl (t.sp03 harg4) (dsB_03 c harg1 harg2 harg3 harg4 harg5 harg6 harg7 harg9 harg10 harg11 harg12 harg13 t hS)).rdk (fun i _ j hj => D.pk T 0 3 i j (by decide) hj rfl)

theorem p7B_q03 (t : Tile D T x0 x1 x2 x3 x4 x5 x6) (hS : State D (256 * T + 256) xo8 xo9 xo10 xs0) : ∀ x, (k0_pay582 (F := Ideal) k0_pay93 (kernelRun0_B.sl.r_356 (F := Ideal) c arg2 harg2 arg5 harg5 arg6 harg6 x1 x4 x5) (kernelRun0_B.sl.r_357 (F := Ideal) c arg2 harg2 arg5 harg5 arg6 harg6 x1 x4 x5) (kernelRun0_B.sl.r_362 (F := Ideal) c arg1 harg1 arg2 harg2 arg3 harg3 arg7 harg7 x0 x1 x2 x6) (kernelRun0_B.sl.r_365 (F := Ideal) c arg2 harg2 arg5 harg5 arg6 harg6 x1 x4 x5) (kernelRun0_B.sl.r_367 (F := Ideal) c arg4 harg4 x3) (kernelRun0_B.sl.r_370 (F := Ideal) c arg1 harg1 arg2 harg2 arg3 harg3 arg7 harg7 x0 x1 x2 x6) (k0_pay575 (F := Ideal)) : VB S64x128) x = coe2 (A := 256) (B := 3088) (fun i j => D.gPj (256 * T + i) j) ((Rect.unit (s := S256x3088) ![0, 384] S64x128.size inb_S256x3088_S64x128_0_384).emb x) :=
  piece2 (inb := inb_S256x3088_S64x128_0_384) ((t.head3 harg1 harg2 harg3 harg5 harg6 harg7).chunk (c := 0) (o' := 64) t.hT slices_S256x128_o0_0_S64x128 slices_S256x256_o0_0_S64x256 rfl rfl (t.sp03 harg4) (dsB_03 c harg1 harg2 harg3 harg4 harg5 harg6 harg7 harg9 harg10 harg11 harg12 harg13 t hS)).rdq (fun i _ j hj => D.pq T 0 3 i j (by decide) hj rfl)

theorem p7B_v03 (t : Tile D T x0 x1 x2 x3 x4 x5 x6) (hS : State D (256 * T + 256) xo8 xo9 xo10 xs0) : ∀ x, (k0_pay581 (F := Ideal) (kernelRun0_B.sl.r_362 (F := Ideal) c arg1 harg1 arg2 harg2 arg3 harg3 arg7 harg7 x0 x1 x2 x6) (kernelRun0_B.sl.r_366 (F := Ideal) c arg2 harg2 arg5 harg5 arg6 harg6 x1 x4 x5) (kernelRun0_B.sl.r_368 (F := Ideal) c arg1 harg1 arg2 harg2 arg3 harg3 arg5 harg5 arg6 harg6 arg7 harg7 arg12 harg12 x0 x1 x2 x4 x5 x6 xs0) (kernelRun0_B.sl.r_369 (F := Ideal) c arg2 harg2 arg5 harg5 arg6 harg6 x1 x4 x5) : VB S64x256) x = coe2 (A := 256) (B := 3088) (fun i j => D.gPj (256 * T + i) j) ((Rect.unit (s := S256x3088) ![0, 1792] S64x256.size inb_S256x3088_S64x256_0_1792).emb x) :=
  piece2 (inb := inb_S256x3088_S64x256_0_1792) ((t.head3 harg1 harg2 harg3 harg5 harg6 harg7).chunk (c := 0) (o' := 64) t.hT slices_S256x128_o0_0_S64x128 slices_S256x256_o0_0_S64x256 rfl rfl (t.sp03 harg4) (dsB_03 c harg1 harg2 harg3 harg4 harg5 harg6 harg7 harg9 harg10 harg11 harg12 harg13 t hS)).rdv (fun i _ j hj => D.pv T 0 3 i j (by decide) hj rfl)

theorem p7B_k02 (t : Tile D T x0 x1 x2 x3 x4 x5 x6) (hS : State D (256 * T + 256) xo8 xo9 xo10 xs0) : ∀ x, (k0_pay552 (F := Ideal) (kernelRun0_B.sl.r_340 (F := Ideal) c arg2 harg2 arg5 harg5 arg6 harg6 x1 x4 x5) (kernelRun0_B.sl.r_341 (F := Ideal) c arg2 harg2 arg5 harg5 arg6 harg6 x1 x4 x5) (kernelRun0_B.sl.r_352 (F := Ideal) c arg1 harg1 arg2 harg2 arg3 harg3 arg5 harg5 arg6 harg6 arg7 harg7 x0 x1 x2 x4 x5 x6) (kernelRun0_B.sl.r_353 (F := Ideal) c arg1 harg1 arg2 harg2 arg3 harg3 arg5 harg5 arg6 harg6 arg7 harg7 arg12 harg12 x0 x1 x2 x4 x5 x6 xs0) : VB S64x128) x = coe2 (A := 256) (B := 3088) (fun i j => D.gPj (256 * T + i) j) ((Rect.unit (s := S256x3088) ![0, 768] S64x128.size inb_S256x3088_S64x128_0_768).emb x) :=
  piece2 (inb := inb_S256x3088_S64x128_0_768) ((t.head2 harg1 harg2 harg3 harg5 harg6 harg7).chunk (c := 0) (o' := 64) t.hT slices_S256x128_o0_0_S64x128 slices_S256x256_o0_0_S64x256 rfl rfl (t.sp02 harg4) (dsB_02 c harg1 harg2 harg3 harg4 harg5 harg6 harg7 harg9 harg10 harg11 harg12 harg13 t hS)).rdk (fun i _ j hj => D.pk T 0 2 i j (by decide) hj rfl)

theorem p7B_q02 (t : Tile D T x0 x1 x2 x3 x4 x5 x6) (hS : State D (256 * T + 256) xo8 xo9 xo10 xs0) : ∀ x, (k0_pay551 (F := Ideal) (kernelRun0_B.sl.r_337 (F := Ideal) c arg2 harg2 arg5 harg5 arg6 harg6 x1 x4 x5) (kernelRun0_B.sl.r_339 (F := Ideal) c arg2 harg2 arg5 harg5 arg6 harg6 x1 x4 x5) (kernelRun0_B.sl.r_350 (F := Ideal) c arg1 harg1 arg2 harg2 arg3 harg3 arg4 harg4 arg7 harg7 x0 x1 x2 x3 x6) (kernelRun0_B.sl.r_351 (F := Ideal) c arg1 harg1 arg2 harg2 arg3 harg3 arg5 harg5 arg6 harg6 arg7 harg7 x0 x1 x2 x4 x5 x6) : VB S64x128) x = coe2 (A := 256) (B := 3088) (fun i j => D.gPj (256 * T + i) j) ((Rect.unit (s := S256x3088) ![0, 256] S64x128.size inb_S256x3088_S64x128_0_256).emb x) :=
  piece2 (inb := inb_S256x3088_S64x128_0_256) ((t.head2 harg1 harg2 harg3 harg5 harg6 harg7).chunk (c := 0) (o' := 64) t.hT slices_S256x128_o0_0_S64x128 slices_S256x256_o0_0_S64x256 rfl rfl (t.sp02 harg4) (dsB_02 c harg1 harg2 harg3 harg4 harg5 harg6 harg7 harg9 harg10 harg11 harg12 harg13 t hS)).rdq (fun i _ j hj => D.pq T 0 2 i j (by decide) hj rfl)

theorem p7B_v02 (t : Tile D T x0 x1 x2 x3 x4 x5 x6) (hS : State D (256 * T + 256) xo8 xo9 xo10 xs0) : ∀ x, (k0_pay550 (F := Ideal) (kernelRun0_B.sl.r_347 (F := Ideal) c arg2 harg2 arg5 harg5 arg6 harg6 x1 x4 x5) (kernelRun0_B.sl.r_349 (F := Ideal) c arg1 harg1 arg2 harg2 arg3 harg3 arg5 harg5 arg6 harg6 arg7 harg7 arg12 harg12 x0 x1 x2 x4 x5 x6 xs0) (kernelRun0_B.sl.r_354 (F := Ideal) c arg2 harg2 arg5 harg5 arg6 harg6 x1 x4 x5) (kernelRun0_B.sl.r_355 (F := Ideal) c arg1 harg1 arg2 harg2 arg3 harg3 arg7 harg7 x0 x1 x2 x6) : VB S64x256) x = coe2 (A := 256) (B := 3088) (fun i j => D.gPj (256 * T + i) j) ((Rect.unit (s := S256x3088) ![0, 1536] S64x256.size inb_S256x3088_S64x256_0_1536).emb x) :=
  piece2 (inb := inb_S256x3088_S64x256_0_1536) ((t.head2 harg1 harg2 harg3 harg5 harg6 harg7).chunk (c := 0) (o' := 64) t.hT slices_S256x128_o0_0_S64x128 slices_S256x256_o0_0_S64x256 rfl rfl (t.sp02 harg4) (dsB_02 c harg1 harg2 harg3 harg4 harg5 harg6 harg7 harg9 harg10 harg11 harg12 harg13 t hS)).rdv (fun i _ j hj => D.pv T 0 2 i j (by decide) hj rfl)

theorem p7B_k01 (t : Tile D T x0 x1 x2 x3 x4 x5 x6) (hS : State D (256 * T + 256) xo8 xo9 xo10 xs0) : ∀ x, (k0_pay521 (F := Ideal) (kernelRun0_B.sl.r_318 (F := Ideal) c arg2 harg2 arg5 harg5 arg6 harg6 x1 x4 x5) (kernelRun0_B.sl.r_319 (F := Ideal) c arg2 harg2 arg5 harg5 arg6 harg6 x1 x4 x5) (kernelRun0_B.sl.r_331 (F := Ideal) c arg1 harg1 arg2 harg2 arg3 harg3 arg5 harg5 arg6 harg6 arg7 harg7 x0 x1 x2 x4 x5 x6) (kernelRun0_B.sl.r_332 (F := Ideal) c arg1 harg1 arg2 harg2 arg3 harg3 arg5 harg5 arg6 harg6 arg7 harg7 arg12 harg12 x0 x1 x2 x4 x5 x6 xs0) : VB S64x128) x = coe2 (A := 256) (B := 3088) (fun i j => D.gPj (256 * T + i) j) ((Rect.unit (s := S256x3088) ![0, 640] S64x128.size inb_S256x3088_S64x128_0_640).emb x) :=
  piece2 (inb := inb_S256x3088_S64x128_0_640) ((t.head1 harg1 harg2 harg3 harg5 harg6 harg7).chunk (c := 0) (o' := 64) t.hT slices_S256x128_o0_0_S64x128 slices_S256x256_o0_0_S64x256 rfl rfl (t.sp01 harg4) (dsB_01 c harg1 harg2 harg3 harg4 harg5 harg6 harg7 harg9 harg10 harg11 harg12 harg13 t hS)).rdk (fun i _ j hj => D.pk T 0 1 i j (by decide) hj rfl)

theorem p7B_q01 (t : Tile D T x0 x1 x2 x3 x4 x5 x6) (hS : State D (256 * T + 256) xo8 xo9 xo10 xs0) : ∀ x, (kernelRun0_B.sl.r_333 (F := Ideal) c arg1 harg1 arg2 harg2 arg3 harg3 arg4 harg4 arg5 harg5 arg6 harg6 arg7 harg7 x0 x1 x2 x3 x4 x5 x6 : VB S64x128) x = coe2 (A := 256) (B := 3088) (fun i j => D.gPj (256 * T + i) j) ((Rect.unit (s := S256x3088) ![0, 128] S64x128.size inb_S256x3088_S64x128_0_128).emb x) :=
  piece2 (inb := inb_S256x3088_S64x128_0_128) ((t.head1 harg1 harg2 harg3 harg5 harg6 harg7).chunk (c := 0) (o' := 64) t.hT slices_S256x128_o0_0_S64x128 slices_S256x256_o0_0_S64x256 rfl rfl (t.sp01 harg4) (dsB_01 c harg1 harg2 harg3 harg4 harg5 harg6 harg7 harg9 harg10 harg11 harg12 harg13 t hS)).rdq (fun i _ j hj => D.pq T 0 1 i j (by decide) hj rfl)

theorem p7B_v01 (t : Tile D T x0 x1 x2 x3 x4 x5 x6) (hS : State D (256 * T + 256) xo8 xo9 xo10 xs0) : ∀ x, (k0_pay519 (F := Ideal) k0_pay93 (kernelRun0_B.sl.r_322 (F := Ideal) c arg1 harg1 arg2 harg2 arg3 harg3 arg7 harg7 x0 x1 x2 x6) (kernelRun0_B.sl.r_324 (F := Ideal) c arg2 harg2 arg5 harg5 arg6 harg6 x1 x4 x5) (kernelRun0_B.sl.r_325 (F := Ideal) c arg2 harg2 arg5 harg5 arg6 harg6 x1 x4 x5) (kernelRun0_B.sl.r_326 (F := Ideal) c arg2 harg2 arg5 harg5 arg6 harg6 x1 x4 x5) (kernelRun0_B.sl.v1974 (F := Ideal) c arg1 harg1 arg2 harg2 arg3 harg3 arg5 harg5 arg6 harg6 arg7 harg7 arg12 harg12 x0 x1 x2 x4 x5 x6 xs0) : VB S64x256) x = coe2 (A := 256) (B := 3088) (fun i j => D.gPj (256 * T + i) j) ((Rect.unit (s := S256x3088) ![0, 1280] S64x256.size inb_S256x3088_S64x256_0_1280).emb x) :=
  piece2 (inb := inb_S256x3088_S64x256_0_1280) ((t.head1 harg1 harg2 harg3 harg5 harg6 harg7).chunk (c := 0) (o' := 64) t.hT slices_S256x128_o0_0_S64x128 slices_S256x256_o0_0_S64x256 rfl rfl (t.sp01 harg4) (dsB_01 c harg1 harg2 harg3 harg4 harg5 harg6 harg7 harg9 harg10 harg11 harg12 harg13 t hS)).rdv (fun i _ j hj => D.pv T 0 1 i j (by decide) hj rfl)

theorem p7B_k00 (t : Tile D T x0 x1 x2 x3 x4 x5 x6) (hS : State D (256 * T + 256) xo8 xo9 xo10 xs0) : ∀ x, (k0_pay490 (F := Ideal) k0_pay93 (kernelRun0_B.sl.r_296 (F := Ideal) c arg2 harg2 arg5 harg5 arg6 harg6 x1 x4 x5) (kernelRun0_B.sl.r_297 (F := Ideal) c arg2 harg2 arg5 harg5 arg6 harg6 x1 x4 x5) (kernelRun0_B.sl.r_299 (F := Ideal) c arg2 harg2 x1) (kernelRun0_B.sl.r_302 (F := Ideal) c arg2 harg2 arg5 harg5 arg6 harg6 x1 x4 x5) (kernelRun0_B.sl.r_306 (F := Ideal) c arg1 harg1 arg2 harg2 arg3 harg3 arg5 harg5 arg6 harg6 arg7 harg7 arg12 harg12 x0 x1 x2 x4 x5 x6 xs0) (kernelRun0_B.sl.r_308 (F := Ideal) c arg1 harg1 arg2 harg2 arg3 harg3 arg7 harg7 x0 x1 x2 x6) (kernelRun0_B.sl.r_309 (F := Ideal) c arg2 harg2 x1) (kernelRun0_B.sl.cst_659 (F := Ideal)) : VB S64x128) x = coe2 (A := 256) (B := 3088) (fun i j => D.gPj (256 * T + i) j) ((Rect.unit (s := S256x3088) ![0, 512] S64x128.size inb_S256x3088_S64x128_0_512).emb x) :=
  piece2 (inb := inb_S256x3088_S64x128_0_512) ((t.head0 harg1 harg2 harg3 harg5 harg6 harg7).chunk (c := 0) (o' := 64) t.hT slices_S256x128_o0_0_S64x128 slices_S256x256_o0_0_S64x256 rfl rfl (t.sp00 harg4) (dsB_00 c harg1 harg2 harg3 harg4 harg5 harg6 harg7 harg9 harg10 harg11 harg12 harg13 t hS)).rdk (fun i _ j hj => D.pk T 0 0 i j (by decide) hj rfl)

theorem p7B_q00 (t : Tile D T x0 x1 x2 x3 x4 x5 x6) (hS : State D (256 * T + 256) xo8 xo9 xo10 xs0) : ∀ x, (k0_pay489 (F := Ideal) k0_pay93 (kernelRun0_B.sl.r_294 (F := Ideal) c arg2 harg2 arg5 harg5 arg6 harg6 x1 x4 x5) (kernelRun0_B.sl.r_295 (F := Ideal) c arg2 harg2 arg5 harg5 arg6 harg6 x1 x4 x5) (kernelRun0_B.sl.r_300 (F := Ideal) c arg1 harg1 arg2 harg2 arg3 harg3 arg7 harg7 x0 x1 x2 x6) (kernelRun0_B.sl.r_303 (F := Ideal) c arg2 harg2 arg5 harg5 arg6 harg6 x1 x4 x5) (kernelRun0_B.sl.r_305 (F := Ideal) c arg4 harg4 x3) (kernelRun0_B.sl.r_308 (F := Ideal) c arg1 harg1 arg2 harg2 arg3 harg3 arg7 harg7 x0 x1 x2 x6) (kernelRun0_B.sl.r_309 (F := Ideal) c arg2 harg2 x1) (kernelRun0_B.sl.cst_659 (F := Ideal)) : VB S64x128) x = coe2 (A := 256) (B := 3088) (fun i j => D.gPj (256 * T + i) j) ((Rect.unit (s := S256x3088) ![0, 0] S64x128.size inb_S256x3088_S64x128_0_0).emb x) :=
  piece2 (inb := inb_S256x3088_S64x128_0_0) ((t.head0 harg1 harg2 harg3 harg5 harg6 harg7).chunk (c := 0) (o' := 64) t.hT slices_S256x128_o0_0_S64x128 slices_S256x256_o0_0_S64x256 rfl rfl (t.sp00 harg4) (dsB_00 c harg1 harg2 harg3 harg4 harg5 harg6 harg7 harg9 harg10 harg11 harg12 harg13 t hS)).rdq (fun i _ j hj => D.pq T 0 0 i j (by decide) hj rfl)

theorem p7B_v00 (t : Tile D T x0 x1 x2 x3 x4 x5 x6) (hS : State D (256 * T + 256) xo8 xo9 xo10 xs0) : ∀ x, (k0_pay488 (F := Ideal) (kernelRun0_B.sl.r_300 (F := Ideal) c arg1 harg1 arg2 harg2 arg3 harg3 arg7 harg7 x0 x1 x2 x6) (kernelRun0_B.sl.r_304 (F := Ideal) c arg2 harg2 arg5 harg5 arg6 harg6 x1 x4 x5) (kernelRun0_B.sl.r_306 (F := Ideal) c arg1 harg1 arg2 harg2 arg3 harg3 arg5 harg5 arg6 harg6 arg7 harg7 arg12 harg12 x0 x1 x2 x4 x5 x6 xs0) (kernelRun0_B.sl.r_307 (F := Ideal) c arg2 harg2 arg5 harg5 arg6 harg6 x1 x4 x5) : VB S64x256) x = coe2 (A := 256) (B := 3088) (fun i j => D.gPj (256 * T + i) j) ((Rect.unit (s := S256x3088) ![0, 1024] S64x256.size inb_S256x3088_S64x256_0_1024).emb x) :=
  piece2 (inb := inb_S256x3088_S64x256_0_1024) ((t.head0 harg1 harg2 harg3 harg5 harg6 harg7).chunk (c := 0) (o' := 64) t.hT slices_S256x128_o0_0_S64x128 slices_S256x256_o0_0_S64x256 rfl rfl (t.sp00 harg4) (dsB_00 c harg1 harg2 harg3 harg4 harg5 harg6 harg7 harg9 harg10 harg11 harg12 harg13 t hS)).rdv (fun i _ j hj => D.pv T 0 0 i j (by decide) hj rfl)

theorem p7B_k13 (t : Tile D T x0 x1 x2 x3 x4 x5 x6) (hS : State D (256 * T + 256) xo8 xo9 xo10 xs0) : ∀ x, (k0_pay458 (F := Ideal) (kernelRun0_B.sl.r_277 (F := Ideal) c arg2 harg2 arg5 harg5 arg6 harg6 x1 x4 x5) (kernelRun0_B.sl.r_278 (F := Ideal) c arg2 harg2 arg5 harg5 arg6 harg6 x1 x4 x5) (kernelRun0_B.sl.r_290 (F := Ideal) c arg1 harg1 arg2 harg2 arg3 harg3 arg5 harg5 arg6 harg6 arg7 harg7 x0 x1 x2 x4 x5 x6) (kernelRun0_B.sl.r_291 (F := Ideal) c arg2 harg2 x1) (kernelRun0_B.sl.r_292 (F := Ideal) c arg1 harg1 arg2 harg2 arg3 harg3 arg5 harg5 arg6 harg6 arg7 harg7 arg12 harg12 x0 x1 x2 x4 x5 x6 xs0) (kernelRun0_B.sl.cst_630 (F := Ideal)) : VB S64x128) x = coe2 (A := 256) (B := 3088) (fun i j => D.gPj (256 * T + i) j) ((Rect.unit (s := S256x3088) ![64, 896] S64x128.size inb_S256x3088_S64x128_64_896).emb x) :=
  piece2 (inb := inb_S256x3088_S64x128_64_896) ((t.head3 harg1 harg2 harg3 harg5 harg6 harg7).chunk (c := 1) (o' := 128) t.hT slices_S256x128_o64_0_S64x128 slices_S256x256_o64_0_S64x256 rfl rfl (t.sp13 harg4) (dsB_13 c harg1 harg2 harg3 harg4 harg5 harg6 harg7 harg9 harg10 harg11 harg12 harg13 t hS)).rdk (fun i _ j hj => D.pk T 64 3 i j (by decide) hj rfl)

theorem p7B_q13 (t : Tile D T x0 x1 x2 x3 x4 x5 x6) (hS : State D (256 * T + 256) xo8 xo9 xo10 xs0) : ∀ x, (k0_pay457 (F := Ideal) (kernelRun0_B.sl.r_275 (F := Ideal) c arg2 harg2 arg5 harg5 arg6 harg6 x1 x4 x5) (kernelRun0_B.sl.r_276 (F := Ideal) c arg2 harg2 arg5 harg5 arg6 harg6 x1 x4 x5) (kernelRun0_B.sl.r_288 (F := Ideal) c arg1 harg1 arg2 harg2 arg3 harg3 arg4 harg4 arg7 harg7 x0 x1 x2 x3 x6) (kernelRun0_B.sl.r_289 (F := Ideal) c arg1 harg1 arg2 harg2 arg3 harg3 arg5 harg5 arg6 harg6 arg7 harg7 x0 x1 x2 x4 x5 x6) : VB S64x128) x = coe2 (A := 256) (B := 3088) (fun i j => D.gPj (256 * T + i) j) ((Rect.unit (s := S256x3088) ![64, 384] S64x128.size inb_S256x3088_S64x128_64_384).emb x) :=
  piece2 (inb := inb_S256x3088_S64x128_64_384) ((t.head3 harg1 harg2 harg3 harg5 harg6 harg7).chunk (c := 1) (o' := 128) t.hT slices_S256x128_o64_0_S64x128 slices_S256x256_o64_0_S64x256 rfl rfl (t.sp13 harg4) (dsB_13 c harg1 harg2 harg3 harg4 harg5 harg6 harg7 harg9 harg10 harg11 harg12 harg13 t hS)).rdq (fun i _ j hj => D.pq T 64 3 i j (by decide) hj rfl)

theorem p7B_v13 (t : Tile D T x0 x1 x2 x3 x4 x5 x6) (hS : State D (256 * T + 256) xo8 xo9 xo10 xs0) : ∀ x, (k0_pay456 (F := Ideal) (kernelRun0_B.sl.r_280 (F := Ideal) c arg1 harg1 arg2 harg2 arg3 harg3 arg7 harg7 x0 x1 x2 x6) (kernelRun0_B.sl.r_284 (F := Ideal) c arg2 harg2 arg5 harg5 arg6 harg6 x1 x4 x5) (kernelRun0_B.sl.r_286 (F := Ideal) c arg1 harg1 arg2 harg2 arg3 harg3 arg5 harg5 arg6 harg6 arg7 harg7 arg12 harg12 x0 x1 x2 x4 x5 x6 xs0) (kernelRun0_B.sl.r_287 (F := Ideal) c arg2 harg2 arg5 harg5 arg6 harg6 x1 x4 x5) : VB S64x256) x = coe2 (A := 256) (B := 3088) (fun i j => D.gPj (256 * T + i) j) ((Rect.unit (s := S256x3088) ![64, 1792] S64x256.size inb_S256x3088_S64x256_64_1792).emb x) :=
  piece2 (inb := inb_S256x3088_S64x256_64_1792) ((t.head3 harg1 harg2 harg3 harg5 harg6 harg7).chunk (c := 1) (o' := 128) t.hT slices_S256x128_o64_0_S64x128 slices_S256x256_o64_0_S64x256 rfl rfl (t.sp13 harg4) (dsB_13 c harg1 harg2 harg3 harg4 harg5 harg6 harg7 harg9 harg10 harg11 harg12 harg13 t hS)).rdv (fun i _ j hj => D.pv T 64 3 i j (by decide) hj rfl)

theorem p7B_k12 (t : Tile D T x0 x1 x2 x3 x4 x5 x6) (hS : State D (256 * T + 256) xo8 xo9 xo10 xs0) : ∀ x, (k0_pay427 (F := Ideal) (kernelRun0_B.sl.r_256 (F := Ideal) c arg2 harg2 arg5 harg5 arg6 harg6 x1 x4 x5) (kernelRun0_B.sl.r_257 (F := Ideal) c arg2 harg2 arg5 harg5 arg6 harg6 x1 x4 x5) (kernelRun0_B.sl.r_270 (F := Ideal) c arg1 harg1 arg2 harg2 arg3 harg3 arg5 harg5 arg6 harg6 arg7 harg7 x0 x1 x2 x4 x5 x6) (kernelRun0_B.sl.r_271 (F := Ideal) c arg1 harg1 arg2 harg2 arg3 harg3 arg5 harg5 arg6 harg6 arg7 harg7 arg12 harg12 x0 x1 x2 x4 x5 x6 xs0) : VB S64x128) x = coe2 (A := 256) (B := 3088) (fun i j => D.gPj (256 * T + i) j) ((Rect.unit (s := S256x3088) ![64, 768] S64x128.size inb_S256x3088_S64x128_64_768).emb x) :=
  piece2 (inb := inb_S256x3088_S64x128_64_768) ((t.head2 harg1 harg2 harg3 harg5 harg6 harg7).chunk (c := 1) (o' := 128) t.hT slices_S256x128_o64_0_S64x128 slices_S256x256_o64_0_S64x256 rfl rfl (t.sp12 harg4) (dsB_12 c harg1 harg2 harg3 harg4 harg5 harg6 harg7 harg9 harg10 harg11 harg12 harg13 t hS)).rdk (fun i _ j hj => D.pk T 64 2 i j (by decide) hj rfl)

theorem p7B_q12 (t : Tile D T x0 x1 x2 x3 x4 x5 x6) (hS : State D (256 * T + 256) xo8 xo9 xo10 xs0) : ∀ x, (k0_pay426 (F := Ideal) (kernelRun0_B.sl.r_272 (F := Ideal) c arg1 harg1 arg2 harg2 arg3 harg3 arg4 harg4 arg5 harg5 arg6 harg6 arg7 harg7 x0 x1 x2 x3 x4 x5 x6) (kernelRun0_B.sl.cst_601 (F := Ideal)) : VB S64x128) x = coe2 (A := 256) (B := 3088) (fun i j => D.gPj (256 * T + i) j) ((Rect.unit (s := S256x3088) ![64, 256] S64x128.size inb_S256x3088_S64x128_64_256).emb x) :=
  piece2 (inb := inb_S256x3088_S64x128_64_256) ((t.head2 harg1 harg2 harg3 harg5 harg6 harg7).chunk (c := 1) (o' := 128) t.hT slices_S256x128_o64_0_S64x128 slices_S256x256_o64_0_S64x256 rfl rfl (t.sp12 harg4) (dsB_12 c harg1 harg2 harg3 harg4 harg5 harg6 harg7 harg9 harg10 harg11 harg12 harg13 t hS)).rdq (fun i _ j hj => D.pq T 64 2 i j (by decide) hj rfl)

theorem p7B_v12 (t : Tile D T x0 x1 x2 x3 x4 x5 x6) (hS : State D (256 * T + 256) xo8 xo9 xo10 xs0) : ∀ x, (k0_pay424 (F := Ideal) k0_pay93 (kernelRun0_B.sl.r_257 (F := Ideal) c arg2 harg2 arg5 harg5 arg6 harg6 x1 x4 x5) (kernelRun0_B.sl.r_259 (F := Ideal) c arg2 harg2 x1) (kernelRun0_B.sl.r_261 (F := Ideal) c arg1 harg1 arg2 harg2 arg3 harg3 arg7 harg7 x0 x1 x2 x6) (kernelRun0_B.sl.r_263 (F := Ideal) c arg2 harg2 arg5 harg5 arg6 harg6 x1 x4 x5) (kernelRun0_B.sl.r_264 (F := Ideal) c arg2 harg2 arg5 harg5 arg6 harg6 x1 x4 x5) (kernelRun0_B.sl.v1674 (F := Ideal) c arg1 harg1 arg2 harg2 arg3 harg3 arg5 harg5 arg6 harg6 arg7 harg7 arg12 harg12 x0 x1 x2 x4 x5 x6 xs0) : VB S64x256) x = coe2 (A := 256) (B := 3088) (fun i j => D.gPj (256 * T + i) j) ((Rect.unit (s := S256x3088) ![64, 1536] S64x256.size inb_S256x3088_S64x256_64_1536).emb x) :=
  piece2 (inb := inb_S256x3088_S64x256_64_1536) ((t.head2 harg1 harg2 harg3 harg5 harg6 harg7).chunk (c := 1) (o' := 128) t.hT slices_S256x128_o64_0_S64x128 slices_S256x256_o64_0_S64x256 rfl rfl (t.sp12 harg4) (dsB_12 c harg1 harg2 harg3 harg4 harg5 harg6 harg7 harg9 harg10 harg11 harg12 harg13 t hS)).rdv (fun i _ j hj => D.pv T 64 2 i j (by decide) hj rfl)

theorem p7B_k11 (t : Tile D T x0 x1 x2 x3 x4 x5 x6) (hS : State D (256 * T + 256) xo8 xo9 xo10 xs0) : ∀ x, (k0_pay396 (F := Ideal) k0_pay93 (kernelRun0_B.sl.r_237 (F := Ideal) c arg2 harg2 arg5 harg5 arg6 harg6 x1 x4 x5) (kernelRun0_B.sl.r_238 (F := Ideal) c arg2 harg2 arg5 harg5 arg6 harg6 x1 x4 x5) (kernelRun0_B.sl.r_240 (F := Ideal) c arg2 harg2 x1) (kernelRun0_B.sl.r_241 (F := Ideal) c arg1 harg1 arg2 harg2 arg3 harg3 arg7 harg7 x0 x1 x2 x6) (kernelRun0_B.sl.r_243 (F := Ideal) c arg2 harg2 arg5 harg5 arg6 harg6 x1 x4 x5) (kernelRun0_B.sl.r_247 (F := Ideal) c arg1 harg1 arg2 harg2 arg3 harg3 arg5 harg5 arg6 harg6 arg7 harg7 arg12 harg12 x0 x1 x2 x4 x5 x6 xs0) : VB S64x128) x = coe2 (A := 256) (B := 3088) (fun i j => D.gPj (256 * T + i) j) ((Rect.unit (s := S256x3088) ![64, 640] S64x128.size inb_S256x3088_S64x128_64_640).emb x) :=
  piece2 (inb := inb_S256x3088_S64x128_64_640) ((t.head1 harg1 harg2 harg3 harg5 harg6 harg7).chunk (c := 1) (o' := 128) t.hT slices_S256x128_o64_0_S64x128 slices_S256x256_o64_0_S64x256 rfl rfl (t.sp11 harg4) (dsB_11 c harg1 harg2 harg3 harg4 harg5 harg6 harg7 harg9 harg10 harg11 harg12 harg13 t hS)).rdk (fun i _ j hj => D.pk T 64 1 i j (by decide) hj rfl)

theorem p7B_q11 (t : Tile D T x0 x1 x2 x3 x4 x5 x6) (hS : State D (256 * T + 256) xo8 xo9 xo10 xs0) : ∀ x, (k0_pay395 (F := Ideal) k0_pay93 (kernelRun0_B.sl.r_235 (F := Ideal) c arg2 harg2 arg5 harg5 arg6 harg6 x1 x4 x5) (kernelRun0_B.sl.r_236 (F := Ideal) c arg2 harg2 arg5 harg5 arg6 harg6 x1 x4 x5) (kernelRun0_B.sl.r_240 (F := Ideal) c arg2 harg2 x1) (kernelRun0_B.sl.r_241 (F := Ideal) c arg1 harg1 arg2 harg2 arg3 harg3 arg7 harg7 x0 x1 x2 x6) (kernelRun0_B.sl.r_244 (F := Ideal) c arg2 harg2 arg5 harg5 arg6 harg6 x1 x4 x5) (kernelRun0_B.sl.r_246 (F := Ideal) c arg4 harg4 x3) : VB S64x128) x = coe2 (A := 256) (B := 3088) (fun i j => D.gPj (256 * T + i) j) ((Rect.unit (s := S256x3088) ![64, 128] S64x128.size inb_S256x3088_S64x128_64_128).emb x) :=
  piece2 (inb := inb_S256x3088_S64x128_64_128) ((t.head1 harg1 harg2 harg3 harg5 harg6 harg7).chunk (c := 1) (o' := 128) t.hT slices_S256x128_o64_0_S64x128 slices_S256x256_o64_0_S64x256 rfl rfl (t.sp11 harg4) (dsB_11 c harg1 harg2 harg3 harg4 harg5 harg6 harg7 harg9 harg10 harg11 harg12 harg13 t hS)).rdq (fun i _ j hj => D.pq T 64 1 i j (by decide) hj rfl)

theorem p7B_v11 (t : Tile D T x0 x1 x2 x3 x4 x5 x6) (hS : State D (256 * T + 256) xo8 xo9 xo10 xs0) : ∀ x, (k0_pay394 (F := Ideal) (kernelRun0_B.sl.r_241 (F := Ideal) c arg1 harg1 arg2 harg2 arg3 harg3 arg7 harg7 x0 x1 x2 x6) (kernelRun0_B.sl.r_245 (F := Ideal) c arg2 harg2 arg5 harg5 arg6 harg6 x1 x4 x5) (kernelRun0_B.sl.r_247 (F := Ideal) c arg1 harg1 arg2 harg2 arg3 harg3 arg5 harg5 arg6 harg6 arg7 harg7 arg12 harg12 x0 x1 x2 x4 x5 x6 xs0) (kernelRun0_B.sl.r_248 (F := Ideal) c arg2 harg2 arg5 harg5 arg6 harg6 x1 x4 x5) : VB S64x256) x = coe2 (A := 256) (B := 3088) (fun i j => D.gPj (256 * T + i) j) ((Rect.unit (s := S256x3088) ![64, 1280] S64x256.size inb_S256x3088_S64x256_64_1280).emb x) :=
  piece2 (inb := inb_S256x3088_S64x256_64_1280) ((t.head1 harg1 harg2 harg3 harg5 harg6 harg7).chunk (c := 1) (o' := 128) t.hT slices_S256x128_o64_0_S64x128 slices_S256x256_o64_0_S64x256 rfl rfl (t.sp11 harg4) (dsB_11 c harg1 harg2 harg3 harg4 harg5 harg6 harg7 harg9 harg10 harg11 harg12 harg13 t hS)).rdv (fun i _ j hj => D.pv T 64 1 i j (by decide) hj rfl)

theorem p7B_k10 (t : Tile D T x0 x1 x2 x3 x4 x5 x6) (hS : State D (256 * T + 256) xo8 xo9 xo10 xs0) : ∀ x, (k0_pay366 (F := Ideal) (kernelRun0_B.sl.r_219 (F := Ideal) c arg2 harg2 arg5 harg5 arg6 harg6 x1 x4 x5) (kernelRun0_B.sl.r_220 (F := Ideal) c arg2 harg2 arg5 harg5 arg6 harg6 x1 x4 x5) (kernelRun0_B.sl.r_222 (F := Ideal) c arg2 harg2 x1) (kernelRun0_B.sl.r_229 (F := Ideal) c arg1 harg1 arg2 harg2 arg3 harg3 arg5 harg5 arg6 harg6 arg7 harg7 arg12 harg12 x0 x1 x2 x4 x5 x6 xs0) (kernelRun0_B.sl.r_233 (F := Ideal) c arg1 harg1 arg2 harg2 arg3 harg3 arg5 harg5 arg6 harg6 arg7 harg7 x0 x1 x2 x4 x5 x6) : VB S64x128) x = coe2 (A := 256) (B := 3088) (fun i j => D.gPj (256 * T + i) j) ((Rect.unit (s := S256x3088) ![64, 512] S64x128.size inb_S256x3088_S64x128_64_512).emb x) :=
  piece2 (inb := inb_S256x3088_S64x128_64_512) ((t.head0 harg1 harg2 harg3 harg5 harg6 harg7).chunk (c := 1) (o' := 128) t.hT slices_S256x128_o64_0_S64x128 slices_S256x256_o64_0_S64x256 rfl rfl (t.sp10 harg4) (dsB_10 c harg1 harg2 harg3 harg4 harg5 harg6 harg7 harg9 harg10 harg11 harg12 harg13 t hS)).rdk (fun i _ j hj => D.pk T 64 0 i j (by decide) hj rfl)

theorem p7B_q10 (t : Tile D T x0 x1 x2 x3 x4 x5 x6) (hS : State D (256 * T + 256) xo8 xo9 xo10 xs0) : ∀ x, (k0_pay365 (F := Ideal) (kernelRun0_B.sl.r_217 (F := Ideal) c arg2 harg2 arg5 harg5 arg6 harg6 x1 x4 x5) (kernelRun0_B.sl.r_218 (F := Ideal) c arg2 harg2 arg5 harg5 arg6 harg6 x1 x4 x5) (kernelRun0_B.sl.r_231 (F := Ideal) c arg1 harg1 arg2 harg2 arg3 harg3 arg4 harg4 arg7 harg7 x0 x1 x2 x3 x6) (kernelRun0_B.sl.r_232 (F := Ideal) c arg1 harg1 arg2 harg2 arg3 harg3 arg5 harg5 arg6 harg6 arg7 harg7 x0 x1 x2 x4 x5 x6) : VB S64x128) x = coe2 (A := 256) (B := 3088) (fun i j => D.gPj (256 * T + i) j) ((Rect.unit (s := S256x3088) ![64, 0] S64x128.size inb_S256x3088_S64x128_64_0).emb x) :=
  piece2 (inb := inb_S256x3088_S64x128_64_0) ((t.head0 harg1 harg2 harg3 harg5 harg6 harg7).chunk (c := 1) (o' := 128) t.hT slices_S256x128_o64_0_S64x128 slices_S256x256_o64_0_S64x256 rfl rfl (t.sp10 harg4) (dsB_10 c harg1 harg2 harg3 harg4 harg5 harg6 harg7 harg9 harg10 harg11 harg12 harg13 t hS)).rdq (fun i _ j hj => D.pq T 64 0 i j (by decide) hj rfl)

theorem p7B_v10 (t : Tile D T x0 x1 x2 x3 x4 x5 x6) (hS : State D (256 * T + 256) xo8 xo9 xo10 xs0) : ∀ x, (k0_pay364 (F := Ideal) (kernelRun0_B.sl.r_223 (F := Ideal) c arg1 harg1 arg2 harg2 arg3 harg3 arg7 harg7 x0 x1 x2 x6) (kernelRun0_B.sl.r_227 (F := Ideal) c arg2 harg2 arg5 harg5 arg6 harg6 x1 x4 x5) (kernelRun0_B.sl.r_229 (F := Ideal) c arg1 harg1 arg2 harg2 arg3 harg3 arg5 harg5 arg6 harg6 arg7 harg7 arg12 harg12 x0 x1 x2 x4 x5 x6 xs0) (kernelRun0_B.sl.r_230 (F := Ideal) c arg2 harg2 arg5 harg5 arg6 harg6 x1 x4 x5) : VB S64x256) x = coe2 (A := 256) (B := 3088) (fun i j => D.gPj (256 * T + i) j) ((Rect.unit (s := S256x3088) ![64, 1024] S64x256.size inb_S256x3088_S64x256_64_1024).emb x) :=
  piece2 (inb := inb_S256x3088_S64x256_64_1024) ((t.head0 harg1 harg2 harg3 harg5 harg6 harg7).chunk (c := 1) (o' := 128) t.hT slices_S256x128_o64_0_S64x128 slices_S256x256_o64_0_S64x256 rfl rfl (t.sp10 harg4) (dsB_10 c harg1 harg2 harg3 harg4 harg5 harg6 harg7 harg9 harg10 harg11 harg12 harg13 t hS)).rdv (fun i _ j hj => D.pv T 64 0 i j (by decide) hj rfl)

theorem p7B_k23 (t : Tile D T x0 x1 x2 x3 x4 x5 x6) (hS : State D (256 * T + 256) xo8 xo9 xo10 xs0) : ∀ x, (k0_pay337 (F := Ideal) (kernelRun0_B.sl.r_198 (F := Ideal) c arg2 harg2 arg5 harg5 arg6 harg6 x1 x4 x5) (kernelRun0_B.sl.r_199 (F := Ideal) c arg2 harg2 arg5 harg5 arg6 harg6 x1 x4 x5) (kernelRun0_B.sl.r_213 (F := Ideal) c arg1 harg1 arg2 harg2 arg3 harg3 arg5 harg5 arg6 harg6 arg7 harg7 x0 x1 x2 x4 x5 x6) (kernelRun0_B.sl.r_214 (F := Ideal) c arg1 harg1 arg2 harg2 arg3 harg3 arg5 harg5 arg6 harg6 arg7 harg7 arg12 harg12 x0 x1 x2 x4 x5 x6 xs0) : VB S64x128) x = coe2 (A := 256) (B := 3088) (fun i j => D.gPj (256 * T + i) j) ((Rect.unit (s := S256x3088) ![128, 896] S64x128.size inb_S256x3088_S64x128_128_896).emb x) :=
  piece2 (inb := inb_S256x3088_S64x128_128_896) ((t.head3 harg1 harg2 harg3 harg5 harg6 harg7).chunk (c := 2) (o' := 192) t.hT slices_S256x128_o128_0_S64x128 slices_S256x256_o128_0_S64x256 rfl rfl (t.sp23 harg4) (dsB_23 c harg1 harg2 harg3 harg4 harg5 harg6 harg7 harg9 harg10 harg11 harg12 harg13 t hS)).rdk (fun i _ j hj => D.pk T 128 3 i j (by decide) hj rfl)

theorem p7B_q23 (t : Tile D T x0 x1 x2 x3 x4 x5 x6) (hS : State D (256 * T + 256) xo8 xo9 xo10 xs0) : ∀ x, (k0_pay336 (F := Ideal) (kernelRun0_B.sl.r_197 (F := Ideal) c arg2 harg2 arg5 harg5 arg6 harg6 x1 x4 x5) (kernelRun0_B.sl.r_212 (F := Ideal) c arg1 harg1 arg2 harg2 arg3 harg3 arg5 harg5 arg6 harg6 arg7 harg7 x0 x1 x2 x4 x5 x6) (kernelRun0_B.sl.r_215 (F := Ideal) c arg1 harg1 arg2 harg2 arg3 harg3 arg4 harg4 arg5 harg5 arg6 harg6 arg7 harg7 x0 x1 x2 x3 x4 x5 x6) : VB S64x128) x = coe2 (A := 256) (B := 3088) (fun i j => D.gPj (256 * T + i) j) ((Rect.unit (s := S256x3088) ![128, 384] S64x128.size inb_S256x3088_S64x128_128_384).emb x) :=
  piece2 (inb := inb_S256x3088_S64x128_128_384) ((t.head3 harg1 harg2 harg3 harg5 harg6 harg7).chunk (c := 2) (o' := 192) t.hT slices_S256x128_o128_0_S64x128 slices_S256x256_o128_0_S64x256 rfl rfl (t.sp23 harg4) (dsB_23 c harg1 harg2 harg3 harg4 harg5 harg6 harg7 harg9 harg10 harg11 harg12 harg13 t hS)).rdq (fun i _ j hj => D.pq T 128 3 i j (by decide) hj rfl)

theorem p7B_v23 (t : Tile D T x0 x1 x2 x3 x4 x5 x6) (hS : State D (256 * T + 256) xo8 xo9 xo10 xs0) : ∀ x, (k0_pay334 (F := Ideal) k0_pay93 (kernelRun0_B.sl.r_197 (F := Ideal) c arg2 harg2 arg5 harg5 arg6 harg6 x1 x4 x5) (kernelRun0_B.sl.r_198 (F := Ideal) c arg2 harg2 arg5 harg5 arg6 harg6 x1 x4 x5) (kernelRun0_B.sl.r_199 (F := Ideal) c arg2 harg2 arg5 harg5 arg6 harg6 x1 x4 x5) (kernelRun0_B.sl.r_201 (F := Ideal) c arg2 harg2 x1) (kernelRun0_B.sl.r_202 (F := Ideal) c arg2 harg2 x1) (kernelRun0_B.sl.r_204 (F := Ideal) c arg1 harg1 arg2 harg2 arg3 harg3 arg7 harg7 x0 x1 x2 x6) (kernelRun0_B.sl.v1374 (F := Ideal) c arg1 harg1 arg2 harg2 arg3 harg3 arg5 harg5 arg6 harg6 arg7 harg7 arg12 harg12 x0 x1 x2 x4 x5 x6 xs0) : VB S64x256) x = coe2 (A := 256) (B := 3088) (fun i j => D.gPj (256 * T + i) j) ((Rect.unit (s := S256x3088) ![128, 1792] S64x256.size inb_S256x3088_S64x256_128_1792).emb x) :=
  piece2 (inb := inb_S256x3088_S64x256_128_1792) ((t.head3 harg1 harg2 harg3 harg5 harg6 harg7).chunk (c := 2) (o' := 192) t.hT slices_S256x128_o128_0_S64x128 slices_S256x256_o128_0_S64x256 rfl rfl (t.sp23 harg4) (dsB_23 c harg1 harg2 harg3 harg4 harg5 harg6 harg7 harg9 harg10 harg11 harg12 harg13 t hS)).rdv (fun i _ j hj => D.pv T 128 3 i j (by decide) hj rfl)

theorem p7B_k22 (t : Tile D T x0 x1 x2 x3 x4 x5 x6) (hS : State D (256 * T + 256) xo8 xo9 xo10 xs0) : ∀ x, (k0_pay307 (F := Ideal) k0_pay93 (kernelRun0_B.sl.r_180 (F := Ideal) c arg2 harg2 arg5 harg5 arg6 harg6 x1 x4 x5) (kernelRun0_B.sl.r_181 (F := Ideal) c arg2 harg2 arg5 harg5 arg6 harg6 x1 x4 x5) (kernelRun0_B.sl.r_183 (F := Ideal) c arg2 harg2 x1) (kernelRun0_B.sl.r_184 (F := Ideal) c arg1 harg1 arg2 harg2 arg3 harg3 arg7 harg7 x0 x1 x2 x6) (kernelRun0_B.sl.r_186 (F := Ideal) c arg2 harg2 arg5 harg5 arg6 harg6 x1 x4 x5) (kernelRun0_B.sl.r_190 (F := Ideal) c arg1 harg1 arg2 harg2 arg3 harg3 arg5 harg5 arg6 harg6 arg7 harg7 arg12 harg12 x0 x1 x2 x4 x5 x6 xs0) : VB S64x128) x = coe2 (A := 256) (B := 3088) (fun i j => D.gPj (256 * T + i) j) ((Rect.unit (s := S256x3088) ![128, 768] S64x128.size inb_S256x3088_S64x128_128_768).emb x) :=
  piece2 (inb := inb_S256x3088_S64x128_128_768) ((t.head2 harg1 harg2 harg3 harg5 harg6 harg7).chunk (c := 2) (o' := 192) t.hT slices_S256x128_o128_0_S64x128 slices_S256x256_o128_0_S64x256 rfl rfl (t.sp22 harg4) (dsB_22 c harg1 harg2 harg3 harg4 harg5 harg6 harg7 harg9 harg10 harg11 harg12 harg13 t hS)).rdk (fun i _ j hj => D.pk T 128 2 i j (by decide) hj rfl)

theorem p7B_q22 (t : Tile D T x0 x1 x2 x3 x4 x5 x6) (hS : State D (256 * T + 256) xo8 xo9 xo10 xs0) : ∀ x, (k0_pay306 (F := Ideal) k0_pay93 (kernelRun0_B.sl.r_178 (F := Ideal) c arg2 harg2 arg5 harg5 arg6 harg6 x1 x4 x5) (kernelRun0_B.sl.r_179 (F := Ideal) c arg2 harg2 arg5 harg5 arg6 harg6 x1 x4 x5) (kernelRun0_B.sl.r_183 (F := Ideal) c arg2 harg2 x1) (kernelRun0_B.sl.r_184 (F := Ideal) c arg1 harg1 arg2 harg2 arg3 harg3 arg7 harg7 x0 x1 x2 x6) (kernelRun0_B.sl.r_187 (F := Ideal) c arg2 harg2 arg5 harg5 arg6 harg6 x1 x4 x5) (kernelRun0_B.sl.r_189 (F := Ideal) c arg4 harg4 x3) : VB S64x128) x = coe2 (A := 256) (B := 3088) (fun i j => D.gPj (256 * T + i) j) ((Rect.unit (s := S256x3088) ![128, 256] S64x128.size inb_S256x3088_S64x128_128_256).emb x) :=
  piece2 (inb := inb_S256x3088_S64x128_128_256) ((t.head2 harg1 harg2 harg3 harg5 harg6 harg7).chunk (c := 2) (o' := 192) t.hT slices_S256x128_o128_0_S64x128 slices_S256x256_o128_0_S64x256 rfl rfl (t.sp22 harg4) (dsB_22 c harg1 harg2 harg3 harg4 harg5 harg6 harg7 harg9 harg10 harg11 harg12 harg13 t hS)).rdq (fun i _ j hj => D.pq T 128 2 i j (by decide) hj rfl)

theorem p7B_v22 (t : Tile D T x0 x1 x2 x3 x4 x5 x6) (hS : State D (256 * T + 256) xo8 xo9 xo10 xs0) : ∀ x, (k0_pay305 (F := Ideal) k0_pay93 (kernelRun0_B.sl.r_184 (F := Ideal) c arg1 harg1 arg2 harg2 arg3 harg3 arg7 harg7 x0 x1 x2 x6) (kernelRun0_B.sl.r_188 (F := Ideal) c arg2 harg2 arg5 harg5 arg6 harg6 x1 x4 x5) (kernelRun0_B.sl.r_190 (F := Ideal) c arg1 harg1 arg2 harg2 arg3 harg3 arg5 harg5 arg6 harg6 arg7 harg7 arg12 harg12 x0 x1 x2 x4 x5 x6 xs0) (kernelRun0_B.sl.r_191 (F := Ideal) c arg2 harg2 arg5 harg5 arg6 harg6 x1 x4 x5) : VB S64x256) x = coe2 (A := 256) (B := 3088) (fun i j => D.gPj (256 * T + i) j) ((Rect.unit (s := S256x3088) ![128, 1536] S64x256.size inb_S256x3088_S64x256_128_1536).emb x) :=
  piece2 (inb := inb_S256x3088_S64x256_128_1536) ((t.head2 harg1 harg2 harg3 harg5 harg6 harg7).chunk (c := 2) (o' := 192) t.hT slices_S256x128_o128_0_S64x128 slices_S256x256_o128_0_S64x256 rfl rfl (t.sp22 harg4) (dsB_22 c harg1 harg2 harg3 harg4 harg5 harg6 harg7 harg9 harg10 harg11 harg12 harg13 t hS)).rdv (fun i _ j hj => D.pv T 128 2 i j (by decide) hj rfl)

theorem p7B_k21 (t : Tile D T x0 x1 x2 x3 x4 x5 x6) (hS : State D (256 * T + 256) xo8 xo9 xo10 xs0) : ∀ x, (k0_pay274 (F := Ideal) (kernelRun0_B.sl.r_161 (F := Ideal) c arg2 harg2 arg5 harg5 arg6 harg6 x1 x4 x5) (kernelRun0_B.sl.r_162 (F := Ideal) c arg2 harg2 arg5 harg5 arg6 harg6 x1 x4 x5) (kernelRun0_B.sl.r_164 (F := Ideal) c arg2 harg2 x1) (kernelRun0_B.sl.r_167 (F := Ideal) c arg2 harg2 arg5 harg5 arg6 harg6 x1 x4 x5) (kernelRun0_B.sl.r_171 (F := Ideal) c arg1 harg1 arg2 harg2 arg3 harg3 arg5 harg5 arg6 harg6 arg7 harg7 arg12 harg12 x0 x1 x2 x4 x5 x6 xs0) (kernelRun0_B.sl.r_175 (F := Ideal) c arg1 harg1 arg2 harg2 arg3 harg3 arg7 harg7 x0 x1 x2 x6) : VB S64x128) x = coe2 (A := 256) (B := 3088) (fun i j => D.gPj (256 * T + i) j) ((Rect.unit (s := S256x3088) ![128, 640] S64x128.size inb_S256x3088_S64x128_128_640).emb x) :=
  piece2 (inb := inb_S256x3088_S64x128_128_640) ((t.head1 harg1 harg2 harg3 harg5 harg6 harg7).chunk (c := 2) (o' := 192) t.hT slices_S256x128_o128_0_S64x128 slices_S256x256_o128_0_S64x256 rfl rfl (t.sp21 harg4) (dsB_21 c harg1 harg2 harg3 harg4 harg5 harg6 harg7 harg9 harg10 harg11 harg12 harg13 t hS)).rdk (fun i _ j hj => D.pk T 128 1 i j (by decide) hj rfl)

theorem p7B_q21 (t : Tile D T x0 x1 x2 x3 x4 x5 x6) (hS : State D (256 * T + 256) xo8 xo9 xo10 xs0) : ∀ x, (k0_pay273 (F := Ideal) (kernelRun0_B.sl.r_159 (F := Ideal) c arg2 harg2 arg5 harg5 arg6 harg6 x1 x4 x5) (kernelRun0_B.sl.r_160 (F := Ideal) c arg2 harg2 arg5 harg5 arg6 harg6 x1 x4 x5) (kernelRun0_B.sl.r_173 (F := Ideal) c arg1 harg1 arg2 harg2 arg3 harg3 arg4 harg4 arg7 harg7 x0 x1 x2 x3 x6) (kernelRun0_B.sl.r_174 (F := Ideal) c arg1 harg1 arg2 harg2 arg3 harg3 arg5 harg5 arg6 harg6 arg7 harg7 x0 x1 x2 x4 x5 x6) : VB S64x128) x = coe2 (A := 256) (B := 3088) (fun i j => D.gPj (256 * T + i) j) ((Rect.unit (s := S256x3088) ![128, 128] S64x128.size inb_S256x3088_S64x128_128_128).emb x) :=
  piece2 (inb := inb_S256x3088_S64x128_128_128) ((t.head1 harg1 harg2 harg3 harg5 harg6 harg7).chunk (c := 2) (o' := 192) t.hT slices_S256x128_o128_0_S64x128 slices_S256x256_o128_0_S64x256 rfl rfl (t.sp21 harg4) (dsB_21 c harg1 harg2 harg3 harg4 harg5 harg6 harg7 harg9 harg10 harg11 harg12 harg13 t hS)).rdq (fun i _ j hj => D.pq T 128 1 i j (by decide) hj rfl)

theorem p7B_v21 (t : Tile D T x0 x1 x2 x3 x4 x5 x6) (hS : State D (256 * T + 256) xo8 xo9 xo10 xs0) : ∀ x, (k0_pay272 (F := Ideal) (kernelRun0_B.sl.r_165 (F := Ideal) c arg1 harg1 arg2 harg2 arg3 harg3 arg7 harg7 x0 x1 x2 x6) (kernelRun0_B.sl.r_169 (F := Ideal) c arg2 harg2 arg5 harg5 arg6 harg6 x1 x4 x5) (kernelRun0_B.sl.r_171 (F := Ideal) c arg1 harg1 arg2 harg2 arg3 harg3 arg5 harg5 arg6 harg6 arg7 harg7 arg12 harg12 x0 x1 x2 x4 x5 x6 xs0) (kernelRun0_B.sl.r_172 (F := Ideal) c arg2 harg2 arg5 harg5 arg6 harg6 x1 x4 x5) : VB S64x256) x = coe2 (A := 256) (B := 3088) (fun i j => D.gPj (256 * T + i) j) ((Rect.unit (s := S256x3088) ![128, 1280] S64x256.size inb_S256x3088_S64x256_128_1280).emb x) :=
  piece2 (inb := inb_S256x3088_S64x256_128_1280) ((t.head1 harg1 harg2 harg3 harg5 harg6 harg7).chunk (c := 2) (o' := 192) t.hT slices_S256x128_o128_0_S64x128 slices_S256x256_o128_0_S64x256 rfl rfl (t.sp21 harg4) (dsB_21 c harg1 harg2 harg3 harg4 harg5 harg6 harg7 harg9 harg10 harg11 harg12 harg13 t hS)).rdv (fun i _ j hj => D.pv T 128 1 i j (by decide) hj rfl)

theorem p7B_k20 (t : Tile D T x0 x1 x2 x3 x4 x5 x6) (hS : State D (256 * T + 256) xo8 xo9 xo10 xs0) : ∀ x, (k0_pay243 (F := Ideal) (kernelRun0_B.sl.r_142 (F := Ideal) c arg2 harg2 arg5 harg5 arg6 harg6 x1 x4 x5) (kernelRun0_B.sl.r_143 (F := Ideal) c arg2 harg2 arg5 harg5 arg6 harg6 x1 x4 x5) (kernelRun0_B.sl.r_155 (F := Ideal) c arg1 harg1 arg2 harg2 arg3 harg3 arg5 harg5 arg6 harg6 arg7 harg7 x0 x1 x2 x4 x5 x6) (kernelRun0_B.sl.r_156 (F := Ideal) c arg1 harg1 arg2 harg2 arg3 harg3 arg5 harg5 arg6 harg6 arg7 harg7 arg12 harg12 x0 x1 x2 x4 x5 x6 xs0) : VB S64x128) x = coe2 (A := 256) (B := 3088) (fun i j => D.gPj (256 * T + i) j) ((Rect.unit (s := S256x3088) ![128, 512] S64x128.size inb_S256x3088_S64x128_128_512).emb x) :=
  piece2 (inb := inb_S256x3088_S64x128_128_512) ((t.head0 harg1 harg2 harg3 harg5 harg6 harg7).chunk (c := 2) (o' := 192) t.hT slices_S256x128_o128_0_S64x128 slices_S256x256_o128_0_S64x256 rfl rfl (t.sp20 harg4) (dsB_20 c harg1 harg2 harg3 harg4 harg5 harg6 harg7 harg9 harg10 harg11 harg12 harg13 t hS)).rdk (fun i _ j hj => D.pk T 128 0 i j (by decide) hj rfl)

theorem p7B_q20 (t : Tile D T x0 x1 x2 x3 x4 x5 x6) (hS : State D (256 * T + 256) xo8 xo9 xo10 xs0) : ∀ x, (k0_pay242 (F := Ideal) (kernelRun0_B.sl.r_140 (F := Ideal) c arg2 harg2 arg5 harg5 arg6 harg6 x1 x4 x5) (kernelRun0_B.sl.r_141 (F := Ideal) c arg2 harg2 arg5 harg5 arg6 harg6 x1 x4 x5) (kernelRun0_B.sl.r_153 (F := Ideal) c arg1 harg1 arg2 harg2 arg3 harg3 arg4 harg4 arg7 harg7 x0 x1 x2 x3 x6) (kernelRun0_B.sl.r_154 (F := Ideal) c arg1 harg1 arg2 harg2 arg3 harg3 arg5 harg5 arg6 harg6 arg7 harg7 x0 x1 x2 x4 x5 x6) : VB S64x128) x = coe2 (A := 256) (B := 3088) (fun i j => D.gPj (256 * T + i) j) ((Rect.unit (s := S256x3088) ![128, 0] S64x128.size inb_S256x3088_S64x128_128_0).emb x) :=
  piece2 (inb := inb_S256x3088_S64x128_128_0) ((t.head0 harg1 harg2 harg3 harg5 harg6 harg7).chunk (c := 2) (o' := 192) t.hT slices_S256x128_o128_0_S64x128 slices_S256x256_o128_0_S64x256 rfl rfl (t.sp20 harg4) (dsB_20 c harg1 harg2 harg3 harg4 harg5 harg6 harg7 harg9 harg10 harg11 harg12 harg13 t hS)).rdq (fun i _ j hj => D.pq T 128 0 i j (by decide) hj rfl)

theorem p7B_v20 (t : Tile D T x0 x1 x2 x3 x4 x5 x6) (hS : State D (256 * T + 256) xo8 xo9 xo10 xs0) : ∀ x, (kernelRun0_B.sl.r_157 (F := Ideal) c arg1 harg1 arg2 harg2 arg3 harg3 arg5 harg5 arg6 harg6 arg7 harg7 arg12 harg12 x0 x1 x2 x4 x5 x6 xs0 : VB S64x256) x = coe2 (A := 256) (B := 3088) (fun i j => D.gPj (256 * T + i) j) ((Rect.unit (s := S256x3088) ![128, 1024] S64x256.size inb_S256x3088_S64x256_128_1024).emb x) :=
  piece2 (inb := inb_S256x3088_S64x256_128_1024) ((t.head0 harg1 harg2 harg3 harg5 harg6 harg7).chunk (c := 2) (o' := 192) t.hT slices_S256x128_o128_0_S64x128 slices_S256x256_o128_0_S64x256 rfl rfl (t.sp20 harg4) (dsB_20 c harg1 harg2 harg3 harg4 harg5 harg6 harg7 harg9 harg10 harg11 harg12 harg13 t hS)).rdv (fun i _ j hj => D.pv T 128 0 i j (by decide) hj rfl)

theorem p7B_k33 (t : Tile D T x0 x1 x2 x3 x4 x5 x6) (hS : State D (256 * T + 256) xo8 xo9 xo10 xs0) : ∀ x, (kernelRun0_B.sl.r_139 (F := Ideal) c arg1 harg1 arg2 harg2 arg3 harg3 arg5 harg5 arg6 harg6 arg7 harg7 arg12 harg12 x0 x1 x2 x4 x5 x6 xs0 : VB S64x128) x = coe2 (A := 256) (B := 3088) (fun i j => D.gPj (256 * T + i) j) ((Rect.unit (s := S256x3088) ![192, 896] S64x128.size inb_S256x3088_S64x128_192_896).emb x) :=
  piece2 (inb := inb_S256x3088_S64x128_192_896) ((t.head3 harg1 harg2 harg3 harg5 harg6 harg7).chunk (c := 3) (o' := 256) t.hT slices_S256x128_o192_0_S64x128 slices_S256x256_o192_0_S64x256 rfl rfl (t.sp33 harg4) (dsB_33 c harg1 harg2 harg3 harg4 harg5 harg6 harg7 harg9 harg10 harg11 harg12 harg13 t hS)).rdk (fun i _ j hj => D.pk T 192 3 i j (by decide) hj rfl)

theorem p7B_q33 (t : Tile D T x0 x1 x2 x3 x4 x5 x6) (hS : State D (256 * T + 256) xo8 xo9 xo10 xs0) : ∀ x, (k0_pay214 (F := Ideal) k0_pay93 (kernelRun0_B.sl.r_121 (F := Ideal) c arg2 harg2 arg5 harg5 arg6 harg6 x1 x4 x5) (kernelRun0_B.sl.r_122 (F := Ideal) c arg2 harg2 arg5 harg5 arg6 harg6 x1 x4 x5) (kernelRun0_B.sl.r_126 (F := Ideal) c arg2 harg2 x1) (kernelRun0_B.sl.r_127 (F := Ideal) c arg1 harg1 arg2 harg2 arg3 harg3 arg7 harg7 x0 x1 x2 x6) (kernelRun0_B.sl.r_130 (F := Ideal) c arg2 harg2 arg5 harg5 arg6 harg6 x1 x4 x5) (kernelRun0_B.sl.r_132 (F := Ideal) c arg4 harg4 x3) : VB S64x128) x = coe2 (A := 256) (B := 3088) (fun i j => D.gPj (256 * T + i) j) ((Rect.unit (s := S256x3088) ![192, 384] S64x128.size inb_S256x3088_S64x128_192_384).emb x) :=
  piece2 (inb := inb_S256x3088_S64x128_192_384) ((t.head3 harg1 harg2 harg3 harg5 harg6 harg7).chunk (c := 3) (o' := 256) t.hT slices_S256x128_o192_0_S64x128 slices_S256x256_o192_0_S64x256 rfl rfl (t.sp33 harg4) (dsB_33 c harg1 harg2 harg3 harg4 harg5 harg6 harg7 harg9 harg10 harg11 harg12 harg13 t hS)).rdq (fun i _ j hj => D.pq T 192 3 i j (by decide) hj rfl)

theorem p7B_v33 (t : Tile D T x0 x1 x2 x3 x4 x5 x6) (hS : State D (256 * T + 256) xo8 xo9 xo10 xs0) : ∀ x, (k0_pay213 (F := Ideal) k0_pay93 (kernelRun0_B.sl.r_127 (F := Ideal) c arg1 harg1 arg2 harg2 arg3 harg3 arg7 harg7 x0 x1 x2 x6) (kernelRun0_B.sl.r_130 (F := Ideal) c arg2 harg2 arg5 harg5 arg6 harg6 x1 x4 x5) (kernelRun0_B.sl.r_131 (F := Ideal) c arg2 harg2 arg5 harg5 arg6 harg6 x1 x4 x5) (kernelRun0_B.sl.r_133 (F := Ideal) c arg12 harg12 xs0) (kernelRun0_B.sl.r_134 (F := Ideal) c arg2 harg2 arg5 harg5 arg6 harg6 x1 x4 x5) : VB S64x256) x = coe2 (A := 256) (B := 3088) (fun i j => D.gPj (256 * T + i) j) ((Rect.unit (s := S256x3088) ![192, 1792] S64x256.size inb_S256x3088_S64x256_192_1792).emb x) :=
  piece2 (inb := inb_S256x3088_S64x256_192_1792) ((t.head3 harg1 harg2 harg3 harg5 harg6 harg7).chunk (c := 3) (o' := 256) t.hT slices_S256x128_o192_0_S64x128 slices_S256x256_o192_0_S64x256 rfl rfl (t.sp33 harg4) (dsB_33 c harg1 harg2 harg3 harg4 harg5 harg6 harg7 harg9 harg10 harg11 harg12 harg13 t hS)).rdv (fun i _ j hj => D.pv T 192 3 i j (by decide) hj rfl)

theorem p7B_k32 (t : Tile D T x0 x1 x2 x3 x4 x5 x6) (hS : State D (256 * T + 256) xo8 xo9 xo10 xs0) : ∀ x, (k0_pay183 (F := Ideal) (kernelRun0_B.sl.r_103 (F := Ideal) c arg2 harg2 arg5 harg5 arg6 harg6 x1 x4 x5) (kernelRun0_B.sl.r_104 (F := Ideal) c arg2 harg2 arg5 harg5 arg6 harg6 x1 x4 x5) (kernelRun0_B.sl.r_106 (F := Ideal) c arg2 harg2 x1) (kernelRun0_B.sl.r_109 (F := Ideal) c arg2 harg2 arg5 harg5 arg6 harg6 x1 x4 x5) (kernelRun0_B.sl.r_113 (F := Ideal) c arg12 harg12 xs0) (kernelRun0_B.sl.r_115 (F := Ideal) c arg1 harg1 arg2 harg2 arg3 harg3 arg7 harg7 x0 x1 x2 x6) : VB S64x128) x = coe2 (A := 256) (B := 3088) (fun i j => D.gPj (256 * T + i) j) ((Rect.unit (s := S256x3088) ![192, 768] S64x128.size inb_S256x3088_S64x128_192_768).emb x) :=
  piece2 (inb := inb_S256x3088_S64x128_192_768) ((t.head2 harg1 harg2 harg3 harg5 harg6 harg7).chunk (c := 3) (o' := 256) t.hT slices_S256x128_o192_0_S64x128 slices_S256x256_o192_0_S64x256 rfl rfl (t.sp32 harg4) (dsB_32 c harg1 harg2 harg3 harg4 harg5 harg6 harg7 harg9 harg10 harg11 harg12 harg13 t hS)).rdk (fun i _ j hj => D.pk T 192 2 i j (by decide) hj rfl)

theorem p7B_q32 (t : Tile D T x0 x1 x2 x3 x4 x5 x6) (hS : State D (256 * T + 256) xo8 xo9 xo10 xs0) : ∀ x, (k0_pay182 (F := Ideal) (kernelRun0_B.sl.r_101 (F := Ideal) c arg2 harg2 arg5 harg5 arg6 harg6 x1 x4 x5) (kernelRun0_B.sl.r_102 (F := Ideal) c arg2 harg2 arg5 harg5 arg6 harg6 x1 x4 x5) (kernelRun0_B.sl.r_116 (F := Ideal) c arg1 harg1 arg2 harg2 arg3 harg3 arg4 harg4 arg7 harg7 x0 x1 x2 x3 x6) (kernelRun0_B.sl.r_117 (F := Ideal) c arg1 harg1 arg2 harg2 arg3 harg3 arg7 harg7 x0 x1 x2 x6) (kernelRun0_B.sl.r_118 (F := Ideal) c arg2 harg2 arg5 harg5 arg6 harg6 x1 x4 x5) : VB S64x128) x = coe2 (A := 256) (B := 3088) (fun i j => D.gPj (256 * T + i) j) ((Rect.unit (s := S256x3088) ![192, 256] S64x128.size inb_S256x3088_S64x128_192_256).emb x) :=
  piece2 (inb := inb_S256x3088_S64x128_192_256) ((t.head2 harg1 harg2 harg3 harg5 harg6 harg7).chunk (c := 3) (o' := 256) t.hT slices_S256x128_o192_0_S64x128 slices_S256x256_o192_0_S64x256 rfl rfl (t.sp32 harg4) (dsB_32 c harg1 harg2 harg3 harg4 harg5 harg6 harg7 harg9 harg10 harg11 harg12 harg13 t hS)).rdq (fun i _ j hj => D.pq T 192 2 i j (by decide) hj rfl)

theorem p7B_v32 (t : Tile D T x0 x1 x2 x3 x4 x5 x6) (hS : State D (256 * T + 256) xo8 xo9 xo10 xs0) : ∀ x, (k0_pay181 (F := Ideal) (kernelRun0_B.sl.r_107 (F := Ideal) c arg1 harg1 arg2 harg2 arg3 harg3 arg7 harg7 x0 x1 x2 x6) (kernelRun0_B.sl.r_111 (F := Ideal) c arg2 harg2 arg5 harg5 arg6 harg6 x1 x4 x5) (kernelRun0_B.sl.r_113 (F := Ideal) c arg12 harg12 xs0) (kernelRun0_B.sl.r_114 (F := Ideal) c arg2 harg2 arg5 harg5 arg6 harg6 x1 x4 x5) : VB S64x256) x = coe2 (A := 256) (B := 3088) (fun i j => D.gPj (256 * T + i) j) ((Rect.unit (s := S256x3088) ![192, 1536] S64x256.size inb_S256x3088_S64x256_192_1536).emb x) :=
  piece2 (inb := inb_S256x3088_S64x256_192_1536) ((t.head2 harg1 harg2 harg3 harg5 harg6 harg7).chunk (c := 3) (o' := 256) t.hT slices_S256x128_o192_0_S64x128 slices_S256x256_o192_0_S64x256 rfl rfl (t.sp32 harg4) (dsB_32 c harg1 harg2 harg3 harg4 harg5 harg6 harg7 harg9 harg10 harg11 harg12 harg13 t hS)).rdv (fun i _ j hj => D.pv T 192 2 i j (by decide) hj rfl)

theorem p7B_k31 (t : Tile D T x0 x1 x2 x3 x4 x5 x6) (hS : State D (256 * T + 256) xo8 xo9 xo10 xs0) : ∀ x, (k0_pay151 (F := Ideal) (kernelRun0_B.sl.r_84 (F := Ideal) c arg2 harg2 arg5 harg5 arg6 harg6 x1 x4 x5) (kernelRun0_B.sl.r_86 (F := Ideal) c arg2 harg2 arg5 harg5 arg6 harg6 x1 x4 x5) (kernelRun0_B.sl.r_97 (F := Ideal) c arg1 harg1 arg2 harg2 arg3 harg3 arg5 harg5 arg6 harg6 arg7 harg7 x0 x1 x2 x4 x5 x6) (kernelRun0_B.sl.r_98 (F := Ideal) c arg2 harg2 arg12 harg12 x1 xs0) : VB S64x128) x = coe2 (A := 256) (B := 3088) (fun i j => D.gPj (256 * T + i) j) ((Rect.unit (s := S256x3088) ![192, 640] S64x128.size inb_S256x3088_S64x128_192_640).emb x) :=
  piece2 (inb := inb_S256x3088_S64x128_192_640) ((t.head1 harg1 harg2 harg3 harg5 harg6 harg7).chunk (c := 3) (o' := 256) t.hT slices_S256x128_o192_0_S64x128 slices_S256x256_o192_0_S64x256 rfl rfl (t.sp31 harg4) (dsB_31 c harg1 harg2 harg3 harg4 harg5 harg6 harg7 harg9 harg10 harg11 harg12 harg13 t hS)).rdk (fun i _ j hj => D.pk T 192 1 i j (by decide) hj rfl)

theorem p7B_q31 (t : Tile D T x0 x1 x2 x3 x4 x5 x6) (hS : State D (256 * T + 256) xo8 xo9 xo10 xs0) : ∀ x, (k0_pay150 (F := Ideal) (kernelRun0_B.sl.r_82 (F := Ideal) c arg2 harg2 arg5 harg5 arg6 harg6 x1 x4 x5) (kernelRun0_B.sl.r_83 (F := Ideal) c arg2 harg2 arg5 harg5 arg6 harg6 x1 x4 x5) (kernelRun0_B.sl.r_95 (F := Ideal) c arg1 harg1 arg2 harg2 arg3 harg3 arg4 harg4 arg7 harg7 x0 x1 x2 x3 x6) (kernelRun0_B.sl.r_96 (F := Ideal) c arg1 harg1 arg2 harg2 arg3 harg3 arg5 harg5 arg6 harg6 arg7 harg7 x0 x1 x2 x4 x5 x6) : VB S64x128) x = coe2 (A := 256) (B := 3088) (fun i j => D.gPj (256 * T + i) j) ((Rect.unit (s := S256x3088) ![192, 128] S64x128.size inb_S256x3088_S64x128_192_128).emb x) :=
  piece2 (inb := inb_S256x3088_S64x128_192_128) ((t.head1 harg1 harg2 harg3 harg5 harg6 harg7).chunk (c := 3) (o' := 256) t.hT slices_S256x128_o192_0_S64x128 slices_S256x256_o192_0_S64x256 rfl rfl (t.sp31 harg4) (dsB_31 c harg1 harg2 harg3 harg4 harg5 harg6 harg7 harg9 harg10 harg11 harg12 harg13 t hS)).rdq (fun i _ j hj => D.pq T 192 1 i j (by decide) hj rfl)

theorem p7B_v31 (t : Tile D T x0 x1 x2 x3 x4 x5 x6) (hS : State D (256 * T + 256) xo8 xo9 xo10 xs0) : ∀ x, (k0_pay149 (F := Ideal) (kernelRun0_B.sl.r_99 (F := Ideal) c arg1 harg1 arg2 harg2 arg3 harg3 arg5 harg5 arg6 harg6 arg7 harg7 arg12 harg12 x0 x1 x2 x4 x5 x6 xs0) : VB S64x256) x = coe2 (A := 256) (B := 3088) (fun i j => D.gPj (256 * T + i) j) ((Rect.unit (s := S256x3088) ![192, 1280] S64x256.size inb_S256x3088_S64x256_192_1280).emb x) :=
  piece2 (inb := inb_S256x3088_S64x256_192_1280) ((t.head1 harg1 harg2 harg3 harg5 harg6 harg7).chunk (c := 3) (o' := 256) t.hT slices_S256x128_o192_0_S64x128 slices_S256x256_o192_0_S64x256 rfl rfl (t.sp31 harg4) (dsB_31 c harg1 harg2 harg3 harg4 harg5 harg6 harg7 harg9 harg10 harg11 harg12 harg13 t hS)).rdv (fun i _ j hj => D.pv T 192 1 i j (by decide) hj rfl)

theorem p7B_k30 (t : Tile D T x0 x1 x2 x3 x4 x5 x6) (hS : State D (256 * T + 256) xo8 xo9 xo10 xs0) : ∀ x, (k0_pay121 (F := Ideal) (kernelRun0_B.sl.r_80 (F := Ideal) c arg1 harg1 arg2 harg2 arg3 harg3 arg5 harg5 arg6 harg6 arg7 harg7 arg12 harg12 x0 x1 x2 x4 x5 x6 xs0) : VB S64x128) x = coe2 (A := 256) (B := 3088) (fun i j => D.gPj (256 * T + i) j) ((Rect.unit (s := S256x3088) ![192, 512] S64x128.size inb_S256x3088_S64x128_192_512).emb x) :=
  piece2 (inb := inb_S256x3088_S64x128_192_512) ((t.head0 harg1 harg2 harg3 harg5 harg6 harg7).chunk (c := 3) (o' := 256) t.hT slices_S256x128_o192_0_S64x128 slices_S256x256_o192_0_S64x256 rfl rfl (t.sp30 harg4) (dsB_30 c harg1 harg2 harg3 harg4 harg5 harg6 harg7 harg9 harg10 harg11 harg12 harg13 t hS)).rdk (fun i _ j hj => D.pk T 192 0 i j (by decide) hj rfl)

theorem p7B_q30 (t : Tile D T x0 x1 x2 x3 x4 x5 x6) (hS : State D (256 * T + 256) xo8 xo9 xo10 xs0) : ∀ x, (k0_pay119 (F := Ideal) k0_pay93 (kernelRun0_B.sl.r_63 (F := Ideal) c arg2 harg2 arg5 harg5 arg6 harg6 x1 x4 x5) (kernelRun0_B.sl.r_64 (F := Ideal) c arg2 harg2 arg5 harg5 arg6 harg6 x1 x4 x5) (kernelRun0_B.sl.r_68 (F := Ideal) c arg2 harg2 x1) (kernelRun0_B.sl.r_69 (F := Ideal) c arg1 harg1 arg2 harg2 arg3 harg3 arg7 harg7 x0 x1 x2 x6) (kernelRun0_B.sl.r_72 (F := Ideal) c arg2 harg2 arg5 harg5 arg6 harg6 x1 x4 x5) (kernelRun0_B.sl.r_74 (F := Ideal) c arg4 harg4 x3) : VB S64x128) x = coe2 (A := 256) (B := 3088) (fun i j => D.gPj (256 * T + i) j) ((Rect.unit (s := S256x3088) ![192, 0] S64x128.size inb_S256x3088_S64x128_192_0).emb x) :=
  piece2 (inb := inb_S256x3088_S64x128_192_0) ((t.head0 harg1 harg2 harg3 harg5 harg6 harg7).chunk (c := 3) (o' := 256) t.hT slices_S256x128_o192_0_S64x128 slices_S256x256_o192_0_S64x256 rfl rfl (t.sp30 harg4) (dsB_30 c harg1 harg2 harg3 harg4 harg5 harg6 harg7 harg9 harg10 harg11 harg12 harg13 t hS)).rdq (fun i _ j hj => D.pq T 192 0 i j (by decide) hj rfl)

theorem p7B_v30 (t : Tile D T x0 x1 x2 x3 x4 x5 x6) (hS : State D (256 * T + 256) xo8 xo9 xo10 xs0) : ∀ x, (k0_pay118 (F := Ideal) k0_pay93 (kernelRun0_B.sl.r_69 (F := Ideal) c arg1 harg1 arg2 harg2 arg3 harg3 arg7 harg7 x0 x1 x2 x6) (kernelRun0_B.sl.r_71 (F := Ideal) c arg2 harg2 arg5 harg5 arg6 harg6 x1 x4 x5) (kernelRun0_B.sl.r_72 (F := Ideal) c arg2 harg2 arg5 harg5 arg6 harg6 x1 x4 x5) (kernelRun0_B.sl.r_73 (F := Ideal) c arg2 harg2 arg5 harg5 arg6 harg6 x1 x4 x5) (View.readAt (Elt Ideal) arg12.view (Rect.unit (s := S4x256x128) ![0, 0, 0] S1x256x128.size inb_S4x256x128_S1x256x128_0_0_0).toLoadRect (harg12.unread xs0)) : VB S64x256) x = coe2 (A := 256) (B := 3088) (fun i j => D.gPj (256 * T + i) j) ((Rect.unit (s := S256x3088) ![192, 1024] S64x256.size inb_S256x3088_S64x256_192_1024).emb x) :=
  piece2 (inb := inb_S256x3088_S64x256_192_1024) ((t.head0 harg1 harg2 harg3 harg5 harg6 harg7).chunk (c := 3) (o' := 256) t.hT slices_S256x128_o192_0_S64x128 slices_S256x256_o192_0_S64x256 rfl rfl (t.sp30 harg4) (dsB_30 c harg1 harg2 harg3 harg4 harg5 harg6 harg7 harg9 harg10 harg11 harg12 harg13 t hS)).rdv (fun i _ j hj => D.pv T 192 0 i j (by decide) hj rfl)

theorem p7B_r03 (t : Tile D T x0 x1 x2 x3 x4 x5 x6) (hS : State D (256 * T + 256) xo8 xo9 xo10 xs0) : ∀ x, (k0_pay87 (F := Ideal) (kernelRun0_B.sl.r_49 (F := Ideal) c arg2 harg2 x1) (View.readAt (Elt Ideal) arg3.view (Rect.unit (s := S256x1024) ![0, 768] S256x256.size inb_S256x1024_S256x256_0_768).toLoadRect (harg3.unread x2)) (View.readAt (Elt Ideal) arg1.view (Rect.unit (s := S256x1024) ![0, 768] S256x256.size inb_S256x1024_S256x256_0_768).toLoadRect (harg1.unread x0)) (View.readAt (Elt Ideal) arg7.view (Rect.unit (s := S1x256) ![0, 0] S1x256.size inb_S1x256_S1x256_0_0).toLoadRect (harg7.unread x6)) : VB S256x256) x = coe2 (A := 256) (B := 3088) (fun i j => D.gPj (256 * T + i) j) ((Rect.unit (s := S256x3088) ![0, 2816] S256x256.size inb_S256x3088_S256x256_0_2816).emb x) :=
  piece2 (inb := inb_S256x3088_S256x256_0_2816) (dr3B c harg1 harg2 harg3 harg4 harg5 harg6 harg7 harg9 harg10 harg11 harg12 harg13 t hS) (fun i _ j hj => D.pr T 3 i j (by decide) hj rfl)

theorem p7B_r02 (t : Tile D T x0 x1 x2 x3 x4 x5 x6) (hS : State D (256 * T + 256) xo8 xo9 xo10 xs0) : ∀ x, (kernelRun0_B.sl.r_44 (F := Ideal) c arg1 harg1 arg2 harg2 arg3 harg3 arg7 harg7 x0 x1 x2 x6 : VB S256x256) x = coe2 (A := 256) (B := 3088) (fun i j => D.gPj (256 * T + i) j) ((Rect.unit (s := S256x3088) ![0, 2560] S256x256.size inb_S256x3088_S256x256_0_2560).emb x) :=
  piece2 (inb := inb_S256x3088_S256x256_0_2560) (dr2B c harg1 harg2 harg3 harg4 harg5 harg6 harg7 harg9 harg10 harg11 harg12 harg13 t hS) (fun i _ j hj => D.pr T 2 i j (by decide) hj rfl)

theorem p7B_r01 (t : Tile D T x0 x1 x2 x3 x4 x5 x6) (hS : State D (256 * T + 256) xo8 xo9 xo10 xs0) : ∀ x, (k0_pay45 (F := Ideal) (kernelRun0_B.sl.r_26 (F := Ideal) c arg3 harg3 x2) (kernelRun0_B.sl.r_27 (F := Ideal) c arg2 harg2 x1) (kernelRun0_B.sl.r_28 (F := Ideal) c arg2 harg2 x1) (kernelRun0_B.sl.r_29 (F := Ideal) c arg1 harg1 x0) (View.readAt (Elt Ideal) arg7.view (Rect.unit (s := S1x256) ![0, 0] S1x256.size inb_S1x256_S1x256_0_0).toLoadRect (harg7.unread x6)) : VB S256x256) x = coe2 (A := 256) (B := 3088) (fun i j => D.gPj (256 * T + i) j) ((Rect.unit (s := S256x3088) ![0, 2304] S256x256.size inb_S256x3088_S256x256_0_2304).emb x) :=
  piece2 (inb := inb_S256x3088_S256x256_0_2304) (dr1B c harg1 harg2 harg3 harg4 harg5 harg6 harg7 harg9 harg10 harg11 harg12 harg13 t hS) (fun i _ j hj => D.pr T 1 i j (by decide) hj rfl)

theorem p7B_r00 (t : Tile D T x0 x1 x2 x3 x4 x5 x6) (hS : State D (256 * T + 256) xo8 xo9 xo10 xs0) : ∀ x, (k0_pay29 (F := Ideal) (kernelRun0_B.sl.r_4 (F := Ideal) c arg2 harg2 x1) (kernelRun0_B.sl.r_15 (F := Ideal) c arg3 harg3 x2) (kernelRun0_B.sl.r_16 (F := Ideal) c arg2 harg2 x1) (View.readAt (Elt Ideal) arg1.view (Rect.unit (s := S256x1024) ![0, 0] S256x256.size inb_S256x1024_S256x256_0_0).toLoadRect (harg1.unread x0)) (View.readAt (Elt Ideal) arg7.view (Rect.unit (s := S1x256) ![0, 0] S1x256.size inb_S1x256_S1x256_0_0).toLoadRect (harg7.unread x6)) : VB S256x256) x = coe2 (A := 256) (B := 3088) (fun i j => D.gPj (256 * T + i) j) ((Rect.unit (s := S256x3088) ![0, 2048] S256x256.size inb_S256x3088_S256x256_0_2048).emb x) :=
  piece2 (inb := inb_S256x3088_S256x256_0_2048) (dr0B c harg1 harg2 harg3 harg4 harg5 harg6 harg7 harg9 harg10 harg11 harg12 harg13 t hS) (fun i _ j hj => D.pr T 0 i j (by decide) hj rfl)

variable (i : grid0.Coords) {arg8 : Memref Cert.KernelIdeal.sig .tc .vmem S256x3088 .bf16} (harg8 : arg8.IsWhole) (hc0 : ¬cond0_0 i)

theorem dwalB (t : Tile D T x0 x1 x2 x3 x4 x5 x6) (hS : State D (256 * T + 256) xo8 xo9 xo10 xs0) : View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xo9 xo10 xs0).2.1 = coe2 (fun i j => D.gWal (256 * T) i j) :=
  canon_take 4 _ _ (
  ⟨piece2 (inb := inb_S16x512_S16x128_0_384) (R2.dwal (wal3B c harg1 harg2 harg3 harg4 harg5 harg6 harg7 harg9 harg10 harg11 harg12 harg13 t hS) (t.z harg2) (dl3B c harg1 harg2 harg3 harg4 harg5 harg6 harg7 harg9 harg10 harg11 harg12 harg13 t hS)) (fun i _ j hj => by rw [Nat.zero_add]; exact D.gWal_step T t.hT 3 rfl i j hj),
  piece2 (inb := inb_S16x512_S16x128_0_256) (R2.dwal (wal2B c harg1 harg2 harg3 harg4 harg5 harg6 harg7 harg9 harg10 harg11 harg12 harg13 t hS) (t.z harg2) (dl2B c harg1 harg2 harg3 harg4 harg5 harg6 harg7 harg9 harg10 harg11 harg12 harg13 t hS)) (fun i _ j hj => by rw [Nat.zero_add]; exact D.gWal_step T t.hT 2 rfl i j hj),
  piece2 (inb := inb_S16x512_S16x128_0_128) (R2.dwal (wal1B c harg1 harg2 harg3 harg4 harg5 harg6 harg7 harg9 harg10 harg11 harg12 harg13 t hS) (t.z harg2) (dl1B c harg1 harg2 harg3 harg4 harg5 harg6 harg7 harg9 harg10 harg11 harg12 harg13 t hS)) (fun i _ j hj => by rw [Nat.zero_add]; exact D.gWal_step T t.hT 1 rfl i j hj),
  piece2 (inb := inb_S16x512_S16x128_0_0) (R2.dwal (wal0B c harg1 harg2 harg3 harg4 harg5 harg6 harg7 harg9 harg10 harg11 harg12 harg13 t hS) (t.z harg2) (dl0B c harg1 harg2 harg3 harg4 harg5 harg6 harg7 harg9 harg10 harg11 harg12 harg13 t hS)) (fun i _ j hj => by rw [Nat.zero_add]; exact D.gWal_step T t.hT 0 rfl i j hj),
  trivial⟩) (View.cover_of_tiledL _ S16x128.size (by sl_kernel_rfl))

theorem dbalB (t : Tile D T x0 x1 x2 x3 x4 x5 x6) (hS : State D (256 * T + 256) xo8 xo9 xo10 xs0) : View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xo9 xo10 xs0).2.2.1 = coe2 (fun _ j => D.gBal (256 * T) j) :=
  canon_take 4 _ _ (
  ⟨piece2 (inb := inb_S1x512_S1x128_0_384) (R2.dbal (bal3B c harg1 harg2 harg3 harg4 harg5 harg6 harg7 harg9 harg10 harg11 harg12 harg13 t hS) (dl3B c harg1 harg2 harg3 harg4 harg5 harg6 harg7 harg9 harg10 harg11 harg12 harg13 t hS)) (fun i _ j hj => D.gBal_step T t.hT 3 rfl j hj),
  piece2 (inb := inb_S1x512_S1x128_0_256) (R2.dbal (bal2B c harg1 harg2 harg3 harg4 harg5 harg6 harg7 harg9 harg10 harg11 harg12 harg13 t hS) (dl2B c harg1 harg2 harg3 harg4 harg5 harg6 harg7 harg9 harg10 harg11 harg12 harg13 t hS)) (fun i _ j hj => D.gBal_step T t.hT 2 rfl j hj),
  piece2 (inb := inb_S1x512_S1x128_0_128) (R2.dbal (bal1B c harg1 harg2 harg3 harg4 harg5 harg6 harg7 harg9 harg10 harg11 harg12 harg13 t hS) (dl1B c harg1 harg2 harg3 harg4 harg5 harg6 harg7 harg9 harg10 harg11 harg12 harg13 t hS)) (fun i _ j hj => D.gBal_step T t.hT 1 rfl j hj),
  piece2 (inb := inb_S1x512_S1x128_0_0) (R2.dbal (bal0B c harg1 harg2 harg3 harg4 harg5 harg6 harg7 harg9 harg10 harg11 harg12 harg13 t hS) (dl0B c harg1 harg2 harg3 harg4 harg5 harg6 harg7 harg9 harg10 harg11 harg12 harg13 t hS)) (fun i _ j hj => D.gBal_step T t.hT 0 rfl j hj),
  trivial⟩) (View.cover_of_tiledL _ S1x128.size (by sl_kernel_rfl))

theorem dngB (t : Tile D T x0 x1 x2 x3 x4 x5 x6) (hS : State D (256 * T + 256) xo8 xo9 xo10 xs0) : View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xo9 xo10 xs0).2.2.2.1 = coe2 (fun _ j => D.gNg (256 * T) j) :=
  canon_take 1 _ _ (
  ⟨piece2 (inb := inb_S1x256_S1x256_0_0) (R2.dng (ng3B c harg1 harg2 harg3 harg4 harg5 harg6 harg7 harg9 harg10 harg11 harg12 harg13 t hS) (t.a3 harg1) (t.o3 harg3) (t.r3 harg2)) (fun i _ j hj => by rw [Nat.zero_add]; exact D.gNg_step T t.hT j),
  trivial⟩) (View.cover_of_tiledL _ S1x256.size (by sl_kernel_rfl))

theorem dsB (t : Tile D T x0 x1 x2 x3 x4 x5 x6) (hS : State D (256 * T + 256) xo8 xo9 xo10 xs0) : View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xo9 xo10 xs0).2.2.2.2.1 = coe3 (fun h e x => dst (D.q h) (D.d h) (D.a h) (256 * T) e x) :=
  canon_take 4 _ _ (
  ⟨piece3 (inb := inb_S4x256x128_S1x256x128_3_0_0) ((t.head3 harg1 harg2 harg3 harg5 harg6 harg7).chunk (c := 0) (o' := 64) t.hT slices_S256x128_o0_0_S64x128 slices_S256x256_o0_0_S64x256 rfl rfl (t.sp03 harg4) (dsB_03 c harg1 harg2 harg3 harg4 harg5 harg6 harg7 harg9 harg10 harg11 harg12 harg13 t hS)).dsN (fun j _ k _ => by simp only [Nat.zero_add, Nat.add_zero]),
  piece3 (inb := inb_S4x256x128_S1x256x128_2_0_0) ((t.head2 harg1 harg2 harg3 harg5 harg6 harg7).chunk (c := 0) (o' := 64) t.hT slices_S256x128_o0_0_S64x128 slices_S256x256_o0_0_S64x256 rfl rfl (t.sp02 harg4) (dsB_02 c harg1 harg2 harg3 harg4 harg5 harg6 harg7 harg9 harg10 harg11 harg12 harg13 t hS)).dsN (fun j _ k _ => by simp only [Nat.zero_add, Nat.add_zero]),
  piece3 (inb := inb_S4x256x128_S1x256x128_1_0_0) ((t.head1 harg1 harg2 harg3 harg5 harg6 harg7).chunk (c := 0) (o' := 64) t.hT slices_S256x128_o0_0_S64x128 slices_S256x256_o0_0_S64x256 rfl rfl (t.sp01 harg4) (dsB_01 c harg1 harg2 harg3 harg4 harg5 harg6 harg7 harg9 harg10 harg11 harg12 harg13 t hS)).dsN (fun j _ k _ => by simp only [Nat.zero_add, Nat.add_zero]),
  piece3 (inb := inb_S4x256x128_S1x256x128_0_0_0) ((t.head0 harg1 harg2 harg3 harg5 harg6 harg7).chunk (c := 0) (o' := 64) t.hT slices_S256x128_o0_0_S64x128 slices_S256x256_o0_0_S64x256 rfl rfl (t.sp00 harg4) (dsB_00 c harg1 harg2 harg3 harg4 harg5 harg6 harg7 harg9 harg10 harg11 harg12 harg13 t hS)).dsN (fun j _ k _ => by simp only [Nat.zero_add, Nat.add_zero]),
  trivial⟩) (View.cover_of_tiledL _ S1x256x128.size (by sl_kernel_rfl))

end Cert.Gla

end
-- ==== Proof.PjB.lean ====
/- What a later tile leaves of the projections' gradient. -/
module

public import proofs.«01_k».proof.Proof.RunB

@[expose] public section

set_option maxRecDepth 16384

noncomputable section

namespace Cert.Gla

open Idealize.ShloMosaic Idealize.ShloMosaic.TcCoe Idealize.SL.Sem
open Cert.KernelIdeal Cert.KernelIdeal.Gen
open Finset (range Ico)

variable (c : Dev nD) {arg1 : Memref Cert.KernelIdeal.sig .tc .vmem S256x1024 .f32} (harg1 : arg1.IsWhole) {arg2 : Memref Cert.KernelIdeal.sig .tc .vmem S256x3088 .f32} (harg2 : arg2.IsWhole)
  {arg3 : Memref Cert.KernelIdeal.sig .tc .vmem S256x1024 .f32} (harg3 : arg3.IsWhole) {arg4 : Memref Cert.KernelIdeal.sig .tc .vmem S4x4x256x128 .f32} (harg4 : arg4.IsWhole)
  {arg5 : Memref Cert.KernelIdeal.sig .tc .vmem S16x512 .f32} (harg5 : arg5.IsWhole) {arg6 : Memref Cert.KernelIdeal.sig .tc .vmem S1x512 .f32} (harg6 : arg6.IsWhole)
  {arg7 : Memref Cert.KernelIdeal.sig .tc .vmem S1x256 .f32} (harg7 : arg7.IsWhole) {arg9 : Memref Cert.KernelIdeal.sig .tc .vmem S16x512 .f32} (harg9 : arg9.IsWhole)
  {arg10 : Memref Cert.KernelIdeal.sig .tc .vmem S1x512 .f32} (harg10 : arg10.IsWhole) {arg11 : Memref Cert.KernelIdeal.sig .tc .vmem S1x256 .f32} (harg11 : arg11.IsWhole)
  {arg12 : Memref Cert.KernelIdeal.sig .tc .vmem S4x256x128 .f32} (harg12 : arg12.IsWhole) {arg13 : Memref Cert.KernelIdeal.sig .tc .vmem S4x256x128 .f32} (harg13 : arg13.IsWhole)
variable {x0 : V S256x1024} {x1 : V S256x3088} {x2 : V S256x1024} {x3 : V S4x4x256x128} {x4 : V S16x512} {x5 : V S1x512} {x6 : V S1x256}
  {xo8 : V S16x512} {xo9 : V S1x512} {xo10 : V S1x256} {xs0 : V S4x256x128}
variable {D : Data} {T : ℕ}
include c harg1 harg2 harg3 harg4 harg5 harg6 harg7 harg9 harg10 harg11 harg12 harg13

set_option maxHeartbeats 200000

variable (i : grid0.Coords) {arg8 : Memref Cert.KernelIdeal.sig .tc .vmem S256x3088 .bf16} (harg8 : arg8.IsWhole) (hc0 : ¬cond0_0 i)

theorem dpjB (t : Tile D T x0 x1 x2 x3 x4 x5 x6) (hS : State D (256 * T + 256) xo8 xo9 xo10 xs0) : View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xo9 xo10 xs0).1 = coe2 (fun i j => D.gPj (256 * T + i) j) := by
  have h0 : View.PiecesOf (Val := Elt Ideal) (e := .bf16) (coe2 (A := 256) (B := 3088) (fun i j => D.gPj (256 * T + i) j)) [] := trivial
  have h1 := pcons (e := .bf16) (r := (Rect.unit (s := S256x3088) ![0, 2048] S256x256.size inb_S256x3088_S256x256_0_2048)) (p7B_r00 c harg1 harg2 harg3 harg4 harg5 harg6 harg7 harg9 harg10 harg11 harg12 harg13 t hS) h0
  have h2 := pcons (e := .bf16) (r := (Rect.unit (s := S256x3088) ![0, 2304] S256x256.size inb_S256x3088_S256x256_0_2304)) (p7B_r01 c harg1 harg2 harg3 harg4 harg5 harg6 harg7 harg9 harg10 harg11 harg12 harg13 t hS) h1
  have h3 := pcons (e := .bf16) (r := (Rect.unit (s := S256x3088) ![0, 2560] S256x256.size inb_S256x3088_S256x256_0_2560)) (p7B_r02 c harg1 harg2 harg3 harg4 harg5 harg6 harg7 harg9 harg10 harg11 harg12 harg13 t hS) h2
  have h4 := pcons (e := .bf16) (r := (Rect.unit (s := S256x3088) ![0, 2816] S256x256.size inb_S256x3088_S256x256_0_2816)) (p7B_r03 c harg1 harg2 harg3 harg4 harg5 harg6 harg7 harg9 harg10 harg11 harg12 harg13 t hS) h3
  have h5 := pcons (e := .bf16) (r := (Rect.unit (s := S256x3088) ![192, 1024] S64x256.size inb_S256x3088_S64x256_192_1024)) (p7B_v30 c harg1 harg2 harg3 harg4 harg5 harg6 harg7 harg9 harg10 harg11 harg12 harg13 t hS) h4
  have h6 := pcons (e := .bf16) (r := (Rect.unit (s := S256x3088) ![192, 0] S64x128.size inb_S256x3088_S64x128_192_0)) (p7B_q30 c harg1 harg2 harg3 harg4 harg5 harg6 harg7 harg9 harg10 harg11 harg12 harg13 t hS) h5
  have h7 := pcons (e := .bf16) (r := (Rect.unit (s := S256x3088) ![192, 512] S64x128.size inb_S256x3088_S64x128_192_512)) (p7B_k30 c harg1 harg2 harg3 harg4 harg5 harg6 harg7 harg9 harg10 harg11 harg12 harg13 t hS) h6
  have h8 := pcons (e := .bf16) (r := (Rect.unit (s := S256x3088) ![192, 1280] S64x256.size inb_S256x3088_S64x256_192_1280)) (p7B_v31 c harg1 harg2 harg3 harg4 harg5 harg6 harg7 harg9 harg10 harg11 harg12 harg13 t hS) h7
  have h9 := pcons (e := .bf16) (r := (Rect.unit (s := S256x3088) ![192, 128] S64x128.size inb_S256x3088_S64x128_192_128)) (p7B_q31 c harg1 harg2 harg3 harg4 harg5 harg6 harg7 harg9 harg10 harg11 harg12 harg13 t hS) h8
  have h10 := pcons (e := .bf16) (r := (Rect.unit (s := S256x3088) ![192, 640] S64x128.size inb_S256x3088_S64x128_192_640)) (p7B_k31 c harg1 harg2 harg3 harg4 harg5 harg6 harg7 harg9 harg10 harg11 harg12 harg13 t hS) h9
  have h11 := pcons (e := .bf16) (r := (Rect.unit (s := S256x3088) ![192, 1536] S64x256.size inb_S256x3088_S64x256_192_1536)) (p7B_v32 c harg1 harg2 harg3 harg4 harg5 harg6 harg7 harg9 harg10 harg11 harg12 harg13 t hS) h10
  have h12 := pcons (e := .bf16) (r := (Rect.unit (s := S256x3088) ![192, 256] S64x128.size inb_S256x3088_S64x128_192_256)) (p7B_q32 c harg1 harg2 harg3 harg4 harg5 harg6 harg7 harg9 harg10 harg11 harg12 harg13 t hS) h11
  have h13 := pcons (e := .bf16) (r := (Rect.unit (s := S256x3088) ![192, 768] S64x128.size inb_S256x3088_S64x128_192_768)) (p7B_k32 c harg1 harg2 harg3 harg4 harg5 harg6 harg7 harg9 harg10 harg11 harg12 harg13 t hS) h12
  have h14 := pcons (e := .bf16) (r := (Rect.unit (s := S256x3088) ![192, 1792] S64x256.size inb_S256x3088_S64x256_192_1792)) (p7B_v33 c harg1 harg2 harg3 harg4 harg5 harg6 harg7 harg9 harg10 harg11 harg12 harg13 t hS) h13
  have h15 := pcons (e := .bf16) (r := (Rect.unit (s := S256x3088) ![192, 384] S64x128.size inb_S256x3088_S64x128_192_384)) (p7B_q33 c harg1 harg2 harg3 harg4 harg5 harg6 harg7 harg9 harg10 harg11 harg12 harg13 t hS) h14
  have h16 := pcons (e := .bf16) (r := (Rect.unit (s := S256x3088) ![192, 896] S64x128.size inb_S256x3088_S64x128_192_896)) (p7B_k33 c harg1 harg2 harg3 harg4 harg5 harg6 harg7 harg9 harg10 harg11 harg12 harg13 t hS) h15
  have h17 := pcons (e := .bf16) (r := (Rect.unit (s := S256x3088) ![128, 1024] S64x256.size inb_S256x3088_S64x256_128_1024)) (p7B_v20 c harg1 harg2 harg3 harg4 harg5 harg6 harg7 harg9 harg10 harg11 harg12 harg13 t hS) h16
  have h18 := pcons (e := .bf16) (r := (Rect.unit (s := S256x3088) ![128, 0] S64x128.size inb_S256x3088_S64x128_128_0)) (p7B_q20 c harg1 harg2 harg3 harg4 harg5 harg6 harg7 harg9 harg10 harg11 harg12 harg13 t hS) h17
  have h19 := pcons (e := .bf16) (r := (Rect.unit (s := S256x3088) ![128, 512] S64x128.size inb_S256x3088_S64x128_128_512)) (p7B_k20 c harg1 harg2 harg3 harg4 harg5 harg6 harg7 harg9 harg10 harg11 harg12 harg13 t hS) h18
  have h20 := pcons (e := .bf16) (r := (Rect.unit (s := S256x3088) ![128, 1280] S64x256.size inb_S256x3088_S64x256_128_1280)) (p7B_v21 c harg1 harg2 harg3 harg4 harg5 harg6 harg7 harg9 harg10 harg11 harg12 harg13 t hS) h19
  have h21 := pcons (e := .bf16) (r := (Rect.unit (s := S256x3088) ![128, 128] S64x128.size inb_S256x3088_S64x128_128_128)) (p7B_q21 c harg1 harg2 harg3 harg4 harg5 harg6 harg7 harg9 harg10 harg11 harg12 harg13 t hS) h20
  have h22 := pcons (e := .bf16) (r := (Rect.unit (s := S256x3088) ![128, 640] S64x128.size inb_S256x3088_S64x128_128_640)) (p7B_k21 c harg1 harg2 harg3 harg4 harg5 harg6 harg7 harg9 harg10 harg11 harg12 harg13 t hS) h21
  have h23 := pcons (e := .bf16) (r := (Rect.unit (s := S256x3088) ![128, 1536] S64x256.size inb_S256x3088_S64x256_128_1536)) (p7B_v22 c harg1 harg2 harg3 harg4 harg5 harg6 harg7 harg9 harg10 harg11 harg12 harg13 t hS) h22
  have h24 := pcons (e := .bf16) (r := (Rect.unit (s := S256x3088) ![128, 256] S64x128.size inb_S256x3088_S64x128_128_256)) (p7B_q22 c harg1 harg2 harg3 harg4 harg5 harg6 harg7 harg9 harg10 harg11 harg12 harg13 t hS) h23
  have h25 := pcons (e := .bf16) (r := (Rect.unit (s := S256x3088) ![128, 768] S64x128.size inb_S256x3088_S64x128_128_768)) (p7B_k22 c harg1 harg2 harg3 harg4 harg5 harg6 harg7 harg9 harg10 harg11 harg12 harg13 t hS) h24
  have h26 := pcons (e := .bf16) (r := (Rect.unit (s := S256x3088) ![128, 1792] S64x256.size inb_S256x3088_S64x256_128_1792)) (p7B_v23 c harg1 harg2 harg3 harg4 harg5 harg6 harg7 harg9 harg10 harg11 harg12 harg13 t hS) h25
  have h27 := pcons (e := .bf16) (r := (Rect.unit (s := S256x3088) ![128, 384] S64x128.size inb_S256x3088_S64x128_128_384)) (p7B_q23 c harg1 harg2 harg3 harg4 harg5 harg6 harg7 harg9 harg10 harg11 harg12 harg13 t hS) h26
  have h28 := pcons (e := .bf16) (r := (Rect.unit (s := S256x3088) ![128, 896] S64x128.size inb_S256x3088_S64x128_128_896)) (p7B_k23 c harg1 harg2 harg3 harg4 harg5 harg6 harg7 harg9 harg10 harg11 harg12 harg13 t hS) h27
  have h29 := pcons (e := .bf16) (r := (Rect.unit (s := S256x3088) ![64, 1024] S64x256.size inb_S256x3088_S64x256_64_1024)) (p7B_v10 c harg1 harg2 harg3 harg4 harg5 harg6 harg7 harg9 harg10 harg11 harg12 harg13 t hS) h28
  have h30 := pcons (e := .bf16) (r := (Rect.unit (s := S256x3088) ![64, 0] S64x128.size inb_S256x3088_S64x128_64_0)) (p7B_q10 c harg1 harg2 harg3 harg4 harg5 harg6 harg7 harg9 harg10 harg11 harg12 harg13 t hS) h29
  have h31 := pcons (e := .bf16) (r := (Rect.unit (s := S256x3088) ![64, 512] S64x128.size inb_S256x3088_S64x128_64_512)) (p7B_k10 c harg1 harg2 harg3 harg4 harg5 harg6 harg7 harg9 harg10 harg11 harg12 harg13 t hS) h30
  have h32 := pcons (e := .bf16) (r := (Rect.unit (s := S256x3088) ![64, 1280] S64x256.size inb_S256x3088_S64x256_64_1280)) (p7B_v11 c harg1 harg2 harg3 harg4 harg5 harg6 harg7 harg9 harg10 harg11 harg12 harg13 t hS) h31
  have h33 := pcons (e := .bf16) (r := (Rect.unit (s := S256x3088) ![64, 128] S64x128.size inb_S256x3088_S64x128_64_128)) (p7B_q11 c harg1 harg2 harg3 harg4 harg5 harg6 harg7 harg9 harg10 harg11 harg12 harg13 t hS) h32
  have h34 := pcons (e := .bf16) (r := (Rect.unit (s := S256x3088) ![64, 640] S64x128.size inb_S256x3088_S64x128_64_640)) (p7B_k11 c harg1 harg2 harg3 harg4 harg5 harg6 harg7 harg9 harg10 harg11 harg12 harg13 t hS) h33
  have h35 := pcons (e := .bf16) (r := (Rect.unit (s := S256x3088) ![64, 1536] S64x256.size inb_S256x3088_S64x256_64_1536)) (p7B_v12 c harg1 harg2 harg3 harg4 harg5 harg6 harg7 harg9 harg10 harg11 harg12 harg13 t hS) h34
  have h36 := pcons (e := .bf16) (r := (Rect.unit (s := S256x3088) ![64, 256] S64x128.size inb_S256x3088_S64x128_64_256)) (p7B_q12 c harg1 harg2 harg3 harg4 harg5 harg6 harg7 harg9 harg10 harg11 harg12 harg13 t hS) h35
  have h37 := pcons (e := .bf16) (r := (Rect.unit (s := S256x3088) ![64, 768] S64x128.size inb_S256x3088_S64x128_64_768)) (p7B_k12 c harg1 harg2 harg3 harg4 harg5 harg6 harg7 harg9 harg10 harg11 harg12 harg13 t hS) h36
  have h38 := pcons (e := .bf16) (r := (Rect.unit (s := S256x3088) ![64, 1792] S64x256.size inb_S256x3088_S64x256_64_1792)) (p7B_v13 c harg1 harg2 harg3 harg4 harg5 harg6 harg7 harg9 harg10 harg11 harg12 harg13 t hS) h37
  have h39 := pcons (e := .bf16) (r := (Rect.unit (s := S256x3088) ![64, 384] S64x128.size inb_S256x3088_S64x128_64_384)) (p7B_q13 c harg1 harg2 harg3 harg4 harg5 harg6 harg7 harg9 harg10 harg11 harg12 harg13 t hS) h38
  have h40 := pcons (e := .bf16) (r := (Rect.unit (s := S256x3088) ![64, 896] S64x128.size inb_S256x3088_S64x128_64_896)) (p7B_k13 c harg1 harg2 harg3 harg4 harg5 harg6 harg7 harg9 harg10 harg11 harg12 harg13 t hS) h39
  have h41 := pcons (e := .bf16) (r := (Rect.unit (s := S256x3088) ![0, 1024] S64x256.size inb_S256x3088_S64x256_0_1024)) (p7B_v00 c harg1 harg2 harg3 harg4 harg5 harg6 harg7 harg9 harg10 harg11 harg12 harg13 t hS) h40
  have h42 := pcons (e := .bf16) (r := (Rect.unit (s := S256x3088) ![0, 0] S64x128.size inb_S256x3088_S64x128_0_0)) (p7B_q00 c harg1 harg2 harg3 harg4 harg5 harg6 harg7 harg9 harg10 harg11 harg12 harg13 t hS) h41
  have h43 := pcons (e := .bf16) (r := (Rect.unit (s := S256x3088) ![0, 512] S64x128.size inb_S256x3088_S64x128_0_512)) (p7B_k00 c harg1 harg2 harg3 harg4 harg5 harg6 harg7 harg9 harg10 harg11 harg12 harg13 t hS) h42
  have h44 := pcons (e := .bf16) (r := (Rect.unit (s := S256x3088) ![0, 1280] S64x256.size inb_S256x3088_S64x256_0_1280)) (p7B_v01 c harg1 harg2 harg3 harg4 harg5 harg6 harg7 harg9 harg10 harg11 harg12 harg13 t hS) h43
  have h45 := pcons (e := .bf16) (r := (Rect.unit (s := S256x3088) ![0, 128] S64x128.size inb_S256x3088_S64x128_0_128)) (p7B_q01 c harg1 harg2 harg3 harg4 harg5 harg6 harg7 harg9 harg10 harg11 harg12 harg13 t hS) h44
  have h46 := pcons (e := .bf16) (r := (Rect.unit (s := S256x3088) ![0, 640] S64x128.size inb_S256x3088_S64x128_0_640)) (p7B_k01 c harg1 harg2 harg3 harg4 harg5 harg6 harg7 harg9 harg10 harg11 harg12 harg13 t hS) h45
  have h47 := pcons (e := .bf16) (r := (Rect.unit (s := S256x3088) ![0, 1536] S64x256.size inb_S256x3088_S64x256_0_1536)) (p7B_v02 c harg1 harg2 harg3 harg4 harg5 harg6 harg7 harg9 harg10 harg11 harg12 harg13 t hS) h46
  have h48 := pcons (e := .bf16) (r := (Rect.unit (s := S256x3088) ![0, 256] S64x128.size inb_S256x3088_S64x128_0_256)) (p7B_q02 c harg1 harg2 harg3 harg4 harg5 harg6 harg7 harg9 harg10 harg11 harg12 harg13 t hS) h47
  have h49 := pcons (e := .bf16) (r := (Rect.unit (s := S256x3088) ![0, 768] S64x128.size inb_S256x3088_S64x128_0_768)) (p7B_k02 c harg1 harg2 harg3 harg4 harg5 harg6 harg7 harg9 harg10 harg11 harg12 harg13 t hS) h48
  have h50 := pcons (e := .bf16) (r := (Rect.unit (s := S256x3088) ![0, 1792] S64x256.size inb_S256x3088_S64x256_0_1792)) (p7B_v03 c harg1 harg2 harg3 harg4 harg5 harg6 harg7 harg9 harg10 harg11 harg12 harg13 t hS) h49
  have h51 := pcons (e := .bf16) (r := (Rect.unit (s := S256x3088) ![0, 384] S64x128.size inb_S256x3088_S64x128_0_384)) (p7B_q03 c harg1 harg2 harg3 harg4 harg5 harg6 harg7 harg9 harg10 harg11 harg12 harg13 t hS) h50
  have h52 := pcons (e := .bf16) (r := (Rect.unit (s := S256x3088) ![0, 896] S64x128.size inb_S256x3088_S64x128_0_896)) (p7B_k03 c harg1 harg2 harg3 harg4 harg5 harg6 harg7 harg9 harg10 harg11 harg12 harg13 t hS) h51
  have h53 := pcons (e := .bf16) (r := (Rect.unit (s := S256x3088) ![0, 3072] S256x16.size inb_S256x3088_S256x16_0_3072)) (p7B_z00 c harg1 harg2 harg3 harg4 harg5 harg6 harg7 harg9 harg10 harg11 harg12 harg13 t hS) h52
  have key : ∀ L, (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xo9 xo10 xs0).1 = L → View.PiecesOf (Val := Elt Ideal) (e := .bf16) (coe2 (A := 256) (B := 3088) (fun i j => D.gPj (256 * T + i) j)) L → View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xo9 xo10 xs0).1 = coe2 (A := 256) (B := 3088) (fun i j => D.gPj (256 * T + i) j) := fun L e h => by subst e; exact canon_all _ _ h (cover0_B_7 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xo9 xo10 xs0)
  exact key _ (by sl_kernel_rfl) h53

end Cert.Gla

end
-- ==== Proof.Sweep.lean ====
/- The sweep over the sixteen tiles, from the last row to the first. -/
module

public import proofs.«01_k».proof.Proof.PjA
public import proofs.«01_k».proof.Proof.PjB
public import proofs.«01_k».proof.Proof.Gen.KernelIdeal.Value

@[expose] public section

noncomputable section

namespace Cert.Gla

open Idealize.ShloMosaic Idealize.ShloMosaic.TcCoe Idealize.SL.Sem
open Cert.KernelIdeal Cert.KernelIdeal.Gen
open Finset (range Ico)

/-- What a tile leaves: its block of the projections' gradient, and the sums and the state carried to the tile before it. -/
structure Out (D : Data) (T : ℕ) (o : FVec Ideal S256x3088 .bf16 × V S16x512 × V S1x512 × V S1x256 × V S4x256x128) : Prop where
  pj : o.1 = coe2 (fun i j => D.gPj (256 * T + i) j)
  st : State D (256 * T) o.2.1 o.2.2.1 o.2.2.2.1 o.2.2.2.2

theorem Out.of {D : Data} {T : ℕ} {a : FVec Ideal S256x3088 .bf16} {b : V S16x512} {c : V S1x512} {d : V S1x256} {e : V S4x256x128}
    (ha : a = coe2 (fun i j => D.gPj (256 * T + i) j)) (hb : b = coe2 (fun i j => D.gWal (256 * T) i j)) (hc : c = coe2 (fun _ j => D.gBal (256 * T) j))
    (hd : d = coe2 (fun _ j => D.gNg (256 * T) j)) (he : e = coe3 (fun h e x => dst (D.q h) (D.d h) (D.a h) (256 * T) e x)) : Out D T (a, b, c, d, e) :=
  ⟨ha, ⟨R2.ofCoe hb, R2.ofCoe hc, R2.ofCoe hd, R3.ofCoe he⟩⟩

theorem o7A (c : Dev nD) (i : grid0.Coords) (arg1 : Memref Cert.KernelIdeal.sig .tc .vmem S256x1024 .f32) (harg1 : arg1.IsWhole) (arg2 : Memref Cert.KernelIdeal.sig .tc .vmem S256x3088 .f32) (harg2 : arg2.IsWhole) (arg3 : Memref Cert.KernelIdeal.sig .tc .vmem S256x1024 .f32) (harg3 : arg3.IsWhole) (arg4 : Memref Cert.KernelIdeal.sig .tc .vmem S4x4x256x128 .f32) (harg4 : arg4.IsWhole) (arg5 : Memref Cert.KernelIdeal.sig .tc .vmem S16x512 .f32) (harg5 : arg5.IsWhole) (arg6 : Memref Cert.KernelIdeal.sig .tc .vmem S1x512 .f32) (harg6 : arg6.IsWhole) (arg7 : Memref Cert.KernelIdeal.sig .tc .vmem S1x256 .f32) (harg7 : arg7.IsWhole) (arg8 : Memref Cert.KernelIdeal.sig .tc .vmem S256x3088 .bf16) (harg8 : arg8.IsWhole) (arg9 : Memref Cert.KernelIdeal.sig .tc .vmem S16x512 .f32) (harg9 : arg9.IsWhole) (arg10 : Memref Cert.KernelIdeal.sig .tc .vmem S1x512 .f32) (harg10 : arg10.IsWhole) (arg11 : Memref Cert.KernelIdeal.sig .tc .vmem S1x256 .f32) (harg11 : arg11.IsWhole) (arg12 : Memref Cert.KernelIdeal.sig .tc .vmem S4x256x128 .f32) (harg12 : arg12.IsWhole) (arg13 : Memref Cert.KernelIdeal.sig .tc .vmem S4x256x128 .f32) (harg13 : arg13.IsWhole) (hc0 : cond0_0 i) {x0 : V S256x1024} {x1 : V S256x3088} {x2 : V S256x1024} {x3 : V S4x4x256x128} {x4 : V S16x512} {x5 : V S1x512} {x6 : V S1x256}  {D : Data} {T : ℕ} (t : Tile D T x0 x1 x2 x3 x4 x5 x6) (hS : Last T) : out0_A_7 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 = coe2 (fun i j => D.gPj (256 * T + i) j) := by
  unfold out0_A_7
  exact (View.read_writes_junk_eq_canon VO0_7 _).trans (dpjA c harg1 harg2 harg3 harg4 harg5 harg6 harg7 harg9 harg10 harg11 harg12 harg13 i harg8 hc0 t hS)

theorem o8A (c : Dev nD) (i : grid0.Coords) (arg1 : Memref Cert.KernelIdeal.sig .tc .vmem S256x1024 .f32) (harg1 : arg1.IsWhole) (arg2 : Memref Cert.KernelIdeal.sig .tc .vmem S256x3088 .f32) (harg2 : arg2.IsWhole) (arg3 : Memref Cert.KernelIdeal.sig .tc .vmem S256x1024 .f32) (harg3 : arg3.IsWhole) (arg4 : Memref Cert.KernelIdeal.sig .tc .vmem S4x4x256x128 .f32) (harg4 : arg4.IsWhole) (arg5 : Memref Cert.KernelIdeal.sig .tc .vmem S16x512 .f32) (harg5 : arg5.IsWhole) (arg6 : Memref Cert.KernelIdeal.sig .tc .vmem S1x512 .f32) (harg6 : arg6.IsWhole) (arg7 : Memref Cert.KernelIdeal.sig .tc .vmem S1x256 .f32) (harg7 : arg7.IsWhole) (arg8 : Memref Cert.KernelIdeal.sig .tc .vmem S256x3088 .bf16) (harg8 : arg8.IsWhole) (arg9 : Memref Cert.KernelIdeal.sig .tc .vmem S16x512 .f32) (harg9 : arg9.IsWhole) (arg10 : Memref Cert.KernelIdeal.sig .tc .vmem S1x512 .f32) (harg10 : arg10.IsWhole) (arg11 : Memref Cert.KernelIdeal.sig .tc .vmem S1x256 .f32) (harg11 : arg11.IsWhole) (arg12 : Memref Cert.KernelIdeal.sig .tc .vmem S4x256x128 .f32) (harg12 : arg12.IsWhole) (arg13 : Memref Cert.KernelIdeal.sig .tc .vmem S4x256x128 .f32) (harg13 : arg13.IsWhole) (hc0 : cond0_0 i) {x0 : V S256x1024} {x1 : V S256x3088} {x2 : V S256x1024} {x3 : V S4x4x256x128} {x4 : V S16x512} {x5 : V S1x512} {x6 : V S1x256}  {D : Data} {T : ℕ} (t : Tile D T x0 x1 x2 x3 x4 x5 x6) (hS : Last T) : out0_A_8 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 = coe2 (fun i j => D.gWal (256 * T) i j) := by
  unfold out0_A_8
  exact (View.read_writes_junk_eq_canon VO0_8 _).trans (dwalA c harg1 harg2 harg3 harg4 harg5 harg6 harg7 harg9 harg10 harg11 harg12 harg13 i harg8 hc0 t hS)

theorem o9A (c : Dev nD) (i : grid0.Coords) (arg1 : Memref Cert.KernelIdeal.sig .tc .vmem S256x1024 .f32) (harg1 : arg1.IsWhole) (arg2 : Memref Cert.KernelIdeal.sig .tc .vmem S256x3088 .f32) (harg2 : arg2.IsWhole) (arg3 : Memref Cert.KernelIdeal.sig .tc .vmem S256x1024 .f32) (harg3 : arg3.IsWhole) (arg4 : Memref Cert.KernelIdeal.sig .tc .vmem S4x4x256x128 .f32) (harg4 : arg4.IsWhole) (arg5 : Memref Cert.KernelIdeal.sig .tc .vmem S16x512 .f32) (harg5 : arg5.IsWhole) (arg6 : Memref Cert.KernelIdeal.sig .tc .vmem S1x512 .f32) (harg6 : arg6.IsWhole) (arg7 : Memref Cert.KernelIdeal.sig .tc .vmem S1x256 .f32) (harg7 : arg7.IsWhole) (arg8 : Memref Cert.KernelIdeal.sig .tc .vmem S256x3088 .bf16) (harg8 : arg8.IsWhole) (arg9 : Memref Cert.KernelIdeal.sig .tc .vmem S16x512 .f32) (harg9 : arg9.IsWhole) (arg10 : Memref Cert.KernelIdeal.sig .tc .vmem S1x512 .f32) (harg10 : arg10.IsWhole) (arg11 : Memref Cert.KernelIdeal.sig .tc .vmem S1x256 .f32) (harg11 : arg11.IsWhole) (arg12 : Memref Cert.KernelIdeal.sig .tc .vmem S4x256x128 .f32) (harg12 : arg12.IsWhole) (arg13 : Memref Cert.KernelIdeal.sig .tc .vmem S4x256x128 .f32) (harg13 : arg13.IsWhole) (hc0 : cond0_0 i) {x0 : V S256x1024} {x1 : V S256x3088} {x2 : V S256x1024} {x3 : V S4x4x256x128} {x4 : V S16x512} {x5 : V S1x512} {x6 : V S1x256}  {D : Data} {T : ℕ} (t : Tile D T x0 x1 x2 x3 x4 x5 x6) (hS : Last T) : out0_A_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 = coe2 (fun _ j => D.gBal (256 * T) j) := by
  unfold out0_A_9
  exact (View.read_writes_junk_eq_canon VO0_9 _).trans (dbalA c harg1 harg2 harg3 harg4 harg5 harg6 harg7 harg9 harg10 harg11 harg12 harg13 i harg8 hc0 t hS)

theorem o10A (c : Dev nD) (i : grid0.Coords) (arg1 : Memref Cert.KernelIdeal.sig .tc .vmem S256x1024 .f32) (harg1 : arg1.IsWhole) (arg2 : Memref Cert.KernelIdeal.sig .tc .vmem S256x3088 .f32) (harg2 : arg2.IsWhole) (arg3 : Memref Cert.KernelIdeal.sig .tc .vmem S256x1024 .f32) (harg3 : arg3.IsWhole) (arg4 : Memref Cert.KernelIdeal.sig .tc .vmem S4x4x256x128 .f32) (harg4 : arg4.IsWhole) (arg5 : Memref Cert.KernelIdeal.sig .tc .vmem S16x512 .f32) (harg5 : arg5.IsWhole) (arg6 : Memref Cert.KernelIdeal.sig .tc .vmem S1x512 .f32) (harg6 : arg6.IsWhole) (arg7 : Memref Cert.KernelIdeal.sig .tc .vmem S1x256 .f32) (harg7 : arg7.IsWhole) (arg8 : Memref Cert.KernelIdeal.sig .tc .vmem S256x3088 .bf16) (harg8 : arg8.IsWhole) (arg9 : Memref Cert.KernelIdeal.sig .tc .vmem S16x512 .f32) (harg9 : arg9.IsWhole) (arg10 : Memref Cert.KernelIdeal.sig .tc .vmem S1x512 .f32) (harg10 : arg10.IsWhole) (arg11 : Memref Cert.KernelIdeal.sig .tc .vmem S1x256 .f32) (harg11 : arg11.IsWhole) (arg12 : Memref Cert.KernelIdeal.sig .tc .vmem S4x256x128 .f32) (harg12 : arg12.IsWhole) (arg13 : Memref Cert.KernelIdeal.sig .tc .vmem S4x256x128 .f32) (harg13 : arg13.IsWhole) (hc0 : cond0_0 i) {x0 : V S256x1024} {x1 : V S256x3088} {x2 : V S256x1024} {x3 : V S4x4x256x128} {x4 : V S16x512} {x5 : V S1x512} {x6 : V S1x256}  {D : Data} {T : ℕ} (t : Tile D T x0 x1 x2 x3 x4 x5 x6) (hS : Last T) : out0_A_10 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 = coe2 (fun _ j => D.gNg (256 * T) j) := by
  unfold out0_A_10
  exact (View.read_writes_junk_eq_canon VO0_10 _).trans (dngA c harg1 harg2 harg3 harg4 harg5 harg6 harg7 harg9 harg10 harg11 harg12 harg13 i harg8 hc0 t hS)

theorem o0A (c : Dev nD) (i : grid0.Coords) (arg1 : Memref Cert.KernelIdeal.sig .tc .vmem S256x1024 .f32) (harg1 : arg1.IsWhole) (arg2 : Memref Cert.KernelIdeal.sig .tc .vmem S256x3088 .f32) (harg2 : arg2.IsWhole) (arg3 : Memref Cert.KernelIdeal.sig .tc .vmem S256x1024 .f32) (harg3 : arg3.IsWhole) (arg4 : Memref Cert.KernelIdeal.sig .tc .vmem S4x4x256x128 .f32) (harg4 : arg4.IsWhole) (arg5 : Memref Cert.KernelIdeal.sig .tc .vmem S16x512 .f32) (harg5 : arg5.IsWhole) (arg6 : Memref Cert.KernelIdeal.sig .tc .vmem S1x512 .f32) (harg6 : arg6.IsWhole) (arg7 : Memref Cert.KernelIdeal.sig .tc .vmem S1x256 .f32) (harg7 : arg7.IsWhole) (arg8 : Memref Cert.KernelIdeal.sig .tc .vmem S256x3088 .bf16) (harg8 : arg8.IsWhole) (arg9 : Memref Cert.KernelIdeal.sig .tc .vmem S16x512 .f32) (harg9 : arg9.IsWhole) (arg10 : Memref Cert.KernelIdeal.sig .tc .vmem S1x512 .f32) (harg10 : arg10.IsWhole) (arg11 : Memref Cert.KernelIdeal.sig .tc .vmem S1x256 .f32) (harg11 : arg11.IsWhole) (arg12 : Memref Cert.KernelIdeal.sig .tc .vmem S4x256x128 .f32) (harg12 : arg12.IsWhole) (arg13 : Memref Cert.KernelIdeal.sig .tc .vmem S4x256x128 .f32) (harg13 : arg13.IsWhole) (hc0 : cond0_0 i) {x0 : V S256x1024} {x1 : V S256x3088} {x2 : V S256x1024} {x3 : V S4x4x256x128} {x4 : V S16x512} {x5 : V S1x512} {x6 : V S1x256}  {D : Data} {T : ℕ} (t : Tile D T x0 x1 x2 x3 x4 x5 x6) (hS : Last T) : sout0_A_0 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 = coe3 (fun h e x => dst (D.q h) (D.d h) (D.a h) (256 * T) e x) := by
  unfold sout0_A_0
  exact (View.read_writes_junk_eq_canon VS0_0 _).trans (dsA c harg1 harg2 harg3 harg4 harg5 harg6 harg7 harg9 harg10 harg11 harg12 harg13 i harg8 hc0 t hS)

theorem outA (c : Dev nD) (i : grid0.Coords) (arg1 : Memref Cert.KernelIdeal.sig .tc .vmem S256x1024 .f32) (harg1 : arg1.IsWhole) (arg2 : Memref Cert.KernelIdeal.sig .tc .vmem S256x3088 .f32) (harg2 : arg2.IsWhole) (arg3 : Memref Cert.KernelIdeal.sig .tc .vmem S256x1024 .f32) (harg3 : arg3.IsWhole) (arg4 : Memref Cert.KernelIdeal.sig .tc .vmem S4x4x256x128 .f32) (harg4 : arg4.IsWhole) (arg5 : Memref Cert.KernelIdeal.sig .tc .vmem S16x512 .f32) (harg5 : arg5.IsWhole) (arg6 : Memref Cert.KernelIdeal.sig .tc .vmem S1x512 .f32) (harg6 : arg6.IsWhole) (arg7 : Memref Cert.KernelIdeal.sig .tc .vmem S1x256 .f32) (harg7 : arg7.IsWhole) (arg8 : Memref Cert.KernelIdeal.sig .tc .vmem S256x3088 .bf16) (harg8 : arg8.IsWhole) (arg9 : Memref Cert.KernelIdeal.sig .tc .vmem S16x512 .f32) (harg9 : arg9.IsWhole) (arg10 : Memref Cert.KernelIdeal.sig .tc .vmem S1x512 .f32) (harg10 : arg10.IsWhole) (arg11 : Memref Cert.KernelIdeal.sig .tc .vmem S1x256 .f32) (harg11 : arg11.IsWhole) (arg12 : Memref Cert.KernelIdeal.sig .tc .vmem S4x256x128 .f32) (harg12 : arg12.IsWhole) (arg13 : Memref Cert.KernelIdeal.sig .tc .vmem S4x256x128 .f32) (harg13 : arg13.IsWhole) (hc0 : cond0_0 i) {x0 : V S256x1024} {x1 : V S256x3088} {x2 : V S256x1024} {x3 : V S4x4x256x128} {x4 : V S16x512} {x5 : V S1x512} {x6 : V S1x256}  {D : Data} {T : ℕ} (t : Tile D T x0 x1 x2 x3 x4 x5 x6) (hS : Last T) : Out D T (out0_A_7 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6, out0_A_8 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6, out0_A_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6, out0_A_10 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6, sout0_A_0 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6) :=
  Out.of (o7A c i arg1 harg1 arg2 harg2 arg3 harg3 arg4 harg4 arg5 harg5 arg6 harg6 arg7 harg7 arg8 harg8 arg9 harg9 arg10 harg10 arg11 harg11 arg12 harg12 arg13 harg13 hc0 t hS) (o8A c i arg1 harg1 arg2 harg2 arg3 harg3 arg4 harg4 arg5 harg5 arg6 harg6 arg7 harg7 arg8 harg8 arg9 harg9 arg10 harg10 arg11 harg11 arg12 harg12 arg13 harg13 hc0 t hS) (o9A c i arg1 harg1 arg2 harg2 arg3 harg3 arg4 harg4 arg5 harg5 arg6 harg6 arg7 harg7 arg8 harg8 arg9 harg9 arg10 harg10 arg11 harg11 arg12 harg12 arg13 harg13 hc0 t hS) (o10A c i arg1 harg1 arg2 harg2 arg3 harg3 arg4 harg4 arg5 harg5 arg6 harg6 arg7 harg7 arg8 harg8 arg9 harg9 arg10 harg10 arg11 harg11 arg12 harg12 arg13 harg13 hc0 t hS) (o0A c i arg1 harg1 arg2 harg2 arg3 harg3 arg4 harg4 arg5 harg5 arg6 harg6 arg7 harg7 arg8 harg8 arg9 harg9 arg10 harg10 arg11 harg11 arg12 harg12 arg13 harg13 hc0 t hS)

theorem o7B (c : Dev nD) (i : grid0.Coords) (arg1 : Memref Cert.KernelIdeal.sig .tc .vmem S256x1024 .f32) (harg1 : arg1.IsWhole) (arg2 : Memref Cert.KernelIdeal.sig .tc .vmem S256x3088 .f32) (harg2 : arg2.IsWhole) (arg3 : Memref Cert.KernelIdeal.sig .tc .vmem S256x1024 .f32) (harg3 : arg3.IsWhole) (arg4 : Memref Cert.KernelIdeal.sig .tc .vmem S4x4x256x128 .f32) (harg4 : arg4.IsWhole) (arg5 : Memref Cert.KernelIdeal.sig .tc .vmem S16x512 .f32) (harg5 : arg5.IsWhole) (arg6 : Memref Cert.KernelIdeal.sig .tc .vmem S1x512 .f32) (harg6 : arg6.IsWhole) (arg7 : Memref Cert.KernelIdeal.sig .tc .vmem S1x256 .f32) (harg7 : arg7.IsWhole) (arg8 : Memref Cert.KernelIdeal.sig .tc .vmem S256x3088 .bf16) (harg8 : arg8.IsWhole) (arg9 : Memref Cert.KernelIdeal.sig .tc .vmem S16x512 .f32) (harg9 : arg9.IsWhole) (arg10 : Memref Cert.KernelIdeal.sig .tc .vmem S1x512 .f32) (harg10 : arg10.IsWhole) (arg11 : Memref Cert.KernelIdeal.sig .tc .vmem S1x256 .f32) (harg11 : arg11.IsWhole) (arg12 : Memref Cert.KernelIdeal.sig .tc .vmem S4x256x128 .f32) (harg12 : arg12.IsWhole) (arg13 : Memref Cert.KernelIdeal.sig .tc .vmem S4x256x128 .f32) (harg13 : arg13.IsWhole) (hc0 : ¬cond0_0 i) {x0 : V S256x1024} {x1 : V S256x3088} {x2 : V S256x1024} {x3 : V S4x4x256x128} {x4 : V S16x512} {x5 : V S1x512} {x6 : V S1x256} {xo8 : V S16x512} {xo9 : V S1x512} {xo10 : V S1x256} {xs0 : V S4x256x128} {D : Data} {T : ℕ} (t : Tile D T x0 x1 x2 x3 x4 x5 x6) (hS : State D (256 * T + 256) xo8 xo9 xo10 xs0) : out0_B_7 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xo9 xo10 xs0 = coe2 (fun i j => D.gPj (256 * T + i) j) := by
  unfold out0_B_7
  exact (View.read_writes_junk_eq_canon VO0_7 _).trans (dpjB c harg1 harg2 harg3 harg4 harg5 harg6 harg7 harg9 harg10 harg11 harg12 harg13 i harg8 hc0 t hS)

theorem o8B (c : Dev nD) (i : grid0.Coords) (arg1 : Memref Cert.KernelIdeal.sig .tc .vmem S256x1024 .f32) (harg1 : arg1.IsWhole) (arg2 : Memref Cert.KernelIdeal.sig .tc .vmem S256x3088 .f32) (harg2 : arg2.IsWhole) (arg3 : Memref Cert.KernelIdeal.sig .tc .vmem S256x1024 .f32) (harg3 : arg3.IsWhole) (arg4 : Memref Cert.KernelIdeal.sig .tc .vmem S4x4x256x128 .f32) (harg4 : arg4.IsWhole) (arg5 : Memref Cert.KernelIdeal.sig .tc .vmem S16x512 .f32) (harg5 : arg5.IsWhole) (arg6 : Memref Cert.KernelIdeal.sig .tc .vmem S1x512 .f32) (harg6 : arg6.IsWhole) (arg7 : Memref Cert.KernelIdeal.sig .tc .vmem S1x256 .f32) (harg7 : arg7.IsWhole) (arg8 : Memref Cert.KernelIdeal.sig .tc .vmem S256x3088 .bf16) (harg8 : arg8.IsWhole) (arg9 : Memref Cert.KernelIdeal.sig .tc .vmem S16x512 .f32) (harg9 : arg9.IsWhole) (arg10 : Memref Cert.KernelIdeal.sig .tc .vmem S1x512 .f32) (harg10 : arg10.IsWhole) (arg11 : Memref Cert.KernelIdeal.sig .tc .vmem S1x256 .f32) (harg11 : arg11.IsWhole) (arg12 : Memref Cert.KernelIdeal.sig .tc .vmem S4x256x128 .f32) (harg12 : arg12.IsWhole) (arg13 : Memref Cert.KernelIdeal.sig .tc .vmem S4x256x128 .f32) (harg13 : arg13.IsWhole) (hc0 : ¬cond0_0 i) {x0 : V S256x1024} {x1 : V S256x3088} {x2 : V S256x1024} {x3 : V S4x4x256x128} {x4 : V S16x512} {x5 : V S1x512} {x6 : V S1x256} {xo8 : V S16x512} {xo9 : V S1x512} {xo10 : V S1x256} {xs0 : V S4x256x128} {D : Data} {T : ℕ} (t : Tile D T x0 x1 x2 x3 x4 x5 x6) (hS : State D (256 * T + 256) xo8 xo9 xo10 xs0) : out0_B_8 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xo9 xo10 xs0 = coe2 (fun i j => D.gWal (256 * T) i j) := by
  unfold out0_B_8
  exact (View.read_writes_junk_eq_canon VO0_8 _).trans (dwalB c harg1 harg2 harg3 harg4 harg5 harg6 harg7 harg9 harg10 harg11 harg12 harg13 i harg8 hc0 t hS)

theorem o9B (c : Dev nD) (i : grid0.Coords) (arg1 : Memref Cert.KernelIdeal.sig .tc .vmem S256x1024 .f32) (harg1 : arg1.IsWhole) (arg2 : Memref Cert.KernelIdeal.sig .tc .vmem S256x3088 .f32) (harg2 : arg2.IsWhole) (arg3 : Memref Cert.KernelIdeal.sig .tc .vmem S256x1024 .f32) (harg3 : arg3.IsWhole) (arg4 : Memref Cert.KernelIdeal.sig .tc .vmem S4x4x256x128 .f32) (harg4 : arg4.IsWhole) (arg5 : Memref Cert.KernelIdeal.sig .tc .vmem S16x512 .f32) (harg5 : arg5.IsWhole) (arg6 : Memref Cert.KernelIdeal.sig .tc .vmem S1x512 .f32) (harg6 : arg6.IsWhole) (arg7 : Memref Cert.KernelIdeal.sig .tc .vmem S1x256 .f32) (harg7 : arg7.IsWhole) (arg8 : Memref Cert.KernelIdeal.sig .tc .vmem S256x3088 .bf16) (harg8 : arg8.IsWhole) (arg9 : Memref Cert.KernelIdeal.sig .tc .vmem S16x512 .f32) (harg9 : arg9.IsWhole) (arg10 : Memref Cert.KernelIdeal.sig .tc .vmem S1x512 .f32) (harg10 : arg10.IsWhole) (arg11 : Memref Cert.KernelIdeal.sig .tc .vmem S1x256 .f32) (harg11 : arg11.IsWhole) (arg12 : Memref Cert.KernelIdeal.sig .tc .vmem S4x256x128 .f32) (harg12 : arg12.IsWhole) (arg13 : Memref Cert.KernelIdeal.sig .tc .vmem S4x256x128 .f32) (harg13 : arg13.IsWhole) (hc0 : ¬cond0_0 i) {x0 : V S256x1024} {x1 : V S256x3088} {x2 : V S256x1024} {x3 : V S4x4x256x128} {x4 : V S16x512} {x5 : V S1x512} {x6 : V S1x256} {xo8 : V S16x512} {xo9 : V S1x512} {xo10 : V S1x256} {xs0 : V S4x256x128} {D : Data} {T : ℕ} (t : Tile D T x0 x1 x2 x3 x4 x5 x6) (hS : State D (256 * T + 256) xo8 xo9 xo10 xs0) : out0_B_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xo9 xo10 xs0 = coe2 (fun _ j => D.gBal (256 * T) j) := by
  unfold out0_B_9
  exact (View.read_writes_junk_eq_canon VO0_9 _).trans (dbalB c harg1 harg2 harg3 harg4 harg5 harg6 harg7 harg9 harg10 harg11 harg12 harg13 i harg8 hc0 t hS)

theorem o10B (c : Dev nD) (i : grid0.Coords) (arg1 : Memref Cert.KernelIdeal.sig .tc .vmem S256x1024 .f32) (harg1 : arg1.IsWhole) (arg2 : Memref Cert.KernelIdeal.sig .tc .vmem S256x3088 .f32) (harg2 : arg2.IsWhole) (arg3 : Memref Cert.KernelIdeal.sig .tc .vmem S256x1024 .f32) (harg3 : arg3.IsWhole) (arg4 : Memref Cert.KernelIdeal.sig .tc .vmem S4x4x256x128 .f32) (harg4 : arg4.IsWhole) (arg5 : Memref Cert.KernelIdeal.sig .tc .vmem S16x512 .f32) (harg5 : arg5.IsWhole) (arg6 : Memref Cert.KernelIdeal.sig .tc .vmem S1x512 .f32) (harg6 : arg6.IsWhole) (arg7 : Memref Cert.KernelIdeal.sig .tc .vmem S1x256 .f32) (harg7 : arg7.IsWhole) (arg8 : Memref Cert.KernelIdeal.sig .tc .vmem S256x3088 .bf16) (harg8 : arg8.IsWhole) (arg9 : Memref Cert.KernelIdeal.sig .tc .vmem S16x512 .f32) (harg9 : arg9.IsWhole) (arg10 : Memref Cert.KernelIdeal.sig .tc .vmem S1x512 .f32) (harg10 : arg10.IsWhole) (arg11 : Memref Cert.KernelIdeal.sig .tc .vmem S1x256 .f32) (harg11 : arg11.IsWhole) (arg12 : Memref Cert.KernelIdeal.sig .tc .vmem S4x256x128 .f32) (harg12 : arg12.IsWhole) (arg13 : Memref Cert.KernelIdeal.sig .tc .vmem S4x256x128 .f32) (harg13 : arg13.IsWhole) (hc0 : ¬cond0_0 i) {x0 : V S256x1024} {x1 : V S256x3088} {x2 : V S256x1024} {x3 : V S4x4x256x128} {x4 : V S16x512} {x5 : V S1x512} {x6 : V S1x256} {xo8 : V S16x512} {xo9 : V S1x512} {xo10 : V S1x256} {xs0 : V S4x256x128} {D : Data} {T : ℕ} (t : Tile D T x0 x1 x2 x3 x4 x5 x6) (hS : State D (256 * T + 256) xo8 xo9 xo10 xs0) : out0_B_10 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xo9 xo10 xs0 = coe2 (fun _ j => D.gNg (256 * T) j) := by
  unfold out0_B_10
  exact (View.read_writes_junk_eq_canon VO0_10 _).trans (dngB c harg1 harg2 harg3 harg4 harg5 harg6 harg7 harg9 harg10 harg11 harg12 harg13 i harg8 hc0 t hS)

theorem o0B (c : Dev nD) (i : grid0.Coords) (arg1 : Memref Cert.KernelIdeal.sig .tc .vmem S256x1024 .f32) (harg1 : arg1.IsWhole) (arg2 : Memref Cert.KernelIdeal.sig .tc .vmem S256x3088 .f32) (harg2 : arg2.IsWhole) (arg3 : Memref Cert.KernelIdeal.sig .tc .vmem S256x1024 .f32) (harg3 : arg3.IsWhole) (arg4 : Memref Cert.KernelIdeal.sig .tc .vmem S4x4x256x128 .f32) (harg4 : arg4.IsWhole) (arg5 : Memref Cert.KernelIdeal.sig .tc .vmem S16x512 .f32) (harg5 : arg5.IsWhole) (arg6 : Memref Cert.KernelIdeal.sig .tc .vmem S1x512 .f32) (harg6 : arg6.IsWhole) (arg7 : Memref Cert.KernelIdeal.sig .tc .vmem S1x256 .f32) (harg7 : arg7.IsWhole) (arg8 : Memref Cert.KernelIdeal.sig .tc .vmem S256x3088 .bf16) (harg8 : arg8.IsWhole) (arg9 : Memref Cert.KernelIdeal.sig .tc .vmem S16x512 .f32) (harg9 : arg9.IsWhole) (arg10 : Memref Cert.KernelIdeal.sig .tc .vmem S1x512 .f32) (harg10 : arg10.IsWhole) (arg11 : Memref Cert.KernelIdeal.sig .tc .vmem S1x256 .f32) (harg11 : arg11.IsWhole) (arg12 : Memref Cert.KernelIdeal.sig .tc .vmem S4x256x128 .f32) (harg12 : arg12.IsWhole) (arg13 : Memref Cert.KernelIdeal.sig .tc .vmem S4x256x128 .f32) (harg13 : arg13.IsWhole) (hc0 : ¬cond0_0 i) {x0 : V S256x1024} {x1 : V S256x3088} {x2 : V S256x1024} {x3 : V S4x4x256x128} {x4 : V S16x512} {x5 : V S1x512} {x6 : V S1x256} {xo8 : V S16x512} {xo9 : V S1x512} {xo10 : V S1x256} {xs0 : V S4x256x128} {D : Data} {T : ℕ} (t : Tile D T x0 x1 x2 x3 x4 x5 x6) (hS : State D (256 * T + 256) xo8 xo9 xo10 xs0) : sout0_B_0 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xo9 xo10 xs0 = coe3 (fun h e x => dst (D.q h) (D.d h) (D.a h) (256 * T) e x) := by
  unfold sout0_B_0
  exact (View.read_writes_junk_eq_canon VS0_0 _).trans (dsB c harg1 harg2 harg3 harg4 harg5 harg6 harg7 harg9 harg10 harg11 harg12 harg13 i harg8 hc0 t hS)

theorem outB (c : Dev nD) (i : grid0.Coords) (arg1 : Memref Cert.KernelIdeal.sig .tc .vmem S256x1024 .f32) (harg1 : arg1.IsWhole) (arg2 : Memref Cert.KernelIdeal.sig .tc .vmem S256x3088 .f32) (harg2 : arg2.IsWhole) (arg3 : Memref Cert.KernelIdeal.sig .tc .vmem S256x1024 .f32) (harg3 : arg3.IsWhole) (arg4 : Memref Cert.KernelIdeal.sig .tc .vmem S4x4x256x128 .f32) (harg4 : arg4.IsWhole) (arg5 : Memref Cert.KernelIdeal.sig .tc .vmem S16x512 .f32) (harg5 : arg5.IsWhole) (arg6 : Memref Cert.KernelIdeal.sig .tc .vmem S1x512 .f32) (harg6 : arg6.IsWhole) (arg7 : Memref Cert.KernelIdeal.sig .tc .vmem S1x256 .f32) (harg7 : arg7.IsWhole) (arg8 : Memref Cert.KernelIdeal.sig .tc .vmem S256x3088 .bf16) (harg8 : arg8.IsWhole) (arg9 : Memref Cert.KernelIdeal.sig .tc .vmem S16x512 .f32) (harg9 : arg9.IsWhole) (arg10 : Memref Cert.KernelIdeal.sig .tc .vmem S1x512 .f32) (harg10 : arg10.IsWhole) (arg11 : Memref Cert.KernelIdeal.sig .tc .vmem S1x256 .f32) (harg11 : arg11.IsWhole) (arg12 : Memref Cert.KernelIdeal.sig .tc .vmem S4x256x128 .f32) (harg12 : arg12.IsWhole) (arg13 : Memref Cert.KernelIdeal.sig .tc .vmem S4x256x128 .f32) (harg13 : arg13.IsWhole) (hc0 : ¬cond0_0 i) {x0 : V S256x1024} {x1 : V S256x3088} {x2 : V S256x1024} {x3 : V S4x4x256x128} {x4 : V S16x512} {x5 : V S1x512} {x6 : V S1x256} {xo8 : V S16x512} {xo9 : V S1x512} {xo10 : V S1x256} {xs0 : V S4x256x128} {D : Data} {T : ℕ} (t : Tile D T x0 x1 x2 x3 x4 x5 x6) (hS : State D (256 * T + 256) xo8 xo9 xo10 xs0) : Out D T (out0_B_7 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xo9 xo10 xs0, out0_B_8 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xo9 xo10 xs0, out0_B_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xo9 xo10 xs0, out0_B_10 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xo9 xo10 xs0, sout0_B_0 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xo9 xo10 xs0) :=
  Out.of (o7B c i arg1 harg1 arg2 harg2 arg3 harg3 arg4 harg4 arg5 harg5 arg6 harg6 arg7 harg7 arg8 harg8 arg9 harg9 arg10 harg10 arg11 harg11 arg12 harg12 arg13 harg13 hc0 t hS) (o8B c i arg1 harg1 arg2 harg2 arg3 harg3 arg4 harg4 arg5 harg5 arg6 harg6 arg7 harg7 arg8 harg8 arg9 harg9 arg10 harg10 arg11 harg11 arg12 harg12 arg13 harg13 hc0 t hS) (o9B c i arg1 harg1 arg2 harg2 arg3 harg3 arg4 harg4 arg5 harg5 arg6 harg6 arg7 harg7 arg8 harg8 arg9 harg9 arg10 harg10 arg11 harg11 arg12 harg12 arg13 harg13 hc0 t hS) (o10B c i arg1 harg1 arg2 harg2 arg3 harg3 arg4 harg4 arg5 harg5 arg6 harg6 arg7 harg7 arg8 harg8 arg9 harg9 arg10 harg10 arg11 harg11 arg12 harg12 arg13 harg13 hc0 t hS) (o0B c i arg1 harg1 arg2 harg2 arg3 harg3 arg4 harg4 arg5 harg5 arg6 harg6 arg7 harg7 arg8 harg8 arg9 harg9 arg10 harg10 arg11 harg11 arg12 harg12 arg13 harg13 hc0 t hS)

variable (m : (ℓ : Loc nD τ Cert.KernelIdeal.sig) → Buf (Elt Ideal) ℓ)

/-- What the arrays that the kernel's windows read hold when the sweep begins. -/
structure Entry (D : Data) (c : Dev nD) : Prop where
  h0 : R2 (a := 4096) (b := 1024) (φ := .f32) (Gen.V m c main_arg0) D.da
  h1 : R2 (a := 4096) (b := 3088) (φ := .f32) (Gen.V m c main_arg1) D.pj
  h2 : R2 (a := 4096) (b := 1024) (φ := .f32) (Gen.V m c main_v41) D.o
  h3 : R4 (a := 64) (b := 4) (c := 256) (d := 128) (φ := .f32) (Gen.V m c main_v64) (fun n h e x => st (D.k h) (D.v h) (D.a h) (64 * n) e x)
  h4 : R2 (a := 16) (b := 512) (φ := .f32) (Gen.V m c main_arg2) D.wal
  h5 : R2 (a := 1) (b := 512) (φ := .f32) (Gen.V m c main_arg3) (fun _ x => D.bal x)
  h6 : R2 (a := 1) (b := 256) (φ := .f32) (Gen.V m c main_arg4) (fun _ x => D.ng x)

/-- The blocks that the windows take at a grid point: the sweep runs from the last tile to the first. -/
theorem idx : ∀ t : Fin cfg0.N, win0_0.index t = ![15 - t.val, 0] ∧ win0_1.index t = ![15 - t.val, 0] ∧ win0_2.index t = ![15 - t.val, 0]
    ∧ win0_3.index t = ![15 - t.val, 0, 0, 0] ∧ win0_4.index t = ![0, 0] ∧ win0_5.index t = ![0, 0] ∧ win0_6.index t = ![0, 0]
    ∧ win0_7.index t = ![15 - t.val, 0] ∧ win0_8.index t = ![0, 0] ∧ win0_9.index t = ![0, 0] ∧ win0_10.index t = ![0, 0] ∧ t.val < 16 :=
  (by decide +kernel : ∀ t : Fin grid0.N, _)

theorem in0 {D : Data} {c : Dev nD} (E : Entry m D c) (t : Fin cfg0.N) : R2 (a := 256) (b := 1024) (φ := .f32) (iblk m c 0 t) (fun i j => D.da (256 * (15 - t.val) + i) j) := fun i j => by
  have ht := (idx t).2.2.2.2.2.2.2.2.2.2.2
  refine Eq.trans ?_ (E.h0 ⟨256 * (15 - t.val) + i.val, by omega⟩ j)
  blk_ext [iblk, idx t]

theorem in1 {D : Data} {c : Dev nD} (E : Entry m D c) (t : Fin cfg0.N) : R2 (a := 256) (b := 3088) (φ := .f32) (iblk m c 1 t) (fun i j => D.pj (256 * (15 - t.val) + i) j) := fun i j => by
  have ht := (idx t).2.2.2.2.2.2.2.2.2.2.2
  refine Eq.trans ?_ (E.h1 ⟨256 * (15 - t.val) + i.val, by omega⟩ j)
  blk_ext [iblk, idx t]

theorem in2 {D : Data} {c : Dev nD} (E : Entry m D c) (t : Fin cfg0.N) : R2 (a := 256) (b := 1024) (φ := .f32) (iblk m c 2 t) (fun i j => D.o (256 * (15 - t.val) + i) j) := fun i j => by
  have ht := (idx t).2.2.2.2.2.2.2.2.2.2.2
  refine Eq.trans ?_ (E.h2 ⟨256 * (15 - t.val) + i.val, by omega⟩ j)
  blk_ext [iblk, idx t]

theorem in3 {D : Data} {c : Dev nD} (E : Entry m D c) (t : Fin cfg0.N) : R4 (a := 4) (b := 4) (c := 256) (d := 128) (φ := .f32) (iblk m c 3 t)
    (fun n h e x => st (D.k h) (D.v h) (D.a h) (256 * (15 - t.val) + 64 * n) e x) := fun n h e x => by
  have ht := (idx t).2.2.2.2.2.2.2.2.2.2.2
  have e1 := E.h3 ⟨4 * (15 - t.val) + n.val, by omega⟩ h e x
  simp only [Nat.mul_add, ← Nat.mul_assoc, Nat.reduceMul] at e1
  simp only [Nat.mul_add, ← Nat.mul_assoc, Nat.reduceMul]
  refine Eq.trans ?_ e1
  blk_ext [iblk, idx t]

theorem in4 {D : Data} {c : Dev nD} (E : Entry m D c) (t : Fin cfg0.N) : R2 (a := 16) (b := 512) (φ := .f32) (iblk m c 4 t) D.wal := fun i j => by
  refine Eq.trans ?_ (E.h4 i j)
  blk_ext [iblk, idx t]

theorem in5 {D : Data} {c : Dev nD} (E : Entry m D c) (t : Fin cfg0.N) : R2 (a := 1) (b := 512) (φ := .f32) (iblk m c 5 t) (fun _ x => D.bal x) := fun i j => by
  refine Eq.trans ?_ (E.h5 i j)
  blk_ext [iblk, idx t]

theorem in6 {D : Data} {c : Dev nD} (E : Entry m D c) (t : Fin cfg0.N) : R2 (a := 1) (b := 256) (φ := .f32) (iblk m c 6 t) (fun _ x => D.ng x) := fun i j => by
  refine Eq.trans ?_ (E.h6 i j)
  blk_ext [iblk, idx t]

/-- The tile that a grid point reads. -/
theorem tile {D : Data} {c : Dev nD} (E : Entry m D c) (t : Fin cfg0.N) :
    Tile D (15 - t.val) (iblk m c 0 t) (iblk m c 1 t) (iblk m c 2 t) (iblk m c 3 t) (iblk m c 4 t) (iblk m c 5 t) (iblk m c 6 t) :=
  ⟨by have := (idx t).2.2.2.2.2.2.2.2.2.2.2; omega, in0 m E t, in1 m E t, in2 m E t, in3 m E t, in4 m E t, in5 m E t, in6 m E t⟩

/-- What the kernel holds after a grid point. -/
theorem outs {D : Data} {c : Dev nD} (E : Entry m D c) : ∀ (n : ℕ) (hn : n < cfg0.N), Out D (15 - n) (outsAt0 m c n hn)
  | 0, hn => by
    have e := outsAt0_A m c ⟨0, hn⟩ rfl
    dsimp only at e
    rw [e]
    exact outA _ _ _ _ _ _ _ _ _ _ _ _ _ _ _ _ _ _ _ _ _ _ _ _ _ _ _ _ _ (tile m E ⟨0, hn⟩) ⟨rfl⟩
  | n + 1, hn => by
    have ht := (idx ⟨n + 1, hn⟩).2.2.2.2.2.2.2.2.2.2.2
    have ih := outs E n (Nat.lt_of_succ_lt hn)
    have hne : ¬ (n + 1) % 16 = 0 := by have : n + 1 < 16 := ht; omega
    have e := outsAt0_B m c ⟨n + 1, hn⟩ hne
    dsimp only [Nat.add_sub_cancel] at e
    rw [e]
    refine outB _ _ _ _ _ _ _ _ _ _ _ _ _ _ _ _ _ _ _ _ _ _ _ _ _ _ _ _ _ (tile m E ⟨n + 1, hn⟩) ?_
    have e2 : 256 * (15 - (n + 1)) + 256 = 256 * (15 - n) := by have : n + 1 < 16 := ht; omega
    rw [e2]
    exact ih.st

end Cert.Gla

end
-- ==== Proof.Final.lean ====
/- What the kernel's four results hold once every tile has run. -/
module

public import proofs.«01_k».proof.Proof.Sweep

@[expose] public section

noncomputable section

namespace Cert.Gla

open Idealize.ShloMosaic Idealize.ShloMosaic.TcCoe Idealize.SL.Sem
open Cert.KernelIdeal Cert.KernelIdeal.Gen
open Finset (range Ico)

variable (m : (ℓ : Loc nD τ Cert.KernelIdeal.sig) → Buf (Elt Ideal) ℓ) {D : Data} {c : Dev nD}

theorem final8 (E : Entry m D c) : (dats (F := Ideal) m 0 c).arrAt 8 cfg0.N = coe2 (D.gWal 0) := by
  refine (dats (F := Ideal) m 0 c).arrAt_eq_of_after_last 8 t0_15 (by decide +kernel) _ fun j => ?_
  have h := (outs m E 15 (by decide)).st.h8
  idx_vars j
  blk_simp
  rw [after0_8]
  refine (h _ _).trans ?_
  rfl

theorem final9 (E : Entry m D c) : (dats (F := Ideal) m 0 c).arrAt 9 cfg0.N = coe2 (fun _ => D.gBal 0) := by
  refine (dats (F := Ideal) m 0 c).arrAt_eq_of_after_last 9 t0_15 (by decide +kernel) _ fun j => ?_
  have h := (outs m E 15 (by decide)).st.h9
  idx_vars j
  blk_simp
  rw [after0_9]
  refine (h _ _).trans ?_
  rfl

theorem final10 (E : Entry m D c) : (dats (F := Ideal) m 0 c).arrAt 10 cfg0.N = coe2 (fun _ => D.gNg 0) := by
  refine (dats (F := Ideal) m 0 c).arrAt_eq_of_after_last 10 t0_15 (by decide +kernel) _ fun j => ?_
  have h := (outs m E 15 (by decide)).st.h10
  idx_vars j
  blk_simp
  rw [after0_10]
  refine (h _ _).trans ?_
  rfl

theorem final7 (E : Entry m D c) : (dats (F := Ideal) m 0 c).arrAt 7 cfg0.N = coe2 D.gPj := by
  refine (dats (F := Ideal) m 0 c).arrAt_eq_of_covers 7 _ (by decide +kernel) fun t hf y => ?_
  have h := (outs m E t.val t.isLt).pj
  idx_vars y
  blk_simp
  rw [after0_7]
  refine (congrFun h _).trans ?_
  have ht := (idx t).2.2.2.2.2.2.2.2.2.2.2
  blk_point [coe2, idx t]
  rw [mul_comm 256]

end Cert.Gla
end
-- ==== Proof.HostA.lean ====
/- The host operations that both programs share, read at an index over real numbers: the decays' running sums, the decays,
   the attention's weights and its output. -/
module

public import proofs.«01_k».proof.Proof.Tile
public import proofs.«01_k».proof.Proof.Gen.ReferenceIdeal.Run
public import Idealize.ShloMosaic.Lib.Tactic.CleanTypes

@[expose] public section

set_option maxRecDepth 16384

noncomputable section

namespace Cert.Gla

open Idealize.ShloMosaic Idealize.ShloMosaic.TcCoe Idealize.SL.Sem
open Cert.ReferenceIdeal Cert.ReferenceIdeal.Gen
open Finset (range Ico)

/-- The logits, negated. -/
def fNeg (p : V S4096x3088) (w : V S16x512) (b : V S1x512) : V S4096x512 :=
  Host.negf (addf (Host.dotGeneral dot_S4096x16_S16x512_S4096x512_1_0_0_1_n_n none (extractStridedSlice S4096x16 ![0, 3072] p slices_S4096x3088_S4096x16_0_3072) w) (broadcastInDim S4096x512 ![0, 1] bcast_S1x512_S4096x512_0_1 b))
/-- A difference with zero. -/
def fSub (y : V S4096x512) : V S4096x512 := subf y (broadcastInDim S4096x512 ![] bcast_S_S4096x512 (constant S_ .f32 0x00000000#32))
/-- The logarithm of one plus the exponential. -/
def fSp (y : V S4096x512) : V S4096x512 :=
  select (cmpf .une (fSub y) (fSub y)) (addf y (broadcastInDim S4096x512 ![] bcast_S_S4096x512 (constant S_ .f32 0x00000000#32))) (addf (maximumf y (broadcastInDim S4096x512 ![] bcast_S_S4096x512 (constant S_ .f32 0x00000000#32))) (Host.log1p (Host.exp (Host.negf (Host.absf (fSub y))))))
/-- The decays' logarithms by heads, from the logarithms of one plus the exponential. -/
def fLa (s : V S4096x512) : V S4x4096x128 :=
  transpose S4x4096x128 [1, 0, 2] (shapeCast _ (Host.divf (Host.negf s) (broadcastInDim S4096x512 ![] bcast_S_S4096x512 (constant S_ .f32 0x41800000#32))) shapeCasts_S4096x512_S4096x4x128) transposes_S4096x4x128_S4x4096x128_1_0_2
/-- The running sums. -/
def fCum (l : V S4x4096x128) : V S4x4096x128 :=
  Host.reduceWindowAdd ![1, 4096, 1] ![1, 1, 1] ![0, 4095, 0] ![0, 0, 0] l (broadcastInDim S_ ![] bcast_S_S_ (constant S_ .f32 0x00000000#32)) reduceWindows_S4x4096x128_S4x4096x128_w1s1p0_0_w4096s1p4095_0_w1s1p0_0 h_S_
/-- The sums from an index to the end. -/
def fRev (l : V S4x4096x128) : V S4x4096x128 :=
  Host.reduceWindowAdd ![1, 4096, 1] ![1, 1, 1] ![0, 0, 0] ![0, 4095, 0] l (broadcastInDim S_ ![] bcast_S_S_ (constant S_ .f32 0x00000000#32)) reduceWindows_S4x4096x128_S4x4096x128_w1s1p0_0_w4096s1p0_4095_w1s1p0_0 h_S_
/-- The causal mask. -/
def fMask : IVec S4x4096x4096x128 1 :=
  broadcastInDim S4x4096x4096x128 ![1, 2, 3] bcast_S4096x4096x1_S4x4096x4096x128_1_2_3 (broadcastInDim S4096x4096x1 ![0, 1] bcast_S4096x4096_S4096x4096x1_0_1 (select (cmpi .sge (addi (iotaInDim S4096x4096 32 0) (broadcastInDim S4096x4096 ![] bcast_S_S4096x4096 (constantI S_ 32 0#32))) (iotaInDim S4096x4096 32 1)) (broadcastInDim S4096x4096 ![] bcast_S_S4096x4096 (constantI S_ 1 1#1)) (broadcastInDim S4096x4096 ![] bcast_S_S4096x4096 (constantI S_ 1 0#1))))
/-- The decay between two tokens. -/
def fDec (g : V S4x4096x128) : V S4x4096x4096x128 :=
  Host.exp (select fMask (subf (broadcastInDim S4x4096x4096x128 ![0, 1, 2, 3] bcast_S4x4096x1x128_S4x4096x4096x128_0_1_2_3 (broadcastInDim S4x4096x1x128 ![0, 1, 3] bcast_S4x4096x128_S4x4096x1x128_0_1_3 g)) (broadcastInDim S4x4096x4096x128 ![0, 1, 2, 3] bcast_S4x1x4096x128_S4x4096x4096x128_0_1_2_3 (broadcastInDim S4x1x4096x128 ![0, 2, 3] bcast_S4x4096x128_S4x1x4096x128_0_2_3 g))) (broadcastInDim S4x4096x4096x128 ![] bcast_S_S4x4096x4096x128 (id (constant S_ .f32 0xFF800000#32))))
/-- The scaled queries by heads. -/
def fQ (p : V S4096x3088) : V S4x4096x1x128 :=
  broadcastInDim S4x4096x1x128 ![0, 1, 3] bcast_S4x4096x128_S4x4096x1x128_0_1_3 (transpose S4x4096x128 [1, 0, 2] (shapeCast _ (mulf (extractStridedSlice S4096x512 ![0, 0] p slices_S4096x3088_S4096x512_0_0) (broadcastInDim S4096x512 ![] bcast_S_S4096x512 (constant S_ .f32 0x3DB504F3#32))) shapeCasts_S4096x512_S4096x4x128) transposes_S4096x4x128_S4x4096x128_1_0_2)
/-- The keys by heads. -/
def fKh (p : V S4096x3088) : V S4x4096x128 :=
  transpose S4x4096x128 [1, 0, 2] (shapeCast _ (extractStridedSlice S4096x512 ![0, 512] p slices_S4096x3088_S4096x512_0_512) shapeCasts_S4096x512_S4096x4x128) transposes_S4096x4x128_S4x4096x128_1_0_2
def fK (p : V S4096x3088) : V S4x1x4096x128 := broadcastInDim S4x1x4096x128 ![0, 2, 3] bcast_S4x4096x128_S4x1x4096x128_0_2_3 (fKh p)
/-- The values by heads. -/
def fV (p : V S4096x3088) : V S4x4096x256 :=
  transpose S4x4096x256 [1, 0, 2] (shapeCast _ (extractStridedSlice S4096x1024 ![0, 1024] p slices_S4096x3088_S4096x1024_0_1024) shapeCasts_S4096x1024_S4096x4x256) transposes_S4096x4x256_S4x4096x256_1_0_2
def fQK (p : V S4096x3088) : V S4x4096x4096x128 :=
  mulf (broadcastInDim S4x4096x4096x128 ![0, 1, 2, 3] bcast_S4x4096x1x128_S4x4096x4096x128_0_1_2_3 (fQ p)) (broadcastInDim S4x4096x4096x128 ![0, 1, 2, 3] bcast_S4x1x4096x128_S4x4096x4096x128_0_1_2_3 (fK p))
/-- The attention's weights. -/
def fAtt (qk dc : V S4x4096x4096x128) : V S4x4096x4096 :=
  Host.reduceAdd (mulf qk dc) (constant S_ .f32 0x00000000#32) reducesTo_S4x4096x4096x128_S4x4096x4096_d3 h_S_
/-- The attention's output. -/
def fO (t : V S4x4096x4096) (v : V S4x4096x256) : V S4096x4x256 :=
  transpose S4096x4x256 [1, 0, 2] (Host.dotGeneral dot_S4x4096x4096_S4x4096x256_S4x4096x256_2_1_1_2_0_0 none t v) transposes_S4x4096x256_S4096x4x256_1_0_2

/-- A fold of additions is the sum. -/
theorem foldl_add (n : ℕ) (f : Fin n → EReal) (v : EReal) : (List.finRange n).foldl (fun r i => r + f i) v = v + ∑ i, f i := by
  rw [Fin.sum_univ_def]
  generalize List.finRange n = l
  induction l generalizing v with
  | nil => simp
  | cons a l ih => rw [List.foldl_cons, ih, List.map_cons, List.sum_cons, add_assoc]

theorem sum_shift (i : ℕ) (hi : i < 4096) (f : ℕ → ℝ) :
    ∑ k ∈ range 4096, (if 4095 ≤ i + k then f (i + k - 4095) else 0) = ∑ j ∈ range (i + 1), f j := by
  rw [show range 4096 = range ((4095 - i) + (i + 1)) from congrArg range (by omega), Finset.sum_range_add,
    Finset.sum_eq_zero (s := range (4095 - i)) (fun k hk => if_neg (by have := Finset.mem_range.mp hk; omega)), zero_add]
  refine Finset.sum_congr rfl fun k hk => ?_
  rw [if_pos (by omega), show i + (4095 - i + k) - 4095 = k by omega]
theorem sum_tail (i : ℕ) (hi : i < 4096) (f : ℕ → ℝ) :
    ∑ k ∈ range 4096, (if i + k < 4096 then f (i + k) else 0) = ∑ j ∈ Ico i 4096, f j := by
  rw [show range 4096 = range ((4096 - i) + i) from congrArg range (by omega), Finset.sum_range_add, Finset.sum_Ico_eq_sum_range,
    Finset.sum_eq_zero (s := range i) (fun k hk => if_neg (by omega)), add_zero]
  exact Finset.sum_congr rfl fun k hk => if_pos (by have := Finset.mem_range.mp hk; omega)

/-- The window's initial value. -/
theorem zero_read : (broadcastInDim S_ ![] bcast_S_S_ (constant (F := Ideal) S_ .f32 0x00000000#32)) (Shape.Idx.first h_S_) = (0 : EReal) := by
  refine Eq.trans ?_ (bits_zero.trans EReal.coe_zero)
  rfl
/-- The positions of a window that is long on its middle axis alone. -/
theorem win_sum (G : (⟨S4x4096x128.rank, ![1, 4096, 1]⟩ : Shape).Idx → EReal) :
    ∑ n, G ((⟨S4x4096x128.rank, ![1, 4096, 1]⟩ : Shape).rowMajor.symm n) = ∑ k : Fin 4096, G (ix3 (n0 := 1) (n1 := 4096) (n2 := 1) 0 k 0) := by
  rw [Equiv.sum_comp (⟨S4x4096x128.rank, ![1, 4096, 1]⟩ : Shape).rowMajor.symm G]
  refine (sum_idx3 (n0 := 1) (n1 := 4096) (n2 := 1) G).trans ?_
  simp
/-- What a position of the window of element `y` reads. -/
def winG (lo : Fin S4x4096x128.rank → ℕ) (l : V S4x4096x128) (v : EReal) (y : S4x4096x128.Idx) (w : (⟨S4x4096x128.rank, ![1, 4096, 1]⟩ : Shape).Idx) : EReal :=
  if hin : ∀ a, lo a ≤ (y a).val * ![1, 1, 1] a + (w a).val ∧ (y a).val * ![1, 1, 1] a + (w a).val - lo a < S4x4096x128.size a
    then l (fun a => ⟨(y a).val * ![1, 1, 1] a + (w a).val - lo a, (hin a).2⟩) else v
theorem win_eq (lo hi : Fin S4x4096x128.rank → ℕ) (l : V S4x4096x128) (hw) (y : S4x4096x128.Idx) :
    Host.reduceWindowAdd (F := Ideal) (φ := .f32) (t := S4x4096x128) ![1, 4096, 1] ![1, 1, 1] lo hi l (broadcastInDim S_ ![] bcast_S_S_ (constant S_ .f32 0x00000000#32)) hw h_S_ y
      = ∑ k : Fin 4096, winG lo l 0 y (ix3 (n0 := 1) (n1 := 4096) (n2 := 1) 0 k 0) := by
  unfold Host.reduceWindowAdd
  rw [zero_read, Ideal.hostReduceWindowAdd_def]
  unfold Ideal.hostReduceWindowAdd Host.reduceWindow
  rw [foldl_add, zero_add]
  refine (Finset.sum_congr rfl fun n _ => ?_).trans (win_sum (winG lo l 0 y))
  unfold winG
  refine dite_congr rfl (fun hin => ?_) (fun _ => rfl)
  rfl
/-- The constant sixteen. -/
theorem bits_16 : (Scalar.ofBits .f32 0x41800000#32 : Ideal .f32) = ((16 : ℝ) : EReal) := by
  simp [Scalar.ofBits, FloatOps.ofBits, Ideal.ofBits, Ideal.ieee, -EReal.coe_mul]; norm_num
theorem bits_ninf : (Scalar.ofBits .f32 0xFF800000#32 : Ideal .f32) = (⊥ : EReal) := by
  simp [Scalar.ofBits, FloatOps.ofBits, Ideal.ofBits, Ideal.ieee]

section
variable {X Y : ℕ → ℕ → ℝ} {X3 Y3 : ℕ → ℕ → ℕ → ℝ}

theorem R3.fCum {l : V S4x4096x128} (hl : R3 l X3) : R3 (fCum l) (fun h i x => pre (X3 h) (i + 1) x) := fun h i x => by
  refine (win_eq _ _ l _ _).trans ?_
  refine Eq.trans ?_ (congrArg (fun r : ℝ => (r : EReal)) (sum_shift i i.isLt fun j => X3 h j x))
  rw [← coe_sum_fin]
  refine Finset.sum_congr rfl fun k _ => ?_
  unfold winG
  by_cases hk : 4095 ≤ i.val + k.val
  · have hk' : i.val + k.val - 4095 < 4096 := by omega
    refine (dif_pos ?_).trans ?_
    · intro a; fin_cases a
      · exact ⟨Nat.zero_le _, by have := h.isLt; show h.val * 1 + 0 - 0 < 4; omega⟩
      · exact ⟨by show 4095 ≤ i.val * 1 + k.val; omega, by show i.val * 1 + k.val - 4095 < 4096; omega⟩
      · exact ⟨Nat.zero_le _, by have := x.isLt; show x.val * 1 + 0 - 0 < 128; omega⟩
    · rw [if_pos hk]
      refine Eq.trans (congrArg l ?_) (hl h ⟨i.val + k.val - 4095, hk'⟩ x)
      funext a; fin_cases a
      · exact Fin.ext (show h.val * 1 + 0 - 0 = h.val by omega)
      · exact Fin.ext (show i.val * 1 + k.val - 4095 = i.val + k.val - 4095 by omega)
      · exact Fin.ext (show x.val * 1 + 0 - 0 = x.val by omega)
  · refine (dif_neg fun hin => hk ?_).trans ?_
    · have := (hin 1).1
      change 4095 ≤ i.val * 1 + k.val at this
      omega
    · rw [if_neg hk, EReal.coe_zero]
theorem R3.fRev {l : V S4x4096x128} (hl : R3 l X3) : R3 (fRev l) (fun h i x => ∑ n ∈ Ico i 4096, X3 h n x) := fun h i x => by
  refine (win_eq _ _ l _ _).trans ?_
  refine Eq.trans ?_ (congrArg (fun r : ℝ => (r : EReal)) (sum_tail i i.isLt fun j => X3 h j x))
  rw [← coe_sum_fin]
  refine Finset.sum_congr rfl fun k _ => ?_
  unfold winG
  by_cases hk : i.val + k.val < 4096
  · have hk' : i.val + k.val < 4096 := by omega
    refine (dif_pos ?_).trans ?_
    · intro a; fin_cases a
      · exact ⟨Nat.zero_le _, by have := h.isLt; show h.val * 1 + 0 - 0 < 4; omega⟩
      · exact ⟨Nat.zero_le _, by show i.val * 1 + k.val - 0 < 4096; omega⟩
      · exact ⟨Nat.zero_le _, by have := x.isLt; show x.val * 1 + 0 - 0 < 128; omega⟩
    · rw [if_pos hk]
      refine Eq.trans (congrArg l ?_) (hl h ⟨i.val + k.val, hk'⟩ x)
      funext a; fin_cases a
      · exact Fin.ext (show h.val * 1 + 0 - 0 = h.val by omega)
      · exact Fin.ext (show i.val * 1 + k.val - 0 = i.val + k.val by omega)
      · exact Fin.ext (show x.val * 1 + 0 - 0 = x.val by omega)
  · refine (dif_neg fun hin => hk ?_).trans ?_
    · have := (hin 1).2
      change i.val * 1 + k.val - 0 < 4096 at this
      omega
    · rw [if_neg hk, EReal.coe_zero]
theorem R2.fNeg {p : V S4096x3088} {w : V S16x512} {b : V S1x512} {D : Data} (hp : R2 p D.pj) (hw : R2 w D.wal) (hb : R2 b fun _ x => D.bal x) :
    R2 (fNeg p w b) (fun i c => -(∑ r ∈ range 16, D.z i r * D.wal r c + D.bal c)) := fun i c => by
  rw [EReal.coe_neg, EReal.coe_add, ← coe_sum_fin 16 (fun r => D.z i r * D.wal r c), ← hb 0 c]
  pointwise [Cert.Gla.fNeg]
  congr 2
  refine Finset.sum_congr rfl fun r _ => ?_
  rw [EReal.coe_mul]
  exact congrArg₂ (· * ·) (hp i ⟨3072 + r.val, by omega⟩) (hw r c)
theorem fMask_apply (h : Fin 4) (i j : Fin 4096) (x : Fin 128) : fMask (ix4 h i j x) = if j.val ≤ i.val then 1#1 else 0#1 := by
  pointwise [Cert.Gla.fMask]
  rw [show IntOp.addi (BitVec.ofNat 32 i.val) 0#32 = BitVec.ofNat 32 i.val from BitVec.add_zero _,
    Idealize.ShloMosaic.WordCmp.cmpi_sge_ofNat (by have := i.isLt; norm_num; omega) (by have := j.isLt; norm_num; omega)]
  by_cases h' : j.val ≤ i.val <;> simp [h', Scalar.select]
theorem R4.fDec {g : V S4x4096x128} (hg : R3 g X3) : R4 (fDec g) (fun h i j x => if j ≤ i then Real.exp (X3 h i x - X3 h j x) else 0) := fun h i j x => by
  pointwise [Cert.Gla.fDec]
  rw [fMask_apply, hg, hg]
  by_cases h' : j.val ≤ i.val
  · rw [if_pos h', if_pos h', ← EReal.coe_sub]; rfl
  · rw [if_neg h', if_neg h', EReal.coe_zero]
    exact congrArg Ideal.exp bits_ninf
theorem R4.fQ {p : V S4096x3088} {D : Data} (hp : R2 p D.pj) : R4 (fQ p) (fun h i _ x => D.q h i x) := fun h i j x => by
  pointwise [Cert.Gla.fQ]
  refine (congrArg₂ (· * ·) (hp _ _) bits_sc).trans ?_
  rw [← EReal.coe_mul]
  simp only [Data.q, mul_comm 128]
theorem R3.fKh {p : V S4096x3088} {D : Data} (hp : R2 p D.pj) : R3 (fKh p) (fun h i x => D.k h i x) := fun h i x => by
  pointwise [Cert.Gla.fKh]
  refine (hp _ _).trans ?_
  simp only [Data.k, mul_comm 128, add_assoc]
theorem R4.fK {p : V S4096x3088} {D : Data} (hp : R2 p D.pj) : R4 (fK p) (fun h _ i x => D.k h i x) := fun h j i x => by
  refine Eq.trans ?_ (R3.fKh hp h i x)
  pointwise [Cert.Gla.fK]
theorem R3.fV {p : V S4096x3088} {D : Data} (hp : R2 p D.pj) : R3 (fV p) (fun h i x => D.v h i x) := fun h i x => by
  pointwise [Cert.Gla.fV]
  refine (hp _ _).trans ?_
  simp only [Data.v, mul_comm 256, add_assoc]
theorem R4.fQK {p : V S4096x3088} {D : Data} (hp : R2 p D.pj) : R4 (fQK p) (fun h i j x => D.q h i x * D.k h j x) := fun h i j x => by
  rw [EReal.coe_mul]
  refine Eq.trans ?_ (congrArg₂ (· * ·) (R4.fQ hp h i 0 x) (R4.fK hp h 0 j x))
  pointwise [Cert.Gla.fQK]
theorem R2.fSub {y : V S4096x512} (hy : R2 y X) : R2 (fSub y) X := fun i c => by
  rw [← hy i c, ← sub_zero (y (ix2 i c))]
  pointwise [Cert.Gla.fSub]
theorem R2.fSp {y : V S4096x512} (hy : R2 y X) : R2 (fSp y) (fun i c => max (X i c) 0 + Real.log (1 + Real.exp (-|X i c|))) := fun i c => by
  pointwise [Cert.Gla.fSp]
  rw [if_neg (fun h => h rfl), (R2.fSub hy) i c, hy i c]
  have ha : FloatOps.absf (F := Ideal) (φ := .f32) ((X i c : ℝ) : EReal) = ((|X i c| : ℝ) : EReal) := by
    show max ((X i c : ℝ) : EReal) (-((X i c : ℝ) : EReal)) = _
    rw [← EReal.coe_neg]
    exact (EReal.coe_strictMono.monotone.map_max).symm
  rw [EReal.coe_add]
  refine congrArg₂ (· + ·) ?_ ?_
  · rw [← EReal.coe_zero]
    exact (EReal.coe_strictMono.monotone.map_max).symm
  · refine (congrArg (fun t : EReal => Ideal.log1p (Ideal.exp (-t))) ha).trans ?_
    show Ideal.log (1 + Ideal.exp (-((|X i c| : ℝ) : EReal))) = _
    rw [← EReal.coe_neg, Ideal.exp_coe, ← EReal.coe_one, ← EReal.coe_add, Ideal.log_coe, if_neg (not_le.mpr (by positivity))]
theorem R3.fLa {s : V S4096x512} (hs : R2 s X) : R3 (fLa s) (fun h i x => -X i (128 * h + x) * (1 / 16)) := fun h i x => by
  pointwise [Cert.Gla.fLa]
  refine (congrArg₂ (fun a b : EReal => Ideal.div (-a) b) (hs _ _) bits_16).trans ?_
  rw [Ideal.div_coe (by norm_num), ← EReal.coe_neg, ← EReal.coe_mul]
  simp only [mul_comm 128]
theorem R3.fAtt {u v : V S4x4096x4096x128} {A B : ℕ → ℕ → ℕ → ℕ → ℝ} (hu : R4 u A) (hv : R4 v B) : R3 (fAtt u v) (fun h i j => ∑ x ∈ range 128, A h i j x * B h i j x) := fun h i j => by
  pointwise [Cert.Gla.fAtt]
  rw [← coe_sum_fin 128 (fun x => A h i j x * B h i j x)]
  exact Finset.sum_congr rfl fun x _ => by rw [EReal.coe_mul, hu, hv]
theorem R3.fO {u : V S4x4096x4096} {v : V S4x4096x256} (hu : R3 u X3) (hv : R3 v Y3) : R3 (fO u v) (fun i h e => ∑ j ∈ range 4096, X3 h i j * Y3 h j e) := fun i h e => by
  pointwise [Cert.Gla.fO]
  rw [← coe_sum_fin 4096 (fun j => X3 h i j * Y3 h j e)]
  exact Finset.sum_congr rfl fun j _ => by rw [EReal.coe_mul, hu, hv]
end

end Cert.Gla
end
-- ==== Proof.HostB.lean ====
/- The reference's own operations, read at an index over real numbers. -/
module

public import proofs.«01_k».proof.Proof.HostA

@[expose] public section

set_option maxRecDepth 16384

noncomputable section

namespace Cert.Gla

open Idealize.ShloMosaic Idealize.ShloMosaic.TcCoe Idealize.SL.Sem
open Cert.ReferenceIdeal Cert.ReferenceIdeal.Gen
open Finset (range Ico)

/-- The output gate's input. -/
def yR (a1 : V S4096x3088) : V S4096x1024 :=
  extractStridedSlice S4096x1024 ![0, 2048] a1 slices_S4096x3088_S4096x1024_0_2048

/-- The mean square of a row, with the small addend. -/
def yMs (v40 : V S4096x4x256) : V S4096x4x1 :=
  addf (Host.divf (broadcastInDim S4096x4x1 ![0, 1] bcast_S4096x4_S4096x4x1_0_1 (Host.reduceAdd (mulf v40 v40) (constant S_ .f32 0x00000000#32) reducesTo_S4096x4x256_S4096x4_d2 h_S_)) (broadcastInDim S4096x4x1 ![] bcast_S_S4096x4x1 (constant S_ .f32 0x43800000#32))) (broadcastInDim S4096x4x1 ![] bcast_S_S4096x4x1 (constant S_ .f32 0x358637BD#32))

/-- Its reciprocal root. -/
def yRs (v47 : V S4096x4x1) : V S4096x4x1 :=
  Host.rsqrt v47

/-- The normalised rows. -/
def yOn (v40 : V S4096x4x256) (v48 : V S4096x4x1) : V S4096x4x256 :=
  mulf v40 (broadcastInDim S4096x4x256 ![0, 1, 2] bcast_S4096x4x1_S4096x4x256_0_1_2 v48)

/-- The norm's gain. -/
def yNg (a4 : V S1x256) : V S1x1x256 :=
  broadcastInDim S1x1x256 ![1, 2] bcast_S1x256_S1x1x256_1_2 a4

/-- The normalised rows, scaled, side by side. -/
def yY (v53 : V S4096x4x256) (v54 : V S1x1x256) : V S4096x1024 :=
  shapeCast _ (mulf v53 (broadcastInDim S4096x4x256 ![0, 1, 2] bcast_S1x1x256_S4096x4x256_0_1_2 v54)) shapeCasts_S4096x4x256_S4096x1024

/-- The sigmoid of the gate. -/
def ySg (v3 : V S4096x1024) : V S4096x1024 :=
  Host.divf (broadcastInDim S4096x1024 ![] bcast_S_S4096x1024 (constant S_ .f32 0x3F800000#32)) (addf (broadcastInDim S4096x1024 ![] bcast_S_S4096x1024 (constant S_ .f32 0x3F800000#32)) (Host.exp (Host.negf v3)))

/-- The gate. -/
def ySi (v3 : V S4096x1024) (v58_2 : V S4096x1024) : V S4096x1024 :=
  mulf v3 v58_2

/-- The scaled rows times the incoming gradient. -/
def yDy (v57 : V S4096x1024) (a0 : V S4096x1024) : V S4096x1024 :=
  mulf v57 a0

/-- The incoming gradient times the gate, by heads. -/
def yDa (a0 : V S4096x1024) (v58_0 : V S4096x1024) : V S4096x4x256 :=
  shapeCast _ (mulf a0 v58_0) shapeCasts_S4096x1024_S4096x4x256

/-- The gradient behind the gain. -/
def yDn (v63 : V S4096x4x256) (v54 : V S1x1x256) : V S4096x4x256 :=
  mulf v63 (broadcastInDim S4096x4x256 ![0, 1, 2] bcast_S1x1x256_S4096x4x256_0_1_2 v54)

/-- The mean square's part of the gradient. -/
def yDm (v40 : V S4096x4x256) (v68 : V S4096x4x256) (v48 : V S4096x4x1) (v47 : V S4096x4x1) : V S4096x4x256 :=
  broadcastInDim S4096x4x256 ![0, 1] bcast_S4096x4_S4096x4x256_0_1 (Host.reduceAdd (Host.divf (mulf (shapeCast _ (Host.reduceAdd (mulf v40 v68) (constant S_ .f32 0x00000000#32) reducesTo_S4096x4x256_S4096x4_d2 h_S_) shapeCasts_S4096x4_S4096x4x1) (mulf (broadcastInDim S4096x4x1 ![] bcast_S_S4096x4x1 (constant S_ .f32 0xBF000000#32)) (Host.divf v48 v47))) (broadcastInDim S4096x4x1 ![] bcast_S_S4096x4x1 (constant S_ .f32 0x43800000#32))) (constant S_ .f32 0x00000000#32) reducesTo_S4096x4x1_S4096x4_d2 h_S_)

/-- The attention output's gradient by heads. -/
def yDo (v68 : V S4096x4x256) (v48 : V S4096x4x1) (v40 : V S4096x4x256) (v80 : V S4096x4x256) : V S4x4096x256 :=
  transpose S4x4096x256 [1, 0, 2] (addf (addf (mulf v68 (broadcastInDim S4096x4x256 ![0, 1, 2] bcast_S4096x4x1_S4096x4x256_0_1_2 v48)) (mulf v40 v80)) (mulf v80 v40)) transposes_S4096x4x256_S4x4096x256_1_0_2

/-- The products of the gradients with the values. -/
def yBt (v85 : V S4x4096x256) (v18 : V S4x4096x256) : V S4x4096x4096x128 :=
  broadcastInDim S4x4096x4096x128 ![0, 1, 2] bcast_S4x4096x4096_S4x4096x4096x128_0_1_2 (Host.dotGeneral dot_S4x4096x256_S4x4096x256_S4x4096x4096_2_2_1_1_0_0 none v85 v18)

/-- The same, decayed. -/
def yBd (v89 : V S4x4096x4096x128) (v31 : V S4x4096x4096x128) : V S4x4096x4096x128 :=
  mulf v89 v31

/-- The decays' gradients. -/
def yWt (v36 : V S4x4096x4096x128) (v89 : V S4x4096x4096x128) (v31 : V S4x4096x4096x128) : V S4x4096x4096x128 :=
  select fMask (mulf (mulf v36 v89) v31) (broadcastInDim S4x4096x4096x128 ![] bcast_S_S4x4096x4096x128 (constant S_ .f32 0x00000000#32))

/-- The gradients of the running sums. -/
def yDg (v103 : V S4x4096x4096x128) : V S4x4096x128 :=
  addf (Host.reduceAdd (shapeCast _ (Host.reduceAdd (Host.negf v103) (constant S_ .f32 0x00000000#32) reducesTo_S4x4096x4096x128_S4x4096x128_d1 h_S_) shapeCasts_S4x4096x128_S4x1x4096x128) (constant S_ .f32 0x00000000#32) reducesTo_S4x1x4096x128_S4x4096x128_d1 h_S_) (Host.reduceAdd (shapeCast _ (Host.reduceAdd v103 (constant S_ .f32 0x00000000#32) reducesTo_S4x4096x4096x128_S4x4096x128_d2 h_S_) shapeCasts_S4x4096x128_S4x4096x1x128) (constant S_ .f32 0x00000000#32) reducesTo_S4x4096x1x128_S4x4096x128_d2 h_S_)

/-- The logits' gradient. -/
def yLn (rev : V S4x4096x128) (call0_v0 : V S4096x512) (call0_v1_0 : V S4096x512) : V S4096x512 :=
  Host.negf (mulf (Host.negf (Host.divf (shapeCast _ (transpose S4096x4x128 [1, 0, 2] (rev) transposes_S4x4096x128_S4096x4x128_1_0_2) shapeCasts_S4096x4x128_S4096x512) (broadcastInDim S4096x512 ![] bcast_S_S4096x512 (constant S_ .f32 0x41800000#32)))) (Host.exp (subf (select (cmpf .oeq call0_v0 (broadcastInDim S4096x512 ![] bcast_S_S4096x512 (constant S_ .f32 0x7F800000#32))) (broadcastInDim S4096x512 ![] bcast_S_S4096x512 (constant S_ .f32 0x00000000#32)) call0_v0) (select (cmpf .oeq call0_v1_0 (broadcastInDim S4096x512 ![] bcast_S_S4096x512 (constant S_ .f32 0x7F800000#32))) (broadcastInDim S4096x512 ![] bcast_S_S4096x512 (constant S_ .f32 0x00000000#32)) call0_v1_0))))

/-- The queries' gradient. -/
def yDq (v91 : V S4x4096x4096x128) (v33 : V S4x1x4096x128) : V S4096x512 :=
  mulf (shapeCast _ (transpose S4096x4x128 [1, 0, 2] (Host.reduceAdd (shapeCast _ (Host.reduceAdd (mulf v91 (broadcastInDim S4x4096x4096x128 ![0, 1, 2, 3] bcast_S4x1x4096x128_S4x4096x4096x128_0_1_2_3 v33)) (constant S_ .f32 0x00000000#32) reducesTo_S4x4096x4096x128_S4x4096x128_d2 h_S_) shapeCasts_S4x4096x128_S4x4096x1x128) (constant S_ .f32 0x00000000#32) reducesTo_S4x4096x1x128_S4x4096x128_d2 h_S_) transposes_S4x4096x128_S4096x4x128_1_0_2) shapeCasts_S4096x4x128_S4096x512) (broadcastInDim S4096x512 ![] bcast_S_S4096x512 (constant S_ .f32 0x3DB504F3#32))

/-- The keys' gradient. -/
def yDk (v32 : V S4x4096x1x128) (v91 : V S4x4096x4096x128) : V S4096x512 :=
  shapeCast _ (transpose S4096x4x128 [1, 0, 2] (Host.reduceAdd (shapeCast _ (Host.reduceAdd (mulf (broadcastInDim S4x4096x4096x128 ![0, 1, 2, 3] bcast_S4x4096x1x128_S4x4096x4096x128_0_1_2_3 v32) v91) (constant S_ .f32 0x00000000#32) reducesTo_S4x4096x4096x128_S4x4096x128_d1 h_S_) shapeCasts_S4x4096x128_S4x1x4096x128) (constant S_ .f32 0x00000000#32) reducesTo_S4x1x4096x128_S4x4096x128_d1 h_S_) transposes_S4x4096x128_S4096x4x128_1_0_2) shapeCasts_S4096x4x128_S4096x512

/-- The values' gradient. -/
def yDv (v85 : V S4x4096x256) (v38 : V S4x4096x4096) : V S4096x1024 :=
  shapeCast _ (transpose S4096x4x256 [1, 0, 2] (transpose S4x4096x256 [0, 2, 1] (Host.dotGeneral dot_S4x4096x256_S4x4096x4096_S4x256x4096_1_1_2_2_0_0 none v85 v38) transposes_S4x256x4096_S4x4096x256_0_2_1) transposes_S4x4096x256_S4096x4x256_1_0_2) shapeCasts_S4096x4x256_S4096x1024

/-- The output gate's gradient. -/
def yDr (v60 : V S4096x1024) (v58_2 : V S4096x1024) (v3 : V S4096x1024) : V S4096x1024 :=
  addf (mulf v60 v58_2) (mulf (mulf v3 v60) (mulf v58_2 (subf (broadcastInDim S4096x1024 ![] bcast_S_S4096x1024 (constant S_ .f32 0x3F800000#32)) v58_2)))

/-- The decay gate's input's gradient. -/
def yDz (v125 : V S4096x512) (a2 : V S16x512) : V S4096x16 :=
  Host.dotGeneral dot_S4096x512_S16x512_S4096x16_1_1_0_0_n_n none v125 a2

/-- The gradient of the decay gate's weight. -/
def yWal (v125 : V S4096x512) (v4 : V S4096x16) : V S16x512 :=
  transpose S16x512 [1, 0] (Host.dotGeneral dot_S4096x512_S4096x16_S512x16_0_0_1_1_n_n none v125 v4) transposes_S512x16_S16x512_1_0

/-- The gradient of the decay gate's bias. -/
def yBal (v125 : V S4096x512) : V S1x512 :=
  shapeCast _ (Host.reduceAdd v125 (constant S_ .f32 0x00000000#32) reducesTo_S4096x512_S512_d0 h_S_) shapeCasts_S512_S1x512

/-- The gradient of the norm's gain. -/
def yGn (v53 : V S4096x4x256) (v63 : V S4096x4x256) : V S1x256 :=
  broadcastInDim S1x256 ![1] bcast_S256_S1x256_1 (Host.reduceAdd (shapeCast _ (Host.reduceAdd (mulf v53 v63) (constant S_ .f32 0x00000000#32) reducesTo_S4096x4x256_S256_d0_1 h_S_) shapeCasts_S256_S1x1x256) (constant S_ .f32 0x00000000#32) reducesTo_S1x1x256_S256_d0_1 h_S_)

/-- Minus one half, and infinity. -/
theorem bits_mhalf : (Scalar.ofBits .f32 0xBF000000#32 : Ideal .f32) = ((-(1 / 2) : ℝ) : EReal) := by
  simp [Scalar.ofBits, FloatOps.ofBits, Ideal.ofBits, Ideal.ieee, -EReal.coe_mul]; norm_num
theorem bits_inf : (Scalar.ofBits .f32 0x7F800000#32 : Ideal .f32) = (⊤ : EReal) := by
  simp [Scalar.ofBits, FloatOps.ofBits, Ideal.ofBits, Ideal.ieee]
/-- A sum over the first two axes. -/
theorem sum_01a (v : S4096x4x256.Idx → EReal) (z : EReal) (e : Fin 256) :
    Ideal.hostReduceAdd reducesTo_S4096x4x256_S256_d0_1 v z (ix1 e) = z + ∑ i : Fin 4096, ∑ h : Fin 4, v (ix3 i h e) := by
  refine congrArg (z + ·) ?_
  refine (Finset.sum_filter_eq_sum_of_fiber _ (fun k : Fin 4096 × Fin 4 => (ix3 k.1 k.2 e : S4096x4x256.Idx))
    (fun _ _ h => Prod.ext (congrFun h 0) (congrFun h 1)) (fun i => ⟨fun h => ⟨(i 0, i 1), ?_⟩, ?_⟩) v).trans ?_
  · funext a; apply Fin.ext
    match a with
    | ⟨0, _⟩ => rfl
    | ⟨1, _⟩ => rfl
    | ⟨2, _⟩ => exact (congrArg Fin.val (congrFun h 0)).symm
  · rintro ⟨k, rfl⟩
    funext b; apply Fin.ext
    match b with
    | ⟨0, _⟩ => rfl
  · simp only [Fintype.sum_prod_type]
theorem sum_01b (v : S1x1x256.Idx → EReal) (z : EReal) (e : Fin 256) :
    Ideal.hostReduceAdd reducesTo_S1x1x256_S256_d0_1 v z (ix1 e) = z + ∑ i : Fin 1, ∑ h : Fin 1, v (ix3 i h e) := by
  refine congrArg (z + ·) ?_
  refine (Finset.sum_filter_eq_sum_of_fiber _ (fun k : Fin 1 × Fin 1 => (ix3 k.1 k.2 e : S1x1x256.Idx))
    (fun _ _ h => Prod.ext (congrFun h 0) (congrFun h 1)) (fun i => ⟨fun h => ⟨(i 0, i 1), ?_⟩, ?_⟩) v).trans ?_
  · funext a; apply Fin.ext
    match a with
    | ⟨0, _⟩ => rfl
    | ⟨1, _⟩ => rfl
    | ⟨2, _⟩ => exact (congrArg Fin.val (congrFun h 0)).symm
  · rintro ⟨k, rfl⟩
    funext b; apply Fin.ext
    match b with
    | ⟨0, _⟩ => rfl
  · simp only [Fintype.sum_prod_type]

section
variable {D : Data}
theorem y_ms {x : V S4096x4x256} (hx : R3 x fun i h e => D.oh h i e) :
    R3 (yMs x) (fun i h _ => (∑ e ∈ range 256, D.oh h i e * D.oh h i e) / 256 + eps) := fun i h e => by
  pointwise [yMs]
  refine (congrArg₂ (· + ·) (congrArg₂ Ideal.div ((Finset.sum_congr rfl fun e _ => congrArg₂ (· * ·) (hx i h e) (hx i h e)).trans
    ((Finset.sum_congr rfl fun e _ => (EReal.coe_mul _ _).symm).trans (coe_sum_fin 256 fun e => D.oh h i e * D.oh h i e))) bits_256) bits_eps).trans ?_
  rw [Ideal.div_coe (by norm_num), ← EReal.coe_mul, mul_one_div, ← EReal.coe_add]
theorem y_rs {x : V S4096x4x1} (hx : R3 x fun i h _ => (∑ e ∈ range 256, D.oh h i e * D.oh h i e) / 256 + eps) :
    R3 (yRs x) (fun i h _ => rms (D.oh h) i) := fun i h e => by
  pointwise [yRs]
  refine (congrArg Ideal.rsqrt (hx i h e)).trans ?_
  rw [Ideal.rsqrt_coe, if_neg (not_lt.mpr (rms_arg_pos _ _).le), if_neg (rms_arg_pos _ _).ne']
  rfl
theorem y_on {x : V S4096x4x256} {s : V S4096x4x1} (hx : R3 x fun i h e => D.oh h i e) (hs : R3 s fun i h _ => rms (D.oh h) i) :
    R3 (yOn x s) (fun i h e => nrm (D.oh h) i e) := fun i h e => by
  pointwise [yOn]
  rw [hx, hs, ← EReal.coe_mul]; rfl
theorem y_ng {a : V S1x256} (ha : R2 a fun _ x => D.ng x) : R3 (yNg a) (fun _ _ e => D.ng e) := fun i h e => by
  pointwise [yNg]
  exact ha 0 e
theorem y_y {x : V S4096x4x256} {s : V S1x1x256} (hx : R3 x fun i h e => nrm (D.oh h) i e) (hs : R3 s fun _ _ e => D.ng e) :
    R2 (yY x s) (fun i c => nrm (D.oh (c / 256)) i (c % 256) * D.ng (c % 256)) := fun i h => by
  pointwise [yY]
  rw [hx, hs, ← EReal.coe_mul]
theorem y_r {p : V S4096x3088} (hp : R2 p D.pj) : R2 (yR p) (fun i c => D.pj i (2048 + c)) := fun i c => by
  pointwise [yR]
  exact hp i _
theorem y_sg {r : V S4096x1024} {X : ℕ → ℕ → ℝ} (hr : R2 r X) : R2 (ySg r) (fun i c => sig (X i c)) := fun i c => by
  pointwise [ySg]
  rw [hr, ← EReal.coe_neg, Ideal.exp_coe, ← EReal.coe_one, ← EReal.coe_add, Ideal.div_coe (by positivity), ← EReal.coe_mul, one_mul, sig, zero_sub]
theorem y_si {r s : V S4096x1024} {X : ℕ → ℕ → ℝ} (hr : R2 r X) (hs : R2 s fun i c => sig (X i c)) : R2 (ySi r s) (fun i c => sil (X i c)) := fun i c => by
  pointwise [ySi]
  rw [hr, hs, ← EReal.coe_mul]; rfl
theorem y_da {a s : V S4096x1024} (ha : R2 a D.da) (hs : R2 s fun i c => sil (D.pj i (2048 + c))) :
    R3 (yDa a s) (fun i h e => D.dah h i e * sil (D.r h i e)) := fun i h e => by
  pointwise [yDa]
  rw [ha, hs, ← EReal.coe_mul]
  simp only [Data.dah, Data.r, mul_comm 256, add_assoc]
theorem y_dn {a : V S4096x4x256} {g : V S1x1x256} (ha : R3 a fun i h e => D.dah h i e * sil (D.r h i e)) (hg : R3 g fun _ _ e => D.ng e) :
    R3 (yDn a g) (fun i h e => gN (D.dah h) (D.r h) D.ng i e) := fun i h e => by
  pointwise [yDn]
  rw [ha, hg, ← EReal.coe_mul]; rfl
theorem y_dm {x n : V S4096x4x256} {s m : V S4096x4x1} {X N : ℕ → ℕ → ℕ → ℝ} {S M : ℕ → ℕ → ℝ} (hx : R3 x X) (hn : R3 n N)
    (hs : R3 s fun i h _ => S i h) (hm : R3 m fun i h _ => M i h) (h0 : ∀ i h, M i h ≠ 0) :
    R3 (yDm x n s m) (fun i h _ => (∑ e ∈ range 256, X i h e * N i h e) * (-(1 / 2) * (S i h / M i h)) / 256) := fun i h e => by
  pointwise [yDm]
  rw [Fin.sum_univ_one]
  refine (congrArg₂ Ideal.div (congrArg₂ (· * ·) ((Finset.sum_congr rfl fun e _ => congrArg₂ (· * ·) (hx i h e) (hn i h e)).trans
    ((Finset.sum_congr rfl fun e _ => (EReal.coe_mul _ _).symm).trans (coe_sum_fin 256 fun e => X i h e * N i h e)))
    (congrArg₂ (· * ·) bits_mhalf (congrArg₂ Ideal.div (hs i h 0) (hm i h 0)))) bits_256).trans ?_
  rw [Ideal.div_coe (by norm_num), Ideal.div_coe (h0 _ _), ← EReal.coe_mul, ← EReal.coe_mul, ← EReal.coe_mul, ← EReal.coe_mul, mul_one_div, mul_one_div]
theorem y_do {n x m : V S4096x4x256} {s : V S4096x4x1} {X N M : ℕ → ℕ → ℕ → ℝ} {S : ℕ → ℕ → ℝ} (hn : R3 n N)
    (hs : R3 s fun i h _ => S i h) (hx : R3 x X) (hm : R3 m M) :
    R3 (yDo n s x m) (fun h i e => N i h e * S i h + X i h e * M i h e + M i h e * X i h e) := fun h i e => by
  pointwise [yDo]
  rw [hn, hs, hx, hm, ← EReal.coe_mul, ← EReal.coe_mul, ← EReal.coe_mul, ← EReal.coe_add, ← EReal.coe_add]
theorem y_bt {d v : V S4x4096x256} (hd : R3 d fun h i e => D.d h i e) (hv : R3 v fun h j e => D.v h j e) :
    R4 (yBt d v) (fun h i j _ => bt (D.v h) (D.d h) i j) := fun h i j x => by
  pointwise [yBt]
  rw [bt, ← coe_sum_fin 256 fun e => D.d h i e * D.v h j e]
  exact Finset.sum_congr rfl fun e _ => by rw [hd, hv, EReal.coe_mul]
theorem y_bd {b d : V S4x4096x4096x128} {B E : ℕ → ℕ → ℕ → ℕ → ℝ} (hb : R4 b B) (hd : R4 d E) : R4 (yBd b d) (fun h i j x => B h i j x * E h i j x) := fun h i j x => by
  pointwise [yBd]
  rw [hb, hd, ← EReal.coe_mul]
theorem y_wt {q b d : V S4x4096x4096x128} {Q B E : ℕ → ℕ → ℕ → ℕ → ℝ} (hq : R4 q Q) (hb : R4 b B) (hd : R4 d E) :
    R4 (yWt q b d) (fun h i j x => if j ≤ i then Q h i j x * B h i j x * E h i j x else 0) := fun h i j x => by
  pointwise [yWt]
  rw [fMask_apply, hq, hb, hd]
  by_cases h' : j.val ≤ i.val
  · rw [if_pos h', if_pos h', EReal.coe_mul, EReal.coe_mul]; rfl
  · rw [if_neg h', if_neg h', EReal.coe_zero]; rfl
theorem y_dg {w : V S4x4096x4096x128} {W : ℕ → ℕ → ℕ → ℕ → ℝ} (hw : R4 w W) :
    R3 (yDg w) (fun h i x => -(∑ n ∈ range 4096, W h n i x) + ∑ j ∈ range 4096, W h i j x) := fun h i x => by
  pointwise [yDg]
  rw [Fin.sum_univ_one, Fin.sum_univ_one, EReal.coe_add, ← Finset.sum_neg_distrib, ← coe_sum_fin 4096 fun n => -W h n i x, ← coe_sum_fin 4096 fun j => W h i j x]
  exact congrArg₂ (· + ·) (Finset.sum_congr rfl fun n _ => by rw [hw, EReal.coe_neg]) (Finset.sum_congr rfl fun j _ => hw h i j x)
theorem y_ln {r : V S4x4096x128} {y s : V S4096x512} {R : ℕ → ℕ → ℕ → ℝ} {Y S : ℕ → ℕ → ℝ} (hr : R3 r R) (hy : R2 y Y) (hs : R2 s S) :
    R2 (yLn r y s) (fun i c => R (c / 128) i (c % 128) * (1 / 16) * Real.exp (Y i c - S i c)) := fun i c => by
  pointwise [yLn]
  have hi : ∀ t : ℝ, ((t : ℝ) : EReal) ≠ (Ideal.ofBits FTy.f32 2139095040#32 : EReal) := fun t => by
    rw [show (Ideal.ofBits FTy.f32 2139095040#32 : EReal) = ⊤ from bits_inf]; exact EReal.coe_ne_top t
  rw [hr, hy, hs, if_neg (hi _), if_neg (hi _), show (Ideal.ofBits FTy.f32 1098907648#32 : EReal) = ((16 : ℝ) : EReal) from bits_16,
    Ideal.div_coe (by norm_num), ← EReal.coe_sub, Ideal.exp_coe, ← EReal.coe_mul, ← EReal.coe_neg, ← EReal.coe_mul, ← EReal.coe_neg]
  congr 1
  simp only []
  ring
theorem y_dq {b : V S4x4096x4096x128} {k : V S4x1x4096x128} {B : ℕ → ℕ → ℕ → ℕ → ℝ} {K : ℕ → ℕ → ℕ → ℝ} (hb : R4 b B) (hk : R4 k fun h _ j x => K h j x) :
    R2 (yDq b k) (fun i c => (∑ j ∈ range 4096, B (c / 128) i j (c % 128) * K (c / 128) j (c % 128)) * sc) := fun i c => by
  pointwise [yDq]
  refine Eq.trans ?_ (EReal.coe_mul _ _).symm
  refine congrArg₂ (· * ·) ((Fin.sum_univ_one _).trans (Eq.trans ?_ (coe_sum_fin 4096 fun j => B (c / 128) i j (c % 128) * K (c / 128) j (c % 128)))) bits_sc
  exact Finset.sum_congr rfl fun j _ => (congrArg₂ (· * ·) (hb _ _ _ _) (hk _ _ _ _)).trans (EReal.coe_mul _ _).symm
theorem y_dk {b : V S4x4096x4096x128} {q : V S4x4096x1x128} {B : ℕ → ℕ → ℕ → ℕ → ℝ} {Q : ℕ → ℕ → ℕ → ℝ} (hb : R4 b B) (hq : R4 q fun h i _ x => Q h i x) :
    R2 (yDk q b) (fun j c => ∑ i ∈ range 4096, Q (c / 128) i (c % 128) * B (c / 128) i j (c % 128)) := fun i c => by
  pointwise [yDk]
  refine (Fin.sum_univ_one _).trans (Eq.trans ?_ (coe_sum_fin 4096 fun n => Q (c / 128) n (c % 128) * B (c / 128) n i (c % 128)))
  exact Finset.sum_congr rfl fun j _ => (congrArg₂ (· * ·) (hq _ _ _ _) (hb _ _ _ _)).trans (EReal.coe_mul _ _).symm
theorem y_dv {d : V S4x4096x256} {t : V S4x4096x4096} {X T : ℕ → ℕ → ℕ → ℝ} (hd : R3 d X) (ht : R3 t T) :
    R2 (yDv d t) (fun j c => ∑ i ∈ range 4096, X (c / 256) i (c % 256) * T (c / 256) i j) := fun i c => by
  pointwise [yDv]
  rw [← coe_sum_fin 4096 fun n => X (c / 256) n (c % 256) * T (c / 256) n i]
  exact Finset.sum_congr rfl fun j _ => by rw [hd, ht, EReal.coe_mul]
theorem y_dr {a s r : V S4096x1024} {A S R : ℕ → ℕ → ℝ} (ha : R2 a A) (hs : R2 s S) (hr : R2 r R) :
    R2 (yDr a s r) (fun i c => A i c * S i c + R i c * A i c * (S i c * (1 - S i c))) := fun i c => by
  pointwise [yDr]
  rw [ha, hs, hr, ← EReal.coe_one, ← EReal.coe_sub, ← EReal.coe_mul, ← EReal.coe_mul, ← EReal.coe_mul, ← EReal.coe_mul, ← EReal.coe_add]
theorem y_dz {l : V S4096x512} {w : V S16x512} {L W : ℕ → ℕ → ℝ} (hl : R2 l L) (hw : R2 w W) : R2 (yDz l w) (fun i r => ∑ c ∈ range 512, L i c * W r c) := fun i r => by
  pointwise [yDz]
  rw [← coe_sum_fin 512 fun c => L i c * W r c]
  exact Finset.sum_congr rfl fun j _ => by rw [hl, hw, EReal.coe_mul]
theorem y_wal {l : V S4096x512} {z : V S4096x16} {L Z : ℕ → ℕ → ℝ} (hl : R2 l L) (hz : R2 z Z) : R2 (yWal l z) (fun r c => ∑ i ∈ range 4096, L i c * Z i r) := fun r c => by
  pointwise [yWal]
  rw [← coe_sum_fin 4096 fun i => L i c * Z i r]
  exact Finset.sum_congr rfl fun j _ => by rw [hl, hz, EReal.coe_mul]
theorem y_bal {l : V S4096x512} {L : ℕ → ℕ → ℝ} (hl : R2 l L) : R2 (yBal l) (fun _ c => ∑ i ∈ range 4096, L i c) := fun r c => by
  pointwise [yBal]
  rw [← coe_sum_fin 4096 fun i => L i c]
  exact Finset.sum_congr rfl fun j _ => hl j c
theorem y_gn {n a : V S4096x4x256} {N A : ℕ → ℕ → ℕ → ℝ} (hn : R3 n N) (ha : R3 a A) : R2 (yGn n a) (fun _ e => ∑ i ∈ range 4096, ∑ h ∈ range 4, N i h e * A i h e) := fun r e => by
  pointwise [yGn]
  rw [sum_01b, zero_add, Fin.sum_univ_one, Fin.sum_univ_one]
  have h1 : (shapeCast S1x1x256 (Host.reduceAdd (mulf n a) (constant S_ .f32 0x00000000#32) reducesTo_S4096x4x256_S256_d0_1 h_S_)
      shapeCasts_S256_S1x1x256 : V S1x1x256) (ix3 0 0 e) = Host.reduceAdd (mulf n a) (constant S_ .f32 0x00000000#32) reducesTo_S4096x4x256_S256_d0_1 h_S_ (ix1 e) := by
    pointwise
  refine h1.trans ?_
  unfold Host.reduceAdd
  rw [Ideal.hostReduceAdd_def, sum_01a, ← coe_sum_fin 4096 fun i => ∑ h ∈ range 4, N i h e * A i h e]
  refine (congrArg₂ (· + ·) bits_zero rfl).trans ((congrArg (· + _) EReal.coe_zero).trans ((zero_add _).trans ?_))
  refine Finset.sum_congr rfl fun i _ => ?_
  rw [← coe_sum_fin 4 fun h => N i h e * A i h e]
  exact Finset.sum_congr rfl fun h _ => (congrArg₂ (· * ·) (hn i h e) (ha i h e)).trans (EReal.coe_mul _ _).symm
end

end Cert.Gla
end
-- ==== Proof.HostC.lean ====
/- The reference's four results over real numbers: the gradients that the kernel's tiles add up. -/
module

public import proofs.«01_k».proof.Proof.HostB

@[expose] public section

set_option maxRecDepth 16384

noncomputable section

namespace Cert.Gla

open Idealize.ShloMosaic Idealize.ShloMosaic.TcCoe Idealize.SL.Sem
open Cert.ReferenceIdeal Cert.ReferenceIdeal.Gen Cert.ReferenceIdeal.Value
open Finset (range Ico)

/-- A weight of the attention: zero where the key comes after the query. -/
def tt (D : Data) (h i j : ℕ) : ℝ := ∑ x ∈ range 128, D.q h i x * D.k h j x * (if j ≤ i then dec (D.a h) i j x else 0)
/-- The attention's output. -/
def oo (D : Data) (h i e : ℕ) : ℝ := ∑ j ∈ range 4096, tt D h i j * D.v h j e

/-- The arguments hold the data's real numbers, and the data's attention output is that of its projections. -/
structure Args (a0 : V S4096x1024) (a1 : V S4096x3088) (a2 : V S16x512) (a3 : V S1x512) (a4 : V S1x256) (D : Data) : Prop where
  h0 : R2 a0 D.da
  h1 : R2 a1 D.pj
  h2 : R2 a2 D.wal
  h3 : R2 a3 fun _ x => D.bal x
  h4 : R2 a4 fun _ x => D.ng x
  ho : ∀ i h e, h < 4 → e < 256 → D.o i (256 * h + e) = oo D h i e

section Reals
variable {D : Data}

theorem lsg_eq (x : ℝ) : -(max (-x) 0 + Real.log (1 + Real.exp (-|(-x)|))) * (1 / 16) = lsg x * (1 / 16) := by
  rw [lsg, abs_neg, zero_sub, show min x 0 = -max (-x) 0 by rw [← min_neg_neg, neg_neg, neg_zero]]
  ring
theorem sp_eq (y : ℝ) : Real.exp (y - (max y 0 + Real.log (1 + Real.exp (-|y|)))) = sig y := by
  have hp : (0 : ℝ) < 1 + Real.exp (-|y|) := by positivity
  rw [Real.exp_sub, Real.exp_add, Real.exp_log hp, sig, zero_sub]
  rcases le_total 0 y with h | h
  · rw [max_eq_left h, abs_of_nonneg h]
    have := Real.exp_pos y
    field_simp
  · rw [max_eq_right h, abs_of_nonpos h, neg_neg, Real.exp_zero, one_mul, Real.exp_neg]
    have := Real.exp_pos y
    field_simp
    ring
theorem rms_cube (o : ℕ → ℕ → ℝ) (i : ℕ) : rms o i / ((∑ e ∈ range 256, o i e * o i e) / 256 + eps) = rms o i * rms o i * rms o i := by
  have h := rms_arg_pos o i
  have hs : √((∑ e ∈ range 256, o i e * o i e) / 256 + eps) * √((∑ e ∈ range 256, o i e * o i e) / 256 + eps) = (∑ e ∈ range 256, o i e * o i e) / 256 + eps :=
    Real.mul_self_sqrt h.le
  have h1 : rms o i * rms o i = ((∑ e ∈ range 256, o i e * o i e) / 256 + eps)⁻¹ := by
    unfold rms
    rw [← mul_inv, hs]
  rw [mul_comm (rms o i * rms o i), h1, div_eq_mul_inv]
theorem gO_eq (da o r : ℕ → ℕ → ℝ) (ng : ℕ → ℝ) (i e : ℕ) :
    gN da r ng i e * rms o i
      + o i e * ((∑ j ∈ range 256, o i j * gN da r ng i j) * (-(1 / 2) * (rms o i / ((∑ e ∈ range 256, o i e * o i e) / 256 + eps))) / 256)
      + (∑ j ∈ range 256, o i j * gN da r ng i j) * (-(1 / 2) * (rms o i / ((∑ e ∈ range 256, o i e * o i e) / 256 + eps))) / 256 * o i e = gO da o r ng i e := by
  rw [rms_cube]
  have h : ∑ j ∈ range 256, gN da r ng i j * nrm o i j = rms o i * ∑ j ∈ range 256, o i j * gN da r ng i j := by
    rw [Finset.mul_sum]
    exact Finset.sum_congr rfl fun j _ => by unfold nrm; ring
  rw [gO, h, nrm]
  ring
/-- Sums over the tokens up to one, and from one on. -/
theorem sum_le (i : ℕ) (hi : i < 4096) (f : ℕ → ℝ) : ∑ j ∈ range 4096, (if j ≤ i then f j else 0) = ∑ j ∈ range (i + 1), f j := by
  rw [← Finset.sum_filter]
  refine Finset.sum_congr ?_ fun _ _ => rfl
  ext j; simp only [Finset.mem_filter, Finset.mem_range]; omega
theorem sum_ge (i : ℕ) (f : ℕ → ℝ) : ∑ j ∈ range 4096, (if i ≤ j then f j else 0) = ∑ j ∈ Ico i 4096, f j := by
  rw [← Finset.sum_filter]
  refine Finset.sum_congr ?_ fun _ _ => rfl
  ext j; simp only [Finset.mem_filter, Finset.mem_range, Finset.mem_Ico]; omega
theorem tt_eq (h i j : ℕ) : tt D h i j = if j ≤ i then att (D.q h) (D.k h) (D.a h) i j else 0 := by
  unfold tt att
  by_cases hj : j ≤ i
  · simp only [if_pos hj]; exact Finset.sum_congr rfl fun x _ => mul_assoc _ _ _
  · simp only [if_neg hj, mul_zero, Finset.sum_const_zero]
theorem gQ_eq (k v d a : ℕ → ℕ → ℝ) (i x : ℕ) (hi : i < 4096) :
    (∑ j ∈ range 4096, bt v d i j * (if j ≤ i then dec a i j x else 0) * k j x) = gQ k v d a i x := by
  rw [gQ, ← sum_le i hi]
  refine Finset.sum_congr rfl fun j _ => ?_
  split <;> ring
theorem gK_eq (q v d a : ℕ → ℕ → ℝ) (j x : ℕ) :
    (∑ i ∈ range 4096, q i x * (bt v d i j * (if j ≤ i then dec a i j x else 0))) = gK q v d a j x := by
  rw [gK, ← sum_ge j]
  refine Finset.sum_congr rfl fun i _ => ?_
  split <;> ring
theorem gV_eq (h j e : ℕ) (d : ℕ → ℕ → ℝ) : (∑ i ∈ range 4096, d i e * tt D h i j) = gV (D.q h) (D.k h) d (D.a h) j e := by
  rw [gV, ← sum_ge j]
  refine Finset.sum_congr rfl fun i _ => ?_
  rw [tt_eq]
  split <;> ring
theorem gW_eq (q k v d a : ℕ → ℕ → ℝ) (i x : ℕ) (hi : i < 4096) (W : ℕ → ℕ → ℝ)
    (hW : ∀ i j, W i j = if j ≤ i then q i x * k j x * bt v d i j * (if j ≤ i then dec a i j x else 0) else 0) :
    -(∑ n ∈ range 4096, W n i) + ∑ j ∈ range 4096, W i j = gG q k v d a i x := by
  have h : ∀ i j, W i j = if j ≤ i then wt q k v d a i j x else 0 := fun i j => by
    rw [hW]
    split
    · unfold wt; ring
    · rfl
  simp only [h]
  rw [gG, sum_le i hi, sum_ge i]
  ring
theorem sum_heads (f : ℕ → ℝ) : ∑ c ∈ range 512, f c = ∑ h ∈ range 4, ∑ x ∈ range 128, f (128 * h + x) := by
  have : ∀ n, ∑ c ∈ range (128 * n), f c = ∑ h ∈ range n, ∑ x ∈ range 128, f (128 * h + x) := fun n => by
    induction n with
    | zero => rfl
    | succ n ih => rw [Nat.mul_succ, Finset.sum_range_add, ih]; exact (Finset.sum_range_succ (fun h => ∑ x ∈ range 128, f (128 * h + x)) n).symm
  exact this 4
end Reals

section Ref
variable {V0 : Valuation τ Cert.ReferenceIdeal.sig (Elt Ideal)} {D : Data}

/-- The reference's arguments. -/
abbrev RefArgs (V0 : Valuation τ Cert.ReferenceIdeal.sig (Elt Ideal)) (D : Data) : Prop :=
  Args (V0 (Proc.devRef .tc main_arg0)) (V0 (Proc.devRef .tc main_arg1)) (V0 (Proc.devRef .tc main_arg2)) (V0 (Proc.devRef .tc main_arg3)) (V0 (Proc.devRef .tc main_arg4)) D

theorem f_sp {p : V S4096x3088} {w : V S16x512} {b : V S1x512} (h1 : R2 p D.pj) (h2 : R2 w D.wal) (h3 : R2 b fun _ x => D.bal x) :
    R3 (fLa (fSp (fNeg p w b))) (fun h i x => D.a h i x) := fun h i x =>
  (R3.fLa (R2.fSp (R2.fNeg h1 h2 h3)) h i x).trans (congrArg _ (lsg_eq _))
theorem f_dec {p : V S4096x3088} {w : V S16x512} {b : V S1x512} (h1 : R2 p D.pj) (h2 : R2 w D.wal) (h3 : R2 b fun _ x => D.bal x) :
    R4 (fDec (fCum (fLa (fSp (fNeg p w b))))) (fun h i j x => if j ≤ i then dec (D.a h) i j x else 0) :=
  R4.fDec (R3.fCum (f_sp h1 h2 h3))
theorem f_att {p : V S4096x3088} {w : V S16x512} {b : V S1x512} (h1 : R2 p D.pj) (h2 : R2 w D.wal) (h3 : R2 b fun _ x => D.bal x) :
    R3 (fAtt (fQK p) (fDec (fCum (fLa (fSp (fNeg p w b)))))) (fun h i j => tt D h i j) := R3.fAtt (R4.fQK h1) (f_dec h1 h2 h3)
theorem f_o {p : V S4096x3088} {w : V S16x512} {b : V S1x512} (h1 : R2 p D.pj) (h2 : R2 w D.wal) (h3 : R2 b fun _ x => D.bal x) :
    R3 (fO (fAtt (fQK p) (fDec (fCum (fLa (fSp (fNeg p w b)))))) (fV p)) (fun i h e => oo D h i e) := R3.fO (f_att h1 h2 h3) (R3.fV h1)

variable (A : RefArgs V0 D)
include A

theorem r_neg : R2 (φ := .f32) (res_main_call0_v0 V0 : V S4096x512) (fun i c => -(∑ r ∈ range 16, D.z i r * D.wal r c + D.bal c)) := R2.fNeg A.h1 A.h2 A.h3
theorem r_sp : R2 (φ := .f32) (res_main_call0_v1_0 V0 : V S4096x512) (fun i c => max (-(∑ r ∈ range 16, D.z i r * D.wal r c + D.bal c)) 0
    + Real.log (1 + Real.exp (-|(-(∑ r ∈ range 16, D.z i r * D.wal r c + D.bal c))|))) := R2.fSp (r_neg A)
theorem r_dec : R4 (φ := .f32) (res_main_v31 V0 : V S4x4096x4096x128) (fun h i j x => if j ≤ i then dec (D.a h) i j x else 0) := f_dec A.h1 A.h2 A.h3
theorem r_att : R3 (φ := .f32) (res_main_v38 V0 : V S4x4096x4096) (fun h i j => tt D h i j) := f_att A.h1 A.h2 A.h3
theorem r_o : R3 (φ := .f32) (res_main_v40 V0 : V S4096x4x256) (fun i h e => D.oh h i e) := fun i h e =>
  (f_o A.h1 A.h2 A.h3 i h e).trans (congrArg _ (A.ho i h e h.isLt e.isLt).symm)
theorem r_v : R3 (φ := .f32) (res_main_v18 V0 : V S4x4096x256) (fun h j e => D.v h j e) := R3.fV A.h1
theorem r_ms : R3 (φ := .f32) (res_main_v47 V0 : V S4096x4x1) (fun i h _ => (∑ e ∈ range 256, D.oh h i e * D.oh h i e) / 256 + eps) := y_ms (r_o A)
theorem r_rs : R3 (φ := .f32) (res_main_v48 V0 : V S4096x4x1) (fun i h _ => rms (D.oh h) i) := y_rs (r_ms A)
theorem r_on : R3 (φ := .f32) (res_main_v53 V0 : V S4096x4x256) (fun i h e => nrm (D.oh h) i e) := y_on (r_o A) (r_rs A)
theorem r_ng : R3 (φ := .f32) (res_main_v54 V0 : V S1x1x256) (fun _ _ e => D.ng e) := y_ng A.h4
theorem r_r : R2 (φ := .f32) (res_main_v3 V0 : V S4096x1024) (fun i c => D.pj i (2048 + c)) := y_r A.h1
theorem r_sg : R2 (φ := .f32) (res_main_v58_2 V0 : V S4096x1024) (fun i c => sig (D.pj i (2048 + c))) := y_sg (r_r A)
theorem r_si : R2 (φ := .f32) (res_main_v58_0 V0 : V S4096x1024) (fun i c => sil (D.pj i (2048 + c))) := y_si (r_r A) (r_sg A)
theorem r_dy : R2 (φ := .f32) (res_main_v60 V0 : V S4096x1024) (fun i c => nrm (D.oh (c / 256)) i (c % 256) * D.ng (c % 256) * D.da i c) := (y_y (r_on A) (r_ng A)).mul A.h0
theorem r_da : R3 (φ := .f32) (res_main_v63 V0 : V S4096x4x256) (fun i h e => D.dah h i e * sil (D.r h i e)) := y_da A.h0 (r_si A)
theorem r_dn : R3 (φ := .f32) (res_main_v68 V0 : V S4096x4x256) (fun i h e => gN (D.dah h) (D.r h) D.ng i e) := y_dn (r_da A) (r_ng A)
theorem r_dm : R3 (φ := .f32) (res_main_v80 V0 : V S4096x4x256) (fun i h _ => (∑ e ∈ range 256, D.oh h i e * gN (D.dah h) (D.r h) D.ng i e)
    * (-(1 / 2) * (rms (D.oh h) i / ((∑ e ∈ range 256, D.oh h i e * D.oh h i e) / 256 + eps))) / 256) :=
  y_dm (S := fun i h => rms (D.oh h) i) (M := fun i h => (∑ e ∈ range 256, D.oh h i e * D.oh h i e) / 256 + eps)
    (r_o A) (r_dn A) (r_rs A) (r_ms A) fun i h => (rms_arg_pos (D.oh h) i).ne'
theorem r_do : R3 (φ := .f32) (res_main_v85 V0 : V S4x4096x256) (fun h i e => D.d h i e) := fun h i e =>
  (y_do (S := fun i h => rms (D.oh h) i) (r_dn A) (r_rs A) (r_o A) (r_dm A) h i e).trans (congrArg _ (gO_eq _ _ _ _ _ _))
theorem r_bt : R4 (φ := .f32) (res_main_v89 V0 : V S4x4096x4096x128) (fun h i j _ => bt (D.v h) (D.d h) i j) := y_bt (r_do A) (r_v A)
theorem r_bd : R4 (φ := .f32) (res_main_v91 V0 : V S4x4096x4096x128) (fun h i j x => bt (D.v h) (D.d h) i j * (if j ≤ i then dec (D.a h) i j x else 0)) := y_bd (r_bt A) (r_dec A)
theorem r_wt : R4 (φ := .f32) (res_main_v103 V0 : V S4x4096x4096x128) (fun h i j x => if j ≤ i then D.q h i x * D.k h j x * bt (D.v h) (D.d h) i j * (if j ≤ i then dec (D.a h) i j x else 0) else 0) :=
  y_wt (R4.fQK A.h1) (r_bt A) (r_dec A)
theorem r_rev : R3 (fRev (yDg (res_main_v103 V0))) (fun h i x => gA (D.q h) (D.k h) (D.v h) (D.d h) (D.a h) i x) :=
  R3.fRev (X3 := fun h i x => gG (D.q h) (D.k h) (D.v h) (D.d h) (D.a h) i x) fun h i x =>
    (y_dg (r_wt A) h i x).trans (congrArg _ (gW_eq _ _ _ _ _ i x i.isLt (fun i j => if j ≤ i then D.q h i x * D.k h j x * bt (D.v h) (D.d h) i j * (if j ≤ i then dec (D.a h) i j x else 0) else 0) fun _ _ => rfl))
theorem r_ln : R2 (φ := .f32) (res_main_v125 V0 : V S4096x512) (fun i c => D.l (c / 128) i (c % 128)) := fun i c =>
  (y_ln (r_rev A) (r_neg A) (r_sp A) i c).trans (congrArg _ (by
    have hc : 128 * (c.val / 128) + c.val % 128 = c.val := Nat.div_add_mod _ _
    have hl : lgt D.z (D.w (c.val / 128)) (D.b (c.val / 128)) i (c.val % 128) = ∑ r ∈ range 16, D.z i r * D.wal r c + D.bal c := by
      simp only [lgt, Data.w, Data.b, hc]
    show _ * Real.exp (_ - (max _ 0 + Real.log (1 + Real.exp (-|_|)))) = D.l (c.val / 128) i (c.val % 128)
    rw [sp_eq, Data.l, gL, hl, zero_sub]))

theorem ref_wal : (yWal (res_main_v125 V0) (res_main_v4 V0)) = coe2 (D.gWal 0) := by
  have hz : R2 (φ := .f32) (res_main_v4 V0 : V S4096x16) D.z := fun i r => by
    refine Eq.trans ?_ (A.h1 i ⟨3072 + r.val, by omega⟩)
    unfold res_main_v4; clean_types; pointwise
  funext y; idx_vars y
  refine (y_wal (r_ln A) hz _ _).trans (congrArg _ ?_)
  show _ = D.gWal 0 y0 y1
  rw [Data.gWal, Finset.range_eq_Ico]
  exact Finset.sum_congr rfl fun i _ => mul_comm _ _
theorem ref_bal : (yBal (res_main_v125 V0)) = coe2 (fun _ => D.gBal 0) := by
  funext y; idx_vars y
  refine (y_bal (r_ln A) _ _).trans (congrArg _ ?_)
  show _ = D.gBal 0 y1
  rw [Data.gBal, Finset.range_eq_Ico]
theorem ref_gn : (yGn (res_main_v53 V0) (res_main_v63 V0)) = coe2 (fun _ => D.gNg 0) := by
  funext y; idx_vars y
  refine (y_gn (r_on A) (r_da A) _ _).trans (congrArg _ ?_)
  show _ = D.gNg 0 y1
  rw [Data.gNg, Finset.range_eq_Ico]
  exact Finset.sum_congr rfl fun i _ => Finset.sum_congr rfl fun h _ => mul_comm _ _
/-- The five parts of the projections' gradient side by side. -/
def yPj (q k : V S4096x512) (v r : V S4096x1024) (z : V S4096x16) : FVec Ideal S4096x3088 .bf16 :=
  truncf .bf16 ((concatenate S4096x3088 1 [⟨S4096x512, q⟩, ⟨S4096x512, k⟩, ⟨S4096x1024, v⟩, ⟨S4096x1024, r⟩, ⟨S4096x16, z⟩]
    concatenates_S4096x512_S4096x512_S4096x1024_S4096x1024_S4096x16_S4096x3088_d1 : V S4096x3088)) bitsLt_bf16_f32
theorem ref_pj : yPj (yDq (res_main_v91 V0) (res_main_v33 V0)) (yDk (res_main_v32 V0) (res_main_v91 V0)) (yDv (res_main_v85 V0) (res_main_v38 V0))
    (yDr (res_main_v60 V0) (res_main_v58_2 V0) (res_main_v3 V0)) (yDz (res_main_v125 V0) (V0 (Proc.devRef .tc main_arg2))) = coe2 D.gPj := by
  have hq := y_dq (K := fun h j x => D.k h j x) (r_bd A) (R4.fK A.h1)
  have hk := y_dk (Q := fun h i x => D.q h i x) (r_bd A) (R4.fQ A.h1)
  have hv := y_dv (r_do A) (r_att A)
  have hr := y_dr (r_dy A) (r_sg A) (r_r A)
  have hz := y_dz (r_ln A) A.h2
  change R2 (yDq (res_main_v91 V0) (res_main_v33 V0)) _ at hq
  change R2 (yDk (res_main_v32 V0) (res_main_v91 V0)) _ at hk
  generalize yDq (res_main_v91 V0) (res_main_v33 V0) = uq at *
  generalize yDk (res_main_v32 V0) (res_main_v91 V0) = uk at *
  generalize yDv (res_main_v85 V0) (res_main_v38 V0) = uv at *
  generalize yDr (res_main_v60 V0) (res_main_v58_2 V0) (res_main_v3 V0) = ur at *
  generalize yDz (res_main_v125 V0) (V0 (Proc.devRef .tc main_arg2)) = uz at *
  funext y; idx_vars y
  have hP1 : ¬y1.val < 512 → y1.val < 1024 → D.gPj y0 y1 = gK (D.q ((y1.val - 512) / 128)) (D.v ((y1.val - 512) / 128)) (D.d ((y1.val - 512) / 128)) (D.a ((y1.val - 512) / 128)) y0 ((y1.val - 512) % 128) :=
    fun h1 h2 => by rw [Data.gPj, if_neg h1, if_pos h2]
  have hP2 : ¬y1.val < 1024 → y1.val < 2048 → D.gPj y0 y1 = gV (D.q ((y1.val - 1024) / 256)) (D.k ((y1.val - 1024) / 256)) (D.d ((y1.val - 1024) / 256)) (D.a ((y1.val - 1024) / 256)) y0 ((y1.val - 1024) % 256) :=
    fun h1 h2 => by rw [Data.gPj, if_neg (by omega), if_neg h1, if_pos h2]
  have hP3 : ¬y1.val < 2048 → y1.val < 3072 → D.gPj y0 y1 = gR (D.dah ((y1.val - 2048) / 256)) (D.oh ((y1.val - 2048) / 256)) (D.r ((y1.val - 2048) / 256)) D.ng y0 ((y1.val - 2048) % 256) :=
    fun h1 h2 => by rw [Data.gPj, if_neg (by omega), if_neg (by omega), if_neg h1, if_pos h2]
  have hP4 : ¬y1.val < 3072 → D.gPj y0 y1 = ∑ h ∈ range 4, ∑ x ∈ range 128, D.l h y0 x * D.w h (y1.val - 3072) x :=
    fun h1 => by rw [Data.gPj, if_neg (by omega), if_neg (by omega), if_neg (by omega), if_neg h1]
  pointwise [yPj]
  show _ = ((D.gPj y0 y1 : ℝ) : EReal)
  split
  · rename_i g
    refine (hq _ _).trans (congrArg _ ?_)
    refine Eq.trans ?_ (show D.gPj y0 y1 = sc * gQ (D.k (y1.val / 128)) (D.v (y1.val / 128)) (D.d (y1.val / 128)) (D.a (y1.val / 128)) y0 (y1.val % 128) by unfold Data.gPj; exact if_pos g).symm
    show (∑ j ∈ range 4096, _) * sc = _
    rw [gQ_eq _ _ _ _ _ _ y0.isLt, mul_comm]
  · rename_i g
    split
    · rename_i g1
      refine (hk _ _).trans (congrArg _ ?_)
      refine Eq.trans ?_ (hP1 g (by omega)).symm
      exact gK_eq _ _ _ _ _ _
    · rename_i g1
      split
      · rename_i g2
        refine (hv _ _).trans (congrArg _ ?_)
        refine Eq.trans ?_ (hP2 (by omega) (by omega)).symm
        have e : y1.val - 512 - 512 = y1.val - 1024 := by omega
        show (∑ i ∈ range 4096, D.d ((y1.val - 512 - 512) / 256) i ((y1.val - 512 - 512) % 256) * tt D ((y1.val - 512 - 512) / 256) i y0) = _
        rw [e]
        exact gV_eq _ _ _ _
      · rename_i g2
        split
        · rename_i g3
          refine (hr _ _).trans (congrArg _ ?_)
          refine Eq.trans ?_ (hP3 (by omega) (by omega)).symm
          have e : y1.val - 512 - 512 - 1024 = y1.val - 2048 := by omega
          have e1 : 256 * ((y1.val - 2048) / 256) + (y1.val - 2048) % 256 = y1.val - 2048 := Nat.div_add_mod _ _
          show nrm (D.oh ((y1.val - 512 - 512 - 1024) / 256)) y0 ((y1.val - 512 - 512 - 1024) % 256) * D.ng ((y1.val - 512 - 512 - 1024) % 256) * D.da y0 (y1.val - 512 - 512 - 1024)
            * sig (D.pj y0 (2048 + (y1.val - 512 - 512 - 1024))) + D.pj y0 (2048 + (y1.val - 512 - 512 - 1024))
              * (nrm (D.oh ((y1.val - 512 - 512 - 1024) / 256)) y0 ((y1.val - 512 - 512 - 1024) % 256) * D.ng ((y1.val - 512 - 512 - 1024) % 256) * D.da y0 (y1.val - 512 - 512 - 1024))
                * (sig (D.pj y0 (2048 + (y1.val - 512 - 512 - 1024))) * (1 - sig (D.pj y0 (2048 + (y1.val - 512 - 512 - 1024))))) = _
          rw [e]
          have hd : D.dah ((y1.val - 2048) / 256) y0 ((y1.val - 2048) % 256) = D.da y0 (y1.val - 2048) := by rw [Data.dah, e1]
          have hp : D.r ((y1.val - 2048) / 256) y0 ((y1.val - 2048) % 256) = D.pj y0 (2048 + (y1.val - 2048)) := by rw [Data.r, add_assoc, e1]
          rw [gR, hd, hp, sil]
          ring
        · rename_i g3
          refine (hz _ _).trans (congrArg _ ?_)
          refine Eq.trans ?_ (hP4 (by omega)).symm
          have e : y1.val - 512 - 512 - 1024 - 1024 = y1.val - 3072 := by omega
          show (∑ c ∈ range 512, D.l (c / 128) y0 (c % 128) * D.wal (y1.val - 512 - 512 - 1024 - 1024) c) = _
          rw [e, sum_heads]
          refine Finset.sum_congr rfl fun h _ => Finset.sum_congr rfl fun x hx => ?_
          rw [Finset.mem_range] at hx
          rw [show (128 * h + x) / 128 = h by omega, show (128 * h + x) % 128 = x by omega, Data.w]
end Ref

end Cert.Gla
end
-- ==== Proof.EntryA.lean ====
/- The states before each chunk, as the host forms them from the running sums, read over real numbers. -/
module

public import proofs.«01_k».proof.Proof.Final
public import proofs.«01_k».proof.Proof.HostC

@[expose] public section

set_option maxRecDepth 16384

noncomputable section

namespace Cert.Gla

open Idealize.ShloMosaic Idealize.ShloMosaic.TcCoe Idealize.SL.Sem
open Cert.KernelIdeal Cert.KernelIdeal.Gen
open Finset (range Ico)

/-- The tokens before each chunk's start. -/
def kMask : IVec S4x63x4096x128 1 :=
  broadcastInDim S4x63x4096x128 ![1, 2, 3] bcast_S63x4096x1_S4x63x4096x128_1_2_3 (broadcastInDim S63x4096x1 ![0, 1] bcast_S63x4096_S63x4096x1_0_1 (cmpi .slt (iotaInDim S63x4096 32 1) (muli (broadcastInDim S63x4096 ![] bcast_S_S63x4096 (constantI S_ 32 64#32)) (addi (iotaInDim S63x4096 32 0) (broadcastInDim S63x4096 ![] bcast_S_S63x4096 (constantI S_ 32 1#32))))))
/-- The running sums at each chunk's end. -/
def kEnds (g : V S4x4096x128) : V S4x63x128 := Host.slice S4x63x128 ![0, 63, 0] ![1, 64, 1] g slicesBy_S4x4096x128_S4x63x128_0s1_63s64_0s1
/-- The decay from a token to a chunk's start. -/
def kDec (g : V S4x4096x128) : V S4x63x4096x128 :=
  Host.exp (select kMask (subf (broadcastInDim S4x63x4096x128 ![0, 1, 2, 3] bcast_S4x63x1x128_S4x63x4096x128_0_1_2_3 (broadcastInDim S4x63x1x128 ![0, 1, 3] bcast_S4x63x128_S4x63x1x128_0_1_3 (kEnds g))) (broadcastInDim S4x63x4096x128 ![0, 1, 2, 3] bcast_S4x1x4096x128_S4x63x4096x128_0_1_2_3 (broadcastInDim S4x1x4096x128 ![0, 2, 3] bcast_S4x4096x128_S4x1x4096x128_0_2_3 g))) (broadcastInDim S4x63x4096x128 ![] bcast_S_S4x63x4096x128 (id (constant S_ .f32 0xFF800000#32))))
/-- The states before the chunks that have one before them. -/
def kSt (k : V S4x4096x128) (v : V S4x4096x256) (dc : V S4x63x4096x128) : V S63x4x256x128 :=
  transpose S63x4x256x128 [2, 0, 1, 3] (Host.dotGeneral dot_S4x4096x256_S4x63x4096x128_S4x256x63x128_1_2_2_13_0_0 none v (mulf (broadcastInDim S4x63x4096x128 ![0, 1, 2, 3] bcast_S4x1x4096x128_S4x63x4096x128_0_1_2_3 (broadcastInDim S4x1x4096x128 ![0, 2, 3] bcast_S4x4096x128_S4x1x4096x128_0_2_3 k)) dc)) transposes_S4x256x63x128_S63x4x256x128_2_0_1_3
/-- All of them: the first is zero. -/
def kCat (s : V S63x4x256x128) : V S64x4x256x128 :=
  concatenate S64x4x256x128 0 [⟨S1x4x256x128, (broadcastInDim S1x4x256x128 ![] bcast_S_S1x4x256x128 (constant S_ .f32 0x00000000#32) : V S1x4x256x128)⟩, ⟨S63x4x256x128, s⟩] concatenates_S1x4x256x128_S63x4x256x128_S64x4x256x128_d0
/-- The attention's output by rows. -/
def kO (o : V S4096x4x256) : V S4096x1024 := shapeCast _ o shapeCasts_S4096x4x256_S4096x1024

section
variable {X3 Y3 : ℕ → ℕ → ℕ → ℝ} {D : Data}

theorem kMask_apply (h : Fin 4) (n : Fin 63) (j : Fin 4096) (x : Fin 128) : kMask (ix4 h n j x) = if j.val < 64 * (n.val + 1) then 1#1 else 0#1 := by
  pointwise [kMask]
  rw [show IntOp.muli 64#32 (IntOp.addi (BitVec.ofNat 32 n.val) 1#32) = BitVec.ofNat 32 (64 * (n.val + 1)) by
      rw [BitVec.ofNat_mul, BitVec.ofNat_add]; rfl,
    Idealize.ShloMosaic.WordCmp.cmpi_slt_ofNat (by have := j.isLt; norm_num; omega) (by have := n.isLt; norm_num; omega)]
  by_cases h' : j.val < 64 * (n.val + 1) <;> simp [h']
theorem R4.kDec {g : V S4x4096x128} (hg : R3 g X3) : R4 (kDec g) (fun h n j x => if j < 64 * (n + 1) then Real.exp (X3 h (63 + 64 * n) x - X3 h j x) else 0) := fun h n j x => by
  pointwise [Cert.Gla.kDec, Cert.Gla.kEnds]
  rw [kMask_apply, hg, hg]
  by_cases h' : j.val < 64 * (n.val + 1)
  · rw [if_pos h', if_pos h', ← EReal.coe_sub]; rfl
  · rw [if_neg h', if_neg h', EReal.coe_zero]
    exact congrArg Ideal.exp bits_ninf
theorem R4.kSt {k : V S4x4096x128} {v : V S4x4096x256} {dc : V S4x63x4096x128} {K U : ℕ → ℕ → ℕ → ℝ} {E : ℕ → ℕ → ℕ → ℕ → ℝ} (hk : R3 k K) (hv : R3 v U) (hd : R4 dc E) :
    R4 (kSt k v dc) (fun n h e x => ∑ j ∈ range 4096, U h j e * (K h j x * E h n j x)) := fun n h e x => by
  pointwise [Cert.Gla.kSt]
  refine Eq.trans ?_ (coe_sum_fin 4096 (fun j => U h j e * (K h j x * E h n j x)))
  refine Finset.sum_congr rfl fun j _ => ?_
  refine Eq.trans ?_ (EReal.coe_mul _ _).symm
  refine congrArg₂ (· * ·) (hv _ _ _) (Eq.trans ?_ (EReal.coe_mul _ _).symm)
  exact congrArg₂ (· * ·) (hk _ _ _) (hd _ _ _ _)
theorem R2.kO {o : V S4096x4x256} (ho : R3 o X3) : R2 (kO o) (fun i c => X3 i (c / 256) (c % 256)) := fun i c => by
  pointwise [Cert.Gla.kO]
  exact ho _ _ _
theorem R4.kCat {s : V S63x4x256x128} {E : ℕ → ℕ → ℕ → ℕ → ℝ} (hs : R4 s (fun n h e x => E (n + 1) h e x)) (h0 : ∀ h e x, E 0 h e x = 0) : R4 (kCat s) E := fun n h e x => by
  pointwise [Cert.Gla.kCat]
  split
  · rename_i hn
    rw [show n.val = 0 by omega, h0, EReal.coe_zero]
  · rename_i hn
    refine (hs _ _ _ _).trans (congrArg _ ?_)
    show E (n.val - 1 + 1) h e x = E n h e x
    rw [show n.val - 1 + 1 = n.val by omega]
end

end Cert.Gla
end
-- ==== Proof.EntryB.lean ====
/- The kernel's operands that the host forms. -/
module

public import proofs.«01_k».proof.Proof.EntryA
public import Idealize.ShloMosaic.Lib.Claim

@[expose] public section

set_option maxRecDepth 16384

noncomputable section

namespace Cert.Gla

open Idealize.ShloMosaic Idealize.ShloMosaic.TcCoe Idealize.SL.Sem Idealize.ShloMosaic.StableHlo
open Cert.KernelIdeal Cert.KernelIdeal.Gen
open Finset (range Ico)

set_option maxHeartbeats 4000000 in
theorem V_o (m : (ℓ : Loc nD τ Cert.KernelIdeal.sig) → Buf (Elt Ideal) ℓ) (c : Dev nD) : Gen.V m c main_v41
    = kO (fO (fAtt (fQK (m ((c : Thread nD τ).loc main_arg1))) (fDec (fCum (fLa (fSp (fNeg (m ((c : Thread nD τ).loc main_arg1)) (m ((c : Thread nD τ).loc main_arg2)) (m ((c : Thread nD τ).loc main_arg3)))))))) (fV (m ((c : Thread nD τ).loc main_arg1)))) := by
  have key : ∀ σ : Valuation τ Cert.KernelIdeal.sig (Elt Ideal), after
      [hostOps0 (F := Ideal), hostOps0_1, hostOps0_2, hostOps0_3, hostOps0_4, hostOps0_5, hostOps0_6, hostOps0_7, hostOps0_8,
          hostOps0_9, hostOps0_10].flatten σ (Proc.tc.devRef main_v41) =
    kO (fO (fAtt (fQK (σ (Proc.devRef .tc main_arg1))) (fDec (fCum (fLa (fSp (fNeg (σ (Proc.devRef .tc main_arg1)) (σ (Proc.devRef .tc main_arg2)) (σ (Proc.devRef .tc main_arg3)))))))) (fV (σ (Proc.devRef .tc main_arg1)))) := by
    intro σ
    simp only [List.flatten_cons, List.flatten_nil, List.append_nil, List.cons_append, List.nil_append, hostOps0, hostOps0_1, hostOps0_2, hostOps0_3, hostOps0_4, hostOps0_5, hostOps0_6, hostOps0_7, hostOps0_8,
          hostOps0_9, hostOps0_10]
    after_results_simp
    rfl
  exact key _
end Cert.Gla
end
-- ==== Proof.EntryC.lean ====
/- The states the kernel reads, as the host forms them. -/
module

public import proofs.«01_k».proof.Proof.EntryA
public import Idealize.ShloMosaic.Lib.Claim

@[expose] public section

set_option maxRecDepth 16384

noncomputable section

namespace Cert.Gla

open Idealize.ShloMosaic Idealize.ShloMosaic.TcCoe Idealize.SL.Sem Idealize.ShloMosaic.StableHlo
open Cert.KernelIdeal Cert.KernelIdeal.Gen
open Finset (range Ico)

/-- The states before the chunks, the first one beside the others. -/
def kCat2 (z : V S1x4x256x128) (s : V S63x4x256x128) : V S64x4x256x128 :=
  concatenate S64x4x256x128 0 [⟨S1x4x256x128, z⟩, ⟨S63x4x256x128, s⟩] concatenates_S1x4x256x128_S63x4x256x128_S64x4x256x128_d0

set_option maxHeartbeats 4000000 in
theorem V_st (m : (ℓ : Loc nD τ Cert.KernelIdeal.sig) → Buf (Elt Ideal) ℓ) (c : Dev nD) : Gen.V m c main_v64
    = kCat (kSt (fKh (m ((c : Thread nD τ).loc main_arg1))) (fV (m ((c : Thread nD τ).loc main_arg1))) (kDec (fCum (fLa (fSp (fNeg (m ((c : Thread nD τ).loc main_arg1)) (m ((c : Thread nD τ).loc main_arg2)) (m ((c : Thread nD τ).loc main_arg3)))))))) := by
  have key : ∀ σ : Valuation τ Cert.KernelIdeal.sig (Elt Ideal), after
      [hostOps0 (F := Ideal), hostOps0_1, hostOps0_2, hostOps0_3, hostOps0_4, hostOps0_5, hostOps0_6, hostOps0_7, hostOps0_8,
          hostOps0_9, hostOps0_10].flatten σ (Proc.tc.devRef main_v64) =
    kCat (kSt (fKh (σ (Proc.devRef .tc main_arg1))) (fV (σ (Proc.devRef .tc main_arg1))) (kDec (fCum (fLa (fSp (fNeg (σ (Proc.devRef .tc main_arg1)) (σ (Proc.devRef .tc main_arg2)) (σ (Proc.devRef .tc main_arg3)))))))) := by
    intro σ
    simp only [List.flatten_cons, List.flatten_nil, List.append_nil, List.cons_append, List.nil_append, hostOps0, hostOps0_1, hostOps0_2, hostOps0_3, hostOps0_4, hostOps0_5, hostOps0_6, hostOps0_7, hostOps0_8,
          hostOps0_9, hostOps0_10]
    simp only [after_cons, after_nil]
    refine (binary_result _ _ _ _ _ _ _ _).trans ?_
    change kCat2 _ _ = _
    refine congrArg₂ kCat2 ?_ ?_
    · after_results_simp
    · after_results_simp
      rfl
  exact key _
end Cert.Gla
end
-- ==== Proof.Args.lean ====
/- The arguments' real numbers, from the precondition that every one is finite, and both programs' values over them. -/
module

public import proofs.«01_k».proof.Defs
public import proofs.«01_k».proof.Proof.EntryB
public import proofs.«01_k».proof.Proof.EntryC
public import Idealize.ShloMosaic.Lib.ReduceAll

@[expose] public section

set_option maxRecDepth 16384

noncomputable section

namespace Cert.Gla

open Idealize.ShloMosaic Idealize.ShloMosaic.TcCoe Idealize.SL.Sem
open Finset (range Ico)

/-- The precondition's shapes broadcast and reduce as it says. -/
instance pre_facts : Cert.Pre_all_finite.Facts where
  bcast_S_S4096x1024 := by decide
  reducesTo_S4096x1024_S_d0_1 := by decide
  h_S_ := by decide
  bcast_S_S4096x3088 := by decide
  reducesTo_S4096x3088_S_d0_1 := by decide
  bcast_S_S16x512 := by decide
  reducesTo_S16x512_S_d0_1 := by decide
  bcast_S_S1x512 := by decide
  reducesTo_S1x512_S_d0_1 := by decide
  bcast_S_S1x256 := by decide
  reducesTo_S1x256_S_d0_1 := by decide

/-- The real numbers of an array, zero outside it. -/
def nums {A B : ℕ} (a : FVec Ideal ⟨2, ![A, B]⟩ .f32) (i j : ℕ) : ℝ := if h : i < A ∧ j < B then (a (ix2 ⟨i, h.1⟩ ⟨j, h.2⟩)).toReal else 0

theorem lt_top {x : EReal} (h : BitVec.ofBool (decide (max x (-x) < ⊤)) = 1#1) : max x (-x) < ⊤ := by
  by_contra hn
  rw [decide_eq_false hn] at h
  exact absurd h (by decide)
/-- An array whose entries' sizes are all below infinity is its numbers. -/
theorem R2.nums {A B : ℕ} {a : FVec Ideal ⟨2, ![A, B]⟩ .f32} (h : ∀ i, cmpf (s := ⟨2, ![A, B]⟩) .olt (Host.absf a) (fun _ => (⊤ : EReal)) i = 1#1) : R2 a (nums a) := fun i j => by
  have h1 : max (a (ix2 i j) : EReal) (-(a (ix2 i j) : EReal)) < ⊤ := lt_top (h (ix2 i j))
  have hn : Cert.Gla.nums a i j = (a (ix2 i j)).toReal := dif_pos ⟨i.isLt, j.isLt⟩
  rw [hn]
  refine (EReal.coe_toReal ?_ ?_).symm
  · intro e
    rw [e] at h1
    exact absurd h1 (by simp)
  · intro e
    rw [e] at h1
    exact absurd h1 (by simp)

section
variable (a0 : FVec Ideal ⟨2, ![4096, 1024]⟩ .f32) (a1 : FVec Ideal ⟨2, ![4096, 3088]⟩ .f32) (a2 : FVec Ideal ⟨2, ![16, 512]⟩ .f32)
  (a3 : FVec Ideal ⟨2, ![1, 512]⟩ .f32) (a4 : FVec Ideal ⟨2, ![1, 256]⟩ .f32)

/-- The numbers of the arguments, before the attention's output is known. -/
def D0 : Data where
  da := nums a0
  pj := nums a1
  o := fun _ _ => 0
  wal := nums a2
  bal := nums a3 0
  ng := nums a4 0
/-- The numbers of the arguments, with the attention's output. -/
def D1 : Data := { D0 a0 a1 a2 a3 a4 with o := fun i c => oo (D0 a0 a1 a2 a3 a4) (c / 256) i (c % 256) }

instance : Subsingleton (Shape.Idx ⟨0, ![]⟩) := ⟨fun i j => funext fun k => k.elim0⟩

/-- An array that the precondition's test finds finite is its numbers. -/
theorem R2.all {A B : ℕ} {a : FVec Ideal ⟨2, ![A, B]⟩ .f32} {hb : (⟨0, ![]⟩ : Shape).BroadcastsInDim ⟨2, ![A, B]⟩ ![]} {hr : (⟨2, ![A, B]⟩ : Shape).ReducesTo [0, 1] ⟨0, ![]⟩}
    {hp : 0 < (⟨0, ![]⟩ : Shape).numel} {j : Shape.Idx ⟨0, ![]⟩}
    (h : Host.reduce IntOp.andi (cmpf (s := ⟨2, ![A, B]⟩) .olt (Host.absf a) (broadcastInDim ⟨2, ![A, B]⟩ ![] hb (constant (F := Ideal) ⟨0, ![]⟩ .f32 0x7F800000#32)))
      (constantI ⟨0, ![]⟩ 1 1#1) hr hp j = 1#1) : R2 a (Cert.Gla.nums a) :=
  R2.nums fun i => by
    refine Eq.trans ?_ (Host.reduce_andi_all _ _ hr hp j h i)
    pointwise
    rw [show (Ideal.ofBits FTy.f32 2139095040#32 : EReal) = ⊤ from bits_inf]

/-- Finite arguments hold the data's numbers. -/
theorem args_of_pre (h : Cert.Pre_all_finite.fn a0 a1 a2 a3 a4 = fun _ => 1#1) : Args a0 a1 a2 a3 a4 (D1 a0 a1 a2 a3 a4) := by
  have h := congrFun h (fun k => k.elim0)
  dsimp only [Cert.Pre_all_finite.fn, Cert.Pre_all_finite.fn_part1] at h
  obtain ⟨h, e4⟩ := IntOp.andi_eq_one.1 h
  obtain ⟨h, e3⟩ := IntOp.andi_eq_one.1 h
  obtain ⟨h, e2⟩ := IntOp.andi_eq_one.1 h
  obtain ⟨e0, e1⟩ := IntOp.andi_eq_one.1 h
  refine ⟨R2.all e0, R2.all e1, R2.all e2, (R2.all e3).congr ?_, (R2.all e4).congr ?_, fun i h e hh he => ?_⟩
  · intro i hi x _
    rw [show i = 0 by omega]; rfl
  · intro i hi x _
    rw [show i = 0 by omega]; rfl
  · change oo (D0 a0 a1 a2 a3 a4) ((256 * h + e) / 256) i ((256 * h + e) % 256) = oo (D0 a0 a1 a2 a3 a4) h i e
    rw [show (256 * h + e) / 256 = h by omega, show (256 * h + e) % 256 = e by omega]
end

/-- The states before the chunks, as the masked sums over the whole sequence. -/
theorem st_sum (k v a : ℕ → ℕ → ℝ) (n e x : ℕ) (hn : n < 63) :
    (∑ j ∈ range 4096, v j e * (k j x * if j < 64 * (n + 1) then Real.exp (pre a (63 + 64 * n + 1) x - pre a (j + 1) x) else 0)) = st k v a (64 * (n + 1)) e x := by
  rw [st, ← Finset.sum_subset (Finset.range_mono (show 64 * (n + 1) ≤ 4096 by omega)) fun j _ hj => by
    rw [if_neg (by simpa using hj), mul_zero, mul_zero]]
  refine Finset.sum_congr rfl fun j hj => ?_
  rw [if_pos (Finset.mem_range.1 hj), show 63 + 64 * n + 1 = 64 * (n + 1) by ring]
  ring

section
open Cert.KernelIdeal

variable (m : (ℓ : Loc nD τ Cert.KernelIdeal.sig) → Buf (Elt Ideal) ℓ)

/-- The kernel's launch starts from the data, when the arguments hold it. -/
theorem entry_of {D : Data} (c : Dev nD)
    (A : Args (m ((c : Thread nD τ).loc main_arg0)) (m ((c : Thread nD τ).loc main_arg1)) (m ((c : Thread nD τ).loc main_arg2)) (m ((c : Thread nD τ).loc main_arg3)) (m ((c : Thread nD τ).loc main_arg4)) D) :
    Entry m D c where
  h0 := by rw [Gen.V_main_arg0]; exact A.h0
  h1 := by rw [Gen.V_main_arg1]; exact A.h1
  h2 := by
    rw [V_o]
    refine (R2.kO (f_o A.h1 A.h2 A.h3)).congr fun i _ x hx => ?_
    rw [← A.ho i (x / 256) (x % 256) (by omega) (by omega)]
    congr 1; omega
  h3 := by
    rw [V_st]
    refine R4.kCat (fun n h e x => ?_) fun h e x => Finset.sum_range_zero _
    refine (R4.kSt (R3.fKh A.h1) (R3.fV A.h1) (R4.kDec (R3.fCum (f_sp A.h1 A.h2 A.h3))) n h e x).trans ?_
    exact congrArg _ (st_sum (D.k h) (D.v h) (D.a h) n e x n.isLt)
  h4 := by rw [Gen.V_main_arg2]; exact A.h2
  h5 := by rw [Gen.V_main_arg3]; exact A.h3
  h6 := by rw [Gen.V_main_arg4]; exact A.h4
end

end Cert.Gla
end
-- ==== Proof.Mm.lean ====
/- Matrices of ideal numbers, read by their row and column numbers, and sums taken block by block. No entry need be finite:
   the sums of the products here are regrouped only. -/
module

public import Idealize.ShloMosaic.Lib.Pointwise
public import Idealize.ShloMosaic.Lib.WordCmp
public import Idealize.ShloMosaic.Lib.Pipeline.ValueKit
public import Idealize.ShloMosaic.Lib.Pipeline.ReadBack
public import Idealize.ShloMosaic.Lib.WholeRead
public import Idealize.ShloMosaic.Lib.Writes

@[expose] public section

noncomputable section

namespace Cert.Mm

open Idealize.ShloMosaic
open Finset (range)

/-- Every entry of the matrix is what `X` gives at its row and column. -/
def E2 {a b : ℕ} {φ : FTy} (v : FVec Ideal ⟨2, ![a, b]⟩ φ) (X : ℕ → ℕ → EReal) : Prop :=
  ∀ (i : Fin a) (j : Fin b), v (ix2 i j) = X i j
/-- Every entry of the rank 3 array is what `X` gives. -/
def E3 {a b c : ℕ} {φ : FTy} (v : FVec Ideal ⟨3, ![a, b, c]⟩ φ) (X : ℕ → ℕ → ℕ → EReal) : Prop :=
  ∀ (i : Fin a) (j : Fin b) (k : Fin c), v (ix3 i j k) = X i j k

/-- A matrix as a function of row and column numbers, zero outside. -/
def nat2 {a b : ℕ} {φ : FTy} (v : FVec Ideal ⟨2, ![a, b]⟩ φ) (i j : ℕ) : EReal :=
  if h : i < a ∧ j < b then v (ix2 ⟨i, h.1⟩ ⟨j, h.2⟩) else 0

theorem E2.nat {a b : ℕ} {φ : FTy} (v : FVec Ideal ⟨2, ![a, b]⟩ φ) : E2 v (nat2 v) := fun i j => by
  unfold nat2; rw [dif_pos ⟨i.isLt, j.isLt⟩]

theorem E2.ext {a b : ℕ} {φ : FTy} {u v : FVec Ideal ⟨2, ![a, b]⟩ φ} {X : ℕ → ℕ → EReal} (hu : E2 u X) (hv : E2 v X) : u = v := by
  funext x
  have e : x = ix2 (x 0) (x 1) := by funext d; match d with | 0 => rfl | 1 => rfl
  rw [e]; exact (hu _ _).trans (hv _ _).symm
theorem E3.ext {a b c : ℕ} {φ : FTy} {u v : FVec Ideal ⟨3, ![a, b, c]⟩ φ} {X : ℕ → ℕ → ℕ → EReal} (hu : E3 u X) (hv : E3 v X) : u = v := by
  funext x
  have e : x = ix3 (x 0) (x 1) (x 2) := by funext d; match d with | 0 => rfl | 1 => rfl | 2 => rfl
  rw [e]; exact (hu _ _ _).trans (hv _ _ _).symm

theorem E2.same {a b : ℕ} {φ : FTy} {v : FVec Ideal ⟨2, ![a, b]⟩ φ} {X Y : ℕ → ℕ → EReal} (h : E2 v X) (e : ∀ i j, X i j = Y i j) : E2 v Y :=
  fun i j => (h i j).trans (e i j)

/-- A sum over all of `Fin n` as a sum over the first `n` numbers. -/
theorem sum_fin (n : ℕ) (f : ℕ → EReal) : (∑ i : Fin n, f i) = ∑ i ∈ range n, f i := (Finset.sum_range f).symm

/-- One more block of a sum. -/
theorem sum_block (n q : ℕ) (f : ℕ → EReal) :
    (∑ k ∈ range (n * (q + 1)), f k) = (∑ k ∈ range (n * q), f k) + ∑ k ∈ range n, f (n * q + k) := by
  rw [Nat.mul_succ, Finset.sum_range_add]

/-- The float word of zero. -/
theorem bits_zero : (Scalar.ofBits .f32 0x00000000#32 : Ideal .f32) = (0 : EReal) := by
  simp [Scalar.ofBits, FloatOps.ofBits, Ideal.ofBits, Ideal.ieee]

end Cert.Mm
end
-- ==== Proof.Mm2.lean ====
/- The gradient of the ConvFFN's activations: each grid point writes one block of the product with the transposed weights. -/
module

public import proofs.«01_k».proof.Proof.Mm
public import proofs.«01_k».proof.Proof.Gen.Kernel2Ideal.Value
public import proofs.«01_k».proof.Proof.Gen.Reference2Ideal
public import Idealize.ShloMosaic.Lib.Claim

@[expose] public section

set_option maxRecDepth 16384

noncomputable section

namespace Cert.Mm2

open Idealize.ShloMosaic Idealize.ShloMosaic.TcCoe Idealize.SL.Sem Idealize.ShloMosaic.StableHlo
open Cert.Kernel2Ideal Cert.Kernel2Ideal.Gen Cert.Mm
open Finset (range)

theorem pay {u : FVec Ideal S1024x1024 .bf16} {v : FVec Ideal S1408x1024 .bf16} {X Y : ℕ → ℕ → EReal} (hu : E2 u X) (hv : E2 v Y) :
    E2 (k0_pay1 (F := Ideal) u v) (fun i j => ∑ k ∈ range 1024, X i k * Y j k) := fun i j => by
  refine Eq.trans ?_ ((Finset.sum_congr rfl fun k _ => congrArg₂ (· * ·) (hu i k) (hv j k)).trans (sum_fin 1024 (fun k => X i k * Y j k)))
  unfold k0_pay1
  pointwise

/-- The product with the transposed weights. -/
def refOut (u : FVec Ideal S4096x1024 .f32) (v : FVec Ideal S2816x1024 .f32) : FVec Ideal S4096x2816 .f32 :=
  Host.dotGeneral (φ₁ := .f32) (φ₂ := .f32) Cert.Reference2Ideal.dot_S4096x1024_S2816x1024_S4096x2816_1_1_0_0_n_n none u v

theorem ref {u : FVec Ideal S4096x1024 .f32} {v : FVec Ideal S2816x1024 .f32} {X Y : ℕ → ℕ → EReal} (hu : E2 u X) (hv : E2 v Y) :
    E2 (refOut u v) (fun i j => ∑ k ∈ range 1024, X i k * Y j k) := fun i j => by
  refine Eq.trans ?_ ((Finset.sum_congr rfl fun k _ => congrArg₂ (· * ·) (hu i k) (hv j k)).trans (sum_fin 1024 (fun k => X i k * Y j k)))
  unfold refOut
  pointwise

variable (m : (ℓ : Loc nD τ Cert.Kernel2Ideal.sig) → Buf (Elt Ideal) ℓ)

theorem V0 (c : Dev nD) : E2 (a := 4096) (b := 1024) (φ := .bf16) (Gen.V m c main_v0) (nat2 (φ := .f32) (m ((c : Thread nD τ).loc main_arg0))) := by
  have key : ∀ σ : Valuation τ Cert.Kernel2Ideal.sig (Elt Ideal), after (hostOps0 (F := Ideal)) σ (Proc.tc.devRef main_v0)
      = truncf (F := Ideal) (φ := .f32) .bf16 (σ (Proc.devRef .tc main_arg0)) := by
    intro σ
    simp only [hostOps0]
    after_results_simp
    try rfl
  exact fun i j => (congrFun (key _) (ix2 i j)).trans (E2.nat (φ := .f32) (m ((c : Thread nD τ).loc main_arg0)) i j)

theorem V1 (c : Dev nD) : E2 (a := 2816) (b := 1024) (φ := .bf16) (Gen.V m c main_v1) (nat2 (φ := .f32) (m ((c : Thread nD τ).loc main_arg2))) := by
  have key : ∀ σ : Valuation τ Cert.Kernel2Ideal.sig (Elt Ideal), after (hostOps0 (F := Ideal)) σ (Proc.tc.devRef main_v1)
      = truncf (F := Ideal) (φ := .f32) .bf16 (σ (Proc.devRef .tc main_arg2)) := by
    intro σ
    simp only [hostOps0]
    after_results_simp
    try rfl
  exact fun i j => (congrFun (key _) (ix2 i j)).trans (E2.nat (φ := .f32) (m ((c : Thread nD τ).loc main_arg2)) i j)

theorem idx : ∀ t : Fin cfg0.N, win0_0.index t = ![t.val / 2, 0] ∧ win0_1.index t = ![t.val % 2, 0] ∧ win0_2.index t = ![t.val / 2, t.val % 2] ∧ t.val < 8 :=
  (by decide +kernel : ∀ t : Fin grid0.N, _)

theorem in0 (c : Dev nD) (t : Fin cfg0.N) : E2 (a := 1024) (b := 1024) (φ := .bf16) (iblk m c 0 t)
    (fun i j => nat2 (φ := .f32) (m ((c : Thread nD τ).loc main_arg0)) (1024 * (t.val / 2) + i) j) := fun i j => by
  have ht := (idx t).2.2.2
  refine Eq.trans ?_ (V0 m c ⟨1024 * (t.val / 2) + i.val, by omega⟩ j)
  blk_ext [iblk, idx t]

theorem in1 (c : Dev nD) (t : Fin cfg0.N) : E2 (a := 1408) (b := 1024) (φ := .bf16) (iblk m c 1 t)
    (fun i j => nat2 (φ := .f32) (m ((c : Thread nD τ).loc main_arg2)) (1408 * (t.val % 2) + i) j) := fun i j => by
  have ht := (idx t).2.2.2
  refine Eq.trans ?_ (V1 m c ⟨1408 * (t.val % 2) + i.val, by omega⟩ j)
  blk_ext [iblk, idx t]

/-- The kernel's result is the reference's product. -/
theorem final (c : Dev nD) : (dats (F := Ideal) m 0 c).arrAt 2 cfg0.N = refOut (m ((c : Thread nD τ).loc main_arg0)) (m ((c : Thread nD τ).loc main_arg2)) := by
  refine (dats (F := Ideal) m 0 c).arrAt_eq_of_covers 2 _ (by decide +kernel) fun t hf y => ?_
  have hR := ref (E2.nat (φ := .f32) (m ((c : Thread nD τ).loc main_arg0))) (E2.nat (φ := .f32) (m ((c : Thread nD τ).loc main_arg2)))
  have hp := pay (in0 m c t) (in1 m c t)
  have ht := (idx t).2.2.2
  idx_vars y
  blk_simp
  rw [after0_2]
  frame_out
  refine (hp y0 y1).trans (((hR ⟨1024 * (t.val / 2) + y0.val, by omega⟩ ⟨1408 * (t.val % 2) + y1.val, by omega⟩).symm).trans (congrArg _ ?_))
  blk_point [idx t]

end Cert.Mm2
end
-- ==== Proof.Mm3.lean ====
/- The gradient of the ConvFFN's second weights: each grid point adds one block of tokens to the product held in the scratch,
   and the last of the four writes it. -/
module

public import proofs.«01_k».proof.Proof.Mm
public import proofs.«01_k».proof.Proof.Gen.Kernel3Ideal.Value
public import proofs.«01_k».proof.Proof.Gen.Reference3Ideal
public import Idealize.ShloMosaic.Lib.Claim

@[expose] public section

set_option maxRecDepth 16384

noncomputable section

namespace Cert.Mm3

open Idealize.ShloMosaic Idealize.ShloMosaic.TcCoe Idealize.SL.Sem Idealize.ShloMosaic.StableHlo
open Cert.Kernel3Ideal Cert.Kernel3Ideal.Gen Cert.Mm
open Finset (range)

theorem pay0 : E2 (k0_pay1 (F := Ideal)) (fun _ _ => 0) := fun i j => by
  refine Eq.trans ?_ bits_zero
  unfold k0_pay1
  pointwise

theorem pay {w : FVec Ideal S1408x1024 .f32} {u : FVec Ideal S1024x1408 .bf16} {v : FVec Ideal S1024x1024 .bf16} {Z X Y : ℕ → ℕ → EReal}
    (hw : E2 w Z) (hu : E2 u X) (hv : E2 v Y) :
    E2 (k0_pay2 (F := Ideal) w u v) (fun i j => Z i j + ∑ k ∈ range 1024, X k i * Y k j) := fun i j => by
  refine Eq.trans ?_ (congrArg₂ (· + ·) (hw i j) ((Finset.sum_congr rfl fun k _ => congrArg₂ (· * ·) (hu k i) (hv k j)).trans (sum_fin 1024 (fun k => X k i * Y k j))))
  unfold k0_pay2
  pointwise

/-- The transpose of the product of the two transposes. -/
def refOut (u : FVec Ideal S4096x1024 .f32) (v : FVec Ideal S4096x2816 .f32) : FVec Ideal S2816x1024 .f32 :=
  transpose S2816x1024 [1, 0] (Host.dotGeneral (φ₁ := .f32) (φ₂ := .f32) Cert.Reference3Ideal.dot_S4096x1024_S4096x2816_S1024x2816_0_0_1_1_n_n none u v : FVec Ideal Cert.Reference3Ideal.S1024x2816 .f32)
    Cert.Reference3Ideal.Gen.transposes_S1024x2816_S2816x1024_1_0

theorem ref {u : FVec Ideal S4096x1024 .f32} {v : FVec Ideal S4096x2816 .f32} {X Y : ℕ → ℕ → EReal} (hu : E2 u X) (hv : E2 v Y) :
    E2 (refOut u v) (fun i j => ∑ k ∈ range 4096, Y k i * X k j) := fun i j => by
  refine Eq.trans ?_ ((Finset.sum_congr rfl fun k _ => (congrArg₂ (· * ·) (hu k j) (hv k i)).trans (mul_comm _ _)).trans (sum_fin 4096 (fun k => Y k i * X k j)))
  unfold refOut
  pointwise

variable (m : (ℓ : Loc nD τ Cert.Kernel3Ideal.sig) → Buf (Elt Ideal) ℓ)

/-- The activations and the gradient that the launch holds, by row and column. -/
abbrev A (c : Dev nD) : ℕ → ℕ → EReal := nat2 (a := 4096) (b := 2816) (φ := .f32) (m ((c : Thread nD τ).loc main_arg1))
abbrev B (c : Dev nD) : ℕ → ℕ → EReal := nat2 (a := 4096) (b := 1024) (φ := .f32) (m ((c : Thread nD τ).loc main_arg0))

theorem V0 (c : Dev nD) : E2 (a := 4096) (b := 2816) (φ := .bf16) (Gen.V m c main_v0) (A m c) := by
  have key : ∀ σ : Valuation τ Cert.Kernel3Ideal.sig (Elt Ideal), after (hostOps0 (F := Ideal)) σ (Proc.tc.devRef main_v0)
      = truncf (F := Ideal) (φ := .f32) .bf16 (σ (Proc.devRef .tc main_arg1)) := by
    intro σ
    simp only [hostOps0]
    after_results_simp
    try rfl
  exact fun i j => (congrFun (key _) (ix2 i j)).trans (E2.nat (φ := .f32) (m ((c : Thread nD τ).loc main_arg1)) i j)

theorem V1 (c : Dev nD) : E2 (a := 4096) (b := 1024) (φ := .bf16) (Gen.V m c main_v1) (B m c) := by
  have key : ∀ σ : Valuation τ Cert.Kernel3Ideal.sig (Elt Ideal), after (hostOps0 (F := Ideal)) σ (Proc.tc.devRef main_v1)
      = truncf (F := Ideal) (φ := .f32) .bf16 (σ (Proc.devRef .tc main_arg0)) := by
    intro σ
    simp only [hostOps0]
    after_results_simp
    try rfl
  exact fun i j => (congrFun (key _) (ix2 i j)).trans (E2.nat (φ := .f32) (m ((c : Thread nD τ).loc main_arg0)) i j)

theorem idx : ∀ t : Fin cfg0.N, win0_0.index t = ![t.val % 4, t.val / 4] ∧ win0_1.index t = ![t.val % 4, 0] ∧ win0_2.index t = ![t.val / 4, 0] ∧ t.val < 8 :=
  (by decide +kernel : ∀ t : Fin grid0.N, _)
theorem flush : ∀ t : Fin cfg0.N, (cfg0.win 2).flush t = true → t.val % 4 = 3 := (by decide +kernel : ∀ t : Fin grid0.N, _)

theorem in0 (c : Dev nD) (t : Fin cfg0.N) : E2 (a := 1024) (b := 1408) (φ := .bf16) (iblk m c 0 t)
    (fun i j => A m c (1024 * (t.val % 4) + i) (1408 * (t.val / 4) + j)) := fun i j => by
  have ht := (idx t).2.2.2
  refine Eq.trans ?_ (V0 m c ⟨1024 * (t.val % 4) + i.val, by omega⟩ ⟨1408 * (t.val / 4) + j.val, by omega⟩)
  blk_ext [iblk, idx t]

theorem in1 (c : Dev nD) (t : Fin cfg0.N) : E2 (a := 1024) (b := 1024) (φ := .bf16) (iblk m c 1 t)
    (fun i j => B m c (1024 * (t.val % 4) + i) j) := fun i j => by
  have ht := (idx t).2.2.2
  refine Eq.trans ?_ (V1 m c ⟨1024 * (t.val % 4) + i.val, by omega⟩ j)
  blk_ext [iblk, idx t]

/-- What the scratch holds after a point: the product over the blocks of tokens met so far. -/
def acc (c : Dev nD) (n : ℕ) (i j : ℕ) : EReal := ∑ k ∈ range (1024 * (n % 4 + 1)), A m c k (1408 * (n / 4) + i) * B m c k j

theorem acc_first (c : Dev nD) (n : ℕ) (h : n % 4 = 0) (i j : ℕ) :
    0 + ∑ k ∈ range 1024, A m c (1024 * (n % 4) + k) (1408 * (n / 4) + i) * B m c (1024 * (n % 4) + k) j = acc m c n i j := by
  unfold acc
  rw [sum_block 1024 (n % 4) (fun k => A m c k (1408 * (n / 4) + i) * B m c k j), h]
  simp only [Nat.mul_zero, Finset.range_zero, Finset.sum_empty]

theorem acc_step (c : Dev nD) (n : ℕ) (h : ¬ (n + 1) % 4 = 0) (i j : ℕ) :
    acc m c n i j + ∑ k ∈ range 1024, A m c (1024 * ((n + 1) % 4) + k) (1408 * ((n + 1) / 4) + i) * B m c (1024 * ((n + 1) % 4) + k) j = acc m c (n + 1) i j := by
  unfold acc
  rw [sum_block 1024 ((n + 1) % 4) (fun k => A m c k (1408 * ((n + 1) / 4) + i) * B m c k j), show n % 4 + 1 = (n + 1) % 4 by omega, show n / 4 = (n + 1) / 4 by omega]

theorem held (c : Dev nD) : ∀ (n : ℕ) (h : n < cfg0.N), E2 (a := 1408) (b := 1024) (φ := .f32) (outsAt0 m c n h).2 (acc m c n)
  | 0, h => by
    have e := outsAt0_A m c ⟨0, h⟩ rfl (show ¬ (0 % 4 = 3) by decide)
    have hp := E2.same (pay pay0 (in0 m c ⟨0, h⟩) (in1 m c ⟨0, h⟩)) (acc_first m c 0 rfl)
    intro i j
    refine Eq.trans ?_ (hp i j)
    rw [show outsAt0 m c 0 h = _ from e]
    frame_out
  | n + 1, h => by
    by_cases h0 : (n + 1) % 4 = 0
    · have e := outsAt0_A m c ⟨n + 1, h⟩ h0 (by dsimp only; omega)
      have hp := E2.same (pay pay0 (in0 m c ⟨n + 1, h⟩) (in1 m c ⟨n + 1, h⟩)) (acc_first m c (n + 1) h0)
      intro i j
      refine Eq.trans ?_ (hp i j)
      rw [show outsAt0 m c (n + 1) h = _ from e]
      frame_out
    · have hp := E2.same (pay (held c n (Nat.lt_of_succ_lt h)) (in0 m c ⟨n + 1, h⟩) (in1 m c ⟨n + 1, h⟩)) (acc_step m c n h0)
      intro i j
      refine Eq.trans ?_ (hp i j)
      by_cases h1 : (n + 1) % 4 = 3
      · rw [show outsAt0 m c (n + 1) h = _ from outsAt0_C m c ⟨n + 1, h⟩ h0 h1]
        frame_out
        exact congrFun (congrArg (fun w => k0_pay2 (F := Ideal) w _ _) (Memref.IsWhole.read_unread (Memref.isWhole_whole cc0_scratch0) _)) _
      · rw [show outsAt0 m c (n + 1) h = _ from outsAt0_B m c ⟨n + 1, h⟩ h0 h1]
        frame_out
        exact congrFun (congrArg (fun w => k0_pay2 (F := Ideal) w _ _) (Memref.IsWhole.read_unread (Memref.isWhole_whole cc0_scratch0) _)) _

theorem out (c : Dev nD) (t : Fin cfg0.N) (h1 : t.val % 4 = 3) : E2 (a := 1408) (b := 1024) (φ := .f32) (outsAt0 m c t.val t.isLt).1 (acc m c t.val) := by
  have e := outsAt0_C m c t (by omega) h1
  have hh := held m c t.val t.isLt
  rw [e] at hh ⊢
  intro i j
  refine Eq.trans ?_ (hh i j)
  frame_out

/-- The kernel's result is the reference's product. -/
theorem final (c : Dev nD) : (dats (F := Ideal) m 0 c).arrAt 2 cfg0.N = refOut (m ((c : Thread nD τ).loc main_arg0)) (m ((c : Thread nD τ).loc main_arg1)) := by
  refine (dats (F := Ideal) m 0 c).arrAt_eq_of_covers 2 _ (by decide +kernel) fun t hf y => ?_
  have hR := ref (E2.nat (φ := .f32) (m ((c : Thread nD τ).loc main_arg0))) (E2.nat (φ := .f32) (m ((c : Thread nD τ).loc main_arg1)))
  have h3 := flush t hf
  have ho := out m c t h3
  have ht := (idx t).2.2.2
  idx_vars y
  blk_simp
  rw [after0_2]
  have ha : acc m c t.val y0 y1 = _ := (by unfold acc; rw [h3] : acc m c t.val y0 y1 = ∑ k ∈ range 4096, A m c k (1408 * (t.val / 4) + y0) * B m c k y1)
  refine (ho y0 y1).trans (ha.trans (((hR ⟨1408 * (t.val / 4) + y0.val, by omega⟩ y1).symm).trans (congrArg _ ?_)))
  blk_point [idx t]

end Cert.Mm3
end
-- ==== Proof.Mm4.lean ====
/- The gradient of the ConvFFN's normalised rows: each grid point adds one block of the inner columns to the product with the
   transposed weights held in the scratch, and the last of the four writes it. -/
module

public import proofs.«01_k».proof.Proof.Mm
public import proofs.«01_k».proof.Proof.Gen.Kernel4Ideal.Value
public import proofs.«01_k».proof.Proof.Gen.Reference4Ideal
public import Idealize.ShloMosaic.Lib.Claim

@[expose] public section

set_option maxRecDepth 16384

noncomputable section

namespace Cert.Mm4

open Idealize.ShloMosaic Idealize.ShloMosaic.TcCoe Idealize.SL.Sem Idealize.ShloMosaic.StableHlo
open Cert.Kernel4Ideal Cert.Kernel4Ideal.Gen Cert.Mm
open Finset (range)

theorem pay0 : E2 (k0_pay1 (F := Ideal)) (fun _ _ => 0) := fun i j => by
  refine Eq.trans ?_ bits_zero
  unfold k0_pay1
  pointwise

theorem pay {w : FVec Ideal S1024x1024 .f32} {u v : FVec Ideal S1x1024x1408 .bf16} {Z X Y : ℕ → ℕ → EReal}
    (hw : E2 w Z) (hu : ∀ (i : Fin 1024) (k : Fin 1408), u (ix3 0 i k) = X i k) (hv : ∀ (j : Fin 1024) (k : Fin 1408), v (ix3 0 j k) = Y j k) :
    E2 (k0_pay2 (F := Ideal) w u v) (fun i j => Z i j + ∑ k ∈ range 1408, X i k * Y j k) := fun i j => by
  refine Eq.trans ?_ (congrArg₂ (· + ·) (hw i j) ((Finset.sum_congr rfl fun k _ => congrArg₂ (· * ·) (hu i k) (hv j k)).trans (sum_fin 1408 (fun k => X i k * Y j k))))
  unfold k0_pay2
  pointwise

/-- The product with the transposed weights. -/
def refOut (u : FVec Ideal S4096x5632 .f32) (v : FVec Ideal S1024x5632 .f32) : FVec Ideal S4096x1024 .f32 :=
  Host.dotGeneral (φ₁ := .f32) (φ₂ := .f32) Cert.Reference4Ideal.dot_S4096x5632_S1024x5632_S4096x1024_1_1_0_0_n_n none u v

theorem ref {u : FVec Ideal S4096x5632 .f32} {v : FVec Ideal S1024x5632 .f32} {X Y : ℕ → ℕ → EReal} (hu : E2 u X) (hv : E2 v Y) :
    E2 (refOut u v) (fun i j => ∑ k ∈ range 5632, X i k * Y j k) := fun i j => by
  refine Eq.trans ?_ ((Finset.sum_congr rfl fun k _ => congrArg₂ (· * ·) (hu i k) (hv j k)).trans (sum_fin 5632 (fun k => X i k * Y j k)))
  unfold refOut
  pointwise

variable (m : (ℓ : Loc nD τ Cert.Kernel4Ideal.sig) → Buf (Elt Ideal) ℓ)

/-- The gradient and the weights that the launch holds, by row and column. -/
abbrev A (c : Dev nD) : ℕ → ℕ → EReal := nat2 (a := 4096) (b := 5632) (φ := .f32) (m ((c : Thread nD τ).loc main_arg0))
abbrev B (c : Dev nD) : ℕ → ℕ → EReal := nat2 (a := 1024) (b := 5632) (φ := .f32) (m ((c : Thread nD τ).loc main_arg2))

/-- The gradient's columns in two halves. -/
def halves (w : FVec Ideal S4096x5632 .f32) : FVec Ideal S2x4096x2816 .bf16 :=
  truncf (F := Ideal) (φ := .f32) .bf16 (transpose S2x4096x2816 [1, 0, 2] (shapeCast S4096x2x2816 w shapeCasts_S4096x5632_S4096x2x2816) transposes_S4096x2x2816_S2x4096x2816_1_0_2)

theorem halves_at {w : FVec Ideal S4096x5632 .f32} {X : ℕ → ℕ → EReal} (hw : E2 w X) : E3 (halves w) (fun s i j => X i (2816 * s + j)) := fun s i j => by
  refine Eq.trans ?_ ((hw i ⟨s.val * 2816 + j.val, by omega⟩).trans (congrArg (X i) (by dsimp only; omega)))
  unfold halves
  pointwise

theorem V0 (c : Dev nD) : E3 (a := 2) (b := 4096) (c := 2816) (φ := .bf16) (Gen.V m c main_v2) (fun s i j => A m c i (2816 * s + j)) := by
  have key : ∀ σ : Valuation τ Cert.Kernel4Ideal.sig (Elt Ideal), after (hostOps0 (F := Ideal)) σ (Proc.tc.devRef main_v2)
      = halves (σ (Proc.devRef .tc main_arg0)) := by
    intro σ
    simp only [hostOps0]
    after_results_simp
    try rfl
  exact fun s i j => (congrFun (key _) (ix3 s i j)).trans (halves_at (E2.nat (φ := .f32) (m ((c : Thread nD τ).loc main_arg0))) s i j)

/-- The weights' columns in four runs, as the exchange leaves them. -/
def slots (w : FVec Ideal S1024x5632 .f32) : FVec Ideal S4x1024x1408 .bf16 :=
  truncf (F := Ideal) (φ := .f32) .bf16 (transpose S4x1024x1408 [1, 0, 2] (shapeCast S1024x4x1408 w shapeCasts_S1024x5632_S1024x4x1408) transposes_S1024x4x1408_S4x1024x1408_1_0_2)

theorem slots_at {w : FVec Ideal S1024x5632 .f32} {X : ℕ → ℕ → EReal} (hw : E2 w X) : E3 (slots w) (fun s i j => X i (1408 * s + j)) := fun s i j => by
  refine Eq.trans ?_ ((hw i ⟨s.val * 1408 + j.val, by omega⟩).trans (congrArg (X i) (by dsimp only; omega)))
  unfold slots
  pointwise

theorem V1 (c : Dev nD) : E3 (a := 4) (b := 1024) (c := 1408) (φ := .bf16) (Gen.V m c main_v5) (fun s i j => B m c i (1408 * s + j)) := by
  have key : ∀ σ : Valuation τ Cert.Kernel4Ideal.sig (Elt Ideal), after (hostOps0 (F := Ideal)) σ (Proc.tc.devRef main_v5)
      = slots (σ (Proc.devRef .tc main_arg2)) := by
    intro σ
    simp only [hostOps0]
    after_results_simp
    try rfl
  exact fun s i j => (congrFun (key _) (ix3 s i j)).trans (slots_at (E2.nat (φ := .f32) (m ((c : Thread nD τ).loc main_arg2))) s i j)

theorem idx : ∀ t : Fin cfg0.N, win0_0.index t = ![t.val % 4 / 2, t.val / 4, t.val % 2] ∧ win0_1.index t = ![t.val % 4, 0, 0] ∧ win0_2.index t = ![t.val / 4, 0] ∧ t.val < 16 :=
  (by decide +kernel : ∀ t : Fin grid0.N, _)
theorem flush : ∀ t : Fin cfg0.N, (cfg0.win 2).flush t = true → t.val % 4 = 3 := (by decide +kernel : ∀ t : Fin grid0.N, _)

theorem in0 (c : Dev nD) (t : Fin cfg0.N) (i : Fin 1024) (j : Fin 1408) :
    (iblk m c 0 t : FVec Ideal S1x1024x1408 .bf16) (ix3 0 i j) = A m c (1024 * (t.val / 4) + i) (1408 * (t.val % 4) + j) := by
  have ht := (idx t).2.2.2
  refine Eq.trans ?_ ((V0 m c ⟨t.val % 4 / 2, by omega⟩ ⟨1024 * (t.val / 4) + i.val, by omega⟩ ⟨1408 * (t.val % 2) + j.val, by omega⟩).trans
    (congrArg (A m c _) (by dsimp only; omega)))
  blk_ext [iblk, idx t]

theorem in1 (c : Dev nD) (t : Fin cfg0.N) (i : Fin 1024) (j : Fin 1408) :
    (iblk m c 1 t : FVec Ideal S1x1024x1408 .bf16) (ix3 0 i j) = B m c i (1408 * (t.val % 4) + j) := by
  have ht := (idx t).2.2.2
  refine Eq.trans ?_ (V1 m c ⟨t.val % 4, by omega⟩ i j)
  blk_ext [iblk, idx t]

/-- What the scratch holds after a point: the product over the blocks of columns met so far. -/
def acc (c : Dev nD) (n : ℕ) (i j : ℕ) : EReal := ∑ k ∈ range (1408 * (n % 4 + 1)), A m c (1024 * (n / 4) + i) k * B m c j k

theorem acc_first (c : Dev nD) (n : ℕ) (h : n % 4 = 0) (i j : ℕ) :
    0 + ∑ k ∈ range 1408, A m c (1024 * (n / 4) + i) (1408 * (n % 4) + k) * B m c j (1408 * (n % 4) + k) = acc m c n i j := by
  unfold acc
  rw [sum_block 1408 (n % 4) (fun k => A m c (1024 * (n / 4) + i) k * B m c j k), h]
  simp only [Nat.mul_zero, Finset.range_zero, Finset.sum_empty]

theorem acc_step (c : Dev nD) (n : ℕ) (h : ¬ (n + 1) % 4 = 0) (i j : ℕ) :
    acc m c n i j + ∑ k ∈ range 1408, A m c (1024 * ((n + 1) / 4) + i) (1408 * ((n + 1) % 4) + k) * B m c j (1408 * ((n + 1) % 4) + k) = acc m c (n + 1) i j := by
  unfold acc
  rw [sum_block 1408 ((n + 1) % 4) (fun k => A m c (1024 * ((n + 1) / 4) + i) k * B m c j k), show n % 4 + 1 = (n + 1) % 4 by omega, show n / 4 = (n + 1) / 4 by omega]

theorem held (c : Dev nD) : ∀ (n : ℕ) (h : n < cfg0.N), E2 (a := 1024) (b := 1024) (φ := .f32) (outsAt0 m c n h).2 (acc m c n)
  | 0, h => by
    have e := outsAt0_A m c ⟨0, h⟩ rfl (show ¬ (0 % 4 = 3) by decide)
    have hp := E2.same (pay (X := fun i k => A m c (1024 * (0 / 4) + i) (1408 * (0 % 4) + k)) (Y := fun j k => B m c j (1408 * (0 % 4) + k)) pay0 (in0 m c ⟨0, h⟩) (in1 m c ⟨0, h⟩)) (acc_first m c 0 rfl)
    intro i j
    refine Eq.trans ?_ (hp i j)
    rw [show outsAt0 m c 0 h = _ from e]
    frame_out
  | n + 1, h => by
    by_cases h0 : (n + 1) % 4 = 0
    · have e := outsAt0_A m c ⟨n + 1, h⟩ h0 (by dsimp only; omega)
      have hp := E2.same (pay (X := fun i k => A m c (1024 * ((n + 1) / 4) + i) (1408 * ((n + 1) % 4) + k)) (Y := fun j k => B m c j (1408 * ((n + 1) % 4) + k)) pay0 (in0 m c ⟨n + 1, h⟩) (in1 m c ⟨n + 1, h⟩)) (acc_first m c (n + 1) h0)
      intro i j
      refine Eq.trans ?_ (hp i j)
      rw [show outsAt0 m c (n + 1) h = _ from e]
      frame_out
    · have hp := E2.same (pay (X := fun i k => A m c (1024 * ((n + 1) / 4) + i) (1408 * ((n + 1) % 4) + k)) (Y := fun j k => B m c j (1408 * ((n + 1) % 4) + k)) (held c n (Nat.lt_of_succ_lt h)) (in0 m c ⟨n + 1, h⟩) (in1 m c ⟨n + 1, h⟩)) (acc_step m c n h0)
      intro i j
      refine Eq.trans ?_ (hp i j)
      by_cases h1 : (n + 1) % 4 = 3
      · rw [show outsAt0 m c (n + 1) h = _ from outsAt0_C m c ⟨n + 1, h⟩ h0 h1]
        frame_out
        exact congrFun (congrArg (fun w => k0_pay2 (F := Ideal) w _ _) (Memref.IsWhole.read_unread (Memref.isWhole_whole cc0_scratch0) _)) _
      · rw [show outsAt0 m c (n + 1) h = _ from outsAt0_B m c ⟨n + 1, h⟩ h0 h1]
        frame_out
        exact congrFun (congrArg (fun w => k0_pay2 (F := Ideal) w _ _) (Memref.IsWhole.read_unread (Memref.isWhole_whole cc0_scratch0) _)) _

theorem out (c : Dev nD) (t : Fin cfg0.N) (h1 : t.val % 4 = 3) : E2 (a := 1024) (b := 1024) (φ := .f32) (outsAt0 m c t.val t.isLt).1 (acc m c t.val) := by
  have e := outsAt0_C m c t (by omega) h1
  have hh := held m c t.val t.isLt
  rw [e] at hh ⊢
  intro i j
  refine Eq.trans ?_ (hh i j)
  frame_out

/-- The kernel's result is the reference's product. -/
theorem final (c : Dev nD) : (dats (F := Ideal) m 0 c).arrAt 2 cfg0.N = refOut (m ((c : Thread nD τ).loc main_arg0)) (m ((c : Thread nD τ).loc main_arg2)) := by
  refine (dats (F := Ideal) m 0 c).arrAt_eq_of_covers 2 _ (by decide +kernel) fun t hf y => ?_
  have hR := ref (E2.nat (φ := .f32) (m ((c : Thread nD τ).loc main_arg0))) (E2.nat (φ := .f32) (m ((c : Thread nD τ).loc main_arg2)))
  have h3 := flush t hf
  have ho := out m c t h3
  have ht := (idx t).2.2.2
  idx_vars y
  blk_simp
  rw [after0_2]
  have ha : acc m c t.val y0 y1 = _ := (by unfold acc; rw [h3] : acc m c t.val y0 y1 = ∑ k ∈ range 5632, A m c (1024 * (t.val / 4) + y0) k * B m c y1 k)
  refine (ho y0 y1).trans (ha.trans (((hR ⟨1024 * (t.val / 4) + y0.val, by omega⟩ y1).symm).trans (congrArg _ ?_)))
  blk_point [idx t]

end Cert.Mm4
end
-- ==== Proof.Mm5.lean ====
/- The gradient of the ConvFFN's first weights: each grid point adds one block of tokens to the product held in the scratch,
   and the last of the four writes it. -/
module

public import proofs.«01_k».proof.Proof.Mm
public import proofs.«01_k».proof.Proof.Gen.Kernel5Ideal.Value
public import proofs.«01_k».proof.Proof.Gen.Reference5Ideal
public import Idealize.ShloMosaic.Lib.Claim

@[expose] public section

set_option maxRecDepth 16384

noncomputable section

namespace Cert.Mm5

open Idealize.ShloMosaic Idealize.ShloMosaic.TcCoe Idealize.SL.Sem Idealize.ShloMosaic.StableHlo
open Cert.Kernel5Ideal Cert.Kernel5Ideal.Gen Cert.Mm
open Finset (range)

theorem pay0 : E2 (k0_pay1 (F := Ideal)) (fun _ _ => 0) := fun i j => by
  refine Eq.trans ?_ bits_zero
  unfold k0_pay1
  pointwise

theorem pay {w : FVec Ideal S1024x1408 .f32} {u : FVec Ideal S1024x1024 .bf16} {v : FVec Ideal S1x1024x1408 .bf16} {Z X Y : ℕ → ℕ → EReal}
    (hw : E2 w Z) (hu : E2 u X) (hv : ∀ (k : Fin 1024) (j : Fin 1408), v (ix3 0 k j) = Y k j) :
    E2 (k0_pay2 (F := Ideal) w u v) (fun i j => Z i j + ∑ k ∈ range 1024, X k i * Y k j) := fun i j => by
  refine Eq.trans ?_ (congrArg₂ (· + ·) (hw i j) ((Finset.sum_congr rfl fun k _ => congrArg₂ (· * ·) (hu k i) (hv k j)).trans (sum_fin 1024 (fun k => X k i * Y k j))))
  unfold k0_pay2
  pointwise

theorem pay_out {w : FVec Ideal S1024x1408 .f32} {Z : ℕ → ℕ → EReal} (hw : E2 w Z) (i : Fin 1024) (j : Fin 1408) :
    k0_pay3 (F := Ideal) w (ix3 0 i j) = Z i j := by
  refine Eq.trans ?_ (hw i j)
  unfold k0_pay3
  pointwise

/-- The transpose of the product of the two transposes, its columns in four runs. -/
def refOut (u : FVec Ideal S4096x5632 .f32) (v : FVec Ideal S4096x1024 .f32) : FVec Ideal S4x1024x1408 .f32 :=
  transpose S4x1024x1408 [1, 0, 2] (shapeCast Cert.Reference5Ideal.S1024x4x1408
    (transpose Cert.Reference5Ideal.S1024x5632 [1, 0] (Host.dotGeneral (φ₁ := .f32) (φ₂ := .f32) Cert.Reference5Ideal.dot_S4096x5632_S4096x1024_S5632x1024_0_0_1_1_n_n none u v : FVec Ideal Cert.Reference5Ideal.S5632x1024 .f32)
      Cert.Reference5Ideal.Gen.transposes_S5632x1024_S1024x5632_1_0)
    Cert.Reference5Ideal.Gen.shapeCasts_S1024x5632_S1024x4x1408) Cert.Reference5Ideal.Gen.transposes_S1024x4x1408_S4x1024x1408_1_0_2

theorem ref {u : FVec Ideal S4096x5632 .f32} {v : FVec Ideal S4096x1024 .f32} {X Y : ℕ → ℕ → EReal} (hu : E2 u X) (hv : E2 v Y) :
    E3 (refOut u v) (fun s i j => ∑ k ∈ range 4096, Y k i * X k (1408 * s + j)) := fun s i j => by
  refine Eq.trans ?_ ((Finset.sum_congr rfl fun k _ => (congrArg₂ (· * ·) ((hu k ⟨s.val * 1408 + j.val, by omega⟩).trans (congrArg (X k) (by dsimp only; omega) : _ = X k (1408 * s + j))) (hv k i)).trans (mul_comm _ _)).trans (sum_fin 4096 (fun k => Y k i * X k (1408 * s + j))))
  unfold refOut
  pointwise

variable (m : (ℓ : Loc nD τ Cert.Kernel5Ideal.sig) → Buf (Elt Ideal) ℓ)

/-- The normalised rows and the gradient that the launch holds, by row and column. -/
abbrev A (c : Dev nD) : ℕ → ℕ → EReal := nat2 (a := 4096) (b := 1024) (φ := .f32) (m ((c : Thread nD τ).loc main_arg1))
abbrev B (c : Dev nD) : ℕ → ℕ → EReal := nat2 (a := 4096) (b := 5632) (φ := .f32) (m ((c : Thread nD τ).loc main_arg0))

theorem V0 (c : Dev nD) : E2 (a := 4096) (b := 1024) (φ := .bf16) (Gen.V m c main_v0) (A m c) := by
  have key : ∀ σ : Valuation τ Cert.Kernel5Ideal.sig (Elt Ideal), after (hostOps0 (F := Ideal)) σ (Proc.tc.devRef main_v0)
      = truncf (F := Ideal) (φ := .f32) .bf16 (σ (Proc.devRef .tc main_arg1)) := by
    intro σ
    simp only [hostOps0]
    after_results_simp
    try rfl
  exact fun i j => (congrFun (key _) (ix2 i j)).trans (E2.nat (φ := .f32) (m ((c : Thread nD τ).loc main_arg1)) i j)

/-- The gradient's columns in two halves. -/
def halves (w : FVec Ideal S4096x5632 .f32) : FVec Ideal S2x4096x2816 .bf16 :=
  truncf (F := Ideal) (φ := .f32) .bf16 (transpose S2x4096x2816 [1, 0, 2] (shapeCast S4096x2x2816 w shapeCasts_S4096x5632_S4096x2x2816) transposes_S4096x2x2816_S2x4096x2816_1_0_2)

theorem halves_at {w : FVec Ideal S4096x5632 .f32} {X : ℕ → ℕ → EReal} (hw : E2 w X) : E3 (halves w) (fun s i j => X i (2816 * s + j)) := fun s i j => by
  refine Eq.trans ?_ ((hw i ⟨s.val * 2816 + j.val, by omega⟩).trans (congrArg (X i) (by dsimp only; omega)))
  unfold halves
  pointwise

theorem V1 (c : Dev nD) : E3 (a := 2) (b := 4096) (c := 2816) (φ := .bf16) (Gen.V m c main_v3) (fun s i j => B m c i (2816 * s + j)) := by
  have key : ∀ σ : Valuation τ Cert.Kernel5Ideal.sig (Elt Ideal), after (hostOps0 (F := Ideal)) σ (Proc.tc.devRef main_v3)
      = halves (σ (Proc.devRef .tc main_arg0)) := by
    intro σ
    simp only [hostOps0]
    after_results_simp
    try rfl
  exact fun s i j => (congrFun (key _) (ix3 s i j)).trans (halves_at (E2.nat (φ := .f32) (m ((c : Thread nD τ).loc main_arg0))) s i j)

theorem idx : ∀ t : Fin cfg0.N, win0_0.index t = ![t.val % 4, 0] ∧ win0_1.index t = ![t.val / 8, t.val % 4, t.val / 4 % 2] ∧ win0_2.index t = ![t.val / 4, 0, 0] ∧ t.val < 16 :=
  (by decide +kernel : ∀ t : Fin grid0.N, _)
theorem flush : ∀ t : Fin cfg0.N, (cfg0.win 2).flush t = true → t.val % 4 = 3 := (by decide +kernel : ∀ t : Fin grid0.N, _)

theorem in0 (c : Dev nD) (t : Fin cfg0.N) : E2 (a := 1024) (b := 1024) (φ := .bf16) (iblk m c 0 t)
    (fun i j => A m c (1024 * (t.val % 4) + i) j) := fun i j => by
  have ht := (idx t).2.2.2
  refine Eq.trans ?_ (V0 m c ⟨1024 * (t.val % 4) + i.val, by omega⟩ j)
  blk_ext [iblk, idx t]

theorem in1 (c : Dev nD) (t : Fin cfg0.N) (i : Fin 1024) (j : Fin 1408) :
    (iblk m c 1 t : FVec Ideal S1x1024x1408 .bf16) (ix3 0 i j) = B m c (1024 * (t.val % 4) + i) (1408 * (t.val / 4) + j) := by
  have ht := (idx t).2.2.2
  refine Eq.trans ?_ ((V1 m c ⟨t.val / 8, by omega⟩ ⟨1024 * (t.val % 4) + i.val, by omega⟩ ⟨1408 * (t.val / 4 % 2) + j.val, by omega⟩).trans
    (congrArg (B m c _) (by dsimp only; omega)))
  blk_ext [iblk, idx t]

/-- What the scratch holds after a point: the product over the blocks of tokens met so far. -/
def acc (c : Dev nD) (n : ℕ) (i j : ℕ) : EReal := ∑ k ∈ range (1024 * (n % 4 + 1)), A m c k i * B m c k (1408 * (n / 4) + j)

theorem acc_first (c : Dev nD) (n : ℕ) (h : n % 4 = 0) (i j : ℕ) :
    0 + ∑ k ∈ range 1024, A m c (1024 * (n % 4) + k) i * B m c (1024 * (n % 4) + k) (1408 * (n / 4) + j) = acc m c n i j := by
  unfold acc
  rw [sum_block 1024 (n % 4) (fun k => A m c k i * B m c k (1408 * (n / 4) + j)), h]
  simp only [Nat.mul_zero, Finset.range_zero, Finset.sum_empty]

theorem acc_step (c : Dev nD) (n : ℕ) (h : ¬ (n + 1) % 4 = 0) (i j : ℕ) :
    acc m c n i j + ∑ k ∈ range 1024, A m c (1024 * ((n + 1) % 4) + k) i * B m c (1024 * ((n + 1) % 4) + k) (1408 * ((n + 1) / 4) + j) = acc m c (n + 1) i j := by
  unfold acc
  rw [sum_block 1024 ((n + 1) % 4) (fun k => A m c k i * B m c k (1408 * ((n + 1) / 4) + j)), show n % 4 + 1 = (n + 1) % 4 by omega, show n / 4 = (n + 1) / 4 by omega]

theorem held (c : Dev nD) : ∀ (n : ℕ) (h : n < cfg0.N), E2 (a := 1024) (b := 1408) (φ := .f32) (outsAt0 m c n h).2 (acc m c n)
  | 0, h => by
    have e := outsAt0_A m c ⟨0, h⟩ rfl (show ¬ (0 % 4 = 3) by decide)
    have hp := E2.same (pay (Y := fun k j => B m c (1024 * (0 % 4) + k) (1408 * (0 / 4) + j)) pay0 (in0 m c ⟨0, h⟩) (in1 m c ⟨0, h⟩)) (acc_first m c 0 rfl)
    intro i j
    refine Eq.trans ?_ (hp i j)
    rw [show outsAt0 m c 0 h = _ from e]
    frame_out
  | n + 1, h => by
    by_cases h0 : (n + 1) % 4 = 0
    · have e := outsAt0_A m c ⟨n + 1, h⟩ h0 (by dsimp only; omega)
      have hp := E2.same (pay (Y := fun k j => B m c (1024 * ((n + 1) % 4) + k) (1408 * ((n + 1) / 4) + j)) pay0 (in0 m c ⟨n + 1, h⟩) (in1 m c ⟨n + 1, h⟩)) (acc_first m c (n + 1) h0)
      intro i j
      refine Eq.trans ?_ (hp i j)
      rw [show outsAt0 m c (n + 1) h = _ from e]
      frame_out
    · have hp := E2.same (pay (Y := fun k j => B m c (1024 * ((n + 1) % 4) + k) (1408 * ((n + 1) / 4) + j)) (held c n (Nat.lt_of_succ_lt h)) (in0 m c ⟨n + 1, h⟩) (in1 m c ⟨n + 1, h⟩)) (acc_step m c n h0)
      intro i j
      refine Eq.trans ?_ (hp i j)
      by_cases h1 : (n + 1) % 4 = 3
      · rw [show outsAt0 m c (n + 1) h = _ from outsAt0_C m c ⟨n + 1, h⟩ h0 h1]
        frame_out
        exact congrFun (congrArg (fun w => k0_pay2 (F := Ideal) w _ _) (Memref.IsWhole.read_unread (Memref.isWhole_whole cc0_scratch0) _)) _
      · rw [show outsAt0 m c (n + 1) h = _ from outsAt0_B m c ⟨n + 1, h⟩ h0 h1]
        frame_out
        exact congrFun (congrArg (fun w => k0_pay2 (F := Ideal) w _ _) (Memref.IsWhole.read_unread (Memref.isWhole_whole cc0_scratch0) _)) _

theorem out (c : Dev nD) (t : Fin cfg0.N) (h1 : t.val % 4 = 3) (i : Fin 1024) (j : Fin 1408) :
    ((outsAt0 m c t.val t.isLt).1 : FVec Ideal S1x1024x1408 .f32) (ix3 0 i j) = acc m c t.val i j := by
  have e := outsAt0_C m c t (by omega) h1
  have hh := held m c t.val t.isLt
  rw [e] at hh ⊢
  refine Eq.trans ?_ (pay_out hh i j)
  frame_out

/-- The kernel's result is the reference's product. -/
theorem final (c : Dev nD) : (dats (F := Ideal) m 0 c).arrAt 2 cfg0.N = refOut (m ((c : Thread nD τ).loc main_arg0)) (m ((c : Thread nD τ).loc main_arg1)) := by
  refine (dats (F := Ideal) m 0 c).arrAt_eq_of_covers 2 _ (by decide +kernel) fun t hf y => ?_
  have hR := ref (E2.nat (φ := .f32) (m ((c : Thread nD τ).loc main_arg0))) (E2.nat (φ := .f32) (m ((c : Thread nD τ).loc main_arg1)))
  have h3 := flush t hf
  have ho := out m c t h3
  have ht := (idx t).2.2.2
  idx_vars y
  blk_simp
  rw [after0_2]
  have ha : acc m c t.val y1 y2 = _ := (by unfold acc; rw [h3] : acc m c t.val y1 y2 = ∑ k ∈ range 4096, A m c k y1 * B m c k (1408 * (t.val / 4) + y2))
  have hy : y0 = 0 := Subsingleton.elim _ _
  subst hy
  refine (ho y1 y2).trans (ha.trans (((hR ⟨t.val / 4, by omega⟩ y1 y2).symm).trans (congrArg _ ?_)))
  blk_point [idx t]

end Cert.Mm5
end
-- ==== Proof.Mm6.lean ====
/- The ConvFFN's first product: each grid point writes one block of the product with one of the four runs of weight columns. -/
module

public import proofs.«01_k».proof.Proof.Mm
public import proofs.«01_k».proof.Proof.Gen.Kernel6Ideal.Value
public import proofs.«01_k».proof.Proof.Gen.Reference6Ideal
public import Idealize.ShloMosaic.Lib.Claim

@[expose] public section

set_option maxRecDepth 16384

noncomputable section

namespace Cert.Mm6

open Idealize.ShloMosaic Idealize.ShloMosaic.TcCoe Idealize.SL.Sem Idealize.ShloMosaic.StableHlo
open Cert.Kernel6Ideal Cert.Kernel6Ideal.Gen Cert.Mm
open Finset (range)

theorem pay {u : FVec Ideal S1024x1024 .bf16} {v : FVec Ideal S1x1024x1408 .bf16} {X Y : ℕ → ℕ → EReal} (hu : E2 u X) (hv : ∀ (k : Fin 1024) (j : Fin 1408), v (ix3 0 k j) = Y k j) :
    E2 (k0_pay1 (F := Ideal) u v) (fun i j => ∑ k ∈ range 1024, X i k * Y k j) := fun i j => by
  refine Eq.trans ?_ ((Finset.sum_congr rfl fun k _ => congrArg₂ (· * ·) (hu i k) (hv k j)).trans (sum_fin 1024 (fun k => X i k * Y k j)))
  unfold k0_pay1
  pointwise

/-- The product. -/
def refOut (u : FVec Ideal S4096x1024 .f32) (v : FVec Ideal S1024x5632 .f32) : FVec Ideal S4096x5632 .f32 :=
  Host.dotGeneral (φ₁ := .f32) (φ₂ := .f32) Cert.Reference6Ideal.dot_S4096x1024_S1024x5632_S4096x5632_1_0_0_1_n_n none u v

theorem ref {u : FVec Ideal S4096x1024 .f32} {v : FVec Ideal S1024x5632 .f32} {X Y : ℕ → ℕ → EReal} (hu : E2 u X) (hv : E2 v Y) :
    E2 (refOut u v) (fun i j => ∑ k ∈ range 1024, X i k * Y k j) := fun i j => by
  refine Eq.trans ?_ ((Finset.sum_congr rfl fun k _ => congrArg₂ (· * ·) (hu i k) (hv k j)).trans (sum_fin 1024 (fun k => X i k * Y k j)))
  unfold refOut
  pointwise

variable (m : (ℓ : Loc nD τ Cert.Kernel6Ideal.sig) → Buf (Elt Ideal) ℓ)

/-- The normalised rows and the weights that the launch holds, by row and column. -/
abbrev A (c : Dev nD) : ℕ → ℕ → EReal := nat2 (a := 4096) (b := 1024) (φ := .f32) (m ((c : Thread nD τ).loc main_arg0))
abbrev B (c : Dev nD) : ℕ → ℕ → EReal := nat2 (a := 1024) (b := 5632) (φ := .f32) (m ((c : Thread nD τ).loc main_arg1))

theorem V0 (c : Dev nD) : E2 (a := 4096) (b := 1024) (φ := .bf16) (Gen.V m c main_v0) (A m c) := by
  have key : ∀ σ : Valuation τ Cert.Kernel6Ideal.sig (Elt Ideal), after (hostOps0 (F := Ideal)) σ (Proc.tc.devRef main_v0)
      = truncf (F := Ideal) (φ := .f32) .bf16 (σ (Proc.devRef .tc main_arg0)) := by
    intro σ
    simp only [hostOps0]
    after_results_simp
    try rfl
  exact fun i j => (congrFun (key _) (ix2 i j)).trans (E2.nat (φ := .f32) (m ((c : Thread nD τ).loc main_arg0)) i j)

/-- The weights' columns in four runs, as the exchange leaves them. -/
def slots (w : FVec Ideal S1024x5632 .f32) : FVec Ideal S4x1024x1408 .bf16 :=
  truncf (F := Ideal) (φ := .f32) .bf16 (transpose S4x1024x1408 [1, 0, 2] (shapeCast S1024x4x1408 w shapeCasts_S1024x5632_S1024x4x1408) transposes_S1024x4x1408_S4x1024x1408_1_0_2)

theorem slots_at {w : FVec Ideal S1024x5632 .f32} {X : ℕ → ℕ → EReal} (hw : E2 w X) : E3 (slots w) (fun s i j => X i (1408 * s + j)) := fun s i j => by
  refine Eq.trans ?_ ((hw i ⟨s.val * 1408 + j.val, by omega⟩).trans (congrArg (X i) (by dsimp only; omega)))
  unfold slots
  pointwise

theorem V1 (c : Dev nD) : E3 (a := 4) (b := 1024) (c := 1408) (φ := .bf16) (Gen.V m c main_v3) (fun s i j => B m c i (1408 * s + j)) := by
  have key : ∀ σ : Valuation τ Cert.Kernel6Ideal.sig (Elt Ideal), after (hostOps0 (F := Ideal)) σ (Proc.tc.devRef main_v3)
      = slots (σ (Proc.devRef .tc main_arg1)) := by
    intro σ
    simp only [hostOps0]
    after_results_simp
    try rfl
  exact fun s i j => (congrFun (key _) (ix3 s i j)).trans (slots_at (E2.nat (φ := .f32) (m ((c : Thread nD τ).loc main_arg1))) s i j)

theorem idx : ∀ t : Fin cfg0.N, win0_0.index t = ![t.val / 4, 0] ∧ win0_1.index t = ![t.val % 4, 0, 0] ∧ win0_2.index t = ![t.val / 4, t.val % 4] ∧ t.val < 16 :=
  (by decide +kernel : ∀ t : Fin grid0.N, _)

theorem in0 (c : Dev nD) (t : Fin cfg0.N) : E2 (a := 1024) (b := 1024) (φ := .bf16) (iblk m c 0 t)
    (fun i j => A m c (1024 * (t.val / 4) + i) j) := fun i j => by
  have ht := (idx t).2.2.2
  refine Eq.trans ?_ (V0 m c ⟨1024 * (t.val / 4) + i.val, by omega⟩ j)
  blk_ext [iblk, idx t]

theorem in1 (c : Dev nD) (t : Fin cfg0.N) (i : Fin 1024) (j : Fin 1408) :
    (iblk m c 1 t : FVec Ideal S1x1024x1408 .bf16) (ix3 0 i j) = B m c i (1408 * (t.val % 4) + j) := by
  have ht := (idx t).2.2.2
  refine Eq.trans ?_ (V1 m c ⟨t.val % 4, by omega⟩ i j)
  blk_ext [iblk, idx t]

/-- The kernel's result is the reference's product. -/
theorem final (c : Dev nD) : (dats (F := Ideal) m 0 c).arrAt 2 cfg0.N = refOut (m ((c : Thread nD τ).loc main_arg0)) (m ((c : Thread nD τ).loc main_arg1)) := by
  refine (dats (F := Ideal) m 0 c).arrAt_eq_of_covers 2 _ (by decide +kernel) fun t hf y => ?_
  have hR := ref (E2.nat (φ := .f32) (m ((c : Thread nD τ).loc main_arg0))) (E2.nat (φ := .f32) (m ((c : Thread nD τ).loc main_arg1)))
  have hp := pay (Y := fun k j => B m c k (1408 * (t.val % 4) + j)) (in0 m c t) (in1 m c t)
  have ht := (idx t).2.2.2
  idx_vars y
  blk_simp
  rw [after0_2]
  frame_out
  refine (hp y0 y1).trans (((hR ⟨1024 * (t.val / 4) + y0.val, by omega⟩ ⟨1408 * (t.val % 4) + y1.val, by omega⟩).symm).trans (congrArg _ ?_))
  blk_point [idx t]

end Cert.Mm6
end
-- ==== Proof.Mm7.lean ====
/- The ConvFFN's second product: each grid point adds one block of the inner columns to the product held in the scratch,
   and the second of the two writes it. -/
module

public import proofs.«01_k».proof.Proof.Mm
public import proofs.«01_k».proof.Proof.Gen.Kernel7Ideal.Value
public import proofs.«01_k».proof.Proof.Gen.Reference7Ideal
public import Idealize.ShloMosaic.Lib.Claim

@[expose] public section

set_option maxRecDepth 16384

noncomputable section

namespace Cert.Mm7

open Idealize.ShloMosaic Idealize.ShloMosaic.TcCoe Idealize.SL.Sem Idealize.ShloMosaic.StableHlo
open Cert.Kernel7Ideal Cert.Kernel7Ideal.Gen Cert.Mm
open Finset (range)

theorem pay0 : E2 (k0_pay1 (F := Ideal)) (fun _ _ => 0) := fun i j => by
  refine Eq.trans ?_ bits_zero
  unfold k0_pay1
  pointwise

theorem pay {w : FVec Ideal S1024x1024 .f32} {u : FVec Ideal S1024x1408 .bf16} {v : FVec Ideal S1408x1024 .bf16} {Z X Y : ℕ → ℕ → EReal}
    (hw : E2 w Z) (hu : E2 u X) (hv : E2 v Y) :
    E2 (k0_pay2 (F := Ideal) w u v) (fun i j => Z i j + ∑ k ∈ range 1408, X i k * Y k j) := fun i j => by
  refine Eq.trans ?_ (congrArg₂ (· + ·) (hw i j) ((Finset.sum_congr rfl fun k _ => congrArg₂ (· * ·) (hu i k) (hv k j)).trans (sum_fin 1408 (fun k => X i k * Y k j))))
  unfold k0_pay2
  pointwise

/-- The product. -/
def refOut (u : FVec Ideal S4096x2816 .f32) (v : FVec Ideal S2816x1024 .f32) : FVec Ideal S4096x1024 .f32 :=
  Host.dotGeneral (φ₁ := .f32) (φ₂ := .f32) Cert.Reference7Ideal.dot_S4096x2816_S2816x1024_S4096x1024_1_0_0_1_n_n none u v

theorem ref {u : FVec Ideal S4096x2816 .f32} {v : FVec Ideal S2816x1024 .f32} {X Y : ℕ → ℕ → EReal} (hu : E2 u X) (hv : E2 v Y) :
    E2 (refOut u v) (fun i j => ∑ k ∈ range 2816, X i k * Y k j) := fun i j => by
  refine Eq.trans ?_ ((Finset.sum_congr rfl fun k _ => congrArg₂ (· * ·) (hu i k) (hv k j)).trans (sum_fin 2816 (fun k => X i k * Y k j)))
  unfold refOut
  pointwise

variable (m : (ℓ : Loc nD τ Cert.Kernel7Ideal.sig) → Buf (Elt Ideal) ℓ)

/-- The activations and the weights that the launch holds, by row and column. -/
abbrev A (c : Dev nD) : ℕ → ℕ → EReal := nat2 (a := 4096) (b := 2816) (φ := .f32) (m ((c : Thread nD τ).loc main_arg0))
abbrev B (c : Dev nD) : ℕ → ℕ → EReal := nat2 (a := 2816) (b := 1024) (φ := .f32) (m ((c : Thread nD τ).loc main_arg1))

theorem V0 (c : Dev nD) : E2 (a := 4096) (b := 2816) (φ := .bf16) (Gen.V m c main_v0) (A m c) := by
  have key : ∀ σ : Valuation τ Cert.Kernel7Ideal.sig (Elt Ideal), after (hostOps0 (F := Ideal)) σ (Proc.tc.devRef main_v0)
      = truncf (F := Ideal) (φ := .f32) .bf16 (σ (Proc.devRef .tc main_arg0)) := by
    intro σ
    simp only [hostOps0]
    after_results_simp
    try rfl
  exact fun i j => (congrFun (key _) (ix2 i j)).trans (E2.nat (φ := .f32) (m ((c : Thread nD τ).loc main_arg0)) i j)

theorem V1 (c : Dev nD) : E2 (a := 2816) (b := 1024) (φ := .bf16) (Gen.V m c main_v1) (B m c) := by
  have key : ∀ σ : Valuation τ Cert.Kernel7Ideal.sig (Elt Ideal), after (hostOps0 (F := Ideal)) σ (Proc.tc.devRef main_v1)
      = truncf (F := Ideal) (φ := .f32) .bf16 (σ (Proc.devRef .tc main_arg1)) := by
    intro σ
    simp only [hostOps0]
    after_results_simp
    try rfl
  exact fun i j => (congrFun (key _) (ix2 i j)).trans (E2.nat (φ := .f32) (m ((c : Thread nD τ).loc main_arg1)) i j)

theorem idx : ∀ t : Fin cfg0.N, win0_0.index t = ![t.val / 2, t.val % 2] ∧ win0_1.index t = ![t.val % 2, 0] ∧ win0_2.index t = ![t.val / 2, 0] ∧ t.val < 8 :=
  (by decide +kernel : ∀ t : Fin grid0.N, _)
theorem flush : ∀ t : Fin cfg0.N, (cfg0.win 2).flush t = true → t.val % 2 = 1 := (by decide +kernel : ∀ t : Fin grid0.N, _)

theorem in0 (c : Dev nD) (t : Fin cfg0.N) : E2 (a := 1024) (b := 1408) (φ := .bf16) (iblk m c 0 t)
    (fun i j => A m c (1024 * (t.val / 2) + i) (1408 * (t.val % 2) + j)) := fun i j => by
  have ht := (idx t).2.2.2
  refine Eq.trans ?_ (V0 m c ⟨1024 * (t.val / 2) + i.val, by omega⟩ ⟨1408 * (t.val % 2) + j.val, by omega⟩)
  blk_ext [iblk, idx t]

theorem in1 (c : Dev nD) (t : Fin cfg0.N) : E2 (a := 1408) (b := 1024) (φ := .bf16) (iblk m c 1 t)
    (fun i j => B m c (1408 * (t.val % 2) + i) j) := fun i j => by
  have ht := (idx t).2.2.2
  refine Eq.trans ?_ (V1 m c ⟨1408 * (t.val % 2) + i.val, by omega⟩ j)
  blk_ext [iblk, idx t]

/-- What the scratch holds after a point: the product over the blocks of columns met so far. -/
def acc (c : Dev nD) (n : ℕ) (i j : ℕ) : EReal := ∑ k ∈ range (1408 * (n % 2 + 1)), A m c (1024 * (n / 2) + i) k * B m c k j

theorem acc_first (c : Dev nD) (n : ℕ) (h : n % 2 = 0) (i j : ℕ) :
    0 + ∑ k ∈ range 1408, A m c (1024 * (n / 2) + i) (1408 * (n % 2) + k) * B m c (1408 * (n % 2) + k) j = acc m c n i j := by
  unfold acc
  rw [sum_block 1408 (n % 2) (fun k => A m c (1024 * (n / 2) + i) k * B m c k j), h]
  simp only [Nat.mul_zero, Finset.range_zero, Finset.sum_empty]

theorem acc_step (c : Dev nD) (n : ℕ) (h : ¬ (n + 1) % 2 = 0) (i j : ℕ) :
    acc m c n i j + ∑ k ∈ range 1408, A m c (1024 * ((n + 1) / 2) + i) (1408 * ((n + 1) % 2) + k) * B m c (1408 * ((n + 1) % 2) + k) j = acc m c (n + 1) i j := by
  unfold acc
  rw [sum_block 1408 ((n + 1) % 2) (fun k => A m c (1024 * ((n + 1) / 2) + i) k * B m c k j), show n % 2 + 1 = (n + 1) % 2 by omega, show n / 2 = (n + 1) / 2 by omega]

theorem held (c : Dev nD) : ∀ (n : ℕ) (h : n < cfg0.N), E2 (a := 1024) (b := 1024) (φ := .f32) (outsAt0 m c n h).2 (acc m c n)
  | 0, h => by
    have e := outsAt0_A m c ⟨0, h⟩ rfl (show ¬ (0 % 2 = 1) by decide)
    have hp := E2.same (pay pay0 (in0 m c ⟨0, h⟩) (in1 m c ⟨0, h⟩)) (acc_first m c 0 rfl)
    intro i j
    refine Eq.trans ?_ (hp i j)
    rw [show outsAt0 m c 0 h = _ from e]
    frame_out
  | n + 1, h => by
    by_cases h0 : (n + 1) % 2 = 0
    · have e := outsAt0_A m c ⟨n + 1, h⟩ h0 (by dsimp only; omega)
      have hp := E2.same (pay pay0 (in0 m c ⟨n + 1, h⟩) (in1 m c ⟨n + 1, h⟩)) (acc_first m c (n + 1) h0)
      intro i j
      refine Eq.trans ?_ (hp i j)
      rw [show outsAt0 m c (n + 1) h = _ from e]
      frame_out
    · have hp := E2.same (pay (held c n (Nat.lt_of_succ_lt h)) (in0 m c ⟨n + 1, h⟩) (in1 m c ⟨n + 1, h⟩)) (acc_step m c n h0)
      intro i j
      refine Eq.trans ?_ (hp i j)
      rw [show outsAt0 m c (n + 1) h = _ from outsAt0_B m c ⟨n + 1, h⟩ h0 (by dsimp only; omega)]
      frame_out
      exact congrFun (congrArg (fun w => k0_pay2 (F := Ideal) w _ _) (Memref.IsWhole.read_unread (Memref.isWhole_whole cc0_scratch0) _)) _

theorem out (c : Dev nD) (t : Fin cfg0.N) (h1 : t.val % 2 = 1) : E2 (a := 1024) (b := 1024) (φ := .f32) (outsAt0 m c t.val t.isLt).1 (acc m c t.val) := by
  have e := outsAt0_B m c t (by omega) h1
  have hh := held m c t.val t.isLt
  rw [e] at hh ⊢
  intro i j
  refine Eq.trans ?_ (hh i j)
  frame_out

/-- The kernel's result is the reference's product. -/
theorem final (c : Dev nD) : (dats (F := Ideal) m 0 c).arrAt 2 cfg0.N = refOut (m ((c : Thread nD τ).loc main_arg0)) (m ((c : Thread nD τ).loc main_arg1)) := by
  refine (dats (F := Ideal) m 0 c).arrAt_eq_of_covers 2 _ (by decide +kernel) fun t hf y => ?_
  have hR := ref (E2.nat (φ := .f32) (m ((c : Thread nD τ).loc main_arg0))) (E2.nat (φ := .f32) (m ((c : Thread nD τ).loc main_arg1)))
  have h3 := flush t hf
  have ho := out m c t h3
  have ht := (idx t).2.2.2
  idx_vars y
  blk_simp
  rw [after0_2]
  have ha : acc m c t.val y0 y1 = _ := (by unfold acc; rw [h3] : acc m c t.val y0 y1 = ∑ k ∈ range 2816, A m c (1024 * (t.val / 2) + y0) k * B m c k y1)
  refine (ho y0 y1).trans (ha.trans (((hR ⟨1024 * (t.val / 2) + y0.val, by omega⟩ y1).symm).trans (congrArg _ ?_)))
  blk_point [idx t]

end Cert.Mm7
end
-- ==== Proof.Mm8.lean ====
/- The gradient of a mixer's activations: each grid point writes one block of rows of the product with the transposed output weights. -/
module

public import proofs.«01_k».proof.Proof.Mm
public import proofs.«01_k».proof.Proof.Gen.Kernel8Ideal.Value
public import proofs.«01_k».proof.Proof.Gen.Reference8Ideal
public import Idealize.ShloMosaic.Lib.Claim

@[expose] public section

set_option maxRecDepth 16384

noncomputable section

namespace Cert.Mm8

open Idealize.ShloMosaic Idealize.ShloMosaic.TcCoe Idealize.SL.Sem Idealize.ShloMosaic.StableHlo
open Cert.Kernel8Ideal Cert.Kernel8Ideal.Gen Cert.Mm
open Finset (range)

theorem pay {u : FVec Ideal S1024x1024 .bf16} {v : FVec Ideal S1024x1024 .bf16} {X Y : ℕ → ℕ → EReal} (hu : E2 u X) (hv : E2 v Y) :
    E2 (k0_pay1 (F := Ideal) u v) (fun i j => ∑ k ∈ range 1024, X i k * Y j k) := fun i j => by
  refine Eq.trans ?_ ((Finset.sum_congr rfl fun k _ => congrArg₂ (· * ·) (hu i k) (hv j k)).trans (sum_fin 1024 (fun k => X i k * Y j k)))
  unfold k0_pay1
  pointwise

/-- The product with the transposed weights. -/
def refOut (u : FVec Ideal S4096x1024 .f32) (v : FVec Ideal S1024x1024 .f32) : FVec Ideal S4096x1024 .f32 :=
  Host.dotGeneral (φ₁ := .f32) (φ₂ := .f32) Cert.Reference8Ideal.dot_S4096x1024_S1024x1024_S4096x1024_1_1_0_0_n_n none u v

theorem ref {u : FVec Ideal S4096x1024 .f32} {v : FVec Ideal S1024x1024 .f32} {X Y : ℕ → ℕ → EReal} (hu : E2 u X) (hv : E2 v Y) :
    E2 (refOut u v) (fun i j => ∑ k ∈ range 1024, X i k * Y j k) := fun i j => by
  refine Eq.trans ?_ ((Finset.sum_congr rfl fun k _ => congrArg₂ (· * ·) (hu i k) (hv j k)).trans (sum_fin 1024 (fun k => X i k * Y j k)))
  unfold refOut
  pointwise

variable (m : (ℓ : Loc nD τ Cert.Kernel8Ideal.sig) → Buf (Elt Ideal) ℓ)

/-- The rows and the weights that the launch holds, by row and column. -/
abbrev A (c : Dev nD) : ℕ → ℕ → EReal := nat2 (a := 4096) (b := 1024) (φ := .f32) (m ((c : Thread nD τ).loc main_arg0))
abbrev B (c : Dev nD) : ℕ → ℕ → EReal := nat2 (a := 1024) (b := 1024) (φ := .f32) (m ((c : Thread nD τ).loc main_arg2))

theorem V0 (c : Dev nD) : E2 (a := 4096) (b := 1024) (φ := .bf16) (Gen.V m c main_v0) (A m c) := by
  have key : ∀ σ : Valuation τ Cert.Kernel8Ideal.sig (Elt Ideal), after (hostOps0 (F := Ideal)) σ (Proc.tc.devRef main_v0)
      = truncf (F := Ideal) (φ := .f32) .bf16 (σ (Proc.devRef .tc main_arg0)) := by
    intro σ
    simp only [hostOps0]
    after_results_simp
    try rfl
  exact fun i j => (congrFun (key _) (ix2 i j)).trans (E2.nat (φ := .f32) (m ((c : Thread nD τ).loc main_arg0)) i j)

theorem V1 (c : Dev nD) : E2 (a := 1024) (b := 1024) (φ := .bf16) (Gen.V m c main_v1) (B m c) := by
  have key : ∀ σ : Valuation τ Cert.Kernel8Ideal.sig (Elt Ideal), after (hostOps0 (F := Ideal)) σ (Proc.tc.devRef main_v1)
      = truncf (F := Ideal) (φ := .f32) .bf16 (σ (Proc.devRef .tc main_arg2)) := by
    intro σ
    simp only [hostOps0]
    after_results_simp
    try rfl
  exact fun i j => (congrFun (key _) (ix2 i j)).trans (E2.nat (φ := .f32) (m ((c : Thread nD τ).loc main_arg2)) i j)

theorem idx : ∀ t : Fin cfg0.N, win0_0.index t = ![t.val, 0] ∧ win0_1.index t = ![0, 0] ∧ win0_2.index t = ![t.val, 0] ∧ t.val < 4 :=
  (by decide +kernel : ∀ t : Fin grid0.N, _)

theorem in0 (c : Dev nD) (t : Fin cfg0.N) : E2 (a := 1024) (b := 1024) (φ := .bf16) (iblk m c 0 t) (fun i j => A m c (1024 * t.val + i) j) := fun i j => by
  have ht := (idx t).2.2.2
  refine Eq.trans ?_ (V0 m c ⟨1024 * t.val + i.val, by omega⟩ j)
  blk_ext [iblk, idx t]

theorem in1 (c : Dev nD) (t : Fin cfg0.N) : E2 (a := 1024) (b := 1024) (φ := .bf16) (iblk m c 1 t) (B m c) := fun i j => by
  refine Eq.trans ?_ (V1 m c i j)
  blk_ext [iblk, idx t]

/-- The kernel's result is the reference's product. -/
theorem final (c : Dev nD) : (dats (F := Ideal) m 0 c).arrAt 2 cfg0.N = refOut (m ((c : Thread nD τ).loc main_arg0)) (m ((c : Thread nD τ).loc main_arg2)) := by
  refine (dats (F := Ideal) m 0 c).arrAt_eq_of_covers 2 _ (by decide +kernel) fun t hf y => ?_
  have hR := ref (E2.nat (φ := .f32) (m ((c : Thread nD τ).loc main_arg0))) (E2.nat (φ := .f32) (m ((c : Thread nD τ).loc main_arg2)))
  have hp := pay (in0 m c t) (in1 m c t)
  have ht := (idx t).2.2.2
  idx_vars y
  blk_simp
  rw [after0_2]
  frame_out
  refine (hp y0 y1).trans (((hR ⟨1024 * t.val + y0.val, by omega⟩ y1).symm).trans (congrArg _ ?_))
  blk_point [idx t]

end Cert.Mm8
end
-- ==== Proof.Mm9.lean ====
/- The gradient of a mixer's output weights: each grid point adds one block of tokens to the product held in the scratch,
   and the last of the four writes it. -/
module

public import proofs.«01_k».proof.Proof.Mm
public import proofs.«01_k».proof.Proof.Gen.Kernel9Ideal.Value
public import proofs.«01_k».proof.Proof.Gen.Reference9Ideal
public import Idealize.ShloMosaic.Lib.Claim

@[expose] public section

set_option maxRecDepth 16384

noncomputable section

namespace Cert.Mm9

open Idealize.ShloMosaic Idealize.ShloMosaic.TcCoe Idealize.SL.Sem Idealize.ShloMosaic.StableHlo
open Cert.Kernel9Ideal Cert.Kernel9Ideal.Gen Cert.Mm
open Finset (range)

theorem pay0 : E2 (k0_pay1 (F := Ideal)) (fun _ _ => 0) := fun i j => by
  refine Eq.trans ?_ bits_zero
  unfold k0_pay1
  pointwise

theorem pay {w : FVec Ideal S1024x1024 .f32} {u : FVec Ideal S1024x1024 .bf16} {v : FVec Ideal S1024x1024 .bf16} {Z X Y : ℕ → ℕ → EReal}
    (hw : E2 w Z) (hu : E2 u X) (hv : E2 v Y) :
    E2 (k0_pay2 (F := Ideal) w u v) (fun i j => Z i j + ∑ k ∈ range 1024, X k i * Y k j) := fun i j => by
  refine Eq.trans ?_ (congrArg₂ (· + ·) (hw i j) ((Finset.sum_congr rfl fun k _ => congrArg₂ (· * ·) (hu k i) (hv k j)).trans (sum_fin 1024 (fun k => X k i * Y k j))))
  unfold k0_pay2
  pointwise

/-- The transpose of the product of the two transposes. -/
def refOut (u : FVec Ideal S4096x1024 .f32) (v : FVec Ideal S4096x1024 .f32) : FVec Ideal S1024x1024 .f32 :=
  transpose S1024x1024 [1, 0] (Host.dotGeneral (φ₁ := .f32) (φ₂ := .f32) Cert.Reference9Ideal.dot_S4096x1024_S4096x1024_S1024x1024_0_0_1_1_n_n none u v : FVec Ideal Cert.Reference9Ideal.S1024x1024 .f32)
    Cert.Reference9Ideal.Gen.transposes_S1024x1024_S1024x1024_1_0

theorem ref {u : FVec Ideal S4096x1024 .f32} {v : FVec Ideal S4096x1024 .f32} {X Y : ℕ → ℕ → EReal} (hu : E2 u X) (hv : E2 v Y) :
    E2 (refOut u v) (fun i j => ∑ k ∈ range 4096, Y k i * X k j) := fun i j => by
  refine Eq.trans ?_ ((Finset.sum_congr rfl fun k _ => (congrArg₂ (· * ·) (hu k j) (hv k i)).trans (mul_comm _ _)).trans (sum_fin 4096 (fun k => Y k i * X k j)))
  unfold refOut
  pointwise

variable (m : (ℓ : Loc nD τ Cert.Kernel9Ideal.sig) → Buf (Elt Ideal) ℓ)

/-- The rows and the gradient that the launch holds, by row and column. -/
abbrev A (c : Dev nD) : ℕ → ℕ → EReal := nat2 (a := 4096) (b := 1024) (φ := .f32) (m ((c : Thread nD τ).loc main_arg1))
abbrev B (c : Dev nD) : ℕ → ℕ → EReal := nat2 (a := 4096) (b := 1024) (φ := .f32) (m ((c : Thread nD τ).loc main_arg0))

theorem V0 (c : Dev nD) : E2 (a := 4096) (b := 1024) (φ := .bf16) (Gen.V m c main_v0) (A m c) := by
  have key : ∀ σ : Valuation τ Cert.Kernel9Ideal.sig (Elt Ideal), after (hostOps0 (F := Ideal)) σ (Proc.tc.devRef main_v0)
      = truncf (F := Ideal) (φ := .f32) .bf16 (σ (Proc.devRef .tc main_arg1)) := by
    intro σ
    simp only [hostOps0]
    after_results_simp
    try rfl
  exact fun i j => (congrFun (key _) (ix2 i j)).trans (E2.nat (φ := .f32) (m ((c : Thread nD τ).loc main_arg1)) i j)

theorem V1 (c : Dev nD) : E2 (a := 4096) (b := 1024) (φ := .bf16) (Gen.V m c main_v1) (B m c) := by
  have key : ∀ σ : Valuation τ Cert.Kernel9Ideal.sig (Elt Ideal), after (hostOps0 (F := Ideal)) σ (Proc.tc.devRef main_v1)
      = truncf (F := Ideal) (φ := .f32) .bf16 (σ (Proc.devRef .tc main_arg0)) := by
    intro σ
    simp only [hostOps0]
    after_results_simp
    try rfl
  exact fun i j => (congrFun (key _) (ix2 i j)).trans (E2.nat (φ := .f32) (m ((c : Thread nD τ).loc main_arg0)) i j)

theorem idx : ∀ t : Fin cfg0.N, win0_0.index t = ![t.val % 4, t.val / 4] ∧ win0_1.index t = ![t.val % 4, 0] ∧ win0_2.index t = ![t.val / 4, 0] ∧ t.val < 4 :=
  (by decide +kernel : ∀ t : Fin grid0.N, _)
theorem flush : ∀ t : Fin cfg0.N, (cfg0.win 2).flush t = true → t.val % 4 = 3 := (by decide +kernel : ∀ t : Fin grid0.N, _)

theorem in0 (c : Dev nD) (t : Fin cfg0.N) : E2 (a := 1024) (b := 1024) (φ := .bf16) (iblk m c 0 t)
    (fun i j => A m c (1024 * (t.val % 4) + i) (1024 * (t.val / 4) + j)) := fun i j => by
  have ht := (idx t).2.2.2
  refine Eq.trans ?_ (V0 m c ⟨1024 * (t.val % 4) + i.val, by omega⟩ ⟨1024 * (t.val / 4) + j.val, by omega⟩)
  blk_ext [iblk, idx t]

theorem in1 (c : Dev nD) (t : Fin cfg0.N) : E2 (a := 1024) (b := 1024) (φ := .bf16) (iblk m c 1 t)
    (fun i j => B m c (1024 * (t.val % 4) + i) j) := fun i j => by
  have ht := (idx t).2.2.2
  refine Eq.trans ?_ (V1 m c ⟨1024 * (t.val % 4) + i.val, by omega⟩ j)
  blk_ext [iblk, idx t]

/-- What the scratch holds after a point: the product over the blocks of tokens met so far. -/
def acc (c : Dev nD) (n : ℕ) (i j : ℕ) : EReal := ∑ k ∈ range (1024 * (n % 4 + 1)), A m c k (1024 * (n / 4) + i) * B m c k j

theorem acc_first (c : Dev nD) (n : ℕ) (h : n % 4 = 0) (i j : ℕ) :
    0 + ∑ k ∈ range 1024, A m c (1024 * (n % 4) + k) (1024 * (n / 4) + i) * B m c (1024 * (n % 4) + k) j = acc m c n i j := by
  unfold acc
  rw [sum_block 1024 (n % 4) (fun k => A m c k (1024 * (n / 4) + i) * B m c k j), h]
  simp only [Nat.mul_zero, Finset.range_zero, Finset.sum_empty]

theorem acc_step (c : Dev nD) (n : ℕ) (h : ¬ (n + 1) % 4 = 0) (i j : ℕ) :
    acc m c n i j + ∑ k ∈ range 1024, A m c (1024 * ((n + 1) % 4) + k) (1024 * ((n + 1) / 4) + i) * B m c (1024 * ((n + 1) % 4) + k) j = acc m c (n + 1) i j := by
  unfold acc
  rw [sum_block 1024 ((n + 1) % 4) (fun k => A m c k (1024 * ((n + 1) / 4) + i) * B m c k j), show n % 4 + 1 = (n + 1) % 4 by omega, show n / 4 = (n + 1) / 4 by omega]

theorem held (c : Dev nD) : ∀ (n : ℕ) (h : n < cfg0.N), E2 (a := 1024) (b := 1024) (φ := .f32) (outsAt0 m c n h).2 (acc m c n)
  | 0, h => by
    have e := outsAt0_A m c ⟨0, h⟩ rfl (show ¬ (0 % 4 = 3) by decide)
    have hp := E2.same (pay pay0 (in0 m c ⟨0, h⟩) (in1 m c ⟨0, h⟩)) (acc_first m c 0 rfl)
    intro i j
    refine Eq.trans ?_ (hp i j)
    rw [show outsAt0 m c 0 h = _ from e]
    frame_out
  | n + 1, h => by
    by_cases h0 : (n + 1) % 4 = 0
    · have e := outsAt0_A m c ⟨n + 1, h⟩ h0 (by dsimp only; omega)
      have hp := E2.same (pay pay0 (in0 m c ⟨n + 1, h⟩) (in1 m c ⟨n + 1, h⟩)) (acc_first m c (n + 1) h0)
      intro i j
      refine Eq.trans ?_ (hp i j)
      rw [show outsAt0 m c (n + 1) h = _ from e]
      frame_out
    · have hp := E2.same (pay (held c n (Nat.lt_of_succ_lt h)) (in0 m c ⟨n + 1, h⟩) (in1 m c ⟨n + 1, h⟩)) (acc_step m c n h0)
      intro i j
      refine Eq.trans ?_ (hp i j)
      by_cases h1 : (n + 1) % 4 = 3
      · rw [show outsAt0 m c (n + 1) h = _ from outsAt0_C m c ⟨n + 1, h⟩ h0 h1]
        frame_out
        exact congrFun (congrArg (fun w => k0_pay2 (F := Ideal) w _ _) (Memref.IsWhole.read_unread (Memref.isWhole_whole cc0_scratch0) _)) _
      · rw [show outsAt0 m c (n + 1) h = _ from outsAt0_B m c ⟨n + 1, h⟩ h0 h1]
        frame_out
        exact congrFun (congrArg (fun w => k0_pay2 (F := Ideal) w _ _) (Memref.IsWhole.read_unread (Memref.isWhole_whole cc0_scratch0) _)) _

theorem out (c : Dev nD) (t : Fin cfg0.N) (h1 : t.val % 4 = 3) : E2 (a := 1024) (b := 1024) (φ := .f32) (outsAt0 m c t.val t.isLt).1 (acc m c t.val) := by
  have e := outsAt0_C m c t (by omega) h1
  have hh := held m c t.val t.isLt
  rw [e] at hh ⊢
  intro i j
  refine Eq.trans ?_ (hh i j)
  frame_out

/-- The kernel's result is the reference's product. -/
theorem final (c : Dev nD) : (dats (F := Ideal) m 0 c).arrAt 2 cfg0.N = refOut (m ((c : Thread nD τ).loc main_arg0)) (m ((c : Thread nD τ).loc main_arg1)) := by
  refine (dats (F := Ideal) m 0 c).arrAt_eq_of_covers 2 _ (by decide +kernel) fun t hf y => ?_
  have hR := ref (E2.nat (φ := .f32) (m ((c : Thread nD τ).loc main_arg0))) (E2.nat (φ := .f32) (m ((c : Thread nD τ).loc main_arg1)))
  have h3 := flush t hf
  have ho := out m c t h3
  have ht := (idx t).2.2.2
  idx_vars y
  blk_simp
  rw [after0_2]
  have ha : acc m c t.val y0 y1 = _ := (by unfold acc; rw [h3] : acc m c t.val y0 y1 = ∑ k ∈ range 4096, A m c k (1024 * (t.val / 4) + y0) * B m c k y1)
  refine (ho y0 y1).trans (ha.trans (((hR ⟨1024 * (t.val / 4) + y0.val, by omega⟩ y1).symm).trans (congrArg _ ?_)))
  blk_point [idx t]

end Cert.Mm9
end
-- ==== Proof.Mm10.lean ====
/- A mixer's output product: each grid point writes one block of rows. -/
module

public import proofs.«01_k».proof.Proof.Mm
public import proofs.«01_k».proof.Proof.Gen.Kernel10Ideal.Value
public import proofs.«01_k».proof.Proof.Gen.Reference10Ideal
public import Idealize.ShloMosaic.Lib.Claim

@[expose] public section

set_option maxRecDepth 16384

noncomputable section

namespace Cert.Mm10

open Idealize.ShloMosaic Idealize.ShloMosaic.TcCoe Idealize.SL.Sem Idealize.ShloMosaic.StableHlo
open Cert.Kernel10Ideal Cert.Kernel10Ideal.Gen Cert.Mm
open Finset (range)

theorem pay {u : FVec Ideal S1024x1024 .bf16} {v : FVec Ideal S1024x1024 .bf16} {X Y : ℕ → ℕ → EReal} (hu : E2 u X) (hv : E2 v Y) :
    E2 (k0_pay1 (F := Ideal) u v) (fun i j => ∑ k ∈ range 1024, X i k * Y k j) := fun i j => by
  refine Eq.trans ?_ ((Finset.sum_congr rfl fun k _ => congrArg₂ (· * ·) (hu i k) (hv k j)).trans (sum_fin 1024 (fun k => X i k * Y k j)))
  unfold k0_pay1
  pointwise

/-- The product. -/
def refOut (u : FVec Ideal S4096x1024 .f32) (v : FVec Ideal S1024x1024 .f32) : FVec Ideal S4096x1024 .f32 :=
  Host.dotGeneral (φ₁ := .f32) (φ₂ := .f32) Cert.Reference10Ideal.dot_S4096x1024_S1024x1024_S4096x1024_1_0_0_1_n_n none u v

theorem ref {u : FVec Ideal S4096x1024 .f32} {v : FVec Ideal S1024x1024 .f32} {X Y : ℕ → ℕ → EReal} (hu : E2 u X) (hv : E2 v Y) :
    E2 (refOut u v) (fun i j => ∑ k ∈ range 1024, X i k * Y k j) := fun i j => by
  refine Eq.trans ?_ ((Finset.sum_congr rfl fun k _ => congrArg₂ (· * ·) (hu i k) (hv k j)).trans (sum_fin 1024 (fun k => X i k * Y k j)))
  unfold refOut
  pointwise

variable (m : (ℓ : Loc nD τ Cert.Kernel10Ideal.sig) → Buf (Elt Ideal) ℓ)

/-- The rows and the weights that the launch holds, by row and column. -/
abbrev A (c : Dev nD) : ℕ → ℕ → EReal := nat2 (a := 4096) (b := 1024) (φ := .f32) (m ((c : Thread nD τ).loc main_arg0))
abbrev B (c : Dev nD) : ℕ → ℕ → EReal := nat2 (a := 1024) (b := 1024) (φ := .f32) (m ((c : Thread nD τ).loc main_arg1))

theorem V0 (c : Dev nD) : E2 (a := 4096) (b := 1024) (φ := .bf16) (Gen.V m c main_v0) (A m c) := by
  have key : ∀ σ : Valuation τ Cert.Kernel10Ideal.sig (Elt Ideal), after (hostOps0 (F := Ideal)) σ (Proc.tc.devRef main_v0)
      = truncf (F := Ideal) (φ := .f32) .bf16 (σ (Proc.devRef .tc main_arg0)) := by
    intro σ
    simp only [hostOps0]
    after_results_simp
    try rfl
  exact fun i j => (congrFun (key _) (ix2 i j)).trans (E2.nat (φ := .f32) (m ((c : Thread nD τ).loc main_arg0)) i j)

theorem V1 (c : Dev nD) : E2 (a := 1024) (b := 1024) (φ := .bf16) (Gen.V m c main_v1) (B m c) := by
  have key : ∀ σ : Valuation τ Cert.Kernel10Ideal.sig (Elt Ideal), after (hostOps0 (F := Ideal)) σ (Proc.tc.devRef main_v1)
      = truncf (F := Ideal) (φ := .f32) .bf16 (σ (Proc.devRef .tc main_arg1)) := by
    intro σ
    simp only [hostOps0]
    after_results_simp
    try rfl
  exact fun i j => (congrFun (key _) (ix2 i j)).trans (E2.nat (φ := .f32) (m ((c : Thread nD τ).loc main_arg1)) i j)

theorem idx : ∀ t : Fin cfg0.N, win0_0.index t = ![t.val, 0] ∧ win0_1.index t = ![0, 0] ∧ win0_2.index t = ![t.val, 0] ∧ t.val < 4 :=
  (by decide +kernel : ∀ t : Fin grid0.N, _)

theorem in0 (c : Dev nD) (t : Fin cfg0.N) : E2 (a := 1024) (b := 1024) (φ := .bf16) (iblk m c 0 t) (fun i j => A m c (1024 * t.val + i) j) := fun i j => by
  have ht := (idx t).2.2.2
  refine Eq.trans ?_ (V0 m c ⟨1024 * t.val + i.val, by omega⟩ j)
  blk_ext [iblk, idx t]

theorem in1 (c : Dev nD) (t : Fin cfg0.N) : E2 (a := 1024) (b := 1024) (φ := .bf16) (iblk m c 1 t) (B m c) := fun i j => by
  refine Eq.trans ?_ (V1 m c i j)
  blk_ext [iblk, idx t]

/-- The kernel's result is the reference's product. -/
theorem final (c : Dev nD) : (dats (F := Ideal) m 0 c).arrAt 2 cfg0.N = refOut (m ((c : Thread nD τ).loc main_arg0)) (m ((c : Thread nD τ).loc main_arg1)) := by
  refine (dats (F := Ideal) m 0 c).arrAt_eq_of_covers 2 _ (by decide +kernel) fun t hf y => ?_
  have hR := ref (E2.nat (φ := .f32) (m ((c : Thread nD τ).loc main_arg0))) (E2.nat (φ := .f32) (m ((c : Thread nD τ).loc main_arg1)))
  have hp := pay (in0 m c t) (in1 m c t)
  have ht := (idx t).2.2.2
  idx_vars y
  blk_simp
  rw [after0_2]
  frame_out
  refine (hp y0 y1).trans (((hR ⟨1024 * t.val + y0.val, by omega⟩ y1).symm).trans (congrArg _ ?_))
  blk_point [idx t]

end Cert.Mm10
end
-- ==== Proof.Mm11.lean ====
/- The gradient of the rglru's rows: each grid point adds one block of the inner columns to the product with the transposed
   weights held in the scratch, and the last of the four writes it. -/
module

public import proofs.«01_k».proof.Proof.Mm
public import proofs.«01_k».proof.Proof.Gen.Kernel11Ideal.Value
public import proofs.«01_k».proof.Proof.Gen.Reference11Ideal
public import Idealize.ShloMosaic.Lib.Claim

@[expose] public section

set_option maxRecDepth 16384

noncomputable section

namespace Cert.Mm11

open Idealize.ShloMosaic Idealize.ShloMosaic.TcCoe Idealize.SL.Sem Idealize.ShloMosaic.StableHlo
open Cert.Kernel11Ideal Cert.Kernel11Ideal.Gen Cert.Mm
open Finset (range)

theorem pay0 : E2 (k0_pay1 (F := Ideal)) (fun _ _ => 0) := fun i j => by
  refine Eq.trans ?_ bits_zero
  unfold k0_pay1
  pointwise

theorem pay {w : FVec Ideal S1024x1024 .f32} {u v : FVec Ideal S1x1024x512 .bf16} {Z X Y : ℕ → ℕ → EReal}
    (hw : E2 w Z) (hu : ∀ (i : Fin 1024) (k : Fin 512), u (ix3 0 i k) = X i k) (hv : ∀ (j : Fin 1024) (k : Fin 512), v (ix3 0 j k) = Y j k) :
    E2 (k0_pay2 (F := Ideal) w u v) (fun i j => Z i j + ∑ k ∈ range 512, X i k * Y j k) := fun i j => by
  refine Eq.trans ?_ (congrArg₂ (· + ·) (hw i j) ((Finset.sum_congr rfl fun k _ => congrArg₂ (· * ·) (hu i k) (hv j k)).trans (sum_fin 512 (fun k => X i k * Y j k))))
  unfold k0_pay2
  pointwise

/-- The product with the transposed weights. -/
def refOut (u : FVec Ideal S4096x2048 .f32) (v : FVec Ideal S1024x2048 .f32) : FVec Ideal S4096x1024 .f32 :=
  Host.dotGeneral (φ₁ := .f32) (φ₂ := .f32) Cert.Reference11Ideal.dot_S4096x2048_S1024x2048_S4096x1024_1_1_0_0_n_n none u v

theorem ref {u : FVec Ideal S4096x2048 .f32} {v : FVec Ideal S1024x2048 .f32} {X Y : ℕ → ℕ → EReal} (hu : E2 u X) (hv : E2 v Y) :
    E2 (refOut u v) (fun i j => ∑ k ∈ range 2048, X i k * Y j k) := fun i j => by
  refine Eq.trans ?_ ((Finset.sum_congr rfl fun k _ => congrArg₂ (· * ·) (hu i k) (hv j k)).trans (sum_fin 2048 (fun k => X i k * Y j k)))
  unfold refOut
  pointwise

variable (m : (ℓ : Loc nD τ Cert.Kernel11Ideal.sig) → Buf (Elt Ideal) ℓ)

/-- The gradient and the weights that the launch holds, by row and column. -/
abbrev A (c : Dev nD) : ℕ → ℕ → EReal := nat2 (a := 4096) (b := 2048) (φ := .f32) (m ((c : Thread nD τ).loc main_arg0))
abbrev B (c : Dev nD) : ℕ → ℕ → EReal := nat2 (a := 1024) (b := 2048) (φ := .f32) (m ((c : Thread nD τ).loc main_arg2))

/-- The gradient's columns in two halves. -/
def halves (w : FVec Ideal S4096x2048 .f32) : FVec Ideal S2x4096x1024 .bf16 :=
  truncf (F := Ideal) (φ := .f32) .bf16 (transpose S2x4096x1024 [1, 0, 2] (shapeCast S4096x2x1024 w shapeCasts_S4096x2048_S4096x2x1024) transposes_S4096x2x1024_S2x4096x1024_1_0_2)

theorem halves_at {w : FVec Ideal S4096x2048 .f32} {X : ℕ → ℕ → EReal} (hw : E2 w X) : E3 (halves w) (fun s i j => X i (1024 * s + j)) := fun s i j => by
  refine Eq.trans ?_ ((hw i ⟨s.val * 1024 + j.val, by omega⟩).trans (congrArg (X i) (by dsimp only; omega)))
  unfold halves
  pointwise

theorem V0 (c : Dev nD) : E3 (a := 2) (b := 4096) (c := 1024) (φ := .bf16) (Gen.V m c main_v2) (fun s i j => A m c i (1024 * s + j)) := by
  have key : ∀ σ : Valuation τ Cert.Kernel11Ideal.sig (Elt Ideal), after (hostOps0 (F := Ideal)) σ (Proc.tc.devRef main_v2)
      = halves (σ (Proc.devRef .tc main_arg0)) := by
    intro σ
    simp only [hostOps0]
    after_results_simp
    try rfl
  exact fun s i j => (congrFun (key _) (ix3 s i j)).trans (halves_at (E2.nat (φ := .f32) (m ((c : Thread nD τ).loc main_arg0))) s i j)

/-- The weights' columns in four runs, as the exchange leaves them. -/
def slots (w : FVec Ideal S1024x2048 .f32) : FVec Ideal S4x1024x512 .bf16 :=
  truncf (F := Ideal) (φ := .f32) .bf16 (transpose S4x1024x512 [1, 0, 2] (shapeCast S1024x4x512 w shapeCasts_S1024x2048_S1024x4x512) transposes_S1024x4x512_S4x1024x512_1_0_2)

theorem slots_at {w : FVec Ideal S1024x2048 .f32} {X : ℕ → ℕ → EReal} (hw : E2 w X) : E3 (slots w) (fun s i j => X i (512 * s + j)) := fun s i j => by
  refine Eq.trans ?_ ((hw i ⟨s.val * 512 + j.val, by omega⟩).trans (congrArg (X i) (by dsimp only; omega)))
  unfold slots
  pointwise

theorem V1 (c : Dev nD) : E3 (a := 4) (b := 1024) (c := 512) (φ := .bf16) (Gen.V m c main_v5) (fun s i j => B m c i (512 * s + j)) := by
  have key : ∀ σ : Valuation τ Cert.Kernel11Ideal.sig (Elt Ideal), after (hostOps0 (F := Ideal)) σ (Proc.tc.devRef main_v5)
      = slots (σ (Proc.devRef .tc main_arg2)) := by
    intro σ
    simp only [hostOps0]
    after_results_simp
    try rfl
  exact fun s i j => (congrFun (key _) (ix3 s i j)).trans (slots_at (E2.nat (φ := .f32) (m ((c : Thread nD τ).loc main_arg2))) s i j)

theorem idx : ∀ t : Fin cfg0.N, win0_0.index t = ![t.val % 4 / 2, t.val / 4, t.val % 2] ∧ win0_1.index t = ![t.val % 4, 0, 0] ∧ win0_2.index t = ![t.val / 4, 0] ∧ t.val < 16 :=
  (by decide +kernel : ∀ t : Fin grid0.N, _)
theorem flush : ∀ t : Fin cfg0.N, (cfg0.win 2).flush t = true → t.val % 4 = 3 := (by decide +kernel : ∀ t : Fin grid0.N, _)

theorem in0 (c : Dev nD) (t : Fin cfg0.N) (i : Fin 1024) (j : Fin 512) :
    (iblk m c 0 t : FVec Ideal S1x1024x512 .bf16) (ix3 0 i j) = A m c (1024 * (t.val / 4) + i) (512 * (t.val % 4) + j) := by
  have ht := (idx t).2.2.2
  refine Eq.trans ?_ ((V0 m c ⟨t.val % 4 / 2, by omega⟩ ⟨1024 * (t.val / 4) + i.val, by omega⟩ ⟨512 * (t.val % 2) + j.val, by omega⟩).trans
    (congrArg (A m c _) (by dsimp only; omega)))
  blk_ext [iblk, idx t]

theorem in1 (c : Dev nD) (t : Fin cfg0.N) (i : Fin 1024) (j : Fin 512) :
    (iblk m c 1 t : FVec Ideal S1x1024x512 .bf16) (ix3 0 i j) = B m c i (512 * (t.val % 4) + j) := by
  have ht := (idx t).2.2.2
  refine Eq.trans ?_ (V1 m c ⟨t.val % 4, by omega⟩ i j)
  blk_ext [iblk, idx t]

/-- What the scratch holds after a point: the product over the blocks of columns met so far. -/
def acc (c : Dev nD) (n : ℕ) (i j : ℕ) : EReal := ∑ k ∈ range (512 * (n % 4 + 1)), A m c (1024 * (n / 4) + i) k * B m c j k

theorem acc_first (c : Dev nD) (n : ℕ) (h : n % 4 = 0) (i j : ℕ) :
    0 + ∑ k ∈ range 512, A m c (1024 * (n / 4) + i) (512 * (n % 4) + k) * B m c j (512 * (n % 4) + k) = acc m c n i j := by
  unfold acc
  rw [sum_block 512 (n % 4) (fun k => A m c (1024 * (n / 4) + i) k * B m c j k), h]
  simp only [Nat.mul_zero, Finset.range_zero, Finset.sum_empty]

theorem acc_step (c : Dev nD) (n : ℕ) (h : ¬ (n + 1) % 4 = 0) (i j : ℕ) :
    acc m c n i j + ∑ k ∈ range 512, A m c (1024 * ((n + 1) / 4) + i) (512 * ((n + 1) % 4) + k) * B m c j (512 * ((n + 1) % 4) + k) = acc m c (n + 1) i j := by
  unfold acc
  rw [sum_block 512 ((n + 1) % 4) (fun k => A m c (1024 * ((n + 1) / 4) + i) k * B m c j k), show n % 4 + 1 = (n + 1) % 4 by omega, show n / 4 = (n + 1) / 4 by omega]

theorem held (c : Dev nD) : ∀ (n : ℕ) (h : n < cfg0.N), E2 (a := 1024) (b := 1024) (φ := .f32) (outsAt0 m c n h).2 (acc m c n)
  | 0, h => by
    have e := outsAt0_A m c ⟨0, h⟩ rfl (show ¬ (0 % 4 = 3) by decide)
    have hp := E2.same (pay (X := fun i k => A m c (1024 * (0 / 4) + i) (512 * (0 % 4) + k)) (Y := fun j k => B m c j (512 * (0 % 4) + k)) pay0 (in0 m c ⟨0, h⟩) (in1 m c ⟨0, h⟩)) (acc_first m c 0 rfl)
    intro i j
    refine Eq.trans ?_ (hp i j)
    rw [show outsAt0 m c 0 h = _ from e]
    frame_out
  | n + 1, h => by
    by_cases h0 : (n + 1) % 4 = 0
    · have e := outsAt0_A m c ⟨n + 1, h⟩ h0 (by dsimp only; omega)
      have hp := E2.same (pay (X := fun i k => A m c (1024 * ((n + 1) / 4) + i) (512 * ((n + 1) % 4) + k)) (Y := fun j k => B m c j (512 * ((n + 1) % 4) + k)) pay0 (in0 m c ⟨n + 1, h⟩) (in1 m c ⟨n + 1, h⟩)) (acc_first m c (n + 1) h0)
      intro i j
      refine Eq.trans ?_ (hp i j)
      rw [show outsAt0 m c (n + 1) h = _ from e]
      frame_out
    · have hp := E2.same (pay (X := fun i k => A m c (1024 * ((n + 1) / 4) + i) (512 * ((n + 1) % 4) + k)) (Y := fun j k => B m c j (512 * ((n + 1) % 4) + k)) (held c n (Nat.lt_of_succ_lt h)) (in0 m c ⟨n + 1, h⟩) (in1 m c ⟨n + 1, h⟩)) (acc_step m c n h0)
      intro i j
      refine Eq.trans ?_ (hp i j)
      by_cases h1 : (n + 1) % 4 = 3
      · rw [show outsAt0 m c (n + 1) h = _ from outsAt0_C m c ⟨n + 1, h⟩ h0 h1]
        frame_out
        exact congrFun (congrArg (fun w => k0_pay2 (F := Ideal) w _ _) (Memref.IsWhole.read_unread (Memref.isWhole_whole cc0_scratch0) _)) _
      · rw [show outsAt0 m c (n + 1) h = _ from outsAt0_B m c ⟨n + 1, h⟩ h0 h1]
        frame_out
        exact congrFun (congrArg (fun w => k0_pay2 (F := Ideal) w _ _) (Memref.IsWhole.read_unread (Memref.isWhole_whole cc0_scratch0) _)) _

theorem out (c : Dev nD) (t : Fin cfg0.N) (h1 : t.val % 4 = 3) : E2 (a := 1024) (b := 1024) (φ := .f32) (outsAt0 m c t.val t.isLt).1 (acc m c t.val) := by
  have e := outsAt0_C m c t (by omega) h1
  have hh := held m c t.val t.isLt
  rw [e] at hh ⊢
  intro i j
  refine Eq.trans ?_ (hh i j)
  frame_out

/-- The kernel's result is the reference's product. -/
theorem final (c : Dev nD) : (dats (F := Ideal) m 0 c).arrAt 2 cfg0.N = refOut (m ((c : Thread nD τ).loc main_arg0)) (m ((c : Thread nD τ).loc main_arg2)) := by
  refine (dats (F := Ideal) m 0 c).arrAt_eq_of_covers 2 _ (by decide +kernel) fun t hf y => ?_
  have hR := ref (E2.nat (φ := .f32) (m ((c : Thread nD τ).loc main_arg0))) (E2.nat (φ := .f32) (m ((c : Thread nD τ).loc main_arg2)))
  have h3 := flush t hf
  have ho := out m c t h3
  have ht := (idx t).2.2.2
  idx_vars y
  blk_simp
  rw [after0_2]
  have ha : acc m c t.val y0 y1 = _ := (by unfold acc; rw [h3] : acc m c t.val y0 y1 = ∑ k ∈ range 2048, A m c (1024 * (t.val / 4) + y0) k * B m c y1 k)
  refine (ho y0 y1).trans (ha.trans (((hR ⟨1024 * (t.val / 4) + y0.val, by omega⟩ y1).symm).trans (congrArg _ ?_)))
  blk_point [idx t]

end Cert.Mm11
end
-- ==== Proof.Mm12.lean ====
/- The gradient of the rglru's input weights: each grid point adds one block of tokens to the product held in the scratch,
   and the last of the four writes it. -/
module

public import proofs.«01_k».proof.Proof.Mm
public import proofs.«01_k».proof.Proof.Gen.Kernel12Ideal.Value
public import proofs.«01_k».proof.Proof.Gen.Reference12Ideal
public import Idealize.ShloMosaic.Lib.Claim

@[expose] public section

set_option maxRecDepth 16384

noncomputable section

namespace Cert.Mm12

open Idealize.ShloMosaic Idealize.ShloMosaic.TcCoe Idealize.SL.Sem Idealize.ShloMosaic.StableHlo
open Cert.Kernel12Ideal Cert.Kernel12Ideal.Gen Cert.Mm
open Finset (range)

theorem pay0 : E2 (k0_pay1 (F := Ideal)) (fun _ _ => 0) := fun i j => by
  refine Eq.trans ?_ bits_zero
  unfold k0_pay1
  pointwise

theorem pay {w : FVec Ideal S1024x512 .f32} {u : FVec Ideal S1024x1024 .bf16} {v : FVec Ideal S1x1024x512 .bf16} {Z X Y : ℕ → ℕ → EReal}
    (hw : E2 w Z) (hu : E2 u X) (hv : ∀ (k : Fin 1024) (j : Fin 512), v (ix3 0 k j) = Y k j) :
    E2 (k0_pay2 (F := Ideal) w u v) (fun i j => Z i j + ∑ k ∈ range 1024, X k i * Y k j) := fun i j => by
  refine Eq.trans ?_ (congrArg₂ (· + ·) (hw i j) ((Finset.sum_congr rfl fun k _ => congrArg₂ (· * ·) (hu k i) (hv k j)).trans (sum_fin 1024 (fun k => X k i * Y k j))))
  unfold k0_pay2
  pointwise

theorem pay_out {w : FVec Ideal S1024x512 .f32} {Z : ℕ → ℕ → EReal} (hw : E2 w Z) (i : Fin 1024) (j : Fin 512) :
    k0_pay3 (F := Ideal) w (ix3 0 i j) = Z i j := by
  refine Eq.trans ?_ (hw i j)
  unfold k0_pay3
  pointwise

/-- The transpose of the product of the two transposes, its columns in four runs. -/
def refOut (u : FVec Ideal S4096x2048 .f32) (v : FVec Ideal S4096x1024 .f32) : FVec Ideal S4x1024x512 .f32 :=
  transpose S4x1024x512 [1, 0, 2] (shapeCast Cert.Reference12Ideal.S1024x4x512
    (transpose Cert.Reference12Ideal.S1024x2048 [1, 0] (Host.dotGeneral (φ₁ := .f32) (φ₂ := .f32) Cert.Reference12Ideal.dot_S4096x2048_S4096x1024_S2048x1024_0_0_1_1_n_n none u v : FVec Ideal Cert.Reference12Ideal.S2048x1024 .f32)
      Cert.Reference12Ideal.Gen.transposes_S2048x1024_S1024x2048_1_0)
    Cert.Reference12Ideal.Gen.shapeCasts_S1024x2048_S1024x4x512) Cert.Reference12Ideal.Gen.transposes_S1024x4x512_S4x1024x512_1_0_2

theorem ref {u : FVec Ideal S4096x2048 .f32} {v : FVec Ideal S4096x1024 .f32} {X Y : ℕ → ℕ → EReal} (hu : E2 u X) (hv : E2 v Y) :
    E3 (refOut u v) (fun s i j => ∑ k ∈ range 4096, Y k i * X k (512 * s + j)) := fun s i j => by
  refine Eq.trans ?_ ((Finset.sum_congr rfl fun k _ => (congrArg₂ (· * ·) ((hu k ⟨s.val * 512 + j.val, by omega⟩).trans (congrArg (X k) (by dsimp only; omega) : _ = X k (512 * s + j))) (hv k i)).trans (mul_comm _ _)).trans (sum_fin 4096 (fun k => Y k i * X k (512 * s + j))))
  unfold refOut
  pointwise

variable (m : (ℓ : Loc nD τ Cert.Kernel12Ideal.sig) → Buf (Elt Ideal) ℓ)

/-- The normalised rows and the gradient that the launch holds, by row and column. -/
abbrev A (c : Dev nD) : ℕ → ℕ → EReal := nat2 (a := 4096) (b := 1024) (φ := .f32) (m ((c : Thread nD τ).loc main_arg1))
abbrev B (c : Dev nD) : ℕ → ℕ → EReal := nat2 (a := 4096) (b := 2048) (φ := .f32) (m ((c : Thread nD τ).loc main_arg0))

theorem V0 (c : Dev nD) : E2 (a := 4096) (b := 1024) (φ := .bf16) (Gen.V m c main_v0) (A m c) := by
  have key : ∀ σ : Valuation τ Cert.Kernel12Ideal.sig (Elt Ideal), after (hostOps0 (F := Ideal)) σ (Proc.tc.devRef main_v0)
      = truncf (F := Ideal) (φ := .f32) .bf16 (σ (Proc.devRef .tc main_arg1)) := by
    intro σ
    simp only [hostOps0]
    after_results_simp
    try rfl
  exact fun i j => (congrFun (key _) (ix2 i j)).trans (E2.nat (φ := .f32) (m ((c : Thread nD τ).loc main_arg1)) i j)

/-- The gradient's columns in two halves. -/
def halves (w : FVec Ideal S4096x2048 .f32) : FVec Ideal S2x4096x1024 .bf16 :=
  truncf (F := Ideal) (φ := .f32) .bf16 (transpose S2x4096x1024 [1, 0, 2] (shapeCast S4096x2x1024 w shapeCasts_S4096x2048_S4096x2x1024) transposes_S4096x2x1024_S2x4096x1024_1_0_2)

theorem halves_at {w : FVec Ideal S4096x2048 .f32} {X : ℕ → ℕ → EReal} (hw : E2 w X) : E3 (halves w) (fun s i j => X i (1024 * s + j)) := fun s i j => by
  refine Eq.trans ?_ ((hw i ⟨s.val * 1024 + j.val, by omega⟩).trans (congrArg (X i) (by dsimp only; omega)))
  unfold halves
  pointwise

theorem V1 (c : Dev nD) : E3 (a := 2) (b := 4096) (c := 1024) (φ := .bf16) (Gen.V m c main_v3) (fun s i j => B m c i (1024 * s + j)) := by
  have key : ∀ σ : Valuation τ Cert.Kernel12Ideal.sig (Elt Ideal), after (hostOps0 (F := Ideal)) σ (Proc.tc.devRef main_v3)
      = halves (σ (Proc.devRef .tc main_arg0)) := by
    intro σ
    simp only [hostOps0]
    after_results_simp
    try rfl
  exact fun s i j => (congrFun (key _) (ix3 s i j)).trans (halves_at (E2.nat (φ := .f32) (m ((c : Thread nD τ).loc main_arg0))) s i j)

theorem idx : ∀ t : Fin cfg0.N, win0_0.index t = ![t.val % 4, 0] ∧ win0_1.index t = ![t.val / 8, t.val % 4, t.val / 4 % 2] ∧ win0_2.index t = ![t.val / 4, 0, 0] ∧ t.val < 16 :=
  (by decide +kernel : ∀ t : Fin grid0.N, _)
theorem flush : ∀ t : Fin cfg0.N, (cfg0.win 2).flush t = true → t.val % 4 = 3 := (by decide +kernel : ∀ t : Fin grid0.N, _)

theorem in0 (c : Dev nD) (t : Fin cfg0.N) : E2 (a := 1024) (b := 1024) (φ := .bf16) (iblk m c 0 t)
    (fun i j => A m c (1024 * (t.val % 4) + i) j) := fun i j => by
  have ht := (idx t).2.2.2
  refine Eq.trans ?_ (V0 m c ⟨1024 * (t.val % 4) + i.val, by omega⟩ j)
  blk_ext [iblk, idx t]

theorem in1 (c : Dev nD) (t : Fin cfg0.N) (i : Fin 1024) (j : Fin 512) :
    (iblk m c 1 t : FVec Ideal S1x1024x512 .bf16) (ix3 0 i j) = B m c (1024 * (t.val % 4) + i) (512 * (t.val / 4) + j) := by
  have ht := (idx t).2.2.2
  refine Eq.trans ?_ ((V1 m c ⟨t.val / 8, by omega⟩ ⟨1024 * (t.val % 4) + i.val, by omega⟩ ⟨512 * (t.val / 4 % 2) + j.val, by omega⟩).trans
    (congrArg (B m c _) (by dsimp only; omega)))
  blk_ext [iblk, idx t]

/-- What the scratch holds after a point: the product over the blocks of tokens met so far. -/
def acc (c : Dev nD) (n : ℕ) (i j : ℕ) : EReal := ∑ k ∈ range (1024 * (n % 4 + 1)), A m c k i * B m c k (512 * (n / 4) + j)

theorem acc_first (c : Dev nD) (n : ℕ) (h : n % 4 = 0) (i j : ℕ) :
    0 + ∑ k ∈ range 1024, A m c (1024 * (n % 4) + k) i * B m c (1024 * (n % 4) + k) (512 * (n / 4) + j) = acc m c n i j := by
  unfold acc
  rw [sum_block 1024 (n % 4) (fun k => A m c k i * B m c k (512 * (n / 4) + j)), h]
  simp only [Nat.mul_zero, Finset.range_zero, Finset.sum_empty]

theorem acc_step (c : Dev nD) (n : ℕ) (h : ¬ (n + 1) % 4 = 0) (i j : ℕ) :
    acc m c n i j + ∑ k ∈ range 1024, A m c (1024 * ((n + 1) % 4) + k) i * B m c (1024 * ((n + 1) % 4) + k) (512 * ((n + 1) / 4) + j) = acc m c (n + 1) i j := by
  unfold acc
  rw [sum_block 1024 ((n + 1) % 4) (fun k => A m c k i * B m c k (512 * ((n + 1) / 4) + j)), show n % 4 + 1 = (n + 1) % 4 by omega, show n / 4 = (n + 1) / 4 by omega]

theorem held (c : Dev nD) : ∀ (n : ℕ) (h : n < cfg0.N), E2 (a := 1024) (b := 512) (φ := .f32) (outsAt0 m c n h).2 (acc m c n)
  | 0, h => by
    have e := outsAt0_A m c ⟨0, h⟩ rfl (show ¬ (0 % 4 = 3) by decide)
    have hp := E2.same (pay (Y := fun k j => B m c (1024 * (0 % 4) + k) (512 * (0 / 4) + j)) pay0 (in0 m c ⟨0, h⟩) (in1 m c ⟨0, h⟩)) (acc_first m c 0 rfl)
    intro i j
    refine Eq.trans ?_ (hp i j)
    rw [show outsAt0 m c 0 h = _ from e]
    frame_out
  | n + 1, h => by
    by_cases h0 : (n + 1) % 4 = 0
    · have e := outsAt0_A m c ⟨n + 1, h⟩ h0 (by dsimp only; omega)
      have hp := E2.same (pay (Y := fun k j => B m c (1024 * ((n + 1) % 4) + k) (512 * ((n + 1) / 4) + j)) pay0 (in0 m c ⟨n + 1, h⟩) (in1 m c ⟨n + 1, h⟩)) (acc_first m c (n + 1) h0)
      intro i j
      refine Eq.trans ?_ (hp i j)
      rw [show outsAt0 m c (n + 1) h = _ from e]
      frame_out
    · have hp := E2.same (pay (Y := fun k j => B m c (1024 * ((n + 1) % 4) + k) (512 * ((n + 1) / 4) + j)) (held c n (Nat.lt_of_succ_lt h)) (in0 m c ⟨n + 1, h⟩) (in1 m c ⟨n + 1, h⟩)) (acc_step m c n h0)
      intro i j
      refine Eq.trans ?_ (hp i j)
      by_cases h1 : (n + 1) % 4 = 3
      · rw [show outsAt0 m c (n + 1) h = _ from outsAt0_C m c ⟨n + 1, h⟩ h0 h1]
        frame_out
        exact congrFun (congrArg (fun w => k0_pay2 (F := Ideal) w _ _) (Memref.IsWhole.read_unread (Memref.isWhole_whole cc0_scratch0) _)) _
      · rw [show outsAt0 m c (n + 1) h = _ from outsAt0_B m c ⟨n + 1, h⟩ h0 h1]
        frame_out
        exact congrFun (congrArg (fun w => k0_pay2 (F := Ideal) w _ _) (Memref.IsWhole.read_unread (Memref.isWhole_whole cc0_scratch0) _)) _

theorem out (c : Dev nD) (t : Fin cfg0.N) (h1 : t.val % 4 = 3) (i : Fin 1024) (j : Fin 512) :
    ((outsAt0 m c t.val t.isLt).1 : FVec Ideal S1x1024x512 .f32) (ix3 0 i j) = acc m c t.val i j := by
  have e := outsAt0_C m c t (by omega) h1
  have hh := held m c t.val t.isLt
  rw [e] at hh ⊢
  refine Eq.trans ?_ (pay_out hh i j)
  frame_out

/-- The kernel's result is the reference's product. -/
theorem final (c : Dev nD) : (dats (F := Ideal) m 0 c).arrAt 2 cfg0.N = refOut (m ((c : Thread nD τ).loc main_arg0)) (m ((c : Thread nD τ).loc main_arg1)) := by
  refine (dats (F := Ideal) m 0 c).arrAt_eq_of_covers 2 _ (by decide +kernel) fun t hf y => ?_
  have hR := ref (E2.nat (φ := .f32) (m ((c : Thread nD τ).loc main_arg0))) (E2.nat (φ := .f32) (m ((c : Thread nD τ).loc main_arg1)))
  have h3 := flush t hf
  have ho := out m c t h3
  have ht := (idx t).2.2.2
  idx_vars y
  blk_simp
  rw [after0_2]
  have ha : acc m c t.val y1 y2 = _ := (by unfold acc; rw [h3] : acc m c t.val y1 y2 = ∑ k ∈ range 4096, A m c k y1 * B m c k (512 * (t.val / 4) + y2))
  have hy : y0 = 0 := Subsingleton.elim _ _
  subst hy
  refine (ho y1 y2).trans (ha.trans (((hR ⟨t.val / 4, by omega⟩ y1 y2).symm).trans (congrArg _ ?_)))
  blk_point [idx t]

end Cert.Mm12
end
-- ==== Proof.Mm13.lean ====
/- The rglru's input product: each grid point writes one block of the product with one of the four runs of weight columns. -/
module

public import proofs.«01_k».proof.Proof.Mm
public import proofs.«01_k».proof.Proof.Gen.Kernel13Ideal.Value
public import proofs.«01_k».proof.Proof.Gen.Reference13Ideal
public import Idealize.ShloMosaic.Lib.Claim

@[expose] public section

set_option maxRecDepth 16384

noncomputable section

namespace Cert.Mm13

open Idealize.ShloMosaic Idealize.ShloMosaic.TcCoe Idealize.SL.Sem Idealize.ShloMosaic.StableHlo
open Cert.Kernel13Ideal Cert.Kernel13Ideal.Gen Cert.Mm
open Finset (range)

theorem pay {u : FVec Ideal S1024x1024 .bf16} {v : FVec Ideal S1x1024x512 .bf16} {X Y : ℕ → ℕ → EReal} (hu : E2 u X) (hv : ∀ (k : Fin 1024) (j : Fin 512), v (ix3 0 k j) = Y k j) :
    E2 (k0_pay1 (F := Ideal) u v) (fun i j => ∑ k ∈ range 1024, X i k * Y k j) := fun i j => by
  refine Eq.trans ?_ ((Finset.sum_congr rfl fun k _ => congrArg₂ (· * ·) (hu i k) (hv k j)).trans (sum_fin 1024 (fun k => X i k * Y k j)))
  unfold k0_pay1
  pointwise

/-- The product. -/
def refOut (u : FVec Ideal S4096x1024 .f32) (v : FVec Ideal S1024x2048 .f32) : FVec Ideal S4096x2048 .f32 :=
  Host.dotGeneral (φ₁ := .f32) (φ₂ := .f32) Cert.Reference13Ideal.dot_S4096x1024_S1024x2048_S4096x2048_1_0_0_1_n_n none u v

theorem ref {u : FVec Ideal S4096x1024 .f32} {v : FVec Ideal S1024x2048 .f32} {X Y : ℕ → ℕ → EReal} (hu : E2 u X) (hv : E2 v Y) :
    E2 (refOut u v) (fun i j => ∑ k ∈ range 1024, X i k * Y k j) := fun i j => by
  refine Eq.trans ?_ ((Finset.sum_congr rfl fun k _ => congrArg₂ (· * ·) (hu i k) (hv k j)).trans (sum_fin 1024 (fun k => X i k * Y k j)))
  unfold refOut
  pointwise

variable (m : (ℓ : Loc nD τ Cert.Kernel13Ideal.sig) → Buf (Elt Ideal) ℓ)

/-- The normalised rows and the weights that the launch holds, by row and column. -/
abbrev A (c : Dev nD) : ℕ → ℕ → EReal := nat2 (a := 4096) (b := 1024) (φ := .f32) (m ((c : Thread nD τ).loc main_arg0))
abbrev B (c : Dev nD) : ℕ → ℕ → EReal := nat2 (a := 1024) (b := 2048) (φ := .f32) (m ((c : Thread nD τ).loc main_arg1))

theorem V0 (c : Dev nD) : E2 (a := 4096) (b := 1024) (φ := .bf16) (Gen.V m c main_v0) (A m c) := by
  have key : ∀ σ : Valuation τ Cert.Kernel13Ideal.sig (Elt Ideal), after (hostOps0 (F := Ideal)) σ (Proc.tc.devRef main_v0)
      = truncf (F := Ideal) (φ := .f32) .bf16 (σ (Proc.devRef .tc main_arg0)) := by
    intro σ
    simp only [hostOps0]
    after_results_simp
    try rfl
  exact fun i j => (congrFun (key _) (ix2 i j)).trans (E2.nat (φ := .f32) (m ((c : Thread nD τ).loc main_arg0)) i j)

/-- The weights' columns in four runs, as the exchange leaves them. -/
def slots (w : FVec Ideal S1024x2048 .f32) : FVec Ideal S4x1024x512 .bf16 :=
  truncf (F := Ideal) (φ := .f32) .bf16 (transpose S4x1024x512 [1, 0, 2] (shapeCast S1024x4x512 w shapeCasts_S1024x2048_S1024x4x512) transposes_S1024x4x512_S4x1024x512_1_0_2)

theorem slots_at {w : FVec Ideal S1024x2048 .f32} {X : ℕ → ℕ → EReal} (hw : E2 w X) : E3 (slots w) (fun s i j => X i (512 * s + j)) := fun s i j => by
  refine Eq.trans ?_ ((hw i ⟨s.val * 512 + j.val, by omega⟩).trans (congrArg (X i) (by dsimp only; omega)))
  unfold slots
  pointwise

theorem V1 (c : Dev nD) : E3 (a := 4) (b := 1024) (c := 512) (φ := .bf16) (Gen.V m c main_v3) (fun s i j => B m c i (512 * s + j)) := by
  have key : ∀ σ : Valuation τ Cert.Kernel13Ideal.sig (Elt Ideal), after (hostOps0 (F := Ideal)) σ (Proc.tc.devRef main_v3)
      = slots (σ (Proc.devRef .tc main_arg1)) := by
    intro σ
    simp only [hostOps0]
    after_results_simp
    try rfl
  exact fun s i j => (congrFun (key _) (ix3 s i j)).trans (slots_at (E2.nat (φ := .f32) (m ((c : Thread nD τ).loc main_arg1))) s i j)

theorem idx : ∀ t : Fin cfg0.N, win0_0.index t = ![t.val / 4, 0] ∧ win0_1.index t = ![t.val % 4, 0, 0] ∧ win0_2.index t = ![t.val / 4, t.val % 4] ∧ t.val < 16 :=
  (by decide +kernel : ∀ t : Fin grid0.N, _)

theorem in0 (c : Dev nD) (t : Fin cfg0.N) : E2 (a := 1024) (b := 1024) (φ := .bf16) (iblk m c 0 t)
    (fun i j => A m c (1024 * (t.val / 4) + i) j) := fun i j => by
  have ht := (idx t).2.2.2
  refine Eq.trans ?_ (V0 m c ⟨1024 * (t.val / 4) + i.val, by omega⟩ j)
  blk_ext [iblk, idx t]

theorem in1 (c : Dev nD) (t : Fin cfg0.N) (i : Fin 1024) (j : Fin 512) :
    (iblk m c 1 t : FVec Ideal S1x1024x512 .bf16) (ix3 0 i j) = B m c i (512 * (t.val % 4) + j) := by
  have ht := (idx t).2.2.2
  refine Eq.trans ?_ (V1 m c ⟨t.val % 4, by omega⟩ i j)
  blk_ext [iblk, idx t]

/-- The kernel's result is the reference's product. -/
theorem final (c : Dev nD) : (dats (F := Ideal) m 0 c).arrAt 2 cfg0.N = refOut (m ((c : Thread nD τ).loc main_arg0)) (m ((c : Thread nD τ).loc main_arg1)) := by
  refine (dats (F := Ideal) m 0 c).arrAt_eq_of_covers 2 _ (by decide +kernel) fun t hf y => ?_
  have hR := ref (E2.nat (φ := .f32) (m ((c : Thread nD τ).loc main_arg0))) (E2.nat (φ := .f32) (m ((c : Thread nD τ).loc main_arg1)))
  have hp := pay (Y := fun k j => B m c k (512 * (t.val % 4) + j)) (in0 m c t) (in1 m c t)
  have ht := (idx t).2.2.2
  idx_vars y
  blk_simp
  rw [after0_2]
  frame_out
  refine (hp y0 y1).trans (((hR ⟨1024 * (t.val / 4) + y0.val, by omega⟩ ⟨512 * (t.val % 4) + y1.val, by omega⟩).symm).trans (congrArg _ ?_))
  blk_point [idx t]

end Cert.Mm13
end
-- ==== Proof.Mm14.lean ====
/- The gradient of the attention's rows: each grid point writes one block of rows of the product with the transposed input weights. -/
module

public import proofs.«01_k».proof.Proof.Mm
public import proofs.«01_k».proof.Proof.Gen.Kernel14Ideal.Value
public import proofs.«01_k».proof.Proof.Gen.Reference14Ideal
public import Idealize.ShloMosaic.Lib.Claim

@[expose] public section

set_option maxRecDepth 16384

noncomputable section

namespace Cert.Mm14

open Idealize.ShloMosaic Idealize.ShloMosaic.TcCoe Idealize.SL.Sem Idealize.ShloMosaic.StableHlo
open Cert.Kernel14Ideal Cert.Kernel14Ideal.Gen Cert.Mm
open Finset (range)

theorem pay {u : FVec Ideal S1024x3088 .bf16} {v : FVec Ideal S1024x3088 .bf16} {X Y : ℕ → ℕ → EReal} (hu : E2 u X) (hv : E2 v Y) :
    E2 (k0_pay1 (F := Ideal) u v) (fun i j => ∑ k ∈ range 3088, X i k * Y j k) := fun i j => by
  refine Eq.trans ?_ ((Finset.sum_congr rfl fun k _ => congrArg₂ (· * ·) (hu i k) (hv j k)).trans (sum_fin 3088 (fun k => X i k * Y j k)))
  unfold k0_pay1
  pointwise

/-- The product with the transposed weights. -/
def refOut (u : FVec Ideal S4096x3088 .f32) (v : FVec Ideal S1024x3088 .f32) : FVec Ideal S4096x1024 .f32 :=
  Host.dotGeneral (φ₁ := .f32) (φ₂ := .f32) Cert.Reference14Ideal.dot_S4096x3088_S1024x3088_S4096x1024_1_1_0_0_n_n none u v

theorem ref {u : FVec Ideal S4096x3088 .f32} {v : FVec Ideal S1024x3088 .f32} {X Y : ℕ → ℕ → EReal} (hu : E2 u X) (hv : E2 v Y) :
    E2 (refOut u v) (fun i j => ∑ k ∈ range 3088, X i k * Y j k) := fun i j => by
  refine Eq.trans ?_ ((Finset.sum_congr rfl fun k _ => congrArg₂ (· * ·) (hu i k) (hv j k)).trans (sum_fin 3088 (fun k => X i k * Y j k)))
  unfold refOut
  pointwise

variable (m : (ℓ : Loc nD τ Cert.Kernel14Ideal.sig) → Buf (Elt Ideal) ℓ)

/-- The rows and the weights that the launch holds, by row and column. -/
abbrev A (c : Dev nD) : ℕ → ℕ → EReal := nat2 (a := 4096) (b := 3088) (φ := .f32) (m ((c : Thread nD τ).loc main_arg0))
abbrev B (c : Dev nD) : ℕ → ℕ → EReal := nat2 (a := 1024) (b := 3088) (φ := .f32) (m ((c : Thread nD τ).loc main_arg2))

theorem V0 (c : Dev nD) : E2 (a := 4096) (b := 3088) (φ := .bf16) (Gen.V m c main_v0) (A m c) := by
  have key : ∀ σ : Valuation τ Cert.Kernel14Ideal.sig (Elt Ideal), after (hostOps0 (F := Ideal)) σ (Proc.tc.devRef main_v0)
      = truncf (F := Ideal) (φ := .f32) .bf16 (σ (Proc.devRef .tc main_arg0)) := by
    intro σ
    simp only [hostOps0]
    after_results_simp
    try rfl
  exact fun i j => (congrFun (key _) (ix2 i j)).trans (E2.nat (φ := .f32) (m ((c : Thread nD τ).loc main_arg0)) i j)

theorem V1 (c : Dev nD) : E2 (a := 1024) (b := 3088) (φ := .bf16) (Gen.V m c main_v1) (B m c) := by
  have key : ∀ σ : Valuation τ Cert.Kernel14Ideal.sig (Elt Ideal), after (hostOps0 (F := Ideal)) σ (Proc.tc.devRef main_v1)
      = truncf (F := Ideal) (φ := .f32) .bf16 (σ (Proc.devRef .tc main_arg2)) := by
    intro σ
    simp only [hostOps0]
    after_results_simp
    try rfl
  exact fun i j => (congrFun (key _) (ix2 i j)).trans (E2.nat (φ := .f32) (m ((c : Thread nD τ).loc main_arg2)) i j)

theorem idx : ∀ t : Fin cfg0.N, win0_0.index t = ![t.val, 0] ∧ win0_1.index t = ![0, 0] ∧ win0_2.index t = ![t.val, 0] ∧ t.val < 4 :=
  (by decide +kernel : ∀ t : Fin grid0.N, _)

theorem in0 (c : Dev nD) (t : Fin cfg0.N) : E2 (a := 1024) (b := 3088) (φ := .bf16) (iblk m c 0 t) (fun i j => A m c (1024 * t.val + i) j) := fun i j => by
  have ht := (idx t).2.2.2
  refine Eq.trans ?_ (V0 m c ⟨1024 * t.val + i.val, by omega⟩ j)
  blk_ext [iblk, idx t]

theorem in1 (c : Dev nD) (t : Fin cfg0.N) : E2 (a := 1024) (b := 3088) (φ := .bf16) (iblk m c 1 t) (B m c) := fun i j => by
  refine Eq.trans ?_ (V1 m c i j)
  blk_ext [iblk, idx t]

/-- The kernel's result is the reference's product. -/
theorem final (c : Dev nD) : (dats (F := Ideal) m 0 c).arrAt 2 cfg0.N = refOut (m ((c : Thread nD τ).loc main_arg0)) (m ((c : Thread nD τ).loc main_arg2)) := by
  refine (dats (F := Ideal) m 0 c).arrAt_eq_of_covers 2 _ (by decide +kernel) fun t hf y => ?_
  have hR := ref (E2.nat (φ := .f32) (m ((c : Thread nD τ).loc main_arg0))) (E2.nat (φ := .f32) (m ((c : Thread nD τ).loc main_arg2)))
  have hp := pay (in0 m c t) (in1 m c t)
  have ht := (idx t).2.2.2
  idx_vars y
  blk_simp
  rw [after0_2]
  frame_out
  refine (hp y0 y1).trans (((hR ⟨1024 * t.val + y0.val, by omega⟩ y1).symm).trans (congrArg _ ?_))
  blk_point [idx t]

end Cert.Mm14
end
-- ==== Proof.Mm15.lean ====
/- The gradient of the attention's input weights: each grid point adds one block of tokens to the product held in the scratch,
   and the last of the four writes it. -/
module

public import proofs.«01_k».proof.Proof.Mm
public import proofs.«01_k».proof.Proof.Gen.Kernel15Ideal.Value
public import proofs.«01_k».proof.Proof.Gen.Reference15Ideal
public import Idealize.ShloMosaic.Lib.Claim

@[expose] public section

set_option maxRecDepth 16384

noncomputable section

namespace Cert.Mm15

open Idealize.ShloMosaic Idealize.ShloMosaic.TcCoe Idealize.SL.Sem Idealize.ShloMosaic.StableHlo
open Cert.Kernel15Ideal Cert.Kernel15Ideal.Gen Cert.Mm
open Finset (range)

theorem pay0 : E2 (k0_pay1 (F := Ideal)) (fun _ _ => 0) := fun i j => by
  refine Eq.trans ?_ bits_zero
  unfold k0_pay1
  pointwise

theorem pay {w : FVec Ideal S512x3088 .f32} {u : FVec Ideal S1024x512 .bf16} {v : FVec Ideal S1024x3088 .bf16} {Z X Y : ℕ → ℕ → EReal}
    (hw : E2 w Z) (hu : E2 u X) (hv : E2 v Y) :
    E2 (k0_pay2 (F := Ideal) w u v) (fun i j => Z i j + ∑ k ∈ range 1024, X k i * Y k j) := fun i j => by
  refine Eq.trans ?_ (congrArg₂ (· + ·) (hw i j) ((Finset.sum_congr rfl fun k _ => congrArg₂ (· * ·) (hu k i) (hv k j)).trans (sum_fin 1024 (fun k => X k i * Y k j))))
  unfold k0_pay2
  pointwise

/-- The transpose of the product of the two transposes. -/
def refOut (u : FVec Ideal S4096x3088 .f32) (v : FVec Ideal S4096x1024 .f32) : FVec Ideal S1024x3088 .f32 :=
  transpose S1024x3088 [1, 0] (Host.dotGeneral (φ₁ := .f32) (φ₂ := .f32) Cert.Reference15Ideal.dot_S4096x3088_S4096x1024_S3088x1024_0_0_1_1_n_n none u v : FVec Ideal Cert.Reference15Ideal.S3088x1024 .f32)
    Cert.Reference15Ideal.Gen.transposes_S3088x1024_S1024x3088_1_0

theorem ref {u : FVec Ideal S4096x3088 .f32} {v : FVec Ideal S4096x1024 .f32} {X Y : ℕ → ℕ → EReal} (hu : E2 u X) (hv : E2 v Y) :
    E2 (refOut u v) (fun i j => ∑ k ∈ range 4096, Y k i * X k j) := fun i j => by
  refine Eq.trans ?_ ((Finset.sum_congr rfl fun k _ => (congrArg₂ (· * ·) (hu k j) (hv k i)).trans (mul_comm _ _)).trans (sum_fin 4096 (fun k => Y k i * X k j)))
  unfold refOut
  pointwise

variable (m : (ℓ : Loc nD τ Cert.Kernel15Ideal.sig) → Buf (Elt Ideal) ℓ)

/-- The rows and the gradient that the launch holds, by row and column. -/
abbrev A (c : Dev nD) : ℕ → ℕ → EReal := nat2 (a := 4096) (b := 1024) (φ := .f32) (m ((c : Thread nD τ).loc main_arg1))
abbrev B (c : Dev nD) : ℕ → ℕ → EReal := nat2 (a := 4096) (b := 3088) (φ := .f32) (m ((c : Thread nD τ).loc main_arg0))

theorem V0 (c : Dev nD) : E2 (a := 4096) (b := 1024) (φ := .bf16) (Gen.V m c main_v0) (A m c) := by
  have key : ∀ σ : Valuation τ Cert.Kernel15Ideal.sig (Elt Ideal), after (hostOps0 (F := Ideal)) σ (Proc.tc.devRef main_v0)
      = truncf (F := Ideal) (φ := .f32) .bf16 (σ (Proc.devRef .tc main_arg1)) := by
    intro σ
    simp only [hostOps0]
    after_results_simp
    try rfl
  exact fun i j => (congrFun (key _) (ix2 i j)).trans (E2.nat (φ := .f32) (m ((c : Thread nD τ).loc main_arg1)) i j)

theorem V1 (c : Dev nD) : E2 (a := 4096) (b := 3088) (φ := .bf16) (Gen.V m c main_v1) (B m c) := by
  have key : ∀ σ : Valuation τ Cert.Kernel15Ideal.sig (Elt Ideal), after (hostOps0 (F := Ideal)) σ (Proc.tc.devRef main_v1)
      = truncf (F := Ideal) (φ := .f32) .bf16 (σ (Proc.devRef .tc main_arg0)) := by
    intro σ
    simp only [hostOps0]
    after_results_simp
    try rfl
  exact fun i j => (congrFun (key _) (ix2 i j)).trans (E2.nat (φ := .f32) (m ((c : Thread nD τ).loc main_arg0)) i j)

theorem idx : ∀ t : Fin cfg0.N, win0_0.index t = ![t.val % 4, t.val / 4] ∧ win0_1.index t = ![t.val % 4, 0] ∧ win0_2.index t = ![t.val / 4, 0] ∧ t.val < 8 :=
  (by decide +kernel : ∀ t : Fin grid0.N, _)
theorem flush : ∀ t : Fin cfg0.N, (cfg0.win 2).flush t = true → t.val % 4 = 3 := (by decide +kernel : ∀ t : Fin grid0.N, _)

theorem in0 (c : Dev nD) (t : Fin cfg0.N) : E2 (a := 1024) (b := 512) (φ := .bf16) (iblk m c 0 t)
    (fun i j => A m c (1024 * (t.val % 4) + i) (512 * (t.val / 4) + j)) := fun i j => by
  have ht := (idx t).2.2.2
  refine Eq.trans ?_ (V0 m c ⟨1024 * (t.val % 4) + i.val, by omega⟩ ⟨512 * (t.val / 4) + j.val, by omega⟩)
  blk_ext [iblk, idx t]

theorem in1 (c : Dev nD) (t : Fin cfg0.N) : E2 (a := 1024) (b := 3088) (φ := .bf16) (iblk m c 1 t)
    (fun i j => B m c (1024 * (t.val % 4) + i) j) := fun i j => by
  have ht := (idx t).2.2.2
  refine Eq.trans ?_ (V1 m c ⟨1024 * (t.val % 4) + i.val, by omega⟩ j)
  blk_ext [iblk, idx t]

/-- What the scratch holds after a point: the product over the blocks of tokens met so far. -/
def acc (c : Dev nD) (n : ℕ) (i j : ℕ) : EReal := ∑ k ∈ range (1024 * (n % 4 + 1)), A m c k (512 * (n / 4) + i) * B m c k j

theorem acc_first (c : Dev nD) (n : ℕ) (h : n % 4 = 0) (i j : ℕ) :
    0 + ∑ k ∈ range 1024, A m c (1024 * (n % 4) + k) (512 * (n / 4) + i) * B m c (1024 * (n % 4) + k) j = acc m c n i j := by
  unfold acc
  rw [sum_block 1024 (n % 4) (fun k => A m c k (512 * (n / 4) + i) * B m c k j), h]
  simp only [Nat.mul_zero, Finset.range_zero, Finset.sum_empty]

theorem acc_step (c : Dev nD) (n : ℕ) (h : ¬ (n + 1) % 4 = 0) (i j : ℕ) :
    acc m c n i j + ∑ k ∈ range 1024, A m c (1024 * ((n + 1) % 4) + k) (512 * ((n + 1) / 4) + i) * B m c (1024 * ((n + 1) % 4) + k) j = acc m c (n + 1) i j := by
  unfold acc
  rw [sum_block 1024 ((n + 1) % 4) (fun k => A m c k (512 * ((n + 1) / 4) + i) * B m c k j), show n % 4 + 1 = (n + 1) % 4 by omega, show n / 4 = (n + 1) / 4 by omega]

theorem held (c : Dev nD) : ∀ (n : ℕ) (h : n < cfg0.N), E2 (a := 512) (b := 3088) (φ := .f32) (outsAt0 m c n h).2 (acc m c n)
  | 0, h => by
    have e := outsAt0_A m c ⟨0, h⟩ rfl (show ¬ (0 % 4 = 3) by decide)
    have hp := E2.same (pay pay0 (in0 m c ⟨0, h⟩) (in1 m c ⟨0, h⟩)) (acc_first m c 0 rfl)
    intro i j
    refine Eq.trans ?_ (hp i j)
    rw [show outsAt0 m c 0 h = _ from e]
    frame_out
  | n + 1, h => by
    by_cases h0 : (n + 1) % 4 = 0
    · have e := outsAt0_A m c ⟨n + 1, h⟩ h0 (by dsimp only; omega)
      have hp := E2.same (pay pay0 (in0 m c ⟨n + 1, h⟩) (in1 m c ⟨n + 1, h⟩)) (acc_first m c (n + 1) h0)
      intro i j
      refine Eq.trans ?_ (hp i j)
      rw [show outsAt0 m c (n + 1) h = _ from e]
      frame_out
    · have hp := E2.same (pay (held c n (Nat.lt_of_succ_lt h)) (in0 m c ⟨n + 1, h⟩) (in1 m c ⟨n + 1, h⟩)) (acc_step m c n h0)
      intro i j
      refine Eq.trans ?_ (hp i j)
      by_cases h1 : (n + 1) % 4 = 3
      · rw [show outsAt0 m c (n + 1) h = _ from outsAt0_C m c ⟨n + 1, h⟩ h0 h1]
        frame_out
        exact congrFun (congrArg (fun w => k0_pay2 (F := Ideal) w _ _) (Memref.IsWhole.read_unread (Memref.isWhole_whole cc0_scratch0) _)) _
      · rw [show outsAt0 m c (n + 1) h = _ from outsAt0_B m c ⟨n + 1, h⟩ h0 h1]
        frame_out
        exact congrFun (congrArg (fun w => k0_pay2 (F := Ideal) w _ _) (Memref.IsWhole.read_unread (Memref.isWhole_whole cc0_scratch0) _)) _

theorem out (c : Dev nD) (t : Fin cfg0.N) (h1 : t.val % 4 = 3) : E2 (a := 512) (b := 3088) (φ := .f32) (outsAt0 m c t.val t.isLt).1 (acc m c t.val) := by
  have e := outsAt0_C m c t (by omega) h1
  have hh := held m c t.val t.isLt
  rw [e] at hh ⊢
  intro i j
  refine Eq.trans ?_ (hh i j)
  frame_out

/-- The kernel's result is the reference's product. -/
theorem final (c : Dev nD) : (dats (F := Ideal) m 0 c).arrAt 2 cfg0.N = refOut (m ((c : Thread nD τ).loc main_arg0)) (m ((c : Thread nD τ).loc main_arg1)) := by
  refine (dats (F := Ideal) m 0 c).arrAt_eq_of_covers 2 _ (by decide +kernel) fun t hf y => ?_
  have hR := ref (E2.nat (φ := .f32) (m ((c : Thread nD τ).loc main_arg0))) (E2.nat (φ := .f32) (m ((c : Thread nD τ).loc main_arg1)))
  have h3 := flush t hf
  have ho := out m c t h3
  have ht := (idx t).2.2.2
  idx_vars y
  blk_simp
  rw [after0_2]
  have ha : acc m c t.val y0 y1 = _ := (by unfold acc; rw [h3] : acc m c t.val y0 y1 = ∑ k ∈ range 4096, A m c k (512 * (t.val / 4) + y0) * B m c k y1)
  refine (ho y0 y1).trans (ha.trans (((hR ⟨512 * (t.val / 4) + y0.val, by omega⟩ y1).symm).trans (congrArg _ ?_)))
  blk_point [idx t]

end Cert.Mm15
end
-- ==== Proof.Mm16.lean ====
/- The attention's input product: each grid point writes one block of rows. -/
module

public import proofs.«01_k».proof.Proof.Mm
public import proofs.«01_k».proof.Proof.Gen.Kernel16Ideal.Value
public import proofs.«01_k».proof.Proof.Gen.Reference16Ideal
public import Idealize.ShloMosaic.Lib.Claim

@[expose] public section

set_option maxRecDepth 16384

noncomputable section

namespace Cert.Mm16

open Idealize.ShloMosaic Idealize.ShloMosaic.TcCoe Idealize.SL.Sem Idealize.ShloMosaic.StableHlo
open Cert.Kernel16Ideal Cert.Kernel16Ideal.Gen Cert.Mm
open Finset (range)

theorem pay {u : FVec Ideal S512x1024 .bf16} {v : FVec Ideal S1024x3088 .bf16} {X Y : ℕ → ℕ → EReal} (hu : E2 u X) (hv : E2 v Y) :
    E2 (k0_pay1 (F := Ideal) u v) (fun i j => ∑ k ∈ range 1024, X i k * Y k j) := fun i j => by
  refine Eq.trans ?_ ((Finset.sum_congr rfl fun k _ => congrArg₂ (· * ·) (hu i k) (hv k j)).trans (sum_fin 1024 (fun k => X i k * Y k j)))
  unfold k0_pay1
  pointwise

/-- The product. -/
def refOut (u : FVec Ideal S4096x1024 .f32) (v : FVec Ideal S1024x3088 .f32) : FVec Ideal S4096x3088 .f32 :=
  Host.dotGeneral (φ₁ := .f32) (φ₂ := .f32) Cert.Reference16Ideal.dot_S4096x1024_S1024x3088_S4096x3088_1_0_0_1_n_n none u v

theorem ref {u : FVec Ideal S4096x1024 .f32} {v : FVec Ideal S1024x3088 .f32} {X Y : ℕ → ℕ → EReal} (hu : E2 u X) (hv : E2 v Y) :
    E2 (refOut u v) (fun i j => ∑ k ∈ range 1024, X i k * Y k j) := fun i j => by
  refine Eq.trans ?_ ((Finset.sum_congr rfl fun k _ => congrArg₂ (· * ·) (hu i k) (hv k j)).trans (sum_fin 1024 (fun k => X i k * Y k j)))
  unfold refOut
  pointwise

variable (m : (ℓ : Loc nD τ Cert.Kernel16Ideal.sig) → Buf (Elt Ideal) ℓ)

/-- The rows and the weights that the launch holds, by row and column. -/
abbrev A (c : Dev nD) : ℕ → ℕ → EReal := nat2 (a := 4096) (b := 1024) (φ := .f32) (m ((c : Thread nD τ).loc main_arg0))
abbrev B (c : Dev nD) : ℕ → ℕ → EReal := nat2 (a := 1024) (b := 3088) (φ := .f32) (m ((c : Thread nD τ).loc main_arg1))

theorem V0 (c : Dev nD) : E2 (a := 4096) (b := 1024) (φ := .bf16) (Gen.V m c main_v0) (A m c) := by
  have key : ∀ σ : Valuation τ Cert.Kernel16Ideal.sig (Elt Ideal), after (hostOps0 (F := Ideal)) σ (Proc.tc.devRef main_v0)
      = truncf (F := Ideal) (φ := .f32) .bf16 (σ (Proc.devRef .tc main_arg0)) := by
    intro σ
    simp only [hostOps0]
    after_results_simp
    try rfl
  exact fun i j => (congrFun (key _) (ix2 i j)).trans (E2.nat (φ := .f32) (m ((c : Thread nD τ).loc main_arg0)) i j)

theorem V1 (c : Dev nD) : E2 (a := 1024) (b := 3088) (φ := .bf16) (Gen.V m c main_v1) (B m c) := by
  have key : ∀ σ : Valuation τ Cert.Kernel16Ideal.sig (Elt Ideal), after (hostOps0 (F := Ideal)) σ (Proc.tc.devRef main_v1)
      = truncf (F := Ideal) (φ := .f32) .bf16 (σ (Proc.devRef .tc main_arg1)) := by
    intro σ
    simp only [hostOps0]
    after_results_simp
    try rfl
  exact fun i j => (congrFun (key _) (ix2 i j)).trans (E2.nat (φ := .f32) (m ((c : Thread nD τ).loc main_arg1)) i j)

theorem idx : ∀ t : Fin cfg0.N, win0_0.index t = ![t.val, 0] ∧ win0_1.index t = ![0, 0] ∧ win0_2.index t = ![t.val, 0] ∧ t.val < 8 :=
  (by decide +kernel : ∀ t : Fin grid0.N, _)

theorem in0 (c : Dev nD) (t : Fin cfg0.N) : E2 (a := 512) (b := 1024) (φ := .bf16) (iblk m c 0 t) (fun i j => A m c (512 * t.val + i) j) := fun i j => by
  have ht := (idx t).2.2.2
  refine Eq.trans ?_ (V0 m c ⟨512 * t.val + i.val, by omega⟩ j)
  blk_ext [iblk, idx t]

theorem in1 (c : Dev nD) (t : Fin cfg0.N) : E2 (a := 1024) (b := 3088) (φ := .bf16) (iblk m c 1 t) (B m c) := fun i j => by
  refine Eq.trans ?_ (V1 m c i j)
  blk_ext [iblk, idx t]

/-- The kernel's result is the reference's product. -/
theorem final (c : Dev nD) : (dats (F := Ideal) m 0 c).arrAt 2 cfg0.N = refOut (m ((c : Thread nD τ).loc main_arg0)) (m ((c : Thread nD τ).loc main_arg1)) := by
  refine (dats (F := Ideal) m 0 c).arrAt_eq_of_covers 2 _ (by decide +kernel) fun t hf y => ?_
  have hR := ref (E2.nat (φ := .f32) (m ((c : Thread nD τ).loc main_arg0))) (E2.nat (φ := .f32) (m ((c : Thread nD τ).loc main_arg1)))
  have hp := pay (in0 m c t) (in1 m c t)
  have ht := (idx t).2.2.2
  idx_vars y
  blk_simp
  rw [after0_2]
  frame_out
  refine (hp y0 y1).trans (((hR ⟨512 * t.val + y0.val, by omega⟩ y1).symm).trans (congrArg _ ?_))
  blk_point [idx t]

end Cert.Mm16
end
-- ==== Proof.lean ====
module

public import proofs.«01_k».proof.Defs
public import proofs.«01_k».proof.Proof.Gen.KernelIdeal.Value
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Args
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Mm2
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Mm3
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Mm4
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Mm5
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Mm6
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Mm7
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Mm8
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Mm9
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Mm10
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Mm11
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Mm12
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Mm13
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Mm14
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Mm15
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Mm16
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel leaves its arguments as they were, and every semaphore at zero. -/
theorem frame_kernel : Cert.quiescent_Kernel := fun m ρ _ => Cert.Kernel.Gen.frame m ρ
/-- The ideal program does too. -/
theorem frame_ideal : Cert.quiescent_KernelIdeal := fun m ρ _ => Cert.KernelIdeal.Gen.frame m ρ
/-- And so from the arguments that the precondition admits. -/
theorem frame_ideal_pre : Cert.quiescent_KernelIdeal_pre_all_finite := fun m ρ _ => Cert.KernelIdeal.Gen.frame m ρ
/-- The reference leaves its arguments as they were; it has no semaphore. -/
theorem frame_ref : Cert.quiescent_ReferenceIdeal := fun m ρ _ =>
  (θ_run Cert.ReferenceIdeal.defs _ _).mono (fun r h => ⟨fun c => (h c).2.2.2.2, sem_eq_zero_of_no_sems (by decide) r.2⟩) (Cert.ReferenceIdeal.Value.run m ρ)
/-- And so from the arguments that the precondition admits. -/
theorem frame_ref_pre : Cert.quiescent_ReferenceIdeal_pre_all_finite := fun m ρ _ => frame_ref m ρ trivial

/-- The reference's launch holds the data that the kernel's arguments do, when the two agree on them. -/
theorem ref_args {D : Cert.Gla.Data} (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (A : Cert.Gla.Args (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) D) : Cert.Gla.RefArgs (StableHlo.launchContents m' c) D := by
  rw [← e0, ← e1, ← e2, ← e3, ← e4] at A
  exact A

/-- On finite arguments, the kernel and the reference leave the same four gradients. -/
theorem value : Cert.algebraic_KernelIdeal_ReferenceIdeal_pre_all_finite := by
  intro m g m' g' hpre hagree
  have hA := fun c => Cert.Gla.args_of_pre _ _ _ _ _ (hpre c)
  have hE := fun c => Cert.Gla.entry_of m c (hA c)
  have hR := fun c => ref_args m m' c (hagree c).1 (hagree c).2.1 (hagree c).2.2.1 (hagree c).2.2.2.1 (hagree c).2.2.2.2 (hA c)
  refine ⟨fun c => (Cert.KernelIdeal.Gen.dats (F := Ideal) m 0 c).arrAt 7 Cert.KernelIdeal.cfg0.N, fun c => (Cert.KernelIdeal.Gen.dats (F := Ideal) m 0 c).arrAt 8 Cert.KernelIdeal.cfg0.N,
    fun c => (Cert.KernelIdeal.Gen.dats (F := Ideal) m 0 c).arrAt 9 Cert.KernelIdeal.cfg0.N, fun c => (Cert.KernelIdeal.Gen.dats (F := Ideal) m 0 c).arrAt 10 Cert.KernelIdeal.cfg0.N, ?_, ?_⟩
  · exact Cert.KernelIdeal.Value.run_blocks m g
  · refine (θ_run Cert.ReferenceIdeal.defs _ _).mono (fun r h c => ⟨(h c).1.trans ?_, (h c).2.1.trans ?_, (h c).2.2.1.trans ?_, (h c).2.2.2.1.trans ?_, (h c).2.2.2.2⟩) (Cert.ReferenceIdeal.Value.run m' g')
    · exact (Cert.Gla.ref_pj (hR c)).trans (Cert.Gla.final7 m (hE c)).symm
    · exact (Cert.Gla.ref_wal (hR c)).trans (Cert.Gla.final8 m (hE c)).symm
    · exact (Cert.Gla.ref_bal (hR c)).trans (Cert.Gla.final9 m (hE c)).symm
    · exact (Cert.Gla.ref_gn (hR c)).trans (Cert.Gla.final10 m (hE c)).symm

/-- The ConvFFN's activations' gradient: kernel, ideal program and reference leave their arguments as they were. -/
theorem frame_kernel2 : Cert.quiescent_Kernel2 := fun m ρ _ => Cert.Kernel2.Gen.frame m ρ
theorem frame_ideal2 : Cert.quiescent_Kernel2Ideal := fun m ρ _ => Cert.Kernel2Ideal.Gen.frame m ρ
theorem frame_ref2 : Cert.quiescent_Reference2Ideal := fun m ρ _ =>
  (θ_run Cert.Reference2Ideal.defs _ _).mono (fun r h => ⟨fun c => (h c).2, sem_eq_zero_of_no_sems (by decide) r.2⟩) (Cert.Reference2Ideal.Value.run m ρ)

/-- The ConvFFN's activations' gradient, from any arguments. -/
theorem value2 : Cert.algebraic_Kernel2Ideal_Reference2Ideal := by
  intro m g m' g' _ hagree
  refine ⟨fun c => (Cert.Kernel2Ideal.Gen.dats (F := Ideal) m 0 c).arrAt 2 Cert.Kernel2Ideal.cfg0.N, Cert.Kernel2Ideal.Value.run_blocks m g, ?_⟩
  refine (θ_run Cert.Reference2Ideal.defs _ _).mono (fun r h c => ⟨(h c).1.trans ?_, (h c).2⟩) (Cert.Reference2Ideal.Value.run m' g')
  exact (congrArg₂ Cert.Mm2.refOut (hagree c).1 (hagree c).2.2).trans (Cert.Mm2.final m c).symm

/-- The second ConvFFN weights' gradient: kernel, ideal program and reference leave their arguments as they were. -/
theorem frame_kernel3 : Cert.quiescent_Kernel3 := fun m ρ _ => Cert.Kernel3.Gen.frame m ρ
theorem frame_ideal3 : Cert.quiescent_Kernel3Ideal := fun m ρ _ => Cert.Kernel3Ideal.Gen.frame m ρ
theorem frame_ref3 : Cert.quiescent_Reference3Ideal := fun m ρ _ =>
  (θ_run Cert.Reference3Ideal.defs _ _).mono (fun r h => ⟨fun c => (h c).2, sem_eq_zero_of_no_sems (by decide) r.2⟩) (Cert.Reference3Ideal.Value.run m ρ)

/-- The second ConvFFN weights' gradient, from any arguments. -/
theorem value3 : Cert.algebraic_Kernel3Ideal_Reference3Ideal := by
  intro m g m' g' _ hagree
  refine ⟨fun c => (Cert.Kernel3Ideal.Gen.dats (F := Ideal) m 0 c).arrAt 2 Cert.Kernel3Ideal.cfg0.N, Cert.Kernel3Ideal.Value.run_blocks m g, ?_⟩
  refine (θ_run Cert.Reference3Ideal.defs _ _).mono (fun r h c => ⟨(h c).1.trans ?_, (h c).2⟩) (Cert.Reference3Ideal.Value.run m' g')
  exact (congrArg₂ Cert.Mm3.refOut (hagree c).1 (hagree c).2.1).trans (Cert.Mm3.final m c).symm

/-- The ConvFFN's rows' gradient: kernel, ideal program and reference leave their arguments as they were. -/
theorem frame_kernel4 : Cert.quiescent_Kernel4 := fun m ρ _ => Cert.Kernel4.Gen.frame m ρ
theorem frame_ideal4 : Cert.quiescent_Kernel4Ideal := fun m ρ _ => Cert.Kernel4Ideal.Gen.frame m ρ
theorem frame_ref4 : Cert.quiescent_Reference4Ideal := fun m ρ _ =>
  (θ_run Cert.Reference4Ideal.defs _ _).mono (fun r h => ⟨fun c => (h c).2, sem_eq_zero_of_no_sems (by decide) r.2⟩) (Cert.Reference4Ideal.Value.run m ρ)

/-- The ConvFFN's rows' gradient, from any arguments. -/
theorem value4 : Cert.algebraic_Kernel4Ideal_Reference4Ideal := by
  intro m g m' g' _ hagree
  refine ⟨fun c => (Cert.Kernel4Ideal.Gen.dats (F := Ideal) m 0 c).arrAt 2 Cert.Kernel4Ideal.cfg0.N, Cert.Kernel4Ideal.Value.run_blocks m g, ?_⟩
  refine (θ_run Cert.Reference4Ideal.defs _ _).mono (fun r h c => ⟨(h c).1.trans ?_, (h c).2⟩) (Cert.Reference4Ideal.Value.run m' g')
  exact (congrArg₂ Cert.Mm4.refOut (hagree c).1 (hagree c).2.2).trans (Cert.Mm4.final m c).symm

/-- The first ConvFFN weights' gradient: kernel, ideal program and reference leave their arguments as they were. -/
theorem frame_kernel5 : Cert.quiescent_Kernel5 := fun m ρ _ => Cert.Kernel5.Gen.frame m ρ
theorem frame_ideal5 : Cert.quiescent_Kernel5Ideal := fun m ρ _ => Cert.Kernel5Ideal.Gen.frame m ρ
theorem frame_ref5 : Cert.quiescent_Reference5Ideal := fun m ρ _ =>
  (θ_run Cert.Reference5Ideal.defs _ _).mono (fun r h => ⟨fun c => (h c).2, sem_eq_zero_of_no_sems (by decide) r.2⟩) (Cert.Reference5Ideal.Value.run m ρ)

/-- The first ConvFFN weights' gradient, from any arguments. -/
theorem value5 : Cert.algebraic_Kernel5Ideal_Reference5Ideal := by
  intro m g m' g' _ hagree
  refine ⟨fun c => (Cert.Kernel5Ideal.Gen.dats (F := Ideal) m 0 c).arrAt 2 Cert.Kernel5Ideal.cfg0.N, Cert.Kernel5Ideal.Value.run_blocks m g, ?_⟩
  refine (θ_run Cert.Reference5Ideal.defs _ _).mono (fun r h c => ⟨(h c).1.trans ?_, (h c).2⟩) (Cert.Reference5Ideal.Value.run m' g')
  exact (congrArg₂ Cert.Mm5.refOut (hagree c).1 (hagree c).2.1).trans (Cert.Mm5.final m c).symm

/-- The ConvFFN's first product: kernel, ideal program and reference leave their arguments as they were. -/
theorem frame_kernel6 : Cert.quiescent_Kernel6 := fun m ρ _ => Cert.Kernel6.Gen.frame m ρ
theorem frame_ideal6 : Cert.quiescent_Kernel6Ideal := fun m ρ _ => Cert.Kernel6Ideal.Gen.frame m ρ
theorem frame_ref6 : Cert.quiescent_Reference6Ideal := fun m ρ _ =>
  (θ_run Cert.Reference6Ideal.defs _ _).mono (fun r h => ⟨fun c => (h c).2, sem_eq_zero_of_no_sems (by decide) r.2⟩) (Cert.Reference6Ideal.Value.run m ρ)

/-- The ConvFFN's first product, from any arguments. -/
theorem value6 : Cert.algebraic_Kernel6Ideal_Reference6Ideal := by
  intro m g m' g' _ hagree
  refine ⟨fun c => (Cert.Kernel6Ideal.Gen.dats (F := Ideal) m 0 c).arrAt 2 Cert.Kernel6Ideal.cfg0.N, Cert.Kernel6Ideal.Value.run_blocks m g, ?_⟩
  refine (θ_run Cert.Reference6Ideal.defs _ _).mono (fun r h c => ⟨(h c).1.trans ?_, (h c).2⟩) (Cert.Reference6Ideal.Value.run m' g')
  exact (congrArg₂ Cert.Mm6.refOut (hagree c).1 (hagree c).2).trans (Cert.Mm6.final m c).symm

/-- The ConvFFN's second product: kernel, ideal program and reference leave their arguments as they were. -/
theorem frame_kernel7 : Cert.quiescent_Kernel7 := fun m ρ _ => Cert.Kernel7.Gen.frame m ρ
theorem frame_ideal7 : Cert.quiescent_Kernel7Ideal := fun m ρ _ => Cert.Kernel7Ideal.Gen.frame m ρ
theorem frame_ref7 : Cert.quiescent_Reference7Ideal := fun m ρ _ =>
  (θ_run Cert.Reference7Ideal.defs _ _).mono (fun r h => ⟨fun c => (h c).2, sem_eq_zero_of_no_sems (by decide) r.2⟩) (Cert.Reference7Ideal.Value.run m ρ)

/-- The ConvFFN's second product, from any arguments. -/
theorem value7 : Cert.algebraic_Kernel7Ideal_Reference7Ideal := by
  intro m g m' g' _ hagree
  refine ⟨fun c => (Cert.Kernel7Ideal.Gen.dats (F := Ideal) m 0 c).arrAt 2 Cert.Kernel7Ideal.cfg0.N, Cert.Kernel7Ideal.Value.run_blocks m g, ?_⟩
  refine (θ_run Cert.Reference7Ideal.defs _ _).mono (fun r h c => ⟨(h c).1.trans ?_, (h c).2⟩) (Cert.Reference7Ideal.Value.run m' g')
  exact (congrArg₂ Cert.Mm7.refOut (hagree c).1 (hagree c).2).trans (Cert.Mm7.final m c).symm

/-- The mixers' activations' gradient: kernel, ideal program and reference leave their arguments as they were. -/
theorem frame_kernel8 : Cert.quiescent_Kernel8 := fun m ρ _ => Cert.Kernel8.Gen.frame m ρ
theorem frame_ideal8 : Cert.quiescent_Kernel8Ideal := fun m ρ _ => Cert.Kernel8Ideal.Gen.frame m ρ
theorem frame_ref8 : Cert.quiescent_Reference8Ideal := fun m ρ _ =>
  (θ_run Cert.Reference8Ideal.defs _ _).mono (fun r h => ⟨fun c => (h c).2, sem_eq_zero_of_no_sems (by decide) r.2⟩) (Cert.Reference8Ideal.Value.run m ρ)

/-- The mixers' activations' gradient, from any arguments. -/
theorem value8 : Cert.algebraic_Kernel8Ideal_Reference8Ideal := by
  intro m g m' g' _ hagree
  refine ⟨fun c => (Cert.Kernel8Ideal.Gen.dats (F := Ideal) m 0 c).arrAt 2 Cert.Kernel8Ideal.cfg0.N, Cert.Kernel8Ideal.Value.run_blocks m g, ?_⟩
  refine (θ_run Cert.Reference8Ideal.defs _ _).mono (fun r h c => ⟨(h c).1.trans ?_, (h c).2⟩) (Cert.Reference8Ideal.Value.run m' g')
  exact (congrArg₂ Cert.Mm8.refOut (hagree c).1 (hagree c).2.2).trans (Cert.Mm8.final m c).symm

/-- The mixers' output weights' gradient: kernel, ideal program and reference leave their arguments as they were. -/
theorem frame_kernel9 : Cert.quiescent_Kernel9 := fun m ρ _ => Cert.Kernel9.Gen.frame m ρ
theorem frame_ideal9 : Cert.quiescent_Kernel9Ideal := fun m ρ _ => Cert.Kernel9Ideal.Gen.frame m ρ
theorem frame_ref9 : Cert.quiescent_Reference9Ideal := fun m ρ _ =>
  (θ_run Cert.Reference9Ideal.defs _ _).mono (fun r h => ⟨fun c => (h c).2, sem_eq_zero_of_no_sems (by decide) r.2⟩) (Cert.Reference9Ideal.Value.run m ρ)

/-- The mixers' output weights' gradient, from any arguments. -/
theorem value9 : Cert.algebraic_Kernel9Ideal_Reference9Ideal := by
  intro m g m' g' _ hagree
  refine ⟨fun c => (Cert.Kernel9Ideal.Gen.dats (F := Ideal) m 0 c).arrAt 2 Cert.Kernel9Ideal.cfg0.N, Cert.Kernel9Ideal.Value.run_blocks m g, ?_⟩
  refine (θ_run Cert.Reference9Ideal.defs _ _).mono (fun r h c => ⟨(h c).1.trans ?_, (h c).2⟩) (Cert.Reference9Ideal.Value.run m' g')
  exact (congrArg₂ Cert.Mm9.refOut (hagree c).1 (hagree c).2.1).trans (Cert.Mm9.final m c).symm

/-- The mixers' output product: kernel, ideal program and reference leave their arguments as they were. -/
theorem frame_kernel10 : Cert.quiescent_Kernel10 := fun m ρ _ => Cert.Kernel10.Gen.frame m ρ
theorem frame_ideal10 : Cert.quiescent_Kernel10Ideal := fun m ρ _ => Cert.Kernel10Ideal.Gen.frame m ρ
theorem frame_ref10 : Cert.quiescent_Reference10Ideal := fun m ρ _ =>
  (θ_run Cert.Reference10Ideal.defs _ _).mono (fun r h => ⟨fun c => (h c).2, sem_eq_zero_of_no_sems (by decide) r.2⟩) (Cert.Reference10Ideal.Value.run m ρ)

/-- The mixers' output product, from any arguments. -/
theorem value10 : Cert.algebraic_Kernel10Ideal_Reference10Ideal := by
  intro m g m' g' _ hagree
  refine ⟨fun c => (Cert.Kernel10Ideal.Gen.dats (F := Ideal) m 0 c).arrAt 2 Cert.Kernel10Ideal.cfg0.N, Cert.Kernel10Ideal.Value.run_blocks m g, ?_⟩
  refine (θ_run Cert.Reference10Ideal.defs _ _).mono (fun r h c => ⟨(h c).1.trans ?_, (h c).2⟩) (Cert.Reference10Ideal.Value.run m' g')
  exact (congrArg₂ Cert.Mm10.refOut (hagree c).1 (hagree c).2).trans (Cert.Mm10.final m c).symm

/-- The rglru's rows' gradient: kernel, ideal program and reference leave their arguments as they were. -/
theorem frame_kernel11 : Cert.quiescent_Kernel11 := fun m ρ _ => Cert.Kernel11.Gen.frame m ρ
theorem frame_ideal11 : Cert.quiescent_Kernel11Ideal := fun m ρ _ => Cert.Kernel11Ideal.Gen.frame m ρ
theorem frame_ref11 : Cert.quiescent_Reference11Ideal := fun m ρ _ =>
  (θ_run Cert.Reference11Ideal.defs _ _).mono (fun r h => ⟨fun c => (h c).2, sem_eq_zero_of_no_sems (by decide) r.2⟩) (Cert.Reference11Ideal.Value.run m ρ)

/-- The rglru's rows' gradient, from any arguments. -/
theorem value11 : Cert.algebraic_Kernel11Ideal_Reference11Ideal := by
  intro m g m' g' _ hagree
  refine ⟨fun c => (Cert.Kernel11Ideal.Gen.dats (F := Ideal) m 0 c).arrAt 2 Cert.Kernel11Ideal.cfg0.N, Cert.Kernel11Ideal.Value.run_blocks m g, ?_⟩
  refine (θ_run Cert.Reference11Ideal.defs _ _).mono (fun r h c => ⟨(h c).1.trans ?_, (h c).2⟩) (Cert.Reference11Ideal.Value.run m' g')
  exact (congrArg₂ Cert.Mm11.refOut (hagree c).1 (hagree c).2.2).trans (Cert.Mm11.final m c).symm

/-- The rglru's input weights' gradient: kernel, ideal program and reference leave their arguments as they were. -/
theorem frame_kernel12 : Cert.quiescent_Kernel12 := fun m ρ _ => Cert.Kernel12.Gen.frame m ρ
theorem frame_ideal12 : Cert.quiescent_Kernel12Ideal := fun m ρ _ => Cert.Kernel12Ideal.Gen.frame m ρ
theorem frame_ref12 : Cert.quiescent_Reference12Ideal := fun m ρ _ =>
  (θ_run Cert.Reference12Ideal.defs _ _).mono (fun r h => ⟨fun c => (h c).2, sem_eq_zero_of_no_sems (by decide) r.2⟩) (Cert.Reference12Ideal.Value.run m ρ)

/-- The rglru's input weights' gradient, from any arguments. -/
theorem value12 : Cert.algebraic_Kernel12Ideal_Reference12Ideal := by
  intro m g m' g' _ hagree
  refine ⟨fun c => (Cert.Kernel12Ideal.Gen.dats (F := Ideal) m 0 c).arrAt 2 Cert.Kernel12Ideal.cfg0.N, Cert.Kernel12Ideal.Value.run_blocks m g, ?_⟩
  refine (θ_run Cert.Reference12Ideal.defs _ _).mono (fun r h c => ⟨(h c).1.trans ?_, (h c).2⟩) (Cert.Reference12Ideal.Value.run m' g')
  exact (congrArg₂ Cert.Mm12.refOut (hagree c).1 (hagree c).2.1).trans (Cert.Mm12.final m c).symm

/-- The rglru's input product: kernel, ideal program and reference leave their arguments as they were. -/
theorem frame_kernel13 : Cert.quiescent_Kernel13 := fun m ρ _ => Cert.Kernel13.Gen.frame m ρ
theorem frame_ideal13 : Cert.quiescent_Kernel13Ideal := fun m ρ _ => Cert.Kernel13Ideal.Gen.frame m ρ
theorem frame_ref13 : Cert.quiescent_Reference13Ideal := fun m ρ _ =>
  (θ_run Cert.Reference13Ideal.defs _ _).mono (fun r h => ⟨fun c => (h c).2, sem_eq_zero_of_no_sems (by decide) r.2⟩) (Cert.Reference13Ideal.Value.run m ρ)

/-- The rglru's input product, from any arguments. -/
theorem value13 : Cert.algebraic_Kernel13Ideal_Reference13Ideal := by
  intro m g m' g' _ hagree
  refine ⟨fun c => (Cert.Kernel13Ideal.Gen.dats (F := Ideal) m 0 c).arrAt 2 Cert.Kernel13Ideal.cfg0.N, Cert.Kernel13Ideal.Value.run_blocks m g, ?_⟩
  refine (θ_run Cert.Reference13Ideal.defs _ _).mono (fun r h c => ⟨(h c).1.trans ?_, (h c).2⟩) (Cert.Reference13Ideal.Value.run m' g')
  exact (congrArg₂ Cert.Mm13.refOut (hagree c).1 (hagree c).2).trans (Cert.Mm13.final m c).symm

/-- The attention's rows' gradient: kernel, ideal program and reference leave their arguments as they were. -/
theorem frame_kernel14 : Cert.quiescent_Kernel14 := fun m ρ _ => Cert.Kernel14.Gen.frame m ρ
theorem frame_ideal14 : Cert.quiescent_Kernel14Ideal := fun m ρ _ => Cert.Kernel14Ideal.Gen.frame m ρ
theorem frame_ref14 : Cert.quiescent_Reference14Ideal := fun m ρ _ =>
  (θ_run Cert.Reference14Ideal.defs _ _).mono (fun r h => ⟨fun c => (h c).2, sem_eq_zero_of_no_sems (by decide) r.2⟩) (Cert.Reference14Ideal.Value.run m ρ)

/-- The attention's rows' gradient, from any arguments. -/
theorem value14 : Cert.algebraic_Kernel14Ideal_Reference14Ideal := by
  intro m g m' g' _ hagree
  refine ⟨fun c => (Cert.Kernel14Ideal.Gen.dats (F := Ideal) m 0 c).arrAt 2 Cert.Kernel14Ideal.cfg0.N, Cert.Kernel14Ideal.Value.run_blocks m g, ?_⟩
  refine (θ_run Cert.Reference14Ideal.defs _ _).mono (fun r h c => ⟨(h c).1.trans ?_, (h c).2⟩) (Cert.Reference14Ideal.Value.run m' g')
  exact (congrArg₂ Cert.Mm14.refOut (hagree c).1 (hagree c).2.2).trans (Cert.Mm14.final m c).symm

/-- The attention's input weights' gradient: kernel, ideal program and reference leave their arguments as they were. -/
theorem frame_kernel15 : Cert.quiescent_Kernel15 := fun m ρ _ => Cert.Kernel15.Gen.frame m ρ
theorem frame_ideal15 : Cert.quiescent_Kernel15Ideal := fun m ρ _ => Cert.Kernel15Ideal.Gen.frame m ρ
theorem frame_ref15 : Cert.quiescent_Reference15Ideal := fun m ρ _ =>
  (θ_run Cert.Reference15Ideal.defs _ _).mono (fun r h => ⟨fun c => (h c).2, sem_eq_zero_of_no_sems (by decide) r.2⟩) (Cert.Reference15Ideal.Value.run m ρ)

/-- The attention's input weights' gradient, from any arguments. -/
theorem value15 : Cert.algebraic_Kernel15Ideal_Reference15Ideal := by
  intro m g m' g' _ hagree
  refine ⟨fun c => (Cert.Kernel15Ideal.Gen.dats (F := Ideal) m 0 c).arrAt 2 Cert.Kernel15Ideal.cfg0.N, Cert.Kernel15Ideal.Value.run_blocks m g, ?_⟩
  refine (θ_run Cert.Reference15Ideal.defs _ _).mono (fun r h c => ⟨(h c).1.trans ?_, (h c).2⟩) (Cert.Reference15Ideal.Value.run m' g')
  exact (congrArg₂ Cert.Mm15.refOut (hagree c).1 (hagree c).2.1).trans (Cert.Mm15.final m c).symm

/-- The attention's input product: kernel, ideal program and reference leave their arguments as they were. -/
theorem frame_kernel16 : Cert.quiescent_Kernel16 := fun m ρ _ => Cert.Kernel16.Gen.frame m ρ
theorem frame_ideal16 : Cert.quiescent_Kernel16Ideal := fun m ρ _ => Cert.Kernel16Ideal.Gen.frame m ρ
theorem frame_ref16 : Cert.quiescent_Reference16Ideal := fun m ρ _ =>
  (θ_run Cert.Reference16Ideal.defs _ _).mono (fun r h => ⟨fun c => (h c).2, sem_eq_zero_of_no_sems (by decide) r.2⟩) (Cert.Reference16Ideal.Value.run m ρ)

/-- The attention's input product, from any arguments. -/
theorem value16 : Cert.algebraic_Kernel16Ideal_Reference16Ideal := by
  intro m g m' g' _ hagree
  refine ⟨fun c => (Cert.Kernel16Ideal.Gen.dats (F := Ideal) m 0 c).arrAt 2 Cert.Kernel16Ideal.cfg0.N, Cert.Kernel16Ideal.Value.run_blocks m g, ?_⟩
  refine (θ_run Cert.Reference16Ideal.defs _ _).mono (fun r h c => ⟨(h c).1.trans ?_, (h c).2⟩) (Cert.Reference16Ideal.Value.run m' g')
  exact (congrArg₂ Cert.Mm16.refOut (hagree c).1 (hagree c).2).trans (Cert.Mm16.final m c).symm

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts, Cert.Gla.pre_facts,
    frame_kernel, frame_ideal, frame_ideal_pre, frame_ref, frame_ref_pre,
    frame_kernel2, frame_ideal2, frame_ref2,
    frame_kernel3, frame_ideal3, frame_ref3,
    frame_kernel4, frame_ideal4, frame_ref4,
    frame_kernel5, frame_ideal5, frame_ref5,
    frame_kernel6, frame_ideal6, frame_ref6,
    frame_kernel7, frame_ideal7, frame_ref7,
    frame_kernel8, frame_ideal8, frame_ref8,
    frame_kernel9, frame_ideal9, frame_ref9,
    frame_kernel10, frame_ideal10, frame_ref10,
    frame_kernel11, frame_ideal11, frame_ref11,
    frame_kernel12, frame_ideal12, frame_ref12,
    frame_kernel13, frame_ideal13, frame_ref13,
    frame_kernel14, frame_ideal14, frame_ref14,
    frame_kernel15, frame_ideal15, frame_ref15,
    frame_kernel16, frame_ideal16, frame_ref16,
    trivial, value, trivial, value2, trivial, value3, trivial, value4, trivial, value5, trivial, value6, trivial, value7, trivial, value8, trivial, value9, trivial, value10, trivial, value11, trivial, value12, trivial, value13, trivial, value14, trivial, value15, trivial, value16⟩

end Cert.Proof

end
